-- ==== Defs.lean ====
def Pre_Kernel (m : (ℓ : Loc Cert.Kernel.nD Cert.Kernel.τ Cert.Kernel.sig) → Buf (Elt Bits) ℓ) : Prop :=
  True

def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_KernelIdeal_none (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_SquareDw (m : (ℓ : Loc Cert.SquareDw.nD Cert.SquareDw.τ Cert.SquareDw.sig) → Buf (Elt Bits) ℓ) : Prop :=
  True

def Pre_SquareDwIdeal (m : (ℓ : Loc Cert.SquareDwIdeal.nD Cert.SquareDwIdeal.τ Cert.SquareDwIdeal.sig) → Buf (Elt Ideal) ℓ) : Prop :=
  True

def Pre_SquareDwRefIdeal (m : (ℓ : Loc Cert.SquareDwRefIdeal.nD Cert.SquareDwRefIdeal.τ Cert.SquareDwRefIdeal.sig) → Buf (Elt Ideal) ℓ) : Prop :=
  True

def Pre_SquareDx (m : (ℓ : Loc Cert.SquareDx.nD Cert.SquareDx.τ Cert.SquareDx.sig) → Buf (Elt Bits) ℓ) : Prop :=
  True

def Pre_SquareDxIdeal (m : (ℓ : Loc Cert.SquareDxIdeal.nD Cert.SquareDxIdeal.τ Cert.SquareDxIdeal.sig) → Buf (Elt Ideal) ℓ) : Prop :=
  True

def Pre_SquareDxRefIdeal (m : (ℓ : Loc Cert.SquareDxRefIdeal.nD Cert.SquareDxRefIdeal.τ Cert.SquareDxRefIdeal.sig) → Buf (Elt Ideal) ℓ) : Prop :=
  True

def Pre_BDx (m : (ℓ : Loc Cert.BDx.nD Cert.BDx.τ Cert.BDx.sig) → Buf (Elt Bits) ℓ) : Prop :=
  True

def Pre_BDxIdeal (m : (ℓ : Loc Cert.BDxIdeal.nD Cert.BDxIdeal.τ Cert.BDxIdeal.sig) → Buf (Elt Ideal) ℓ) : Prop :=
  True

def Pre_BDxRefIdeal (m : (ℓ : Loc Cert.BDxRefIdeal.nD Cert.BDxRefIdeal.τ Cert.BDxRefIdeal.sig) → Buf (Elt Ideal) ℓ) : Prop :=
  True

def Pre_InGates (m : (ℓ : Loc Cert.InGates.nD Cert.InGates.τ Cert.InGates.sig) → Buf (Elt Bits) ℓ) : Prop :=
  True

def Pre_InGatesIdeal (m : (ℓ : Loc Cert.InGatesIdeal.nD Cert.InGatesIdeal.τ Cert.InGatesIdeal.sig) → Buf (Elt Ideal) ℓ) : Prop :=
  True

def Pre_InGatesRefIdeal (m : (ℓ : Loc Cert.InGatesRefIdeal.nD Cert.InGatesRefIdeal.τ Cert.InGatesRefIdeal.sig) → Buf (Elt Ideal) ℓ) : Prop :=
  True

def Pre_InQkv (m : (ℓ : Loc Cert.InQkv.nD Cert.InQkv.τ Cert.InQkv.sig) → Buf (Elt Bits) ℓ) : Prop :=
  True

def Pre_InQkvIdeal (m : (ℓ : Loc Cert.InQkvIdeal.nD Cert.InQkvIdeal.τ Cert.InQkvIdeal.sig) → Buf (Elt Ideal) ℓ) : Prop :=
  True

def Pre_InQkvRefIdeal (m : (ℓ : Loc Cert.InQkvRefIdeal.nD Cert.InQkvRefIdeal.τ Cert.InQkvRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Square (m : (ℓ : Loc Cert.Square.nD Cert.Square.τ Cert.Square.sig) → Buf (Elt Bits) ℓ) : Prop :=
  True

def Pre_SquareIdeal (m : (ℓ : Loc Cert.SquareIdeal.nD Cert.SquareIdeal.τ Cert.SquareIdeal.sig) → Buf (Elt Ideal) ℓ) : Prop :=
  True

def Pre_SquareRefIdeal (m : (ℓ : Loc Cert.SquareRefIdeal.nD Cert.SquareRefIdeal.τ Cert.SquareRefIdeal.sig) → Buf (Elt Ideal) ℓ) : Prop :=
  True

def Pre_O (m : (ℓ : Loc Cert.O.nD Cert.O.τ Cert.O.sig) → Buf (Elt Bits) ℓ) : Prop :=
  True

def Pre_OIdeal (m : (ℓ : Loc Cert.OIdeal.nD Cert.OIdeal.τ Cert.OIdeal.sig) → Buf (Elt Ideal) ℓ) : Prop :=
  True

def Pre_ORefIdeal (m : (ℓ : Loc Cert.ORefIdeal.nD Cert.ORefIdeal.τ Cert.ORefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamSquare [hPre_square_on_the_mesh : Cert.Pre_square_on_the_mesh.Facts] (m : (ℓ : Loc Cert.AdamSquare.nD Cert.AdamSquare.τ Cert.AdamSquare.sig) → Buf (Elt Bits) ℓ) : Prop :=
  ∀ c : Dev Cert.AdamSquare.nD,
    (Cert.Pre_square_on_the_mesh.fn (F := Bits) (m ((c.tc : Thread Cert.AdamSquare.nD Cert.AdamSquare.τ).loc Cert.AdamSquare.main_arg0)) (m ((c.tc : Thread Cert.AdamSquare.nD Cert.AdamSquare.τ).loc Cert.AdamSquare.main_arg1)) (m ((c.tc : Thread Cert.AdamSquare.nD Cert.AdamSquare.τ).loc Cert.AdamSquare.main_arg2)) (m ((c.tc : Thread Cert.AdamSquare.nD Cert.AdamSquare.τ).loc Cert.AdamSquare.main_arg3)) (m ((c.tc : Thread Cert.AdamSquare.nD Cert.AdamSquare.τ).loc Cert.AdamSquare.main_arg4)) (m ((c.tc : Thread Cert.AdamSquare.nD Cert.AdamSquare.τ).loc Cert.AdamSquare.main_arg5))) = (fun _ => 1#1)

def Pre_AdamSquareIdeal [hPre_square_on_the_mesh : Cert.Pre_square_on_the_mesh.Facts] (m : (ℓ : Loc Cert.AdamSquareIdeal.nD Cert.AdamSquareIdeal.τ Cert.AdamSquareIdeal.sig) → Buf (Elt Ideal) ℓ) : Prop :=
  ∀ c : Dev Cert.AdamSquareIdeal.nD,
    (Cert.Pre_square_on_the_mesh.fn (F := Ideal) (m ((c.tc : Thread Cert.AdamSquareIdeal.nD Cert.AdamSquareIdeal.τ).loc Cert.AdamSquareIdeal.main_arg0)) (m ((c.tc : Thread Cert.AdamSquareIdeal.nD Cert.AdamSquareIdeal.τ).loc Cert.AdamSquareIdeal.main_arg1)) (m ((c.tc : Thread Cert.AdamSquareIdeal.nD Cert.AdamSquareIdeal.τ).loc Cert.AdamSquareIdeal.main_arg2)) (m ((c.tc : Thread Cert.AdamSquareIdeal.nD Cert.AdamSquareIdeal.τ).loc Cert.AdamSquareIdeal.main_arg3)) (m ((c.tc : Thread Cert.AdamSquareIdeal.nD Cert.AdamSquareIdeal.τ).loc Cert.AdamSquareIdeal.main_arg4)) (m ((c.tc : Thread Cert.AdamSquareIdeal.nD Cert.AdamSquareIdeal.τ).loc Cert.AdamSquareIdeal.main_arg5))) = (fun _ => 1#1)

def Pre_AdamSquareRefIdeal (m : (ℓ : Loc Cert.AdamSquareRefIdeal.nD Cert.AdamSquareRefIdeal.τ Cert.AdamSquareRefIdeal.sig) → Buf (Elt Ideal) ℓ) : Prop :=
  True

def Pre_AdamSquareRefIdeal_square_on_the_mesh [hPre_square_on_the_mesh : Cert.Pre_square_on_the_mesh.Facts] (m : (ℓ : Loc Cert.AdamSquareRefIdeal.nD Cert.AdamSquareRefIdeal.τ Cert.AdamSquareRefIdeal.sig) → Buf (Elt Ideal) ℓ) : Prop :=
  ∀ c : Dev Cert.AdamSquareRefIdeal.nD,
    (Cert.Pre_square_on_the_mesh.fn (F := Ideal) (m ((c.tc : Thread Cert.AdamSquareRefIdeal.nD Cert.AdamSquareRefIdeal.τ).loc Cert.AdamSquareRefIdeal.main_arg0)) (m ((c.tc : Thread Cert.AdamSquareRefIdeal.nD Cert.AdamSquareRefIdeal.τ).loc Cert.AdamSquareRefIdeal.main_arg1)) (m ((c.tc : Thread Cert.AdamSquareRefIdeal.nD Cert.AdamSquareRefIdeal.τ).loc Cert.AdamSquareRefIdeal.main_arg2)) (m ((c.tc : Thread Cert.AdamSquareRefIdeal.nD Cert.AdamSquareRefIdeal.τ).loc Cert.AdamSquareRefIdeal.main_arg3)) (m ((c.tc : Thread Cert.AdamSquareRefIdeal.nD Cert.AdamSquareRefIdeal.τ).loc Cert.AdamSquareRefIdeal.main_arg4)) (m ((c.tc : Thread Cert.AdamSquareRefIdeal.nD Cert.AdamSquareRefIdeal.τ).loc Cert.AdamSquareRefIdeal.main_arg5))) = (fun _ => 1#1)

def Pre_AdamUp [hPre_up_on_the_mesh : Cert.Pre_up_on_the_mesh.Facts] (m : (ℓ : Loc Cert.AdamUp.nD Cert.AdamUp.τ Cert.AdamUp.sig) → Buf (Elt Bits) ℓ) : Prop :=
  ∀ c : Dev Cert.AdamUp.nD,
    (Cert.Pre_up_on_the_mesh.fn (F := Bits) (m ((c.tc : Thread Cert.AdamUp.nD Cert.AdamUp.τ).loc Cert.AdamUp.main_arg0)) (m ((c.tc : Thread Cert.AdamUp.nD Cert.AdamUp.τ).loc Cert.AdamUp.main_arg1)) (m ((c.tc : Thread Cert.AdamUp.nD Cert.AdamUp.τ).loc Cert.AdamUp.main_arg2)) (m ((c.tc : Thread Cert.AdamUp.nD Cert.AdamUp.τ).loc Cert.AdamUp.main_arg3)) (m ((c.tc : Thread Cert.AdamUp.nD Cert.AdamUp.τ).loc Cert.AdamUp.main_arg4)) (m ((c.tc : Thread Cert.AdamUp.nD Cert.AdamUp.τ).loc Cert.AdamUp.main_arg5))) = (fun _ => 1#1)

def Pre_AdamUpIdeal [hPre_up_on_the_mesh : Cert.Pre_up_on_the_mesh.Facts] (m : (ℓ : Loc Cert.AdamUpIdeal.nD Cert.AdamUpIdeal.τ Cert.AdamUpIdeal.sig) → Buf (Elt Ideal) ℓ) : Prop :=
  ∀ c : Dev Cert.AdamUpIdeal.nD,
    (Cert.Pre_up_on_the_mesh.fn (F := Ideal) (m ((c.tc : Thread Cert.AdamUpIdeal.nD Cert.AdamUpIdeal.τ).loc Cert.AdamUpIdeal.main_arg0)) (m ((c.tc : Thread Cert.AdamUpIdeal.nD Cert.AdamUpIdeal.τ).loc Cert.AdamUpIdeal.main_arg1)) (m ((c.tc : Thread Cert.AdamUpIdeal.nD Cert.AdamUpIdeal.τ).loc Cert.AdamUpIdeal.main_arg2)) (m ((c.tc : Thread Cert.AdamUpIdeal.nD Cert.AdamUpIdeal.τ).loc Cert.AdamUpIdeal.main_arg3)) (m ((c.tc : Thread Cert.AdamUpIdeal.nD Cert.AdamUpIdeal.τ).loc Cert.AdamUpIdeal.main_arg4)) (m ((c.tc : Thread Cert.AdamUpIdeal.nD Cert.AdamUpIdeal.τ).loc Cert.AdamUpIdeal.main_arg5))) = (fun _ => 1#1)

def Pre_AdamUpRefIdeal (m : (ℓ : Loc Cert.AdamUpRefIdeal.nD Cert.AdamUpRefIdeal.τ Cert.AdamUpRefIdeal.sig) → Buf (Elt Ideal) ℓ) : Prop :=
  True

def Pre_AdamUpRefIdeal_up_on_the_mesh [hPre_up_on_the_mesh : Cert.Pre_up_on_the_mesh.Facts] (m : (ℓ : Loc Cert.AdamUpRefIdeal.nD Cert.AdamUpRefIdeal.τ Cert.AdamUpRefIdeal.sig) → Buf (Elt Ideal) ℓ) : Prop :=
  ∀ c : Dev Cert.AdamUpRefIdeal.nD,
    (Cert.Pre_up_on_the_mesh.fn (F := Ideal) (m ((c.tc : Thread Cert.AdamUpRefIdeal.nD Cert.AdamUpRefIdeal.τ).loc Cert.AdamUpRefIdeal.main_arg0)) (m ((c.tc : Thread Cert.AdamUpRefIdeal.nD Cert.AdamUpRefIdeal.τ).loc Cert.AdamUpRefIdeal.main_arg1)) (m ((c.tc : Thread Cert.AdamUpRefIdeal.nD Cert.AdamUpRefIdeal.τ).loc Cert.AdamUpRefIdeal.main_arg2)) (m ((c.tc : Thread Cert.AdamUpRefIdeal.nD Cert.AdamUpRefIdeal.τ).loc Cert.AdamUpRefIdeal.main_arg3)) (m ((c.tc : Thread Cert.AdamUpRefIdeal.nD Cert.AdamUpRefIdeal.τ).loc Cert.AdamUpRefIdeal.main_arg4)) (m ((c.tc : Thread Cert.AdamUpRefIdeal.nD Cert.AdamUpRefIdeal.τ).loc Cert.AdamUpRefIdeal.main_arg5))) = (fun _ => 1#1)

def Pre_AdamDown [hPre_down_on_the_mesh : Cert.Pre_down_on_the_mesh.Facts] (m : (ℓ : Loc Cert.AdamDown.nD Cert.AdamDown.τ Cert.AdamDown.sig) → Buf (Elt Bits) ℓ) : Prop :=
  ∀ c : Dev Cert.AdamDown.nD,
    (Cert.Pre_down_on_the_mesh.fn (F := Bits) (m ((c.tc : Thread Cert.AdamDown.nD Cert.AdamDown.τ).loc Cert.AdamDown.main_arg0)) (m ((c.tc : Thread Cert.AdamDown.nD Cert.AdamDown.τ).loc Cert.AdamDown.main_arg1)) (m ((c.tc : Thread Cert.AdamDown.nD Cert.AdamDown.τ).loc Cert.AdamDown.main_arg2)) (m ((c.tc : Thread Cert.AdamDown.nD Cert.AdamDown.τ).loc Cert.AdamDown.main_arg3)) (m ((c.tc : Thread Cert.AdamDown.nD Cert.AdamDown.τ).loc Cert.AdamDown.main_arg4)) (m ((c.tc : Thread Cert.AdamDown.nD Cert.AdamDown.τ).loc Cert.AdamDown.main_arg5))) = (fun _ => 1#1)

def Pre_AdamDownIdeal [hPre_down_on_the_mesh : Cert.Pre_down_on_the_mesh.Facts] (m : (ℓ : Loc Cert.AdamDownIdeal.nD Cert.AdamDownIdeal.τ Cert.AdamDownIdeal.sig) → Buf (Elt Ideal) ℓ) : Prop :=
  ∀ c : Dev Cert.AdamDownIdeal.nD,
    (Cert.Pre_down_on_the_mesh.fn (F := Ideal) (m ((c.tc : Thread Cert.AdamDownIdeal.nD Cert.AdamDownIdeal.τ).loc Cert.AdamDownIdeal.main_arg0)) (m ((c.tc : Thread Cert.AdamDownIdeal.nD Cert.AdamDownIdeal.τ).loc Cert.AdamDownIdeal.main_arg1)) (m ((c.tc : Thread Cert.AdamDownIdeal.nD Cert.AdamDownIdeal.τ).loc Cert.AdamDownIdeal.main_arg2)) (m ((c.tc : Thread Cert.AdamDownIdeal.nD Cert.AdamDownIdeal.τ).loc Cert.AdamDownIdeal.main_arg3)) (m ((c.tc : Thread Cert.AdamDownIdeal.nD Cert.AdamDownIdeal.τ).loc Cert.AdamDownIdeal.main_arg4)) (m ((c.tc : Thread Cert.AdamDownIdeal.nD Cert.AdamDownIdeal.τ).loc Cert.AdamDownIdeal.main_arg5))) = (fun _ => 1#1)

def Pre_AdamDownRefIdeal (m : (ℓ : Loc Cert.AdamDownRefIdeal.nD Cert.AdamDownRefIdeal.τ Cert.AdamDownRefIdeal.sig) → Buf (Elt Ideal) ℓ) : Prop :=
  True

def Pre_AdamDownRefIdeal_down_on_the_mesh [hPre_down_on_the_mesh : Cert.Pre_down_on_the_mesh.Facts] (m : (ℓ : Loc Cert.AdamDownRefIdeal.nD Cert.AdamDownRefIdeal.τ Cert.AdamDownRefIdeal.sig) → Buf (Elt Ideal) ℓ) : Prop :=
  ∀ c : Dev Cert.AdamDownRefIdeal.nD,
    (Cert.Pre_down_on_the_mesh.fn (F := Ideal) (m ((c.tc : Thread Cert.AdamDownRefIdeal.nD Cert.AdamDownRefIdeal.τ).loc Cert.AdamDownRefIdeal.main_arg0)) (m ((c.tc : Thread Cert.AdamDownRefIdeal.nD Cert.AdamDownRefIdeal.τ).loc Cert.AdamDownRefIdeal.main_arg1)) (m ((c.tc : Thread Cert.AdamDownRefIdeal.nD Cert.AdamDownRefIdeal.τ).loc Cert.AdamDownRefIdeal.main_arg2)) (m ((c.tc : Thread Cert.AdamDownRefIdeal.nD Cert.AdamDownRefIdeal.τ).loc Cert.AdamDownRefIdeal.main_arg3)) (m ((c.tc : Thread Cert.AdamDownRefIdeal.nD Cert.AdamDownRefIdeal.τ).loc Cert.AdamDownRefIdeal.main_arg4)) (m ((c.tc : Thread Cert.AdamDownRefIdeal.nD Cert.AdamDownRefIdeal.τ).loc Cert.AdamDownRefIdeal.main_arg5))) = (fun _ => 1#1)

def Pre_SumIn [hPre_sum_on_the_mesh : Cert.Pre_sum_on_the_mesh.Facts] (m : (ℓ : Loc Cert.SumIn.nD Cert.SumIn.τ Cert.SumIn.sig) → Buf (Elt Bits) ℓ) : Prop :=
  ∀ c : Dev Cert.SumIn.nD,
    (Cert.Pre_sum_on_the_mesh.fn (F := Bits) (m ((c.tc : Thread Cert.SumIn.nD Cert.SumIn.τ).loc Cert.SumIn.main_arg0)) (m ((c.tc : Thread Cert.SumIn.nD Cert.SumIn.τ).loc Cert.SumIn.main_arg1)) (m ((c.tc : Thread Cert.SumIn.nD Cert.SumIn.τ).loc Cert.SumIn.main_arg2))) = (fun _ => 1#1)

def Pre_SumInIdeal [hPre_sum_on_the_mesh : Cert.Pre_sum_on_the_mesh.Facts] (m : (ℓ : Loc Cert.SumInIdeal.nD Cert.SumInIdeal.τ Cert.SumInIdeal.sig) → Buf (Elt Ideal) ℓ) : Prop :=
  ∀ c : Dev Cert.SumInIdeal.nD,
    (Cert.Pre_sum_on_the_mesh.fn (F := Ideal) (m ((c.tc : Thread Cert.SumInIdeal.nD Cert.SumInIdeal.τ).loc Cert.SumInIdeal.main_arg0)) (m ((c.tc : Thread Cert.SumInIdeal.nD Cert.SumInIdeal.τ).loc Cert.SumInIdeal.main_arg1)) (m ((c.tc : Thread Cert.SumInIdeal.nD Cert.SumInIdeal.τ).loc Cert.SumInIdeal.main_arg2))) = (fun _ => 1#1)

def Pre_SumInRefIdeal (m : (ℓ : Loc Cert.SumInRefIdeal.nD Cert.SumInRefIdeal.τ Cert.SumInRefIdeal.sig) → Buf (Elt Ideal) ℓ) : Prop :=
  True

def Pre_SumInRefIdeal_sum_on_the_mesh [hPre_sum_on_the_mesh : Cert.Pre_sum_on_the_mesh.Facts] (m : (ℓ : Loc Cert.SumInRefIdeal.nD Cert.SumInRefIdeal.τ Cert.SumInRefIdeal.sig) → Buf (Elt Ideal) ℓ) : Prop :=
  ∀ c : Dev Cert.SumInRefIdeal.nD,
    (Cert.Pre_sum_on_the_mesh.fn (F := Ideal) (m ((c.tc : Thread Cert.SumInRefIdeal.nD Cert.SumInRefIdeal.τ).loc Cert.SumInRefIdeal.main_arg0)) (m ((c.tc : Thread Cert.SumInRefIdeal.nD Cert.SumInRefIdeal.τ).loc Cert.SumInRefIdeal.main_arg1)) (m ((c.tc : Thread Cert.SumInRefIdeal.nD Cert.SumInRefIdeal.τ).loc Cert.SumInRefIdeal.main_arg2))) = (fun _ => 1#1)

def Pre_AdamNorms [hPre_norms_on_the_mesh : Cert.Pre_norms_on_the_mesh.Facts] (m : (ℓ : Loc Cert.AdamNorms.nD Cert.AdamNorms.τ Cert.AdamNorms.sig) → Buf (Elt Bits) ℓ) : Prop :=
  ∀ c : Dev Cert.AdamNorms.nD,
    (Cert.Pre_norms_on_the_mesh.fn (F := Bits) (m ((c.tc : Thread Cert.AdamNorms.nD Cert.AdamNorms.τ).loc Cert.AdamNorms.main_arg0)) (m ((c.tc : Thread Cert.AdamNorms.nD Cert.AdamNorms.τ).loc Cert.AdamNorms.main_arg1)) (m ((c.tc : Thread Cert.AdamNorms.nD Cert.AdamNorms.τ).loc Cert.AdamNorms.main_arg2)) (m ((c.tc : Thread Cert.AdamNorms.nD Cert.AdamNorms.τ).loc Cert.AdamNorms.main_arg3)) (m ((c.tc : Thread Cert.AdamNorms.nD Cert.AdamNorms.τ).loc Cert.AdamNorms.main_arg4)) (m ((c.tc : Thread Cert.AdamNorms.nD Cert.AdamNorms.τ).loc Cert.AdamNorms.main_arg5)) (m ((c.tc : Thread Cert.AdamNorms.nD Cert.AdamNorms.τ).loc Cert.AdamNorms.main_arg6)) (m ((c.tc : Thread Cert.AdamNorms.nD Cert.AdamNorms.τ).loc Cert.AdamNorms.main_arg7)) (m ((c.tc : Thread Cert.AdamNorms.nD Cert.AdamNorms.τ).loc Cert.AdamNorms.main_arg8)) (m ((c.tc : Thread Cert.AdamNorms.nD Cert.AdamNorms.τ).loc Cert.AdamNorms.main_arg9)) (m ((c.tc : Thread Cert.AdamNorms.nD Cert.AdamNorms.τ).loc Cert.AdamNorms.main_arg10))) = (fun _ => 1#1)

def Pre_AdamNormsIdeal [hPre_norms_on_the_mesh : Cert.Pre_norms_on_the_mesh.Facts] (m : (ℓ : Loc Cert.AdamNormsIdeal.nD Cert.AdamNormsIdeal.τ Cert.AdamNormsIdeal.sig) → Buf (Elt Ideal) ℓ) : Prop :=
  ∀ c : Dev Cert.AdamNormsIdeal.nD,
    (Cert.Pre_norms_on_the_mesh.fn (F := Ideal) (m ((c.tc : Thread Cert.AdamNormsIdeal.nD Cert.AdamNormsIdeal.τ).loc Cert.AdamNormsIdeal.main_arg0)) (m ((c.tc : Thread Cert.AdamNormsIdeal.nD Cert.AdamNormsIdeal.τ).loc Cert.AdamNormsIdeal.main_arg1)) (m ((c.tc : Thread Cert.AdamNormsIdeal.nD Cert.AdamNormsIdeal.τ).loc Cert.AdamNormsIdeal.main_arg2)) (m ((c.tc : Thread Cert.AdamNormsIdeal.nD Cert.AdamNormsIdeal.τ).loc Cert.AdamNormsIdeal.main_arg3)) (m ((c.tc : Thread Cert.AdamNormsIdeal.nD Cert.AdamNormsIdeal.τ).loc Cert.AdamNormsIdeal.main_arg4)) (m ((c.tc : Thread Cert.AdamNormsIdeal.nD Cert.AdamNormsIdeal.τ).loc Cert.AdamNormsIdeal.main_arg5)) (m ((c.tc : Thread Cert.AdamNormsIdeal.nD Cert.AdamNormsIdeal.τ).loc Cert.AdamNormsIdeal.main_arg6)) (m ((c.tc : Thread Cert.AdamNormsIdeal.nD Cert.AdamNormsIdeal.τ).loc Cert.AdamNormsIdeal.main_arg7)) (m ((c.tc : Thread Cert.AdamNormsIdeal.nD Cert.AdamNormsIdeal.τ).loc Cert.AdamNormsIdeal.main_arg8)) (m ((c.tc : Thread Cert.AdamNormsIdeal.nD Cert.AdamNormsIdeal.τ).loc Cert.AdamNormsIdeal.main_arg9)) (m ((c.tc : Thread Cert.AdamNormsIdeal.nD Cert.AdamNormsIdeal.τ).loc Cert.AdamNormsIdeal.main_arg10))) = (fun _ => 1#1)

def Pre_AdamNormsRefIdeal (m : (ℓ : Loc Cert.AdamNormsRefIdeal.nD Cert.AdamNormsRefIdeal.τ Cert.AdamNormsRefIdeal.sig) → Buf (Elt Ideal) ℓ) : Prop :=
  True

def Pre_AdamNormsRefIdeal_norms_on_the_mesh [hPre_norms_on_the_mesh : Cert.Pre_norms_on_the_mesh.Facts] (m : (ℓ : Loc Cert.AdamNormsRefIdeal.nD Cert.AdamNormsRefIdeal.τ Cert.AdamNormsRefIdeal.sig) → Buf (Elt Ideal) ℓ) : Prop :=
  ∀ c : Dev Cert.AdamNormsRefIdeal.nD,
    (Cert.Pre_norms_on_the_mesh.fn (F := Ideal) (m ((c.tc : Thread Cert.AdamNormsRefIdeal.nD Cert.AdamNormsRefIdeal.τ).loc Cert.AdamNormsRefIdeal.main_arg0)) (m ((c.tc : Thread Cert.AdamNormsRefIdeal.nD Cert.AdamNormsRefIdeal.τ).loc Cert.AdamNormsRefIdeal.main_arg1)) (m ((c.tc : Thread Cert.AdamNormsRefIdeal.nD Cert.AdamNormsRefIdeal.τ).loc Cert.AdamNormsRefIdeal.main_arg2)) (m ((c.tc : Thread Cert.AdamNormsRefIdeal.nD Cert.AdamNormsRefIdeal.τ).loc Cert.AdamNormsRefIdeal.main_arg3)) (m ((c.tc : Thread Cert.AdamNormsRefIdeal.nD Cert.AdamNormsRefIdeal.τ).loc Cert.AdamNormsRefIdeal.main_arg4)) (m ((c.tc : Thread Cert.AdamNormsRefIdeal.nD Cert.AdamNormsRefIdeal.τ).loc Cert.AdamNormsRefIdeal.main_arg5)) (m ((c.tc : Thread Cert.AdamNormsRefIdeal.nD Cert.AdamNormsRefIdeal.τ).loc Cert.AdamNormsRefIdeal.main_arg6)) (m ((c.tc : Thread Cert.AdamNormsRefIdeal.nD Cert.AdamNormsRefIdeal.τ).loc Cert.AdamNormsRefIdeal.main_arg7)) (m ((c.tc : Thread Cert.AdamNormsRefIdeal.nD Cert.AdamNormsRefIdeal.τ).loc Cert.AdamNormsRefIdeal.main_arg8)) (m ((c.tc : Thread Cert.AdamNormsRefIdeal.nD Cert.AdamNormsRefIdeal.τ).loc Cert.AdamNormsRefIdeal.main_arg9)) (m ((c.tc : Thread Cert.AdamNormsRefIdeal.nD Cert.AdamNormsRefIdeal.τ).loc Cert.AdamNormsRefIdeal.main_arg10))) = (fun _ => 1#1)

def Pre_AdamGates [hPre_gates_on_the_mesh : Cert.Pre_gates_on_the_mesh.Facts] (m : (ℓ : Loc Cert.AdamGates.nD Cert.AdamGates.τ Cert.AdamGates.sig) → Buf (Elt Bits) ℓ) : Prop :=
  ∀ c : Dev Cert.AdamGates.nD,
    (Cert.Pre_gates_on_the_mesh.fn (F := Bits) (m ((c.tc : Thread Cert.AdamGates.nD Cert.AdamGates.τ).loc Cert.AdamGates.main_arg0)) (m ((c.tc : Thread Cert.AdamGates.nD Cert.AdamGates.τ).loc Cert.AdamGates.main_arg1)) (m ((c.tc : Thread Cert.AdamGates.nD Cert.AdamGates.τ).loc Cert.AdamGates.main_arg2)) (m ((c.tc : Thread Cert.AdamGates.nD Cert.AdamGates.τ).loc Cert.AdamGates.main_arg3)) (m ((c.tc : Thread Cert.AdamGates.nD Cert.AdamGates.τ).loc Cert.AdamGates.main_arg4)) (m ((c.tc : Thread Cert.AdamGates.nD Cert.AdamGates.τ).loc Cert.AdamGates.main_arg5)) (m ((c.tc : Thread Cert.AdamGates.nD Cert.AdamGates.τ).loc Cert.AdamGates.main_arg6)) (m ((c.tc : Thread Cert.AdamGates.nD Cert.AdamGates.τ).loc Cert.AdamGates.main_arg7)) (m ((c.tc : Thread Cert.AdamGates.nD Cert.AdamGates.τ).loc Cert.AdamGates.main_arg8)) (m ((c.tc : Thread Cert.AdamGates.nD Cert.AdamGates.τ).loc Cert.AdamGates.main_arg9)) (m ((c.tc : Thread Cert.AdamGates.nD Cert.AdamGates.τ).loc Cert.AdamGates.main_arg10))) = (fun _ => 1#1)

def Pre_AdamGatesIdeal [hPre_gates_on_the_mesh : Cert.Pre_gates_on_the_mesh.Facts] (m : (ℓ : Loc Cert.AdamGatesIdeal.nD Cert.AdamGatesIdeal.τ Cert.AdamGatesIdeal.sig) → Buf (Elt Ideal) ℓ) : Prop :=
  ∀ c : Dev Cert.AdamGatesIdeal.nD,
    (Cert.Pre_gates_on_the_mesh.fn (F := Ideal) (m ((c.tc : Thread Cert.AdamGatesIdeal.nD Cert.AdamGatesIdeal.τ).loc Cert.AdamGatesIdeal.main_arg0)) (m ((c.tc : Thread Cert.AdamGatesIdeal.nD Cert.AdamGatesIdeal.τ).loc Cert.AdamGatesIdeal.main_arg1)) (m ((c.tc : Thread Cert.AdamGatesIdeal.nD Cert.AdamGatesIdeal.τ).loc Cert.AdamGatesIdeal.main_arg2)) (m ((c.tc : Thread Cert.AdamGatesIdeal.nD Cert.AdamGatesIdeal.τ).loc Cert.AdamGatesIdeal.main_arg3)) (m ((c.tc : Thread Cert.AdamGatesIdeal.nD Cert.AdamGatesIdeal.τ).loc Cert.AdamGatesIdeal.main_arg4)) (m ((c.tc : Thread Cert.AdamGatesIdeal.nD Cert.AdamGatesIdeal.τ).loc Cert.AdamGatesIdeal.main_arg5)) (m ((c.tc : Thread Cert.AdamGatesIdeal.nD Cert.AdamGatesIdeal.τ).loc Cert.AdamGatesIdeal.main_arg6)) (m ((c.tc : Thread Cert.AdamGatesIdeal.nD Cert.AdamGatesIdeal.τ).loc Cert.AdamGatesIdeal.main_arg7)) (m ((c.tc : Thread Cert.AdamGatesIdeal.nD Cert.AdamGatesIdeal.τ).loc Cert.AdamGatesIdeal.main_arg8)) (m ((c.tc : Thread Cert.AdamGatesIdeal.nD Cert.AdamGatesIdeal.τ).loc Cert.AdamGatesIdeal.main_arg9)) (m ((c.tc : Thread Cert.AdamGatesIdeal.nD Cert.AdamGatesIdeal.τ).loc Cert.AdamGatesIdeal.main_arg10))) = (fun _ => 1#1)

def Pre_AdamGatesRefIdeal (m : (ℓ : Loc Cert.AdamGatesRefIdeal.nD Cert.AdamGatesRefIdeal.τ Cert.AdamGatesRefIdeal.sig) → Buf (Elt Ideal) ℓ) : Prop :=
  True

def Pre_AdamGatesRefIdeal_gates_on_the_mesh [hPre_gates_on_the_mesh : Cert.Pre_gates_on_the_mesh.Facts] (m : (ℓ : Loc Cert.AdamGatesRefIdeal.nD Cert.AdamGatesRefIdeal.τ Cert.AdamGatesRefIdeal.sig) → Buf (Elt Ideal) ℓ) : Prop :=
  ∀ c : Dev Cert.AdamGatesRefIdeal.nD,
    (Cert.Pre_gates_on_the_mesh.fn (F := Ideal) (m ((c.tc : Thread Cert.AdamGatesRefIdeal.nD Cert.AdamGatesRefIdeal.τ).loc Cert.AdamGatesRefIdeal.main_arg0)) (m ((c.tc : Thread Cert.AdamGatesRefIdeal.nD Cert.AdamGatesRefIdeal.τ).loc Cert.AdamGatesRefIdeal.main_arg1)) (m ((c.tc : Thread Cert.AdamGatesRefIdeal.nD Cert.AdamGatesRefIdeal.τ).loc Cert.AdamGatesRefIdeal.main_arg2)) (m ((c.tc : Thread Cert.AdamGatesRefIdeal.nD Cert.AdamGatesRefIdeal.τ).loc Cert.AdamGatesRefIdeal.main_arg3)) (m ((c.tc : Thread Cert.AdamGatesRefIdeal.nD Cert.AdamGatesRefIdeal.τ).loc Cert.AdamGatesRefIdeal.main_arg4)) (m ((c.tc : Thread Cert.AdamGatesRefIdeal.nD Cert.AdamGatesRefIdeal.τ).loc Cert.AdamGatesRefIdeal.main_arg5)) (m ((c.tc : Thread Cert.AdamGatesRefIdeal.nD Cert.AdamGatesRefIdeal.τ).loc Cert.AdamGatesRefIdeal.main_arg6)) (m ((c.tc : Thread Cert.AdamGatesRefIdeal.nD Cert.AdamGatesRefIdeal.τ).loc Cert.AdamGatesRefIdeal.main_arg7)) (m ((c.tc : Thread Cert.AdamGatesRefIdeal.nD Cert.AdamGatesRefIdeal.τ).loc Cert.AdamGatesRefIdeal.main_arg8)) (m ((c.tc : Thread Cert.AdamGatesRefIdeal.nD Cert.AdamGatesRefIdeal.τ).loc Cert.AdamGatesRefIdeal.main_arg9)) (m ((c.tc : Thread Cert.AdamGatesRefIdeal.nD Cert.AdamGatesRefIdeal.τ).loc Cert.AdamGatesRefIdeal.main_arg10))) = (fun _ => 1#1)

def Pre_AdamConvs [hPre_convs_on_the_mesh : Cert.Pre_convs_on_the_mesh.Facts] (m : (ℓ : Loc Cert.AdamConvs.nD Cert.AdamConvs.τ Cert.AdamConvs.sig) → Buf (Elt Bits) ℓ) : Prop :=
  ∀ c : Dev Cert.AdamConvs.nD,
    (Cert.Pre_convs_on_the_mesh.fn (F := Bits) (m ((c.tc : Thread Cert.AdamConvs.nD Cert.AdamConvs.τ).loc Cert.AdamConvs.main_arg0)) (m ((c.tc : Thread Cert.AdamConvs.nD Cert.AdamConvs.τ).loc Cert.AdamConvs.main_arg1)) (m ((c.tc : Thread Cert.AdamConvs.nD Cert.AdamConvs.τ).loc Cert.AdamConvs.main_arg2)) (m ((c.tc : Thread Cert.AdamConvs.nD Cert.AdamConvs.τ).loc Cert.AdamConvs.main_arg3)) (m ((c.tc : Thread Cert.AdamConvs.nD Cert.AdamConvs.τ).loc Cert.AdamConvs.main_arg4)) (m ((c.tc : Thread Cert.AdamConvs.nD Cert.AdamConvs.τ).loc Cert.AdamConvs.main_arg5)) (m ((c.tc : Thread Cert.AdamConvs.nD Cert.AdamConvs.τ).loc Cert.AdamConvs.main_arg6)) (m ((c.tc : Thread Cert.AdamConvs.nD Cert.AdamConvs.τ).loc Cert.AdamConvs.main_arg7)) (m ((c.tc : Thread Cert.AdamConvs.nD Cert.AdamConvs.τ).loc Cert.AdamConvs.main_arg8)) (m ((c.tc : Thread Cert.AdamConvs.nD Cert.AdamConvs.τ).loc Cert.AdamConvs.main_arg9)) (m ((c.tc : Thread Cert.AdamConvs.nD Cert.AdamConvs.τ).loc Cert.AdamConvs.main_arg10))) = (fun _ => 1#1)

def Pre_AdamConvsIdeal [hPre_convs_on_the_mesh : Cert.Pre_convs_on_the_mesh.Facts] (m : (ℓ : Loc Cert.AdamConvsIdeal.nD Cert.AdamConvsIdeal.τ Cert.AdamConvsIdeal.sig) → Buf (Elt Ideal) ℓ) : Prop :=
  ∀ c : Dev Cert.AdamConvsIdeal.nD,
    (Cert.Pre_convs_on_the_mesh.fn (F := Ideal) (m ((c.tc : Thread Cert.AdamConvsIdeal.nD Cert.AdamConvsIdeal.τ).loc Cert.AdamConvsIdeal.main_arg0)) (m ((c.tc : Thread Cert.AdamConvsIdeal.nD Cert.AdamConvsIdeal.τ).loc Cert.AdamConvsIdeal.main_arg1)) (m ((c.tc : Thread Cert.AdamConvsIdeal.nD Cert.AdamConvsIdeal.τ).loc Cert.AdamConvsIdeal.main_arg2)) (m ((c.tc : Thread Cert.AdamConvsIdeal.nD Cert.AdamConvsIdeal.τ).loc Cert.AdamConvsIdeal.main_arg3)) (m ((c.tc : Thread Cert.AdamConvsIdeal.nD Cert.AdamConvsIdeal.τ).loc Cert.AdamConvsIdeal.main_arg4)) (m ((c.tc : Thread Cert.AdamConvsIdeal.nD Cert.AdamConvsIdeal.τ).loc Cert.AdamConvsIdeal.main_arg5)) (m ((c.tc : Thread Cert.AdamConvsIdeal.nD Cert.AdamConvsIdeal.τ).loc Cert.AdamConvsIdeal.main_arg6)) (m ((c.tc : Thread Cert.AdamConvsIdeal.nD Cert.AdamConvsIdeal.τ).loc Cert.AdamConvsIdeal.main_arg7)) (m ((c.tc : Thread Cert.AdamConvsIdeal.nD Cert.AdamConvsIdeal.τ).loc Cert.AdamConvsIdeal.main_arg8)) (m ((c.tc : Thread Cert.AdamConvsIdeal.nD Cert.AdamConvsIdeal.τ).loc Cert.AdamConvsIdeal.main_arg9)) (m ((c.tc : Thread Cert.AdamConvsIdeal.nD Cert.AdamConvsIdeal.τ).loc Cert.AdamConvsIdeal.main_arg10))) = (fun _ => 1#1)

def Pre_AdamConvsRefIdeal (m : (ℓ : Loc Cert.AdamConvsRefIdeal.nD Cert.AdamConvsRefIdeal.τ Cert.AdamConvsRefIdeal.sig) → Buf (Elt Ideal) ℓ) : Prop :=
  True

def Pre_AdamConvsRefIdeal_convs_on_the_mesh [hPre_convs_on_the_mesh : Cert.Pre_convs_on_the_mesh.Facts] (m : (ℓ : Loc Cert.AdamConvsRefIdeal.nD Cert.AdamConvsRefIdeal.τ Cert.AdamConvsRefIdeal.sig) → Buf (Elt Ideal) ℓ) : Prop :=
  ∀ c : Dev Cert.AdamConvsRefIdeal.nD,
    (Cert.Pre_convs_on_the_mesh.fn (F := Ideal) (m ((c.tc : Thread Cert.AdamConvsRefIdeal.nD Cert.AdamConvsRefIdeal.τ).loc Cert.AdamConvsRefIdeal.main_arg0)) (m ((c.tc : Thread Cert.AdamConvsRefIdeal.nD Cert.AdamConvsRefIdeal.τ).loc Cert.AdamConvsRefIdeal.main_arg1)) (m ((c.tc : Thread Cert.AdamConvsRefIdeal.nD Cert.AdamConvsRefIdeal.τ).loc Cert.AdamConvsRefIdeal.main_arg2)) (m ((c.tc : Thread Cert.AdamConvsRefIdeal.nD Cert.AdamConvsRefIdeal.τ).loc Cert.AdamConvsRefIdeal.main_arg3)) (m ((c.tc : Thread Cert.AdamConvsRefIdeal.nD Cert.AdamConvsRefIdeal.τ).loc Cert.AdamConvsRefIdeal.main_arg4)) (m ((c.tc : Thread Cert.AdamConvsRefIdeal.nD Cert.AdamConvsRefIdeal.τ).loc Cert.AdamConvsRefIdeal.main_arg5)) (m ((c.tc : Thread Cert.AdamConvsRefIdeal.nD Cert.AdamConvsRefIdeal.τ).loc Cert.AdamConvsRefIdeal.main_arg6)) (m ((c.tc : Thread Cert.AdamConvsRefIdeal.nD Cert.AdamConvsRefIdeal.τ).loc Cert.AdamConvsRefIdeal.main_arg7)) (m ((c.tc : Thread Cert.AdamConvsRefIdeal.nD Cert.AdamConvsRefIdeal.τ).loc Cert.AdamConvsRefIdeal.main_arg8)) (m ((c.tc : Thread Cert.AdamConvsRefIdeal.nD Cert.AdamConvsRefIdeal.τ).loc Cert.AdamConvsRefIdeal.main_arg9)) (m ((c.tc : Thread Cert.AdamConvsRefIdeal.nD Cert.AdamConvsRefIdeal.τ).loc Cert.AdamConvsRefIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_none [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_none m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_SquareDw [hSquareDw : Cert.SquareDw.Facts] : Prop :=
  ∀ (m : (ℓ : Loc Cert.SquareDw.nD Cert.SquareDw.τ Cert.SquareDw.sig) → Buf (Elt Bits) ℓ) (g : Dev Cert.SquareDw.nD → PrngReg), Pre_SquareDw m →
    θ_run (Cert.SquareDw.defs (F := Bits)) (onTc (τ := Cert.SquareDw.τ) (Cert.SquareDw.main (F := Bits))) ⟨m, fun _ => 0, g⟩ (fun r => (∀ c : Dev Cert.SquareDw.nD,
      r.2.mem ((c.tc : Thread Cert.SquareDw.nD Cert.SquareDw.τ).loc Cert.SquareDw.main_arg0) = m ((c.tc : Thread Cert.SquareDw.nD Cert.SquareDw.τ).loc Cert.SquareDw.main_arg0)
      ∧ r.2.mem ((c.tc : Thread Cert.SquareDw.nD Cert.SquareDw.τ).loc Cert.SquareDw.main_arg1) = m ((c.tc : Thread Cert.SquareDw.nD Cert.SquareDw.τ).loc Cert.SquareDw.main_arg1))
      ∧ r.2.sem = fun _ => 0)

def quiescent_SquareDwIdeal [hSquareDwIdeal : Cert.SquareDwIdeal.Facts] : Prop :=
  ∀ (m : (ℓ : Loc Cert.SquareDwIdeal.nD Cert.SquareDwIdeal.τ Cert.SquareDwIdeal.sig) → Buf (Elt Ideal) ℓ) (g : Dev Cert.SquareDwIdeal.nD → PrngReg), Pre_SquareDwIdeal m →
    θ_run (Cert.SquareDwIdeal.defs (F := Ideal)) (onTc (τ := Cert.SquareDwIdeal.τ) (Cert.SquareDwIdeal.main (F := Ideal))) ⟨m, fun _ => 0, g⟩ (fun r => (∀ c : Dev Cert.SquareDwIdeal.nD,
      r.2.mem ((c.tc : Thread Cert.SquareDwIdeal.nD Cert.SquareDwIdeal.τ).loc Cert.SquareDwIdeal.main_arg0) = m ((c.tc : Thread Cert.SquareDwIdeal.nD Cert.SquareDwIdeal.τ).loc Cert.SquareDwIdeal.main_arg0)
      ∧ r.2.mem ((c.tc : Thread Cert.SquareDwIdeal.nD Cert.SquareDwIdeal.τ).loc Cert.SquareDwIdeal.main_arg1) = m ((c.tc : Thread Cert.SquareDwIdeal.nD Cert.SquareDwIdeal.τ).loc Cert.SquareDwIdeal.main_arg1))
      ∧ r.2.sem = fun _ => 0)

def quiescent_SquareDwRefIdeal [hSquareDwRefIdeal : Cert.SquareDwRefIdeal.Facts] : Prop :=
  ∀ (m : (ℓ : Loc Cert.SquareDwRefIdeal.nD Cert.SquareDwRefIdeal.τ Cert.SquareDwRefIdeal.sig) → Buf (Elt Ideal) ℓ) (g : Dev Cert.SquareDwRefIdeal.nD → PrngReg), Pre_SquareDwRefIdeal m →
    θ_run (Cert.SquareDwRefIdeal.defs (F := Ideal)) (onTc (τ := Cert.SquareDwRefIdeal.τ) (Cert.SquareDwRefIdeal.main (F := Ideal))) ⟨m, fun _ => 0, g⟩ (fun r => (∀ c : Dev Cert.SquareDwRefIdeal.nD,
      r.2.mem ((c.tc : Thread Cert.SquareDwRefIdeal.nD Cert.SquareDwRefIdeal.τ).loc Cert.SquareDwRefIdeal.main_arg0) = m ((c.tc : Thread Cert.SquareDwRefIdeal.nD Cert.SquareDwRefIdeal.τ).loc Cert.SquareDwRefIdeal.main_arg0)
      ∧ r.2.mem ((c.tc : Thread Cert.SquareDwRefIdeal.nD Cert.SquareDwRefIdeal.τ).loc Cert.SquareDwRefIdeal.main_arg1) = m ((c.tc : Thread Cert.SquareDwRefIdeal.nD Cert.SquareDwRefIdeal.τ).loc Cert.SquareDwRefIdeal.main_arg1))
      ∧ r.2.sem = fun _ => 0)

def quiescent_SquareDx [hSquareDx : Cert.SquareDx.Facts] : Prop :=
  ∀ (m : (ℓ : Loc Cert.SquareDx.nD Cert.SquareDx.τ Cert.SquareDx.sig) → Buf (Elt Bits) ℓ) (g : Dev Cert.SquareDx.nD → PrngReg), Pre_SquareDx m →
    θ_run (Cert.SquareDx.defs (F := Bits)) (onTc (τ := Cert.SquareDx.τ) (Cert.SquareDx.main (F := Bits))) ⟨m, fun _ => 0, g⟩ (fun r => (∀ c : Dev Cert.SquareDx.nD,
      r.2.mem ((c.tc : Thread Cert.SquareDx.nD Cert.SquareDx.τ).loc Cert.SquareDx.main_arg0) = m ((c.tc : Thread Cert.SquareDx.nD Cert.SquareDx.τ).loc Cert.SquareDx.main_arg0)
      ∧ r.2.mem ((c.tc : Thread Cert.SquareDx.nD Cert.SquareDx.τ).loc Cert.SquareDx.main_arg1) = m ((c.tc : Thread Cert.SquareDx.nD Cert.SquareDx.τ).loc Cert.SquareDx.main_arg1))
      ∧ r.2.sem = fun _ => 0)

def quiescent_SquareDxIdeal [hSquareDxIdeal : Cert.SquareDxIdeal.Facts] : Prop :=
  ∀ (m : (ℓ : Loc Cert.SquareDxIdeal.nD Cert.SquareDxIdeal.τ Cert.SquareDxIdeal.sig) → Buf (Elt Ideal) ℓ) (g : Dev Cert.SquareDxIdeal.nD → PrngReg), Pre_SquareDxIdeal m →
    θ_run (Cert.SquareDxIdeal.defs (F := Ideal)) (onTc (τ := Cert.SquareDxIdeal.τ) (Cert.SquareDxIdeal.main (F := Ideal))) ⟨m, fun _ => 0, g⟩ (fun r => (∀ c : Dev Cert.SquareDxIdeal.nD,
      r.2.mem ((c.tc : Thread Cert.SquareDxIdeal.nD Cert.SquareDxIdeal.τ).loc Cert.SquareDxIdeal.main_arg0) = m ((c.tc : Thread Cert.SquareDxIdeal.nD Cert.SquareDxIdeal.τ).loc Cert.SquareDxIdeal.main_arg0)
      ∧ r.2.mem ((c.tc : Thread Cert.SquareDxIdeal.nD Cert.SquareDxIdeal.τ).loc Cert.SquareDxIdeal.main_arg1) = m ((c.tc : Thread Cert.SquareDxIdeal.nD Cert.SquareDxIdeal.τ).loc Cert.SquareDxIdeal.main_arg1))
      ∧ r.2.sem = fun _ => 0)

def quiescent_SquareDxRefIdeal [hSquareDxRefIdeal : Cert.SquareDxRefIdeal.Facts] : Prop :=
  ∀ (m : (ℓ : Loc Cert.SquareDxRefIdeal.nD Cert.SquareDxRefIdeal.τ Cert.SquareDxRefIdeal.sig) → Buf (Elt Ideal) ℓ) (g : Dev Cert.SquareDxRefIdeal.nD → PrngReg), Pre_SquareDxRefIdeal m →
    θ_run (Cert.SquareDxRefIdeal.defs (F := Ideal)) (onTc (τ := Cert.SquareDxRefIdeal.τ) (Cert.SquareDxRefIdeal.main (F := Ideal))) ⟨m, fun _ => 0, g⟩ (fun r => (∀ c : Dev Cert.SquareDxRefIdeal.nD,
      r.2.mem ((c.tc : Thread Cert.SquareDxRefIdeal.nD Cert.SquareDxRefIdeal.τ).loc Cert.SquareDxRefIdeal.main_arg0) = m ((c.tc : Thread Cert.SquareDxRefIdeal.nD Cert.SquareDxRefIdeal.τ).loc Cert.SquareDxRefIdeal.main_arg0)
      ∧ r.2.mem ((c.tc : Thread Cert.SquareDxRefIdeal.nD Cert.SquareDxRefIdeal.τ).loc Cert.SquareDxRefIdeal.main_arg1) = m ((c.tc : Thread Cert.SquareDxRefIdeal.nD Cert.SquareDxRefIdeal.τ).loc Cert.SquareDxRefIdeal.main_arg1))
      ∧ r.2.sem = fun _ => 0)

def quiescent_BDx [hBDx : Cert.BDx.Facts] : Prop :=
  ∀ (m : (ℓ : Loc Cert.BDx.nD Cert.BDx.τ Cert.BDx.sig) → Buf (Elt Bits) ℓ) (g : Dev Cert.BDx.nD → PrngReg), Pre_BDx m →
    θ_run (Cert.BDx.defs (F := Bits)) (onTc (τ := Cert.BDx.τ) (Cert.BDx.main (F := Bits))) ⟨m, fun _ => 0, g⟩ (fun r => (∀ c : Dev Cert.BDx.nD,
      r.2.mem ((c.tc : Thread Cert.BDx.nD Cert.BDx.τ).loc Cert.BDx.main_arg0) = m ((c.tc : Thread Cert.BDx.nD Cert.BDx.τ).loc Cert.BDx.main_arg0)
      ∧ r.2.mem ((c.tc : Thread Cert.BDx.nD Cert.BDx.τ).loc Cert.BDx.main_arg1) = m ((c.tc : Thread Cert.BDx.nD Cert.BDx.τ).loc Cert.BDx.main_arg1))
      ∧ r.2.sem = fun _ => 0)

def quiescent_BDxIdeal [hBDxIdeal : Cert.BDxIdeal.Facts] : Prop :=
  ∀ (m : (ℓ : Loc Cert.BDxIdeal.nD Cert.BDxIdeal.τ Cert.BDxIdeal.sig) → Buf (Elt Ideal) ℓ) (g : Dev Cert.BDxIdeal.nD → PrngReg), Pre_BDxIdeal m →
    θ_run (Cert.BDxIdeal.defs (F := Ideal)) (onTc (τ := Cert.BDxIdeal.τ) (Cert.BDxIdeal.main (F := Ideal))) ⟨m, fun _ => 0, g⟩ (fun r => (∀ c : Dev Cert.BDxIdeal.nD,
      r.2.mem ((c.tc : Thread Cert.BDxIdeal.nD Cert.BDxIdeal.τ).loc Cert.BDxIdeal.main_arg0) = m ((c.tc : Thread Cert.BDxIdeal.nD Cert.BDxIdeal.τ).loc Cert.BDxIdeal.main_arg0)
      ∧ r.2.mem ((c.tc : Thread Cert.BDxIdeal.nD Cert.BDxIdeal.τ).loc Cert.BDxIdeal.main_arg1) = m ((c.tc : Thread Cert.BDxIdeal.nD Cert.BDxIdeal.τ).loc Cert.BDxIdeal.main_arg1))
      ∧ r.2.sem = fun _ => 0)

def quiescent_BDxRefIdeal [hBDxRefIdeal : Cert.BDxRefIdeal.Facts] : Prop :=
  ∀ (m : (ℓ : Loc Cert.BDxRefIdeal.nD Cert.BDxRefIdeal.τ Cert.BDxRefIdeal.sig) → Buf (Elt Ideal) ℓ) (g : Dev Cert.BDxRefIdeal.nD → PrngReg), Pre_BDxRefIdeal m →
    θ_run (Cert.BDxRefIdeal.defs (F := Ideal)) (onTc (τ := Cert.BDxRefIdeal.τ) (Cert.BDxRefIdeal.main (F := Ideal))) ⟨m, fun _ => 0, g⟩ (fun r => (∀ c : Dev Cert.BDxRefIdeal.nD,
      r.2.mem ((c.tc : Thread Cert.BDxRefIdeal.nD Cert.BDxRefIdeal.τ).loc Cert.BDxRefIdeal.main_arg0) = m ((c.tc : Thread Cert.BDxRefIdeal.nD Cert.BDxRefIdeal.τ).loc Cert.BDxRefIdeal.main_arg0)
      ∧ r.2.mem ((c.tc : Thread Cert.BDxRefIdeal.nD Cert.BDxRefIdeal.τ).loc Cert.BDxRefIdeal.main_arg1) = m ((c.tc : Thread Cert.BDxRefIdeal.nD Cert.BDxRefIdeal.τ).loc Cert.BDxRefIdeal.main_arg1))
      ∧ r.2.sem = fun _ => 0)

def quiescent_InGates [hInGates : Cert.InGates.Facts] : Prop :=
  ∀ (m : (ℓ : Loc Cert.InGates.nD Cert.InGates.τ Cert.InGates.sig) → Buf (Elt Bits) ℓ) (g : Dev Cert.InGates.nD → PrngReg), Pre_InGates m →
    θ_run (Cert.InGates.defs (F := Bits)) (onTc (τ := Cert.InGates.τ) (Cert.InGates.main (F := Bits))) ⟨m, fun _ => 0, g⟩ (fun r => (∀ c : Dev Cert.InGates.nD,
      r.2.mem ((c.tc : Thread Cert.InGates.nD Cert.InGates.τ).loc Cert.InGates.main_arg0) = m ((c.tc : Thread Cert.InGates.nD Cert.InGates.τ).loc Cert.InGates.main_arg0)
      ∧ r.2.mem ((c.tc : Thread Cert.InGates.nD Cert.InGates.τ).loc Cert.InGates.main_arg1) = m ((c.tc : Thread Cert.InGates.nD Cert.InGates.τ).loc Cert.InGates.main_arg1))
      ∧ r.2.sem = fun _ => 0)

def quiescent_InGatesIdeal [hInGatesIdeal : Cert.InGatesIdeal.Facts] : Prop :=
  ∀ (m : (ℓ : Loc Cert.InGatesIdeal.nD Cert.InGatesIdeal.τ Cert.InGatesIdeal.sig) → Buf (Elt Ideal) ℓ) (g : Dev Cert.InGatesIdeal.nD → PrngReg), Pre_InGatesIdeal m →
    θ_run (Cert.InGatesIdeal.defs (F := Ideal)) (onTc (τ := Cert.InGatesIdeal.τ) (Cert.InGatesIdeal.main (F := Ideal))) ⟨m, fun _ => 0, g⟩ (fun r => (∀ c : Dev Cert.InGatesIdeal.nD,
      r.2.mem ((c.tc : Thread Cert.InGatesIdeal.nD Cert.InGatesIdeal.τ).loc Cert.InGatesIdeal.main_arg0) = m ((c.tc : Thread Cert.InGatesIdeal.nD Cert.InGatesIdeal.τ).loc Cert.InGatesIdeal.main_arg0)
      ∧ r.2.mem ((c.tc : Thread Cert.InGatesIdeal.nD Cert.InGatesIdeal.τ).loc Cert.InGatesIdeal.main_arg1) = m ((c.tc : Thread Cert.InGatesIdeal.nD Cert.InGatesIdeal.τ).loc Cert.InGatesIdeal.main_arg1))
      ∧ r.2.sem = fun _ => 0)

def quiescent_InGatesRefIdeal [hInGatesRefIdeal : Cert.InGatesRefIdeal.Facts] : Prop :=
  ∀ (m : (ℓ : Loc Cert.InGatesRefIdeal.nD Cert.InGatesRefIdeal.τ Cert.InGatesRefIdeal.sig) → Buf (Elt Ideal) ℓ) (g : Dev Cert.InGatesRefIdeal.nD → PrngReg), Pre_InGatesRefIdeal m →
    θ_run (Cert.InGatesRefIdeal.defs (F := Ideal)) (onTc (τ := Cert.InGatesRefIdeal.τ) (Cert.InGatesRefIdeal.main (F := Ideal))) ⟨m, fun _ => 0, g⟩ (fun r => (∀ c : Dev Cert.InGatesRefIdeal.nD,
      r.2.mem ((c.tc : Thread Cert.InGatesRefIdeal.nD Cert.InGatesRefIdeal.τ).loc Cert.InGatesRefIdeal.main_arg0) = m ((c.tc : Thread Cert.InGatesRefIdeal.nD Cert.InGatesRefIdeal.τ).loc Cert.InGatesRefIdeal.main_arg0)
      ∧ r.2.mem ((c.tc : Thread Cert.InGatesRefIdeal.nD Cert.InGatesRefIdeal.τ).loc Cert.InGatesRefIdeal.main_arg1) = m ((c.tc : Thread Cert.InGatesRefIdeal.nD Cert.InGatesRefIdeal.τ).loc Cert.InGatesRefIdeal.main_arg1))
      ∧ r.2.sem = fun _ => 0)

def quiescent_InQkv [hInQkv : Cert.InQkv.Facts] : Prop :=
  ∀ (m : (ℓ : Loc Cert.InQkv.nD Cert.InQkv.τ Cert.InQkv.sig) → Buf (Elt Bits) ℓ) (g : Dev Cert.InQkv.nD → PrngReg), Pre_InQkv m →
    θ_run (Cert.InQkv.defs (F := Bits)) (onTc (τ := Cert.InQkv.τ) (Cert.InQkv.main (F := Bits))) ⟨m, fun _ => 0, g⟩ (fun r => (∀ c : Dev Cert.InQkv.nD,
      r.2.mem ((c.tc : Thread Cert.InQkv.nD Cert.InQkv.τ).loc Cert.InQkv.main_arg0) = m ((c.tc : Thread Cert.InQkv.nD Cert.InQkv.τ).loc Cert.InQkv.main_arg0)
      ∧ r.2.mem ((c.tc : Thread Cert.InQkv.nD Cert.InQkv.τ).loc Cert.InQkv.main_arg1) = m ((c.tc : Thread Cert.InQkv.nD Cert.InQkv.τ).loc Cert.InQkv.main_arg1))
      ∧ r.2.sem = fun _ => 0)

def quiescent_InQkvIdeal [hInQkvIdeal : Cert.InQkvIdeal.Facts] : Prop :=
  ∀ (m : (ℓ : Loc Cert.InQkvIdeal.nD Cert.InQkvIdeal.τ Cert.InQkvIdeal.sig) → Buf (Elt Ideal) ℓ) (g : Dev Cert.InQkvIdeal.nD → PrngReg), Pre_InQkvIdeal m →
    θ_run (Cert.InQkvIdeal.defs (F := Ideal)) (onTc (τ := Cert.InQkvIdeal.τ) (Cert.InQkvIdeal.main (F := Ideal))) ⟨m, fun _ => 0, g⟩ (fun r => (∀ c : Dev Cert.InQkvIdeal.nD,
      r.2.mem ((c.tc : Thread Cert.InQkvIdeal.nD Cert.InQkvIdeal.τ).loc Cert.InQkvIdeal.main_arg0) = m ((c.tc : Thread Cert.InQkvIdeal.nD Cert.InQkvIdeal.τ).loc Cert.InQkvIdeal.main_arg0)
      ∧ r.2.mem ((c.tc : Thread Cert.InQkvIdeal.nD Cert.InQkvIdeal.τ).loc Cert.InQkvIdeal.main_arg1) = m ((c.tc : Thread Cert.InQkvIdeal.nD Cert.InQkvIdeal.τ).loc Cert.InQkvIdeal.main_arg1))
      ∧ r.2.sem = fun _ => 0)

def quiescent_InQkvRefIdeal [hInQkvRefIdeal : Cert.InQkvRefIdeal.Facts] : Prop :=
  ∀ (m : (ℓ : Loc Cert.InQkvRefIdeal.nD Cert.InQkvRefIdeal.τ Cert.InQkvRefIdeal.sig) → Buf (Elt Ideal) ℓ) (g : Dev Cert.InQkvRefIdeal.nD → PrngReg), Pre_InQkvRefIdeal m →
    θ_run (Cert.InQkvRefIdeal.defs (F := Ideal)) (onTc (τ := Cert.InQkvRefIdeal.τ) (Cert.InQkvRefIdeal.main (F := Ideal))) ⟨m, fun _ => 0, g⟩ (fun r => (∀ c : Dev Cert.InQkvRefIdeal.nD,
      r.2.mem ((c.tc : Thread Cert.InQkvRefIdeal.nD Cert.InQkvRefIdeal.τ).loc Cert.InQkvRefIdeal.main_arg0) = m ((c.tc : Thread Cert.InQkvRefIdeal.nD Cert.InQkvRefIdeal.τ).loc Cert.InQkvRefIdeal.main_arg0)
      ∧ r.2.mem ((c.tc : Thread Cert.InQkvRefIdeal.nD Cert.InQkvRefIdeal.τ).loc Cert.InQkvRefIdeal.main_arg1) = m ((c.tc : Thread Cert.InQkvRefIdeal.nD Cert.InQkvRefIdeal.τ).loc Cert.InQkvRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Square [hSquare : Cert.Square.Facts] : Prop :=
  ∀ (m : (ℓ : Loc Cert.Square.nD Cert.Square.τ Cert.Square.sig) → Buf (Elt Bits) ℓ) (g : Dev Cert.Square.nD → PrngReg), Pre_Square m →
    θ_run (Cert.Square.defs (F := Bits)) (onTc (τ := Cert.Square.τ) (Cert.Square.main (F := Bits))) ⟨m, fun _ => 0, g⟩ (fun r => (∀ c : Dev Cert.Square.nD,
      r.2.mem ((c.tc : Thread Cert.Square.nD Cert.Square.τ).loc Cert.Square.main_arg0) = m ((c.tc : Thread Cert.Square.nD Cert.Square.τ).loc Cert.Square.main_arg0)
      ∧ r.2.mem ((c.tc : Thread Cert.Square.nD Cert.Square.τ).loc Cert.Square.main_arg1) = m ((c.tc : Thread Cert.Square.nD Cert.Square.τ).loc Cert.Square.main_arg1))
      ∧ r.2.sem = fun _ => 0)

def quiescent_SquareIdeal [hSquareIdeal : Cert.SquareIdeal.Facts] : Prop :=
  ∀ (m : (ℓ : Loc Cert.SquareIdeal.nD Cert.SquareIdeal.τ Cert.SquareIdeal.sig) → Buf (Elt Ideal) ℓ) (g : Dev Cert.SquareIdeal.nD → PrngReg), Pre_SquareIdeal m →
    θ_run (Cert.SquareIdeal.defs (F := Ideal)) (onTc (τ := Cert.SquareIdeal.τ) (Cert.SquareIdeal.main (F := Ideal))) ⟨m, fun _ => 0, g⟩ (fun r => (∀ c : Dev Cert.SquareIdeal.nD,
      r.2.mem ((c.tc : Thread Cert.SquareIdeal.nD Cert.SquareIdeal.τ).loc Cert.SquareIdeal.main_arg0) = m ((c.tc : Thread Cert.SquareIdeal.nD Cert.SquareIdeal.τ).loc Cert.SquareIdeal.main_arg0)
      ∧ r.2.mem ((c.tc : Thread Cert.SquareIdeal.nD Cert.SquareIdeal.τ).loc Cert.SquareIdeal.main_arg1) = m ((c.tc : Thread Cert.SquareIdeal.nD Cert.SquareIdeal.τ).loc Cert.SquareIdeal.main_arg1))
      ∧ r.2.sem = fun _ => 0)

def quiescent_SquareRefIdeal [hSquareRefIdeal : Cert.SquareRefIdeal.Facts] : Prop :=
  ∀ (m : (ℓ : Loc Cert.SquareRefIdeal.nD Cert.SquareRefIdeal.τ Cert.SquareRefIdeal.sig) → Buf (Elt Ideal) ℓ) (g : Dev Cert.SquareRefIdeal.nD → PrngReg), Pre_SquareRefIdeal m →
    θ_run (Cert.SquareRefIdeal.defs (F := Ideal)) (onTc (τ := Cert.SquareRefIdeal.τ) (Cert.SquareRefIdeal.main (F := Ideal))) ⟨m, fun _ => 0, g⟩ (fun r => (∀ c : Dev Cert.SquareRefIdeal.nD,
      r.2.mem ((c.tc : Thread Cert.SquareRefIdeal.nD Cert.SquareRefIdeal.τ).loc Cert.SquareRefIdeal.main_arg0) = m ((c.tc : Thread Cert.SquareRefIdeal.nD Cert.SquareRefIdeal.τ).loc Cert.SquareRefIdeal.main_arg0)
      ∧ r.2.mem ((c.tc : Thread Cert.SquareRefIdeal.nD Cert.SquareRefIdeal.τ).loc Cert.SquareRefIdeal.main_arg1) = m ((c.tc : Thread Cert.SquareRefIdeal.nD Cert.SquareRefIdeal.τ).loc Cert.SquareRefIdeal.main_arg1))
      ∧ r.2.sem = fun _ => 0)

def quiescent_O [hO : Cert.O.Facts] : Prop :=
  ∀ (m : (ℓ : Loc Cert.O.nD Cert.O.τ Cert.O.sig) → Buf (Elt Bits) ℓ) (g : Dev Cert.O.nD → PrngReg), Pre_O m →
    θ_run (Cert.O.defs (F := Bits)) (onTc (τ := Cert.O.τ) (Cert.O.main (F := Bits))) ⟨m, fun _ => 0, g⟩ (fun r => (∀ c : Dev Cert.O.nD,
      r.2.mem ((c.tc : Thread Cert.O.nD Cert.O.τ).loc Cert.O.main_arg0) = m ((c.tc : Thread Cert.O.nD Cert.O.τ).loc Cert.O.main_arg0)
      ∧ r.2.mem ((c.tc : Thread Cert.O.nD Cert.O.τ).loc Cert.O.main_arg1) = m ((c.tc : Thread Cert.O.nD Cert.O.τ).loc Cert.O.main_arg1)
      ∧ r.2.mem ((c.tc : Thread Cert.O.nD Cert.O.τ).loc Cert.O.main_arg2) = m ((c.tc : Thread Cert.O.nD Cert.O.τ).loc Cert.O.main_arg2))
      ∧ r.2.sem = fun _ => 0)

def quiescent_OIdeal [hOIdeal : Cert.OIdeal.Facts] : Prop :=
  ∀ (m : (ℓ : Loc Cert.OIdeal.nD Cert.OIdeal.τ Cert.OIdeal.sig) → Buf (Elt Ideal) ℓ) (g : Dev Cert.OIdeal.nD → PrngReg), Pre_OIdeal m →
    θ_run (Cert.OIdeal.defs (F := Ideal)) (onTc (τ := Cert.OIdeal.τ) (Cert.OIdeal.main (F := Ideal))) ⟨m, fun _ => 0, g⟩ (fun r => (∀ c : Dev Cert.OIdeal.nD,
      r.2.mem ((c.tc : Thread Cert.OIdeal.nD Cert.OIdeal.τ).loc Cert.OIdeal.main_arg0) = m ((c.tc : Thread Cert.OIdeal.nD Cert.OIdeal.τ).loc Cert.OIdeal.main_arg0)
      ∧ r.2.mem ((c.tc : Thread Cert.OIdeal.nD Cert.OIdeal.τ).loc Cert.OIdeal.main_arg1) = m ((c.tc : Thread Cert.OIdeal.nD Cert.OIdeal.τ).loc Cert.OIdeal.main_arg1)
      ∧ r.2.mem ((c.tc : Thread Cert.OIdeal.nD Cert.OIdeal.τ).loc Cert.OIdeal.main_arg2) = m ((c.tc : Thread Cert.OIdeal.nD Cert.OIdeal.τ).loc Cert.OIdeal.main_arg2))
      ∧ r.2.sem = fun _ => 0)

def quiescent_ORefIdeal [hORefIdeal : Cert.ORefIdeal.Facts] : Prop :=
  ∀ (m : (ℓ : Loc Cert.ORefIdeal.nD Cert.ORefIdeal.τ Cert.ORefIdeal.sig) → Buf (Elt Ideal) ℓ) (g : Dev Cert.ORefIdeal.nD → PrngReg), Pre_ORefIdeal m →
    θ_run (Cert.ORefIdeal.defs (F := Ideal)) (onTc (τ := Cert.ORefIdeal.τ) (Cert.ORefIdeal.main (F := Ideal))) ⟨m, fun _ => 0, g⟩ (fun r => (∀ c : Dev Cert.ORefIdeal.nD,
      r.2.mem ((c.tc : Thread Cert.ORefIdeal.nD Cert.ORefIdeal.τ).loc Cert.ORefIdeal.main_arg0) = m ((c.tc : Thread Cert.ORefIdeal.nD Cert.ORefIdeal.τ).loc Cert.ORefIdeal.main_arg0)
      ∧ r.2.mem ((c.tc : Thread Cert.ORefIdeal.nD Cert.ORefIdeal.τ).loc Cert.ORefIdeal.main_arg1) = m ((c.tc : Thread Cert.ORefIdeal.nD Cert.ORefIdeal.τ).loc Cert.ORefIdeal.main_arg1)
      ∧ r.2.mem ((c.tc : Thread Cert.ORefIdeal.nD Cert.ORefIdeal.τ).loc Cert.ORefIdeal.main_arg2) = m ((c.tc : Thread Cert.ORefIdeal.nD Cert.ORefIdeal.τ).loc Cert.ORefIdeal.main_arg2))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamSquare [hAdamSquare : Cert.AdamSquare.Facts] [hPre_square_on_the_mesh : Cert.Pre_square_on_the_mesh.Facts] : Prop :=
  ∀ (m : (ℓ : Loc Cert.AdamSquare.nD Cert.AdamSquare.τ Cert.AdamSquare.sig) → Buf (Elt Bits) ℓ) (g : Dev Cert.AdamSquare.nD → PrngReg), Pre_AdamSquare m →
    θ_run (Cert.AdamSquare.defs (F := Bits)) (onTc (τ := Cert.AdamSquare.τ) (Cert.AdamSquare.main (F := Bits))) ⟨m, fun _ => 0, g⟩ (fun r => (∀ c : Dev Cert.AdamSquare.nD,
      r.2.mem ((c.tc : Thread Cert.AdamSquare.nD Cert.AdamSquare.τ).loc Cert.AdamSquare.main_arg0) = m ((c.tc : Thread Cert.AdamSquare.nD Cert.AdamSquare.τ).loc Cert.AdamSquare.main_arg0)
      ∧ r.2.mem ((c.tc : Thread Cert.AdamSquare.nD Cert.AdamSquare.τ).loc Cert.AdamSquare.main_arg1) = m ((c.tc : Thread Cert.AdamSquare.nD Cert.AdamSquare.τ).loc Cert.AdamSquare.main_arg1)
      ∧ r.2.mem ((c.tc : Thread Cert.AdamSquare.nD Cert.AdamSquare.τ).loc Cert.AdamSquare.main_arg2) = m ((c.tc : Thread Cert.AdamSquare.nD Cert.AdamSquare.τ).loc Cert.AdamSquare.main_arg2)
      ∧ r.2.mem ((c.tc : Thread Cert.AdamSquare.nD Cert.AdamSquare.τ).loc Cert.AdamSquare.main_arg3) = m ((c.tc : Thread Cert.AdamSquare.nD Cert.AdamSquare.τ).loc Cert.AdamSquare.main_arg3)
      ∧ r.2.mem ((c.tc : Thread Cert.AdamSquare.nD Cert.AdamSquare.τ).loc Cert.AdamSquare.main_arg4) = m ((c.tc : Thread Cert.AdamSquare.nD Cert.AdamSquare.τ).loc Cert.AdamSquare.main_arg4)
      ∧ r.2.mem ((c.tc : Thread Cert.AdamSquare.nD Cert.AdamSquare.τ).loc Cert.AdamSquare.main_arg5) = m ((c.tc : Thread Cert.AdamSquare.nD Cert.AdamSquare.τ).loc Cert.AdamSquare.main_arg5))
      ∧ r.2.sem = fun _ => 0)

def quiescent_AdamSquareIdeal [hAdamSquareIdeal : Cert.AdamSquareIdeal.Facts] [hPre_square_on_the_mesh : Cert.Pre_square_on_the_mesh.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg), Pre_AdamSquareIdeal m →
    θ_run (Cert.AdamSquareIdeal.defs (F := Ideal)) (onTc (τ := Cert.AdamSquareIdeal.τ) (Cert.AdamSquareIdeal.main (F := Ideal))) ⟨m, fun _ => 0, g⟩ (fun r => (∀ c : Dev Cert.AdamSquareIdeal.nD,
      r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
      ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
      ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
      ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3)
      ∧ r.2.mem ((c.tc : Thread Cert.AdamSquareIdeal.nD Cert.AdamSquareIdeal.τ).loc Cert.AdamSquareIdeal.main_arg4) = m ((c.tc : Thread Cert.AdamSquareIdeal.nD Cert.AdamSquareIdeal.τ).loc Cert.AdamSquareIdeal.main_arg4)
      ∧ r.2.mem ((c.tc : Thread Cert.AdamSquareIdeal.nD Cert.AdamSquareIdeal.τ).loc Cert.AdamSquareIdeal.main_arg5) = m ((c.tc : Thread Cert.AdamSquareIdeal.nD Cert.AdamSquareIdeal.τ).loc Cert.AdamSquareIdeal.main_arg5))
      ∧ r.2.sem = fun _ => 0)

def quiescent_AdamSquareRefIdeal [hAdamSquareRefIdeal : Cert.AdamSquareRefIdeal.Facts] : Prop :=
  ∀ (m : (ℓ : Loc Cert.AdamSquareRefIdeal.nD Cert.AdamSquareRefIdeal.τ Cert.AdamSquareRefIdeal.sig) → Buf (Elt Ideal) ℓ) (g : Dev Cert.AdamSquareRefIdeal.nD → PrngReg), Pre_AdamSquareRefIdeal m →
    θ_run (Cert.AdamSquareRefIdeal.defs (F := Ideal)) (onTc (τ := Cert.AdamSquareRefIdeal.τ) (Cert.AdamSquareRefIdeal.main (F := Ideal))) ⟨m, fun _ => 0, g⟩ (fun r => (∀ c : Dev Cert.AdamSquareRefIdeal.nD,
      r.2.mem ((c.tc : Thread Cert.AdamSquareRefIdeal.nD Cert.AdamSquareRefIdeal.τ).loc Cert.AdamSquareRefIdeal.main_arg0) = m ((c.tc : Thread Cert.AdamSquareRefIdeal.nD Cert.AdamSquareRefIdeal.τ).loc Cert.AdamSquareRefIdeal.main_arg0)
      ∧ r.2.mem ((c.tc : Thread Cert.AdamSquareRefIdeal.nD Cert.AdamSquareRefIdeal.τ).loc Cert.AdamSquareRefIdeal.main_arg1) = m ((c.tc : Thread Cert.AdamSquareRefIdeal.nD Cert.AdamSquareRefIdeal.τ).loc Cert.AdamSquareRefIdeal.main_arg1)
      ∧ r.2.mem ((c.tc : Thread Cert.AdamSquareRefIdeal.nD Cert.AdamSquareRefIdeal.τ).loc Cert.AdamSquareRefIdeal.main_arg2) = m ((c.tc : Thread Cert.AdamSquareRefIdeal.nD Cert.AdamSquareRefIdeal.τ).loc Cert.AdamSquareRefIdeal.main_arg2)
      ∧ r.2.mem ((c.tc : Thread Cert.AdamSquareRefIdeal.nD Cert.AdamSquareRefIdeal.τ).loc Cert.AdamSquareRefIdeal.main_arg3) = m ((c.tc : Thread Cert.AdamSquareRefIdeal.nD Cert.AdamSquareRefIdeal.τ).loc Cert.AdamSquareRefIdeal.main_arg3)
      ∧ r.2.mem ((c.tc : Thread Cert.AdamSquareRefIdeal.nD Cert.AdamSquareRefIdeal.τ).loc Cert.AdamSquareRefIdeal.main_arg4) = m ((c.tc : Thread Cert.AdamSquareRefIdeal.nD Cert.AdamSquareRefIdeal.τ).loc Cert.AdamSquareRefIdeal.main_arg4)
      ∧ r.2.mem ((c.tc : Thread Cert.AdamSquareRefIdeal.nD Cert.AdamSquareRefIdeal.τ).loc Cert.AdamSquareRefIdeal.main_arg5) = m ((c.tc : Thread Cert.AdamSquareRefIdeal.nD Cert.AdamSquareRefIdeal.τ).loc Cert.AdamSquareRefIdeal.main_arg5))
      ∧ r.2.sem = fun _ => 0)

def quiescent_AdamSquareRefIdeal_pre_square_on_the_mesh [hAdamSquareRefIdeal : Cert.AdamSquareRefIdeal.Facts] [hPre_square_on_the_mesh : Cert.Pre_square_on_the_mesh.Facts] : Prop :=
  ∀ (m : (ℓ : Loc Cert.AdamSquareRefIdeal.nD Cert.AdamSquareRefIdeal.τ Cert.AdamSquareRefIdeal.sig) → Buf (Elt Ideal) ℓ) (g : Dev Cert.AdamSquareRefIdeal.nD → PrngReg), Pre_AdamSquareRefIdeal_square_on_the_mesh m →
    θ_run (Cert.AdamSquareRefIdeal.defs (F := Ideal)) (onTc (τ := Cert.AdamSquareRefIdeal.τ) (Cert.AdamSquareRefIdeal.main (F := Ideal))) ⟨m, fun _ => 0, g⟩ (fun r => (∀ c : Dev Cert.AdamSquareRefIdeal.nD,
      r.2.mem ((c.tc : Thread Cert.AdamSquareRefIdeal.nD Cert.AdamSquareRefIdeal.τ).loc Cert.AdamSquareRefIdeal.main_arg0) = m ((c.tc : Thread Cert.AdamSquareRefIdeal.nD Cert.AdamSquareRefIdeal.τ).loc Cert.AdamSquareRefIdeal.main_arg0)
      ∧ r.2.mem ((c.tc : Thread Cert.AdamSquareRefIdeal.nD Cert.AdamSquareRefIdeal.τ).loc Cert.AdamSquareRefIdeal.main_arg1) = m ((c.tc : Thread Cert.AdamSquareRefIdeal.nD Cert.AdamSquareRefIdeal.τ).loc Cert.AdamSquareRefIdeal.main_arg1)
      ∧ r.2.mem ((c.tc : Thread Cert.AdamSquareRefIdeal.nD Cert.AdamSquareRefIdeal.τ).loc Cert.AdamSquareRefIdeal.main_arg2) = m ((c.tc : Thread Cert.AdamSquareRefIdeal.nD Cert.AdamSquareRefIdeal.τ).loc Cert.AdamSquareRefIdeal.main_arg2)
      ∧ r.2.mem ((c.tc : Thread Cert.AdamSquareRefIdeal.nD Cert.AdamSquareRefIdeal.τ).loc Cert.AdamSquareRefIdeal.main_arg3) = m ((c.tc : Thread Cert.AdamSquareRefIdeal.nD Cert.AdamSquareRefIdeal.τ).loc Cert.AdamSquareRefIdeal.main_arg3)
      ∧ r.2.mem ((c.tc : Thread Cert.AdamSquareRefIdeal.nD Cert.AdamSquareRefIdeal.τ).loc Cert.AdamSquareRefIdeal.main_arg4) = m ((c.tc : Thread Cert.AdamSquareRefIdeal.nD Cert.AdamSquareRefIdeal.τ).loc Cert.AdamSquareRefIdeal.main_arg4)
      ∧ r.2.mem ((c.tc : Thread Cert.AdamSquareRefIdeal.nD Cert.AdamSquareRefIdeal.τ).loc Cert.AdamSquareRefIdeal.main_arg5) = m ((c.tc : Thread Cert.AdamSquareRefIdeal.nD Cert.AdamSquareRefIdeal.τ).loc Cert.AdamSquareRefIdeal.main_arg5))
      ∧ r.2.sem = fun _ => 0)

def quiescent_AdamUp [hAdamUp : Cert.AdamUp.Facts] [hPre_up_on_the_mesh : Cert.Pre_up_on_the_mesh.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4)
      ∧ r.2.mem ((c.tc : Thread Cert.AdamUp.nD Cert.AdamUp.τ).loc Cert.AdamUp.main_arg5) = m ((c.tc : Thread Cert.AdamUp.nD Cert.AdamUp.τ).loc Cert.AdamUp.main_arg5))
      ∧ r.2.sem = fun _ => 0)

def quiescent_AdamUpIdeal [hAdamUpIdeal : Cert.AdamUpIdeal.Facts] [hPre_up_on_the_mesh : Cert.Pre_up_on_the_mesh.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
      ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4)
      ∧ r.2.mem ((c.tc : Thread Cert.AdamUpRefIdeal.nD Cert.AdamUpRefIdeal.τ).loc Cert.AdamUpRefIdeal.main_arg5) = m ((c.tc : Thread Cert.AdamUpRefIdeal.nD Cert.AdamUpRefIdeal.τ).loc Cert.AdamUpRefIdeal.main_arg5))
      ∧ r.2.sem = fun _ => 0)

def quiescent_AdamUpRefIdeal_pre_up_on_the_mesh [hAdamUpRefIdeal : Cert.AdamUpRefIdeal.Facts] [hPre_up_on_the_mesh : Cert.Pre_up_on_the_mesh.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal_up_on_the_mesh m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4)
      ∧ r.2.mem ((c.tc : Thread Cert.AdamUpRefIdeal.nD Cert.AdamUpRefIdeal.τ).loc Cert.AdamUpRefIdeal.main_arg5) = m ((c.tc : Thread Cert.AdamUpRefIdeal.nD Cert.AdamUpRefIdeal.τ).loc Cert.AdamUpRefIdeal.main_arg5))
      ∧ r.2.sem = fun _ => 0)

def quiescent_AdamDown [hAdamDown : Cert.AdamDown.Facts] [hPre_down_on_the_mesh : Cert.Pre_down_on_the_mesh.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4)
      ∧ r.2.mem ((c.tc : Thread Cert.AdamDown.nD Cert.AdamDown.τ).loc Cert.AdamDown.main_arg5) = m ((c.tc : Thread Cert.AdamDown.nD Cert.AdamDown.τ).loc Cert.AdamDown.main_arg5))
      ∧ r.2.sem = fun _ => 0)

def quiescent_AdamDownIdeal [hAdamDownIdeal : Cert.AdamDownIdeal.Facts] [hPre_down_on_the_mesh : Cert.Pre_down_on_the_mesh.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
      ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4)
      ∧ r.2.mem ((c.tc : Thread Cert.AdamDownRefIdeal.nD Cert.AdamDownRefIdeal.τ).loc Cert.AdamDownRefIdeal.main_arg5) = m ((c.tc : Thread Cert.AdamDownRefIdeal.nD Cert.AdamDownRefIdeal.τ).loc Cert.AdamDownRefIdeal.main_arg5))
      ∧ r.2.sem = fun _ => 0)

def quiescent_AdamDownRefIdeal_pre_down_on_the_mesh [hAdamDownRefIdeal : Cert.AdamDownRefIdeal.Facts] [hPre_down_on_the_mesh : Cert.Pre_down_on_the_mesh.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal_down_on_the_mesh m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4)
      ∧ r.2.mem ((c.tc : Thread Cert.AdamDownRefIdeal.nD Cert.AdamDownRefIdeal.τ).loc Cert.AdamDownRefIdeal.main_arg5) = m ((c.tc : Thread Cert.AdamDownRefIdeal.nD Cert.AdamDownRefIdeal.τ).loc Cert.AdamDownRefIdeal.main_arg5))
      ∧ r.2.sem = fun _ => 0)

def quiescent_SumIn [hSumIn : Cert.SumIn.Facts] [hPre_sum_on_the_mesh : Cert.Pre_sum_on_the_mesh.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0)
      ∧ r.2.mem ((c.tc : Thread Cert.SumIn.nD Cert.SumIn.τ).loc Cert.SumIn.main_arg1) = m ((c.tc : Thread Cert.SumIn.nD Cert.SumIn.τ).loc Cert.SumIn.main_arg1)
      ∧ r.2.mem ((c.tc : Thread Cert.SumIn.nD Cert.SumIn.τ).loc Cert.SumIn.main_arg2) = m ((c.tc : Thread Cert.SumIn.nD Cert.SumIn.τ).loc Cert.SumIn.main_arg2))
      ∧ r.2.sem = fun _ => 0)

def quiescent_SumInIdeal [hSumInIdeal : Cert.SumInIdeal.Facts] [hPre_sum_on_the_mesh : Cert.Pre_sum_on_the_mesh.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0)
      ∧ r.2.mem ((c.tc : Thread Cert.SumInIdeal.nD Cert.SumInIdeal.τ).loc Cert.SumInIdeal.main_arg1) = m ((c.tc : Thread Cert.SumInIdeal.nD Cert.SumInIdeal.τ).loc Cert.SumInIdeal.main_arg1)
      ∧ r.2.mem ((c.tc : Thread Cert.SumInIdeal.nD Cert.SumInIdeal.τ).loc Cert.SumInIdeal.main_arg2) = m ((c.tc : Thread Cert.SumInIdeal.nD Cert.SumInIdeal.τ).loc Cert.SumInIdeal.main_arg2))
      ∧ r.2.sem = fun _ => 0)

def quiescent_SumInRefIdeal [hSumInRefIdeal : Cert.SumInRefIdeal.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0)
      ∧ r.2.mem ((c.tc : Thread Cert.SumInRefIdeal.nD Cert.SumInRefIdeal.τ).loc Cert.SumInRefIdeal.main_arg1) = m ((c.tc : Thread Cert.SumInRefIdeal.nD Cert.SumInRefIdeal.τ).loc Cert.SumInRefIdeal.main_arg1)
      ∧ r.2.mem ((c.tc : Thread Cert.SumInRefIdeal.nD Cert.SumInRefIdeal.τ).loc Cert.SumInRefIdeal.main_arg2) = m ((c.tc : Thread Cert.SumInRefIdeal.nD Cert.SumInRefIdeal.τ).loc Cert.SumInRefIdeal.main_arg2))
      ∧ r.2.sem = fun _ => 0)

def quiescent_SumInRefIdeal_pre_sum_on_the_mesh [hSumInRefIdeal : Cert.SumInRefIdeal.Facts] [hPre_sum_on_the_mesh : Cert.Pre_sum_on_the_mesh.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal_sum_on_the_mesh m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0)
      ∧ r.2.mem ((c.tc : Thread Cert.SumInRefIdeal.nD Cert.SumInRefIdeal.τ).loc Cert.SumInRefIdeal.main_arg1) = m ((c.tc : Thread Cert.SumInRefIdeal.nD Cert.SumInRefIdeal.τ).loc Cert.SumInRefIdeal.main_arg1)
      ∧ r.2.mem ((c.tc : Thread Cert.SumInRefIdeal.nD Cert.SumInRefIdeal.τ).loc Cert.SumInRefIdeal.main_arg2) = m ((c.tc : Thread Cert.SumInRefIdeal.nD Cert.SumInRefIdeal.τ).loc Cert.SumInRefIdeal.main_arg2))
      ∧ r.2.sem = fun _ => 0)

def quiescent_AdamNorms [hAdamNorms : Cert.AdamNorms.Facts] [hPre_norms_on_the_mesh : Cert.Pre_norms_on_the_mesh.Facts] : Prop :=
  ∀ (m : (ℓ : Loc Cert.AdamNorms.nD Cert.AdamNorms.τ Cert.AdamNorms.sig) → Buf (Elt Bits) ℓ) (g : Dev Cert.AdamNorms.nD → PrngReg), Pre_AdamNorms m →
    θ_run (Cert.AdamNorms.defs (F := Bits)) (onTc (τ := Cert.AdamNorms.τ) (Cert.AdamNorms.main (F := Bits))) ⟨m, fun _ => 0, g⟩ (fun r => (∀ c : Dev Cert.AdamNorms.nD,
      r.2.mem ((c.tc : Thread Cert.AdamNorms.nD Cert.AdamNorms.τ).loc Cert.AdamNorms.main_arg0) = m ((c.tc : Thread Cert.AdamNorms.nD Cert.AdamNorms.τ).loc Cert.AdamNorms.main_arg0)
      ∧ r.2.mem ((c.tc : Thread Cert.AdamNorms.nD Cert.AdamNorms.τ).loc Cert.AdamNorms.main_arg1) = m ((c.tc : Thread Cert.AdamNorms.nD Cert.AdamNorms.τ).loc Cert.AdamNorms.main_arg1)
      ∧ r.2.mem ((c.tc : Thread Cert.AdamNorms.nD Cert.AdamNorms.τ).loc Cert.AdamNorms.main_arg2) = m ((c.tc : Thread Cert.AdamNorms.nD Cert.AdamNorms.τ).loc Cert.AdamNorms.main_arg2)
      ∧ r.2.mem ((c.tc : Thread Cert.AdamNorms.nD Cert.AdamNorms.τ).loc Cert.AdamNorms.main_arg3) = m ((c.tc : Thread Cert.AdamNorms.nD Cert.AdamNorms.τ).loc Cert.AdamNorms.main_arg3)
      ∧ r.2.mem ((c.tc : Thread Cert.AdamNorms.nD Cert.AdamNorms.τ).loc Cert.AdamNorms.main_arg4) = m ((c.tc : Thread Cert.AdamNorms.nD Cert.AdamNorms.τ).loc Cert.AdamNorms.main_arg4)
      ∧ r.2.mem ((c.tc : Thread Cert.AdamNorms.nD Cert.AdamNorms.τ).loc Cert.AdamNorms.main_arg5) = m ((c.tc : Thread Cert.AdamNorms.nD Cert.AdamNorms.τ).loc Cert.AdamNorms.main_arg5)
      ∧ r.2.mem ((c.tc : Thread Cert.AdamNorms.nD Cert.AdamNorms.τ).loc Cert.AdamNorms.main_arg6) = m ((c.tc : Thread Cert.AdamNorms.nD Cert.AdamNorms.τ).loc Cert.AdamNorms.main_arg6)
      ∧ r.2.mem ((c.tc : Thread Cert.AdamNorms.nD Cert.AdamNorms.τ).loc Cert.AdamNorms.main_arg7) = m ((c.tc : Thread Cert.AdamNorms.nD Cert.AdamNorms.τ).loc Cert.AdamNorms.main_arg7)
      ∧ r.2.mem ((c.tc : Thread Cert.AdamNorms.nD Cert.AdamNorms.τ).loc Cert.AdamNorms.main_arg8) = m ((c.tc : Thread Cert.AdamNorms.nD Cert.AdamNorms.τ).loc Cert.AdamNorms.main_arg8)
      ∧ r.2.mem ((c.tc : Thread Cert.AdamNorms.nD Cert.AdamNorms.τ).loc Cert.AdamNorms.main_arg9) = m ((c.tc : Thread Cert.AdamNorms.nD Cert.AdamNorms.τ).loc Cert.AdamNorms.main_arg9)
      ∧ r.2.mem ((c.tc : Thread Cert.AdamNorms.nD Cert.AdamNorms.τ).loc Cert.AdamNorms.main_arg10) = m ((c.tc : Thread Cert.AdamNorms.nD Cert.AdamNorms.τ).loc Cert.AdamNorms.main_arg10))
      ∧ r.2.sem = fun _ => 0)

def quiescent_AdamNormsIdeal [hAdamNormsIdeal : Cert.AdamNormsIdeal.Facts] [hPre_norms_on_the_mesh : Cert.Pre_norms_on_the_mesh.Facts] : Prop :=
  ∀ (m : (ℓ : Loc Cert.AdamNormsIdeal.nD Cert.AdamNormsIdeal.τ Cert.AdamNormsIdeal.sig) → Buf (Elt Ideal) ℓ) (g : Dev Cert.AdamNormsIdeal.nD → PrngReg), Pre_AdamNormsIdeal m →
    θ_run (Cert.AdamNormsIdeal.defs (F := Ideal)) (onTc (τ := Cert.AdamNormsIdeal.τ) (Cert.AdamNormsIdeal.main (F := Ideal))) ⟨m, fun _ => 0, g⟩ (fun r => (∀ c : Dev Cert.AdamNormsIdeal.nD,
      r.2.mem ((c.tc : Thread Cert.AdamNormsIdeal.nD Cert.AdamNormsIdeal.τ).loc Cert.AdamNormsIdeal.main_arg0) = m ((c.tc : Thread Cert.AdamNormsIdeal.nD Cert.AdamNormsIdeal.τ).loc Cert.AdamNormsIdeal.main_arg0)
      ∧ r.2.mem ((c.tc : Thread Cert.AdamNormsIdeal.nD Cert.AdamNormsIdeal.τ).loc Cert.AdamNormsIdeal.main_arg1) = m ((c.tc : Thread Cert.AdamNormsIdeal.nD Cert.AdamNormsIdeal.τ).loc Cert.AdamNormsIdeal.main_arg1)
      ∧ r.2.mem ((c.tc : Thread Cert.AdamNormsIdeal.nD Cert.AdamNormsIdeal.τ).loc Cert.AdamNormsIdeal.main_arg2) = m ((c.tc : Thread Cert.AdamNormsIdeal.nD Cert.AdamNormsIdeal.τ).loc Cert.AdamNormsIdeal.main_arg2)
      ∧ r.2.mem ((c.tc : Thread Cert.AdamNormsIdeal.nD Cert.AdamNormsIdeal.τ).loc Cert.AdamNormsIdeal.main_arg3) = m ((c.tc : Thread Cert.AdamNormsIdeal.nD Cert.AdamNormsIdeal.τ).loc Cert.AdamNormsIdeal.main_arg3)
      ∧ r.2.mem ((c.tc : Thread Cert.AdamNormsIdeal.nD Cert.AdamNormsIdeal.τ).loc Cert.AdamNormsIdeal.main_arg4) = m ((c.tc : Thread Cert.AdamNormsIdeal.nD Cert.AdamNormsIdeal.τ).loc Cert.AdamNormsIdeal.main_arg4)
      ∧ r.2.mem ((c.tc : Thread Cert.AdamNormsIdeal.nD Cert.AdamNormsIdeal.τ).loc Cert.AdamNormsIdeal.main_arg5) = m ((c.tc : Thread Cert.AdamNormsIdeal.nD Cert.AdamNormsIdeal.τ).loc Cert.AdamNormsIdeal.main_arg5)
      ∧ r.2.mem ((c.tc : Thread Cert.AdamNormsIdeal.nD Cert.AdamNormsIdeal.τ).loc Cert.AdamNormsIdeal.main_arg6) = m ((c.tc : Thread Cert.AdamNormsIdeal.nD Cert.AdamNormsIdeal.τ).loc Cert.AdamNormsIdeal.main_arg6)
      ∧ r.2.mem ((c.tc : Thread Cert.AdamNormsIdeal.nD Cert.AdamNormsIdeal.τ).loc Cert.AdamNormsIdeal.main_arg7) = m ((c.tc : Thread Cert.AdamNormsIdeal.nD Cert.AdamNormsIdeal.τ).loc Cert.AdamNormsIdeal.main_arg7)
      ∧ r.2.mem ((c.tc : Thread Cert.AdamNormsIdeal.nD Cert.AdamNormsIdeal.τ).loc Cert.AdamNormsIdeal.main_arg8) = m ((c.tc : Thread Cert.AdamNormsIdeal.nD Cert.AdamNormsIdeal.τ).loc Cert.AdamNormsIdeal.main_arg8)
      ∧ r.2.mem ((c.tc : Thread Cert.AdamNormsIdeal.nD Cert.AdamNormsIdeal.τ).loc Cert.AdamNormsIdeal.main_arg9) = m ((c.tc : Thread Cert.AdamNormsIdeal.nD Cert.AdamNormsIdeal.τ).loc Cert.AdamNormsIdeal.main_arg9)
      ∧ r.2.mem ((c.tc : Thread Cert.AdamNormsIdeal.nD Cert.AdamNormsIdeal.τ).loc Cert.AdamNormsIdeal.main_arg10) = m ((c.tc : Thread Cert.AdamNormsIdeal.nD Cert.AdamNormsIdeal.τ).loc Cert.AdamNormsIdeal.main_arg10))
      ∧ r.2.sem = fun _ => 0)

def quiescent_AdamNormsRefIdeal [hAdamNormsRefIdeal : Cert.AdamNormsRefIdeal.Facts] : Prop :=
  ∀ (m : (ℓ : Loc Cert.AdamNormsRefIdeal.nD Cert.AdamNormsRefIdeal.τ Cert.AdamNormsRefIdeal.sig) → Buf (Elt Ideal) ℓ) (g : Dev Cert.AdamNormsRefIdeal.nD → PrngReg), Pre_AdamNormsRefIdeal m →
    θ_run (Cert.AdamNormsRefIdeal.defs (F := Ideal)) (onTc (τ := Cert.AdamNormsRefIdeal.τ) (Cert.AdamNormsRefIdeal.main (F := Ideal))) ⟨m, fun _ => 0, g⟩ (fun r => (∀ c : Dev Cert.AdamNormsRefIdeal.nD,
      r.2.mem ((c.tc : Thread Cert.AdamNormsRefIdeal.nD Cert.AdamNormsRefIdeal.τ).loc Cert.AdamNormsRefIdeal.main_arg0) = m ((c.tc : Thread Cert.AdamNormsRefIdeal.nD Cert.AdamNormsRefIdeal.τ).loc Cert.AdamNormsRefIdeal.main_arg0)
      ∧ r.2.mem ((c.tc : Thread Cert.AdamNormsRefIdeal.nD Cert.AdamNormsRefIdeal.τ).loc Cert.AdamNormsRefIdeal.main_arg1) = m ((c.tc : Thread Cert.AdamNormsRefIdeal.nD Cert.AdamNormsRefIdeal.τ).loc Cert.AdamNormsRefIdeal.main_arg1)
      ∧ r.2.mem ((c.tc : Thread Cert.AdamNormsRefIdeal.nD Cert.AdamNormsRefIdeal.τ).loc Cert.AdamNormsRefIdeal.main_arg2) = m ((c.tc : Thread Cert.AdamNormsRefIdeal.nD Cert.AdamNormsRefIdeal.τ).loc Cert.AdamNormsRefIdeal.main_arg2)
      ∧ r.2.mem ((c.tc : Thread Cert.AdamNormsRefIdeal.nD Cert.AdamNormsRefIdeal.τ).loc Cert.AdamNormsRefIdeal.main_arg3) = m ((c.tc : Thread Cert.AdamNormsRefIdeal.nD Cert.AdamNormsRefIdeal.τ).loc Cert.AdamNormsRefIdeal.main_arg3)
      ∧ r.2.mem ((c.tc : Thread Cert.AdamNormsRefIdeal.nD Cert.AdamNormsRefIdeal.τ).loc Cert.AdamNormsRefIdeal.main_arg4) = m ((c.tc : Thread Cert.AdamNormsRefIdeal.nD Cert.AdamNormsRefIdeal.τ).loc Cert.AdamNormsRefIdeal.main_arg4)
      ∧ r.2.mem ((c.tc : Thread Cert.AdamNormsRefIdeal.nD Cert.AdamNormsRefIdeal.τ).loc Cert.AdamNormsRefIdeal.main_arg5) = m ((c.tc : Thread Cert.AdamNormsRefIdeal.nD Cert.AdamNormsRefIdeal.τ).loc Cert.AdamNormsRefIdeal.main_arg5)
      ∧ r.2.mem ((c.tc : Thread Cert.AdamNormsRefIdeal.nD Cert.AdamNormsRefIdeal.τ).loc Cert.AdamNormsRefIdeal.main_arg6) = m ((c.tc : Thread Cert.AdamNormsRefIdeal.nD Cert.AdamNormsRefIdeal.τ).loc Cert.AdamNormsRefIdeal.main_arg6)
      ∧ r.2.mem ((c.tc : Thread Cert.AdamNormsRefIdeal.nD Cert.AdamNormsRefIdeal.τ).loc Cert.AdamNormsRefIdeal.main_arg7) = m ((c.tc : Thread Cert.AdamNormsRefIdeal.nD Cert.AdamNormsRefIdeal.τ).loc Cert.AdamNormsRefIdeal.main_arg7)
      ∧ r.2.mem ((c.tc : Thread Cert.AdamNormsRefIdeal.nD Cert.AdamNormsRefIdeal.τ).loc Cert.AdamNormsRefIdeal.main_arg8) = m ((c.tc : Thread Cert.AdamNormsRefIdeal.nD Cert.AdamNormsRefIdeal.τ).loc Cert.AdamNormsRefIdeal.main_arg8)
      ∧ r.2.mem ((c.tc : Thread Cert.AdamNormsRefIdeal.nD Cert.AdamNormsRefIdeal.τ).loc Cert.AdamNormsRefIdeal.main_arg9) = m ((c.tc : Thread Cert.AdamNormsRefIdeal.nD Cert.AdamNormsRefIdeal.τ).loc Cert.AdamNormsRefIdeal.main_arg9)
      ∧ r.2.mem ((c.tc : Thread Cert.AdamNormsRefIdeal.nD Cert.AdamNormsRefIdeal.τ).loc Cert.AdamNormsRefIdeal.main_arg10) = m ((c.tc : Thread Cert.AdamNormsRefIdeal.nD Cert.AdamNormsRefIdeal.τ).loc Cert.AdamNormsRefIdeal.main_arg10))
      ∧ r.2.sem = fun _ => 0)

def quiescent_AdamNormsRefIdeal_pre_norms_on_the_mesh [hAdamNormsRefIdeal : Cert.AdamNormsRefIdeal.Facts] [hPre_norms_on_the_mesh : Cert.Pre_norms_on_the_mesh.Facts] : Prop :=
  ∀ (m : (ℓ : Loc Cert.AdamNormsRefIdeal.nD Cert.AdamNormsRefIdeal.τ Cert.AdamNormsRefIdeal.sig) → Buf (Elt Ideal) ℓ) (g : Dev Cert.AdamNormsRefIdeal.nD → PrngReg), Pre_AdamNormsRefIdeal_norms_on_the_mesh m →
    θ_run (Cert.AdamNormsRefIdeal.defs (F := Ideal)) (onTc (τ := Cert.AdamNormsRefIdeal.τ) (Cert.AdamNormsRefIdeal.main (F := Ideal))) ⟨m, fun _ => 0, g⟩ (fun r => (∀ c : Dev Cert.AdamNormsRefIdeal.nD,
      r.2.mem ((c.tc : Thread Cert.AdamNormsRefIdeal.nD Cert.AdamNormsRefIdeal.τ).loc Cert.AdamNormsRefIdeal.main_arg0) = m ((c.tc : Thread Cert.AdamNormsRefIdeal.nD Cert.AdamNormsRefIdeal.τ).loc Cert.AdamNormsRefIdeal.main_arg0)
      ∧ r.2.mem ((c.tc : Thread Cert.AdamNormsRefIdeal.nD Cert.AdamNormsRefIdeal.τ).loc Cert.AdamNormsRefIdeal.main_arg1) = m ((c.tc : Thread Cert.AdamNormsRefIdeal.nD Cert.AdamNormsRefIdeal.τ).loc Cert.AdamNormsRefIdeal.main_arg1)
      ∧ r.2.mem ((c.tc : Thread Cert.AdamNormsRefIdeal.nD Cert.AdamNormsRefIdeal.τ).loc Cert.AdamNormsRefIdeal.main_arg2) = m ((c.tc : Thread Cert.AdamNormsRefIdeal.nD Cert.AdamNormsRefIdeal.τ).loc Cert.AdamNormsRefIdeal.main_arg2)
      ∧ r.2.mem ((c.tc : Thread Cert.AdamNormsRefIdeal.nD Cert.AdamNormsRefIdeal.τ).loc Cert.AdamNormsRefIdeal.main_arg3) = m ((c.tc : Thread Cert.AdamNormsRefIdeal.nD Cert.AdamNormsRefIdeal.τ).loc Cert.AdamNormsRefIdeal.main_arg3)
      ∧ r.2.mem ((c.tc : Thread Cert.AdamNormsRefIdeal.nD Cert.AdamNormsRefIdeal.τ).loc Cert.AdamNormsRefIdeal.main_arg4) = m ((c.tc : Thread Cert.AdamNormsRefIdeal.nD Cert.AdamNormsRefIdeal.τ).loc Cert.AdamNormsRefIdeal.main_arg4)
      ∧ r.2.mem ((c.tc : Thread Cert.AdamNormsRefIdeal.nD Cert.AdamNormsRefIdeal.τ).loc Cert.AdamNormsRefIdeal.main_arg5) = m ((c.tc : Thread Cert.AdamNormsRefIdeal.nD Cert.AdamNormsRefIdeal.τ).loc Cert.AdamNormsRefIdeal.main_arg5)
      ∧ r.2.mem ((c.tc : Thread Cert.AdamNormsRefIdeal.nD Cert.AdamNormsRefIdeal.τ).loc Cert.AdamNormsRefIdeal.main_arg6) = m ((c.tc : Thread Cert.AdamNormsRefIdeal.nD Cert.AdamNormsRefIdeal.τ).loc Cert.AdamNormsRefIdeal.main_arg6)
      ∧ r.2.mem ((c.tc : Thread Cert.AdamNormsRefIdeal.nD Cert.AdamNormsRefIdeal.τ).loc Cert.AdamNormsRefIdeal.main_arg7) = m ((c.tc : Thread Cert.AdamNormsRefIdeal.nD Cert.AdamNormsRefIdeal.τ).loc Cert.AdamNormsRefIdeal.main_arg7)
      ∧ r.2.mem ((c.tc : Thread Cert.AdamNormsRefIdeal.nD Cert.AdamNormsRefIdeal.τ).loc Cert.AdamNormsRefIdeal.main_arg8) = m ((c.tc : Thread Cert.AdamNormsRefIdeal.nD Cert.AdamNormsRefIdeal.τ).loc Cert.AdamNormsRefIdeal.main_arg8)
      ∧ r.2.mem ((c.tc : Thread Cert.AdamNormsRefIdeal.nD Cert.AdamNormsRefIdeal.τ).loc Cert.AdamNormsRefIdeal.main_arg9) = m ((c.tc : Thread Cert.AdamNormsRefIdeal.nD Cert.AdamNormsRefIdeal.τ).loc Cert.AdamNormsRefIdeal.main_arg9)
      ∧ r.2.mem ((c.tc : Thread Cert.AdamNormsRefIdeal.nD Cert.AdamNormsRefIdeal.τ).loc Cert.AdamNormsRefIdeal.main_arg10) = m ((c.tc : Thread Cert.AdamNormsRefIdeal.nD Cert.AdamNormsRefIdeal.τ).loc Cert.AdamNormsRefIdeal.main_arg10))
      ∧ r.2.sem = fun _ => 0)

def quiescent_AdamGates [hAdamGates : Cert.AdamGates.Facts] [hPre_gates_on_the_mesh : Cert.Pre_gates_on_the_mesh.Facts] : Prop :=
  ∀ (m : (ℓ : Loc Cert.AdamGates.nD Cert.AdamGates.τ Cert.AdamGates.sig) → Buf (Elt Bits) ℓ) (g : Dev Cert.AdamGates.nD → PrngReg), Pre_AdamGates m →
    θ_run (Cert.AdamGates.defs (F := Bits)) (onTc (τ := Cert.AdamGates.τ) (Cert.AdamGates.main (F := Bits))) ⟨m, fun _ => 0, g⟩ (fun r => (∀ c : Dev Cert.AdamGates.nD,
      r.2.mem ((c.tc : Thread Cert.AdamGates.nD Cert.AdamGates.τ).loc Cert.AdamGates.main_arg0) = m ((c.tc : Thread Cert.AdamGates.nD Cert.AdamGates.τ).loc Cert.AdamGates.main_arg0)
      ∧ r.2.mem ((c.tc : Thread Cert.AdamGates.nD Cert.AdamGates.τ).loc Cert.AdamGates.main_arg1) = m ((c.tc : Thread Cert.AdamGates.nD Cert.AdamGates.τ).loc Cert.AdamGates.main_arg1)
      ∧ r.2.mem ((c.tc : Thread Cert.AdamGates.nD Cert.AdamGates.τ).loc Cert.AdamGates.main_arg2) = m ((c.tc : Thread Cert.AdamGates.nD Cert.AdamGates.τ).loc Cert.AdamGates.main_arg2)
      ∧ r.2.mem ((c.tc : Thread Cert.AdamGates.nD Cert.AdamGates.τ).loc Cert.AdamGates.main_arg3) = m ((c.tc : Thread Cert.AdamGates.nD Cert.AdamGates.τ).loc Cert.AdamGates.main_arg3)
      ∧ r.2.mem ((c.tc : Thread Cert.AdamGates.nD Cert.AdamGates.τ).loc Cert.AdamGates.main_arg4) = m ((c.tc : Thread Cert.AdamGates.nD Cert.AdamGates.τ).loc Cert.AdamGates.main_arg4)
      ∧ r.2.mem ((c.tc : Thread Cert.AdamGates.nD Cert.AdamGates.τ).loc Cert.AdamGates.main_arg5) = m ((c.tc : Thread Cert.AdamGates.nD Cert.AdamGates.τ).loc Cert.AdamGates.main_arg5)
      ∧ r.2.mem ((c.tc : Thread Cert.AdamGates.nD Cert.AdamGates.τ).loc Cert.AdamGates.main_arg6) = m ((c.tc : Thread Cert.AdamGates.nD Cert.AdamGates.τ).loc Cert.AdamGates.main_arg6)
      ∧ r.2.mem ((c.tc : Thread Cert.AdamGates.nD Cert.AdamGates.τ).loc Cert.AdamGates.main_arg7) = m ((c.tc : Thread Cert.AdamGates.nD Cert.AdamGates.τ).loc Cert.AdamGates.main_arg7)
      ∧ r.2.mem ((c.tc : Thread Cert.AdamGates.nD Cert.AdamGates.τ).loc Cert.AdamGates.main_arg8) = m ((c.tc : Thread Cert.AdamGates.nD Cert.AdamGates.τ).loc Cert.AdamGates.main_arg8)
      ∧ r.2.mem ((c.tc : Thread Cert.AdamGates.nD Cert.AdamGates.τ).loc Cert.AdamGates.main_arg9) = m ((c.tc : Thread Cert.AdamGates.nD Cert.AdamGates.τ).loc Cert.AdamGates.main_arg9)
      ∧ r.2.mem ((c.tc : Thread Cert.AdamGates.nD Cert.AdamGates.τ).loc Cert.AdamGates.main_arg10) = m ((c.tc : Thread Cert.AdamGates.nD Cert.AdamGates.τ).loc Cert.AdamGates.main_arg10))
      ∧ r.2.sem = fun _ => 0)

def quiescent_AdamGatesIdeal [hAdamGatesIdeal : Cert.AdamGatesIdeal.Facts] [hPre_gates_on_the_mesh : Cert.Pre_gates_on_the_mesh.Facts] : Prop :=
  ∀ (m : (ℓ : Loc Cert.AdamGatesIdeal.nD Cert.AdamGatesIdeal.τ Cert.AdamGatesIdeal.sig) → Buf (Elt Ideal) ℓ) (g : Dev Cert.AdamGatesIdeal.nD → PrngReg), Pre_AdamGatesIdeal m →
    θ_run (Cert.AdamGatesIdeal.defs (F := Ideal)) (onTc (τ := Cert.AdamGatesIdeal.τ) (Cert.AdamGatesIdeal.main (F := Ideal))) ⟨m, fun _ => 0, g⟩ (fun r => (∀ c : Dev Cert.AdamGatesIdeal.nD,
      r.2.mem ((c.tc : Thread Cert.AdamGatesIdeal.nD Cert.AdamGatesIdeal.τ).loc Cert.AdamGatesIdeal.main_arg0) = m ((c.tc : Thread Cert.AdamGatesIdeal.nD Cert.AdamGatesIdeal.τ).loc Cert.AdamGatesIdeal.main_arg0)
      ∧ r.2.mem ((c.tc : Thread Cert.AdamGatesIdeal.nD Cert.AdamGatesIdeal.τ).loc Cert.AdamGatesIdeal.main_arg1) = m ((c.tc : Thread Cert.AdamGatesIdeal.nD Cert.AdamGatesIdeal.τ).loc Cert.AdamGatesIdeal.main_arg1)
      ∧ r.2.mem ((c.tc : Thread Cert.AdamGatesIdeal.nD Cert.AdamGatesIdeal.τ).loc Cert.AdamGatesIdeal.main_arg2) = m ((c.tc : Thread Cert.AdamGatesIdeal.nD Cert.AdamGatesIdeal.τ).loc Cert.AdamGatesIdeal.main_arg2)
      ∧ r.2.mem ((c.tc : Thread Cert.AdamGatesIdeal.nD Cert.AdamGatesIdeal.τ).loc Cert.AdamGatesIdeal.main_arg3) = m ((c.tc : Thread Cert.AdamGatesIdeal.nD Cert.AdamGatesIdeal.τ).loc Cert.AdamGatesIdeal.main_arg3)
      ∧ r.2.mem ((c.tc : Thread Cert.AdamGatesIdeal.nD Cert.AdamGatesIdeal.τ).loc Cert.AdamGatesIdeal.main_arg4) = m ((c.tc : Thread Cert.AdamGatesIdeal.nD Cert.AdamGatesIdeal.τ).loc Cert.AdamGatesIdeal.main_arg4)
      ∧ r.2.mem ((c.tc : Thread Cert.AdamGatesIdeal.nD Cert.AdamGatesIdeal.τ).loc Cert.AdamGatesIdeal.main_arg5) = m ((c.tc : Thread Cert.AdamGatesIdeal.nD Cert.AdamGatesIdeal.τ).loc Cert.AdamGatesIdeal.main_arg5)
      ∧ r.2.mem ((c.tc : Thread Cert.AdamGatesIdeal.nD Cert.AdamGatesIdeal.τ).loc Cert.AdamGatesIdeal.main_arg6) = m ((c.tc : Thread Cert.AdamGatesIdeal.nD Cert.AdamGatesIdeal.τ).loc Cert.AdamGatesIdeal.main_arg6)
      ∧ r.2.mem ((c.tc : Thread Cert.AdamGatesIdeal.nD Cert.AdamGatesIdeal.τ).loc Cert.AdamGatesIdeal.main_arg7) = m ((c.tc : Thread Cert.AdamGatesIdeal.nD Cert.AdamGatesIdeal.τ).loc Cert.AdamGatesIdeal.main_arg7)
      ∧ r.2.mem ((c.tc : Thread Cert.AdamGatesIdeal.nD Cert.AdamGatesIdeal.τ).loc Cert.AdamGatesIdeal.main_arg8) = m ((c.tc : Thread Cert.AdamGatesIdeal.nD Cert.AdamGatesIdeal.τ).loc Cert.AdamGatesIdeal.main_arg8)
      ∧ r.2.mem ((c.tc : Thread Cert.AdamGatesIdeal.nD Cert.AdamGatesIdeal.τ).loc Cert.AdamGatesIdeal.main_arg9) = m ((c.tc : Thread Cert.AdamGatesIdeal.nD Cert.AdamGatesIdeal.τ).loc Cert.AdamGatesIdeal.main_arg9)
      ∧ r.2.mem ((c.tc : Thread Cert.AdamGatesIdeal.nD Cert.AdamGatesIdeal.τ).loc Cert.AdamGatesIdeal.main_arg10) = m ((c.tc : Thread Cert.AdamGatesIdeal.nD Cert.AdamGatesIdeal.τ).loc Cert.AdamGatesIdeal.main_arg10))
      ∧ r.2.sem = fun _ => 0)

def quiescent_AdamGatesRefIdeal [hAdamGatesRefIdeal : Cert.AdamGatesRefIdeal.Facts] : Prop :=
  ∀ (m : (ℓ : Loc Cert.AdamGatesRefIdeal.nD Cert.AdamGatesRefIdeal.τ Cert.AdamGatesRefIdeal.sig) → Buf (Elt Ideal) ℓ) (g : Dev Cert.AdamGatesRefIdeal.nD → PrngReg), Pre_AdamGatesRefIdeal m →
    θ_run (Cert.AdamGatesRefIdeal.defs (F := Ideal)) (onTc (τ := Cert.AdamGatesRefIdeal.τ) (Cert.AdamGatesRefIdeal.main (F := Ideal))) ⟨m, fun _ => 0, g⟩ (fun r => (∀ c : Dev Cert.AdamGatesRefIdeal.nD,
      r.2.mem ((c.tc : Thread Cert.AdamGatesRefIdeal.nD Cert.AdamGatesRefIdeal.τ).loc Cert.AdamGatesRefIdeal.main_arg0) = m ((c.tc : Thread Cert.AdamGatesRefIdeal.nD Cert.AdamGatesRefIdeal.τ).loc Cert.AdamGatesRefIdeal.main_arg0)
      ∧ r.2.mem ((c.tc : Thread Cert.AdamGatesRefIdeal.nD Cert.AdamGatesRefIdeal.τ).loc Cert.AdamGatesRefIdeal.main_arg1) = m ((c.tc : Thread Cert.AdamGatesRefIdeal.nD Cert.AdamGatesRefIdeal.τ).loc Cert.AdamGatesRefIdeal.main_arg1)
      ∧ r.2.mem ((c.tc : Thread Cert.AdamGatesRefIdeal.nD Cert.AdamGatesRefIdeal.τ).loc Cert.AdamGatesRefIdeal.main_arg2) = m ((c.tc : Thread Cert.AdamGatesRefIdeal.nD Cert.AdamGatesRefIdeal.τ).loc Cert.AdamGatesRefIdeal.main_arg2)
      ∧ r.2.mem ((c.tc : Thread Cert.AdamGatesRefIdeal.nD Cert.AdamGatesRefIdeal.τ).loc Cert.AdamGatesRefIdeal.main_arg3) = m ((c.tc : Thread Cert.AdamGatesRefIdeal.nD Cert.AdamGatesRefIdeal.τ).loc Cert.AdamGatesRefIdeal.main_arg3)
      ∧ r.2.mem ((c.tc : Thread Cert.AdamGatesRefIdeal.nD Cert.AdamGatesRefIdeal.τ).loc Cert.AdamGatesRefIdeal.main_arg4) = m ((c.tc : Thread Cert.AdamGatesRefIdeal.nD Cert.AdamGatesRefIdeal.τ).loc Cert.AdamGatesRefIdeal.main_arg4)
      ∧ r.2.mem ((c.tc : Thread Cert.AdamGatesRefIdeal.nD Cert.AdamGatesRefIdeal.τ).loc Cert.AdamGatesRefIdeal.main_arg5) = m ((c.tc : Thread Cert.AdamGatesRefIdeal.nD Cert.AdamGatesRefIdeal.τ).loc Cert.AdamGatesRefIdeal.main_arg5)
      ∧ r.2.mem ((c.tc : Thread Cert.AdamGatesRefIdeal.nD Cert.AdamGatesRefIdeal.τ).loc Cert.AdamGatesRefIdeal.main_arg6) = m ((c.tc : Thread Cert.AdamGatesRefIdeal.nD Cert.AdamGatesRefIdeal.τ).loc Cert.AdamGatesRefIdeal.main_arg6)
      ∧ r.2.mem ((c.tc : Thread Cert.AdamGatesRefIdeal.nD Cert.AdamGatesRefIdeal.τ).loc Cert.AdamGatesRefIdeal.main_arg7) = m ((c.tc : Thread Cert.AdamGatesRefIdeal.nD Cert.AdamGatesRefIdeal.τ).loc Cert.AdamGatesRefIdeal.main_arg7)
      ∧ r.2.mem ((c.tc : Thread Cert.AdamGatesRefIdeal.nD Cert.AdamGatesRefIdeal.τ).loc Cert.AdamGatesRefIdeal.main_arg8) = m ((c.tc : Thread Cert.AdamGatesRefIdeal.nD Cert.AdamGatesRefIdeal.τ).loc Cert.AdamGatesRefIdeal.main_arg8)
      ∧ r.2.mem ((c.tc : Thread Cert.AdamGatesRefIdeal.nD Cert.AdamGatesRefIdeal.τ).loc Cert.AdamGatesRefIdeal.main_arg9) = m ((c.tc : Thread Cert.AdamGatesRefIdeal.nD Cert.AdamGatesRefIdeal.τ).loc Cert.AdamGatesRefIdeal.main_arg9)
      ∧ r.2.mem ((c.tc : Thread Cert.AdamGatesRefIdeal.nD Cert.AdamGatesRefIdeal.τ).loc Cert.AdamGatesRefIdeal.main_arg10) = m ((c.tc : Thread Cert.AdamGatesRefIdeal.nD Cert.AdamGatesRefIdeal.τ).loc Cert.AdamGatesRefIdeal.main_arg10))
      ∧ r.2.sem = fun _ => 0)

def quiescent_AdamGatesRefIdeal_pre_gates_on_the_mesh [hAdamGatesRefIdeal : Cert.AdamGatesRefIdeal.Facts] [hPre_gates_on_the_mesh : Cert.Pre_gates_on_the_mesh.Facts] : Prop :=
  ∀ (m : (ℓ : Loc Cert.AdamGatesRefIdeal.nD Cert.AdamGatesRefIdeal.τ Cert.AdamGatesRefIdeal.sig) → Buf (Elt Ideal) ℓ) (g : Dev Cert.AdamGatesRefIdeal.nD → PrngReg), Pre_AdamGatesRefIdeal_gates_on_the_mesh m →
    θ_run (Cert.AdamGatesRefIdeal.defs (F := Ideal)) (onTc (τ := Cert.AdamGatesRefIdeal.τ) (Cert.AdamGatesRefIdeal.main (F := Ideal))) ⟨m, fun _ => 0, g⟩ (fun r => (∀ c : Dev Cert.AdamGatesRefIdeal.nD,
      r.2.mem ((c.tc : Thread Cert.AdamGatesRefIdeal.nD Cert.AdamGatesRefIdeal.τ).loc Cert.AdamGatesRefIdeal.main_arg0) = m ((c.tc : Thread Cert.AdamGatesRefIdeal.nD Cert.AdamGatesRefIdeal.τ).loc Cert.AdamGatesRefIdeal.main_arg0)
      ∧ r.2.mem ((c.tc : Thread Cert.AdamGatesRefIdeal.nD Cert.AdamGatesRefIdeal.τ).loc Cert.AdamGatesRefIdeal.main_arg1) = m ((c.tc : Thread Cert.AdamGatesRefIdeal.nD Cert.AdamGatesRefIdeal.τ).loc Cert.AdamGatesRefIdeal.main_arg1)
      ∧ r.2.mem ((c.tc : Thread Cert.AdamGatesRefIdeal.nD Cert.AdamGatesRefIdeal.τ).loc Cert.AdamGatesRefIdeal.main_arg2) = m ((c.tc : Thread Cert.AdamGatesRefIdeal.nD Cert.AdamGatesRefIdeal.τ).loc Cert.AdamGatesRefIdeal.main_arg2)
      ∧ r.2.mem ((c.tc : Thread Cert.AdamGatesRefIdeal.nD Cert.AdamGatesRefIdeal.τ).loc Cert.AdamGatesRefIdeal.main_arg3) = m ((c.tc : Thread Cert.AdamGatesRefIdeal.nD Cert.AdamGatesRefIdeal.τ).loc Cert.AdamGatesRefIdeal.main_arg3)
      ∧ r.2.mem ((c.tc : Thread Cert.AdamGatesRefIdeal.nD Cert.AdamGatesRefIdeal.τ).loc Cert.AdamGatesRefIdeal.main_arg4) = m ((c.tc : Thread Cert.AdamGatesRefIdeal.nD Cert.AdamGatesRefIdeal.τ).loc Cert.AdamGatesRefIdeal.main_arg4)
      ∧ r.2.mem ((c.tc : Thread Cert.AdamGatesRefIdeal.nD Cert.AdamGatesRefIdeal.τ).loc Cert.AdamGatesRefIdeal.main_arg5) = m ((c.tc : Thread Cert.AdamGatesRefIdeal.nD Cert.AdamGatesRefIdeal.τ).loc Cert.AdamGatesRefIdeal.main_arg5)
      ∧ r.2.mem ((c.tc : Thread Cert.AdamGatesRefIdeal.nD Cert.AdamGatesRefIdeal.τ).loc Cert.AdamGatesRefIdeal.main_arg6) = m ((c.tc : Thread Cert.AdamGatesRefIdeal.nD Cert.AdamGatesRefIdeal.τ).loc Cert.AdamGatesRefIdeal.main_arg6)
      ∧ r.2.mem ((c.tc : Thread Cert.AdamGatesRefIdeal.nD Cert.AdamGatesRefIdeal.τ).loc Cert.AdamGatesRefIdeal.main_arg7) = m ((c.tc : Thread Cert.AdamGatesRefIdeal.nD Cert.AdamGatesRefIdeal.τ).loc Cert.AdamGatesRefIdeal.main_arg7)
      ∧ r.2.mem ((c.tc : Thread Cert.AdamGatesRefIdeal.nD Cert.AdamGatesRefIdeal.τ).loc Cert.AdamGatesRefIdeal.main_arg8) = m ((c.tc : Thread Cert.AdamGatesRefIdeal.nD Cert.AdamGatesRefIdeal.τ).loc Cert.AdamGatesRefIdeal.main_arg8)
      ∧ r.2.mem ((c.tc : Thread Cert.AdamGatesRefIdeal.nD Cert.AdamGatesRefIdeal.τ).loc Cert.AdamGatesRefIdeal.main_arg9) = m ((c.tc : Thread Cert.AdamGatesRefIdeal.nD Cert.AdamGatesRefIdeal.τ).loc Cert.AdamGatesRefIdeal.main_arg9)
      ∧ r.2.mem ((c.tc : Thread Cert.AdamGatesRefIdeal.nD Cert.AdamGatesRefIdeal.τ).loc Cert.AdamGatesRefIdeal.main_arg10) = m ((c.tc : Thread Cert.AdamGatesRefIdeal.nD Cert.AdamGatesRefIdeal.τ).loc Cert.AdamGatesRefIdeal.main_arg10))
      ∧ r.2.sem = fun _ => 0)

def quiescent_AdamConvs [hAdamConvs : Cert.AdamConvs.Facts] [hPre_convs_on_the_mesh : Cert.Pre_convs_on_the_mesh.Facts] : Prop :=
  ∀ (m : (ℓ : Loc Cert.AdamConvs.nD Cert.AdamConvs.τ Cert.AdamConvs.sig) → Buf (Elt Bits) ℓ) (g : Dev Cert.AdamConvs.nD → PrngReg), Pre_AdamConvs m →
    θ_run (Cert.AdamConvs.defs (F := Bits)) (onTc (τ := Cert.AdamConvs.τ) (Cert.AdamConvs.main (F := Bits))) ⟨m, fun _ => 0, g⟩ (fun r => (∀ c : Dev Cert.AdamConvs.nD,
      r.2.mem ((c.tc : Thread Cert.AdamConvs.nD Cert.AdamConvs.τ).loc Cert.AdamConvs.main_arg0) = m ((c.tc : Thread Cert.AdamConvs.nD Cert.AdamConvs.τ).loc Cert.AdamConvs.main_arg0)
      ∧ r.2.mem ((c.tc : Thread Cert.AdamConvs.nD Cert.AdamConvs.τ).loc Cert.AdamConvs.main_arg1) = m ((c.tc : Thread Cert.AdamConvs.nD Cert.AdamConvs.τ).loc Cert.AdamConvs.main_arg1)
      ∧ r.2.mem ((c.tc : Thread Cert.AdamConvs.nD Cert.AdamConvs.τ).loc Cert.AdamConvs.main_arg2) = m ((c.tc : Thread Cert.AdamConvs.nD Cert.AdamConvs.τ).loc Cert.AdamConvs.main_arg2)
      ∧ r.2.mem ((c.tc : Thread Cert.AdamConvs.nD Cert.AdamConvs.τ).loc Cert.AdamConvs.main_arg3) = m ((c.tc : Thread Cert.AdamConvs.nD Cert.AdamConvs.τ).loc Cert.AdamConvs.main_arg3)
      ∧ r.2.mem ((c.tc : Thread Cert.AdamConvs.nD Cert.AdamConvs.τ).loc Cert.AdamConvs.main_arg4) = m ((c.tc : Thread Cert.AdamConvs.nD Cert.AdamConvs.τ).loc Cert.AdamConvs.main_arg4)
      ∧ r.2.mem ((c.tc : Thread Cert.AdamConvs.nD Cert.AdamConvs.τ).loc Cert.AdamConvs.main_arg5) = m ((c.tc : Thread Cert.AdamConvs.nD Cert.AdamConvs.τ).loc Cert.AdamConvs.main_arg5)
      ∧ r.2.mem ((c.tc : Thread Cert.AdamConvs.nD Cert.AdamConvs.τ).loc Cert.AdamConvs.main_arg6) = m ((c.tc : Thread Cert.AdamConvs.nD Cert.AdamConvs.τ).loc Cert.AdamConvs.main_arg6)
      ∧ r.2.mem ((c.tc : Thread Cert.AdamConvs.nD Cert.AdamConvs.τ).loc Cert.AdamConvs.main_arg7) = m ((c.tc : Thread Cert.AdamConvs.nD Cert.AdamConvs.τ).loc Cert.AdamConvs.main_arg7)
      ∧ r.2.mem ((c.tc : Thread Cert.AdamConvs.nD Cert.AdamConvs.τ).loc Cert.AdamConvs.main_arg8) = m ((c.tc : Thread Cert.AdamConvs.nD Cert.AdamConvs.τ).loc Cert.AdamConvs.main_arg8)
      ∧ r.2.mem ((c.tc : Thread Cert.AdamConvs.nD Cert.AdamConvs.τ).loc Cert.AdamConvs.main_arg9) = m ((c.tc : Thread Cert.AdamConvs.nD Cert.AdamConvs.τ).loc Cert.AdamConvs.main_arg9)
      ∧ r.2.mem ((c.tc : Thread Cert.AdamConvs.nD Cert.AdamConvs.τ).loc Cert.AdamConvs.main_arg10) = m ((c.tc : Thread Cert.AdamConvs.nD Cert.AdamConvs.τ).loc Cert.AdamConvs.main_arg10))
      ∧ r.2.sem = fun _ => 0)

def quiescent_AdamConvsIdeal [hAdamConvsIdeal : Cert.AdamConvsIdeal.Facts] [hPre_convs_on_the_mesh : Cert.Pre_convs_on_the_mesh.Facts] : Prop :=
  ∀ (m : (ℓ : Loc Cert.AdamConvsIdeal.nD Cert.AdamConvsIdeal.τ Cert.AdamConvsIdeal.sig) → Buf (Elt Ideal) ℓ) (g : Dev Cert.AdamConvsIdeal.nD → PrngReg), Pre_AdamConvsIdeal m →
    θ_run (Cert.AdamConvsIdeal.defs (F := Ideal)) (onTc (τ := Cert.AdamConvsIdeal.τ) (Cert.AdamConvsIdeal.main (F := Ideal))) ⟨m, fun _ => 0, g⟩ (fun r => (∀ c : Dev Cert.AdamConvsIdeal.nD,
      r.2.mem ((c.tc : Thread Cert.AdamConvsIdeal.nD Cert.AdamConvsIdeal.τ).loc Cert.AdamConvsIdeal.main_arg0) = m ((c.tc : Thread Cert.AdamConvsIdeal.nD Cert.AdamConvsIdeal.τ).loc Cert.AdamConvsIdeal.main_arg0)
      ∧ r.2.mem ((c.tc : Thread Cert.AdamConvsIdeal.nD Cert.AdamConvsIdeal.τ).loc Cert.AdamConvsIdeal.main_arg1) = m ((c.tc : Thread Cert.AdamConvsIdeal.nD Cert.AdamConvsIdeal.τ).loc Cert.AdamConvsIdeal.main_arg1)
      ∧ r.2.mem ((c.tc : Thread Cert.AdamConvsIdeal.nD Cert.AdamConvsIdeal.τ).loc Cert.AdamConvsIdeal.main_arg2) = m ((c.tc : Thread Cert.AdamConvsIdeal.nD Cert.AdamConvsIdeal.τ).loc Cert.AdamConvsIdeal.main_arg2)
      ∧ r.2.mem ((c.tc : Thread Cert.AdamConvsIdeal.nD Cert.AdamConvsIdeal.τ).loc Cert.AdamConvsIdeal.main_arg3) = m ((c.tc : Thread Cert.AdamConvsIdeal.nD Cert.AdamConvsIdeal.τ).loc Cert.AdamConvsIdeal.main_arg3)
      ∧ r.2.mem ((c.tc : Thread Cert.AdamConvsIdeal.nD Cert.AdamConvsIdeal.τ).loc Cert.AdamConvsIdeal.main_arg4) = m ((c.tc : Thread Cert.AdamConvsIdeal.nD Cert.AdamConvsIdeal.τ).loc Cert.AdamConvsIdeal.main_arg4)
      ∧ r.2.mem ((c.tc : Thread Cert.AdamConvsIdeal.nD Cert.AdamConvsIdeal.τ).loc Cert.AdamConvsIdeal.main_arg5) = m ((c.tc : Thread Cert.AdamConvsIdeal.nD Cert.AdamConvsIdeal.τ).loc Cert.AdamConvsIdeal.main_arg5)
      ∧ r.2.mem ((c.tc : Thread Cert.AdamConvsIdeal.nD Cert.AdamConvsIdeal.τ).loc Cert.AdamConvsIdeal.main_arg6) = m ((c.tc : Thread Cert.AdamConvsIdeal.nD Cert.AdamConvsIdeal.τ).loc Cert.AdamConvsIdeal.main_arg6)
      ∧ r.2.mem ((c.tc : Thread Cert.AdamConvsIdeal.nD Cert.AdamConvsIdeal.τ).loc Cert.AdamConvsIdeal.main_arg7) = m ((c.tc : Thread Cert.AdamConvsIdeal.nD Cert.AdamConvsIdeal.τ).loc Cert.AdamConvsIdeal.main_arg7)
      ∧ r.2.mem ((c.tc : Thread Cert.AdamConvsIdeal.nD Cert.AdamConvsIdeal.τ).loc Cert.AdamConvsIdeal.main_arg8) = m ((c.tc : Thread Cert.AdamConvsIdeal.nD Cert.AdamConvsIdeal.τ).loc Cert.AdamConvsIdeal.main_arg8)
      ∧ r.2.mem ((c.tc : Thread Cert.AdamConvsIdeal.nD Cert.AdamConvsIdeal.τ).loc Cert.AdamConvsIdeal.main_arg9) = m ((c.tc : Thread Cert.AdamConvsIdeal.nD Cert.AdamConvsIdeal.τ).loc Cert.AdamConvsIdeal.main_arg9)
      ∧ r.2.mem ((c.tc : Thread Cert.AdamConvsIdeal.nD Cert.AdamConvsIdeal.τ).loc Cert.AdamConvsIdeal.main_arg10) = m ((c.tc : Thread Cert.AdamConvsIdeal.nD Cert.AdamConvsIdeal.τ).loc Cert.AdamConvsIdeal.main_arg10))
      ∧ r.2.sem = fun _ => 0)

def quiescent_AdamConvsRefIdeal [hAdamConvsRefIdeal : Cert.AdamConvsRefIdeal.Facts] : Prop :=
  ∀ (m : (ℓ : Loc Cert.AdamConvsRefIdeal.nD Cert.AdamConvsRefIdeal.τ Cert.AdamConvsRefIdeal.sig) → Buf (Elt Ideal) ℓ) (g : Dev Cert.AdamConvsRefIdeal.nD → PrngReg), Pre_AdamConvsRefIdeal m →
    θ_run (Cert.AdamConvsRefIdeal.defs (F := Ideal)) (onTc (τ := Cert.AdamConvsRefIdeal.τ) (Cert.AdamConvsRefIdeal.main (F := Ideal))) ⟨m, fun _ => 0, g⟩ (fun r => (∀ c : Dev Cert.AdamConvsRefIdeal.nD,
      r.2.mem ((c.tc : Thread Cert.AdamConvsRefIdeal.nD Cert.AdamConvsRefIdeal.τ).loc Cert.AdamConvsRefIdeal.main_arg0) = m ((c.tc : Thread Cert.AdamConvsRefIdeal.nD Cert.AdamConvsRefIdeal.τ).loc Cert.AdamConvsRefIdeal.main_arg0)
      ∧ r.2.mem ((c.tc : Thread Cert.AdamConvsRefIdeal.nD Cert.AdamConvsRefIdeal.τ).loc Cert.AdamConvsRefIdeal.main_arg1) = m ((c.tc : Thread Cert.AdamConvsRefIdeal.nD Cert.AdamConvsRefIdeal.τ).loc Cert.AdamConvsRefIdeal.main_arg1)
      ∧ r.2.mem ((c.tc : Thread Cert.AdamConvsRefIdeal.nD Cert.AdamConvsRefIdeal.τ).loc Cert.AdamConvsRefIdeal.main_arg2) = m ((c.tc : Thread Cert.AdamConvsRefIdeal.nD Cert.AdamConvsRefIdeal.τ).loc Cert.AdamConvsRefIdeal.main_arg2)
      ∧ r.2.mem ((c.tc : Thread Cert.AdamConvsRefIdeal.nD Cert.AdamConvsRefIdeal.τ).loc Cert.AdamConvsRefIdeal.main_arg3) = m ((c.tc : Thread Cert.AdamConvsRefIdeal.nD Cert.AdamConvsRefIdeal.τ).loc Cert.AdamConvsRefIdeal.main_arg3)
      ∧ r.2.mem ((c.tc : Thread Cert.AdamConvsRefIdeal.nD Cert.AdamConvsRefIdeal.τ).loc Cert.AdamConvsRefIdeal.main_arg4) = m ((c.tc : Thread Cert.AdamConvsRefIdeal.nD Cert.AdamConvsRefIdeal.τ).loc Cert.AdamConvsRefIdeal.main_arg4)
      ∧ r.2.mem ((c.tc : Thread Cert.AdamConvsRefIdeal.nD Cert.AdamConvsRefIdeal.τ).loc Cert.AdamConvsRefIdeal.main_arg5) = m ((c.tc : Thread Cert.AdamConvsRefIdeal.nD Cert.AdamConvsRefIdeal.τ).loc Cert.AdamConvsRefIdeal.main_arg5)
      ∧ r.2.mem ((c.tc : Thread Cert.AdamConvsRefIdeal.nD Cert.AdamConvsRefIdeal.τ).loc Cert.AdamConvsRefIdeal.main_arg6) = m ((c.tc : Thread Cert.AdamConvsRefIdeal.nD Cert.AdamConvsRefIdeal.τ).loc Cert.AdamConvsRefIdeal.main_arg6)
      ∧ r.2.mem ((c.tc : Thread Cert.AdamConvsRefIdeal.nD Cert.AdamConvsRefIdeal.τ).loc Cert.AdamConvsRefIdeal.main_arg7) = m ((c.tc : Thread Cert.AdamConvsRefIdeal.nD Cert.AdamConvsRefIdeal.τ).loc Cert.AdamConvsRefIdeal.main_arg7)
      ∧ r.2.mem ((c.tc : Thread Cert.AdamConvsRefIdeal.nD Cert.AdamConvsRefIdeal.τ).loc Cert.AdamConvsRefIdeal.main_arg8) = m ((c.tc : Thread Cert.AdamConvsRefIdeal.nD Cert.AdamConvsRefIdeal.τ).loc Cert.AdamConvsRefIdeal.main_arg8)
      ∧ r.2.mem ((c.tc : Thread Cert.AdamConvsRefIdeal.nD Cert.AdamConvsRefIdeal.τ).loc Cert.AdamConvsRefIdeal.main_arg9) = m ((c.tc : Thread Cert.AdamConvsRefIdeal.nD Cert.AdamConvsRefIdeal.τ).loc Cert.AdamConvsRefIdeal.main_arg9)
      ∧ r.2.mem ((c.tc : Thread Cert.AdamConvsRefIdeal.nD Cert.AdamConvsRefIdeal.τ).loc Cert.AdamConvsRefIdeal.main_arg10) = m ((c.tc : Thread Cert.AdamConvsRefIdeal.nD Cert.AdamConvsRefIdeal.τ).loc Cert.AdamConvsRefIdeal.main_arg10))
      ∧ r.2.sem = fun _ => 0)

def quiescent_AdamConvsRefIdeal_pre_convs_on_the_mesh [hAdamConvsRefIdeal : Cert.AdamConvsRefIdeal.Facts] [hPre_convs_on_the_mesh : Cert.Pre_convs_on_the_mesh.Facts] : Prop :=
  ∀ (m : (ℓ : Loc Cert.AdamConvsRefIdeal.nD Cert.AdamConvsRefIdeal.τ Cert.AdamConvsRefIdeal.sig) → Buf (Elt Ideal) ℓ) (g : Dev Cert.AdamConvsRefIdeal.nD → PrngReg), Pre_AdamConvsRefIdeal_convs_on_the_mesh m →
    θ_run (Cert.AdamConvsRefIdeal.defs (F := Ideal)) (onTc (τ := Cert.AdamConvsRefIdeal.τ) (Cert.AdamConvsRefIdeal.main (F := Ideal))) ⟨m, fun _ => 0, g⟩ (fun r => (∀ c : Dev Cert.AdamConvsRefIdeal.nD,
      r.2.mem ((c.tc : Thread Cert.AdamConvsRefIdeal.nD Cert.AdamConvsRefIdeal.τ).loc Cert.AdamConvsRefIdeal.main_arg0) = m ((c.tc : Thread Cert.AdamConvsRefIdeal.nD Cert.AdamConvsRefIdeal.τ).loc Cert.AdamConvsRefIdeal.main_arg0)
      ∧ r.2.mem ((c.tc : Thread Cert.AdamConvsRefIdeal.nD Cert.AdamConvsRefIdeal.τ).loc Cert.AdamConvsRefIdeal.main_arg1) = m ((c.tc : Thread Cert.AdamConvsRefIdeal.nD Cert.AdamConvsRefIdeal.τ).loc Cert.AdamConvsRefIdeal.main_arg1)
      ∧ r.2.mem ((c.tc : Thread Cert.AdamConvsRefIdeal.nD Cert.AdamConvsRefIdeal.τ).loc Cert.AdamConvsRefIdeal.main_arg2) = m ((c.tc : Thread Cert.AdamConvsRefIdeal.nD Cert.AdamConvsRefIdeal.τ).loc Cert.AdamConvsRefIdeal.main_arg2)
      ∧ r.2.mem ((c.tc : Thread Cert.AdamConvsRefIdeal.nD Cert.AdamConvsRefIdeal.τ).loc Cert.AdamConvsRefIdeal.main_arg3) = m ((c.tc : Thread Cert.AdamConvsRefIdeal.nD Cert.AdamConvsRefIdeal.τ).loc Cert.AdamConvsRefIdeal.main_arg3)
      ∧ r.2.mem ((c.tc : Thread Cert.AdamConvsRefIdeal.nD Cert.AdamConvsRefIdeal.τ).loc Cert.AdamConvsRefIdeal.main_arg4) = m ((c.tc : Thread Cert.AdamConvsRefIdeal.nD Cert.AdamConvsRefIdeal.τ).loc Cert.AdamConvsRefIdeal.main_arg4)
      ∧ r.2.mem ((c.tc : Thread Cert.AdamConvsRefIdeal.nD Cert.AdamConvsRefIdeal.τ).loc Cert.AdamConvsRefIdeal.main_arg5) = m ((c.tc : Thread Cert.AdamConvsRefIdeal.nD Cert.AdamConvsRefIdeal.τ).loc Cert.AdamConvsRefIdeal.main_arg5)
      ∧ r.2.mem ((c.tc : Thread Cert.AdamConvsRefIdeal.nD Cert.AdamConvsRefIdeal.τ).loc Cert.AdamConvsRefIdeal.main_arg6) = m ((c.tc : Thread Cert.AdamConvsRefIdeal.nD Cert.AdamConvsRefIdeal.τ).loc Cert.AdamConvsRefIdeal.main_arg6)
      ∧ r.2.mem ((c.tc : Thread Cert.AdamConvsRefIdeal.nD Cert.AdamConvsRefIdeal.τ).loc Cert.AdamConvsRefIdeal.main_arg7) = m ((c.tc : Thread Cert.AdamConvsRefIdeal.nD Cert.AdamConvsRefIdeal.τ).loc Cert.AdamConvsRefIdeal.main_arg7)
      ∧ r.2.mem ((c.tc : Thread Cert.AdamConvsRefIdeal.nD Cert.AdamConvsRefIdeal.τ).loc Cert.AdamConvsRefIdeal.main_arg8) = m ((c.tc : Thread Cert.AdamConvsRefIdeal.nD Cert.AdamConvsRefIdeal.τ).loc Cert.AdamConvsRefIdeal.main_arg8)
      ∧ r.2.mem ((c.tc : Thread Cert.AdamConvsRefIdeal.nD Cert.AdamConvsRefIdeal.τ).loc Cert.AdamConvsRefIdeal.main_arg9) = m ((c.tc : Thread Cert.AdamConvsRefIdeal.nD Cert.AdamConvsRefIdeal.τ).loc Cert.AdamConvsRefIdeal.main_arg9)
      ∧ r.2.mem ((c.tc : Thread Cert.AdamConvsRefIdeal.nD Cert.AdamConvsRefIdeal.τ).loc Cert.AdamConvsRefIdeal.main_arg10) = m ((c.tc : Thread Cert.AdamConvsRefIdeal.nD Cert.AdamConvsRefIdeal.τ).loc Cert.AdamConvsRefIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v52_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v4) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v2) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v4) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v3) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v3) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v3) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_SquareDw_SquareDwIdeal : Prop :=
  True

def algebraic_SquareDwIdeal_SquareDwRefIdeal [hSquareDwIdeal : Cert.SquareDwIdeal.Facts] [hSquareDwRefIdeal : Cert.SquareDwRefIdeal.Facts] : Prop :=
  ∀ (m : (ℓ : Loc Cert.SquareDwIdeal.nD Cert.SquareDwIdeal.τ Cert.SquareDwIdeal.sig) → Buf (Elt Ideal) ℓ) (g : Dev Cert.SquareDwIdeal.nD → PrngReg)
    (m' : (ℓ : Loc Cert.SquareDwRefIdeal.nD Cert.SquareDwRefIdeal.τ Cert.SquareDwRefIdeal.sig) → Buf (Elt Ideal) ℓ) (g' : Dev Cert.SquareDwRefIdeal.nD → PrngReg), Pre_SquareDwIdeal m →
    (∀ c : Dev Cert.SquareDwIdeal.nD,
      m' ((c.tc : Thread Cert.SquareDwRefIdeal.nD Cert.SquareDwRefIdeal.τ).loc Cert.SquareDwRefIdeal.main_arg0) = m ((c.tc : Thread Cert.SquareDwIdeal.nD Cert.SquareDwIdeal.τ).loc Cert.SquareDwIdeal.main_arg0)
      ∧ m' ((c.tc : Thread Cert.SquareDwRefIdeal.nD Cert.SquareDwRefIdeal.τ).loc Cert.SquareDwRefIdeal.main_arg1) = m ((c.tc : Thread Cert.SquareDwIdeal.nD Cert.SquareDwIdeal.τ).loc Cert.SquareDwIdeal.main_arg1)) →
    ∃ (v0 : (c : Dev Cert.SquareDwIdeal.nD) → Buf (Elt Ideal) ((c.tc : Thread Cert.SquareDwIdeal.nD Cert.SquareDwIdeal.τ).loc Cert.SquareDwIdeal.main_v0)),
      θ_run (Cert.SquareDwIdeal.defs (F := Ideal)) (onTc (τ := Cert.SquareDwIdeal.τ) (Cert.SquareDwIdeal.main (F := Ideal))) ⟨m, fun _ => 0, g⟩ (fun r => ∀ c : Dev Cert.SquareDwIdeal.nD,
          r.2.mem ((c.tc : Thread Cert.SquareDwIdeal.nD Cert.SquareDwIdeal.τ).loc Cert.SquareDwIdeal.main_v0) = v0 c
          ∧ r.2.mem ((c.tc : Thread Cert.SquareDwIdeal.nD Cert.SquareDwIdeal.τ).loc Cert.SquareDwIdeal.main_arg0) = m ((c.tc : Thread Cert.SquareDwIdeal.nD Cert.SquareDwIdeal.τ).loc Cert.SquareDwIdeal.main_arg0)
          ∧ r.2.mem ((c.tc : Thread Cert.SquareDwIdeal.nD Cert.SquareDwIdeal.τ).loc Cert.SquareDwIdeal.main_arg1) = m ((c.tc : Thread Cert.SquareDwIdeal.nD Cert.SquareDwIdeal.τ).loc Cert.SquareDwIdeal.main_arg1))
      ∧ θ_run (Cert.SquareDwRefIdeal.defs (F := Ideal)) (onTc (τ := Cert.SquareDwRefIdeal.τ) (Cert.SquareDwRefIdeal.main (F := Ideal))) ⟨m', fun _ => 0, g'⟩ (fun r => ∀ c : Dev Cert.SquareDwRefIdeal.nD,
          r.2.mem ((c.tc : Thread Cert.SquareDwRefIdeal.nD Cert.SquareDwRefIdeal.τ).loc Cert.SquareDwRefIdeal.main_v3) = v0 c
          ∧ r.2.mem ((c.tc : Thread Cert.SquareDwRefIdeal.nD Cert.SquareDwRefIdeal.τ).loc Cert.SquareDwRefIdeal.main_arg0) = m' ((c.tc : Thread Cert.SquareDwRefIdeal.nD Cert.SquareDwRefIdeal.τ).loc Cert.SquareDwRefIdeal.main_arg0)
          ∧ r.2.mem ((c.tc : Thread Cert.SquareDwRefIdeal.nD Cert.SquareDwRefIdeal.τ).loc Cert.SquareDwRefIdeal.main_arg1) = m' ((c.tc : Thread Cert.SquareDwRefIdeal.nD Cert.SquareDwRefIdeal.τ).loc Cert.SquareDwRefIdeal.main_arg1))

def preserves_SquareDx_SquareDxIdeal : Prop :=
  True

def algebraic_SquareDxIdeal_SquareDxRefIdeal [hSquareDxIdeal : Cert.SquareDxIdeal.Facts] [hSquareDxRefIdeal : Cert.SquareDxRefIdeal.Facts] : Prop :=
  ∀ (m : (ℓ : Loc Cert.SquareDxIdeal.nD Cert.SquareDxIdeal.τ Cert.SquareDxIdeal.sig) → Buf (Elt Ideal) ℓ) (g : Dev Cert.SquareDxIdeal.nD → PrngReg)
    (m' : (ℓ : Loc Cert.SquareDxRefIdeal.nD Cert.SquareDxRefIdeal.τ Cert.SquareDxRefIdeal.sig) → Buf (Elt Ideal) ℓ) (g' : Dev Cert.SquareDxRefIdeal.nD → PrngReg), Pre_SquareDxIdeal m →
    (∀ c : Dev Cert.SquareDxIdeal.nD,
      m' ((c.tc : Thread Cert.SquareDxRefIdeal.nD Cert.SquareDxRefIdeal.τ).loc Cert.SquareDxRefIdeal.main_arg0) = m ((c.tc : Thread Cert.SquareDxIdeal.nD Cert.SquareDxIdeal.τ).loc Cert.SquareDxIdeal.main_arg0)
      ∧ m' ((c.tc : Thread Cert.SquareDxRefIdeal.nD Cert.SquareDxRefIdeal.τ).loc Cert.SquareDxRefIdeal.main_arg1) = m ((c.tc : Thread Cert.SquareDxIdeal.nD Cert.SquareDxIdeal.τ).loc Cert.SquareDxIdeal.main_arg1)) →
    ∃ (v0 : (c : Dev Cert.SquareDxIdeal.nD) → Buf (Elt Ideal) ((c.tc : Thread Cert.SquareDxIdeal.nD Cert.SquareDxIdeal.τ).loc Cert.SquareDxIdeal.main_v0)),
      θ_run (Cert.SquareDxIdeal.defs (F := Ideal)) (onTc (τ := Cert.SquareDxIdeal.τ) (Cert.SquareDxIdeal.main (F := Ideal))) ⟨m, fun _ => 0, g⟩ (fun r => ∀ c : Dev Cert.SquareDxIdeal.nD,
          r.2.mem ((c.tc : Thread Cert.SquareDxIdeal.nD Cert.SquareDxIdeal.τ).loc Cert.SquareDxIdeal.main_v0) = v0 c
          ∧ r.2.mem ((c.tc : Thread Cert.SquareDxIdeal.nD Cert.SquareDxIdeal.τ).loc Cert.SquareDxIdeal.main_arg0) = m ((c.tc : Thread Cert.SquareDxIdeal.nD Cert.SquareDxIdeal.τ).loc Cert.SquareDxIdeal.main_arg0)
          ∧ r.2.mem ((c.tc : Thread Cert.SquareDxIdeal.nD Cert.SquareDxIdeal.τ).loc Cert.SquareDxIdeal.main_arg1) = m ((c.tc : Thread Cert.SquareDxIdeal.nD Cert.SquareDxIdeal.τ).loc Cert.SquareDxIdeal.main_arg1))
      ∧ θ_run (Cert.SquareDxRefIdeal.defs (F := Ideal)) (onTc (τ := Cert.SquareDxRefIdeal.τ) (Cert.SquareDxRefIdeal.main (F := Ideal))) ⟨m', fun _ => 0, g'⟩ (fun r => ∀ c : Dev Cert.SquareDxRefIdeal.nD,
          r.2.mem ((c.tc : Thread Cert.SquareDxRefIdeal.nD Cert.SquareDxRefIdeal.τ).loc Cert.SquareDxRefIdeal.main_v3) = v0 c
          ∧ r.2.mem ((c.tc : Thread Cert.SquareDxRefIdeal.nD Cert.SquareDxRefIdeal.τ).loc Cert.SquareDxRefIdeal.main_arg0) = m' ((c.tc : Thread Cert.SquareDxRefIdeal.nD Cert.SquareDxRefIdeal.τ).loc Cert.SquareDxRefIdeal.main_arg0)
          ∧ r.2.mem ((c.tc : Thread Cert.SquareDxRefIdeal.nD Cert.SquareDxRefIdeal.τ).loc Cert.SquareDxRefIdeal.main_arg1) = m' ((c.tc : Thread Cert.SquareDxRefIdeal.nD Cert.SquareDxRefIdeal.τ).loc Cert.SquareDxRefIdeal.main_arg1))

def preserves_BDx_BDxIdeal : Prop :=
  True

def algebraic_BDxIdeal_BDxRefIdeal [hBDxIdeal : Cert.BDxIdeal.Facts] [hBDxRefIdeal : Cert.BDxRefIdeal.Facts] : Prop :=
  ∀ (m : (ℓ : Loc Cert.BDxIdeal.nD Cert.BDxIdeal.τ Cert.BDxIdeal.sig) → Buf (Elt Ideal) ℓ) (g : Dev Cert.BDxIdeal.nD → PrngReg)
    (m' : (ℓ : Loc Cert.BDxRefIdeal.nD Cert.BDxRefIdeal.τ Cert.BDxRefIdeal.sig) → Buf (Elt Ideal) ℓ) (g' : Dev Cert.BDxRefIdeal.nD → PrngReg), Pre_BDxIdeal m →
    (∀ c : Dev Cert.BDxIdeal.nD,
      m' ((c.tc : Thread Cert.BDxRefIdeal.nD Cert.BDxRefIdeal.τ).loc Cert.BDxRefIdeal.main_arg0) = m ((c.tc : Thread Cert.BDxIdeal.nD Cert.BDxIdeal.τ).loc Cert.BDxIdeal.main_arg0)
      ∧ m' ((c.tc : Thread Cert.BDxRefIdeal.nD Cert.BDxRefIdeal.τ).loc Cert.BDxRefIdeal.main_arg1) = m ((c.tc : Thread Cert.BDxIdeal.nD Cert.BDxIdeal.τ).loc Cert.BDxIdeal.main_arg1)) →
    ∃ (v0 : (c : Dev Cert.BDxIdeal.nD) → Buf (Elt Ideal) ((c.tc : Thread Cert.BDxIdeal.nD Cert.BDxIdeal.τ).loc Cert.BDxIdeal.main_v0)),
      θ_run (Cert.BDxIdeal.defs (F := Ideal)) (onTc (τ := Cert.BDxIdeal.τ) (Cert.BDxIdeal.main (F := Ideal))) ⟨m, fun _ => 0, g⟩ (fun r => ∀ c : Dev Cert.BDxIdeal.nD,
          r.2.mem ((c.tc : Thread Cert.BDxIdeal.nD Cert.BDxIdeal.τ).loc Cert.BDxIdeal.main_v0) = v0 c
          ∧ r.2.mem ((c.tc : Thread Cert.BDxIdeal.nD Cert.BDxIdeal.τ).loc Cert.BDxIdeal.main_arg0) = m ((c.tc : Thread Cert.BDxIdeal.nD Cert.BDxIdeal.τ).loc Cert.BDxIdeal.main_arg0)
          ∧ r.2.mem ((c.tc : Thread Cert.BDxIdeal.nD Cert.BDxIdeal.τ).loc Cert.BDxIdeal.main_arg1) = m ((c.tc : Thread Cert.BDxIdeal.nD Cert.BDxIdeal.τ).loc Cert.BDxIdeal.main_arg1))
      ∧ θ_run (Cert.BDxRefIdeal.defs (F := Ideal)) (onTc (τ := Cert.BDxRefIdeal.τ) (Cert.BDxRefIdeal.main (F := Ideal))) ⟨m', fun _ => 0, g'⟩ (fun r => ∀ c : Dev Cert.BDxRefIdeal.nD,
          r.2.mem ((c.tc : Thread Cert.BDxRefIdeal.nD Cert.BDxRefIdeal.τ).loc Cert.BDxRefIdeal.main_v2) = v0 c
          ∧ r.2.mem ((c.tc : Thread Cert.BDxRefIdeal.nD Cert.BDxRefIdeal.τ).loc Cert.BDxRefIdeal.main_arg0) = m' ((c.tc : Thread Cert.BDxRefIdeal.nD Cert.BDxRefIdeal.τ).loc Cert.BDxRefIdeal.main_arg0)
          ∧ r.2.mem ((c.tc : Thread Cert.BDxRefIdeal.nD Cert.BDxRefIdeal.τ).loc Cert.BDxRefIdeal.main_arg1) = m' ((c.tc : Thread Cert.BDxRefIdeal.nD Cert.BDxRefIdeal.τ).loc Cert.BDxRefIdeal.main_arg1))

def preserves_InGates_InGatesIdeal : Prop :=
  True

def algebraic_InGatesIdeal_InGatesRefIdeal [hInGatesIdeal : Cert.InGatesIdeal.Facts] [hInGatesRefIdeal : Cert.InGatesRefIdeal.Facts] : Prop :=
  ∀ (m : (ℓ : Loc Cert.InGatesIdeal.nD Cert.InGatesIdeal.τ Cert.InGatesIdeal.sig) → Buf (Elt Ideal) ℓ) (g : Dev Cert.InGatesIdeal.nD → PrngReg)
    (m' : (ℓ : Loc Cert.InGatesRefIdeal.nD Cert.InGatesRefIdeal.τ Cert.InGatesRefIdeal.sig) → Buf (Elt Ideal) ℓ) (g' : Dev Cert.InGatesRefIdeal.nD → PrngReg), Pre_InGatesIdeal m →
    (∀ c : Dev Cert.InGatesIdeal.nD,
      m' ((c.tc : Thread Cert.InGatesRefIdeal.nD Cert.InGatesRefIdeal.τ).loc Cert.InGatesRefIdeal.main_arg0) = m ((c.tc : Thread Cert.InGatesIdeal.nD Cert.InGatesIdeal.τ).loc Cert.InGatesIdeal.main_arg0)
      ∧ m' ((c.tc : Thread Cert.InGatesRefIdeal.nD Cert.InGatesRefIdeal.τ).loc Cert.InGatesRefIdeal.main_arg1) = m ((c.tc : Thread Cert.InGatesIdeal.nD Cert.InGatesIdeal.τ).loc Cert.InGatesIdeal.main_arg1)) →
    ∃ (v0 : (c : Dev Cert.InGatesIdeal.nD) → Buf (Elt Ideal) ((c.tc : Thread Cert.InGatesIdeal.nD Cert.InGatesIdeal.τ).loc Cert.InGatesIdeal.main_v0)),
      θ_run (Cert.InGatesIdeal.defs (F := Ideal)) (onTc (τ := Cert.InGatesIdeal.τ) (Cert.InGatesIdeal.main (F := Ideal))) ⟨m, fun _ => 0, g⟩ (fun r => ∀ c : Dev Cert.InGatesIdeal.nD,
          r.2.mem ((c.tc : Thread Cert.InGatesIdeal.nD Cert.InGatesIdeal.τ).loc Cert.InGatesIdeal.main_v0) = v0 c
          ∧ r.2.mem ((c.tc : Thread Cert.InGatesIdeal.nD Cert.InGatesIdeal.τ).loc Cert.InGatesIdeal.main_arg0) = m ((c.tc : Thread Cert.InGatesIdeal.nD Cert.InGatesIdeal.τ).loc Cert.InGatesIdeal.main_arg0)
          ∧ r.2.mem ((c.tc : Thread Cert.InGatesIdeal.nD Cert.InGatesIdeal.τ).loc Cert.InGatesIdeal.main_arg1) = m ((c.tc : Thread Cert.InGatesIdeal.nD Cert.InGatesIdeal.τ).loc Cert.InGatesIdeal.main_arg1))
      ∧ θ_run (Cert.InGatesRefIdeal.defs (F := Ideal)) (onTc (τ := Cert.InGatesRefIdeal.τ) (Cert.InGatesRefIdeal.main (F := Ideal))) ⟨m', fun _ => 0, g'⟩ (fun r => ∀ c : Dev Cert.InGatesRefIdeal.nD,
          r.2.mem ((c.tc : Thread Cert.InGatesRefIdeal.nD Cert.InGatesRefIdeal.τ).loc Cert.InGatesRefIdeal.main_v4) = v0 c
          ∧ r.2.mem ((c.tc : Thread Cert.InGatesRefIdeal.nD Cert.InGatesRefIdeal.τ).loc Cert.InGatesRefIdeal.main_arg0) = m' ((c.tc : Thread Cert.InGatesRefIdeal.nD Cert.InGatesRefIdeal.τ).loc Cert.InGatesRefIdeal.main_arg0)
          ∧ r.2.mem ((c.tc : Thread Cert.InGatesRefIdeal.nD Cert.InGatesRefIdeal.τ).loc Cert.InGatesRefIdeal.main_arg1) = m' ((c.tc : Thread Cert.InGatesRefIdeal.nD Cert.InGatesRefIdeal.τ).loc Cert.InGatesRefIdeal.main_arg1))

def preserves_InQkv_InQkvIdeal : Prop :=
  True

def algebraic_InQkvIdeal_InQkvRefIdeal [hInQkvIdeal : Cert.InQkvIdeal.Facts] [hInQkvRefIdeal : Cert.InQkvRefIdeal.Facts] : Prop :=
  ∀ (m : (ℓ : Loc Cert.InQkvIdeal.nD Cert.InQkvIdeal.τ Cert.InQkvIdeal.sig) → Buf (Elt Ideal) ℓ) (g : Dev Cert.InQkvIdeal.nD → PrngReg)
    (m' : (ℓ : Loc Cert.InQkvRefIdeal.nD Cert.InQkvRefIdeal.τ Cert.InQkvRefIdeal.sig) → Buf (Elt Ideal) ℓ) (g' : Dev Cert.InQkvRefIdeal.nD → PrngReg), Pre_InQkvIdeal m →
    (∀ c : Dev Cert.InQkvIdeal.nD,
      m' ((c.tc : Thread Cert.InQkvRefIdeal.nD Cert.InQkvRefIdeal.τ).loc Cert.InQkvRefIdeal.main_arg0) = m ((c.tc : Thread Cert.InQkvIdeal.nD Cert.InQkvIdeal.τ).loc Cert.InQkvIdeal.main_arg0)
      ∧ m' ((c.tc : Thread Cert.InQkvRefIdeal.nD Cert.InQkvRefIdeal.τ).loc Cert.InQkvRefIdeal.main_arg1) = m ((c.tc : Thread Cert.InQkvIdeal.nD Cert.InQkvIdeal.τ).loc Cert.InQkvIdeal.main_arg1)) →
    ∃ (v0 : (c : Dev Cert.InQkvIdeal.nD) → Buf (Elt Ideal) ((c.tc : Thread Cert.InQkvIdeal.nD Cert.InQkvIdeal.τ).loc Cert.InQkvIdeal.main_v0)),
      θ_run (Cert.InQkvIdeal.defs (F := Ideal)) (onTc (τ := Cert.InQkvIdeal.τ) (Cert.InQkvIdeal.main (F := Ideal))) ⟨m, fun _ => 0, g⟩ (fun r => ∀ c : Dev Cert.InQkvIdeal.nD,
          r.2.mem ((c.tc : Thread Cert.InQkvIdeal.nD Cert.InQkvIdeal.τ).loc Cert.InQkvIdeal.main_v0) = v0 c
          ∧ r.2.mem ((c.tc : Thread Cert.InQkvIdeal.nD Cert.InQkvIdeal.τ).loc Cert.InQkvIdeal.main_arg0) = m ((c.tc : Thread Cert.InQkvIdeal.nD Cert.InQkvIdeal.τ).loc Cert.InQkvIdeal.main_arg0)
          ∧ r.2.mem ((c.tc : Thread Cert.InQkvIdeal.nD Cert.InQkvIdeal.τ).loc Cert.InQkvIdeal.main_arg1) = m ((c.tc : Thread Cert.InQkvIdeal.nD Cert.InQkvIdeal.τ).loc Cert.InQkvIdeal.main_arg1))
      ∧ θ_run (Cert.InQkvRefIdeal.defs (F := Ideal)) (onTc (τ := Cert.InQkvRefIdeal.τ) (Cert.InQkvRefIdeal.main (F := Ideal))) ⟨m', fun _ => 0, g'⟩ (fun r => ∀ c : Dev Cert.InQkvRefIdeal.nD,
          r.2.mem ((c.tc : Thread Cert.InQkvRefIdeal.nD Cert.InQkvRefIdeal.τ).loc Cert.InQkvRefIdeal.main_v3) = v0 c
          ∧ r.2.mem ((c.tc : Thread Cert.InQkvRefIdeal.nD Cert.InQkvRefIdeal.τ).loc Cert.InQkvRefIdeal.main_arg0) = m' ((c.tc : Thread Cert.InQkvRefIdeal.nD Cert.InQkvRefIdeal.τ).loc Cert.InQkvRefIdeal.main_arg0)
          ∧ r.2.mem ((c.tc : Thread Cert.InQkvRefIdeal.nD Cert.InQkvRefIdeal.τ).loc Cert.InQkvRefIdeal.main_arg1) = m' ((c.tc : Thread Cert.InQkvRefIdeal.nD Cert.InQkvRefIdeal.τ).loc Cert.InQkvRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v4) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Square_SquareIdeal : Prop :=
  True

def algebraic_SquareIdeal_SquareRefIdeal [hSquareIdeal : Cert.SquareIdeal.Facts] [hSquareRefIdeal : Cert.SquareRefIdeal.Facts] : Prop :=
  ∀ (m : (ℓ : Loc Cert.SquareIdeal.nD Cert.SquareIdeal.τ Cert.SquareIdeal.sig) → Buf (Elt Ideal) ℓ) (g : Dev Cert.SquareIdeal.nD → PrngReg)
    (m' : (ℓ : Loc Cert.SquareRefIdeal.nD Cert.SquareRefIdeal.τ Cert.SquareRefIdeal.sig) → Buf (Elt Ideal) ℓ) (g' : Dev Cert.SquareRefIdeal.nD → PrngReg), Pre_SquareIdeal m →
    (∀ c : Dev Cert.SquareIdeal.nD,
      m' ((c.tc : Thread Cert.SquareRefIdeal.nD Cert.SquareRefIdeal.τ).loc Cert.SquareRefIdeal.main_arg0) = m ((c.tc : Thread Cert.SquareIdeal.nD Cert.SquareIdeal.τ).loc Cert.SquareIdeal.main_arg0)
      ∧ m' ((c.tc : Thread Cert.SquareRefIdeal.nD Cert.SquareRefIdeal.τ).loc Cert.SquareRefIdeal.main_arg1) = m ((c.tc : Thread Cert.SquareIdeal.nD Cert.SquareIdeal.τ).loc Cert.SquareIdeal.main_arg1)) →
    ∃ (v0 : (c : Dev Cert.SquareIdeal.nD) → Buf (Elt Ideal) ((c.tc : Thread Cert.SquareIdeal.nD Cert.SquareIdeal.τ).loc Cert.SquareIdeal.main_v0)),
      θ_run (Cert.SquareIdeal.defs (F := Ideal)) (onTc (τ := Cert.SquareIdeal.τ) (Cert.SquareIdeal.main (F := Ideal))) ⟨m, fun _ => 0, g⟩ (fun r => ∀ c : Dev Cert.SquareIdeal.nD,
          r.2.mem ((c.tc : Thread Cert.SquareIdeal.nD Cert.SquareIdeal.τ).loc Cert.SquareIdeal.main_v0) = v0 c
          ∧ r.2.mem ((c.tc : Thread Cert.SquareIdeal.nD Cert.SquareIdeal.τ).loc Cert.SquareIdeal.main_arg0) = m ((c.tc : Thread Cert.SquareIdeal.nD Cert.SquareIdeal.τ).loc Cert.SquareIdeal.main_arg0)
          ∧ r.2.mem ((c.tc : Thread Cert.SquareIdeal.nD Cert.SquareIdeal.τ).loc Cert.SquareIdeal.main_arg1) = m ((c.tc : Thread Cert.SquareIdeal.nD Cert.SquareIdeal.τ).loc Cert.SquareIdeal.main_arg1))
      ∧ θ_run (Cert.SquareRefIdeal.defs (F := Ideal)) (onTc (τ := Cert.SquareRefIdeal.τ) (Cert.SquareRefIdeal.main (F := Ideal))) ⟨m', fun _ => 0, g'⟩ (fun r => ∀ c : Dev Cert.SquareRefIdeal.nD,
          r.2.mem ((c.tc : Thread Cert.SquareRefIdeal.nD Cert.SquareRefIdeal.τ).loc Cert.SquareRefIdeal.main_v3) = v0 c
          ∧ r.2.mem ((c.tc : Thread Cert.SquareRefIdeal.nD Cert.SquareRefIdeal.τ).loc Cert.SquareRefIdeal.main_arg0) = m' ((c.tc : Thread Cert.SquareRefIdeal.nD Cert.SquareRefIdeal.τ).loc Cert.SquareRefIdeal.main_arg0)
          ∧ r.2.mem ((c.tc : Thread Cert.SquareRefIdeal.nD Cert.SquareRefIdeal.τ).loc Cert.SquareRefIdeal.main_arg1) = m' ((c.tc : Thread Cert.SquareRefIdeal.nD Cert.SquareRefIdeal.τ).loc Cert.SquareRefIdeal.main_arg1))

def preserves_O_OIdeal : Prop :=
  True

def algebraic_OIdeal_ORefIdeal [hOIdeal : Cert.OIdeal.Facts] [hORefIdeal : Cert.ORefIdeal.Facts] : Prop :=
  ∀ (m : (ℓ : Loc Cert.OIdeal.nD Cert.OIdeal.τ Cert.OIdeal.sig) → Buf (Elt Ideal) ℓ) (g : Dev Cert.OIdeal.nD → PrngReg)
    (m' : (ℓ : Loc Cert.ORefIdeal.nD Cert.ORefIdeal.τ Cert.ORefIdeal.sig) → Buf (Elt Ideal) ℓ) (g' : Dev Cert.ORefIdeal.nD → PrngReg), Pre_OIdeal m →
    (∀ c : Dev Cert.OIdeal.nD,
      m' ((c.tc : Thread Cert.ORefIdeal.nD Cert.ORefIdeal.τ).loc Cert.ORefIdeal.main_arg0) = m ((c.tc : Thread Cert.OIdeal.nD Cert.OIdeal.τ).loc Cert.OIdeal.main_arg0)
      ∧ m' ((c.tc : Thread Cert.ORefIdeal.nD Cert.ORefIdeal.τ).loc Cert.ORefIdeal.main_arg1) = m ((c.tc : Thread Cert.OIdeal.nD Cert.OIdeal.τ).loc Cert.OIdeal.main_arg1)
      ∧ m' ((c.tc : Thread Cert.ORefIdeal.nD Cert.ORefIdeal.τ).loc Cert.ORefIdeal.main_arg2) = m ((c.tc : Thread Cert.OIdeal.nD Cert.OIdeal.τ).loc Cert.OIdeal.main_arg2)) →
    ∃ (v0 : (c : Dev Cert.OIdeal.nD) → Buf (Elt Ideal) ((c.tc : Thread Cert.OIdeal.nD Cert.OIdeal.τ).loc Cert.OIdeal.main_v0)),
      θ_run (Cert.OIdeal.defs (F := Ideal)) (onTc (τ := Cert.OIdeal.τ) (Cert.OIdeal.main (F := Ideal))) ⟨m, fun _ => 0, g⟩ (fun r => ∀ c : Dev Cert.OIdeal.nD,
          r.2.mem ((c.tc : Thread Cert.OIdeal.nD Cert.OIdeal.τ).loc Cert.OIdeal.main_v0) = v0 c
          ∧ r.2.mem ((c.tc : Thread Cert.OIdeal.nD Cert.OIdeal.τ).loc Cert.OIdeal.main_arg0) = m ((c.tc : Thread Cert.OIdeal.nD Cert.OIdeal.τ).loc Cert.OIdeal.main_arg0)
          ∧ r.2.mem ((c.tc : Thread Cert.OIdeal.nD Cert.OIdeal.τ).loc Cert.OIdeal.main_arg1) = m ((c.tc : Thread Cert.OIdeal.nD Cert.OIdeal.τ).loc Cert.OIdeal.main_arg1)
          ∧ r.2.mem ((c.tc : Thread Cert.OIdeal.nD Cert.OIdeal.τ).loc Cert.OIdeal.main_arg2) = m ((c.tc : Thread Cert.OIdeal.nD Cert.OIdeal.τ).loc Cert.OIdeal.main_arg2))
      ∧ θ_run (Cert.ORefIdeal.defs (F := Ideal)) (onTc (τ := Cert.ORefIdeal.τ) (Cert.ORefIdeal.main (F := Ideal))) ⟨m', fun _ => 0, g'⟩ (fun r => ∀ c : Dev Cert.ORefIdeal.nD,
          r.2.mem ((c.tc : Thread Cert.ORefIdeal.nD Cert.ORefIdeal.τ).loc Cert.ORefIdeal.main_v3) = v0 c
          ∧ r.2.mem ((c.tc : Thread Cert.ORefIdeal.nD Cert.ORefIdeal.τ).loc Cert.ORefIdeal.main_arg0) = m' ((c.tc : Thread Cert.ORefIdeal.nD Cert.ORefIdeal.τ).loc Cert.ORefIdeal.main_arg0)
          ∧ r.2.mem ((c.tc : Thread Cert.ORefIdeal.nD Cert.ORefIdeal.τ).loc Cert.ORefIdeal.main_arg1) = m' ((c.tc : Thread Cert.ORefIdeal.nD Cert.ORefIdeal.τ).loc Cert.ORefIdeal.main_arg1)
          ∧ r.2.mem ((c.tc : Thread Cert.ORefIdeal.nD Cert.ORefIdeal.τ).loc Cert.ORefIdeal.main_arg2) = m' ((c.tc : Thread Cert.ORefIdeal.nD Cert.ORefIdeal.τ).loc Cert.ORefIdeal.main_arg2))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamSquare_AdamSquareIdeal : Prop :=
  True

def algebraic_AdamSquareIdeal_AdamSquareRefIdeal [hAdamSquareIdeal : Cert.AdamSquareIdeal.Facts] [hAdamSquareRefIdeal : Cert.AdamSquareRefIdeal.Facts] [hPre_square_on_the_mesh : Cert.Pre_square_on_the_mesh.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg)
    (m' : (ℓ : Loc Cert.AdamSquareRefIdeal.nD Cert.AdamSquareRefIdeal.τ Cert.AdamSquareRefIdeal.sig) → Buf (Elt Ideal) ℓ) (g' : Dev Cert.AdamSquareRefIdeal.nD → PrngReg), Pre_AdamSquareIdeal m →
    (∀ c : Dev Cert.AdamSquareIdeal.nD,
      m' ((c.tc : Thread Cert.AdamSquareRefIdeal.nD Cert.AdamSquareRefIdeal.τ).loc Cert.AdamSquareRefIdeal.main_arg0) = m ((c.tc : Thread Cert.AdamSquareIdeal.nD Cert.AdamSquareIdeal.τ).loc Cert.AdamSquareIdeal.main_arg0)
      ∧ m' ((c.tc : Thread Cert.AdamSquareRefIdeal.nD Cert.AdamSquareRefIdeal.τ).loc Cert.AdamSquareRefIdeal.main_arg1) = m ((c.tc : Thread Cert.AdamSquareIdeal.nD Cert.AdamSquareIdeal.τ).loc Cert.AdamSquareIdeal.main_arg1)
      ∧ m' ((c.tc : Thread Cert.AdamSquareRefIdeal.nD Cert.AdamSquareRefIdeal.τ).loc Cert.AdamSquareRefIdeal.main_arg2) = m ((c.tc : Thread Cert.AdamSquareIdeal.nD Cert.AdamSquareIdeal.τ).loc Cert.AdamSquareIdeal.main_arg2)
      ∧ m' ((c.tc : Thread Cert.AdamSquareRefIdeal.nD Cert.AdamSquareRefIdeal.τ).loc Cert.AdamSquareRefIdeal.main_arg3) = m ((c.tc : Thread Cert.AdamSquareIdeal.nD Cert.AdamSquareIdeal.τ).loc Cert.AdamSquareIdeal.main_arg3)
      ∧ m' ((c.tc : Thread Cert.AdamSquareRefIdeal.nD Cert.AdamSquareRefIdeal.τ).loc Cert.AdamSquareRefIdeal.main_arg4) = m ((c.tc : Thread Cert.AdamSquareIdeal.nD Cert.AdamSquareIdeal.τ).loc Cert.AdamSquareIdeal.main_arg4)
      ∧ m' ((c.tc : Thread Cert.AdamSquareRefIdeal.nD Cert.AdamSquareRefIdeal.τ).loc Cert.AdamSquareRefIdeal.main_arg5) = m ((c.tc : Thread Cert.AdamSquareIdeal.nD Cert.AdamSquareIdeal.τ).loc Cert.AdamSquareIdeal.main_arg5)) →
    ∃ (v0 : (c : Dev Cert.AdamSquareIdeal.nD) → Buf (Elt Ideal) ((c.tc : Thread Cert.AdamSquareIdeal.nD Cert.AdamSquareIdeal.τ).loc Cert.AdamSquareIdeal.main_v0_0)) (v1 : (c : Dev Cert.AdamSquareIdeal.nD) → Buf (Elt Ideal) ((c.tc : Thread Cert.AdamSquareIdeal.nD Cert.AdamSquareIdeal.τ).loc Cert.AdamSquareIdeal.main_v0_1)) (v2 : (c : Dev Cert.AdamSquareIdeal.nD) → Buf (Elt Ideal) ((c.tc : Thread Cert.AdamSquareIdeal.nD Cert.AdamSquareIdeal.τ).loc Cert.AdamSquareIdeal.main_v0_2)) (v3 : (c : Dev Cert.AdamSquareIdeal.nD) → Buf (Elt Ideal) ((c.tc : Thread Cert.AdamSquareIdeal.nD Cert.AdamSquareIdeal.τ).loc Cert.AdamSquareIdeal.main_v0_3)),
      θ_run (Cert.AdamSquareIdeal.defs (F := Ideal)) (onTc (τ := Cert.AdamSquareIdeal.τ) (Cert.AdamSquareIdeal.main (F := Ideal))) ⟨m, fun _ => 0, g⟩ (fun r => ∀ c : Dev Cert.AdamSquareIdeal.nD,
          r.2.mem ((c.tc : Thread Cert.AdamSquareIdeal.nD Cert.AdamSquareIdeal.τ).loc Cert.AdamSquareIdeal.main_v0_0) = v0 c
          ∧ r.2.mem ((c.tc : Thread Cert.AdamSquareIdeal.nD Cert.AdamSquareIdeal.τ).loc Cert.AdamSquareIdeal.main_v0_1) = v1 c
          ∧ r.2.mem ((c.tc : Thread Cert.AdamSquareIdeal.nD Cert.AdamSquareIdeal.τ).loc Cert.AdamSquareIdeal.main_v0_2) = v2 c
          ∧ r.2.mem ((c.tc : Thread Cert.AdamSquareIdeal.nD Cert.AdamSquareIdeal.τ).loc Cert.AdamSquareIdeal.main_v0_3) = v3 c
          ∧ r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
          ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
          ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
          ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3)
          ∧ r.2.mem ((c.tc : Thread Cert.AdamSquareIdeal.nD Cert.AdamSquareIdeal.τ).loc Cert.AdamSquareIdeal.main_arg4) = m ((c.tc : Thread Cert.AdamSquareIdeal.nD Cert.AdamSquareIdeal.τ).loc Cert.AdamSquareIdeal.main_arg4)
          ∧ r.2.mem ((c.tc : Thread Cert.AdamSquareIdeal.nD Cert.AdamSquareIdeal.τ).loc Cert.AdamSquareIdeal.main_arg5) = m ((c.tc : Thread Cert.AdamSquareIdeal.nD Cert.AdamSquareIdeal.τ).loc Cert.AdamSquareIdeal.main_arg5))
      ∧ θ_run (Cert.AdamSquareRefIdeal.defs (F := Ideal)) (onTc (τ := Cert.AdamSquareRefIdeal.τ) (Cert.AdamSquareRefIdeal.main (F := Ideal))) ⟨m', fun _ => 0, g'⟩ (fun r => ∀ c : Dev Cert.AdamSquareRefIdeal.nD,
          r.2.mem ((c.tc : Thread Cert.AdamSquareRefIdeal.nD Cert.AdamSquareRefIdeal.τ).loc Cert.AdamSquareRefIdeal.main_v10) = v0 c
          ∧ r.2.mem ((c.tc : Thread Cert.AdamSquareRefIdeal.nD Cert.AdamSquareRefIdeal.τ).loc Cert.AdamSquareRefIdeal.main_v34) = v1 c
          ∧ r.2.mem ((c.tc : Thread Cert.AdamSquareRefIdeal.nD Cert.AdamSquareRefIdeal.τ).loc Cert.AdamSquareRefIdeal.main_v15) = v2 c
          ∧ r.2.mem ((c.tc : Thread Cert.AdamSquareRefIdeal.nD Cert.AdamSquareRefIdeal.τ).loc Cert.AdamSquareRefIdeal.main_v21) = v3 c
          ∧ r.2.mem ((c.tc : Thread Cert.AdamSquareRefIdeal.nD Cert.AdamSquareRefIdeal.τ).loc Cert.AdamSquareRefIdeal.main_arg0) = m' ((c.tc : Thread Cert.AdamSquareRefIdeal.nD Cert.AdamSquareRefIdeal.τ).loc Cert.AdamSquareRefIdeal.main_arg0)
          ∧ r.2.mem ((c.tc : Thread Cert.AdamSquareRefIdeal.nD Cert.AdamSquareRefIdeal.τ).loc Cert.AdamSquareRefIdeal.main_arg1) = m' ((c.tc : Thread Cert.AdamSquareRefIdeal.nD Cert.AdamSquareRefIdeal.τ).loc Cert.AdamSquareRefIdeal.main_arg1)
          ∧ r.2.mem ((c.tc : Thread Cert.AdamSquareRefIdeal.nD Cert.AdamSquareRefIdeal.τ).loc Cert.AdamSquareRefIdeal.main_arg2) = m' ((c.tc : Thread Cert.AdamSquareRefIdeal.nD Cert.AdamSquareRefIdeal.τ).loc Cert.AdamSquareRefIdeal.main_arg2)
          ∧ r.2.mem ((c.tc : Thread Cert.AdamSquareRefIdeal.nD Cert.AdamSquareRefIdeal.τ).loc Cert.AdamSquareRefIdeal.main_arg3) = m' ((c.tc : Thread Cert.AdamSquareRefIdeal.nD Cert.AdamSquareRefIdeal.τ).loc Cert.AdamSquareRefIdeal.main_arg3)
          ∧ r.2.mem ((c.tc : Thread Cert.AdamSquareRefIdeal.nD Cert.AdamSquareRefIdeal.τ).loc Cert.AdamSquareRefIdeal.main_arg4) = m' ((c.tc : Thread Cert.AdamSquareRefIdeal.nD Cert.AdamSquareRefIdeal.τ).loc Cert.AdamSquareRefIdeal.main_arg4)
          ∧ r.2.mem ((c.tc : Thread Cert.AdamSquareRefIdeal.nD Cert.AdamSquareRefIdeal.τ).loc Cert.AdamSquareRefIdeal.main_arg5) = m' ((c.tc : Thread Cert.AdamSquareRefIdeal.nD Cert.AdamSquareRefIdeal.τ).loc Cert.AdamSquareRefIdeal.main_arg5))

def preserves_AdamUp_AdamUpIdeal : Prop :=
  True

def algebraic_AdamUpIdeal_AdamUpRefIdeal [hAdamUpIdeal : Cert.AdamUpIdeal.Facts] [hAdamUpRefIdeal : Cert.AdamUpRefIdeal.Facts] [hPre_up_on_the_mesh : Cert.Pre_up_on_the_mesh.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)
      ∧ m' ((c.tc : Thread Cert.AdamUpRefIdeal.nD Cert.AdamUpRefIdeal.τ).loc Cert.AdamUpRefIdeal.main_arg5) = m ((c.tc : Thread Cert.AdamUpIdeal.nD Cert.AdamUpIdeal.τ).loc Cert.AdamUpIdeal.main_arg5)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
          ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v10) = v0 c
          ∧ r.2.mem ((c.tc : Thread Cert.AdamUpRefIdeal.nD Cert.AdamUpRefIdeal.τ).loc Cert.AdamUpRefIdeal.main_v34) = v1 c
          ∧ r.2.mem ((c.tc : Thread Cert.AdamUpRefIdeal.nD Cert.AdamUpRefIdeal.τ).loc Cert.AdamUpRefIdeal.main_v15) = v2 c
          ∧ r.2.mem ((c.tc : Thread Cert.AdamUpRefIdeal.nD Cert.AdamUpRefIdeal.τ).loc Cert.AdamUpRefIdeal.main_v21) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4)
          ∧ r.2.mem ((c.tc : Thread Cert.AdamUpRefIdeal.nD Cert.AdamUpRefIdeal.τ).loc Cert.AdamUpRefIdeal.main_arg5) = m' ((c.tc : Thread Cert.AdamUpRefIdeal.nD Cert.AdamUpRefIdeal.τ).loc Cert.AdamUpRefIdeal.main_arg5))

def preserves_AdamDown_AdamDownIdeal : Prop :=
  True

def algebraic_AdamDownIdeal_AdamDownRefIdeal [hAdamDownIdeal : Cert.AdamDownIdeal.Facts] [hAdamDownRefIdeal : Cert.AdamDownRefIdeal.Facts] [hPre_down_on_the_mesh : Cert.Pre_down_on_the_mesh.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)
      ∧ m' ((c.tc : Thread Cert.AdamDownRefIdeal.nD Cert.AdamDownRefIdeal.τ).loc Cert.AdamDownRefIdeal.main_arg5) = m ((c.tc : Thread Cert.AdamDownIdeal.nD Cert.AdamDownIdeal.τ).loc Cert.AdamDownIdeal.main_arg5)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
          ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v10) = v0 c
          ∧ r.2.mem ((c.tc : Thread Cert.AdamDownRefIdeal.nD Cert.AdamDownRefIdeal.τ).loc Cert.AdamDownRefIdeal.main_v34) = v1 c
          ∧ r.2.mem ((c.tc : Thread Cert.AdamDownRefIdeal.nD Cert.AdamDownRefIdeal.τ).loc Cert.AdamDownRefIdeal.main_v15) = v2 c
          ∧ r.2.mem ((c.tc : Thread Cert.AdamDownRefIdeal.nD Cert.AdamDownRefIdeal.τ).loc Cert.AdamDownRefIdeal.main_v21) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4)
          ∧ r.2.mem ((c.tc : Thread Cert.AdamDownRefIdeal.nD Cert.AdamDownRefIdeal.τ).loc Cert.AdamDownRefIdeal.main_arg5) = m' ((c.tc : Thread Cert.AdamDownRefIdeal.nD Cert.AdamDownRefIdeal.τ).loc Cert.AdamDownRefIdeal.main_arg5))

def preserves_SumIn_SumInIdeal : Prop :=
  True

def algebraic_SumInIdeal_SumInRefIdeal [hSumInIdeal : Cert.SumInIdeal.Facts] [hSumInRefIdeal : Cert.SumInRefIdeal.Facts] [hPre_sum_on_the_mesh : Cert.Pre_sum_on_the_mesh.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInRefIdeal.nD Cert.SumInRefIdeal.τ Cert.SumInRefIdeal.sig) → Buf (Elt Ideal) ℓ) (g' : Dev Cert.SumInRefIdeal.nD → PrngReg), Pre_SumInIdeal m →
    (∀ c : Dev Cert.SumInIdeal.nD,
      m' ((c.tc : Thread Cert.SumInRefIdeal.nD Cert.SumInRefIdeal.τ).loc Cert.SumInRefIdeal.main_arg0) = m ((c.tc : Thread Cert.SumInIdeal.nD Cert.SumInIdeal.τ).loc Cert.SumInIdeal.main_arg0)
      ∧ m' ((c.tc : Thread Cert.SumInRefIdeal.nD Cert.SumInRefIdeal.τ).loc Cert.SumInRefIdeal.main_arg1) = m ((c.tc : Thread Cert.SumInIdeal.nD Cert.SumInIdeal.τ).loc Cert.SumInIdeal.main_arg1)
      ∧ m' ((c.tc : Thread Cert.SumInRefIdeal.nD Cert.SumInRefIdeal.τ).loc Cert.SumInRefIdeal.main_arg2) = m ((c.tc : Thread Cert.SumInIdeal.nD Cert.SumInIdeal.τ).loc Cert.SumInIdeal.main_arg2)) →
    ∃ (v0 : (c : Dev Cert.SumInIdeal.nD) → Buf (Elt Ideal) ((c.tc : Thread Cert.SumInIdeal.nD Cert.SumInIdeal.τ).loc Cert.SumInIdeal.main_v0)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v0) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0)
          ∧ r.2.mem ((c.tc : Thread Cert.SumInIdeal.nD Cert.SumInIdeal.τ).loc Cert.SumInIdeal.main_arg1) = m ((c.tc : Thread Cert.SumInIdeal.nD Cert.SumInIdeal.τ).loc Cert.SumInIdeal.main_arg1)
          ∧ r.2.mem ((c.tc : Thread Cert.SumInIdeal.nD Cert.SumInIdeal.τ).loc Cert.SumInIdeal.main_arg2) = m ((c.tc : Thread Cert.SumInIdeal.nD Cert.SumInIdeal.τ).loc Cert.SumInIdeal.main_arg2))
      ∧ θ_run (Cert.SumInRefIdeal.defs (F := Ideal)) (onTc (τ := Cert.SumInRefIdeal.τ) (Cert.SumInRefIdeal.main (F := Ideal))) ⟨m', fun _ => 0, g'⟩ (fun r => ∀ c : Dev Cert.SumInRefIdeal.nD,
          r.2.mem ((c.tc : Thread Cert.SumInRefIdeal.nD Cert.SumInRefIdeal.τ).loc Cert.SumInRefIdeal.main_v9) = v0 c
          ∧ r.2.mem ((c.tc : Thread Cert.SumInRefIdeal.nD Cert.SumInRefIdeal.τ).loc Cert.SumInRefIdeal.main_arg0) = m' ((c.tc : Thread Cert.SumInRefIdeal.nD Cert.SumInRefIdeal.τ).loc Cert.SumInRefIdeal.main_arg0)
          ∧ r.2.mem ((c.tc : Thread Cert.SumInRefIdeal.nD Cert.SumInRefIdeal.τ).loc Cert.SumInRefIdeal.main_arg1) = m' ((c.tc : Thread Cert.SumInRefIdeal.nD Cert.SumInRefIdeal.τ).loc Cert.SumInRefIdeal.main_arg1)
          ∧ r.2.mem ((c.tc : Thread Cert.SumInRefIdeal.nD Cert.SumInRefIdeal.τ).loc Cert.SumInRefIdeal.main_arg2) = m' ((c.tc : Thread Cert.SumInRefIdeal.nD Cert.SumInRefIdeal.τ).loc Cert.SumInRefIdeal.main_arg2))

def preserves_AdamNorms_AdamNormsIdeal : Prop :=
  True

def algebraic_AdamNormsIdeal_AdamNormsRefIdeal [hAdamNormsIdeal : Cert.AdamNormsIdeal.Facts] [hAdamNormsRefIdeal : Cert.AdamNormsRefIdeal.Facts] [hPre_norms_on_the_mesh : Cert.Pre_norms_on_the_mesh.Facts] : Prop :=
  ∀ (m : (ℓ : Loc Cert.AdamNormsIdeal.nD Cert.AdamNormsIdeal.τ Cert.AdamNormsIdeal.sig) → Buf (Elt Ideal) ℓ) (g : Dev Cert.AdamNormsIdeal.nD → PrngReg)
    (m' : (ℓ : Loc Cert.AdamNormsRefIdeal.nD Cert.AdamNormsRefIdeal.τ Cert.AdamNormsRefIdeal.sig) → Buf (Elt Ideal) ℓ) (g' : Dev Cert.AdamNormsRefIdeal.nD → PrngReg), Pre_AdamNormsIdeal m →
    (∀ c : Dev Cert.AdamNormsIdeal.nD,
      m' ((c.tc : Thread Cert.AdamNormsRefIdeal.nD Cert.AdamNormsRefIdeal.τ).loc Cert.AdamNormsRefIdeal.main_arg0) = m ((c.tc : Thread Cert.AdamNormsIdeal.nD Cert.AdamNormsIdeal.τ).loc Cert.AdamNormsIdeal.main_arg0)
      ∧ m' ((c.tc : Thread Cert.AdamNormsRefIdeal.nD Cert.AdamNormsRefIdeal.τ).loc Cert.AdamNormsRefIdeal.main_arg1) = m ((c.tc : Thread Cert.AdamNormsIdeal.nD Cert.AdamNormsIdeal.τ).loc Cert.AdamNormsIdeal.main_arg1)
      ∧ m' ((c.tc : Thread Cert.AdamNormsRefIdeal.nD Cert.AdamNormsRefIdeal.τ).loc Cert.AdamNormsRefIdeal.main_arg2) = m ((c.tc : Thread Cert.AdamNormsIdeal.nD Cert.AdamNormsIdeal.τ).loc Cert.AdamNormsIdeal.main_arg2)
      ∧ m' ((c.tc : Thread Cert.AdamNormsRefIdeal.nD Cert.AdamNormsRefIdeal.τ).loc Cert.AdamNormsRefIdeal.main_arg3) = m ((c.tc : Thread Cert.AdamNormsIdeal.nD Cert.AdamNormsIdeal.τ).loc Cert.AdamNormsIdeal.main_arg3)
      ∧ m' ((c.tc : Thread Cert.AdamNormsRefIdeal.nD Cert.AdamNormsRefIdeal.τ).loc Cert.AdamNormsRefIdeal.main_arg4) = m ((c.tc : Thread Cert.AdamNormsIdeal.nD Cert.AdamNormsIdeal.τ).loc Cert.AdamNormsIdeal.main_arg4)
      ∧ m' ((c.tc : Thread Cert.AdamNormsRefIdeal.nD Cert.AdamNormsRefIdeal.τ).loc Cert.AdamNormsRefIdeal.main_arg5) = m ((c.tc : Thread Cert.AdamNormsIdeal.nD Cert.AdamNormsIdeal.τ).loc Cert.AdamNormsIdeal.main_arg5)
      ∧ m' ((c.tc : Thread Cert.AdamNormsRefIdeal.nD Cert.AdamNormsRefIdeal.τ).loc Cert.AdamNormsRefIdeal.main_arg6) = m ((c.tc : Thread Cert.AdamNormsIdeal.nD Cert.AdamNormsIdeal.τ).loc Cert.AdamNormsIdeal.main_arg6)
      ∧ m' ((c.tc : Thread Cert.AdamNormsRefIdeal.nD Cert.AdamNormsRefIdeal.τ).loc Cert.AdamNormsRefIdeal.main_arg7) = m ((c.tc : Thread Cert.AdamNormsIdeal.nD Cert.AdamNormsIdeal.τ).loc Cert.AdamNormsIdeal.main_arg7)
      ∧ m' ((c.tc : Thread Cert.AdamNormsRefIdeal.nD Cert.AdamNormsRefIdeal.τ).loc Cert.AdamNormsRefIdeal.main_arg8) = m ((c.tc : Thread Cert.AdamNormsIdeal.nD Cert.AdamNormsIdeal.τ).loc Cert.AdamNormsIdeal.main_arg8)
      ∧ m' ((c.tc : Thread Cert.AdamNormsRefIdeal.nD Cert.AdamNormsRefIdeal.τ).loc Cert.AdamNormsRefIdeal.main_arg9) = m ((c.tc : Thread Cert.AdamNormsIdeal.nD Cert.AdamNormsIdeal.τ).loc Cert.AdamNormsIdeal.main_arg9)
      ∧ m' ((c.tc : Thread Cert.AdamNormsRefIdeal.nD Cert.AdamNormsRefIdeal.τ).loc Cert.AdamNormsRefIdeal.main_arg10) = m ((c.tc : Thread Cert.AdamNormsIdeal.nD Cert.AdamNormsIdeal.τ).loc Cert.AdamNormsIdeal.main_arg10)) →
    ∃ (v0 : (c : Dev Cert.AdamNormsIdeal.nD) → Buf (Elt Ideal) ((c.tc : Thread Cert.AdamNormsIdeal.nD Cert.AdamNormsIdeal.τ).loc Cert.AdamNormsIdeal.main_v0_12)) (v1 : (c : Dev Cert.AdamNormsIdeal.nD) → Buf (Elt Ideal) ((c.tc : Thread Cert.AdamNormsIdeal.nD Cert.AdamNormsIdeal.τ).loc Cert.AdamNormsIdeal.main_v0_0)) (v2 : (c : Dev Cert.AdamNormsIdeal.nD) → Buf (Elt Ideal) ((c.tc : Thread Cert.AdamNormsIdeal.nD Cert.AdamNormsIdeal.τ).loc Cert.AdamNormsIdeal.main_v0_1)) (v3 : (c : Dev Cert.AdamNormsIdeal.nD) → Buf (Elt Ideal) ((c.tc : Thread Cert.AdamNormsIdeal.nD Cert.AdamNormsIdeal.τ).loc Cert.AdamNormsIdeal.main_v0_2)) (v4 : (c : Dev Cert.AdamNormsIdeal.nD) → Buf (Elt Ideal) ((c.tc : Thread Cert.AdamNormsIdeal.nD Cert.AdamNormsIdeal.τ).loc Cert.AdamNormsIdeal.main_v0_3)) (v5 : (c : Dev Cert.AdamNormsIdeal.nD) → Buf (Elt Ideal) ((c.tc : Thread Cert.AdamNormsIdeal.nD Cert.AdamNormsIdeal.τ).loc Cert.AdamNormsIdeal.main_v0_4)) (v6 : (c : Dev Cert.AdamNormsIdeal.nD) → Buf (Elt Ideal) ((c.tc : Thread Cert.AdamNormsIdeal.nD Cert.AdamNormsIdeal.τ).loc Cert.AdamNormsIdeal.main_v0_5)) (v7 : (c : Dev Cert.AdamNormsIdeal.nD) → Buf (Elt Ideal) ((c.tc : Thread Cert.AdamNormsIdeal.nD Cert.AdamNormsIdeal.τ).loc Cert.AdamNormsIdeal.main_v0_6)) (v8 : (c : Dev Cert.AdamNormsIdeal.nD) → Buf (Elt Ideal) ((c.tc : Thread Cert.AdamNormsIdeal.nD Cert.AdamNormsIdeal.τ).loc Cert.AdamNormsIdeal.main_v0_7)) (v9 : (c : Dev Cert.AdamNormsIdeal.nD) → Buf (Elt Ideal) ((c.tc : Thread Cert.AdamNormsIdeal.nD Cert.AdamNormsIdeal.τ).loc Cert.AdamNormsIdeal.main_v0_8)) (v10 : (c : Dev Cert.AdamNormsIdeal.nD) → Buf (Elt Ideal) ((c.tc : Thread Cert.AdamNormsIdeal.nD Cert.AdamNormsIdeal.τ).loc Cert.AdamNormsIdeal.main_v0_9)) (v11 : (c : Dev Cert.AdamNormsIdeal.nD) → Buf (Elt Ideal) ((c.tc : Thread Cert.AdamNormsIdeal.nD Cert.AdamNormsIdeal.τ).loc Cert.AdamNormsIdeal.main_v0_10)) (v12 : (c : Dev Cert.AdamNormsIdeal.nD) → Buf (Elt Ideal) ((c.tc : Thread Cert.AdamNormsIdeal.nD Cert.AdamNormsIdeal.τ).loc Cert.AdamNormsIdeal.main_v0_11)),
      θ_run (Cert.AdamNormsIdeal.defs (F := Ideal)) (onTc (τ := Cert.AdamNormsIdeal.τ) (Cert.AdamNormsIdeal.main (F := Ideal))) ⟨m, fun _ => 0, g⟩ (fun r => ∀ c : Dev Cert.AdamNormsIdeal.nD,
          r.2.mem ((c.tc : Thread Cert.AdamNormsIdeal.nD Cert.AdamNormsIdeal.τ).loc Cert.AdamNormsIdeal.main_v0_12) = v0 c
          ∧ r.2.mem ((c.tc : Thread Cert.AdamNormsIdeal.nD Cert.AdamNormsIdeal.τ).loc Cert.AdamNormsIdeal.main_v0_0) = v1 c
          ∧ r.2.mem ((c.tc : Thread Cert.AdamNormsIdeal.nD Cert.AdamNormsIdeal.τ).loc Cert.AdamNormsIdeal.main_v0_1) = v2 c
          ∧ r.2.mem ((c.tc : Thread Cert.AdamNormsIdeal.nD Cert.AdamNormsIdeal.τ).loc Cert.AdamNormsIdeal.main_v0_2) = v3 c
          ∧ r.2.mem ((c.tc : Thread Cert.AdamNormsIdeal.nD Cert.AdamNormsIdeal.τ).loc Cert.AdamNormsIdeal.main_v0_3) = v4 c
          ∧ r.2.mem ((c.tc : Thread Cert.AdamNormsIdeal.nD Cert.AdamNormsIdeal.τ).loc Cert.AdamNormsIdeal.main_v0_4) = v5 c
          ∧ r.2.mem ((c.tc : Thread Cert.AdamNormsIdeal.nD Cert.AdamNormsIdeal.τ).loc Cert.AdamNormsIdeal.main_v0_5) = v6 c
          ∧ r.2.mem ((c.tc : Thread Cert.AdamNormsIdeal.nD Cert.AdamNormsIdeal.τ).loc Cert.AdamNormsIdeal.main_v0_6) = v7 c
          ∧ r.2.mem ((c.tc : Thread Cert.AdamNormsIdeal.nD Cert.AdamNormsIdeal.τ).loc Cert.AdamNormsIdeal.main_v0_7) = v8 c
          ∧ r.2.mem ((c.tc : Thread Cert.AdamNormsIdeal.nD Cert.AdamNormsIdeal.τ).loc Cert.AdamNormsIdeal.main_v0_8) = v9 c
          ∧ r.2.mem ((c.tc : Thread Cert.AdamNormsIdeal.nD Cert.AdamNormsIdeal.τ).loc Cert.AdamNormsIdeal.main_v0_9) = v10 c
          ∧ r.2.mem ((c.tc : Thread Cert.AdamNormsIdeal.nD Cert.AdamNormsIdeal.τ).loc Cert.AdamNormsIdeal.main_v0_10) = v11 c
          ∧ r.2.mem ((c.tc : Thread Cert.AdamNormsIdeal.nD Cert.AdamNormsIdeal.τ).loc Cert.AdamNormsIdeal.main_v0_11) = v12 c
          ∧ r.2.mem ((c.tc : Thread Cert.AdamNormsIdeal.nD Cert.AdamNormsIdeal.τ).loc Cert.AdamNormsIdeal.main_arg0) = m ((c.tc : Thread Cert.AdamNormsIdeal.nD Cert.AdamNormsIdeal.τ).loc Cert.AdamNormsIdeal.main_arg0)
          ∧ r.2.mem ((c.tc : Thread Cert.AdamNormsIdeal.nD Cert.AdamNormsIdeal.τ).loc Cert.AdamNormsIdeal.main_arg1) = m ((c.tc : Thread Cert.AdamNormsIdeal.nD Cert.AdamNormsIdeal.τ).loc Cert.AdamNormsIdeal.main_arg1)
          ∧ r.2.mem ((c.tc : Thread Cert.AdamNormsIdeal.nD Cert.AdamNormsIdeal.τ).loc Cert.AdamNormsIdeal.main_arg2) = m ((c.tc : Thread Cert.AdamNormsIdeal.nD Cert.AdamNormsIdeal.τ).loc Cert.AdamNormsIdeal.main_arg2)
          ∧ r.2.mem ((c.tc : Thread Cert.AdamNormsIdeal.nD Cert.AdamNormsIdeal.τ).loc Cert.AdamNormsIdeal.main_arg3) = m ((c.tc : Thread Cert.AdamNormsIdeal.nD Cert.AdamNormsIdeal.τ).loc Cert.AdamNormsIdeal.main_arg3)
          ∧ r.2.mem ((c.tc : Thread Cert.AdamNormsIdeal.nD Cert.AdamNormsIdeal.τ).loc Cert.AdamNormsIdeal.main_arg4) = m ((c.tc : Thread Cert.AdamNormsIdeal.nD Cert.AdamNormsIdeal.τ).loc Cert.AdamNormsIdeal.main_arg4)
          ∧ r.2.mem ((c.tc : Thread Cert.AdamNormsIdeal.nD Cert.AdamNormsIdeal.τ).loc Cert.AdamNormsIdeal.main_arg5) = m ((c.tc : Thread Cert.AdamNormsIdeal.nD Cert.AdamNormsIdeal.τ).loc Cert.AdamNormsIdeal.main_arg5)
          ∧ r.2.mem ((c.tc : Thread Cert.AdamNormsIdeal.nD Cert.AdamNormsIdeal.τ).loc Cert.AdamNormsIdeal.main_arg6) = m ((c.tc : Thread Cert.AdamNormsIdeal.nD Cert.AdamNormsIdeal.τ).loc Cert.AdamNormsIdeal.main_arg6)
          ∧ r.2.mem ((c.tc : Thread Cert.AdamNormsIdeal.nD Cert.AdamNormsIdeal.τ).loc Cert.AdamNormsIdeal.main_arg7) = m ((c.tc : Thread Cert.AdamNormsIdeal.nD Cert.AdamNormsIdeal.τ).loc Cert.AdamNormsIdeal.main_arg7)
          ∧ r.2.mem ((c.tc : Thread Cert.AdamNormsIdeal.nD Cert.AdamNormsIdeal.τ).loc Cert.AdamNormsIdeal.main_arg8) = m ((c.tc : Thread Cert.AdamNormsIdeal.nD Cert.AdamNormsIdeal.τ).loc Cert.AdamNormsIdeal.main_arg8)
          ∧ r.2.mem ((c.tc : Thread Cert.AdamNormsIdeal.nD Cert.AdamNormsIdeal.τ).loc Cert.AdamNormsIdeal.main_arg9) = m ((c.tc : Thread Cert.AdamNormsIdeal.nD Cert.AdamNormsIdeal.τ).loc Cert.AdamNormsIdeal.main_arg9)
          ∧ r.2.mem ((c.tc : Thread Cert.AdamNormsIdeal.nD Cert.AdamNormsIdeal.τ).loc Cert.AdamNormsIdeal.main_arg10) = m ((c.tc : Thread Cert.AdamNormsIdeal.nD Cert.AdamNormsIdeal.τ).loc Cert.AdamNormsIdeal.main_arg10))
      ∧ θ_run (Cert.AdamNormsRefIdeal.defs (F := Ideal)) (onTc (τ := Cert.AdamNormsRefIdeal.τ) (Cert.AdamNormsRefIdeal.main (F := Ideal))) ⟨m', fun _ => 0, g'⟩ (fun r => ∀ c : Dev Cert.AdamNormsRefIdeal.nD,
          r.2.mem ((c.tc : Thread Cert.AdamNormsRefIdeal.nD Cert.AdamNormsRefIdeal.τ).loc Cert.AdamNormsRefIdeal.main_v4) = v0 c
          ∧ r.2.mem ((c.tc : Thread Cert.AdamNormsRefIdeal.nD Cert.AdamNormsRefIdeal.τ).loc Cert.AdamNormsRefIdeal.main_v1) = v1 c
          ∧ r.2.mem ((c.tc : Thread Cert.AdamNormsRefIdeal.nD Cert.AdamNormsRefIdeal.τ).loc Cert.AdamNormsRefIdeal.main_v28) = v2 c
          ∧ r.2.mem ((c.tc : Thread Cert.AdamNormsRefIdeal.nD Cert.AdamNormsRefIdeal.τ).loc Cert.AdamNormsRefIdeal.main_v9) = v3 c
          ∧ r.2.mem ((c.tc : Thread Cert.AdamNormsRefIdeal.nD Cert.AdamNormsRefIdeal.τ).loc Cert.AdamNormsRefIdeal.main_v15) = v4 c
          ∧ r.2.mem ((c.tc : Thread Cert.AdamNormsRefIdeal.nD Cert.AdamNormsRefIdeal.τ).loc Cert.AdamNormsRefIdeal.main_v2) = v5 c
          ∧ r.2.mem ((c.tc : Thread Cert.AdamNormsRefIdeal.nD Cert.AdamNormsRefIdeal.τ).loc Cert.AdamNormsRefIdeal.main_v52) = v6 c
          ∧ r.2.mem ((c.tc : Thread Cert.AdamNormsRefIdeal.nD Cert.AdamNormsRefIdeal.τ).loc Cert.AdamNormsRefIdeal.main_v33) = v7 c
          ∧ r.2.mem ((c.tc : Thread Cert.AdamNormsRefIdeal.nD Cert.AdamNormsRefIdeal.τ).loc Cert.AdamNormsRefIdeal.main_v39) = v8 c
          ∧ r.2.mem ((c.tc : Thread Cert.AdamNormsRefIdeal.nD Cert.AdamNormsRefIdeal.τ).loc Cert.AdamNormsRefIdeal.main_v3) = v9 c
          ∧ r.2.mem ((c.tc : Thread Cert.AdamNormsRefIdeal.nD Cert.AdamNormsRefIdeal.τ).loc Cert.AdamNormsRefIdeal.main_v76) = v10 c
          ∧ r.2.mem ((c.tc : Thread Cert.AdamNormsRefIdeal.nD Cert.AdamNormsRefIdeal.τ).loc Cert.AdamNormsRefIdeal.main_v57) = v11 c
          ∧ r.2.mem ((c.tc : Thread Cert.AdamNormsRefIdeal.nD Cert.AdamNormsRefIdeal.τ).loc Cert.AdamNormsRefIdeal.main_v63) = v12 c
          ∧ r.2.mem ((c.tc : Thread Cert.AdamNormsRefIdeal.nD Cert.AdamNormsRefIdeal.τ).loc Cert.AdamNormsRefIdeal.main_arg0) = m' ((c.tc : Thread Cert.AdamNormsRefIdeal.nD Cert.AdamNormsRefIdeal.τ).loc Cert.AdamNormsRefIdeal.main_arg0)
          ∧ r.2.mem ((c.tc : Thread Cert.AdamNormsRefIdeal.nD Cert.AdamNormsRefIdeal.τ).loc Cert.AdamNormsRefIdeal.main_arg1) = m' ((c.tc : Thread Cert.AdamNormsRefIdeal.nD Cert.AdamNormsRefIdeal.τ).loc Cert.AdamNormsRefIdeal.main_arg1)
          ∧ r.2.mem ((c.tc : Thread Cert.AdamNormsRefIdeal.nD Cert.AdamNormsRefIdeal.τ).loc Cert.AdamNormsRefIdeal.main_arg2) = m' ((c.tc : Thread Cert.AdamNormsRefIdeal.nD Cert.AdamNormsRefIdeal.τ).loc Cert.AdamNormsRefIdeal.main_arg2)
          ∧ r.2.mem ((c.tc : Thread Cert.AdamNormsRefIdeal.nD Cert.AdamNormsRefIdeal.τ).loc Cert.AdamNormsRefIdeal.main_arg3) = m' ((c.tc : Thread Cert.AdamNormsRefIdeal.nD Cert.AdamNormsRefIdeal.τ).loc Cert.AdamNormsRefIdeal.main_arg3)
          ∧ r.2.mem ((c.tc : Thread Cert.AdamNormsRefIdeal.nD Cert.AdamNormsRefIdeal.τ).loc Cert.AdamNormsRefIdeal.main_arg4) = m' ((c.tc : Thread Cert.AdamNormsRefIdeal.nD Cert.AdamNormsRefIdeal.τ).loc Cert.AdamNormsRefIdeal.main_arg4)
          ∧ r.2.mem ((c.tc : Thread Cert.AdamNormsRefIdeal.nD Cert.AdamNormsRefIdeal.τ).loc Cert.AdamNormsRefIdeal.main_arg5) = m' ((c.tc : Thread Cert.AdamNormsRefIdeal.nD Cert.AdamNormsRefIdeal.τ).loc Cert.AdamNormsRefIdeal.main_arg5)
          ∧ r.2.mem ((c.tc : Thread Cert.AdamNormsRefIdeal.nD Cert.AdamNormsRefIdeal.τ).loc Cert.AdamNormsRefIdeal.main_arg6) = m' ((c.tc : Thread Cert.AdamNormsRefIdeal.nD Cert.AdamNormsRefIdeal.τ).loc Cert.AdamNormsRefIdeal.main_arg6)
          ∧ r.2.mem ((c.tc : Thread Cert.AdamNormsRefIdeal.nD Cert.AdamNormsRefIdeal.τ).loc Cert.AdamNormsRefIdeal.main_arg7) = m' ((c.tc : Thread Cert.AdamNormsRefIdeal.nD Cert.AdamNormsRefIdeal.τ).loc Cert.AdamNormsRefIdeal.main_arg7)
          ∧ r.2.mem ((c.tc : Thread Cert.AdamNormsRefIdeal.nD Cert.AdamNormsRefIdeal.τ).loc Cert.AdamNormsRefIdeal.main_arg8) = m' ((c.tc : Thread Cert.AdamNormsRefIdeal.nD Cert.AdamNormsRefIdeal.τ).loc Cert.AdamNormsRefIdeal.main_arg8)
          ∧ r.2.mem ((c.tc : Thread Cert.AdamNormsRefIdeal.nD Cert.AdamNormsRefIdeal.τ).loc Cert.AdamNormsRefIdeal.main_arg9) = m' ((c.tc : Thread Cert.AdamNormsRefIdeal.nD Cert.AdamNormsRefIdeal.τ).loc Cert.AdamNormsRefIdeal.main_arg9)
          ∧ r.2.mem ((c.tc : Thread Cert.AdamNormsRefIdeal.nD Cert.AdamNormsRefIdeal.τ).loc Cert.AdamNormsRefIdeal.main_arg10) = m' ((c.tc : Thread Cert.AdamNormsRefIdeal.nD Cert.AdamNormsRefIdeal.τ).loc Cert.AdamNormsRefIdeal.main_arg10))

def preserves_AdamGates_AdamGatesIdeal : Prop :=
  True

def algebraic_AdamGatesIdeal_AdamGatesRefIdeal [hAdamGatesIdeal : Cert.AdamGatesIdeal.Facts] [hAdamGatesRefIdeal : Cert.AdamGatesRefIdeal.Facts] [hPre_gates_on_the_mesh : Cert.Pre_gates_on_the_mesh.Facts] : Prop :=
  ∀ (m : (ℓ : Loc Cert.AdamGatesIdeal.nD Cert.AdamGatesIdeal.τ Cert.AdamGatesIdeal.sig) → Buf (Elt Ideal) ℓ) (g : Dev Cert.AdamGatesIdeal.nD → PrngReg)
    (m' : (ℓ : Loc Cert.AdamGatesRefIdeal.nD Cert.AdamGatesRefIdeal.τ Cert.AdamGatesRefIdeal.sig) → Buf (Elt Ideal) ℓ) (g' : Dev Cert.AdamGatesRefIdeal.nD → PrngReg), Pre_AdamGatesIdeal m →
    (∀ c : Dev Cert.AdamGatesIdeal.nD,
      m' ((c.tc : Thread Cert.AdamGatesRefIdeal.nD Cert.AdamGatesRefIdeal.τ).loc Cert.AdamGatesRefIdeal.main_arg0) = m ((c.tc : Thread Cert.AdamGatesIdeal.nD Cert.AdamGatesIdeal.τ).loc Cert.AdamGatesIdeal.main_arg0)
      ∧ m' ((c.tc : Thread Cert.AdamGatesRefIdeal.nD Cert.AdamGatesRefIdeal.τ).loc Cert.AdamGatesRefIdeal.main_arg1) = m ((c.tc : Thread Cert.AdamGatesIdeal.nD Cert.AdamGatesIdeal.τ).loc Cert.AdamGatesIdeal.main_arg1)
      ∧ m' ((c.tc : Thread Cert.AdamGatesRefIdeal.nD Cert.AdamGatesRefIdeal.τ).loc Cert.AdamGatesRefIdeal.main_arg2) = m ((c.tc : Thread Cert.AdamGatesIdeal.nD Cert.AdamGatesIdeal.τ).loc Cert.AdamGatesIdeal.main_arg2)
      ∧ m' ((c.tc : Thread Cert.AdamGatesRefIdeal.nD Cert.AdamGatesRefIdeal.τ).loc Cert.AdamGatesRefIdeal.main_arg3) = m ((c.tc : Thread Cert.AdamGatesIdeal.nD Cert.AdamGatesIdeal.τ).loc Cert.AdamGatesIdeal.main_arg3)
      ∧ m' ((c.tc : Thread Cert.AdamGatesRefIdeal.nD Cert.AdamGatesRefIdeal.τ).loc Cert.AdamGatesRefIdeal.main_arg4) = m ((c.tc : Thread Cert.AdamGatesIdeal.nD Cert.AdamGatesIdeal.τ).loc Cert.AdamGatesIdeal.main_arg4)
      ∧ m' ((c.tc : Thread Cert.AdamGatesRefIdeal.nD Cert.AdamGatesRefIdeal.τ).loc Cert.AdamGatesRefIdeal.main_arg5) = m ((c.tc : Thread Cert.AdamGatesIdeal.nD Cert.AdamGatesIdeal.τ).loc Cert.AdamGatesIdeal.main_arg5)
      ∧ m' ((c.tc : Thread Cert.AdamGatesRefIdeal.nD Cert.AdamGatesRefIdeal.τ).loc Cert.AdamGatesRefIdeal.main_arg6) = m ((c.tc : Thread Cert.AdamGatesIdeal.nD Cert.AdamGatesIdeal.τ).loc Cert.AdamGatesIdeal.main_arg6)
      ∧ m' ((c.tc : Thread Cert.AdamGatesRefIdeal.nD Cert.AdamGatesRefIdeal.τ).loc Cert.AdamGatesRefIdeal.main_arg7) = m ((c.tc : Thread Cert.AdamGatesIdeal.nD Cert.AdamGatesIdeal.τ).loc Cert.AdamGatesIdeal.main_arg7)
      ∧ m' ((c.tc : Thread Cert.AdamGatesRefIdeal.nD Cert.AdamGatesRefIdeal.τ).loc Cert.AdamGatesRefIdeal.main_arg8) = m ((c.tc : Thread Cert.AdamGatesIdeal.nD Cert.AdamGatesIdeal.τ).loc Cert.AdamGatesIdeal.main_arg8)
      ∧ m' ((c.tc : Thread Cert.AdamGatesRefIdeal.nD Cert.AdamGatesRefIdeal.τ).loc Cert.AdamGatesRefIdeal.main_arg9) = m ((c.tc : Thread Cert.AdamGatesIdeal.nD Cert.AdamGatesIdeal.τ).loc Cert.AdamGatesIdeal.main_arg9)
      ∧ m' ((c.tc : Thread Cert.AdamGatesRefIdeal.nD Cert.AdamGatesRefIdeal.τ).loc Cert.AdamGatesRefIdeal.main_arg10) = m ((c.tc : Thread Cert.AdamGatesIdeal.nD Cert.AdamGatesIdeal.τ).loc Cert.AdamGatesIdeal.main_arg10)) →
    ∃ (v0 : (c : Dev Cert.AdamGatesIdeal.nD) → Buf (Elt Ideal) ((c.tc : Thread Cert.AdamGatesIdeal.nD Cert.AdamGatesIdeal.τ).loc Cert.AdamGatesIdeal.main_v0_12)) (v1 : (c : Dev Cert.AdamGatesIdeal.nD) → Buf (Elt Ideal) ((c.tc : Thread Cert.AdamGatesIdeal.nD Cert.AdamGatesIdeal.τ).loc Cert.AdamGatesIdeal.main_v0_0)) (v2 : (c : Dev Cert.AdamGatesIdeal.nD) → Buf (Elt Ideal) ((c.tc : Thread Cert.AdamGatesIdeal.nD Cert.AdamGatesIdeal.τ).loc Cert.AdamGatesIdeal.main_v0_1)) (v3 : (c : Dev Cert.AdamGatesIdeal.nD) → Buf (Elt Ideal) ((c.tc : Thread Cert.AdamGatesIdeal.nD Cert.AdamGatesIdeal.τ).loc Cert.AdamGatesIdeal.main_v0_2)) (v4 : (c : Dev Cert.AdamGatesIdeal.nD) → Buf (Elt Ideal) ((c.tc : Thread Cert.AdamGatesIdeal.nD Cert.AdamGatesIdeal.τ).loc Cert.AdamGatesIdeal.main_v0_3)) (v5 : (c : Dev Cert.AdamGatesIdeal.nD) → Buf (Elt Ideal) ((c.tc : Thread Cert.AdamGatesIdeal.nD Cert.AdamGatesIdeal.τ).loc Cert.AdamGatesIdeal.main_v0_4)) (v6 : (c : Dev Cert.AdamGatesIdeal.nD) → Buf (Elt Ideal) ((c.tc : Thread Cert.AdamGatesIdeal.nD Cert.AdamGatesIdeal.τ).loc Cert.AdamGatesIdeal.main_v0_5)) (v7 : (c : Dev Cert.AdamGatesIdeal.nD) → Buf (Elt Ideal) ((c.tc : Thread Cert.AdamGatesIdeal.nD Cert.AdamGatesIdeal.τ).loc Cert.AdamGatesIdeal.main_v0_6)) (v8 : (c : Dev Cert.AdamGatesIdeal.nD) → Buf (Elt Ideal) ((c.tc : Thread Cert.AdamGatesIdeal.nD Cert.AdamGatesIdeal.τ).loc Cert.AdamGatesIdeal.main_v0_7)) (v9 : (c : Dev Cert.AdamGatesIdeal.nD) → Buf (Elt Ideal) ((c.tc : Thread Cert.AdamGatesIdeal.nD Cert.AdamGatesIdeal.τ).loc Cert.AdamGatesIdeal.main_v0_8)) (v10 : (c : Dev Cert.AdamGatesIdeal.nD) → Buf (Elt Ideal) ((c.tc : Thread Cert.AdamGatesIdeal.nD Cert.AdamGatesIdeal.τ).loc Cert.AdamGatesIdeal.main_v0_9)) (v11 : (c : Dev Cert.AdamGatesIdeal.nD) → Buf (Elt Ideal) ((c.tc : Thread Cert.AdamGatesIdeal.nD Cert.AdamGatesIdeal.τ).loc Cert.AdamGatesIdeal.main_v0_10)) (v12 : (c : Dev Cert.AdamGatesIdeal.nD) → Buf (Elt Ideal) ((c.tc : Thread Cert.AdamGatesIdeal.nD Cert.AdamGatesIdeal.τ).loc Cert.AdamGatesIdeal.main_v0_11)),
      θ_run (Cert.AdamGatesIdeal.defs (F := Ideal)) (onTc (τ := Cert.AdamGatesIdeal.τ) (Cert.AdamGatesIdeal.main (F := Ideal))) ⟨m, fun _ => 0, g⟩ (fun r => ∀ c : Dev Cert.AdamGatesIdeal.nD,
          r.2.mem ((c.tc : Thread Cert.AdamGatesIdeal.nD Cert.AdamGatesIdeal.τ).loc Cert.AdamGatesIdeal.main_v0_12) = v0 c
          ∧ r.2.mem ((c.tc : Thread Cert.AdamGatesIdeal.nD Cert.AdamGatesIdeal.τ).loc Cert.AdamGatesIdeal.main_v0_0) = v1 c
          ∧ r.2.mem ((c.tc : Thread Cert.AdamGatesIdeal.nD Cert.AdamGatesIdeal.τ).loc Cert.AdamGatesIdeal.main_v0_1) = v2 c
          ∧ r.2.mem ((c.tc : Thread Cert.AdamGatesIdeal.nD Cert.AdamGatesIdeal.τ).loc Cert.AdamGatesIdeal.main_v0_2) = v3 c
          ∧ r.2.mem ((c.tc : Thread Cert.AdamGatesIdeal.nD Cert.AdamGatesIdeal.τ).loc Cert.AdamGatesIdeal.main_v0_3) = v4 c
          ∧ r.2.mem ((c.tc : Thread Cert.AdamGatesIdeal.nD Cert.AdamGatesIdeal.τ).loc Cert.AdamGatesIdeal.main_v0_4) = v5 c
          ∧ r.2.mem ((c.tc : Thread Cert.AdamGatesIdeal.nD Cert.AdamGatesIdeal.τ).loc Cert.AdamGatesIdeal.main_v0_5) = v6 c
          ∧ r.2.mem ((c.tc : Thread Cert.AdamGatesIdeal.nD Cert.AdamGatesIdeal.τ).loc Cert.AdamGatesIdeal.main_v0_6) = v7 c
          ∧ r.2.mem ((c.tc : Thread Cert.AdamGatesIdeal.nD Cert.AdamGatesIdeal.τ).loc Cert.AdamGatesIdeal.main_v0_7) = v8 c
          ∧ r.2.mem ((c.tc : Thread Cert.AdamGatesIdeal.nD Cert.AdamGatesIdeal.τ).loc Cert.AdamGatesIdeal.main_v0_8) = v9 c
          ∧ r.2.mem ((c.tc : Thread Cert.AdamGatesIdeal.nD Cert.AdamGatesIdeal.τ).loc Cert.AdamGatesIdeal.main_v0_9) = v10 c
          ∧ r.2.mem ((c.tc : Thread Cert.AdamGatesIdeal.nD Cert.AdamGatesIdeal.τ).loc Cert.AdamGatesIdeal.main_v0_10) = v11 c
          ∧ r.2.mem ((c.tc : Thread Cert.AdamGatesIdeal.nD Cert.AdamGatesIdeal.τ).loc Cert.AdamGatesIdeal.main_v0_11) = v12 c
          ∧ r.2.mem ((c.tc : Thread Cert.AdamGatesIdeal.nD Cert.AdamGatesIdeal.τ).loc Cert.AdamGatesIdeal.main_arg0) = m ((c.tc : Thread Cert.AdamGatesIdeal.nD Cert.AdamGatesIdeal.τ).loc Cert.AdamGatesIdeal.main_arg0)
          ∧ r.2.mem ((c.tc : Thread Cert.AdamGatesIdeal.nD Cert.AdamGatesIdeal.τ).loc Cert.AdamGatesIdeal.main_arg1) = m ((c.tc : Thread Cert.AdamGatesIdeal.nD Cert.AdamGatesIdeal.τ).loc Cert.AdamGatesIdeal.main_arg1)
          ∧ r.2.mem ((c.tc : Thread Cert.AdamGatesIdeal.nD Cert.AdamGatesIdeal.τ).loc Cert.AdamGatesIdeal.main_arg2) = m ((c.tc : Thread Cert.AdamGatesIdeal.nD Cert.AdamGatesIdeal.τ).loc Cert.AdamGatesIdeal.main_arg2)
          ∧ r.2.mem ((c.tc : Thread Cert.AdamGatesIdeal.nD Cert.AdamGatesIdeal.τ).loc Cert.AdamGatesIdeal.main_arg3) = m ((c.tc : Thread Cert.AdamGatesIdeal.nD Cert.AdamGatesIdeal.τ).loc Cert.AdamGatesIdeal.main_arg3)
          ∧ r.2.mem ((c.tc : Thread Cert.AdamGatesIdeal.nD Cert.AdamGatesIdeal.τ).loc Cert.AdamGatesIdeal.main_arg4) = m ((c.tc : Thread Cert.AdamGatesIdeal.nD Cert.AdamGatesIdeal.τ).loc Cert.AdamGatesIdeal.main_arg4)
          ∧ r.2.mem ((c.tc : Thread Cert.AdamGatesIdeal.nD Cert.AdamGatesIdeal.τ).loc Cert.AdamGatesIdeal.main_arg5) = m ((c.tc : Thread Cert.AdamGatesIdeal.nD Cert.AdamGatesIdeal.τ).loc Cert.AdamGatesIdeal.main_arg5)
          ∧ r.2.mem ((c.tc : Thread Cert.AdamGatesIdeal.nD Cert.AdamGatesIdeal.τ).loc Cert.AdamGatesIdeal.main_arg6) = m ((c.tc : Thread Cert.AdamGatesIdeal.nD Cert.AdamGatesIdeal.τ).loc Cert.AdamGatesIdeal.main_arg6)
          ∧ r.2.mem ((c.tc : Thread Cert.AdamGatesIdeal.nD Cert.AdamGatesIdeal.τ).loc Cert.AdamGatesIdeal.main_arg7) = m ((c.tc : Thread Cert.AdamGatesIdeal.nD Cert.AdamGatesIdeal.τ).loc Cert.AdamGatesIdeal.main_arg7)
          ∧ r.2.mem ((c.tc : Thread Cert.AdamGatesIdeal.nD Cert.AdamGatesIdeal.τ).loc Cert.AdamGatesIdeal.main_arg8) = m ((c.tc : Thread Cert.AdamGatesIdeal.nD Cert.AdamGatesIdeal.τ).loc Cert.AdamGatesIdeal.main_arg8)
          ∧ r.2.mem ((c.tc : Thread Cert.AdamGatesIdeal.nD Cert.AdamGatesIdeal.τ).loc Cert.AdamGatesIdeal.main_arg9) = m ((c.tc : Thread Cert.AdamGatesIdeal.nD Cert.AdamGatesIdeal.τ).loc Cert.AdamGatesIdeal.main_arg9)
          ∧ r.2.mem ((c.tc : Thread Cert.AdamGatesIdeal.nD Cert.AdamGatesIdeal.τ).loc Cert.AdamGatesIdeal.main_arg10) = m ((c.tc : Thread Cert.AdamGatesIdeal.nD Cert.AdamGatesIdeal.τ).loc Cert.AdamGatesIdeal.main_arg10))
      ∧ θ_run (Cert.AdamGatesRefIdeal.defs (F := Ideal)) (onTc (τ := Cert.AdamGatesRefIdeal.τ) (Cert.AdamGatesRefIdeal.main (F := Ideal))) ⟨m', fun _ => 0, g'⟩ (fun r => ∀ c : Dev Cert.AdamGatesRefIdeal.nD,
          r.2.mem ((c.tc : Thread Cert.AdamGatesRefIdeal.nD Cert.AdamGatesRefIdeal.τ).loc Cert.AdamGatesRefIdeal.main_v4) = v0 c
          ∧ r.2.mem ((c.tc : Thread Cert.AdamGatesRefIdeal.nD Cert.AdamGatesRefIdeal.τ).loc Cert.AdamGatesRefIdeal.main_v1) = v1 c
          ∧ r.2.mem ((c.tc : Thread Cert.AdamGatesRefIdeal.nD Cert.AdamGatesRefIdeal.τ).loc Cert.AdamGatesRefIdeal.main_v28) = v2 c
          ∧ r.2.mem ((c.tc : Thread Cert.AdamGatesRefIdeal.nD Cert.AdamGatesRefIdeal.τ).loc Cert.AdamGatesRefIdeal.main_v9) = v3 c
          ∧ r.2.mem ((c.tc : Thread Cert.AdamGatesRefIdeal.nD Cert.AdamGatesRefIdeal.τ).loc Cert.AdamGatesRefIdeal.main_v15) = v4 c
          ∧ r.2.mem ((c.tc : Thread Cert.AdamGatesRefIdeal.nD Cert.AdamGatesRefIdeal.τ).loc Cert.AdamGatesRefIdeal.main_v2) = v5 c
          ∧ r.2.mem ((c.tc : Thread Cert.AdamGatesRefIdeal.nD Cert.AdamGatesRefIdeal.τ).loc Cert.AdamGatesRefIdeal.main_v52) = v6 c
          ∧ r.2.mem ((c.tc : Thread Cert.AdamGatesRefIdeal.nD Cert.AdamGatesRefIdeal.τ).loc Cert.AdamGatesRefIdeal.main_v33) = v7 c
          ∧ r.2.mem ((c.tc : Thread Cert.AdamGatesRefIdeal.nD Cert.AdamGatesRefIdeal.τ).loc Cert.AdamGatesRefIdeal.main_v39) = v8 c
          ∧ r.2.mem ((c.tc : Thread Cert.AdamGatesRefIdeal.nD Cert.AdamGatesRefIdeal.τ).loc Cert.AdamGatesRefIdeal.main_v3) = v9 c
          ∧ r.2.mem ((c.tc : Thread Cert.AdamGatesRefIdeal.nD Cert.AdamGatesRefIdeal.τ).loc Cert.AdamGatesRefIdeal.main_v76) = v10 c
          ∧ r.2.mem ((c.tc : Thread Cert.AdamGatesRefIdeal.nD Cert.AdamGatesRefIdeal.τ).loc Cert.AdamGatesRefIdeal.main_v57) = v11 c
          ∧ r.2.mem ((c.tc : Thread Cert.AdamGatesRefIdeal.nD Cert.AdamGatesRefIdeal.τ).loc Cert.AdamGatesRefIdeal.main_v63) = v12 c
          ∧ r.2.mem ((c.tc : Thread Cert.AdamGatesRefIdeal.nD Cert.AdamGatesRefIdeal.τ).loc Cert.AdamGatesRefIdeal.main_arg0) = m' ((c.tc : Thread Cert.AdamGatesRefIdeal.nD Cert.AdamGatesRefIdeal.τ).loc Cert.AdamGatesRefIdeal.main_arg0)
          ∧ r.2.mem ((c.tc : Thread Cert.AdamGatesRefIdeal.nD Cert.AdamGatesRefIdeal.τ).loc Cert.AdamGatesRefIdeal.main_arg1) = m' ((c.tc : Thread Cert.AdamGatesRefIdeal.nD Cert.AdamGatesRefIdeal.τ).loc Cert.AdamGatesRefIdeal.main_arg1)
          ∧ r.2.mem ((c.tc : Thread Cert.AdamGatesRefIdeal.nD Cert.AdamGatesRefIdeal.τ).loc Cert.AdamGatesRefIdeal.main_arg2) = m' ((c.tc : Thread Cert.AdamGatesRefIdeal.nD Cert.AdamGatesRefIdeal.τ).loc Cert.AdamGatesRefIdeal.main_arg2)
          ∧ r.2.mem ((c.tc : Thread Cert.AdamGatesRefIdeal.nD Cert.AdamGatesRefIdeal.τ).loc Cert.AdamGatesRefIdeal.main_arg3) = m' ((c.tc : Thread Cert.AdamGatesRefIdeal.nD Cert.AdamGatesRefIdeal.τ).loc Cert.AdamGatesRefIdeal.main_arg3)
          ∧ r.2.mem ((c.tc : Thread Cert.AdamGatesRefIdeal.nD Cert.AdamGatesRefIdeal.τ).loc Cert.AdamGatesRefIdeal.main_arg4) = m' ((c.tc : Thread Cert.AdamGatesRefIdeal.nD Cert.AdamGatesRefIdeal.τ).loc Cert.AdamGatesRefIdeal.main_arg4)
          ∧ r.2.mem ((c.tc : Thread Cert.AdamGatesRefIdeal.nD Cert.AdamGatesRefIdeal.τ).loc Cert.AdamGatesRefIdeal.main_arg5) = m' ((c.tc : Thread Cert.AdamGatesRefIdeal.nD Cert.AdamGatesRefIdeal.τ).loc Cert.AdamGatesRefIdeal.main_arg5)
          ∧ r.2.mem ((c.tc : Thread Cert.AdamGatesRefIdeal.nD Cert.AdamGatesRefIdeal.τ).loc Cert.AdamGatesRefIdeal.main_arg6) = m' ((c.tc : Thread Cert.AdamGatesRefIdeal.nD Cert.AdamGatesRefIdeal.τ).loc Cert.AdamGatesRefIdeal.main_arg6)
          ∧ r.2.mem ((c.tc : Thread Cert.AdamGatesRefIdeal.nD Cert.AdamGatesRefIdeal.τ).loc Cert.AdamGatesRefIdeal.main_arg7) = m' ((c.tc : Thread Cert.AdamGatesRefIdeal.nD Cert.AdamGatesRefIdeal.τ).loc Cert.AdamGatesRefIdeal.main_arg7)
          ∧ r.2.mem ((c.tc : Thread Cert.AdamGatesRefIdeal.nD Cert.AdamGatesRefIdeal.τ).loc Cert.AdamGatesRefIdeal.main_arg8) = m' ((c.tc : Thread Cert.AdamGatesRefIdeal.nD Cert.AdamGatesRefIdeal.τ).loc Cert.AdamGatesRefIdeal.main_arg8)
          ∧ r.2.mem ((c.tc : Thread Cert.AdamGatesRefIdeal.nD Cert.AdamGatesRefIdeal.τ).loc Cert.AdamGatesRefIdeal.main_arg9) = m' ((c.tc : Thread Cert.AdamGatesRefIdeal.nD Cert.AdamGatesRefIdeal.τ).loc Cert.AdamGatesRefIdeal.main_arg9)
          ∧ r.2.mem ((c.tc : Thread Cert.AdamGatesRefIdeal.nD Cert.AdamGatesRefIdeal.τ).loc Cert.AdamGatesRefIdeal.main_arg10) = m' ((c.tc : Thread Cert.AdamGatesRefIdeal.nD Cert.AdamGatesRefIdeal.τ).loc Cert.AdamGatesRefIdeal.main_arg10))

def preserves_AdamConvs_AdamConvsIdeal : Prop :=
  True

def algebraic_AdamConvsIdeal_AdamConvsRefIdeal [hAdamConvsIdeal : Cert.AdamConvsIdeal.Facts] [hAdamConvsRefIdeal : Cert.AdamConvsRefIdeal.Facts] [hPre_convs_on_the_mesh : Cert.Pre_convs_on_the_mesh.Facts] : Prop :=
  ∀ (m : (ℓ : Loc Cert.AdamConvsIdeal.nD Cert.AdamConvsIdeal.τ Cert.AdamConvsIdeal.sig) → Buf (Elt Ideal) ℓ) (g : Dev Cert.AdamConvsIdeal.nD → PrngReg)
    (m' : (ℓ : Loc Cert.AdamConvsRefIdeal.nD Cert.AdamConvsRefIdeal.τ Cert.AdamConvsRefIdeal.sig) → Buf (Elt Ideal) ℓ) (g' : Dev Cert.AdamConvsRefIdeal.nD → PrngReg), Pre_AdamConvsIdeal m →
    (∀ c : Dev Cert.AdamConvsIdeal.nD,
      m' ((c.tc : Thread Cert.AdamConvsRefIdeal.nD Cert.AdamConvsRefIdeal.τ).loc Cert.AdamConvsRefIdeal.main_arg0) = m ((c.tc : Thread Cert.AdamConvsIdeal.nD Cert.AdamConvsIdeal.τ).loc Cert.AdamConvsIdeal.main_arg0)
      ∧ m' ((c.tc : Thread Cert.AdamConvsRefIdeal.nD Cert.AdamConvsRefIdeal.τ).loc Cert.AdamConvsRefIdeal.main_arg1) = m ((c.tc : Thread Cert.AdamConvsIdeal.nD Cert.AdamConvsIdeal.τ).loc Cert.AdamConvsIdeal.main_arg1)
      ∧ m' ((c.tc : Thread Cert.AdamConvsRefIdeal.nD Cert.AdamConvsRefIdeal.τ).loc Cert.AdamConvsRefIdeal.main_arg2) = m ((c.tc : Thread Cert.AdamConvsIdeal.nD Cert.AdamConvsIdeal.τ).loc Cert.AdamConvsIdeal.main_arg2)
      ∧ m' ((c.tc : Thread Cert.AdamConvsRefIdeal.nD Cert.AdamConvsRefIdeal.τ).loc Cert.AdamConvsRefIdeal.main_arg3) = m ((c.tc : Thread Cert.AdamConvsIdeal.nD Cert.AdamConvsIdeal.τ).loc Cert.AdamConvsIdeal.main_arg3)
      ∧ m' ((c.tc : Thread Cert.AdamConvsRefIdeal.nD Cert.AdamConvsRefIdeal.τ).loc Cert.AdamConvsRefIdeal.main_arg4) = m ((c.tc : Thread Cert.AdamConvsIdeal.nD Cert.AdamConvsIdeal.τ).loc Cert.AdamConvsIdeal.main_arg4)
      ∧ m' ((c.tc : Thread Cert.AdamConvsRefIdeal.nD Cert.AdamConvsRefIdeal.τ).loc Cert.AdamConvsRefIdeal.main_arg5) = m ((c.tc : Thread Cert.AdamConvsIdeal.nD Cert.AdamConvsIdeal.τ).loc Cert.AdamConvsIdeal.main_arg5)
      ∧ m' ((c.tc : Thread Cert.AdamConvsRefIdeal.nD Cert.AdamConvsRefIdeal.τ).loc Cert.AdamConvsRefIdeal.main_arg6) = m ((c.tc : Thread Cert.AdamConvsIdeal.nD Cert.AdamConvsIdeal.τ).loc Cert.AdamConvsIdeal.main_arg6)
      ∧ m' ((c.tc : Thread Cert.AdamConvsRefIdeal.nD Cert.AdamConvsRefIdeal.τ).loc Cert.AdamConvsRefIdeal.main_arg7) = m ((c.tc : Thread Cert.AdamConvsIdeal.nD Cert.AdamConvsIdeal.τ).loc Cert.AdamConvsIdeal.main_arg7)
      ∧ m' ((c.tc : Thread Cert.AdamConvsRefIdeal.nD Cert.AdamConvsRefIdeal.τ).loc Cert.AdamConvsRefIdeal.main_arg8) = m ((c.tc : Thread Cert.AdamConvsIdeal.nD Cert.AdamConvsIdeal.τ).loc Cert.AdamConvsIdeal.main_arg8)
      ∧ m' ((c.tc : Thread Cert.AdamConvsRefIdeal.nD Cert.AdamConvsRefIdeal.τ).loc Cert.AdamConvsRefIdeal.main_arg9) = m ((c.tc : Thread Cert.AdamConvsIdeal.nD Cert.AdamConvsIdeal.τ).loc Cert.AdamConvsIdeal.main_arg9)
      ∧ m' ((c.tc : Thread Cert.AdamConvsRefIdeal.nD Cert.AdamConvsRefIdeal.τ).loc Cert.AdamConvsRefIdeal.main_arg10) = m ((c.tc : Thread Cert.AdamConvsIdeal.nD Cert.AdamConvsIdeal.τ).loc Cert.AdamConvsIdeal.main_arg10)) →
    ∃ (v0 : (c : Dev Cert.AdamConvsIdeal.nD) → Buf (Elt Ideal) ((c.tc : Thread Cert.AdamConvsIdeal.nD Cert.AdamConvsIdeal.τ).loc Cert.AdamConvsIdeal.main_v0_12)) (v1 : (c : Dev Cert.AdamConvsIdeal.nD) → Buf (Elt Ideal) ((c.tc : Thread Cert.AdamConvsIdeal.nD Cert.AdamConvsIdeal.τ).loc Cert.AdamConvsIdeal.main_v0_0)) (v2 : (c : Dev Cert.AdamConvsIdeal.nD) → Buf (Elt Ideal) ((c.tc : Thread Cert.AdamConvsIdeal.nD Cert.AdamConvsIdeal.τ).loc Cert.AdamConvsIdeal.main_v0_1)) (v3 : (c : Dev Cert.AdamConvsIdeal.nD) → Buf (Elt Ideal) ((c.tc : Thread Cert.AdamConvsIdeal.nD Cert.AdamConvsIdeal.τ).loc Cert.AdamConvsIdeal.main_v0_2)) (v4 : (c : Dev Cert.AdamConvsIdeal.nD) → Buf (Elt Ideal) ((c.tc : Thread Cert.AdamConvsIdeal.nD Cert.AdamConvsIdeal.τ).loc Cert.AdamConvsIdeal.main_v0_3)) (v5 : (c : Dev Cert.AdamConvsIdeal.nD) → Buf (Elt Ideal) ((c.tc : Thread Cert.AdamConvsIdeal.nD Cert.AdamConvsIdeal.τ).loc Cert.AdamConvsIdeal.main_v0_4)) (v6 : (c : Dev Cert.AdamConvsIdeal.nD) → Buf (Elt Ideal) ((c.tc : Thread Cert.AdamConvsIdeal.nD Cert.AdamConvsIdeal.τ).loc Cert.AdamConvsIdeal.main_v0_5)) (v7 : (c : Dev Cert.AdamConvsIdeal.nD) → Buf (Elt Ideal) ((c.tc : Thread Cert.AdamConvsIdeal.nD Cert.AdamConvsIdeal.τ).loc Cert.AdamConvsIdeal.main_v0_6)) (v8 : (c : Dev Cert.AdamConvsIdeal.nD) → Buf (Elt Ideal) ((c.tc : Thread Cert.AdamConvsIdeal.nD Cert.AdamConvsIdeal.τ).loc Cert.AdamConvsIdeal.main_v0_7)) (v9 : (c : Dev Cert.AdamConvsIdeal.nD) → Buf (Elt Ideal) ((c.tc : Thread Cert.AdamConvsIdeal.nD Cert.AdamConvsIdeal.τ).loc Cert.AdamConvsIdeal.main_v0_8)) (v10 : (c : Dev Cert.AdamConvsIdeal.nD) → Buf (Elt Ideal) ((c.tc : Thread Cert.AdamConvsIdeal.nD Cert.AdamConvsIdeal.τ).loc Cert.AdamConvsIdeal.main_v0_9)) (v11 : (c : Dev Cert.AdamConvsIdeal.nD) → Buf (Elt Ideal) ((c.tc : Thread Cert.AdamConvsIdeal.nD Cert.AdamConvsIdeal.τ).loc Cert.AdamConvsIdeal.main_v0_10)) (v12 : (c : Dev Cert.AdamConvsIdeal.nD) → Buf (Elt Ideal) ((c.tc : Thread Cert.AdamConvsIdeal.nD Cert.AdamConvsIdeal.τ).loc Cert.AdamConvsIdeal.main_v0_11)),
      θ_run (Cert.AdamConvsIdeal.defs (F := Ideal)) (onTc (τ := Cert.AdamConvsIdeal.τ) (Cert.AdamConvsIdeal.main (F := Ideal))) ⟨m, fun _ => 0, g⟩ (fun r => ∀ c : Dev Cert.AdamConvsIdeal.nD,
          r.2.mem ((c.tc : Thread Cert.AdamConvsIdeal.nD Cert.AdamConvsIdeal.τ).loc Cert.AdamConvsIdeal.main_v0_12) = v0 c
          ∧ r.2.mem ((c.tc : Thread Cert.AdamConvsIdeal.nD Cert.AdamConvsIdeal.τ).loc Cert.AdamConvsIdeal.main_v0_0) = v1 c
          ∧ r.2.mem ((c.tc : Thread Cert.AdamConvsIdeal.nD Cert.AdamConvsIdeal.τ).loc Cert.AdamConvsIdeal.main_v0_1) = v2 c
          ∧ r.2.mem ((c.tc : Thread Cert.AdamConvsIdeal.nD Cert.AdamConvsIdeal.τ).loc Cert.AdamConvsIdeal.main_v0_2) = v3 c
          ∧ r.2.mem ((c.tc : Thread Cert.AdamConvsIdeal.nD Cert.AdamConvsIdeal.τ).loc Cert.AdamConvsIdeal.main_v0_3) = v4 c
          ∧ r.2.mem ((c.tc : Thread Cert.AdamConvsIdeal.nD Cert.AdamConvsIdeal.τ).loc Cert.AdamConvsIdeal.main_v0_4) = v5 c
          ∧ r.2.mem ((c.tc : Thread Cert.AdamConvsIdeal.nD Cert.AdamConvsIdeal.τ).loc Cert.AdamConvsIdeal.main_v0_5) = v6 c
          ∧ r.2.mem ((c.tc : Thread Cert.AdamConvsIdeal.nD Cert.AdamConvsIdeal.τ).loc Cert.AdamConvsIdeal.main_v0_6) = v7 c
          ∧ r.2.mem ((c.tc : Thread Cert.AdamConvsIdeal.nD Cert.AdamConvsIdeal.τ).loc Cert.AdamConvsIdeal.main_v0_7) = v8 c
          ∧ r.2.mem ((c.tc : Thread Cert.AdamConvsIdeal.nD Cert.AdamConvsIdeal.τ).loc Cert.AdamConvsIdeal.main_v0_8) = v9 c
          ∧ r.2.mem ((c.tc : Thread Cert.AdamConvsIdeal.nD Cert.AdamConvsIdeal.τ).loc Cert.AdamConvsIdeal.main_v0_9) = v10 c
          ∧ r.2.mem ((c.tc : Thread Cert.AdamConvsIdeal.nD Cert.AdamConvsIdeal.τ).loc Cert.AdamConvsIdeal.main_v0_10) = v11 c
          ∧ r.2.mem ((c.tc : Thread Cert.AdamConvsIdeal.nD Cert.AdamConvsIdeal.τ).loc Cert.AdamConvsIdeal.main_v0_11) = v12 c
          ∧ r.2.mem ((c.tc : Thread Cert.AdamConvsIdeal.nD Cert.AdamConvsIdeal.τ).loc Cert.AdamConvsIdeal.main_arg0) = m ((c.tc : Thread Cert.AdamConvsIdeal.nD Cert.AdamConvsIdeal.τ).loc Cert.AdamConvsIdeal.main_arg0)
          ∧ r.2.mem ((c.tc : Thread Cert.AdamConvsIdeal.nD Cert.AdamConvsIdeal.τ).loc Cert.AdamConvsIdeal.main_arg1) = m ((c.tc : Thread Cert.AdamConvsIdeal.nD Cert.AdamConvsIdeal.τ).loc Cert.AdamConvsIdeal.main_arg1)
          ∧ r.2.mem ((c.tc : Thread Cert.AdamConvsIdeal.nD Cert.AdamConvsIdeal.τ).loc Cert.AdamConvsIdeal.main_arg2) = m ((c.tc : Thread Cert.AdamConvsIdeal.nD Cert.AdamConvsIdeal.τ).loc Cert.AdamConvsIdeal.main_arg2)
          ∧ r.2.mem ((c.tc : Thread Cert.AdamConvsIdeal.nD Cert.AdamConvsIdeal.τ).loc Cert.AdamConvsIdeal.main_arg3) = m ((c.tc : Thread Cert.AdamConvsIdeal.nD Cert.AdamConvsIdeal.τ).loc Cert.AdamConvsIdeal.main_arg3)
          ∧ r.2.mem ((c.tc : Thread Cert.AdamConvsIdeal.nD Cert.AdamConvsIdeal.τ).loc Cert.AdamConvsIdeal.main_arg4) = m ((c.tc : Thread Cert.AdamConvsIdeal.nD Cert.AdamConvsIdeal.τ).loc Cert.AdamConvsIdeal.main_arg4)
          ∧ r.2.mem ((c.tc : Thread Cert.AdamConvsIdeal.nD Cert.AdamConvsIdeal.τ).loc Cert.AdamConvsIdeal.main_arg5) = m ((c.tc : Thread Cert.AdamConvsIdeal.nD Cert.AdamConvsIdeal.τ).loc Cert.AdamConvsIdeal.main_arg5)
          ∧ r.2.mem ((c.tc : Thread Cert.AdamConvsIdeal.nD Cert.AdamConvsIdeal.τ).loc Cert.AdamConvsIdeal.main_arg6) = m ((c.tc : Thread Cert.AdamConvsIdeal.nD Cert.AdamConvsIdeal.τ).loc Cert.AdamConvsIdeal.main_arg6)
          ∧ r.2.mem ((c.tc : Thread Cert.AdamConvsIdeal.nD Cert.AdamConvsIdeal.τ).loc Cert.AdamConvsIdeal.main_arg7) = m ((c.tc : Thread Cert.AdamConvsIdeal.nD Cert.AdamConvsIdeal.τ).loc Cert.AdamConvsIdeal.main_arg7)
          ∧ r.2.mem ((c.tc : Thread Cert.AdamConvsIdeal.nD Cert.AdamConvsIdeal.τ).loc Cert.AdamConvsIdeal.main_arg8) = m ((c.tc : Thread Cert.AdamConvsIdeal.nD Cert.AdamConvsIdeal.τ).loc Cert.AdamConvsIdeal.main_arg8)
          ∧ r.2.mem ((c.tc : Thread Cert.AdamConvsIdeal.nD Cert.AdamConvsIdeal.τ).loc Cert.AdamConvsIdeal.main_arg9) = m ((c.tc : Thread Cert.AdamConvsIdeal.nD Cert.AdamConvsIdeal.τ).loc Cert.AdamConvsIdeal.main_arg9)
          ∧ r.2.mem ((c.tc : Thread Cert.AdamConvsIdeal.nD Cert.AdamConvsIdeal.τ).loc Cert.AdamConvsIdeal.main_arg10) = m ((c.tc : Thread Cert.AdamConvsIdeal.nD Cert.AdamConvsIdeal.τ).loc Cert.AdamConvsIdeal.main_arg10))
      ∧ θ_run (Cert.AdamConvsRefIdeal.defs (F := Ideal)) (onTc (τ := Cert.AdamConvsRefIdeal.τ) (Cert.AdamConvsRefIdeal.main (F := Ideal))) ⟨m', fun _ => 0, g'⟩ (fun r => ∀ c : Dev Cert.AdamConvsRefIdeal.nD,
          r.2.mem ((c.tc : Thread Cert.AdamConvsRefIdeal.nD Cert.AdamConvsRefIdeal.τ).loc Cert.AdamConvsRefIdeal.main_v16) = v0 c
          ∧ r.2.mem ((c.tc : Thread Cert.AdamConvsRefIdeal.nD Cert.AdamConvsRefIdeal.τ).loc Cert.AdamConvsRefIdeal.main_v11) = v1 c
          ∧ r.2.mem ((c.tc : Thread Cert.AdamConvsRefIdeal.nD Cert.AdamConvsRefIdeal.τ).loc Cert.AdamConvsRefIdeal.main_v40) = v2 c
          ∧ r.2.mem ((c.tc : Thread Cert.AdamConvsRefIdeal.nD Cert.AdamConvsRefIdeal.τ).loc Cert.AdamConvsRefIdeal.main_v21) = v3 c
          ∧ r.2.mem ((c.tc : Thread Cert.AdamConvsRefIdeal.nD Cert.AdamConvsRefIdeal.τ).loc Cert.AdamConvsRefIdeal.main_v27) = v4 c
          ∧ r.2.mem ((c.tc : Thread Cert.AdamConvsRefIdeal.nD Cert.AdamConvsRefIdeal.τ).loc Cert.AdamConvsRefIdeal.main_v13) = v5 c
          ∧ r.2.mem ((c.tc : Thread Cert.AdamConvsRefIdeal.nD Cert.AdamConvsRefIdeal.τ).loc Cert.AdamConvsRefIdeal.main_v64) = v6 c
          ∧ r.2.mem ((c.tc : Thread Cert.AdamConvsRefIdeal.nD Cert.AdamConvsRefIdeal.τ).loc Cert.AdamConvsRefIdeal.main_v45) = v7 c
          ∧ r.2.mem ((c.tc : Thread Cert.AdamConvsRefIdeal.nD Cert.AdamConvsRefIdeal.τ).loc Cert.AdamConvsRefIdeal.main_v51) = v8 c
          ∧ r.2.mem ((c.tc : Thread Cert.AdamConvsRefIdeal.nD Cert.AdamConvsRefIdeal.τ).loc Cert.AdamConvsRefIdeal.main_v15) = v9 c
          ∧ r.2.mem ((c.tc : Thread Cert.AdamConvsRefIdeal.nD Cert.AdamConvsRefIdeal.τ).loc Cert.AdamConvsRefIdeal.main_v88) = v10 c
          ∧ r.2.mem ((c.tc : Thread Cert.AdamConvsRefIdeal.nD Cert.AdamConvsRefIdeal.τ).loc Cert.AdamConvsRefIdeal.main_v69) = v11 c
          ∧ r.2.mem ((c.tc : Thread Cert.AdamConvsRefIdeal.nD Cert.AdamConvsRefIdeal.τ).loc Cert.AdamConvsRefIdeal.main_v75) = v12 c
          ∧ r.2.mem ((c.tc : Thread Cert.AdamConvsRefIdeal.nD Cert.AdamConvsRefIdeal.τ).loc Cert.AdamConvsRefIdeal.main_arg0) = m' ((c.tc : Thread Cert.AdamConvsRefIdeal.nD Cert.AdamConvsRefIdeal.τ).loc Cert.AdamConvsRefIdeal.main_arg0)
          ∧ r.2.mem ((c.tc : Thread Cert.AdamConvsRefIdeal.nD Cert.AdamConvsRefIdeal.τ).loc Cert.AdamConvsRefIdeal.main_arg1) = m' ((c.tc : Thread Cert.AdamConvsRefIdeal.nD Cert.AdamConvsRefIdeal.τ).loc Cert.AdamConvsRefIdeal.main_arg1)
          ∧ r.2.mem ((c.tc : Thread Cert.AdamConvsRefIdeal.nD Cert.AdamConvsRefIdeal.τ).loc Cert.AdamConvsRefIdeal.main_arg2) = m' ((c.tc : Thread Cert.AdamConvsRefIdeal.nD Cert.AdamConvsRefIdeal.τ).loc Cert.AdamConvsRefIdeal.main_arg2)
          ∧ r.2.mem ((c.tc : Thread Cert.AdamConvsRefIdeal.nD Cert.AdamConvsRefIdeal.τ).loc Cert.AdamConvsRefIdeal.main_arg3) = m' ((c.tc : Thread Cert.AdamConvsRefIdeal.nD Cert.AdamConvsRefIdeal.τ).loc Cert.AdamConvsRefIdeal.main_arg3)
          ∧ r.2.mem ((c.tc : Thread Cert.AdamConvsRefIdeal.nD Cert.AdamConvsRefIdeal.τ).loc Cert.AdamConvsRefIdeal.main_arg4) = m' ((c.tc : Thread Cert.AdamConvsRefIdeal.nD Cert.AdamConvsRefIdeal.τ).loc Cert.AdamConvsRefIdeal.main_arg4)
          ∧ r.2.mem ((c.tc : Thread Cert.AdamConvsRefIdeal.nD Cert.AdamConvsRefIdeal.τ).loc Cert.AdamConvsRefIdeal.main_arg5) = m' ((c.tc : Thread Cert.AdamConvsRefIdeal.nD Cert.AdamConvsRefIdeal.τ).loc Cert.AdamConvsRefIdeal.main_arg5)
          ∧ r.2.mem ((c.tc : Thread Cert.AdamConvsRefIdeal.nD Cert.AdamConvsRefIdeal.τ).loc Cert.AdamConvsRefIdeal.main_arg6) = m' ((c.tc : Thread Cert.AdamConvsRefIdeal.nD Cert.AdamConvsRefIdeal.τ).loc Cert.AdamConvsRefIdeal.main_arg6)
          ∧ r.2.mem ((c.tc : Thread Cert.AdamConvsRefIdeal.nD Cert.AdamConvsRefIdeal.τ).loc Cert.AdamConvsRefIdeal.main_arg7) = m' ((c.tc : Thread Cert.AdamConvsRefIdeal.nD Cert.AdamConvsRefIdeal.τ).loc Cert.AdamConvsRefIdeal.main_arg7)
          ∧ r.2.mem ((c.tc : Thread Cert.AdamConvsRefIdeal.nD Cert.AdamConvsRefIdeal.τ).loc Cert.AdamConvsRefIdeal.main_arg8) = m' ((c.tc : Thread Cert.AdamConvsRefIdeal.nD Cert.AdamConvsRefIdeal.τ).loc Cert.AdamConvsRefIdeal.main_arg8)
          ∧ r.2.mem ((c.tc : Thread Cert.AdamConvsRefIdeal.nD Cert.AdamConvsRefIdeal.τ).loc Cert.AdamConvsRefIdeal.main_arg9) = m' ((c.tc : Thread Cert.AdamConvsRefIdeal.nD Cert.AdamConvsRefIdeal.τ).loc Cert.AdamConvsRefIdeal.main_arg9)
          ∧ r.2.mem ((c.tc : Thread Cert.AdamConvsRefIdeal.nD Cert.AdamConvsRefIdeal.τ).loc Cert.AdamConvsRefIdeal.main_arg10) = m' ((c.tc : Thread Cert.AdamConvsRefIdeal.nD Cert.AdamConvsRefIdeal.τ).loc Cert.AdamConvsRefIdeal.main_arg10))

def Claim : Prop :=
  ∃ (hKernel : Cert.Kernel.Facts) (hKernelIdeal : Cert.KernelIdeal.Facts) (hReferenceIdeal : Cert.ReferenceIdeal.Facts) (hInDw : Cert.InDw.Facts) (hInDwIdeal : Cert.InDwIdeal.Facts) (hInDwRefIdeal : Cert.InDwRefIdeal.Facts) (hInDx : Cert.InDx.Facts) (hInDxIdeal : Cert.InDxIdeal.Facts) (hInDxRefIdeal : Cert.InDxRefIdeal.Facts) (hUpDw : Cert.UpDw.Facts) (hUpDwIdeal : Cert.UpDwIdeal.Facts) (hUpDwRefIdeal : Cert.UpDwRefIdeal.Facts) (hUpDx : Cert.UpDx.Facts) (hUpDxIdeal : Cert.UpDxIdeal.Facts) (hUpDxRefIdeal : Cert.UpDxRefIdeal.Facts) (hDownDw : Cert.DownDw.Facts) (hDownDwIdeal : Cert.DownDwIdeal.Facts) (hDownDwRefIdeal : Cert.DownDwRefIdeal.Facts) (hDownDx : Cert.DownDx.Facts) (hDownDxIdeal : Cert.DownDxIdeal.Facts) (hDownDxRefIdeal : Cert.DownDxRefIdeal.Facts) (hSquareDw : Cert.SquareDw.Facts) (hSquareDwIdeal : Cert.SquareDwIdeal.Facts) (hSquareDwRefIdeal : Cert.SquareDwRefIdeal.Facts) (hSquareDx : Cert.SquareDx.Facts) (hSquareDxIdeal : Cert.SquareDxIdeal.Facts) (hSquareDxRefIdeal : Cert.SquareDxRefIdeal.Facts) (hBDx : Cert.BDx.Facts) (hBDxIdeal : Cert.BDxIdeal.Facts) (hBDxRefIdeal : Cert.BDxRefIdeal.Facts) (hInGates : Cert.InGates.Facts) (hInGatesIdeal : Cert.InGatesIdeal.Facts) (hInGatesRefIdeal : Cert.InGatesRefIdeal.Facts) (hInQkv : Cert.InQkv.Facts) (hInQkvIdeal : Cert.InQkvIdeal.Facts) (hInQkvRefIdeal : Cert.InQkvRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hSquare : Cert.Square.Facts) (hSquareIdeal : Cert.SquareIdeal.Facts) (hSquareRefIdeal : Cert.SquareRefIdeal.Facts) (hO : Cert.O.Facts) (hOIdeal : Cert.OIdeal.Facts) (hORefIdeal : Cert.ORefIdeal.Facts) (hAdamIn : Cert.AdamIn.Facts) (hAdamInIdeal : Cert.AdamInIdeal.Facts) (hAdamInRefIdeal : Cert.AdamInRefIdeal.Facts) (hAdamSquare : Cert.AdamSquare.Facts) (hAdamSquareIdeal : Cert.AdamSquareIdeal.Facts) (hAdamSquareRefIdeal : Cert.AdamSquareRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hSumIn : Cert.SumIn.Facts) (hSumInIdeal : Cert.SumInIdeal.Facts) (hSumInRefIdeal : Cert.SumInRefIdeal.Facts) (hAdamNorms : Cert.AdamNorms.Facts) (hAdamNormsIdeal : Cert.AdamNormsIdeal.Facts) (hAdamNormsRefIdeal : Cert.AdamNormsRefIdeal.Facts) (hAdamGates : Cert.AdamGates.Facts) (hAdamGatesIdeal : Cert.AdamGatesIdeal.Facts) (hAdamGatesRefIdeal : Cert.AdamGatesRefIdeal.Facts) (hAdamConvs : Cert.AdamConvs.Facts) (hAdamConvsIdeal : Cert.AdamConvsIdeal.Facts) (hAdamConvsRefIdeal : Cert.AdamConvsRefIdeal.Facts) (hPre_finite : Cert.Pre_finite.Facts) (hPre_square_on_the_mesh : Cert.Pre_square_on_the_mesh.Facts) (hPre_up_on_the_mesh : Cert.Pre_up_on_the_mesh.Facts) (hPre_down_on_the_mesh : Cert.Pre_down_on_the_mesh.Facts) (hPre_sum_on_the_mesh : Cert.Pre_sum_on_the_mesh.Facts) (hPre_norms_on_the_mesh : Cert.Pre_norms_on_the_mesh.Facts) (hPre_gates_on_the_mesh : Cert.Pre_gates_on_the_mesh.Facts) (hPre_convs_on_the_mesh : Cert.Pre_convs_on_the_mesh.Facts),
    quiescent_Kernel (hKernel := hKernel)
    ∧ quiescent_KernelIdeal (hKernelIdeal := hKernelIdeal) (hPre_finite := hPre_finite)
    ∧ quiescent_KernelIdeal_pre_none (hKernelIdeal := hKernelIdeal)
    ∧ quiescent_ReferenceIdeal (hReferenceIdeal := hReferenceIdeal)
    ∧ quiescent_ReferenceIdeal_pre_finite (hReferenceIdeal := hReferenceIdeal) (hPre_finite := hPre_finite)
    ∧ quiescent_InDw (hInDw := hInDw)
    ∧ quiescent_InDwIdeal (hInDwIdeal := hInDwIdeal)
    ∧ quiescent_InDwRefIdeal (hInDwRefIdeal := hInDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_SquareDw (hSquareDw := hSquareDw)
    ∧ quiescent_SquareDwIdeal (hSquareDwIdeal := hSquareDwIdeal)
    ∧ quiescent_SquareDwRefIdeal (hSquareDwRefIdeal := hSquareDwRefIdeal)
    ∧ quiescent_SquareDx (hSquareDx := hSquareDx)
    ∧ quiescent_SquareDxIdeal (hSquareDxIdeal := hSquareDxIdeal)
    ∧ quiescent_SquareDxRefIdeal (hSquareDxRefIdeal := hSquareDxRefIdeal)
    ∧ quiescent_BDx (hBDx := hBDx)
    ∧ quiescent_BDxIdeal (hBDxIdeal := hBDxIdeal)
    ∧ quiescent_BDxRefIdeal (hBDxRefIdeal := hBDxRefIdeal)
    ∧ quiescent_InGates (hInGates := hInGates)
    ∧ quiescent_InGatesIdeal (hInGatesIdeal := hInGatesIdeal)
    ∧ quiescent_InGatesRefIdeal (hInGatesRefIdeal := hInGatesRefIdeal)
    ∧ quiescent_InQkv (hInQkv := hInQkv)
    ∧ quiescent_InQkvIdeal (hInQkvIdeal := hInQkvIdeal)
    ∧ quiescent_InQkvRefIdeal (hInQkvRefIdeal := hInQkvRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Square (hSquare := hSquare)
    ∧ quiescent_SquareIdeal (hSquareIdeal := hSquareIdeal)
    ∧ quiescent_SquareRefIdeal (hSquareRefIdeal := hSquareRefIdeal)
    ∧ quiescent_O (hO := hO)
    ∧ quiescent_OIdeal (hOIdeal := hOIdeal)
    ∧ quiescent_ORefIdeal (hORefIdeal := hORefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamSquare (hAdamSquare := hAdamSquare) (hPre_square_on_the_mesh := hPre_square_on_the_mesh)
    ∧ quiescent_AdamSquareIdeal (hAdamSquareIdeal := hAdamSquareIdeal) (hPre_square_on_the_mesh := hPre_square_on_the_mesh)
    ∧ quiescent_AdamSquareRefIdeal (hAdamSquareRefIdeal := hAdamSquareRefIdeal)
    ∧ quiescent_AdamSquareRefIdeal_pre_square_on_the_mesh (hAdamSquareRefIdeal := hAdamSquareRefIdeal) (hPre_square_on_the_mesh := hPre_square_on_the_mesh)
    ∧ quiescent_AdamUp (hAdamUp := hAdamUp) (hPre_up_on_the_mesh := hPre_up_on_the_mesh)
    ∧ quiescent_AdamUpIdeal (hAdamUpIdeal := hAdamUpIdeal) (hPre_up_on_the_mesh := hPre_up_on_the_mesh)
    ∧ quiescent_AdamUpRefIdeal (hAdamUpRefIdeal := hAdamUpRefIdeal)
    ∧ quiescent_AdamUpRefIdeal_pre_up_on_the_mesh (hAdamUpRefIdeal := hAdamUpRefIdeal) (hPre_up_on_the_mesh := hPre_up_on_the_mesh)
    ∧ quiescent_AdamDown (hAdamDown := hAdamDown) (hPre_down_on_the_mesh := hPre_down_on_the_mesh)
    ∧ quiescent_AdamDownIdeal (hAdamDownIdeal := hAdamDownIdeal) (hPre_down_on_the_mesh := hPre_down_on_the_mesh)
    ∧ quiescent_AdamDownRefIdeal (hAdamDownRefIdeal := hAdamDownRefIdeal)
    ∧ quiescent_AdamDownRefIdeal_pre_down_on_the_mesh (hAdamDownRefIdeal := hAdamDownRefIdeal) (hPre_down_on_the_mesh := hPre_down_on_the_mesh)
    ∧ quiescent_SumIn (hSumIn := hSumIn) (hPre_sum_on_the_mesh := hPre_sum_on_the_mesh)
    ∧ quiescent_SumInIdeal (hSumInIdeal := hSumInIdeal) (hPre_sum_on_the_mesh := hPre_sum_on_the_mesh)
    ∧ quiescent_SumInRefIdeal (hSumInRefIdeal := hSumInRefIdeal)
    ∧ quiescent_SumInRefIdeal_pre_sum_on_the_mesh (hSumInRefIdeal := hSumInRefIdeal) (hPre_sum_on_the_mesh := hPre_sum_on_the_mesh)
    ∧ quiescent_AdamNorms (hAdamNorms := hAdamNorms) (hPre_norms_on_the_mesh := hPre_norms_on_the_mesh)
    ∧ quiescent_AdamNormsIdeal (hAdamNormsIdeal := hAdamNormsIdeal) (hPre_norms_on_the_mesh := hPre_norms_on_the_mesh)
    ∧ quiescent_AdamNormsRefIdeal (hAdamNormsRefIdeal := hAdamNormsRefIdeal)
    ∧ quiescent_AdamNormsRefIdeal_pre_norms_on_the_mesh (hAdamNormsRefIdeal := hAdamNormsRefIdeal) (hPre_norms_on_the_mesh := hPre_norms_on_the_mesh)
    ∧ quiescent_AdamGates (hAdamGates := hAdamGates) (hPre_gates_on_the_mesh := hPre_gates_on_the_mesh)
    ∧ quiescent_AdamGatesIdeal (hAdamGatesIdeal := hAdamGatesIdeal) (hPre_gates_on_the_mesh := hPre_gates_on_the_mesh)
    ∧ quiescent_AdamGatesRefIdeal (hAdamGatesRefIdeal := hAdamGatesRefIdeal)
    ∧ quiescent_AdamGatesRefIdeal_pre_gates_on_the_mesh (hAdamGatesRefIdeal := hAdamGatesRefIdeal) (hPre_gates_on_the_mesh := hPre_gates_on_the_mesh)
    ∧ quiescent_AdamConvs (hAdamConvs := hAdamConvs) (hPre_convs_on_the_mesh := hPre_convs_on_the_mesh)
    ∧ quiescent_AdamConvsIdeal (hAdamConvsIdeal := hAdamConvsIdeal) (hPre_convs_on_the_mesh := hPre_convs_on_the_mesh)
    ∧ quiescent_AdamConvsRefIdeal (hAdamConvsRefIdeal := hAdamConvsRefIdeal)
    ∧ quiescent_AdamConvsRefIdeal_pre_convs_on_the_mesh (hAdamConvsRefIdeal := hAdamConvsRefIdeal) (hPre_convs_on_the_mesh := hPre_convs_on_the_mesh)
    ∧ preserves_Kernel_KernelIdeal
    ∧ algebraic_KernelIdeal_ReferenceIdeal (hKernelIdeal := hKernelIdeal) (hReferenceIdeal := hReferenceIdeal) (hPre_finite := hPre_finite)
    ∧ preserves_InDw_InDwIdeal
    ∧ algebraic_InDwIdeal_InDwRefIdeal (hInDwIdeal := hInDwIdeal) (hInDwRefIdeal := hInDwRefIdeal)
    ∧ preserves_InDx_InDxIdeal
    ∧ algebraic_InDxIdeal_InDxRefIdeal (hInDxIdeal := hInDxIdeal) (hInDxRefIdeal := hInDxRefIdeal)
    ∧ preserves_UpDw_UpDwIdeal
    ∧ algebraic_UpDwIdeal_UpDwRefIdeal (hUpDwIdeal := hUpDwIdeal) (hUpDwRefIdeal := hUpDwRefIdeal)
    ∧ preserves_UpDx_UpDxIdeal
    ∧ algebraic_UpDxIdeal_UpDxRefIdeal (hUpDxIdeal := hUpDxIdeal) (hUpDxRefIdeal := hUpDxRefIdeal)
    ∧ preserves_DownDw_DownDwIdeal
    ∧ algebraic_DownDwIdeal_DownDwRefIdeal (hDownDwIdeal := hDownDwIdeal) (hDownDwRefIdeal := hDownDwRefIdeal)
    ∧ preserves_DownDx_DownDxIdeal
    ∧ algebraic_DownDxIdeal_DownDxRefIdeal (hDownDxIdeal := hDownDxIdeal) (hDownDxRefIdeal := hDownDxRefIdeal)
    ∧ preserves_SquareDw_SquareDwIdeal
    ∧ algebraic_SquareDwIdeal_SquareDwRefIdeal (hSquareDwIdeal := hSquareDwIdeal) (hSquareDwRefIdeal := hSquareDwRefIdeal)
    ∧ preserves_SquareDx_SquareDxIdeal
    ∧ algebraic_SquareDxIdeal_SquareDxRefIdeal (hSquareDxIdeal := hSquareDxIdeal) (hSquareDxRefIdeal := hSquareDxRefIdeal)
    ∧ preserves_BDx_BDxIdeal
    ∧ algebraic_BDxIdeal_BDxRefIdeal (hBDxIdeal := hBDxIdeal) (hBDxRefIdeal := hBDxRefIdeal)
    ∧ preserves_InGates_InGatesIdeal
    ∧ algebraic_InGatesIdeal_InGatesRefIdeal (hInGatesIdeal := hInGatesIdeal) (hInGatesRefIdeal := hInGatesRefIdeal)
    ∧ preserves_InQkv_InQkvIdeal
    ∧ algebraic_InQkvIdeal_InQkvRefIdeal (hInQkvIdeal := hInQkvIdeal) (hInQkvRefIdeal := hInQkvRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Square_SquareIdeal
    ∧ algebraic_SquareIdeal_SquareRefIdeal (hSquareIdeal := hSquareIdeal) (hSquareRefIdeal := hSquareRefIdeal)
    ∧ preserves_O_OIdeal
    ∧ algebraic_OIdeal_ORefIdeal (hOIdeal := hOIdeal) (hORefIdeal := hORefIdeal)
    ∧ preserves_AdamIn_AdamInIdeal
    ∧ algebraic_AdamInIdeal_AdamInRefIdeal (hAdamInIdeal := hAdamInIdeal) (hAdamInRefIdeal := hAdamInRefIdeal)
    ∧ preserves_AdamSquare_AdamSquareIdeal
    ∧ algebraic_AdamSquareIdeal_AdamSquareRefIdeal (hAdamSquareIdeal := hAdamSquareIdeal) (hAdamSquareRefIdeal := hAdamSquareRefIdeal) (hPre_square_on_the_mesh := hPre_square_on_the_mesh)
    ∧ preserves_AdamUp_AdamUpIdeal
    ∧ algebraic_AdamUpIdeal_AdamUpRefIdeal (hAdamUpIdeal := hAdamUpIdeal) (hAdamUpRefIdeal := hAdamUpRefIdeal) (hPre_up_on_the_mesh := hPre_up_on_the_mesh)
    ∧ preserves_AdamDown_AdamDownIdeal
    ∧ algebraic_AdamDownIdeal_AdamDownRefIdeal (hAdamDownIdeal := hAdamDownIdeal) (hAdamDownRefIdeal := hAdamDownRefIdeal) (hPre_down_on_the_mesh := hPre_down_on_the_mesh)
    ∧ preserves_SumIn_SumInIdeal
    ∧ algebraic_SumInIdeal_SumInRefIdeal (hSumInIdeal := hSumInIdeal) (hSumInRefIdeal := hSumInRefIdeal) (hPre_sum_on_the_mesh := hPre_sum_on_the_mesh)
    ∧ preserves_AdamNorms_AdamNormsIdeal
    ∧ algebraic_AdamNormsIdeal_AdamNormsRefIdeal (hAdamNormsIdeal := hAdamNormsIdeal) (hAdamNormsRefIdeal := hAdamNormsRefIdeal) (hPre_norms_on_the_mesh := hPre_norms_on_the_mesh)
    ∧ preserves_AdamGates_AdamGatesIdeal
    ∧ algebraic_AdamGatesIdeal_AdamGatesRefIdeal (hAdamGatesIdeal := hAdamGatesIdeal) (hAdamGatesRefIdeal := hAdamGatesRefIdeal) (hPre_gates_on_the_mesh := hPre_gates_on_the_mesh)
    ∧ preserves_AdamConvs_AdamConvsIdeal
    ∧ algebraic_AdamConvsIdeal_AdamConvsRefIdeal (hAdamConvsIdeal := hAdamConvsIdeal) (hAdamConvsRefIdeal := hAdamConvsRefIdeal) (hPre_convs_on_the_mesh := hPre_convs_on_the_mesh)
-- ==== Pre_convs_on_the_mesh.lean ====
abbrev S8x72x1024 : Shape := ⟨3, ![8, 72, 1024]⟩
abbrev S1 : Shape := ⟨1, ![1]⟩
abbrev S1x3x128 : Shape := ⟨3, ![1, 3, 128]⟩
abbrev S1x4x384 : Shape := ⟨3, ![1, 4, 384]⟩
abbrev S1x3x704 : Shape := ⟨3, ![1, 3, 704]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x72x1024 .f32) (main_arg1 : IVec S1 32) (main_arg2 : FVec F S1x3x128 .f32) (main_arg3 : FVec F S1x3x128 .f32) (main_arg4 : FVec F S1x3x128 .f32) (main_arg5 : FVec F S1x4x384 .f32) (main_arg6 : FVec F S1x4x384 .f32) (main_arg7 : FVec F S1x4x384 .f32) (main_arg8 : FVec F S1x3x704 .f32) (main_arg9 : FVec F S1x3x704 .f32) (main_arg10 : FVec F S1x3x704 .f32) : IVec S1 1 :=
  let main_c : IVec S_ 32 := constantI S_ 32 0#32
  let main_v0 : IVec S1 32 := broadcastInDim S1 ![] bcast_S_S1 main_c
  let main_v1 : IVec S1 1 := cmpi .sge main_arg1 main_v0
  let main_c_0 : IVec S_ 32 := constantI S_ 32 8#32
  let main_v2 : IVec S1 32 := broadcastInDim S1 ![] bcast_S_S1 main_c_0
  let main_v3 : IVec S1 1 := cmpi .slt main_arg1 main_v2
  let main_v4 : IVec S1 1 := andi main_v1 main_v3
  main_v4
-- ==== Pre_down_on_the_mesh.lean ====
abbrev S4x352x1024 : Shape := ⟨3, ![4, 352, 1024]⟩
abbrev S3x352x1024 : Shape := ⟨3, ![3, 352, 1024]⟩
abbrev S1 : Shape := ⟨1, ![1]⟩
abbrev S1x352x1024 : Shape := ⟨3, ![1, 352, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x352x1024 .f32) (main_arg1 : FVec F S3x352x1024 .bf16) (main_arg2 : IVec S1 32) (main_arg3 : FVec F S1x352x1024 .f32) (main_arg4 : FVec F S1x352x1024 .f32) (main_arg5 : FVec F S1x352x1024 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 4#32
  let main_v2 : IVec S1 32 := broadcastInDim S1 ![] bcast_S_S1 main_c_0
  let main_v3 : IVec S1 1 := cmpi .slt main_arg2 main_v2
  let main_v4 : IVec S1 1 := andi main_v1 main_v3
  main_v4
-- ==== Pre_finite.lean ====
abbrev S8192x1024 : Shape := ⟨2, ![8192, 1024]⟩
abbrev S8192x128 : Shape := ⟨2, ![8192, 128]⟩
abbrev S128x8x128x128 : Shape := ⟨4, ![128, 8, 128, 128]⟩
abbrev S_ : Shape := ⟨0, ![]⟩

class Facts : Prop where
  bcast_S_S8192x1024 : S_.BroadcastsInDim S8192x1024 (![] : Fin 0 → Fin S8192x1024.rank)
  bcast_S_S8192x128 : S_.BroadcastsInDim S8192x128 (![] : Fin 0 → Fin S8192x128.rank)

variable [Facts]

def fn {F : FTy → Type} [FloatOps F] (main_arg0 : FVec F S8192x1024 .f32) (main_arg1 : FVec F S8192x1024 .f32) (main_arg2 : FVec F S8192x1024 .f32) (main_arg3 : FVec F S8192x128 .f32) (main_arg4 : FVec F S8192x1024 .f32) (main_arg5 : FVec F S128x8x128x128 .bf16) : IVec S8192x1024 1 × IVec S8192x1024 1 × IVec S8192x128 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x128 .f32 := Host.absf main_arg3
  let main_cst_1 : FVec F S_ .f32 := constant S_ .f32 0x7F800000#32
  let main_v7 : FVec F S8192x128 .f32 := broadcastInDim S8192x128 ![] bcast_S_S8192x128 main_cst_1
  let main_v8 : IVec S8192x128 1 := cmpf .olt main_v6 main_v7
  let main_v9 : FVec F S8192x1024 .f32 := Host.absf main_arg4
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Pre_gates_on_the_mesh.lean ====
abbrev S8x72x1024 : Shape := ⟨3, ![8, 72, 1024]⟩
abbrev S1 : Shape := ⟨1, ![1]⟩
abbrev S1x128 : Shape := ⟨2, ![1, 128]⟩
abbrev S1x8 : Shape := ⟨2, ![1, 8]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x72x1024 .f32) (main_arg1 : IVec S1 32) (main_arg2 : FVec F S1x128 .f32) (main_arg3 : FVec F S1x128 .f32) (main_arg4 : FVec F S1x128 .f32) (main_arg5 : FVec F S1x8 .f32) (main_arg6 : FVec F S1x8 .f32) (main_arg7 : FVec F S1x8 .f32) (main_arg8 : FVec F S1x8 .f32) (main_arg9 : FVec F S1x8 .f32) (main_arg10 : FVec F S1x8 .f32) : IVec S1 1 :=
  let main_c : IVec S_ 32 := constantI S_ 32 0#32
  let main_v0 : IVec S1 32 := broadcastInDim S1 ![] bcast_S_S1 main_c
  let main_v1 : IVec S1 1 := cmpi .sge main_arg1 main_v0
  let main_c_0 : IVec S_ 32 := constantI S_ 32 8#32
  let main_v2 : IVec S1 32 := broadcastInDim S1 ![] bcast_S_S1 main_c_0
  let main_v3 : IVec S1 1 := cmpi .slt main_arg1 main_v2
  let main_v4 : IVec S1 1 := andi main_v1 main_v3
  main_v4
-- ==== Pre_norms_on_the_mesh.lean ====
abbrev S8x72x1024 : Shape := ⟨3, ![8, 72, 1024]⟩
abbrev S1 : Shape := ⟨1, ![1]⟩
abbrev S1x1024 : Shape := ⟨2, ![1, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x72x1024 .f32) (main_arg1 : IVec S1 32) (main_arg2 : FVec F S1x1024 .f32) (main_arg3 : FVec F S1x1024 .f32) (main_arg4 : FVec F S1x1024 .f32) (main_arg5 : FVec F S1x1024 .f32) (main_arg6 : FVec F S1x1024 .f32) (main_arg7 : FVec F S1x1024 .f32) (main_arg8 : FVec F S1x1024 .f32) (main_arg9 : FVec F S1x1024 .f32) (main_arg10 : FVec F S1x1024 .f32) : IVec S1 1 :=
  let main_c : IVec S_ 32 := constantI S_ 32 0#32
  let main_v0 : IVec S1 32 := broadcastInDim S1 ![] bcast_S_S1 main_c
  let main_v1 : IVec S1 1 := cmpi .sge main_arg1 main_v0
  let main_c_0 : IVec S_ 32 := constantI S_ 32 8#32
  let main_v2 : IVec S1 32 := broadcastInDim S1 ![] bcast_S_S1 main_c_0
  let main_v3 : IVec S1 1 := cmpi .slt main_arg1 main_v2
  let main_v4 : IVec S1 1 := andi main_v1 main_v3
  main_v4
-- ==== Pre_square_on_the_mesh.lean ====
abbrev S4x128x1024 : Shape := ⟨3, ![4, 128, 1024]⟩
abbrev S3x128x1024 : Shape := ⟨3, ![3, 128, 1024]⟩
abbrev S1 : Shape := ⟨1, ![1]⟩
abbrev S1x128x1024 : Shape := ⟨3, ![1, 128, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x128x1024 .f32) (main_arg1 : FVec F S3x128x1024 .bf16) (main_arg2 : IVec S1 32) (main_arg3 : FVec F S1x128x1024 .f32) (main_arg4 : FVec F S1x128x1024 .f32) (main_arg5 : FVec F S1x128x1024 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 4#32
  let main_v2 : IVec S1 32 := broadcastInDim S1 ![] bcast_S_S1 main_c_0
  let main_v3 : IVec S1 1 := cmpi .slt main_arg2 main_v2
  let main_v4 : IVec S1 1 := andi main_v1 main_v3
  main_v4
-- ==== Pre_sum_on_the_mesh.lean ====
abbrev S4x1154x1024 : Shape := ⟨3, ![4, 1154, 1024]⟩
abbrev S3x1154x1024 : Shape := ⟨3, ![3, 1154, 1024]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x1154x1024 .f32) (main_arg1 : FVec F S3x1154x1024 .bf16) (main_arg2 : IVec S1 32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 4#32
  let main_v2 : IVec S1 32 := broadcastInDim S1 ![] bcast_S_S1 main_c_0
  let main_v3 : IVec S1 1 := cmpi .slt main_arg2 main_v2
  let main_v4 : IVec S1 1 := andi main_v1 main_v3
  main_v4
-- ==== Pre_up_on_the_mesh.lean ====
abbrev S4x704x1024 : Shape := ⟨3, ![4, 704, 1024]⟩
abbrev S3x704x1024 : Shape := ⟨3, ![3, 704, 1024]⟩
abbrev S1 : Shape := ⟨1, ![1]⟩
abbrev S1x704x1024 : Shape := ⟨3, ![1, 704, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x704x1024 .f32) (main_arg1 : FVec F S3x704x1024 .bf16) (main_arg2 : IVec S1 32) (main_arg3 : FVec F S1x704x1024 .f32) (main_arg4 : FVec F S1x704x1024 .f32) (main_arg5 : FVec F S1x704x1024 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 4#32
  let main_v2 : IVec S1 32 := broadcastInDim S1 ![] bcast_S_S1 main_c_0
  let main_v3 : IVec S1 1 := cmpi .slt main_arg2 main_v2
  let main_v4 : IVec S1 1 := andi main_v1 main_v3
  main_v4
-- ==== Kernel.lean ====
abbrev S8192x1024 : Shape := ⟨2, ![8192, 1024]⟩
abbrev S8192x128 : Shape := ⟨2, ![8192, 128]⟩
abbrev S128x8x128x128 : Shape := ⟨4, ![128, 8, 128, 128]⟩
abbrev S8192x8x128 : Shape := ⟨3, ![8192, 8, 128]⟩
abbrev S128x64x8x128 : Shape := ⟨4, ![128, 64, 8, 128]⟩
abbrev S128x8x64x128 : Shape := ⟨4, ![128, 8, 64, 128]⟩
abbrev S8192x8 : Shape := ⟨2, ![8192, 8]⟩
abbrev S128x64x8 : Shape := ⟨3, ![128, 64, 8]⟩
abbrev S128x8x64 : Shape := ⟨3, ![128, 8, 64]⟩
abbrev S_ : Shape := ⟨0, ![]⟩
abbrev S64x64 : Shape := ⟨2, ![64, 64]⟩
abbrev S128x8x64x1 : Shape := ⟨4, ![128, 8, 64, 1]⟩
abbrev S128x8x1x64 : Shape := ⟨4, ![128, 8, 1, 64]⟩
abbrev S128x8x64x64 : Shape := ⟨4, ![128, 8, 64, 64]⟩
abbrev S1x1x64x64 : Shape := ⟨4, ![1, 1, 64, 64]⟩
abbrev S128x1024 : Shape := ⟨2, ![128, 1024]⟩
abbrev S128x128 : Shape := ⟨2, ![128, 128]⟩
abbrev S2x8x128x128 : Shape := ⟨4, ![2, 8, 128, 128]⟩
abbrev S2x8x64x64 : Shape := ⟨4, ![2, 8, 64, 64]⟩
abbrev S8x128x128 : Shape := ⟨3, ![8, 128, 128]⟩
abbrev S1x128 : Shape := ⟨2, ![1, 128]⟩
abbrev S64x128 : Shape := ⟨2, ![64, 128]⟩
abbrev S1x1x128x128 : Shape := ⟨4, ![1, 1, 128, 128]⟩
abbrev S64x1 : Shape := ⟨2, ![64, 1]⟩
abbrev S64 : Shape := ⟨1, ![64]⟩
abbrev S1x64 : Shape := ⟨2, ![1, 64]⟩
abbrev S1 : Shape := ⟨1, ![1]⟩
abbrev S1x1 : Shape := ⟨2, ![1, 1]⟩
abbrev S64x256 : Shape := ⟨2, ![64, 256]⟩
abbrev S1x128x128 : Shape := ⟨3, ![1, 128, 128]⟩
abbrev S128 : Shape := ⟨1, ![128]⟩
abbrev S128x1 : Shape := ⟨2, ![128, 1]⟩

abbrev nBuf : Space → Nat
  | .hbm => 91
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x128, .f32⟩
  | .hbm, ⟨4, _⟩ => ⟨S8192x1024, .f32⟩
  | .hbm, ⟨5, _⟩ => ⟨S128x8x128x128, .bf16⟩
  | .hbm, ⟨6, _⟩ => ⟨S8192x8x128, .f32⟩
  | .hbm, ⟨7, _⟩ => ⟨S128x64x8x128, .f32⟩
  | .hbm, ⟨8, _⟩ => ⟨S128x8x64x128, .f32⟩
  | .hbm, ⟨9, _⟩ => ⟨S8192x8, .f32⟩
  | .hbm, ⟨10, _⟩ => ⟨S128x64x8, .f32⟩
  | .hbm, ⟨11, _⟩ => ⟨S128x8x64, .f32⟩
  | .hbm, ⟨12, _⟩ => ⟨S8192x8, .f32⟩
  | .hbm, ⟨13, _⟩ => ⟨S128x64x8, .f32⟩
  | .hbm, ⟨14, _⟩ => ⟨S128x8x64, .f32⟩
  | .hbm, ⟨15, _⟩ => ⟨S_, .f32⟩
  | .hbm, ⟨16, _⟩ => ⟨S_, .f32⟩
  | .hbm, ⟨17, _⟩ => ⟨S128x8x64, .f32⟩
  | .hbm, ⟨18, _⟩ => ⟨S_, .i1⟩
  | .hbm, ⟨19, _⟩ => ⟨S64x64, .i1⟩
  | .hbm, ⟨20, _⟩ => ⟨S64x64, .i32⟩
  | .hbm, ⟨21, _⟩ => ⟨S_, .i32⟩
  | .hbm, ⟨22, _⟩ => ⟨S64x64, .i32⟩
  | .hbm, ⟨23, _⟩ => ⟨S64x64, .i32⟩
  | .hbm, ⟨24, _⟩ => ⟨S64x64, .i32⟩
  | .hbm, ⟨25, _⟩ => ⟨S64x64, .i1⟩
  | .hbm, ⟨26, _⟩ => ⟨S_, .i1⟩
  | .hbm, ⟨27, _⟩ => ⟨S64x64, .i1⟩
  | .hbm, ⟨28, _⟩ => ⟨S64x64, .i1⟩
  | .hbm, ⟨29, _⟩ => ⟨S_, .i1⟩
  | .hbm, ⟨30, _⟩ => ⟨S64x64, .i1⟩
  | .hbm, ⟨31, _⟩ => ⟨S64x64, .i32⟩
  | .hbm, ⟨32, _⟩ => ⟨S_, .i32⟩
  | .hbm, ⟨33, _⟩ => ⟨S64x64, .i32⟩
  | .hbm, ⟨34, _⟩ => ⟨S64x64, .i32⟩
  | .hbm, ⟨35, _⟩ => ⟨S64x64, .i32⟩
  | .hbm, ⟨36, _⟩ => ⟨S64x64, .i1⟩
  | .hbm, ⟨37, _⟩ => ⟨S_, .i1⟩
  | .hbm, ⟨38, _⟩ => ⟨S64x64, .i1⟩
  | .hbm, ⟨39, _⟩ => ⟨S64x64, .i1⟩
  | .hbm, ⟨40, _⟩ => ⟨S128x8x64x1, .f32⟩
  | .hbm, ⟨41, _⟩ => ⟨S128x8x1x64, .f32⟩
  | .hbm, ⟨42, _⟩ => ⟨S128x8x64x64, .f32⟩
  | .hbm, ⟨43, _⟩ => ⟨S128x8x64x64, .f32⟩
  | .hbm, ⟨44, _⟩ => ⟨S128x8x64x64, .f32⟩
  | .hbm, ⟨45, _⟩ => ⟨S_, .f32⟩
  | .hbm, ⟨46, _⟩ => ⟨S_, .f32⟩
  | .hbm, ⟨47, _⟩ => ⟨S128x8x64x64, .i1⟩
  | .hbm, ⟨48, _⟩ => ⟨S128x8x64x64, .f32⟩
  | .hbm, ⟨49, _⟩ => ⟨S128x8x64x64, .f32⟩
  | .hbm, ⟨50, _⟩ => ⟨S128x8x64x64, .f32⟩
  | .hbm, ⟨51, _⟩ => ⟨S128x8x64x1, .f32⟩
  | .hbm, ⟨52, _⟩ => ⟨S128x8x64x128, .f32⟩
  | .hbm, ⟨53, _⟩ => ⟨S128x8x64x128, .f32⟩
  | .hbm, ⟨54, _⟩ => ⟨S128x8x64x64, .f32⟩
  | .hbm, ⟨55, _⟩ => ⟨S128x8x64x64, .f32⟩
  | .hbm, ⟨56, _⟩ => ⟨S_, .f32⟩
  | .hbm, ⟨57, _⟩ => ⟨S_, .f32⟩
  | .hbm, ⟨58, _⟩ => ⟨S128x8x64x64, .i1⟩
  | .hbm, ⟨59, _⟩ => ⟨S128x8x64x64, .f32⟩
  | .hbm, ⟨60, _⟩ => ⟨S128x8x64x64, .f32⟩
  | .hbm, ⟨61, _⟩ => ⟨S128x8x64x64, .f32⟩
  | .hbm, ⟨62, _⟩ => ⟨S64x64, .i32⟩
  | .hbm, ⟨63, _⟩ => ⟨S64x64, .i32⟩
  | .hbm, ⟨64, _⟩ => ⟨S_, .i32⟩
  | .hbm, ⟨65, _⟩ => ⟨S64x64, .i32⟩
  | .hbm, ⟨66, _⟩ => ⟨S64x64, .i32⟩
  | .hbm, ⟨67, _⟩ => ⟨S64x64, .i1⟩
  | .hbm, ⟨68, _⟩ => ⟨S64x64, .f32⟩
  | .hbm, ⟨69, _⟩ => ⟨S1x1x64x64, .f32⟩
  | .hbm, ⟨70, _⟩ => ⟨S128x8x64x64, .f32⟩
  | .hbm, ⟨71, _⟩ => ⟨S128x8x64x64, .f32⟩
  | .hbm, ⟨72, _⟩ => ⟨S128x8x64x64, .f32⟩
  | .hbm, ⟨73, _⟩ => ⟨S128x8x64x64, .f32⟩
  | .hbm, ⟨74, _⟩ => ⟨S128x8x64x64, .f32⟩
  | .hbm, ⟨75, _⟩ => ⟨S128x8x64x64, .f32⟩
  | .hbm, ⟨76, _⟩ => ⟨S128x8x64x64, .f32⟩
  | .hbm, ⟨77, _⟩ => ⟨S128x8x64x64, .f32⟩
  | .hbm, ⟨78, _⟩ => ⟨S128x8x64x64, .f32⟩
  | .hbm, ⟨79, _⟩ => ⟨S128x8x64x64, .f32⟩
  | .hbm, ⟨80, _⟩ => ⟨S128x8x64x64, .f32⟩
  | .hbm, ⟨81, _⟩ => ⟨S128x8x64x64, .f32⟩
  | .hbm, ⟨82, _⟩ => ⟨S128x8x64x64, .f32⟩
  | .hbm, ⟨83, _⟩ => ⟨S128x8x64x64, .f32⟩
  | .hbm, ⟨84, _⟩ => ⟨S128x8x64x64, .f32⟩
  | .hbm, ⟨85, _⟩ => ⟨S128x8x64x64, .f32⟩
  | .hbm, ⟨86, _⟩ => ⟨S128x8x64x64, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x128, .f32⟩
  | .local _ .vmem, ⟨7, _⟩ => ⟨S128x128, .f32⟩
  | .local _ .vmem, ⟨8, _⟩ => ⟨S128x1024, .f32⟩
  | .local _ .vmem, ⟨9, _⟩ => ⟨S128x1024, .f32⟩
  | .local _ .vmem, ⟨10, _⟩ => ⟨S2x8x128x128, .bf16⟩
  | .local _ .vmem, ⟨11, _⟩ => ⟨S2x8x128x128, .bf16⟩
  | .local _ .vmem, ⟨12, _⟩ => ⟨S2x8x64x64, .f32⟩
  | .local _ .vmem, ⟨13, _⟩ => ⟨S2x8x64x64, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x128, .f32⟩
  | .local _ .vmem, ⟨21, _⟩ => ⟨S128x128, .f32⟩
  | .local _ .vmem, ⟨22, _⟩ => ⟨S8x128x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_call0_cst : Ref sig .tc := ⟨.hbm, 15, rfl⟩
abbrev main_call0_call0_v0 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_call1_v0 : Ref sig .tc := ⟨.hbm, 20, rfl⟩
abbrev main_call1_c : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_c_0 : Ref sig .tc := ⟨.hbm, 26, rfl⟩
abbrev main_call1_v5 : Ref sig .tc := ⟨.hbm, 27, rfl⟩
abbrev main_v11 : Ref sig .tc := ⟨.hbm, 28, rfl⟩
abbrev main_c_0 : Ref sig .tc := ⟨.hbm, 29, rfl⟩
abbrev main_v12 : Ref sig .tc := ⟨.hbm, 30, rfl⟩
abbrev main_call2_v0 : Ref sig .tc := ⟨.hbm, 31, rfl⟩
abbrev main_call2_c : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_c_0 : Ref sig .tc := ⟨.hbm, 37, rfl⟩
abbrev main_call2_v5 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_1 : Ref sig .tc := ⟨.hbm, 56, rfl⟩
abbrev main_call4_v0 : Ref sig .tc := ⟨.hbm, 57, rfl⟩
abbrev main_call4_v1 : Ref sig .tc := ⟨.hbm, 58, rfl⟩
abbrev main_call4_v2 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_c_2 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52_0 : Ref sig .tc := ⟨.hbm, 87, rfl⟩
abbrev main_v52_1 : Ref sig .tc := ⟨.hbm, 88, rfl⟩
abbrev main_v52_2 : Ref sig .tc := ⟨.hbm, 89, rfl⟩
abbrev main_v52_3 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_5 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x8x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x8x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
abbrev S8192x1024 : Shape := ⟨2, ![8192, 1024]⟩
abbrev S8192x128 : Shape := ⟨2, ![8192, 128]⟩
abbrev S128x8x128x128 : Shape := ⟨4, ![128, 8, 128, 128]⟩
abbrev S8192x8x128 : Shape := ⟨3, ![8192, 8, 128]⟩
abbrev S128x64x8x128 : Shape := ⟨4, ![128, 64, 8, 128]⟩
abbrev S128x8x64x128 : Shape := ⟨4, ![128, 8, 64, 128]⟩
abbrev S8192x8 : Shape := ⟨2, ![8192, 8]⟩
abbrev S128x64x8 : Shape := ⟨3, ![128, 64, 8]⟩
abbrev S128x8x64 : Shape := ⟨3, ![128, 8, 64]⟩
abbrev S_ : Shape := ⟨0, ![]⟩
abbrev S64x64 : Shape := ⟨2, ![64, 64]⟩
abbrev S128x8x64x1 : Shape := ⟨4, ![128, 8, 64, 1]⟩
abbrev S128x8x1x64 : Shape := ⟨4, ![128, 8, 1, 64]⟩
abbrev S128x8x64x64 : Shape := ⟨4, ![128, 8, 64, 64]⟩
abbrev S1x1x64x64 : Shape := ⟨4, ![1, 1, 64, 64]⟩
abbrev S128x1024 : Shape := ⟨2, ![128, 1024]⟩
abbrev S128x128 : Shape := ⟨2, ![128, 128]⟩
abbrev S2x8x128x128 : Shape := ⟨4, ![2, 8, 128, 128]⟩
abbrev S2x8x64x64 : Shape := ⟨4, ![2, 8, 64, 64]⟩
abbrev S8x128x128 : Shape := ⟨3, ![8, 128, 128]⟩
abbrev S1x128 : Shape := ⟨2, ![1, 128]⟩
abbrev S64x128 : Shape := ⟨2, ![64, 128]⟩
abbrev S1x1x128x128 : Shape := ⟨4, ![1, 1, 128, 128]⟩
abbrev S64x1 : Shape := ⟨2, ![64, 1]⟩
abbrev S64 : Shape := ⟨1, ![64]⟩
abbrev S1x64 : Shape := ⟨2, ![1, 64]⟩
abbrev S1 : Shape := ⟨1, ![1]⟩
abbrev S1x1 : Shape := ⟨2, ![1, 1]⟩
abbrev S64x256 : Shape := ⟨2, ![64, 256]⟩
abbrev S1x128x128 : Shape := ⟨3, ![1, 128, 128]⟩
abbrev S128 : Shape := ⟨1, ![128]⟩
abbrev S128x1 : Shape := ⟨2, ![128, 1]⟩

abbrev nBuf : Space → Nat
  | .hbm => 91
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x128, .f32⟩
  | .hbm, ⟨4, _⟩ => ⟨S8192x1024, .f32⟩
  | .hbm, ⟨5, _⟩ => ⟨S128x8x128x128, .bf16⟩
  | .hbm, ⟨6, _⟩ => ⟨S8192x8x128, .f32⟩
  | .hbm, ⟨7, _⟩ => ⟨S128x64x8x128, .f32⟩
  | .hbm, ⟨8, _⟩ => ⟨S128x8x64x128, .f32⟩
  | .hbm, ⟨9, _⟩ => ⟨S8192x8, .f32⟩
  | .hbm, ⟨10, _⟩ => ⟨S128x64x8, .f32⟩
  | .hbm, ⟨11, _⟩ => ⟨S128x8x64, .f32⟩
  | .hbm, ⟨12, _⟩ => ⟨S8192x8, .f32⟩
  | .hbm, ⟨13, _⟩ => ⟨S128x64x8, .f32⟩
  | .hbm, ⟨14, _⟩ => ⟨S128x8x64, .f32⟩
  | .hbm, ⟨15, _⟩ => ⟨S_, .f32⟩
  | .hbm, ⟨16, _⟩ => ⟨S_, .f32⟩
  | .hbm, ⟨17, _⟩ => ⟨S128x8x64, .f32⟩
  | .hbm, ⟨18, _⟩ => ⟨S_, .i1⟩
  | .hbm, ⟨19, _⟩ => ⟨S64x64, .i1⟩
  | .hbm, ⟨20, _⟩ => ⟨S64x64, .i32⟩
  | .hbm, ⟨21, _⟩ => ⟨S_, .i32⟩
  | .hbm, ⟨22, _⟩ => ⟨S64x64, .i32⟩
  | .hbm, ⟨23, _⟩ => ⟨S64x64, .i32⟩
  | .hbm, ⟨24, _⟩ => ⟨S64x64, .i32⟩
  | .hbm, ⟨25, _⟩ => ⟨S64x64, .i1⟩
  | .hbm, ⟨26, _⟩ => ⟨S_, .i1⟩
  | .hbm, ⟨27, _⟩ => ⟨S64x64, .i1⟩
  | .hbm, ⟨28, _⟩ => ⟨S64x64, .i1⟩
  | .hbm, ⟨29, _⟩ => ⟨S_, .i1⟩
  | .hbm, ⟨30, _⟩ => ⟨S64x64, .i1⟩
  | .hbm, ⟨31, _⟩ => ⟨S64x64, .i32⟩
  | .hbm, ⟨32, _⟩ => ⟨S_, .i32⟩
  | .hbm, ⟨33, _⟩ => ⟨S64x64, .i32⟩
  | .hbm, ⟨34, _⟩ => ⟨S64x64, .i32⟩
  | .hbm, ⟨35, _⟩ => ⟨S64x64, .i32⟩
  | .hbm, ⟨36, _⟩ => ⟨S64x64, .i1⟩
  | .hbm, ⟨37, _⟩ => ⟨S_, .i1⟩
  | .hbm, ⟨38, _⟩ => ⟨S64x64, .i1⟩
  | .hbm, ⟨39, _⟩ => ⟨S64x64, .i1⟩
  | .hbm, ⟨40, _⟩ => ⟨S128x8x64x1, .f32⟩
  | .hbm, ⟨41, _⟩ => ⟨S128x8x1x64, .f32⟩
  | .hbm, ⟨42, _⟩ => ⟨S128x8x64x64, .f32⟩
  | .hbm, ⟨43, _⟩ => ⟨S128x8x64x64, .f32⟩
  | .hbm, ⟨44, _⟩ => ⟨S128x8x64x64, .f32⟩
  | .hbm, ⟨45, _⟩ => ⟨S_, .f32⟩
  | .hbm, ⟨46, _⟩ => ⟨S_, .f32⟩
  | .hbm, ⟨47, _⟩ => ⟨S128x8x64x64, .i1⟩
  | .hbm, ⟨48, _⟩ => ⟨S128x8x64x64, .f32⟩
  | .hbm, ⟨49, _⟩ => ⟨S128x8x64x64, .f32⟩
  | .hbm, ⟨50, _⟩ => ⟨S128x8x64x64, .f32⟩
  | .hbm, ⟨51, _⟩ => ⟨S128x8x64x1, .f32⟩
  | .hbm, ⟨52, _⟩ => ⟨S128x8x64x128, .f32⟩
  | .hbm, ⟨53, _⟩ => ⟨S128x8x64x128, .f32⟩
  | .hbm, ⟨54, _⟩ => ⟨S128x8x64x64, .f32⟩
  | .hbm, ⟨55, _⟩ => ⟨S128x8x64x64, .f32⟩
  | .hbm, ⟨56, _⟩ => ⟨S_, .f32⟩
  | .hbm, ⟨57, _⟩ => ⟨S_, .f32⟩
  | .hbm, ⟨58, _⟩ => ⟨S128x8x64x64, .i1⟩
  | .hbm, ⟨59, _⟩ => ⟨S128x8x64x64, .f32⟩
  | .hbm, ⟨60, _⟩ => ⟨S128x8x64x64, .f32⟩
  | .hbm, ⟨61, _⟩ => ⟨S128x8x64x64, .f32⟩
  | .hbm, ⟨62, _⟩ => ⟨S64x64, .i32⟩
  | .hbm, ⟨63, _⟩ => ⟨S64x64, .i32⟩
  | .hbm, ⟨64, _⟩ => ⟨S_, .i32⟩
  | .hbm, ⟨65, _⟩ => ⟨S64x64, .i32⟩
  | .hbm, ⟨66, _⟩ => ⟨S64x64, .i32⟩
  | .hbm, ⟨67, _⟩ => ⟨S64x64, .i1⟩
  | .hbm, ⟨68, _⟩ => ⟨S64x64, .f32⟩
  | .hbm, ⟨69, _⟩ => ⟨S1x1x64x64, .f32⟩
  | .hbm, ⟨70, _⟩ => ⟨S128x8x64x64, .f32⟩
  | .hbm, ⟨71, _⟩ => ⟨S128x8x64x64, .f32⟩
  | .hbm, ⟨72, _⟩ => ⟨S128x8x64x64, .f32⟩
  | .hbm, ⟨73, _⟩ => ⟨S128x8x64x64, .f32⟩
  | .hbm, ⟨74, _⟩ => ⟨S128x8x64x64, .f32⟩
  | .hbm, ⟨75, _⟩ => ⟨S128x8x64x64, .f32⟩
  | .hbm, ⟨76, _⟩ => ⟨S128x8x64x64, .f32⟩
  | .hbm, ⟨77, _⟩ => ⟨S128x8x64x64, .f32⟩
  | .hbm, ⟨78, _⟩ => ⟨S128x8x64x64, .f32⟩
  | .hbm, ⟨79, _⟩ => ⟨S128x8x64x64, .f32⟩
  | .hbm, ⟨80, _⟩ => ⟨S128x8x64x64, .f32⟩
  | .hbm, ⟨81, _⟩ => ⟨S128x8x64x64, .f32⟩
  | .hbm, ⟨82, _⟩ => ⟨S128x8x64x64, .f32⟩
  | .hbm, ⟨83, _⟩ => ⟨S128x8x64x64, .f32⟩
  | .hbm, ⟨84, _⟩ => ⟨S128x8x64x64, .f32⟩
  | .hbm, ⟨85, _⟩ => ⟨S128x8x64x64, .f32⟩
  | .hbm, ⟨86, _⟩ => ⟨S128x8x64x64, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x128, .f32⟩
  | .local _ .vmem, ⟨7, _⟩ => ⟨S128x128, .f32⟩
  | .local _ .vmem, ⟨8, _⟩ => ⟨S128x1024, .f32⟩
  | .local _ .vmem, ⟨9, _⟩ => ⟨S128x1024, .f32⟩
  | .local _ .vmem, ⟨10, _⟩ => ⟨S2x8x128x128, .bf16⟩
  | .local _ .vmem, ⟨11, _⟩ => ⟨S2x8x128x128, .bf16⟩
  | .local _ .vmem, ⟨12, _⟩ => ⟨S2x8x64x64, .f32⟩
  | .local _ .vmem, ⟨13, _⟩ => ⟨S2x8x64x64, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x128, .f32⟩
  | .local _ .vmem, ⟨21, _⟩ => ⟨S128x128, .f32⟩
  | .local _ .vmem, ⟨22, _⟩ => ⟨S8x128x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_call0_cst : Ref sig .tc := ⟨.hbm, 15, rfl⟩
abbrev main_call0_call0_v0 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_call1_v0 : Ref sig .tc := ⟨.hbm, 20, rfl⟩
abbrev main_call1_c : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_c_0 : Ref sig .tc := ⟨.hbm, 26, rfl⟩
abbrev main_call1_v5 : Ref sig .tc := ⟨.hbm, 27, rfl⟩
abbrev main_v11 : Ref sig .tc := ⟨.hbm, 28, rfl⟩
abbrev main_c_0 : Ref sig .tc := ⟨.hbm, 29, rfl⟩
abbrev main_v12 : Ref sig .tc := ⟨.hbm, 30, rfl⟩
abbrev main_call2_v0 : Ref sig .tc := ⟨.hbm, 31, rfl⟩
abbrev main_call2_c : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_c_0 : Ref sig .tc := ⟨.hbm, 37, rfl⟩
abbrev main_call2_v5 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_cst_1 : Ref sig .tc := ⟨.hbm, 56, rfl⟩
abbrev main_call4_v0 : Ref sig .tc := ⟨.hbm, 57, rfl⟩
abbrev main_call4_v1 : Ref sig .tc := ⟨.hbm, 58, rfl⟩
abbrev main_call4_v2 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_c_2 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52_0 : Ref sig .tc := ⟨.hbm, 87, rfl⟩
abbrev main_v52_1 : Ref sig .tc := ⟨.hbm, 88, rfl⟩
abbrev main_v52_2 : Ref sig .tc := ⟨.hbm, 89, rfl⟩
abbrev main_v52_3 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_5 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x8x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x8x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8192x1024 : Shape := ⟨2, ![8192, 1024]⟩
abbrev S8192x128 : Shape := ⟨2, ![8192, 128]⟩
abbrev S128x8x128x128 : Shape := ⟨4, ![128, 8, 128, 128]⟩
abbrev S8192x8x128 : Shape := ⟨3, ![8192, 8, 128]⟩
abbrev S8192x8 : Shape := ⟨2, ![8192, 8]⟩
abbrev S8192x8x1x1 : Shape := ⟨4, ![8192, 8, 1, 1]⟩
abbrev S_ : Shape := ⟨0, ![]⟩
abbrev S8x128x128 : Shape := ⟨3, ![8, 128, 128]⟩
abbrev S8192x8x128x1 : Shape := ⟨4, ![8192, 8, 128, 1]⟩
abbrev S8192x8x1 : Shape := ⟨3, ![8192, 8, 1]⟩
abbrev S1x8x128 : Shape := ⟨3, ![1, 8, 128]⟩
abbrev S8x128 : Shape := ⟨2, ![8, 128]⟩
abbrev S1x8x128x1 : Shape := ⟨4, ![1, 8, 128, 1]⟩
abbrev S8x128x1 : Shape := ⟨3, ![8, 128, 1]⟩
abbrev S1x8x1 : Shape := ⟨3, ![1, 8, 1]⟩
abbrev S8x1 : Shape := ⟨2, ![8, 1]⟩
abbrev S1x8x1x1 : Shape := ⟨4, ![1, 8, 1, 1]⟩
abbrev S8x1x1 : Shape := ⟨3, ![8, 1, 1]⟩
abbrev S8x1x128 : Shape := ⟨3, ![8, 1, 128]⟩

abbrev nBuf : Space → Nat
  | .hbm => 88
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x128, .f32⟩
  | .hbm, ⟨4, _⟩ => ⟨S8192x1024, .f32⟩
  | .hbm, ⟨5, _⟩ => ⟨S128x8x128x128, .bf16⟩
  | .hbm, ⟨6, _⟩ => ⟨S8192x8x128, .f32⟩
  | .hbm, ⟨7, _⟩ => ⟨S8192x8x128, .f32⟩
  | .hbm, ⟨8, _⟩ => ⟨S8192x8x128, .f32⟩
  | .hbm, ⟨9, _⟩ => ⟨S8192x8x128, .f32⟩
  | .hbm, ⟨10, _⟩ => ⟨S8192x8, .f32⟩
  | .hbm, ⟨11, _⟩ => ⟨S8192x8, .f32⟩
  | .hbm, ⟨12, _⟩ => ⟨S8192x8, .f32⟩
  | .hbm, ⟨13, _⟩ => ⟨S8192x8x1x1, .f32⟩
  | .hbm, ⟨14, _⟩ => ⟨S_, .f32⟩
  | .hbm, ⟨15, _⟩ => ⟨S8x128x128, .f32⟩
  | .hbm, ⟨16, _⟩ => ⟨S8192x8x128x1, .f32⟩
  | .hbm, ⟨17, _⟩ => ⟨S8192x8x128x1, .f32⟩
  | .hbm, ⟨18, _⟩ => ⟨S8192x8x1, .f32⟩
  | .hbm, ⟨19, _⟩ => ⟨S_, .f32⟩
  | .hbm, ⟨20, _⟩ => ⟨S8x128x128, .f32⟩
  | .hbm, ⟨21, _⟩ => ⟨S_, .f32⟩
  | .hbm, ⟨22, _⟩ => ⟨S8192x8x128, .f32⟩
  | .hbm, ⟨23, _⟩ => ⟨S_, .i32⟩
  | .hbm, ⟨24, _⟩ => ⟨S8192x8x128, .f32⟩
  | .hbm, ⟨25, _⟩ => ⟨S8192x8x128x1, .f32⟩
  | .hbm, ⟨26, _⟩ => ⟨S8192x8x1, .f32⟩
  | .hbm, ⟨27, _⟩ => ⟨S8192x8x1x1, .f32⟩
  | .hbm, ⟨28, _⟩ => ⟨S8192x8x128x1, .f32⟩
  | .hbm, ⟨29, _⟩ => ⟨S_, .i32⟩
  | .hbm, ⟨30, _⟩ => ⟨S8x128x128, .f32⟩
  | .hbm, ⟨31, _⟩ => ⟨S8192x8x128, .f32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S1x8x128, .f32⟩
  | .hbm, ⟨41, _⟩ => ⟨S8x128, .f32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S1x8x128x1, .f32⟩
  | .hbm, ⟨46, _⟩ => ⟨S8x128x1, .f32⟩
  | .hbm, ⟨47, _⟩ => ⟨S_, .i32⟩
  | .hbm, ⟨48, _⟩ => ⟨S_, .i32⟩
  | .hbm, ⟨49, _⟩ => ⟨S1x8x1, .f32⟩
  | .hbm, ⟨50, _⟩ => ⟨S8x1, .f32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S1x8x1x1, .f32⟩
  | .hbm, ⟨55, _⟩ => ⟨S8x1x1, .f32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S1x8x128x1, .f32⟩
  | .hbm, ⟨60, _⟩ => ⟨S8x128x1, .f32⟩
  | .hbm, ⟨61, _⟩ => ⟨S8x128x128, .f32⟩
  | .hbm, ⟨62, _⟩ => ⟨S8x128x128, .f32⟩
  | .hbm, ⟨63, _⟩ => ⟨S8x128x128, .f32⟩
  | .hbm, ⟨64, _⟩ => ⟨S8x128x128, .f32⟩
  | .hbm, ⟨65, _⟩ => ⟨S8x128x128, .f32⟩
  | .hbm, ⟨66, _⟩ => ⟨S8x128x128, .f32⟩
  | .hbm, ⟨67, _⟩ => ⟨S_, .f32⟩
  | .hbm, ⟨68, _⟩ => ⟨S8x128, .f32⟩
  | .hbm, ⟨69, _⟩ => ⟨S8x1x128, .f32⟩
  | .hbm, ⟨70, _⟩ => ⟨S_, .f32⟩
  | .hbm, ⟨71, _⟩ => ⟨S8x128, .f32⟩
  | .hbm, ⟨72, _⟩ => ⟨S8x128, .f32⟩
  | .hbm, ⟨73, _⟩ => ⟨S8x128, .f32⟩
  | .hbm, ⟨74, _⟩ => ⟨S8x128, .f32⟩
  | .hbm, ⟨75, _⟩ => ⟨S8x128x128, .f32⟩
  | .hbm, ⟨76, _⟩ => ⟨S8x128x128, .f32⟩
  | .hbm, ⟨77, _⟩ => ⟨S8x128x128, .f32⟩
  | .hbm, ⟨78, _⟩ => ⟨S8x128x128, .f32⟩
  | .hbm, ⟨79, _⟩ => ⟨S8x128x128, .f32⟩
  | .hbm, ⟨80, _⟩ => ⟨S8x128x128, .f32⟩
  | .hbm, ⟨81, _⟩ => ⟨S1x8x128, .f32⟩
  | .hbm, ⟨82, _⟩ => ⟨S_, .i32⟩
  | .hbm, ⟨83, _⟩ => ⟨S_, .i32⟩
  | .hbm, ⟨84, _⟩ => ⟨S8192x8x128, .f32⟩
  | .hbm, ⟨85, _⟩ => ⟨S_, .i32⟩
  | .hbm, ⟨86, _⟩ => ⟨S_, .i32⟩
  | .hbm, ⟨87, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_c : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_v14_3 : Ref sig .tc := ⟨.hbm, 27, rfl⟩
abbrev main_v14_4 : Ref sig .tc := ⟨.hbm, 28, rfl⟩
abbrev main_v14_5 : Ref sig .tc := ⟨.hbm, 29, rfl⟩
abbrev main_v14_6 : Ref sig .tc := ⟨.hbm, 30, rfl⟩
abbrev main_v14_7 : Ref sig .tc := ⟨.hbm, 31, rfl⟩
abbrev main_while0c_c_9 : Ref sig .tc := ⟨.hbm, 32, rfl⟩
abbrev main_while0c_v16 : Ref sig .tc := ⟨.hbm, 33, rfl⟩
abbrev main_while0b_c_9 : Ref sig .tc := ⟨.hbm, 34, rfl⟩
abbrev main_while0b_v16 : Ref sig .tc := ⟨.hbm, 35, rfl⟩
abbrev main_while0b_c_10 : Ref sig .tc := ⟨.hbm, 36, rfl⟩
abbrev main_while0b_v17 : Ref sig .tc := ⟨.hbm, 37, rfl⟩
abbrev main_while0b_call0_c : Ref sig .tc := ⟨.hbm, 38, rfl⟩
abbrev main_while0b_call0_c_0 : Ref sig .tc := ⟨.hbm, 39, rfl⟩
abbrev main_while0b_call0_v0 : Ref sig .tc := ⟨.hbm, 40, rfl⟩
abbrev main_while0b_v18 : Ref sig .tc := ⟨.hbm, 41, rfl⟩
abbrev main_while0b_call1_c : Ref sig .tc := ⟨.hbm, 42, rfl⟩
abbrev main_while0b_call1_c_0 : Ref sig .tc := ⟨.hbm, 43, rfl⟩
abbrev main_while0b_call1_c_1 : Ref sig .tc := ⟨.hbm, 44, rfl⟩
abbrev main_while0b_call1_v0 : Ref sig .tc := ⟨.hbm, 45, rfl⟩
abbrev main_while0b_v19 : Ref sig .tc := ⟨.hbm, 46, rfl⟩
abbrev main_while0b_call2_c : Ref sig .tc := ⟨.hbm, 47, rfl⟩
abbrev main_while0b_call2_c_0 : Ref sig .tc := ⟨.hbm, 48, rfl⟩
abbrev main_while0b_call2_v0 : Ref sig .tc := ⟨.hbm, 49, rfl⟩
abbrev main_while0b_v20 : Ref sig .tc := ⟨.hbm, 50, rfl⟩
abbrev main_while0b_call3_c : Ref sig .tc := ⟨.hbm, 51, rfl⟩
abbrev main_while0b_call3_c_0 : Ref sig .tc := ⟨.hbm, 52, rfl⟩
abbrev main_while0b_call3_c_1 : Ref sig .tc := ⟨.hbm, 53, rfl⟩
abbrev main_while0b_call3_v0 : Ref sig .tc := ⟨.hbm, 54, rfl⟩
abbrev main_while0b_v21 : Ref sig .tc := ⟨.hbm, 55, rfl⟩
abbrev main_while0b_call4_c : Ref sig .tc := ⟨.hbm, 56, rfl⟩
abbrev main_while0b_call4_c_0 : Ref sig .tc := ⟨.hbm, 57, rfl⟩
abbrev main_while0b_call4_c_1 : Ref sig .tc := ⟨.hbm, 58, rfl⟩
abbrev main_while0b_call4_v0 : Ref sig .tc := ⟨.hbm, 59, rfl⟩
abbrev main_while0b_v22 : Ref sig .tc := ⟨.hbm, 60, rfl⟩
abbrev main_while0b_v23 : Ref sig .tc := ⟨.hbm, 61, rfl⟩
abbrev main_while0b_v24 : Ref sig .tc := ⟨.hbm, 62, rfl⟩
abbrev main_while0b_v25 : Ref sig .tc := ⟨.hbm, 63, rfl⟩
abbrev main_while0b_v26 : Ref sig .tc := ⟨.hbm, 64, rfl⟩
abbrev main_while0b_v27 : Ref sig .tc := ⟨.hbm, 65, rfl⟩
abbrev main_while0b_v28 : Ref sig .tc := ⟨.hbm, 66, rfl⟩
abbrev main_while0b_cst_11 : Ref sig .tc := ⟨.hbm, 67, rfl⟩
abbrev main_while0b_v29 : Ref sig .tc := ⟨.hbm, 68, rfl⟩
abbrev main_while0b_v30 : Ref sig .tc := ⟨.hbm, 69, rfl⟩
abbrev main_while0b_cst_12 : Ref sig .tc := ⟨.hbm, 70, rfl⟩
abbrev main_while0b_v31 : Ref sig .tc := ⟨.hbm, 71, rfl⟩
abbrev main_while0b_v32 : Ref sig .tc := ⟨.hbm, 72, rfl⟩
abbrev main_while0b_v33 : Ref sig .tc := ⟨.hbm, 73, rfl⟩
abbrev main_while0b_v34 : Ref sig .tc := ⟨.hbm, 74, rfl⟩
abbrev main_while0b_v35 : Ref sig .tc := ⟨.hbm, 75, rfl⟩
abbrev main_while0b_v36 : Ref sig .tc := ⟨.hbm, 76, rfl⟩
abbrev main_while0b_v37 : Ref sig .tc := ⟨.hbm, 77, rfl⟩
abbrev main_while0b_v38 : Ref sig .tc := ⟨.hbm, 78, rfl⟩
abbrev main_while0b_v39 : Ref sig .tc := ⟨.hbm, 79, rfl⟩
abbrev main_while0b_v40 : Ref sig .tc := ⟨.hbm, 80, rfl⟩
abbrev main_while0b_call5_v0 : Ref sig .tc := ⟨.hbm, 81, rfl⟩
abbrev main_while0b_call5_c : Ref sig .tc := ⟨.hbm, 82, rfl⟩
abbrev main_while0b_call5_c_0 : Ref sig .tc := ⟨.hbm, 83, rfl⟩
abbrev main_while0b_v41 : Ref sig .tc := ⟨.hbm, 84, rfl⟩
abbrev main_while0b_c_13 : Ref sig .tc := ⟨.hbm, 85, rfl⟩
abbrev main_while0b_v42 : Ref sig .tc := ⟨.hbm, 86, rfl⟩
abbrev main_v15 : Ref sig .tc := ⟨.hbm, 87, rfl⟩

abbrev nD : Nat := 1
abbrev τ : Topo := Topo.v7x

variable {F : FTy → Type} [FloatOps F]

abbrev main_while0_count : Scf.Loop 32 := ⟨0#32, 8192#32, 1#32⟩
-- ==== InDw.lean ====
abbrev S8192x9216 : Shape := ⟨2, ![8192, 9216]⟩
abbrev S8192x1024 : Shape := ⟨2, ![8192, 1024]⟩
abbrev S9216x1024 : Shape := ⟨2, ![9216, 1024]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x9216, .bf16⟩
  | .hbm, ⟨1, _⟩ => ⟨S8192x1024, .bf16⟩
  | .hbm, ⟨2, _⟩ => ⟨S9216x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8192x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S8192x9216 : Shape := ⟨2, ![8192, 9216]⟩
abbrev S8192x1024 : Shape := ⟨2, ![8192, 1024]⟩
abbrev S9216x1024 : Shape := ⟨2, ![9216, 1024]⟩
abbrev S1024x9216 : Shape := ⟨2, ![1024, 9216]⟩

abbrev nBuf : Space → Nat
  | .hbm => 7
  | .vmem => 0
  | .smem => 0
  | _ => 0

abbrev bufTy : (tb : Table) → Fin (tcTables nBuf tb) → BufTy
  | .hbm, ⟨0, _⟩ => ⟨S8192x9216, .bf16⟩
  | .hbm, ⟨1, _⟩ => ⟨S8192x1024, .bf16⟩
  | .hbm, ⟨2, _⟩ => ⟨S8192x1024, .f32⟩
  | .hbm, ⟨3, _⟩ => ⟨S8192x9216, .f32⟩
  | .hbm, ⟨4, _⟩ => ⟨S9216x1024, .f32⟩
  | .hbm, ⟨5, _⟩ => ⟨S1024x9216, .f32⟩
  | .hbm, ⟨6, _⟩ => ⟨S9216x1024, .f32⟩
  | _, _ => ⟨S8192x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InDx.lean ====
abbrev S8192x9216 : Shape := ⟨2, ![8192, 9216]⟩
abbrev S1024x9216 : Shape := ⟨2, ![1024, 9216]⟩
abbrev S8192x1024 : Shape := ⟨2, ![8192, 1024]⟩
abbrev S512x9216 : Shape := ⟨2, ![512, 9216]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x9216, .bf16⟩
  | .hbm, ⟨1, _⟩ => ⟨S1024x9216, .bf16⟩
  | .hbm, ⟨2, _⟩ => ⟨S8192x1024, .f32⟩
  | .local _ .vmem, ⟨0, _⟩ => ⟨S512x9216, .bf16⟩
  | .local _ .vmem, ⟨1, _⟩ => ⟨S512x9216, .bf16⟩
  | .local _ .vmem, ⟨2, _⟩ => ⟨S1024x9216, .bf16⟩
  | .local _ .vmem, ⟨3, _⟩ => ⟨S512x1024, .f32⟩
  | .local _ .vmem, ⟨4, _⟩ => ⟨S512x1024, .f32⟩
  | _, _ => ⟨S8192x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x9216 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x9216 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S8192x9216 : Shape := ⟨2, ![8192, 9216]⟩
abbrev S1024x9216 : Shape := ⟨2, ![1024, 9216]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x9216, .bf16⟩
  | .hbm, ⟨1, _⟩ => ⟨S1024x9216, .bf16⟩
  | .hbm, ⟨2, _⟩ => ⟨S1024x9216, .f32⟩
  | .hbm, ⟨3, _⟩ => ⟨S8192x9216, .f32⟩
  | .hbm, ⟨4, _⟩ => ⟨S8192x1024, .f32⟩
  | _, _ => ⟨S8192x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpDw.lean ====
abbrev S8192x5632 : Shape := ⟨2, ![8192, 5632]⟩
abbrev S8192x1024 : Shape := ⟨2, ![8192, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S5632x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S8192x5632 : Shape := ⟨2, ![8192, 5632]⟩
abbrev S8192x1024 : Shape := ⟨2, ![8192, 1024]⟩
abbrev S5632x1024 : Shape := ⟨2, ![5632, 1024]⟩
abbrev S1024x5632 : Shape := ⟨2, ![1024, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S8192x1024, .f32⟩
  | .hbm, ⟨3, _⟩ => ⟨S8192x5632, .f32⟩
  | .hbm, ⟨4, _⟩ => ⟨S5632x1024, .f32⟩
  | .hbm, ⟨5, _⟩ => ⟨S1024x5632, .f32⟩
  | .hbm, ⟨6, _⟩ => ⟨S5632x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== UpDx.lean ====
abbrev S8192x5632 : Shape := ⟨2, ![8192, 5632]⟩
abbrev S5632x1024 : Shape := ⟨2, ![5632, 1024]⟩
abbrev S8192x1024 : Shape := ⟨2, ![8192, 1024]⟩
abbrev S512x5632 : Shape := ⟨2, ![512, 5632]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x5632, .bf16⟩
  | .hbm, ⟨1, _⟩ => ⟨S5632x1024, .bf16⟩
  | .hbm, ⟨2, _⟩ => ⟨S8192x1024, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S8192x5632 : Shape := ⟨2, ![8192, 5632]⟩
abbrev S5632x1024 : Shape := ⟨2, ![5632, 1024]⟩
abbrev S1024x5632 : Shape := ⟨2, ![1024, 5632]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x1024, .bf16⟩
  | .hbm, ⟨2, _⟩ => ⟨S1024x5632, .bf16⟩
  | .hbm, ⟨3, _⟩ => ⟨S1024x5632, .f32⟩
  | .hbm, ⟨4, _⟩ => ⟨S8192x5632, .f32⟩
  | .hbm, ⟨5, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DownDw.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8192x2816 : Shape := ⟨2, ![8192, 2816]⟩
abbrev S8192x1024 : Shape := ⟨2, ![8192, 1024]⟩
abbrev S1024x2816 : Shape := ⟨2, ![1024, 2816]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S1024x2816, .f32⟩
  | .hbm, ⟨5, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DownDx.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S8192x1024 : Shape := ⟨2, ![8192, 1024]⟩
abbrev S2816x1024 : Shape := ⟨2, ![2816, 1024]⟩
abbrev S8192x2816 : Shape := ⟨2, ![8192, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .f32⟩
  | .hbm, ⟨3, _⟩ => ⟨S8192x1024, .f32⟩
  | .hbm, ⟨4, _⟩ => ⟨S8192x2816, .f32⟩
  | .hbm, ⟨5, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SquareDw.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== SquareDwRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== SquareDx.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareDxRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BDx.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BDxRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x1024, .f32⟩
  | .hbm, ⟨3, _⟩ => ⟨S8192x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InGates.lean ====
abbrev S8192x1024 : Shape := ⟨2, ![8192, 1024]⟩
abbrev S1024x9216 : Shape := ⟨2, ![1024, 9216]⟩
abbrev S8192x6144 : Shape := ⟨2, ![8192, 6144]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x9216, .bf16⟩
  | .hbm, ⟨2, _⟩ => ⟨S8192x6144, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGatesRefIdeal.lean ====
abbrev S8192x1024 : Shape := ⟨2, ![8192, 1024]⟩
abbrev S1024x9216 : Shape := ⟨2, ![1024, 9216]⟩
abbrev S1024x6144 : Shape := ⟨2, ![1024, 6144]⟩
abbrev S8192x6144 : Shape := ⟨2, ![8192, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x9216, .bf16⟩
  | .hbm, ⟨2, _⟩ => ⟨S1024x6144, .bf16⟩
  | .hbm, ⟨3, _⟩ => ⟨S8192x1024, .f32⟩
  | .hbm, ⟨4, _⟩ => ⟨S1024x6144, .f32⟩
  | .hbm, ⟨5, _⟩ => ⟨S8192x6144, .f32⟩
  | .hbm, ⟨6, _⟩ => ⟨S8192x6144, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InQkv.lean ====
abbrev S8192x1024 : Shape := ⟨2, ![8192, 1024]⟩
abbrev S1024x9216 : Shape := ⟨2, ![1024, 9216]⟩
abbrev S8192x3072 : Shape := ⟨2, ![8192, 3072]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x9216, .bf16⟩
  | .hbm, ⟨2, _⟩ => ⟨S8192x3072, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.addi arg1 c6_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InQkvRefIdeal.lean ====
abbrev S8192x1024 : Shape := ⟨2, ![8192, 1024]⟩
abbrev S1024x9216 : Shape := ⟨2, ![1024, 9216]⟩
abbrev S1024x3072 : Shape := ⟨2, ![1024, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x9216, .bf16⟩
  | .hbm, ⟨2, _⟩ => ⟨S1024x3072, .bf16⟩
  | .hbm, ⟨3, _⟩ => ⟨S8192x1024, .f32⟩
  | .hbm, ⟨4, _⟩ => ⟨S1024x3072, .f32⟩
  | .hbm, ⟨5, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Up.lean ====
abbrev S8192x1024 : Shape := ⟨2, ![8192, 1024]⟩
abbrev S5632x1024 : Shape := ⟨2, ![5632, 1024]⟩
abbrev S8192x5632 : Shape := ⟨2, ![8192, 5632]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2048x1408, .bf16⟩
  | .local _ .vmem, ⟨5, _⟩ => ⟨S2048x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S8192x1024 : Shape := ⟨2, ![8192, 1024]⟩
abbrev S5632x1024 : Shape := ⟨2, ![5632, 1024]⟩
abbrev S1024x5632 : Shape := ⟨2, ![1024, 5632]⟩
abbrev S8192x5632 : Shape := ⟨2, ![8192, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S1024x5632, .bf16⟩
  | .hbm, ⟨3, _⟩ => ⟨S8192x1024, .f32⟩
  | .hbm, ⟨4, _⟩ => ⟨S1024x5632, .f32⟩
  | .hbm, ⟨5, _⟩ => ⟨S8192x5632, .f32⟩
  | .hbm, ⟨6, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Down.lean ====
abbrev S8192x2816 : Shape := ⟨2, ![8192, 2816]⟩
abbrev S2816x1024 : Shape := ⟨2, ![2816, 1024]⟩
abbrev S8192x1024 : Shape := ⟨2, ![8192, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Square.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== O.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ORefIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AdamIn.lean ====
abbrev S1154x1x1024 : Shape := ⟨3, ![1154, 1, 1024]⟩
abbrev S577x1x1024 : Shape := ⟨3, ![577, 1, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1154x1x1024, .f32⟩
  | .hbm, ⟨1, _⟩ => ⟨S1154x1x1024, .f32⟩
  | .hbm, ⟨2, _⟩ => ⟨S1154x1x1024, .f32⟩
  | .hbm, ⟨3, _⟩ => ⟨S1154x1x1024, .f32⟩
  | .hbm, ⟨4, _⟩ => ⟨S1154x1x1024, .f32⟩
  | .hbm, ⟨5, _⟩ => ⟨S1154x1x1024, .f32⟩
  | .hbm, ⟨6, _⟩ => ⟨S1154x1x1024, .f32⟩
  | .local _ .vmem, ⟨0, _⟩ => ⟨S577x1x1024, .f32⟩
  | .local _ .vmem, ⟨1, _⟩ => ⟨S577x1x1024, .f32⟩
  | .local _ .vmem, ⟨2, _⟩ => ⟨S577x1x1024, .f32⟩
  | .local _ .vmem, ⟨3, _⟩ => ⟨S577x1x1024, .f32⟩
  | .local _ .vmem, ⟨4, _⟩ => ⟨S577x1x1024, .f32⟩
  | .local _ .vmem, ⟨5, _⟩ => ⟨S577x1x1024, .f32⟩
  | .local _ .vmem, ⟨6, _⟩ => ⟨S577x1x1024, .f32⟩
  | .local _ .vmem, ⟨7, _⟩ => ⟨S577x1x1024, .f32⟩
  | .local _ .vmem, ⟨8, _⟩ => ⟨S577x1x1024, .f32⟩
  | .local _ .vmem, ⟨9, _⟩ => ⟨S577x1x1024, .f32⟩
  | .local _ .vmem, ⟨10, _⟩ => ⟨S577x1x1024, .f32⟩
  | .local _ .vmem, ⟨11, _⟩ => ⟨S577x1x1024, .f32⟩
  | .local _ .vmem, ⟨12, _⟩ => ⟨S577x1x1024, .f32⟩
  | .local _ .vmem, ⟨13, _⟩ => ⟨S577x1x1024, .f32⟩
  | _, _ => ⟨S1154x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S577x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S577x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S577x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S577x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S577x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S577x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S577x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S1154x1x1024 : Shape := ⟨3, ![1154, 1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1154x1x1024, .f32⟩
  | .hbm, ⟨1, _⟩ => ⟨S1154x1x1024, .f32⟩
  | .hbm, ⟨2, _⟩ => ⟨S1154x1x1024, .f32⟩
  | .hbm, ⟨3, _⟩ => ⟨S1154x1x1024, .f32⟩
  | .hbm, ⟨4, _⟩ => ⟨S_, .f32⟩
  | .hbm, ⟨5, _⟩ => ⟨S1154x1x1024, .f32⟩
  | .hbm, ⟨6, _⟩ => ⟨S1154x1x1024, .f32⟩
  | .hbm, ⟨7, _⟩ => ⟨S_, .f32⟩
  | .hbm, ⟨8, _⟩ => ⟨S1154x1x1024, .f32⟩
  | .hbm, ⟨9, _⟩ => ⟨S1154x1x1024, .f32⟩
  | .hbm, ⟨10, _⟩ => ⟨S1154x1x1024, .f32⟩
  | .hbm, ⟨11, _⟩ => ⟨S_, .f32⟩
  | .hbm, ⟨12, _⟩ => ⟨S1154x1x1024, .f32⟩
  | .hbm, ⟨13, _⟩ => ⟨S1154x1x1024, .f32⟩
  | .hbm, ⟨14, _⟩ => ⟨S1154x1x1024, .f32⟩
  | .hbm, ⟨15, _⟩ => ⟨S_, .f32⟩
  | .hbm, ⟨16, _⟩ => ⟨S1154x1x1024, .f32⟩
  | .hbm, ⟨17, _⟩ => ⟨S1154x1x1024, .f32⟩
  | .hbm, ⟨18, _⟩ => ⟨S1154x1x1024, .f32⟩
  | .hbm, ⟨19, _⟩ => ⟨S_, .f32⟩
  | .hbm, ⟨20, _⟩ => ⟨S1154x1x1024, .f32⟩
  | .hbm, ⟨21, _⟩ => ⟨S1154x1x1024, .f32⟩
  | .hbm, ⟨22, _⟩ => ⟨S_, .f32⟩
  | .hbm, ⟨23, _⟩ => ⟨S1154x1x1024, .f32⟩
  | .hbm, ⟨24, _⟩ => ⟨S1154x1x1024, .f32⟩
  | .hbm, ⟨25, _⟩ => ⟨S1154x1x1024, .f32⟩
  | .hbm, ⟨26, _⟩ => ⟨S_, .f32⟩
  | .hbm, ⟨27, _⟩ => ⟨S1154x1x1024, .f32⟩
  | .hbm, ⟨28, _⟩ => ⟨S1154x1x1024, .f32⟩
  | .hbm, ⟨29, _⟩ => ⟨S1154x1x1024, .f32⟩
  | .hbm, ⟨30, _⟩ => ⟨S_, .f32⟩
  | .hbm, ⟨31, _⟩ => ⟨S1154x1x1024, .f32⟩
  | .hbm, ⟨32, _⟩ => ⟨S1154x1x1024, .f32⟩
  | .hbm, ⟨33, _⟩ => ⟨S1154x1x1024, .f32⟩
  | .hbm, ⟨34, _⟩ => ⟨S_, .f32⟩
  | .hbm, ⟨35, _⟩ => ⟨S1154x1x1024, .f32⟩
  | .hbm, ⟨36, _⟩ => ⟨S1154x1x1024, .f32⟩
  | _, _ => ⟨S1154x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSquare.lean ====
abbrev S4x128x1024 : Shape := ⟨3, ![4, 128, 1024]⟩
abbrev S3x128x1024 : Shape := ⟨3, ![3, 128, 1024]⟩
abbrev S1 : Shape := ⟨1, ![1]⟩
abbrev S1x128x1024 : Shape := ⟨3, ![1, 128, 1024]⟩
abbrev S128x1024 : Shape := ⟨2, ![128, 1024]⟩

abbrev nBuf : Space → Nat
  | .hbm => 9
  | .vmem => 9
  | .smem => 1
  | _ => 0

abbrev bufTy : (tb : Table) → Fin (tcTables nBuf tb) → BufTy
  | .hbm, ⟨0, _⟩ => ⟨S4x128x1024, .f32⟩
  | .hbm, ⟨1, _⟩ => ⟨S3x128x1024, .bf16⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .hbm, ⟨8, _⟩ => ⟨S1x128x1024, .f32⟩
  | .local _ .vmem, ⟨0, _⟩ => ⟨S1x128x1024, .f32⟩
  | .local _ .vmem, ⟨1, _⟩ => ⟨S3x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .smem, ⟨0, _⟩ => ⟨S1, .i32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamSquareRefIdeal.lean ====
abbrev S4x128x1024 : Shape := ⟨3, ![4, 128, 1024]⟩
abbrev S3x128x1024 : Shape := ⟨3, ![3, 128, 1024]⟩
abbrev S1 : Shape := ⟨1, ![1]⟩
abbrev S1x128x1024 : Shape := ⟨3, ![1, 128, 1024]⟩
abbrev S1x1x1 : Shape := ⟨3, ![1, 1, 1]⟩
abbrev S_ : Shape := ⟨0, ![]⟩
abbrev S128x1024 : Shape := ⟨2, ![128, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S3x128x1024, .bf16⟩
  | .hbm, ⟨2, _⟩ => ⟨S1, .i32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S4x128x1024, .i32⟩
  | .hbm, ⟨7, _⟩ => ⟨S1x1x1, .i32⟩
  | .hbm, ⟨8, _⟩ => ⟨S4x128x1024, .i32⟩
  | .hbm, ⟨9, _⟩ => ⟨S4x128x1024, .i1⟩
  | .hbm, ⟨10, _⟩ => ⟨S_, .f32⟩
  | .hbm, ⟨11, _⟩ => ⟨S4x128x1024, .f32⟩
  | .hbm, ⟨12, _⟩ => ⟨S4x128x1024, .f32⟩
  | .hbm, ⟨13, _⟩ => ⟨S_, .f32⟩
  | .hbm, ⟨14, _⟩ => ⟨S128x1024, .f32⟩
  | .hbm, ⟨15, _⟩ => ⟨S3x128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S1x128x1024, .f32⟩
  | .hbm, ⟨20, _⟩ => ⟨S_, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S1x128x1024, .f32⟩
  | .hbm, ⟨27, _⟩ => ⟨S_, .f32⟩
  | .hbm, ⟨28, _⟩ => ⟨S1x128x1024, .f32⟩
  | .hbm, ⟨29, _⟩ => ⟨S1x128x1024, .f32⟩
  | .hbm, ⟨30, _⟩ => ⟨S1x128x1024, .f32⟩
  | .hbm, ⟨31, _⟩ => ⟨S_, .f32⟩
  | .hbm, ⟨32, _⟩ => ⟨S1x128x1024, .f32⟩
  | .hbm, ⟨33, _⟩ => ⟨S1x128x1024, .f32⟩
  | .hbm, ⟨34, _⟩ => ⟨S1x128x1024, .f32⟩
  | .hbm, ⟨35, _⟩ => ⟨S_, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | .hbm, ⟨41, _⟩ => ⟨S1x128x1024, .f32⟩
  | .hbm, ⟨42, _⟩ => ⟨S_, .f32⟩
  | .hbm, ⟨43, _⟩ => ⟨S1x128x1024, .f32⟩
  | .hbm, ⟨44, _⟩ => ⟨S1x128x1024, .f32⟩
  | .hbm, ⟨45, _⟩ => ⟨S1x128x1024, .f32⟩
  | .hbm, ⟨46, _⟩ => ⟨S_, .f32⟩
  | .hbm, ⟨47, _⟩ => ⟨S1x128x1024, .f32⟩
  | .hbm, ⟨48, _⟩ => ⟨S1x128x1024, .f32⟩
  | .hbm, ⟨49, _⟩ => ⟨S1x128x1024, .f32⟩
  | .hbm, ⟨50, _⟩ => ⟨S_, .f32⟩
  | .hbm, ⟨51, _⟩ => ⟨S1x128x1024, .f32⟩
  | .hbm, ⟨52, _⟩ => ⟨S1x128x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_9 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_10 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== AdamUp.lean ====
abbrev S4x704x1024 : Shape := ⟨3, ![4, 704, 1024]⟩
abbrev S3x704x1024 : Shape := ⟨3, ![3, 704, 1024]⟩
abbrev S1 : Shape := ⟨1, ![1]⟩
abbrev S1x704x1024 : Shape := ⟨3, ![1, 704, 1024]⟩
abbrev S704x1024 : Shape := ⟨2, ![704, 1024]⟩

abbrev nBuf : Space → Nat
  | .hbm => 9
  | .vmem => 9
  | .smem => 1
  | _ => 0

abbrev bufTy : (tb : Table) → Fin (tcTables nBuf tb) → BufTy
  | .hbm, ⟨0, _⟩ => ⟨S4x704x1024, .f32⟩
  | .hbm, ⟨1, _⟩ => ⟨S3x704x1024, .bf16⟩
  | .hbm, ⟨2, _⟩ => ⟨S1x704x1024, .f32⟩
  | .hbm, ⟨3, _⟩ => ⟨S1x704x1024, .f32⟩
  | .hbm, ⟨4, _⟩ => ⟨S1x704x1024, .f32⟩
  | .hbm, ⟨5, _⟩ => ⟨S1x704x1024, .f32⟩
  | .hbm, ⟨6, _⟩ => ⟨S1x704x1024, .f32⟩
  | .hbm, ⟨7, _⟩ => ⟨S1x704x1024, .f32⟩
  | .hbm, ⟨8, _⟩ => ⟨S1x704x1024, .f32⟩
  | .local _ .vmem, ⟨0, _⟩ => ⟨S1x704x1024, .f32⟩
  | .local _ .vmem, ⟨1, _⟩ => ⟨S3x704x1024, .bf16⟩
  | .local _ .vmem, ⟨2, _⟩ => ⟨S1x704x1024, .f32⟩
  | .local _ .vmem, ⟨3, _⟩ => ⟨S1x704x1024, .f32⟩
  | .local _ .vmem, ⟨4, _⟩ => ⟨S1x704x1024, .f32⟩
  | .local _ .vmem, ⟨5, _⟩ => ⟨S1x704x1024, .f32⟩
  | .local _ .vmem, ⟨6, _⟩ => ⟨S1x704x1024, .f32⟩
  | .local _ .vmem, ⟨7, _⟩ => ⟨S1x704x1024, .f32⟩
  | .local _ .vmem, ⟨8, _⟩ => ⟨S1x704x1024, .f32⟩
  | .local _ .smem, ⟨0, _⟩ => ⟨S1, .i32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x704x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x704x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x704x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x704x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x704x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x704x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x704x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x704x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamUpRefIdeal.lean ====
abbrev S4x704x1024 : Shape := ⟨3, ![4, 704, 1024]⟩
abbrev S3x704x1024 : Shape := ⟨3, ![3, 704, 1024]⟩
abbrev S1 : Shape := ⟨1, ![1]⟩
abbrev S1x704x1024 : Shape := ⟨3, ![1, 704, 1024]⟩
abbrev S1x1x1 : Shape := ⟨3, ![1, 1, 1]⟩
abbrev S_ : Shape := ⟨0, ![]⟩
abbrev S704x1024 : Shape := ⟨2, ![704, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S3x704x1024, .bf16⟩
  | .hbm, ⟨2, _⟩ => ⟨S1, .i32⟩
  | .hbm, ⟨3, _⟩ => ⟨S1x704x1024, .f32⟩
  | .hbm, ⟨4, _⟩ => ⟨S1x704x1024, .f32⟩
  | .hbm, ⟨5, _⟩ => ⟨S1x704x1024, .f32⟩
  | .hbm, ⟨6, _⟩ => ⟨S4x704x1024, .i32⟩
  | .hbm, ⟨7, _⟩ => ⟨S1x1x1, .i32⟩
  | .hbm, ⟨8, _⟩ => ⟨S4x704x1024, .i32⟩
  | .hbm, ⟨9, _⟩ => ⟨S4x704x1024, .i1⟩
  | .hbm, ⟨10, _⟩ => ⟨S_, .f32⟩
  | .hbm, ⟨11, _⟩ => ⟨S4x704x1024, .f32⟩
  | .hbm, ⟨12, _⟩ => ⟨S4x704x1024, .f32⟩
  | .hbm, ⟨13, _⟩ => ⟨S_, .f32⟩
  | .hbm, ⟨14, _⟩ => ⟨S704x1024, .f32⟩
  | .hbm, ⟨15, _⟩ => ⟨S3x704x1024, .f32⟩
  | .hbm, ⟨16, _⟩ => ⟨S_, .f32⟩
  | .hbm, ⟨17, _⟩ => ⟨S704x1024, .f32⟩
  | .hbm, ⟨18, _⟩ => ⟨S704x1024, .f32⟩
  | .hbm, ⟨19, _⟩ => ⟨S1x704x1024, .f32⟩
  | .hbm, ⟨20, _⟩ => ⟨S_, .f32⟩
  | .hbm, ⟨21, _⟩ => ⟨S1x704x1024, .f32⟩
  | .hbm, ⟨22, _⟩ => ⟨S1x704x1024, .f32⟩
  | .hbm, ⟨23, _⟩ => ⟨S_, .f32⟩
  | .hbm, ⟨24, _⟩ => ⟨S1x704x1024, .f32⟩
  | .hbm, ⟨25, _⟩ => ⟨S1x704x1024, .f32⟩
  | .hbm, ⟨26, _⟩ => ⟨S1x704x1024, .f32⟩
  | .hbm, ⟨27, _⟩ => ⟨S_, .f32⟩
  | .hbm, ⟨28, _⟩ => ⟨S1x704x1024, .f32⟩
  | .hbm, ⟨29, _⟩ => ⟨S1x704x1024, .f32⟩
  | .hbm, ⟨30, _⟩ => ⟨S1x704x1024, .f32⟩
  | .hbm, ⟨31, _⟩ => ⟨S_, .f32⟩
  | .hbm, ⟨32, _⟩ => ⟨S1x704x1024, .f32⟩
  | .hbm, ⟨33, _⟩ => ⟨S1x704x1024, .f32⟩
  | .hbm, ⟨34, _⟩ => ⟨S1x704x1024, .f32⟩
  | .hbm, ⟨35, _⟩ => ⟨S_, .f32⟩
  | .hbm, ⟨36, _⟩ => ⟨S1x704x1024, .f32⟩
  | .hbm, ⟨37, _⟩ => ⟨S1x704x1024, .f32⟩
  | .hbm, ⟨38, _⟩ => ⟨S_, .f32⟩
  | .hbm, ⟨39, _⟩ => ⟨S1x704x1024, .f32⟩
  | .hbm, ⟨40, _⟩ => ⟨S1x704x1024, .f32⟩
  | .hbm, ⟨41, _⟩ => ⟨S1x704x1024, .f32⟩
  | .hbm, ⟨42, _⟩ => ⟨S_, .f32⟩
  | .hbm, ⟨43, _⟩ => ⟨S1x704x1024, .f32⟩
  | .hbm, ⟨44, _⟩ => ⟨S1x704x1024, .f32⟩
  | .hbm, ⟨45, _⟩ => ⟨S1x704x1024, .f32⟩
  | .hbm, ⟨46, _⟩ => ⟨S_, .f32⟩
  | .hbm, ⟨47, _⟩ => ⟨S1x704x1024, .f32⟩
  | .hbm, ⟨48, _⟩ => ⟨S1x704x1024, .f32⟩
  | .hbm, ⟨49, _⟩ => ⟨S1x704x1024, .f32⟩
  | .hbm, ⟨50, _⟩ => ⟨S_, .f32⟩
  | .hbm, ⟨51, _⟩ => ⟨S1x704x1024, .f32⟩
  | .hbm, ⟨52, _⟩ => ⟨S1x704x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_9 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_10 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== AdamDown.lean ====
abbrev S4x352x1024 : Shape := ⟨3, ![4, 352, 1024]⟩
abbrev S3x352x1024 : Shape := ⟨3, ![3, 352, 1024]⟩
abbrev S1 : Shape := ⟨1, ![1]⟩
abbrev S1x352x1024 : Shape := ⟨3, ![1, 352, 1024]⟩
abbrev S352x1024 : Shape := ⟨2, ![352, 1024]⟩

abbrev nBuf : Space → Nat
  | .hbm => 9
  | .vmem => 9
  | .smem => 1
  | _ => 0

abbrev bufTy : (tb : Table) → Fin (tcTables nBuf tb) → BufTy
  | .hbm, ⟨0, _⟩ => ⟨S4x352x1024, .f32⟩
  | .hbm, ⟨1, _⟩ => ⟨S3x352x1024, .bf16⟩
  | .hbm, ⟨2, _⟩ => ⟨S1x352x1024, .f32⟩
  | .hbm, ⟨3, _⟩ => ⟨S1x352x1024, .f32⟩
  | .hbm, ⟨4, _⟩ => ⟨S1x352x1024, .f32⟩
  | .hbm, ⟨5, _⟩ => ⟨S1x352x1024, .f32⟩
  | .hbm, ⟨6, _⟩ => ⟨S1x352x1024, .f32⟩
  | .hbm, ⟨7, _⟩ => ⟨S1x352x1024, .f32⟩
  | .hbm, ⟨8, _⟩ => ⟨S1x352x1024, .f32⟩
  | .local _ .vmem, ⟨0, _⟩ => ⟨S1x352x1024, .f32⟩
  | .local _ .vmem, ⟨1, _⟩ => ⟨S3x352x1024, .bf16⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .smem, ⟨0, _⟩ => ⟨S1, .i32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x352x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamDownRefIdeal.lean ====
abbrev S4x352x1024 : Shape := ⟨3, ![4, 352, 1024]⟩
abbrev S3x352x1024 : Shape := ⟨3, ![3, 352, 1024]⟩
abbrev S1 : Shape := ⟨1, ![1]⟩
abbrev S1x352x1024 : Shape := ⟨3, ![1, 352, 1024]⟩
abbrev S1x1x1 : Shape := ⟨3, ![1, 1, 1]⟩
abbrev S_ : Shape := ⟨0, ![]⟩
abbrev S352x1024 : Shape := ⟨2, ![352, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S3x352x1024, .bf16⟩
  | .hbm, ⟨2, _⟩ => ⟨S1, .i32⟩
  | .hbm, ⟨3, _⟩ => ⟨S1x352x1024, .f32⟩
  | .hbm, ⟨4, _⟩ => ⟨S1x352x1024, .f32⟩
  | .hbm, ⟨5, _⟩ => ⟨S1x352x1024, .f32⟩
  | .hbm, ⟨6, _⟩ => ⟨S4x352x1024, .i32⟩
  | .hbm, ⟨7, _⟩ => ⟨S1x1x1, .i32⟩
  | .hbm, ⟨8, _⟩ => ⟨S4x352x1024, .i32⟩
  | .hbm, ⟨9, _⟩ => ⟨S4x352x1024, .i1⟩
  | .hbm, ⟨10, _⟩ => ⟨S_, .f32⟩
  | .hbm, ⟨11, _⟩ => ⟨S4x352x1024, .f32⟩
  | .hbm, ⟨12, _⟩ => ⟨S4x352x1024, .f32⟩
  | .hbm, ⟨13, _⟩ => ⟨S_, .f32⟩
  | .hbm, ⟨14, _⟩ => ⟨S352x1024, .f32⟩
  | .hbm, ⟨15, _⟩ => ⟨S3x352x1024, .f32⟩
  | .hbm, ⟨16, _⟩ => ⟨S_, .f32⟩
  | .hbm, ⟨17, _⟩ => ⟨S352x1024, .f32⟩
  | .hbm, ⟨18, _⟩ => ⟨S352x1024, .f32⟩
  | .hbm, ⟨19, _⟩ => ⟨S1x352x1024, .f32⟩
  | .hbm, ⟨20, _⟩ => ⟨S_, .f32⟩
  | .hbm, ⟨21, _⟩ => ⟨S1x352x1024, .f32⟩
  | .hbm, ⟨22, _⟩ => ⟨S1x352x1024, .f32⟩
  | .hbm, ⟨23, _⟩ => ⟨S_, .f32⟩
  | .hbm, ⟨24, _⟩ => ⟨S1x352x1024, .f32⟩
  | .hbm, ⟨25, _⟩ => ⟨S1x352x1024, .f32⟩
  | .hbm, ⟨26, _⟩ => ⟨S1x352x1024, .f32⟩
  | .hbm, ⟨27, _⟩ => ⟨S_, .f32⟩
  | .hbm, ⟨28, _⟩ => ⟨S1x352x1024, .f32⟩
  | .hbm, ⟨29, _⟩ => ⟨S1x352x1024, .f32⟩
  | .hbm, ⟨30, _⟩ => ⟨S1x352x1024, .f32⟩
  | .hbm, ⟨31, _⟩ => ⟨S_, .f32⟩
  | .hbm, ⟨32, _⟩ => ⟨S1x352x1024, .f32⟩
  | .hbm, ⟨33, _⟩ => ⟨S1x352x1024, .f32⟩
  | .hbm, ⟨34, _⟩ => ⟨S1x352x1024, .f32⟩
  | .hbm, ⟨35, _⟩ => ⟨S_, .f32⟩
  | .hbm, ⟨36, _⟩ => ⟨S1x352x1024, .f32⟩
  | .hbm, ⟨37, _⟩ => ⟨S1x352x1024, .f32⟩
  | .hbm, ⟨38, _⟩ => ⟨S_, .f32⟩
  | .hbm, ⟨39, _⟩ => ⟨S1x352x1024, .f32⟩
  | .hbm, ⟨40, _⟩ => ⟨S1x352x1024, .f32⟩
  | .hbm, ⟨41, _⟩ => ⟨S1x352x1024, .f32⟩
  | .hbm, ⟨42, _⟩ => ⟨S_, .f32⟩
  | .hbm, ⟨43, _⟩ => ⟨S1x352x1024, .f32⟩
  | .hbm, ⟨44, _⟩ => ⟨S1x352x1024, .f32⟩
  | .hbm, ⟨45, _⟩ => ⟨S1x352x1024, .f32⟩
  | .hbm, ⟨46, _⟩ => ⟨S_, .f32⟩
  | .hbm, ⟨47, _⟩ => ⟨S1x352x1024, .f32⟩
  | .hbm, ⟨48, _⟩ => ⟨S1x352x1024, .f32⟩
  | .hbm, ⟨49, _⟩ => ⟨S1x352x1024, .f32⟩
  | .hbm, ⟨50, _⟩ => ⟨S_, .f32⟩
  | .hbm, ⟨51, _⟩ => ⟨S1x352x1024, .f32⟩
  | .hbm, ⟨52, _⟩ => ⟨S1x352x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_9 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_10 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== SumIn.lean ====
abbrev S4x1154x1024 : Shape := ⟨3, ![4, 1154, 1024]⟩
abbrev S3x1154x1024 : Shape := ⟨3, ![3, 1154, 1024]⟩
abbrev S1 : Shape := ⟨1, ![1]⟩
abbrev S1154x1024 : Shape := ⟨2, ![1154, 1024]⟩
abbrev S1x1154x1024 : Shape := ⟨3, ![1, 1154, 1024]⟩

abbrev nBuf : Space → Nat
  | .hbm => 3
  | .vmem => 3
  | .smem => 1
  | _ => 0

abbrev bufTy : (tb : Table) → Fin (tcTables nBuf tb) → BufTy
  | .hbm, ⟨0, _⟩ => ⟨S4x1154x1024, .f32⟩
  | .hbm, ⟨1, _⟩ => ⟨S3x1154x1024, .bf16⟩
  | .hbm, ⟨2, _⟩ => ⟨S1154x1024, .f32⟩
  | .local _ .vmem, ⟨0, _⟩ => ⟨S1x1154x1024, .f32⟩
  | .local _ .vmem, ⟨1, _⟩ => ⟨S3x1154x1024, .bf16⟩
  | .local _ .vmem, ⟨2, _⟩ => ⟨S1154x1024, .f32⟩
  | .local _ .smem, ⟨0, _⟩ => ⟨S1, .i32⟩
  | _, _ => ⟨S4x1154x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1154x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x1154x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1154x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumInRefIdeal.lean ====
abbrev S4x1154x1024 : Shape := ⟨3, ![4, 1154, 1024]⟩
abbrev S3x1154x1024 : Shape := ⟨3, ![3, 1154, 1024]⟩
abbrev S1 : Shape := ⟨1, ![1]⟩
abbrev S1x1x1 : Shape := ⟨3, ![1, 1, 1]⟩
abbrev S_ : Shape := ⟨0, ![]⟩
abbrev S1154x1024 : Shape := ⟨2, ![1154, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4x1154x1024, .f32⟩
  | .hbm, ⟨1, _⟩ => ⟨S3x1154x1024, .bf16⟩
  | .hbm, ⟨2, _⟩ => ⟨S1, .i32⟩
  | .hbm, ⟨3, _⟩ => ⟨S4x1154x1024, .i32⟩
  | .hbm, ⟨4, _⟩ => ⟨S1x1x1, .i32⟩
  | .hbm, ⟨5, _⟩ => ⟨S4x1154x1024, .i32⟩
  | .hbm, ⟨6, _⟩ => ⟨S4x1154x1024, .i1⟩
  | .hbm, ⟨7, _⟩ => ⟨S_, .f32⟩
  | .hbm, ⟨8, _⟩ => ⟨S4x1154x1024, .f32⟩
  | .hbm, ⟨9, _⟩ => ⟨S4x1154x1024, .f32⟩
  | .hbm, ⟨10, _⟩ => ⟨S_, .f32⟩
  | .hbm, ⟨11, _⟩ => ⟨S1154x1024, .f32⟩
  | .hbm, ⟨12, _⟩ => ⟨S3x1154x1024, .f32⟩
  | .hbm, ⟨13, _⟩ => ⟨S_, .f32⟩
  | .hbm, ⟨14, _⟩ => ⟨S1154x1024, .f32⟩
  | .hbm, ⟨15, _⟩ => ⟨S1154x1024, .f32⟩
  | _, _ => ⟨S4x1154x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== AdamNorms.lean ====
abbrev S8x72x1024 : Shape := ⟨3, ![8, 72, 1024]⟩
abbrev S1 : Shape := ⟨1, ![1]⟩
abbrev S1x1024 : Shape := ⟨2, ![1, 1024]⟩
abbrev S1x1 : Shape := ⟨2, ![1, 1]⟩
abbrev S8x8x1024 : Shape := ⟨3, ![8, 8, 1024]⟩
abbrev S1x8x1024 : Shape := ⟨3, ![1, 8, 1024]⟩
abbrev S8x1024 : Shape := ⟨2, ![8, 1024]⟩

abbrev nBuf : Space → Nat
  | .hbm => 23
  | .vmem => 24
  | .smem => 1
  | _ => 0

abbrev bufTy : (tb : Table) → Fin (tcTables nBuf tb) → BufTy
  | .hbm, ⟨0, _⟩ => ⟨S8x72x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1, .f32⟩
  | .local _ .vmem, ⟨0, _⟩ => ⟨S8x8x1024, .f32⟩
  | .local _ .vmem, ⟨1, _⟩ => ⟨S8x8x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1, .f32⟩
  | .local _ .smem, ⟨0, _⟩ => ⟨S1, .i32⟩
  | _, _ => ⟨S8x72x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev main_v0_9 : Ref sig .tc := ⟨.hbm, 19, rfl⟩
abbrev main_v0_10 : Ref sig .tc := ⟨.hbm, 20, rfl⟩
abbrev main_v0_11 : Ref sig .tc := ⟨.hbm, 21, rfl⟩
abbrev main_v0_12 : Ref sig .tc := ⟨.hbm, 22, rfl⟩
abbrev main_arg1 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.addi c1_i32 v0
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== AdamNormsIdeal.lean ====
abbrev S8x72x1024 : Shape := ⟨3, ![8, 72, 1024]⟩
abbrev S1 : Shape := ⟨1, ![1]⟩
abbrev S1x1024 : Shape := ⟨2, ![1, 1024]⟩
abbrev S1x1 : Shape := ⟨2, ![1, 1]⟩
abbrev S8x8x1024 : Shape := ⟨3, ![8, 8, 1024]⟩
abbrev S1x8x1024 : Shape := ⟨3, ![1, 8, 1024]⟩
abbrev S8x1024 : Shape := ⟨2, ![8, 1024]⟩

abbrev nBuf : Space → Nat
  | .hbm => 23
  | .vmem => 24
  | .smem => 1
  | _ => 0

abbrev bufTy : (tb : Table) → Fin (tcTables nBuf tb) → BufTy
  | .hbm, ⟨0, _⟩ => ⟨S8x72x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1, .f32⟩
  | .local _ .vmem, ⟨0, _⟩ => ⟨S8x8x1024, .f32⟩
  | .local _ .vmem, ⟨1, _⟩ => ⟨S8x8x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1, .f32⟩
  | .local _ .smem, ⟨0, _⟩ => ⟨S1, .i32⟩
  | _, _ => ⟨S8x72x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev main_v0_9 : Ref sig .tc := ⟨.hbm, 19, rfl⟩
abbrev main_v0_10 : Ref sig .tc := ⟨.hbm, 20, rfl⟩
abbrev main_v0_11 : Ref sig .tc := ⟨.hbm, 21, rfl⟩
abbrev main_v0_12 : Ref sig .tc := ⟨.hbm, 22, rfl⟩
abbrev main_arg1 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.addi c1_i32 v0
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== AdamNormsRefIdeal.lean ====
abbrev S8x72x1024 : Shape := ⟨3, ![8, 72, 1024]⟩
abbrev S1 : Shape := ⟨1, ![1]⟩
abbrev S1x1024 : Shape := ⟨2, ![1, 1024]⟩
abbrev S_ : Shape := ⟨0, ![]⟩
abbrev S72x1024 : Shape := ⟨2, ![72, 1024]⟩
abbrev S1x1 : Shape := ⟨2, ![1, 1]⟩

abbrev nBuf : Space → Nat
  | .hbm => 116
  | .vmem => 0
  | .smem => 0
  | _ => 0

abbrev bufTy : (tb : Table) → Fin (tcTables nBuf tb) → BufTy
  | .hbm, ⟨0, _⟩ => ⟨S8x72x1024, .f32⟩
  | .hbm, ⟨1, _⟩ => ⟨S1, .i32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S72x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1, .f32⟩
  | .hbm, ⟨17, _⟩ => ⟨S_, .f32⟩
  | .hbm, ⟨18, _⟩ => ⟨S1x1024, .f32⟩
  | .hbm, ⟨19, _⟩ => ⟨S1x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S_, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S_, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S_, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S_, .f32⟩
  | .hbm, ⟨48, _⟩ => ⟨S1x1024, .f32⟩
  | .hbm, ⟨49, _⟩ => ⟨S1x1024, .f32⟩
  | .hbm, ⟨50, _⟩ => ⟨S_, .f32⟩
  | .hbm, ⟨51, _⟩ => ⟨S1x1024, .f32⟩
  | .hbm, ⟨52, _⟩ => ⟨S1x1024, .f32⟩
  | .hbm, ⟨53, _⟩ => ⟨S_, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S_, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S_, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S_, .f32⟩
  | .hbm, ⟨66, _⟩ => ⟨S1x1024, .f32⟩
  | .hbm, ⟨67, _⟩ => ⟨S1x1024, .f32⟩
  | .hbm, ⟨68, _⟩ => ⟨S_, .f32⟩
  | .hbm, ⟨69, _⟩ => ⟨S1x1024, .f32⟩
  | .hbm, ⟨70, _⟩ => ⟨S1x1024, .f32⟩
  | .hbm, ⟨71, _⟩ => ⟨S1x1024, .f32⟩
  | .hbm, ⟨72, _⟩ => ⟨S_, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S_, .f32⟩
  | .hbm, ⟨77, _⟩ => ⟨S1x1024, .f32⟩
  | .hbm, ⟨78, _⟩ => ⟨S1x1024, .f32⟩
  | .hbm, ⟨79, _⟩ => ⟨S1x1024, .f32⟩
  | .hbm, ⟨80, _⟩ => ⟨S_, .f32⟩
  | .hbm, ⟨81, _⟩ => ⟨S1x1024, .f32⟩
  | .hbm, ⟨82, _⟩ => ⟨S1x1024, .f32⟩
  | .hbm, ⟨83, _⟩ => ⟨S_, .f32⟩
  | .hbm, ⟨84, _⟩ => ⟨S1x1024, .f32⟩
  | .hbm, ⟨85, _⟩ => ⟨S1x1024, .f32⟩
  | .hbm, ⟨86, _⟩ => ⟨S_, .f32⟩
  | .hbm, ⟨87, _⟩ => ⟨S1x1024, .f32⟩
  | .hbm, ⟨88, _⟩ => ⟨S1x1024, .f32⟩
  | .hbm, ⟨89, _⟩ => ⟨S1x1024, .f32⟩
  | .hbm, ⟨90, _⟩ => ⟨S_, .f32⟩
  | .hbm, ⟨91, _⟩ => ⟨S1x1024, .f32⟩
  | .hbm, ⟨92, _⟩ => ⟨S1x1024, .f32⟩
  | .hbm, ⟨93, _⟩ => ⟨S1x1024, .f32⟩
  | .hbm, ⟨94, _⟩ => ⟨S_, .f32⟩
  | .hbm, ⟨95, _⟩ => ⟨S1x1024, .f32⟩
  | .hbm, ⟨96, _⟩ => ⟨S1x1024, .f32⟩
  | .hbm, ⟨97, _⟩ => ⟨S1x1024, .f32⟩
  | .hbm, ⟨98, _⟩ => ⟨S_, .f32⟩
  | .hbm, ⟨99, _⟩ => ⟨S1x1024, .f32⟩
  | .hbm, ⟨100, _⟩ => ⟨S1x1024, .f32⟩
  | .hbm, ⟨101, _⟩ => ⟨S_, .f32⟩
  | .hbm, ⟨102, _⟩ => ⟨S1x1024, .f32⟩
  | .hbm, ⟨103, _⟩ => ⟨S1x1024, .f32⟩
  | .hbm, ⟨104, _⟩ => ⟨S1x1024, .f32⟩
  | .hbm, ⟨105, _⟩ => ⟨S_, .f32⟩
  | .hbm, ⟨106, _⟩ => ⟨S1x1024, .f32⟩
  | .hbm, ⟨107, _⟩ => ⟨S1x1024, .f32⟩
  | .hbm, ⟨108, _⟩ => ⟨S1x1024, .f32⟩
  | .hbm, ⟨109, _⟩ => ⟨S_, .f32⟩
  | .hbm, ⟨110, _⟩ => ⟨S1x1024, .f32⟩
  | .hbm, ⟨111, _⟩ => ⟨S1x1024, .f32⟩
  | .hbm, ⟨112, _⟩ => ⟨S1x1024, .f32⟩
  | .hbm, ⟨113, _⟩ => ⟨S_, .f32⟩
  | .hbm, ⟨114, _⟩ => ⟨S1x1024, .f32⟩
  | .hbm, ⟨115, _⟩ => ⟨S1x1024, .f32⟩
  | _, _ => ⟨S8x72x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_cst_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_6 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_7 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_8 : Ref sig .tc := ⟨.hbm, 47, rfl⟩
abbrev main_v27 : Ref sig .tc := ⟨.hbm, 48, rfl⟩
abbrev main_v28 : Ref sig .tc := ⟨.hbm, 49, rfl⟩
abbrev main_cst_9 : Ref sig .tc := ⟨.hbm, 50, rfl⟩
abbrev main_v29 : Ref sig .tc := ⟨.hbm, 51, rfl⟩
abbrev main_v30 : Ref sig .tc := ⟨.hbm, 52, rfl⟩
abbrev main_cst_10 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_11 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_12 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_13 : Ref sig .tc := ⟨.hbm, 65, rfl⟩
abbrev main_v40 : Ref sig .tc := ⟨.hbm, 66, rfl⟩
abbrev main_v41 : Ref sig .tc := ⟨.hbm, 67, rfl⟩
abbrev main_cst_14 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_15 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_16 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_17 : Ref sig .tc := ⟨.hbm, 80, rfl⟩
abbrev main_v51 : Ref sig .tc := ⟨.hbm, 81, rfl⟩
abbrev main_v52 : Ref sig .tc := ⟨.hbm, 82, rfl⟩
abbrev main_cst_18 : Ref sig .tc := ⟨.hbm, 83, rfl⟩
abbrev main_v53 : Ref sig .tc := ⟨.hbm, 84, rfl⟩
abbrev main_v54 : Ref sig .tc := ⟨.hbm, 85, rfl⟩
abbrev main_cst_19 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_20 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_21 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_22 : Ref sig .tc := ⟨.hbm, 98, rfl⟩
abbrev main_v64 : Ref sig .tc := ⟨.hbm, 99, rfl⟩
abbrev main_v65 : Ref sig .tc := ⟨.hbm, 100, rfl⟩
abbrev main_cst_23 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_24 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_25 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_26 : Ref sig .tc := ⟨.hbm, 113, rfl⟩
abbrev main_v75 : Ref sig .tc := ⟨.hbm, 114, rfl⟩
abbrev main_v76 : Ref sig .tc := ⟨.hbm, 115, rfl⟩

abbrev nD : Nat := 1
abbrev τ : Topo := Topo.v7x

variable {F : FTy → Type} [FloatOps F]
-- ==== AdamGates.lean ====
abbrev S8x72x1024 : Shape := ⟨3, ![8, 72, 1024]⟩
abbrev S1 : Shape := ⟨1, ![1]⟩
abbrev S1x128 : Shape := ⟨2, ![1, 128]⟩
abbrev S1x8 : Shape := ⟨2, ![1, 8]⟩
abbrev S1x1 : Shape := ⟨2, ![1, 1]⟩
abbrev S8x8x1024 : Shape := ⟨3, ![8, 8, 1024]⟩
abbrev S1x8x1024 : Shape := ⟨3, ![1, 8, 1024]⟩
abbrev S8x1024 : Shape := ⟨2, ![8, 1024]⟩

abbrev nBuf : Space → Nat
  | .hbm => 23
  | .vmem => 24
  | .smem => 1
  | _ => 0

abbrev bufTy : (tb : Table) → Fin (tcTables nBuf tb) → BufTy
  | .hbm, ⟨0, _⟩ => ⟨S8x72x1024, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x8, .f32⟩
  | .hbm, ⟨5, _⟩ => ⟨S1x8, .f32⟩
  | .hbm, ⟨6, _⟩ => ⟨S1x8, .f32⟩
  | .hbm, ⟨7, _⟩ => ⟨S1x8, .f32⟩
  | .hbm, ⟨8, _⟩ => ⟨S1x8, .f32⟩
  | .hbm, ⟨9, _⟩ => ⟨S1x8, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S1x8, .f32⟩
  | .hbm, ⟨15, _⟩ => ⟨S1x8, .f32⟩
  | .hbm, ⟨16, _⟩ => ⟨S1x8, .f32⟩
  | .hbm, ⟨17, _⟩ => ⟨S1x8, .f32⟩
  | .hbm, ⟨18, _⟩ => ⟨S1x8, .f32⟩
  | .hbm, ⟨19, _⟩ => ⟨S1x8, .f32⟩
  | .hbm, ⟨20, _⟩ => ⟨S1x8, .f32⟩
  | .hbm, ⟨21, _⟩ => ⟨S1x8, .f32⟩
  | .hbm, ⟨22, _⟩ => ⟨S1x1, .f32⟩
  | .local _ .vmem, ⟨0, _⟩ => ⟨S8x8x1024, .f32⟩
  | .local _ .vmem, ⟨1, _⟩ => ⟨S8x8x1024, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x8, .f32⟩
  | .local _ .vmem, ⟨6, _⟩ => ⟨S1x8, .f32⟩
  | .local _ .vmem, ⟨7, _⟩ => ⟨S1x8, .f32⟩
  | .local _ .vmem, ⟨8, _⟩ => ⟨S1x8, .f32⟩
  | .local _ .vmem, ⟨9, _⟩ => ⟨S1x8, .f32⟩
  | .local _ .vmem, ⟨10, _⟩ => ⟨S1x8, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x8, .f32⟩
  | .local _ .vmem, ⟨16, _⟩ => ⟨S1x8, .f32⟩
  | .local _ .vmem, ⟨17, _⟩ => ⟨S1x8, .f32⟩
  | .local _ .vmem, ⟨18, _⟩ => ⟨S1x8, .f32⟩
  | .local _ .vmem, ⟨19, _⟩ => ⟨S1x8, .f32⟩
  | .local _ .vmem, ⟨20, _⟩ => ⟨S1x8, .f32⟩
  | .local _ .vmem, ⟨21, _⟩ => ⟨S1x8, .f32⟩
  | .local _ .vmem, ⟨22, _⟩ => ⟨S1x8, .f32⟩
  | .local _ .vmem, ⟨23, _⟩ => ⟨S1x1, .f32⟩
  | .local _ .smem, ⟨0, _⟩ => ⟨S1, .i32⟩
  | _, _ => ⟨S8x72x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev main_v0_9 : Ref sig .tc := ⟨.hbm, 19, rfl⟩
abbrev main_v0_10 : Ref sig .tc := ⟨.hbm, 20, rfl⟩
abbrev main_v0_11 : Ref sig .tc := ⟨.hbm, 21, rfl⟩
abbrev main_v0_12 : Ref sig .tc := ⟨.hbm, 22, rfl⟩
abbrev main_arg1 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.addi c1_i32 v0
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x8 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x8 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x8 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x8 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x8 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== AdamGatesIdeal.lean ====
abbrev S8x72x1024 : Shape := ⟨3, ![8, 72, 1024]⟩
abbrev S1 : Shape := ⟨1, ![1]⟩
abbrev S1x128 : Shape := ⟨2, ![1, 128]⟩
abbrev S1x8 : Shape := ⟨2, ![1, 8]⟩
abbrev S1x1 : Shape := ⟨2, ![1, 1]⟩
abbrev S8x8x1024 : Shape := ⟨3, ![8, 8, 1024]⟩
abbrev S1x8x1024 : Shape := ⟨3, ![1, 8, 1024]⟩
abbrev S8x1024 : Shape := ⟨2, ![8, 1024]⟩

abbrev nBuf : Space → Nat
  | .hbm => 23
  | .vmem => 24
  | .smem => 1
  | _ => 0

abbrev bufTy : (tb : Table) → Fin (tcTables nBuf tb) → BufTy
  | .hbm, ⟨0, _⟩ => ⟨S8x72x1024, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x8, .f32⟩
  | .hbm, ⟨5, _⟩ => ⟨S1x8, .f32⟩
  | .hbm, ⟨6, _⟩ => ⟨S1x8, .f32⟩
  | .hbm, ⟨7, _⟩ => ⟨S1x8, .f32⟩
  | .hbm, ⟨8, _⟩ => ⟨S1x8, .f32⟩
  | .hbm, ⟨9, _⟩ => ⟨S1x8, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S1x8, .f32⟩
  | .hbm, ⟨15, _⟩ => ⟨S1x8, .f32⟩
  | .hbm, ⟨16, _⟩ => ⟨S1x8, .f32⟩
  | .hbm, ⟨17, _⟩ => ⟨S1x8, .f32⟩
  | .hbm, ⟨18, _⟩ => ⟨S1x8, .f32⟩
  | .hbm, ⟨19, _⟩ => ⟨S1x8, .f32⟩
  | .hbm, ⟨20, _⟩ => ⟨S1x8, .f32⟩
  | .hbm, ⟨21, _⟩ => ⟨S1x8, .f32⟩
  | .hbm, ⟨22, _⟩ => ⟨S1x1, .f32⟩
  | .local _ .vmem, ⟨0, _⟩ => ⟨S8x8x1024, .f32⟩
  | .local _ .vmem, ⟨1, _⟩ => ⟨S8x8x1024, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x8, .f32⟩
  | .local _ .vmem, ⟨6, _⟩ => ⟨S1x8, .f32⟩
  | .local _ .vmem, ⟨7, _⟩ => ⟨S1x8, .f32⟩
  | .local _ .vmem, ⟨8, _⟩ => ⟨S1x8, .f32⟩
  | .local _ .vmem, ⟨9, _⟩ => ⟨S1x8, .f32⟩
  | .local _ .vmem, ⟨10, _⟩ => ⟨S1x8, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x8, .f32⟩
  | .local _ .vmem, ⟨16, _⟩ => ⟨S1x8, .f32⟩
  | .local _ .vmem, ⟨17, _⟩ => ⟨S1x8, .f32⟩
  | .local _ .vmem, ⟨18, _⟩ => ⟨S1x8, .f32⟩
  | .local _ .vmem, ⟨19, _⟩ => ⟨S1x8, .f32⟩
  | .local _ .vmem, ⟨20, _⟩ => ⟨S1x8, .f32⟩
  | .local _ .vmem, ⟨21, _⟩ => ⟨S1x8, .f32⟩
  | .local _ .vmem, ⟨22, _⟩ => ⟨S1x8, .f32⟩
  | .local _ .vmem, ⟨23, _⟩ => ⟨S1x1, .f32⟩
  | .local _ .smem, ⟨0, _⟩ => ⟨S1, .i32⟩
  | _, _ => ⟨S8x72x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev main_v0_9 : Ref sig .tc := ⟨.hbm, 19, rfl⟩
abbrev main_v0_10 : Ref sig .tc := ⟨.hbm, 20, rfl⟩
abbrev main_v0_11 : Ref sig .tc := ⟨.hbm, 21, rfl⟩
abbrev main_v0_12 : Ref sig .tc := ⟨.hbm, 22, rfl⟩
abbrev main_arg1 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.addi c1_i32 v0
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x8 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x8 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x8 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x8 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x8 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x8 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== AdamGatesRefIdeal.lean ====
abbrev S8x72x1024 : Shape := ⟨3, ![8, 72, 1024]⟩
abbrev S1 : Shape := ⟨1, ![1]⟩
abbrev S1x128 : Shape := ⟨2, ![1, 128]⟩
abbrev S1x8 : Shape := ⟨2, ![1, 8]⟩
abbrev S_ : Shape := ⟨0, ![]⟩
abbrev S72x1024 : Shape := ⟨2, ![72, 1024]⟩
abbrev S1x1 : Shape := ⟨2, ![1, 1]⟩

abbrev nBuf : Space → Nat
  | .hbm => 116
  | .vmem => 0
  | .smem => 0
  | _ => 0

abbrev bufTy : (tb : Table) → Fin (tcTables nBuf tb) → BufTy
  | .hbm, ⟨0, _⟩ => ⟨S8x72x1024, .f32⟩
  | .hbm, ⟨1, _⟩ => ⟨S1, .i32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x8, .f32⟩
  | .hbm, ⟨6, _⟩ => ⟨S1x8, .f32⟩
  | .hbm, ⟨7, _⟩ => ⟨S1x8, .f32⟩
  | .hbm, ⟨8, _⟩ => ⟨S1x8, .f32⟩
  | .hbm, ⟨9, _⟩ => ⟨S1x8, .f32⟩
  | .hbm, ⟨10, _⟩ => ⟨S1x8, .f32⟩
  | .hbm, ⟨11, _⟩ => ⟨S_, .f32⟩
  | .hbm, ⟨12, _⟩ => ⟨S72x1024, .f32⟩
  | .hbm, ⟨13, _⟩ => ⟨S1x128, .f32⟩
  | .hbm, ⟨14, _⟩ => ⟨S1x8, .f32⟩
  | .hbm, ⟨15, _⟩ => ⟨S1x8, .f32⟩
  | .hbm, ⟨16, _⟩ => ⟨S1x1, .f32⟩
  | .hbm, ⟨17, _⟩ => ⟨S_, .f32⟩
  | .hbm, ⟨18, _⟩ => ⟨S1x128, .f32⟩
  | .hbm, ⟨19, _⟩ => ⟨S1x128, .f32⟩
  | .hbm, ⟨20, _⟩ => ⟨S_, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S_, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S_, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S_, .f32⟩
  | .hbm, ⟨33, _⟩ => ⟨S1x128, .f32⟩
  | .hbm, ⟨34, _⟩ => ⟨S1x128, .f32⟩
  | .hbm, ⟨35, _⟩ => ⟨S_, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S_, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S_, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S_, .f32⟩
  | .hbm, ⟨48, _⟩ => ⟨S1x128, .f32⟩
  | .hbm, ⟨49, _⟩ => ⟨S1x128, .f32⟩
  | .hbm, ⟨50, _⟩ => ⟨S_, .f32⟩
  | .hbm, ⟨51, _⟩ => ⟨S1x8, .f32⟩
  | .hbm, ⟨52, _⟩ => ⟨S1x8, .f32⟩
  | .hbm, ⟨53, _⟩ => ⟨S_, .f32⟩
  | .hbm, ⟨54, _⟩ => ⟨S1x8, .f32⟩
  | .hbm, ⟨55, _⟩ => ⟨S1x8, .f32⟩
  | .hbm, ⟨56, _⟩ => ⟨S1x8, .f32⟩
  | .hbm, ⟨57, _⟩ => ⟨S_, .f32⟩
  | .hbm, ⟨58, _⟩ => ⟨S1x8, .f32⟩
  | .hbm, ⟨59, _⟩ => ⟨S1x8, .f32⟩
  | .hbm, ⟨60, _⟩ => ⟨S1x8, .f32⟩
  | .hbm, ⟨61, _⟩ => ⟨S_, .f32⟩
  | .hbm, ⟨62, _⟩ => ⟨S1x8, .f32⟩
  | .hbm, ⟨63, _⟩ => ⟨S1x8, .f32⟩
  | .hbm, ⟨64, _⟩ => ⟨S1x8, .f32⟩
  | .hbm, ⟨65, _⟩ => ⟨S_, .f32⟩
  | .hbm, ⟨66, _⟩ => ⟨S1x8, .f32⟩
  | .hbm, ⟨67, _⟩ => ⟨S1x8, .f32⟩
  | .hbm, ⟨68, _⟩ => ⟨S_, .f32⟩
  | .hbm, ⟨69, _⟩ => ⟨S1x8, .f32⟩
  | .hbm, ⟨70, _⟩ => ⟨S1x8, .f32⟩
  | .hbm, ⟨71, _⟩ => ⟨S1x8, .f32⟩
  | .hbm, ⟨72, _⟩ => ⟨S_, .f32⟩
  | .hbm, ⟨73, _⟩ => ⟨S1x8, .f32⟩
  | .hbm, ⟨74, _⟩ => ⟨S1x8, .f32⟩
  | .hbm, ⟨75, _⟩ => ⟨S1x8, .f32⟩
  | .hbm, ⟨76, _⟩ => ⟨S_, .f32⟩
  | .hbm, ⟨77, _⟩ => ⟨S1x8, .f32⟩
  | .hbm, ⟨78, _⟩ => ⟨S1x8, .f32⟩
  | .hbm, ⟨79, _⟩ => ⟨S1x8, .f32⟩
  | .hbm, ⟨80, _⟩ => ⟨S_, .f32⟩
  | .hbm, ⟨81, _⟩ => ⟨S1x8, .f32⟩
  | .hbm, ⟨82, _⟩ => ⟨S1x8, .f32⟩
  | .hbm, ⟨83, _⟩ => ⟨S_, .f32⟩
  | .hbm, ⟨84, _⟩ => ⟨S1x8, .f32⟩
  | .hbm, ⟨85, _⟩ => ⟨S1x8, .f32⟩
  | .hbm, ⟨86, _⟩ => ⟨S_, .f32⟩
  | .hbm, ⟨87, _⟩ => ⟨S1x8, .f32⟩
  | .hbm, ⟨88, _⟩ => ⟨S1x8, .f32⟩
  | .hbm, ⟨89, _⟩ => ⟨S1x8, .f32⟩
  | .hbm, ⟨90, _⟩ => ⟨S_, .f32⟩
  | .hbm, ⟨91, _⟩ => ⟨S1x8, .f32⟩
  | .hbm, ⟨92, _⟩ => ⟨S1x8, .f32⟩
  | .hbm, ⟨93, _⟩ => ⟨S1x8, .f32⟩
  | .hbm, ⟨94, _⟩ => ⟨S_, .f32⟩
  | .hbm, ⟨95, _⟩ => ⟨S1x8, .f32⟩
  | .hbm, ⟨96, _⟩ => ⟨S1x8, .f32⟩
  | .hbm, ⟨97, _⟩ => ⟨S1x8, .f32⟩
  | .hbm, ⟨98, _⟩ => ⟨S_, .f32⟩
  | .hbm, ⟨99, _⟩ => ⟨S1x8, .f32⟩
  | .hbm, ⟨100, _⟩ => ⟨S1x8, .f32⟩
  | .hbm, ⟨101, _⟩ => ⟨S_, .f32⟩
  | .hbm, ⟨102, _⟩ => ⟨S1x8, .f32⟩
  | .hbm, ⟨103, _⟩ => ⟨S1x8, .f32⟩
  | .hbm, ⟨104, _⟩ => ⟨S1x8, .f32⟩
  | .hbm, ⟨105, _⟩ => ⟨S_, .f32⟩
  | .hbm, ⟨106, _⟩ => ⟨S1x8, .f32⟩
  | .hbm, ⟨107, _⟩ => ⟨S1x8, .f32⟩
  | .hbm, ⟨108, _⟩ => ⟨S1x8, .f32⟩
  | .hbm, ⟨109, _⟩ => ⟨S_, .f32⟩
  | .hbm, ⟨110, _⟩ => ⟨S1x8, .f32⟩
  | .hbm, ⟨111, _⟩ => ⟨S1x8, .f32⟩
  | .hbm, ⟨112, _⟩ => ⟨S1x8, .f32⟩
  | .hbm, ⟨113, _⟩ => ⟨S_, .f32⟩
  | .hbm, ⟨114, _⟩ => ⟨S1x8, .f32⟩
  | .hbm, ⟨115, _⟩ => ⟨S1x8, .f32⟩
  | _, _ => ⟨S8x72x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_cst_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_6 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_7 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_8 : Ref sig .tc := ⟨.hbm, 47, rfl⟩
abbrev main_v27 : Ref sig .tc := ⟨.hbm, 48, rfl⟩
abbrev main_v28 : Ref sig .tc := ⟨.hbm, 49, rfl⟩
abbrev main_cst_9 : Ref sig .tc := ⟨.hbm, 50, rfl⟩
abbrev main_v29 : Ref sig .tc := ⟨.hbm, 51, rfl⟩
abbrev main_v30 : Ref sig .tc := ⟨.hbm, 52, rfl⟩
abbrev main_cst_10 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_11 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_12 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_13 : Ref sig .tc := ⟨.hbm, 65, rfl⟩
abbrev main_v40 : Ref sig .tc := ⟨.hbm, 66, rfl⟩
abbrev main_v41 : Ref sig .tc := ⟨.hbm, 67, rfl⟩
abbrev main_cst_14 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_15 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_16 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_17 : Ref sig .tc := ⟨.hbm, 80, rfl⟩
abbrev main_v51 : Ref sig .tc := ⟨.hbm, 81, rfl⟩
abbrev main_v52 : Ref sig .tc := ⟨.hbm, 82, rfl⟩
abbrev main_cst_18 : Ref sig .tc := ⟨.hbm, 83, rfl⟩
abbrev main_v53 : Ref sig .tc := ⟨.hbm, 84, rfl⟩
abbrev main_v54 : Ref sig .tc := ⟨.hbm, 85, rfl⟩
abbrev main_cst_19 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_20 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_21 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_22 : Ref sig .tc := ⟨.hbm, 98, rfl⟩
abbrev main_v64 : Ref sig .tc := ⟨.hbm, 99, rfl⟩
abbrev main_v65 : Ref sig .tc := ⟨.hbm, 100, rfl⟩
abbrev main_cst_23 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_24 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_25 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_26 : Ref sig .tc := ⟨.hbm, 113, rfl⟩
abbrev main_v75 : Ref sig .tc := ⟨.hbm, 114, rfl⟩
abbrev main_v76 : Ref sig .tc := ⟨.hbm, 115, rfl⟩

abbrev nD : Nat := 1
abbrev τ : Topo := Topo.v7x

variable {F : FTy → Type} [FloatOps F]
-- ==== AdamConvs.lean ====
abbrev S8x72x1024 : Shape := ⟨3, ![8, 72, 1024]⟩
abbrev S1 : Shape := ⟨1, ![1]⟩
abbrev S1x3x128 : Shape := ⟨3, ![1, 3, 128]⟩
abbrev S1x4x384 : Shape := ⟨3, ![1, 4, 384]⟩
abbrev S1x3x704 : Shape := ⟨3, ![1, 3, 704]⟩
abbrev S1x1 : Shape := ⟨2, ![1, 1]⟩
abbrev S8x8x1024 : Shape := ⟨3, ![8, 8, 1024]⟩
abbrev S1x8x1024 : Shape := ⟨3, ![1, 8, 1024]⟩
abbrev S8x1024 : Shape := ⟨2, ![8, 1024]⟩
abbrev S3x128 : Shape := ⟨2, ![3, 128]⟩
abbrev S4x384 : Shape := ⟨2, ![4, 384]⟩
abbrev S3x704 : Shape := ⟨2, ![3, 704]⟩

abbrev nBuf : Space → Nat
  | .hbm => 23
  | .vmem => 24
  | .smem => 1
  | _ => 0

abbrev bufTy : (tb : Table) → Fin (tcTables nBuf tb) → BufTy
  | .hbm, ⟨0, _⟩ => ⟨S8x72x1024, .f32⟩
  | .hbm, ⟨1, _⟩ => ⟨S1x3x128, .f32⟩
  | .hbm, ⟨2, _⟩ => ⟨S1x3x128, .f32⟩
  | .hbm, ⟨3, _⟩ => ⟨S1x3x128, .f32⟩
  | .hbm, ⟨4, _⟩ => ⟨S1x4x384, .f32⟩
  | .hbm, ⟨5, _⟩ => ⟨S1x4x384, .f32⟩
  | .hbm, ⟨6, _⟩ => ⟨S1x4x384, .f32⟩
  | .hbm, ⟨7, _⟩ => ⟨S1x3x704, .f32⟩
  | .hbm, ⟨8, _⟩ => ⟨S1x3x704, .f32⟩
  | .hbm, ⟨9, _⟩ => ⟨S1x3x704, .f32⟩
  | .hbm, ⟨10, _⟩ => ⟨S1x3x128, .f32⟩
  | .hbm, ⟨11, _⟩ => ⟨S1x3x128, .f32⟩
  | .hbm, ⟨12, _⟩ => ⟨S1x3x128, .f32⟩
  | .hbm, ⟨13, _⟩ => ⟨S1x3x128, .f32⟩
  | .hbm, ⟨14, _⟩ => ⟨S1x4x384, .f32⟩
  | .hbm, ⟨15, _⟩ => ⟨S1x4x384, .f32⟩
  | .hbm, ⟨16, _⟩ => ⟨S1x4x384, .f32⟩
  | .hbm, ⟨17, _⟩ => ⟨S1x4x384, .f32⟩
  | .hbm, ⟨18, _⟩ => ⟨S1x3x704, .f32⟩
  | .hbm, ⟨19, _⟩ => ⟨S1x3x704, .f32⟩
  | .hbm, ⟨20, _⟩ => ⟨S1x3x704, .f32⟩
  | .hbm, ⟨21, _⟩ => ⟨S1x3x704, .f32⟩
  | .hbm, ⟨22, _⟩ => ⟨S1x1, .f32⟩
  | .local _ .vmem, ⟨0, _⟩ => ⟨S8x8x1024, .f32⟩
  | .local _ .vmem, ⟨1, _⟩ => ⟨S8x8x1024, .f32⟩
  | .local _ .vmem, ⟨2, _⟩ => ⟨S1x3x128, .f32⟩
  | .local _ .vmem, ⟨3, _⟩ => ⟨S1x3x128, .f32⟩
  | .local _ .vmem, ⟨4, _⟩ => ⟨S1x3x128, .f32⟩
  | .local _ .vmem, ⟨5, _⟩ => ⟨S1x4x384, .f32⟩
  | .local _ .vmem, ⟨6, _⟩ => ⟨S1x4x384, .f32⟩
  | .local _ .vmem, ⟨7, _⟩ => ⟨S1x4x384, .f32⟩
  | .local _ .vmem, ⟨8, _⟩ => ⟨S1x3x704, .f32⟩
  | .local _ .vmem, ⟨9, _⟩ => ⟨S1x3x704, .f32⟩
  | .local _ .vmem, ⟨10, _⟩ => ⟨S1x3x704, .f32⟩
  | .local _ .vmem, ⟨11, _⟩ => ⟨S1x3x128, .f32⟩
  | .local _ .vmem, ⟨12, _⟩ => ⟨S1x3x128, .f32⟩
  | .local _ .vmem, ⟨13, _⟩ => ⟨S1x3x128, .f32⟩
  | .local _ .vmem, ⟨14, _⟩ => ⟨S1x3x128, .f32⟩
  | .local _ .vmem, ⟨15, _⟩ => ⟨S1x4x384, .f32⟩
  | .local _ .vmem, ⟨16, _⟩ => ⟨S1x4x384, .f32⟩
  | .local _ .vmem, ⟨17, _⟩ => ⟨S1x4x384, .f32⟩
  | .local _ .vmem, ⟨18, _⟩ => ⟨S1x4x384, .f32⟩
  | .local _ .vmem, ⟨19, _⟩ => ⟨S1x3x704, .f32⟩
  | .local _ .vmem, ⟨20, _⟩ => ⟨S1x3x704, .f32⟩
  | .local _ .vmem, ⟨21, _⟩ => ⟨S1x3x704, .f32⟩
  | .local _ .vmem, ⟨22, _⟩ => ⟨S1x3x704, .f32⟩
  | .local _ .vmem, ⟨23, _⟩ => ⟨S1x1, .f32⟩
  | .local _ .smem, ⟨0, _⟩ => ⟨S1, .i32⟩
  | _, _ => ⟨S8x72x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev main_v0_9 : Ref sig .tc := ⟨.hbm, 19, rfl⟩
abbrev main_v0_10 : Ref sig .tc := ⟨.hbm, 20, rfl⟩
abbrev main_v0_11 : Ref sig .tc := ⟨.hbm, 21, rfl⟩
abbrev main_v0_12 : Ref sig .tc := ⟨.hbm, 22, rfl⟩
abbrev main_arg1 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.addi c1_i32 v0
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3x704 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3x704 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3x704 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x3x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x3x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x3x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x3x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x4x384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x4x384 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x4x384 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x4x384 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x3x704 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x3x704 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x3x704 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x3x704 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== AdamConvsRefIdeal.lean ====
abbrev S8x72x1024 : Shape := ⟨3, ![8, 72, 1024]⟩
abbrev S1 : Shape := ⟨1, ![1]⟩
abbrev S1x3x128 : Shape := ⟨3, ![1, 3, 128]⟩
abbrev S1x4x384 : Shape := ⟨3, ![1, 4, 384]⟩
abbrev S1x3x704 : Shape := ⟨3, ![1, 3, 704]⟩
abbrev S_ : Shape := ⟨0, ![]⟩
abbrev S72x1024 : Shape := ⟨2, ![72, 1024]⟩
abbrev S64x1024 : Shape := ⟨2, ![64, 1024]⟩
abbrev S8x8x1024 : Shape := ⟨3, ![8, 8, 1024]⟩
abbrev S1x1x1 : Shape := ⟨3, ![1, 1, 1]⟩
abbrev S8x1024 : Shape := ⟨2, ![8, 1024]⟩
abbrev S3x128 : Shape := ⟨2, ![3, 128]⟩
abbrev S4x384 : Shape := ⟨2, ![4, 384]⟩
abbrev S3x704 : Shape := ⟨2, ![3, 704]⟩
abbrev S1x1 : Shape := ⟨2, ![1, 1]⟩

abbrev nBuf : Space → Nat
  | .hbm => 130
  | .vmem => 0
  | .smem => 0
  | _ => 0

abbrev hbmTy0_0 (i : Nat) : BufTy := match i % 128 with
  | 0 => ⟨S8x72x1024, .f32⟩
  | 1 => ⟨S1, .i32⟩
  | 2 => ⟨S1x3x128, .f32⟩
  | 3 => ⟨S1x3x128, .f32⟩
  | 4 => ⟨S1x3x128, .f32⟩
  | 5 => ⟨S1x4x384, .f32⟩
  | 6 => ⟨S1x4x384, .f32⟩
  | 7 => ⟨S1x4x384, .f32⟩
  | 8 => ⟨S1x3x704, .f32⟩
  | 9 => ⟨S1x3x704, .f32⟩
  | 10 => ⟨S1x3x704, .f32⟩
  | 11 => ⟨S_, .f32⟩
  | 12 => ⟨S72x1024, .f32⟩
  | 13 => ⟨S64x1024, .f32⟩
  | 14 => ⟨S8x8x1024, .f32⟩
  | 15 => ⟨S8x8x1024, .i32⟩
  | 16 => ⟨S1x1x1, .i32⟩
  | 17 => ⟨S8x8x1024, .i32⟩
  | 18 => ⟨S8x8x1024, .i1⟩
  | 19 => ⟨S_, .f32⟩
  | 20 => ⟨S8x8x1024, .f32⟩
  | 21 => ⟨S8x8x1024, .f32⟩
  | 22 => ⟨S_, .f32⟩
  | 23 => ⟨S8x1024, .f32⟩
  | 24 => ⟨S3x128, .f32⟩
  | 25 => ⟨S1x3x128, .f32⟩
  | 26 => ⟨S4x384, .f32⟩
  | 27 => ⟨S1x4x384, .f32⟩
  | 28 => ⟨S3x704, .f32⟩
  | 29 => ⟨S1x3x704, .f32⟩
  | 30 => ⟨S1x1, .f32⟩
  | 31 => ⟨S_, .f32⟩
  | 32 => ⟨S1x3x128, .f32⟩
  | 33 => ⟨S1x3x128, .f32⟩
  | 34 => ⟨S_, .f32⟩
  | 35 => ⟨S1x3x128, .f32⟩
  | 36 => ⟨S1x3x128, .f32⟩
  | 37 => ⟨S1x3x128, .f32⟩
  | 38 => ⟨S_, .f32⟩
  | 39 => ⟨S1x3x128, .f32⟩
  | 40 => ⟨S1x3x128, .f32⟩
  | 41 => ⟨S1x3x128, .f32⟩
  | 42 => ⟨S_, .f32⟩
  | 43 => ⟨S1x3x128, .f32⟩
  | 44 => ⟨S1x3x128, .f32⟩
  | 45 => ⟨S1x3x128, .f32⟩
  | 46 => ⟨S_, .f32⟩
  | 47 => ⟨S1x3x128, .f32⟩
  | 48 => ⟨S1x3x128, .f32⟩
  | 49 => ⟨S_, .f32⟩
  | 50 => ⟨S1x3x128, .f32⟩
  | 51 => ⟨S1x3x128, .f32⟩
  | 52 => ⟨S1x3x128, .f32⟩
  | 53 => ⟨S_, .f32⟩
  | 54 => ⟨S1x3x128, .f32⟩
  | 55 => ⟨S1x3x128, .f32⟩
  | 56 => ⟨S1x3x128, .f32⟩
  | 57 => ⟨S_, .f32⟩
  | 58 => ⟨S1x3x128, .f32⟩
  | 59 => ⟨S1x3x128, .f32⟩
  | 60 => ⟨S1x3x128, .f32⟩
  | 61 => ⟨S_, .f32⟩
  | 62 => ⟨S1x3x128, .f32⟩
  | 63 => ⟨S1x3x128, .f32⟩
  | 64 => ⟨S_, .f32⟩
  | 65 => ⟨S1x4x384, .f32⟩
  | 66 => ⟨S1x4x384, .f32⟩
  | 67 => ⟨S_, .f32⟩
  | 68 => ⟨S1x4x384, .f32⟩
  | 69 => ⟨S1x4x384, .f32⟩
  | 70 => ⟨S1x4x384, .f32⟩
  | 71 => ⟨S_, .f32⟩
  | 72 => ⟨S1x4x384, .f32⟩
  | 73 => ⟨S1x4x384, .f32⟩
  | 74 => ⟨S1x4x384, .f32⟩
  | 75 => ⟨S_, .f32⟩
  | 76 => ⟨S1x4x384, .f32⟩
  | 77 => ⟨S1x4x384, .f32⟩
  | 78 => ⟨S1x4x384, .f32⟩
  | 79 => ⟨S_, .f32⟩
  | 80 => ⟨S1x4x384, .f32⟩
  | 81 => ⟨S1x4x384, .f32⟩
  | 82 => ⟨S_, .f32⟩
  | 83 => ⟨S1x4x384, .f32⟩
  | 84 => ⟨S1x4x384, .f32⟩
  | 85 => ⟨S1x4x384, .f32⟩
  | 86 => ⟨S_, .f32⟩
  | 87 => ⟨S1x4x384, .f32⟩
  | 88 => ⟨S1x4x384, .f32⟩
  | 89 => ⟨S1x4x384, .f32⟩
  | 90 => ⟨S_, .f32⟩
  | 91 => ⟨S1x4x384, .f32⟩
  | 92 => ⟨S1x4x384, .f32⟩
  | 93 => ⟨S1x4x384, .f32⟩
  | 94 => ⟨S_, .f32⟩
  | 95 => ⟨S1x4x384, .f32⟩
  | 96 => ⟨S1x4x384, .f32⟩
  | 97 => ⟨S_, .f32⟩
  | 98 => ⟨S1x3x704, .f32⟩
  | 99 => ⟨S1x3x704, .f32⟩
  | 100 => ⟨S_, .f32⟩
  | 101 => ⟨S1x3x704, .f32⟩
  | 102 => ⟨S1x3x704, .f32⟩
  | 103 => ⟨S1x3x704, .f32⟩
  | 104 => ⟨S_, .f32⟩
  | 105 => ⟨S1x3x704, .f32⟩
  | 106 => ⟨S1x3x704, .f32⟩
  | 107 => ⟨S1x3x704, .f32⟩
  | 108 => ⟨S_, .f32⟩
  | 109 => ⟨S1x3x704, .f32⟩
  | 110 => ⟨S1x3x704, .f32⟩
  | 111 => ⟨S1x3x704, .f32⟩
  | 112 => ⟨S_, .f32⟩
  | 113 => ⟨S1x3x704, .f32⟩
  | 114 => ⟨S1x3x704, .f32⟩
  | 115 => ⟨S_, .f32⟩
  | 116 => ⟨S1x3x704, .f32⟩
  | 117 => ⟨S1x3x704, .f32⟩
  | 118 => ⟨S1x3x704, .f32⟩
  | 119 => ⟨S_, .f32⟩
  | 120 => ⟨S1x3x704, .f32⟩
  | 121 => ⟨S1x3x704, .f32⟩
  | 122 => ⟨S1x3x704, .f32⟩
  | 123 => ⟨S_, .f32⟩
  | 124 => ⟨S1x3x704, .f32⟩
  | 125 => ⟨S1x3x704, .f32⟩
  | 126 => ⟨S1x3x704, .f32⟩
  | 127 => ⟨S_, .f32⟩
  | _ => ⟨S8x72x1024, .f32⟩

abbrev hbmTy0_1 (i : Nat) : BufTy := match i % 128 with
  | 0 => ⟨S1x3x704, .f32⟩
  | 1 => ⟨S1x3x704, .f32⟩
  | _ => ⟨S8x72x1024, .f32⟩

abbrev hbmTy (i : Nat) : BufTy := match i / 128 with
  | 0 => hbmTy0_0 i
  | 1 => hbmTy0_1 i
  | _ => ⟨S8x72x1024, .f32⟩

abbrev bufTy : (tb : Table) → Fin (tcTables nBuf tb) → BufTy
  | .hbm, ⟨i, _⟩ => hbmTy i
  | _, _ => ⟨S8x72x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_10 : Ref sig .tc := ⟨.hbm, 61, rfl⟩
abbrev main_v39 : Ref sig .tc := ⟨.hbm, 62, rfl⟩
abbrev main_v40 : Ref sig .tc := ⟨.hbm, 63, rfl⟩
abbrev main_cst_11 : Ref sig .tc := ⟨.hbm, 64, rfl⟩
abbrev main_v41 : Ref sig .tc := ⟨.hbm, 65, rfl⟩
abbrev main_v42 : Ref sig .tc := ⟨.hbm, 66, rfl⟩
abbrev main_cst_12 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_13 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_14 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_15 : Ref sig .tc := ⟨.hbm, 79, rfl⟩
abbrev main_v52 : Ref sig .tc := ⟨.hbm, 80, rfl⟩
abbrev main_v53 : Ref sig .tc := ⟨.hbm, 81, rfl⟩
abbrev main_cst_16 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_17 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_18 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_19 : Ref sig .tc := ⟨.hbm, 94, rfl⟩
abbrev main_v63 : Ref sig .tc := ⟨.hbm, 95, rfl⟩
abbrev main_v64 : Ref sig .tc := ⟨.hbm, 96, rfl⟩
abbrev main_cst_20 : Ref sig .tc := ⟨.hbm, 97, rfl⟩
abbrev main_v65 : Ref sig .tc := ⟨.hbm, 98, rfl⟩
abbrev main_v66 : Ref sig .tc := ⟨.hbm, 99, rfl⟩
abbrev main_cst_21 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_22 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_23 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_24 : Ref sig .tc := ⟨.hbm, 112, rfl⟩
abbrev main_v76 : Ref sig .tc := ⟨.hbm, 113, rfl⟩
abbrev main_v77 : Ref sig .tc := ⟨.hbm, 114, rfl⟩
abbrev main_cst_25 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_26 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_27 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_28 : Ref sig .tc := ⟨.hbm, 127, rfl⟩
abbrev main_v87 : Ref sig .tc := ⟨.hbm, 128, rfl⟩
abbrev main_v88 : Ref sig .tc := ⟨.hbm, 129, rfl⟩

abbrev nD : Nat := 1
abbrev τ : Topo := Topo.v7x

variable {F : FTy → Type} [FloatOps F]
-- ==== Proof.Finite.lean ====
/- The precondition read as real arrays: the queries, keys, gates and the cotangent hold reals. -/
module

public import proofs.«01_k».proof.Defs
public import proofs.«01_k».proof.Proof.Gen.Pre_finite
public import Idealize.ShloMosaic.Lib.KernelVsHost
public import Idealize.ShloMosaic.Lib.WordArith
public import Idealize.ShloMosaic.PureOps.Ideal.Laws

@[expose] public section

noncomputable section

namespace Cert.Finite

open Idealize.ShloMosaic

/-- The float word of `+∞`. -/
theorem inf_word : (FloatOps.ofBits (F := Ideal) .f32 0x7F800000#32 : EReal) = ⊤ := by
  show Ideal.ofBits .f32 0x7F800000#32 = ⊤
  simp [Ideal.ofBits, Ideal.ieee]

/-- A value whose absolute value is below `+∞` is the real that it stands for. -/
theorem real_of_lt (x : EReal) (h : FloatOps.cmpf (F := Ideal) (φ := .f32) .olt (FloatOps.hostAbsf (F := Ideal) (φ := .f32) x) (FloatOps.ofBits (F := Ideal) .f32 0x7F800000#32) = 1#1) :
    x = (x.toReal : EReal) := by
  have e : BitVec.ofBool (decide (max x (-x) < (FloatOps.ofBits (F := Ideal) .f32 0x7F800000#32 : EReal))) = 1#1 := h
  rw [inf_word, WordArith.ofBool_eq_one_iff, decide_eq_true_eq, max_lt_iff] at e
  refine (EReal.coe_toReal (lt_top_iff_ne_top.mp e.1) fun hx => ?_).symm
  rw [hx] at e
  simp at e

variable {m : (ℓ : Loc Cert.KernelIdeal.nD Cert.KernelIdeal.τ Cert.KernelIdeal.sig) → Buf (Elt Ideal) ℓ}

/-- Each argument at an index, on each device. -/
theorem reals (h : Cert.Pre_KernelIdeal m) (c : Dev Cert.KernelIdeal.nD) :
    (∀ i, (m ((c.tc : Thread Cert.KernelIdeal.nD Cert.KernelIdeal.τ).loc Cert.KernelIdeal.main_arg0) i : EReal) = ((m ((c.tc : Thread Cert.KernelIdeal.nD Cert.KernelIdeal.τ).loc Cert.KernelIdeal.main_arg0) i : EReal).toReal : EReal))
    ∧ (∀ i, (m ((c.tc : Thread Cert.KernelIdeal.nD Cert.KernelIdeal.τ).loc Cert.KernelIdeal.main_arg1) i : EReal) = ((m ((c.tc : Thread Cert.KernelIdeal.nD Cert.KernelIdeal.τ).loc Cert.KernelIdeal.main_arg1) i : EReal).toReal : EReal))
    ∧ (∀ i, (m ((c.tc : Thread Cert.KernelIdeal.nD Cert.KernelIdeal.τ).loc Cert.KernelIdeal.main_arg3) i : EReal) = ((m ((c.tc : Thread Cert.KernelIdeal.nD Cert.KernelIdeal.τ).loc Cert.KernelIdeal.main_arg3) i : EReal).toReal : EReal))
    ∧ (∀ i, (m ((c.tc : Thread Cert.KernelIdeal.nD Cert.KernelIdeal.τ).loc Cert.KernelIdeal.main_arg4) i : EReal) = ((m ((c.tc : Thread Cert.KernelIdeal.nD Cert.KernelIdeal.τ).loc Cert.KernelIdeal.main_arg4) i : EReal).toReal : EReal)) :=
  ⟨fun i => real_of_lt _ (congrFun (h c).1 i), fun i => real_of_lt _ (congrFun (h c).2.1 i),
    fun i => real_of_lt _ (congrFun (h c).2.2.1 i), fun i => real_of_lt _ (congrFun (h c).2.2.2 i)⟩

end Cert.Finite

end
-- ==== Proof.Vocab.lean ====
/- One name for each value that the kernel forms for one head and one chunk, in the order in which it forms them. Every
   head and both chunks of a grid point form the same values, so the stored payloads are these by unfolding. -/
module

public import proofs.«01_k».proof.KernelIdeal

@[expose] public section

noncomputable section

namespace Cert.KernelIdeal

open Idealize.ShloMosaic Idealize.SL.Sem
open Facts₀ Facts

variable {F : FTy → Type} [FloatOps F] [Facts]

/-- Row not before column. -/
def lowMask : IVec S64x64 1 :=
  cmpi .sge (iota .tc S64x64 32 [0] iota_S64x64_d0_w32) (iota .tc S64x64 32 [1] iota_S64x64_d1_w32)

/-- Row equal to column. -/
def eyeMask : IVec S64x64 1 :=
  cmpi .eq (iota .tc S64x64 32 [0] iota_S64x64_d0_w32) (iota .tc S64x64 32 [1] iota_S64x64_d1_w32)

/-- The running sums of the log decay down the chunk, every lane at once. -/
def runSums (gb : Vec F S64x128 .f32) : FVec F S64x128 .f32 :=
  matmul dot_S64x64_S64x128_S64x128_1_0_0_1_n_n (some .fp32) (sitofp .f32 (extui 32 lowMask natLt_1_32)) gb
    (constant S64x128 .f32 0x00000000#32)

/-- One head's running sums laid along a row and repeated down the chunk. -/
def asRow (g : FVec F S64x1 .f32) : FVec F S64x64 .f32 :=
  broadcastTo S64x64 (shapeCast S1x64 (multiReduction .add [0] S64
    (mulf (sitofp .f32 (extui 32 eyeMask natLt_1_32)) (broadcastTo S64x64 g broadcasts_S64x1_S64x64))
    0x00000000#32 reduces_S64x64_S64 (.inl rfl) rfl) shapeCasts_S64_S1x64) broadcasts_S1x64_S64x64

/-- The decay from a token to a later one. -/
def decayOf (g : FVec F S64x1 .f32) : FVec F S64x64 .f32 :=
  exp (select lowMask (subf (broadcastTo S64x64 g broadcasts_S64x1_S64x64) (asRow g))
    (broadcast S64x64 (Scalar.ofBits .f32 0xFF800000#32)))

/-- The running sum at the chunk's last token. -/
def lastOf (g : FVec F S64x1 .f32) : FVec F S1x1 .f32 :=
  shapeCast S1x1 (multiReduction .add [0] S1
    (select (cmpi .eq (iota .tc S64x1 32 [0] iota_S64x1_d0_w32) (broadcast S64x1 (63#32 : BitVec 32))) g
      (broadcast S64x1 (Scalar.ofBits .f32 0x00000000#32)))
    0x00000000#32 reduces_S64x1_S1 (.inl rfl) rfl) shapeCasts_S1_S1x1

/-- The gradient that the chunk's new values receive: from the outputs inside the chunk and from the state after it. -/
def gathOf (q k o : Vec F S64x128 .f32) (g : FVec F S64x1 .f32) (ds : FVec F S128x128 .f32) : FVec F S64x128 .f32 :=
  addf
    (matmul dot_S64x64_S64x128_S64x128_0_0_1_1_n_n none
      (truncf .bf16 (mulf (matmul dot_S64x128_S64x128_S64x64_1_1_0_0_n_n none (truncf .bf16 q bitsLt_bf16_f32)
        (truncf .bf16 k bitsLt_bf16_f32) (constant S64x64 .f32 0x00000000#32)) (decayOf g)) bitsLt_bf16_f32)
      (truncf .bf16 o bitsLt_bf16_f32) (constant S64x128 .f32 0x00000000#32))
    (matmul dot_S64x128_S128x128_S64x128_1_0_0_1_n_n none
      (truncf .bf16 (mulf k (broadcastTo S64x128
        (exp (subf (broadcastTo S64x1 (lastOf g) broadcasts_S1x1_S64x1) g)) broadcasts_S64x1_S64x128)) bitsLt_bf16_f32)
      (truncf .bf16 ds bitsLt_bf16_f32) (constant S64x128 .f32 0x00000000#32))

/-- The values' gradient: the inverse, transposed, applied to the gathered gradient, then the write strength. The
    inverse is applied to the gathered gradient and to a second block beside it (`x`) at once. -/
def dvOf (inv : Vec F S1x1x64x64 .f32) (d x : FVec F S64x128 .f32) (b : FVec F S64x1 .f32) : FVec F S64x128 .f32 :=
  mulf (extractStridedSlice S64x128 ![0, 0]
    (matmul dot_S64x64_S64x256_S64x256_0_0_1_1_n_n none
      (truncf .bf16 (shapeCast S64x64 inv shapeCasts_S1x1x64x64_S64x64) bitsLt_bf16_f32)
      (truncf .bf16 (concatenate S64x256 1 [⟨S64x128, d⟩, ⟨S64x128, x⟩] concatenates_S64x128_S64x128_S64x256_d1)
        bitsLt_bf16_f32)
      (constant S64x256 .f32 0x00000000#32)) slices_S64x256_o0_0_S64x128)
    (broadcastTo S64x128 b broadcasts_S64x1_S64x128)

/-- The block beside the gathered gradient. -/
def besideOf (d : FVec F S64x128 .f32) (st : Vec F S1x1x128x128 .bf16) : FVec F S64x128 .f32 :=
  subf (broadcast S64x128 (Scalar.ofBits .f32 0x00000000#32))
    (matmul dot_S64x128_S128x128_S64x128_1_1_0_0_n_n none (truncf .bf16 d bitsLt_bf16_f32)
      (shapeCast S128x128 st shapeCasts_S1x1x128x128_S128x128) (constant S64x128 .f32 0x00000000#32))

/-- The keys' weights: the inverse applied to the keys under write strength and decay (and to the values beside them). -/
def wtsOf (inv : Vec F S1x1x64x64 .f32) (k v : Vec F S64x128 .f32) (g b : FVec F S64x1 .f32) : FVec F S64x128 .f32 :=
  extractStridedSlice S64x128 ![0, 128]
    (matmul dot_S64x64_S64x256_S64x256_1_0_0_1_n_n none
      (truncf .bf16 (shapeCast S64x64 inv shapeCasts_S1x1x64x64_S64x64) bitsLt_bf16_f32)
      (truncf .bf16 (concatenate S64x256 1 [⟨S64x128, mulf v (broadcastTo S64x128 b broadcasts_S64x1_S64x128)⟩,
        ⟨S64x128, mulf (mulf k (broadcastTo S64x128 b broadcasts_S64x1_S64x128))
          (broadcastTo S64x128 (exp g) broadcasts_S64x1_S64x128)⟩] concatenates_S64x128_S64x128_S64x256_d1)
        bitsLt_bf16_f32)
      (constant S64x256 .f32 0x00000000#32)) slices_S64x256_o0_128_S64x128

/-- The state's gradient before the chunk. -/
def frontOf (q o : Vec F S64x128 .f32) (g : FVec F S64x1 .f32) (ds : FVec F S128x128 .f32) (w d : FVec F S64x128 .f32) :
    FVec F S128x128 .f32 :=
  subf
    (addf (mulf ds (broadcastTo S128x128 (exp (lastOf g)) broadcasts_S1x1_S128x128))
      (matmul dot_S64x128_S64x128_S128x128_0_0_1_1_n_n none
        (truncf .bf16 (mulf q (broadcastTo S64x128 (exp g) broadcasts_S64x1_S64x128)) bitsLt_bf16_f32)
        (truncf .bf16 o bitsLt_bf16_f32) (constant S128x128 .f32 0x00000000#32)))
    (matmul dot_S64x128_S64x128_S128x128_0_0_1_1_n_n none (truncf .bf16 w bitsLt_bf16_f32)
      (truncf .bf16 d bitsLt_bf16_f32) (constant S128x128 .f32 0x00000000#32))

end Cert.KernelIdeal

end
-- ==== Proof.Loads.lean ====
/- The blocks that one grid point loads for a head and a chunk, and the values that it stores, by `Vocab.lean`'s names. -/
module

public import proofs.«01_k».proof.Proof.Vocab
public import proofs.«01_k».proof.Proof.Gen.KernelIdeal
public import Idealize.ShloMosaic.Lib.Pipeline.ValueKit
public import Idealize.ShloMosaic.Lib.Pointwise

@[expose] public section

noncomputable section

namespace Cert.KernelIdeal

open Idealize.ShloMosaic Idealize.SL.Sem
open Facts₀ Facts

variable {F : FTy → Type} [FloatOps F] [Facts]

/-- Column `l` of a 64 × 128 block. -/
def colOf (x : Vec F S64x128 .f32) (l : Fin 128) : FVec F S64x1 .f32 :=
  extractStridedSlice S64x1 ![0, l.val] x ⟨rfl, fun a => by
    have := l.isLt
    fin_cases a
    · show 0 + 64 ≤ 64; omega
    · show l.val + 1 ≤ 128; omega⟩

/-- Chunk `s` and head `h` of a window of rows. -/
def ldRows (a : Memref sig .tc .vmem S128x1024 .f32) (ha : a.IsWhole) (x : Vec F S128x1024 .f32) (s : Fin 2) (h : Fin 8) :
    Vec F S64x128 .f32 :=
  View.readAt (Elt F) a.view (Rect.unit (s := S128x1024) ![64 * s.val, 128 * h.val] S64x128.size fun i => by
    have := s.isLt; have := h.isLt
    fin_cases i
    · show 64 * s.val + 64 ≤ 128; omega
    · show 128 * h.val + 128 ≤ 1024; omega).toLoadRect (ha.unread x)

/-- Chunk `s` of the window of decays and write strengths. -/
def ldGates (a : Memref sig .tc .vmem S128x128 .f32) (ha : a.IsWhole) (x : Vec F S128x128 .f32) (s : Fin 2) :
    Vec F S64x128 .f32 :=
  View.readAt (Elt F) a.view (Rect.unit (s := S128x128) ![64 * s.val, 0] S64x128.size fun i => by
    have := s.isLt
    fin_cases i
    · show 64 * s.val + 64 ≤ 128; omega
    · show 0 + 128 ≤ 128; omega).toLoadRect (ha.unread x)

/-- Chunk `s` and head `h` of the window of states. -/
def ldState (a : Memref sig .tc .vmem S2x8x128x128 .bf16) (ha : a.IsWhole) (x : Vec F S2x8x128x128 .bf16) (s : Fin 2)
    (h : Fin 8) : Vec F S1x1x128x128 .bf16 :=
  View.readAt (Elt F) a.view (Rect.unit (s := S2x8x128x128) ![s.val, h.val, 0, 0] S1x1x128x128.size fun i => by
    have := s.isLt; have := h.isLt
    fin_cases i
    · show s.val + 1 ≤ 2; omega
    · show h.val + 1 ≤ 8; omega
    · show 0 + 128 ≤ 128; omega
    · show 0 + 128 ≤ 128; omega).toLoadRect (ha.unread x)

/-- Chunk `s` and head `h` of the window of inverses. -/
def ldInv (a : Memref sig .tc .vmem S2x8x64x64 .f32) (ha : a.IsWhole) (x : Vec F S2x8x64x64 .f32) (s : Fin 2)
    (h : Fin 8) : Vec F S1x1x64x64 .f32 :=
  View.readAt (Elt F) a.view (Rect.unit (s := S2x8x64x64) ![s.val, h.val, 0, 0] S1x1x64x64.size fun i => by
    have := s.isLt; have := h.isLt
    fin_cases i
    · show s.val + 1 ≤ 2; omega
    · show h.val + 1 ≤ 8; omega
    · show 0 + 64 ≤ 64; omega
    · show 0 + 64 ≤ 64; omega).toLoadRect (ha.unread x)

/-- Head `h` of the carried gradient. -/
def ldGrad (a : Memref sig .tc .vmem S8x128x128 .f32) (ha : a.IsWhole) (x : Vec F S8x128x128 .f32) (h : Fin 8) :
    Vec F S1x128x128 .f32 :=
  View.readAt (Elt F) a.view (Rect.unit (s := S8x128x128) ![h.val, 0, 0] S1x128x128.size fun i => by
    have := h.isLt
    fin_cases i
    · show h.val + 1 ≤ 8; omega
    · show 0 + 128 ≤ 128; omega
    · show 0 + 128 ≤ 128; omega).toLoadRect (ha.unread x)

/-! One chunk and head, of the loaded blocks. -/

/-- The gathered gradient. -/
def gathered (q k o gb : Vec F S64x128 .f32) (h : Fin 8) (ds : FVec F S128x128 .f32) : FVec F S64x128 .f32 :=
  gathOf q k o (colOf (runSums gb) ⟨h.val, by omega⟩) ds

/-- The values' gradient. -/
def valueGrad (inv : Vec F S1x1x64x64 .f32) (q k o gb : Vec F S64x128 .f32) (st : Vec F S1x1x128x128 .bf16) (h : Fin 8)
    (ds : FVec F S128x128 .f32) : FVec F S64x128 .f32 :=
  dvOf inv (gathered q k o gb h ds) (besideOf (gathered q k o gb h ds) st) (colOf gb ⟨8 + h.val, by omega⟩)

/-- The state's gradient before the chunk. -/
def stateGrad (inv : Vec F S1x1x64x64 .f32) (q k v o gb : Vec F S64x128 .f32) (h : Fin 8) (ds : FVec F S128x128 .f32) :
    FVec F S128x128 .f32 :=
  frontOf q o (colOf (runSums gb) ⟨h.val, by omega⟩) ds
    (wtsOf inv k v (colOf (runSums gb) ⟨h.val, by omega⟩) (colOf gb ⟨8 + h.val, by omega⟩)) (gathered q k o gb h ds)

/-- All the blocks that a grid point loads, by chunk and head, and the carried gradient as it finds it, by head. -/
structure Loads (F : FTy → Type) where
  q : Fin 2 → Fin 8 → Vec F S64x128 .f32
  k : Fin 2 → Fin 8 → Vec F S64x128 .f32
  v : Fin 2 → Fin 8 → Vec F S64x128 .f32
  o : Fin 2 → Fin 8 → Vec F S64x128 .f32
  gb : Fin 2 → Vec F S64x128 .f32
  st : Fin 2 → Fin 8 → Vec F S1x1x128x128 .bf16
  inv : Fin 2 → Fin 8 → Vec F S1x1x64x64 .f32
  ds : Fin 8 → Vec F S1x128x128 .f32

namespace Loads

variable (L : Loads F)

/-- The state's gradient after the point's chunk `s`: the later chunk's is the carried one. -/
def after (s : Fin 2) (h : Fin 8) : FVec F S128x128 .f32 :=
  match s with
  | 1 => shapeCast S128x128 (L.ds h) shapeCasts_S1x128x128_S128x128
  | 0 => stateGrad (L.inv 1 h) (L.q 1 h) (L.k 1 h) (L.v 1 h) (L.o 1 h) (L.gb 1) h
      (shapeCast S128x128 (L.ds h) shapeCasts_S1x128x128_S128x128)

/-- The gradient of the values of chunk `s`. -/
def value (s : Fin 2) (h : Fin 8) : FVec F S64x128 .f32 :=
  valueGrad (L.inv s h) (L.q s h) (L.k s h) (L.o s h) (L.gb s) (L.st s h) h (L.after s h)

/-- The state's gradient before chunk `s`. -/
def before (s : Fin 2) (h : Fin 8) : FVec F S128x128 .f32 :=
  stateGrad (L.inv s h) (L.q s h) (L.k s h) (L.v s h) (L.o s h) (L.gb s) h (L.after s h)

/-- The rectangle of chunk `s` and head `h` in a window of rows. -/
def rowsRect (p : Fin 2 × Fin 8) : Rect S128x1024 :=
  Rect.unit (s := S128x1024) ![64 * p.1.val, 128 * p.2.val] S64x128.size fun i => by
    have := p.1.isLt; have := p.2.isLt
    fin_cases i
    · show 64 * p.1.val + 64 ≤ 128; omega
    · show 128 * p.2.val + 128 ≤ 1024; omega

/-- The rectangle of head `h` in the carried gradient. -/
def gradRect (h : Fin 8) : Rect S8x128x128 :=
  Rect.unit (s := S8x128x128) ![h.val, 0, 0] S1x128x128.size fun i => by
    have := h.isLt
    fin_cases i
    · show h.val + 1 ≤ 8; omega
    · show 0 + 128 ≤ 128; omega
    · show 0 + 128 ≤ 128; omega

/-- The stores of the values' gradient, last first. -/
def valuePieces : List (View.Piece (Elt F) S128x1024 .f32) :=
  [(0, 7), (0, 6), (0, 5), (0, 4), (0, 3), (0, 2), (0, 1), (0, 0), (1, 7), (1, 6), (1, 5), (1, 4), (1, 3), (1, 2), (1, 1),
    (1, 0)].map fun p => ⟨rowsRect p, L.value p.1 p.2⟩

/-- The stores of the carried gradient, last first. -/
def gradPieces : List (View.Piece (Elt F) S8x128x128 .f32) :=
  [7, 6, 5, 4, 3, 2, 1, 0].map fun h => ⟨gradRect h, shapeCast S1x128x128 (L.before 0 h) shapeCasts_S128x128_S1x128x128⟩

end Loads

end Cert.KernelIdeal

end
-- ==== Proof.Pieces.lean ====
/- The values' gradient and the carried gradient that one grid point stores are those of `Loads.lean`, in both of its cases:
   the first point starts from a gradient of zeros, every other one from what the point before it left. -/
module

public import proofs.«01_k».proof.Proof.Gen.KernelIdeal.Value
public import proofs.«01_k».proof.Proof.Loads

@[expose] public section

noncomputable section

namespace Cert.KernelIdeal.Value

open Cert.KernelIdeal Cert.KernelIdeal.Gen Idealize.ShloMosaic Idealize.ShloMosaic.TcCoe Idealize.SL.Sem

variable {F : FTy → Type} [FloatOps F]

section

variable (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S128x1024 .f32) (harg5 : arg5.IsWhole) (arg6 : Memref sig .tc .vmem S2x8x128x128 .bf16) (harg6 : arg6.IsWhole) (arg7 : Memref sig .tc .vmem S2x8x64x64 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S128x128 .f32) (harg11 : arg11.IsWhole) (arg12 : Memref sig .tc .vmem S8x128x128 .f32) (harg12 : arg12.IsWhole)
  (x0 : Vec F S128x1024 .f32) (x1 : Vec F S128x1024 .f32) (x2 : Vec F S128x1024 .f32) (x3 : Vec F S128x128 .f32) (x4 : Vec F S128x1024 .f32) (x5 : Vec F S2x8x128x128 .bf16) (x6 : Vec F S2x8x64x64 .f32)

/-- The blocks that a grid point loads from its windows, at a carried gradient. -/
def loads (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S128x1024 .f32) (harg5 : arg5.IsWhole) (arg6 : Memref sig .tc .vmem S2x8x128x128 .bf16) (harg6 : arg6.IsWhole) (arg7 : Memref sig .tc .vmem S2x8x64x64 .f32) (harg7 : arg7.IsWhole)
    (x0 : Vec F S128x1024 .f32) (x1 : Vec F S128x1024 .f32) (x2 : Vec F S128x1024 .f32) (x3 : Vec F S128x128 .f32) (x4 : Vec F S128x1024 .f32) (x5 : Vec F S2x8x128x128 .bf16) (x6 : Vec F S2x8x64x64 .f32) (ds : Fin 8 → Vec F S1x128x128 .f32) : Loads F where
  q := ldRows arg1 harg1 x0
  k := ldRows arg2 harg2 x1
  v := ldRows arg3 harg3 x2
  o := ldRows arg5 harg5 x4
  gb := ldGates arg4 harg4 x3
  st := ldState arg6 harg6 x5
  inv := ldInv arg7 harg7 x6
  ds := ds

/-- What the first point reads of the carried gradient: the zeros that it has just stored. -/
def zeroGrad (a : Memref sig .tc .vmem S8x128x128 .f32) (h : Fin 8) : Vec F S1x128x128 .f32 :=
  a.view.readCov kernelRun0_A.sl.HS0_1 (Loads.gradRect h).toLoadRect

variable (c : Dev nD) (i : grid0.Coords)

set_option maxHeartbeats 8000000 in
theorem value_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.1
      = (loads arg1 harg1 arg2 harg2 arg3 harg3 arg4 harg4 arg5 harg5 arg6 harg6 arg7 harg7 x0 x1 x2 x3 x4 x5 x6 (zeroGrad arg12)).valuePieces := by
  unfold kernelRun0_A
  rfl

set_option maxHeartbeats 8000000 in
theorem value_B (hc0 : ¬cond0_0 i) (xs0 : Vec F S8x128x128 .f32) :
    (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.2.1
      = (loads arg1 harg1 arg2 harg2 arg3 harg3 arg4 harg4 arg5 harg5 arg6 harg6 arg7 harg7 x0 x1 x2 x3 x4 x5 x6 (ldGrad arg12 harg12 xs0)).valuePieces := by
  unfold kernelRun0_B
  rfl

set_option maxHeartbeats 8000000 in
theorem grad_A (hc0 : cond0_0 i) :
    (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.2.2.1
      = (loads arg1 harg1 arg2 harg2 arg3 harg3 arg4 harg4 arg5 harg5 arg6 harg6 arg7 harg7 x0 x1 x2 x3 x4 x5 x6 (zeroGrad arg12)).gradPieces ++ kernelRun0_A.sl.HS0_1 := by
  unfold kernelRun0_A
  rfl

set_option maxHeartbeats 8000000 in
theorem grad_B (hc0 : ¬cond0_0 i) (xs0 : Vec F S8x128x128 .f32) :
    (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs0).2.2.2.2.1
      = (loads arg1 harg1 arg2 harg2 arg3 harg3 arg4 harg4 arg5 harg5 arg6 harg6 arg7 harg7 x0 x1 x2 x3 x4 x5 x6 (ldGrad arg12 harg12 xs0)).gradPieces := by
  unfold kernelRun0_B
  rfl

end

end Cert.KernelIdeal.Value

end
-- ==== Proof.Chunk.lean ====
/- The mathematics of one chunk of the gated delta rule's backward pass, over the reals: the token-by-token
   recurrence run backwards through the chunk, and the closed form that the kernel computes with the inverse of
   the chunk's unit lower triangular matrix. One column of the output gradient at a time: the columns do not meet. -/
module

public import Mathlib.Analysis.SpecialFunctions.Exp
public import Mathlib.LinearAlgebra.Matrix.ToLin
public import Mathlib.Tactic.Ring
public import Mathlib.Tactic.NoncommRing

@[expose] public section

noncomputable section

namespace Cert.Gdn

open Finset Matrix

variable {n D : ℕ}

/-- Prefix sums of the log decay: the tokens before position `i`. -/
def pre (g : Fin n → ℝ) (i : ℕ) : ℝ := ∑ j : Fin n, if j.val < i then g j else 0

/-- The log decay summed up to and with token `i`. -/
def cum (g : Fin n → ℝ) (i : Fin n) : ℝ := ∑ j : Fin n, if j ≤ i then g j else 0

theorem cum_eq_pre (g : Fin n → ℝ) (i : Fin n) : cum g i = pre g (i.val + 1) := by
  unfold cum pre
  refine sum_congr rfl fun j _ => ?_
  simp only [Fin.le_def, Nat.lt_succ_iff]

theorem pre_succ (g : Fin n → ℝ) (i : Fin n) : pre g (i.val + 1) = pre g i.val + g i := by
  unfold pre
  have : ∀ j : Fin n, (if j.val < i.val + 1 then g j else 0)
      = (if j.val < i.val then g j else 0) + (if j = i then g j else 0) := by
    intro j
    rcases lt_trichotomy j.val i.val with h | h | h
    · rw [if_pos (by omega), if_pos h, if_neg (by intro e; rw [e] at h; omega), add_zero]
    · rw [if_pos (by omega), if_neg (by omega), if_pos (Fin.ext h), zero_add]
    · rw [if_neg (by omega), if_neg (by omega), if_neg (by intro e; rw [e] at h; omega), add_zero]
  rw [sum_congr rfl fun j _ => this j, sum_add_distrib, sum_ite_eq' univ i, if_pos (mem_univ i)]

/-- The decay from token `c` to a later token `r` of the chunk, and nothing upward. -/
def dec (g : Fin n → ℝ) (r c : Fin n) : ℝ := if c ≤ r then Real.exp (cum g r - cum g c) else 0

/-- The chunk's strictly lower triangular matrix. -/
def low (k : Fin n → Fin D → ℝ) (g β : Fin n → ℝ) : Matrix (Fin n) (Fin n) ℝ :=
  fun r c => if c < r then (∑ d, k r d * β r * k c d) * dec g r c else 0

/-- What each token leaves of the state's gradient on its way back. -/
structure Back (q k : Fin n → Fin D → ℝ) (o g β : Fin n → ℝ) (ds : Fin D → ℝ) (s : ℕ → Fin D → ℝ) : Prop where
  start : s 0 = ds
  step : ∀ i : Fin n, ∀ d, s (n - i.val) d = Real.exp (g i) * (s (n - 1 - i.val) d + q i d * o i
    - k i d * (β i * ∑ e, k i e * (s (n - 1 - i.val) e + q i e * o i)))

/-- The gradient that token `i` receives before its gate. -/
def tok (q k : Fin n → Fin D → ℝ) (o : Fin n → ℝ) (s : ℕ → Fin D → ℝ) (i : Fin n) : ℝ :=
  ∑ e, k i e * (s (n - 1 - i.val) e + q i e * o i)

/-- The state on its way back in closed form, over the tokens already passed. -/
theorem Back.closed {q k : Fin n → Fin D → ℝ} {o g β : Fin n → ℝ} {ds : Fin D → ℝ} {s : ℕ → Fin D → ℝ}
    (h : Back q k o g β ds s) (m : ℕ) (hm : m ≤ n) (d : Fin D) :
    s m d = Real.exp (pre g n - pre g (n - m)) * ds d
      + ∑ j : Fin n, if n - m ≤ j.val then
          Real.exp (cum g j - pre g (n - m)) * (q j d * o j - k j d * (β j * tok q k o s j)) else 0 := by
  induction m with
  | zero =>
    rw [h.start]
    have : ∀ j : Fin n, ¬ (n ≤ j.val) := fun j => by have := j.isLt; omega
    simp only [Nat.sub_zero]
    simp only [this, if_false, sum_const_zero, add_zero, Nat.sub_zero, sub_self, Real.exp_zero, one_mul]
  | succ m ih =>
    have hi : n - (m + 1) < n := by omega
    have e := h.step ⟨n - (m + 1), hi⟩ d
    have e1 : n - (n - (m + 1)) = m + 1 := by omega
    have e2 : n - 1 - (n - (m + 1)) = m := by omega
    simp only [e1, e2] at e
    have ht : tok q k o s ⟨n - (m + 1), hi⟩
        = ∑ e, k ⟨n - (m + 1), hi⟩ e * (s m e + q ⟨n - (m + 1), hi⟩ e * o ⟨n - (m + 1), hi⟩) := by
      unfold tok; simp only [e2]
    rw [← ht] at e
    rw [e, ih (by omega)]
    have hs := pre_succ g ⟨n - (m + 1), hi⟩
    have e3 : n - (m + 1) + 1 = n - m := by omega
    simp only [e3] at hs
    have split : ∀ j : Fin n, (if n - (m + 1) ≤ j.val then
          Real.exp (cum g j - pre g (n - (m + 1))) * (q j d * o j - k j d * (β j * tok q k o s j)) else 0)
        = Real.exp (g ⟨n - (m + 1), hi⟩) * (if n - m ≤ j.val then
          Real.exp (cum g j - pre g (n - m)) * (q j d * o j - k j d * (β j * tok q k o s j)) else 0)
          + (if j = ⟨n - (m + 1), hi⟩ then Real.exp (g ⟨n - (m + 1), hi⟩)
              * (q j d * o j - k j d * (β j * tok q k o s j)) else 0) := by
      intro j
      rcases lt_trichotomy j.val (n - (m + 1)) with hj | hj | hj
      · rw [if_neg (by omega), if_neg (by omega), if_neg (by intro e; rw [e] at hj; simp at hj)]; simp
      · have ej : j = ⟨n - (m + 1), hi⟩ := Fin.ext hj
        rw [if_pos (by omega), if_neg (by omega), if_pos ej, mul_zero, zero_add, cum_eq_pre, hj, e3, hs]
        congr 2; ring
      · rw [if_pos (by omega), if_pos (by omega), if_neg (by intro e; rw [e] at hj; simp at hj), add_zero]
        have : Real.exp (cum g j - pre g (n - (m + 1)))
            = Real.exp (g ⟨n - (m + 1), hi⟩) * Real.exp (cum g j - pre g (n - m)) := by
          rw [← Real.exp_add, hs]; congr 1; ring
        rw [this]; ring
    rw [sum_congr rfl fun j _ => split j, sum_add_distrib, sum_ite_eq' univ, if_pos (mem_univ _), ← mul_sum, hs]
    have : Real.exp (pre g n - pre g (n - (m + 1)))
        = Real.exp (g ⟨n - (m + 1), hi⟩) * Real.exp (pre g n - (pre g (n - (m + 1)) + g ⟨n - (m + 1), hi⟩)) := by
      rw [← Real.exp_add]; congr 1; ring
    rw [this]; ring

/-- The gradient the kernel gathers for token `i`: what the outputs of the chunk pass back and what the state behind it does. -/
def gath (q k : Fin n → Fin D → ℝ) (o g : Fin n → ℝ) (ds : Fin D → ℝ) (i : Fin n) : ℝ :=
  (∑ r, (∑ d, q r d * k i d) * dec g r i * o r) + ∑ d, k i d * Real.exp (pre g n - cum g i) * ds d

/-- The tokens' gradients solve the chunk's triangular system. -/
theorem Back.system {q k : Fin n → Fin D → ℝ} {o g β : Fin n → ℝ} {ds : Fin D → ℝ} {s : ℕ → Fin D → ℝ}
    (h : Back q k o g β ds s) (i : Fin n) :
    (∑ r, (1 + low k g β) r i * tok q k o s r) = gath q k o g ds i := by
  have hy : tok q k o s i = ∑ e, k i e * (s (n - 1 - i.val) e + q i e * o i) := rfl
  have hlt := i.isLt
  have e1 : n - (n - 1 - i.val) = i.val + 1 := by omega
  have hc := fun e => h.closed (n - 1 - i.val) (by omega) e
  simp only [e1, ← cum_eq_pre] at hc
  have h1 : (∑ r, (1 + low k g β) r i * tok q k o s r)
      = tok q k o s i + ∑ r, low k g β r i * tok q k o s r := by
    simp only [Matrix.add_apply, add_mul, sum_add_distrib, Matrix.one_apply, ite_mul, one_mul, zero_mul]
    rw [sum_ite_eq' univ i, if_pos (mem_univ i)]
  rw [h1, hy]
  simp only [hc]
  unfold gath
  have expand : ∀ e, k i e * (Real.exp (pre g n - cum g i) * ds e
      + (∑ j : Fin n, if i.val + 1 ≤ j.val then Real.exp (cum g j - cum g i)
          * (q j e * o j - k j e * (β j * tok q k o s j)) else 0) + q i e * o i)
      = k i e * Real.exp (pre g n - cum g i) * ds e
        + (∑ j : Fin n, ((q j e * k i e) * dec g j i * o j
            - (if i < j then (k j e * β j * k i e) * dec g j i else 0) * tok q k o s j)) := by
    intro e
    have t : ∀ j : Fin n, (q j e * k i e) * dec g j i * o j
            - (if i < j then (k j e * β j * k i e) * dec g j i else 0) * tok q k o s j
        = k i e * (if i.val + 1 ≤ j.val then Real.exp (cum g j - cum g i)
          * (q j e * o j - k j e * (β j * tok q k o s j)) else 0)
          + (if j = i then k i e * (q j e * o j) else 0) := by
      intro j
      unfold dec
      rcases lt_trichotomy j i with hj | hj | hj
      · have : j.val < i.val := hj
        rw [if_neg (not_le.mpr hj), if_neg (not_lt.mpr hj.le), if_neg (by omega), if_neg (ne_of_lt hj)]; ring
      · subst hj
        rw [if_pos le_rfl, if_neg (lt_irrefl _), if_neg (by omega), if_pos rfl, sub_self, Real.exp_zero]; ring
      · have : i.val < j.val := hj
        rw [if_pos hj.le, if_pos hj, if_pos (by omega), if_neg (ne_of_gt hj)]; ring
    rw [sum_congr rfl fun j _ => t j, sum_add_distrib, sum_ite_eq' univ i, if_pos (mem_univ i), ← mul_sum]
    ring
  rw [sum_congr rfl fun e _ => expand e, sum_add_distrib, sum_comm]
  simp only [sum_sub_distrib]
  have a1 : ∀ r, (∑ e, q r e * k i e * dec g r i * o r) = (∑ d, q r d * k i d) * dec g r i * o r := by
    intro r; rw [sum_mul, sum_mul]
  have a2 : ∀ r, (∑ e, (if i < r then k r e * β r * k i e * dec g r i else 0) * tok q k o s r)
      = low k g β r i * tok q k o s r := by
    intro r
    unfold low
    split
    · rw [sum_mul, sum_mul]
    · simp
  simp only [a1, a2]
  ring

/-- What the kernel computes of a chunk from a right inverse `inv` of its triangular matrix: the tokens' gradients … -/
theorem Back.solve {q k : Fin n → Fin D → ℝ} {o g β : Fin n → ℝ} {ds : Fin D → ℝ} {s : ℕ → Fin D → ℝ}
    (h : Back q k o g β ds s) (inv : Matrix (Fin n) (Fin n) ℝ) (hinv : (1 + low k g β) * inv = 1) (i : Fin n) :
    (∑ r, inv r i * gath q k o g ds r) = tok q k o s i := by
  have e : (fun i => gath q k o g ds i) = (tok q k o s) ᵥ* (1 + low k g β) := by
    funext i
    rw [← h.system i]
    simp only [Matrix.vecMul, dotProduct]
    exact sum_congr rfl fun r _ => mul_comm _ _
  have e2 : (∑ r, inv r i * gath q k o g ds r) = ((fun i => gath q k o g ds i) ᵥ* inv) i := by
    simp only [Matrix.vecMul, dotProduct]
    exact sum_congr rfl fun r _ => mul_comm _ _
  rw [e2, e, Matrix.vecMul_vecMul, hinv, Matrix.vecMul_one]

/-- … and the state's gradient in front of the chunk. -/
theorem Back.front {q k : Fin n → Fin D → ℝ} {o g β : Fin n → ℝ} {ds : Fin D → ℝ} {s : ℕ → Fin D → ℝ}
    (h : Back q k o g β ds s) (inv : Matrix (Fin n) (Fin n) ℝ) (hinv : (1 + low k g β) * inv = 1) (d : Fin D) :
    ds d * Real.exp (pre g n) + (∑ r, q r d * Real.exp (cum g r) * o r)
      - (∑ r, (∑ c, inv r c * (k c d * β c * Real.exp (cum g c))) * gath q k o g ds r) = s n d := by
  have e : (∑ r, (∑ c, inv r c * (k c d * β c * Real.exp (cum g c))) * gath q k o g ds r)
      = ∑ c, k c d * β c * Real.exp (cum g c) * tok q k o s c := by
    simp only [sum_mul]
    rw [sum_comm]
    refine sum_congr rfl fun c _ => ?_
    rw [← h.solve inv hinv c, mul_sum]
    exact sum_congr rfl fun r _ => by ring
  have hz : pre g 0 = 0 := by unfold pre; simp
  rw [e, h.closed n le_rfl d, Nat.sub_self, hz]
  simp only [sub_zero, Nat.zero_le, if_true]
  have : ∀ j, Real.exp (cum g j) * (q j d * o j - k j d * (β j * tok q k o s j))
      = q j d * Real.exp (cum g j) * o j - k j d * β j * Real.exp (cum g j) * tok q k o s j := fun j => by ring
  rw [sum_congr rfl fun j _ => this j, sum_sub_distrib]
  ring

/-- A matrix that lives at least `p` below the diagonal. -/
def Below (p : ℕ) (A : Matrix (Fin n) (Fin n) ℝ) : Prop := ∀ r c, r.val < c.val + p → A r c = 0

theorem Below.mul {p p' : ℕ} {A B : Matrix (Fin n) (Fin n) ℝ} (hA : Below p A) (hB : Below p' B) :
    Below (p + p') (A * B) := by
  intro r c hrc
  rw [Matrix.mul_apply]
  refine sum_eq_zero fun j _ => ?_
  by_cases h : r.val < j.val + p
  · rw [hA r j h, zero_mul]
  · rw [hB j c (by omega), mul_zero]

theorem Below.zero {p : ℕ} {A : Matrix (Fin n) (Fin n) ℝ} (hA : Below p A) (hp : n ≤ p) : A = 0 := by
  ext r c
  exact hA r c (by have := r.isLt; omega)

/-- The product series of the inverse, as the forward pass computes it: `m` squarings. -/
def ser (x : Matrix (Fin n) (Fin n) ℝ) : ℕ → Matrix (Fin n) (Fin n) ℝ × Matrix (Fin n) (Fin n) ℝ
  | 0 => (x, 1 + x)
  | m + 1 => ((ser x m).1 * (ser x m).1, (ser x m).2 + (ser x m).2 * ((ser x m).1 * (ser x m).1))

theorem ser_below {x : Matrix (Fin n) (Fin n) ℝ} (hx : Below 1 x) (m : ℕ) : Below (2 ^ m) (ser x m).1 := by
  induction m with
  | zero => exact hx
  | succ m ih => have := ih.mul ih; rwa [← two_mul, ← pow_succ'] at this

theorem ser_inv (x : Matrix (Fin n) (Fin n) ℝ) (m : ℕ) :
    (1 - x) * (ser x m).2 = 1 - (ser x m).1 * (ser x m).1 := by
  induction m with
  | zero => simp only [ser]; noncomm_ring
  | succ m ih =>
    simp only [ser]
    rw [mul_add, ← mul_assoc (1 - x), ih]
    noncomm_ring

/-- Six factors invert a chunk of at most 64 tokens. -/
theorem ser_low (k : Fin n → Fin D → ℝ) (g β : Fin n → ℝ) (hn : n ≤ 64) :
    (1 + low k g β) * (ser (-low k g β) 5).2 = 1 := by
  have hb : Below 1 (-low k g β) := by
    intro r c h
    rw [Matrix.neg_apply]; unfold low
    rw [if_neg (by rw [Fin.lt_def]; omega), neg_zero]
  have h := ser_inv (-low k g β) 5
  have hz : (ser (-low k g β) 5).1 * (ser (-low k g β) 5).1 = 0 :=
    ((ser_below hb 5).mul (ser_below hb 5)).zero (by norm_num; omega)
  rwa [hz, sub_neg_eq_add, sub_zero] at h

/-- A finite sum of reals is the same sum at the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

end Cert.Gdn

end
-- ==== Proof.Reads.lean ====
/- The values of the chunk read at an index, at the reals, when the arguments are real: the closed form of `Chunk.lean`. -/
module

public import proofs.«01_k».proof.Proof.Vocab
public import proofs.«01_k».proof.Proof.Chunk
public import Idealize.ShloMosaic.Lib.Pointwise

@[expose] public section

noncomputable section

namespace Cert.KernelIdeal

open Idealize.ShloMosaic Idealize.SL.Sem
open Facts₀ Facts
open Cert.Gdn

variable [Facts]

theorem sge_word : ∀ r c : Fin 64, IntOp.cmpi .sge (BitVec.ofNat 32 r.val) (BitVec.ofNat 32 c.val)
    = if c ≤ r then 1#1 else 0#1 := by decide +kernel

theorem eq_word : ∀ r c : Fin 64, IntOp.cmpi .eq (BitVec.ofNat 32 r.val) (BitVec.ofNat 32 c.val)
    = if r = c then 1#1 else 0#1 := by decide +kernel

theorem last_word : ∀ r : Fin 64, IntOp.cmpi .eq (BitVec.ofNat 32 r.val) 63#32
    = if r = 63 then 1#1 else 0#1 := by decide +kernel

/-- A mask bit as a float. -/
theorem bit_float (p : Prop) [Decidable p] :
    (FloatOps.sitofp .f32 (BitVec.setWidth 32 (if p then 1#1 else 0#1)) : Idealize.ShloMosaic.Ideal .f32)
      = (((if p then 1 else 0 : ℝ)) : EReal) := by
  by_cases h : p
  · simp only [if_pos h]
    show (((BitVec.setWidth 32 1#1 : BitVec 32).toInt : ℝ) : EReal) = _
    norm_num
  · simp only [if_neg h]
    show (((BitVec.setWidth 32 0#1 : BitVec 32).toInt : ℝ) : EReal) = _
    norm_num

theorem neg_inf : (Ideal.ofBits .f32 4286578688#32 : EReal) = ⊥ := by
  simp [Ideal.ofBits, Ideal.ieee]

theorem runSums_coe {gb : Vec Ideal S64x128 .f32} {g : Fin 64 → Fin 128 → ℝ} (h : ∀ r l, gb (ix2 r l) = (g r l : EReal))
    (r : Fin 64) (l : Fin 128) : runSums gb (ix2 r l) = (cum (fun j => g j l) r : EReal) := by
  pointwise [runSums, lowMask]
  simp only [sge_word, bit_float, h, ← EReal.coe_mul, coe_sum, cum, ite_mul, one_mul, zero_mul]

theorem decayOf_coe {gc : FVec Ideal S64x1 .f32} {g : Fin 64 → ℝ} (h : ∀ r, gc (ix2 r 0) = (cum g r : EReal)) (r c : Fin 64) :
    decayOf gc (ix2 r c) = (dec g r c : EReal) := by
  pointwise [decayOf, asRow, lowMask, eyeMask]
  simp only [sge_word, eq_word, bit_float, h, ← EReal.coe_mul, coe_sum, ite_mul, one_mul, zero_mul,
    Finset.sum_ite_eq', Finset.mem_univ, if_true, neg_inf, dec]
  by_cases hc : c ≤ r
  · simp only [if_pos hc, Scalar.select, ← EReal.coe_sub]
    rfl
  · simp only [if_neg hc, Scalar.select]
    simp

theorem lastOf_coe {gc : FVec Ideal S64x1 .f32} {g : Fin 64 → ℝ} (h : ∀ r, gc (ix2 r 0) = (cum g r : EReal)) :
    lastOf gc (ix2 0 0) = (pre g 64 : EReal) := by
  pointwise [lastOf]
  have : ∀ x : Fin 64, Scalar.select (if x = 63 then 1#1 else 0#1) (gc (ix2 x 0)) (0 : EReal)
      = ((if x = 63 then cum g x else 0 : ℝ) : EReal) := fun x => by
    by_cases hx : x = 63
    · simp only [if_pos hx, Scalar.select, h]
      rfl
    · simp only [if_neg hx, Scalar.select]; simp
  simp only [last_word]
  rw [Finset.sum_congr rfl fun x _ => this x, coe_sum, Finset.sum_ite_eq', if_pos (Finset.mem_univ _), cum_eq_pre]
  rfl

theorem gathOf_coe {q k o : Vec Ideal S64x128 .f32} {gc : FVec Ideal S64x1 .f32} {ds : FVec Ideal S128x128 .f32}
    {q' k' o' : Fin 64 → Fin 128 → ℝ} {g : Fin 64 → ℝ} {ds' : Fin 128 → Fin 128 → ℝ}
    (hq : ∀ r d, q (ix2 r d) = (q' r d : EReal)) (hk : ∀ r d, k (ix2 r d) = (k' r d : EReal))
    (ho : ∀ r d, o (ix2 r d) = (o' r d : EReal)) (hg : ∀ r, gc (ix2 r 0) = (cum g r : EReal))
    (hd : ∀ d e, ds (ix2 d e) = (ds' d e : EReal)) (r : Fin 64) (e : Fin 128) :
    gathOf q k o gc ds (ix2 r e) = (gath q' k' (fun i => o' i e) g (fun d => ds' d e) r : EReal) := by
  pointwise [gathOf]
  simp only [hq, hk, ho, hd, hg, decayOf_coe hg, lastOf_coe hg, ← EReal.coe_mul, ← EReal.coe_sub, Ideal.exp_coe, coe_sum,
    ← EReal.coe_add, gath]

theorem dvOf_coe {inv : Vec Ideal S1x1x64x64 .f32} {d x : FVec Ideal S64x128 .f32} {b : FVec Ideal S64x1 .f32}
    {inv' : Matrix (Fin 64) (Fin 64) ℝ} {d' : Fin 64 → Fin 128 → ℝ} {b' : Fin 64 → ℝ}
    (hi : ∀ r c, inv (ix4 0 0 r c) = (inv' r c : EReal)) (hd : ∀ r e, d (ix2 r e) = (d' r e : EReal))
    (hb : ∀ r, b (ix2 r 0) = (b' r : EReal)) (r : Fin 64) (e : Fin 128) :
    dvOf inv d x b (ix2 r e) = ((b' r * ∑ c, inv' c r * d' c e : ℝ) : EReal) := by
  pointwise [dvOf]
  simp only [hi, hd, hb, ← EReal.coe_mul, coe_sum, mul_comm (b' r)]

theorem wtsOf_coe {inv : Vec Ideal S1x1x64x64 .f32} {k v : Vec Ideal S64x128 .f32} {gc b : FVec Ideal S64x1 .f32}
    {inv' : Matrix (Fin 64) (Fin 64) ℝ} {k' : Fin 64 → Fin 128 → ℝ} {g b' : Fin 64 → ℝ}
    (hi : ∀ r c, inv (ix4 0 0 r c) = (inv' r c : EReal)) (hk : ∀ r d, k (ix2 r d) = (k' r d : EReal))
    (hg : ∀ r, gc (ix2 r 0) = (cum g r : EReal)) (hb : ∀ r, b (ix2 r 0) = (b' r : EReal)) (r : Fin 64) (d : Fin 128) :
    wtsOf inv k v gc b (ix2 r d) = ((∑ c, inv' r c * (k' c d * b' c * Real.exp (cum g c)) : ℝ) : EReal) := by
  pointwise [wtsOf]
  simp only [hi, hk, hb, hg, Ideal.exp_coe, ← EReal.coe_mul, coe_sum]

theorem frontOf_coe {q o w d : Vec Ideal S64x128 .f32} {gc : FVec Ideal S64x1 .f32} {ds : FVec Ideal S128x128 .f32}
    {q' o' w' d' : Fin 64 → Fin 128 → ℝ} {g : Fin 64 → ℝ} {ds' : Fin 128 → Fin 128 → ℝ}
    (hq : ∀ r d, q (ix2 r d) = (q' r d : EReal)) (ho : ∀ r d, o (ix2 r d) = (o' r d : EReal))
    (hw : ∀ r d, w (ix2 r d) = (w' r d : EReal)) (hd : ∀ r e, d (ix2 r e) = (d' r e : EReal))
    (hg : ∀ r, gc (ix2 r 0) = (cum g r : EReal)) (hds : ∀ d e, ds (ix2 d e) = (ds' d e : EReal)) (i e : Fin 128) :
    frontOf q o gc ds w d (ix2 i e) = ((ds' i e * Real.exp (pre g 64) + ∑ r, q' r i * Real.exp (cum g r) * o' r e
      - ∑ r, w' r i * d' r e : ℝ) : EReal) := by
  pointwise [frontOf]
  simp only [hq, ho, hw, hd, hds, hg, lastOf_coe hg, Ideal.exp_coe, ← EReal.coe_mul, coe_sum, ← EReal.coe_add, ← EReal.coe_sub]

end Cert.KernelIdeal

end
-- ==== Proof.Token.lean ====
/- The gated delta rule's backward pass over the reals, token by token from the last one to the first: what the reference's
   loop computes; and each chunk of 64 tokens as a stretch of it (`Back` of `Chunk.lean`). -/
module

public import proofs.«01_k».proof.Proof.Chunk

@[expose] public section

noncomputable section

namespace Cert.Gdn

open Finset Matrix

/-- What the pass reads: per token and head the query, key and output gradient rows, the log decay and the write strength. -/
structure Rows where
  q : ℕ → Fin 8 → Fin 128 → ℝ
  k : ℕ → Fin 8 → Fin 128 → ℝ
  o : ℕ → Fin 8 → Fin 128 → ℝ
  g : ℕ → Fin 8 → ℝ
  β : ℕ → Fin 8 → ℝ

variable (x : Rows)

/-- The state's gradient after the last `j` tokens. -/
def stateAt : ℕ → Fin 8 → Fin 128 → Fin 128 → ℝ
  | 0 => fun _ _ _ => 0
  | j + 1 => fun h d e =>
      (stateAt j h d e + x.o (8191 - j) h e * x.q (8191 - j) h d
        + -(x.β (8191 - j) h * ∑ i, x.k (8191 - j) h i * (stateAt j h i e + x.o (8191 - j) h e * x.q (8191 - j) h i))
          * x.k (8191 - j) h d) * Real.exp (x.g (8191 - j) h)

/-- Token `8191 - j`'s value gradient. -/
def valueAt (j : ℕ) (h : Fin 8) (e : Fin 128) : ℝ :=
  x.β (8191 - j) h * ∑ i, x.k (8191 - j) h i * (stateAt x j h i e + x.o (8191 - j) h e * x.q (8191 - j) h i)

/-- Chunk `c` of the pass, one head and one column. -/
theorem back_chunk (c : ℕ) (hc : c < 128) (h : Fin 8) (e : Fin 128) :
    Back (n := 64) (fun i d => x.q (64 * c + i.val) h d) (fun i d => x.k (64 * c + i.val) h d)
      (fun i => x.o (64 * c + i.val) h e) (fun i => x.g (64 * c + i.val) h) (fun i => x.β (64 * c + i.val) h)
      (fun d => stateAt x (64 * (127 - c)) h d e) (fun m d => stateAt x (64 * (127 - c) + m) h d e) where
  start := rfl
  step := fun i d => by
    have hi := i.isLt
    have e1 : 64 * (127 - c) + (64 - i.val) = (64 * (127 - c) + (64 - 1 - i.val)) + 1 := by omega
    have e2 : 8191 - (64 * (127 - c) + (64 - 1 - i.val)) = 64 * c + i.val := by omega
    rw [e1]
    simp only [stateAt, e2]
    have : ∀ a : ℕ, ∑ j, x.k (64 * c + i.val) h j * (stateAt x a h j e + x.o (64 * c + i.val) h e * x.q (64 * c + i.val) h j)
        = ∑ j, x.k (64 * c + i.val) h j * (stateAt x a h j e + x.q (64 * c + i.val) h j * x.o (64 * c + i.val) h e) :=
      fun a => sum_congr rfl fun j _ => by rw [mul_comm (x.o _ _ _)]
    rw [this]
    ring

/-- The inverse that a chunk and a head are handed. -/
def invAt (c : ℕ) (h : Fin 8) : Matrix (Fin 64) (Fin 64) ℝ :=
  (ser (-low (fun (i : Fin 64) d => x.k (64 * c + i.val) h d) (fun i => x.g (64 * c + i.val) h)
    (fun i => x.β (64 * c + i.val) h)) 5).2

/-- The gradient that chunk `c`'s new values receive. -/
def gathAt (c : ℕ) (h : Fin 8) (r : Fin 64) (e : Fin 128) : ℝ :=
  gath (fun i d => x.q (64 * c + i.val) h d) (fun (i : Fin 64) d => x.k (64 * c + i.val) h d)
      (fun i => x.o (64 * c + i.val) h e) (fun i => x.g (64 * c + i.val) h)
      (fun d => stateAt x (64 * (127 - c)) h d e) r

/-- The closed form of a chunk's value gradients. -/
theorem chunk_value (c : ℕ) (hc : c < 128) (h : Fin 8) (i : Fin 64) (e : Fin 128) :
    x.β (64 * c + i.val) h * ∑ r, invAt x c h r i * gathAt x c h r e = valueAt x (64 * (127 - c) + (63 - i.val)) h e := by
  have hi := i.isLt
  have e2 : 8191 - (64 * (127 - c) + (63 - i.val)) = 64 * c + i.val := by omega
  unfold invAt gathAt valueAt
  rw [(back_chunk x c hc h e).solve _ (ser_low _ _ _ (le_refl 64)) i, e2]
  unfold tok
  refine congrArg _ (sum_congr rfl fun j _ => ?_)
  rw [mul_comm (x.o _ _ _)]

/-- The closed form of the state's gradient before a chunk. -/
theorem chunk_state (c : ℕ) (hc : c < 128) (h : Fin 8) (d e : Fin 128) :
    stateAt x (64 * (127 - c)) h d e * Real.exp (pre (fun i : Fin 64 => x.g (64 * c + i.val) h) 64)
      + (∑ r : Fin 64, x.q (64 * c + r.val) h d * Real.exp (cum (fun i : Fin 64 => x.g (64 * c + i.val) h) r) * x.o (64 * c + r.val) h e)
      - (∑ r : Fin 64, (∑ i : Fin 64, invAt x c h r i * (x.k (64 * c + i.val) h d * x.β (64 * c + i.val) h
          * Real.exp (cum (fun i : Fin 64 => x.g (64 * c + i.val) h) i))) * gathAt x c h r e)
      = stateAt x (64 * (128 - c)) h d e := by
  have e1 : 64 * (128 - c) = 64 * (127 - c) + 64 := by omega
  rw [e1]
  exact (back_chunk x c hc h e).front _ (ser_low _ _ _ (le_refl 64)) d

/-- The rows of real arrays: head `h`'s lanes stand side by side. -/
def rowsOf (q k o : Fin 8192 → Fin 1024 → ℝ) (gb : Fin 8192 → Fin 128 → ℝ) : Rows where
  q t h d := q ⟨t % 8192, Nat.mod_lt _ (by decide)⟩ ⟨h.val * 128 + d.val, by omega⟩
  k t h d := k ⟨t % 8192, Nat.mod_lt _ (by decide)⟩ ⟨h.val * 128 + d.val, by omega⟩
  o t h d := o ⟨t % 8192, Nat.mod_lt _ (by decide)⟩ ⟨h.val * 128 + d.val, by omega⟩
  g t h := gb ⟨t % 8192, Nat.mod_lt _ (by decide)⟩ ⟨h.val, by omega⟩
  β t h := gb ⟨t % 8192, Nat.mod_lt _ (by decide)⟩ ⟨8 + h.val, by omega⟩

end Cert.Gdn

end
-- ==== Proof.Point.lean ====
/- One grid point at the reals: when what it loads is the rows' and the inverses', it stores the pass's gradients. -/
module

public import proofs.«01_k».proof.Proof.Loads
public import proofs.«01_k».proof.Proof.Reads
public import proofs.«01_k».proof.Proof.Token

@[expose] public section

noncomputable section

namespace Cert.KernelIdeal

open Idealize.ShloMosaic Idealize.SL.Sem
open Facts₀ Facts
open Cert.Gdn

variable [Facts]

theorem colOf_apply (x : Vec Ideal S64x128 .f32) (l : Fin 128) (r : Fin 64) : colOf x l (ix2 r 0) = x (ix2 r l) := by
  refine congrArg x (funext fun a => Fin.ext ?_)
  fin_cases a
  · show 0 + _ = _; simp
  · show l.val + 0 = _; simp

namespace Loads

/-- The point loads chunks `c` and `c + 1` of the rows `x`, their inverses, and the state's gradient after them. -/
structure Holding (x : Rows) (c : ℕ) (L : Loads Ideal) : Prop where
  q : ∀ s h r d, L.q s h (ix2 r d) = (x.q (64 * (c + s.val) + r.val) h d : EReal)
  k : ∀ s h r d, L.k s h (ix2 r d) = (x.k (64 * (c + s.val) + r.val) h d : EReal)
  o : ∀ s h r d, L.o s h (ix2 r d) = (x.o (64 * (c + s.val) + r.val) h d : EReal)
  gb : ∃ G : Fin 2 → Fin 64 → Fin 128 → ℝ, (∀ s r l, L.gb s (ix2 r l) = (G s r l : EReal))
    ∧ (∀ s r (h : Fin 8), G s r ⟨h.val, by omega⟩ = x.g (64 * (c + s.val) + r.val) h)
    ∧ ∀ s r (h : Fin 8), G s r ⟨8 + h.val, by omega⟩ = x.β (64 * (c + s.val) + r.val) h
  inv : ∀ s h r i, L.inv s h (ix4 0 0 r i) = (invAt x (c + s.val) h r i : EReal)
  ds : ∀ h d e, L.ds h (ix3 0 d e) = (stateAt x (64 * (127 - (c + 1))) h d e : EReal)

variable {x : Rows} {c : ℕ} {L : Loads Ideal} (H : Holding x c L)
include H

theorem Holding.sums (s : Fin 2) (h : Fin 8) (r : Fin 64) : colOf (runSums (L.gb s)) ⟨h.val, by omega⟩ (ix2 r 0)
    = (cum (fun i : Fin 64 => x.g (64 * (c + s.val) + i.val) h) r : EReal) := by
  obtain ⟨G, h1, h2, _⟩ := H.gb
  rw [colOf_apply, runSums_coe (h1 s)]
  simp only [h2]

theorem Holding.strength (s : Fin 2) (h : Fin 8) (r : Fin 64) : colOf (L.gb s) ⟨8 + h.val, by omega⟩ (ix2 r 0)
    = (x.β (64 * (c + s.val) + r.val) h : EReal) := by
  obtain ⟨G, h1, _, h3⟩ := H.gb
  rw [colOf_apply, h1, h3]

theorem Holding.gathered {s : Fin 2} {h : Fin 8} {ds : FVec Ideal S128x128 .f32}
    (hd : ∀ d e, ds (ix2 d e) = (stateAt x (64 * (127 - (c + s.val))) h d e : EReal)) (r : Fin 64) (e : Fin 128) :
    gathered (L.q s h) (L.k s h) (L.o s h) (L.gb s) h ds (ix2 r e) = (gathAt x (c + s.val) h r e : EReal) :=
  gathOf_coe (H.q s h) (H.k s h) (H.o s h) (H.sums s h) hd r e

theorem Holding.state {s : Fin 2} {h : Fin 8} {ds : FVec Ideal S128x128 .f32} (hc : c + s.val < 128)
    (hd : ∀ d e, ds (ix2 d e) = (stateAt x (64 * (127 - (c + s.val))) h d e : EReal)) (d e : Fin 128) :
    stateGrad (L.inv s h) (L.q s h) (L.k s h) (L.v s h) (L.o s h) (L.gb s) h ds (ix2 d e)
      = (stateAt x (64 * (128 - (c + s.val))) h d e : EReal) := by
  unfold stateGrad
  rw [frontOf_coe (H.q s h) (H.o s h) (wtsOf_coe (H.inv s h) (H.k s h) (H.sums s h) (H.strength s h)) (H.gathered hd) (H.sums s h) hd]
  exact congrArg _ (chunk_state x (c + s.val) hc h d e)

theorem Holding.after (hc : c + 1 < 128) (s : Fin 2) (h : Fin 8) (d e : Fin 128) :
    L.after s h (ix2 d e) = (stateAt x (64 * (127 - (c + s.val))) h d e : EReal) := by
  have h1 : ∀ d e, L.after 1 h (ix2 d e) = (stateAt x (64 * (127 - (c + 1))) h d e : EReal) := fun d e => by
    rw [← H.ds]
    show shapeCast S128x128 (L.ds h) shapeCasts_S1x128x128_S128x128 (ix2 d e) = _
    pointwise
  fin_cases s
  · refine (H.state (s := 1) hc h1 d e).trans ?_
    have : 128 - (c + (1 : Fin 2).val) = 127 - (c + 0) := by show 128 - (c + 1) = _; omega
    rw [this]
  · exact h1 d e

theorem Holding.value (hc : c + 1 < 128) (s : Fin 2) (h : Fin 8) (r : Fin 64) (e : Fin 128) :
    L.value s h (ix2 r e) = (valueAt x (64 * (127 - (c + s.val)) + (63 - r.val)) h e : EReal) := by
  unfold Loads.value valueGrad
  rw [dvOf_coe (H.inv s h) (H.gathered (H.after hc s h)) (H.strength s h)]
  exact congrArg _ (chunk_value x (c + s.val) (by omega) h r e)

theorem Holding.before (hc : c + 1 < 128) (h : Fin 8) (d e : Fin 128) :
    L.before 0 h (ix2 d e) = (stateAt x (64 * (128 - c)) h d e : EReal) :=
  H.state (s := 0) (by show c + 0 < 128; omega) (H.after hc 0 h) d e

end Loads

/-! The loads, element by element. -/

theorem ldRows_apply (a : Memref sig .tc .vmem S128x1024 .f32) (ha : a.IsWhole) (x : Vec Ideal S128x1024 .f32) (s : Fin 2)
    (h : Fin 8) (r : Fin 64) (d : Fin 128) :
    ldRows a ha x s h (ix2 r d) = x (ix2 ⟨64 * s.val + r.val, by omega⟩ ⟨128 * h.val + d.val, by omega⟩) := by
  unfold ldRows
  rw [View.readAt_apply, ha.read_unread]
  refine congrArg x (funext fun a => Fin.ext ?_)
  fin_cases a <;> exact congrArg (_ + ·) (Nat.one_mul _)

theorem ldGates_apply (a : Memref sig .tc .vmem S128x128 .f32) (ha : a.IsWhole) (x : Vec Ideal S128x128 .f32) (s : Fin 2)
    (r : Fin 64) (l : Fin 128) : ldGates a ha x s (ix2 r l) = x (ix2 ⟨64 * s.val + r.val, by omega⟩ l) := by
  unfold ldGates
  rw [View.readAt_apply, ha.read_unread]
  refine congrArg x (funext fun a => Fin.ext ?_)
  fin_cases a
  · exact congrArg (_ + ·) (Nat.one_mul _)
  · exact (congrArg (0 + ·) (Nat.one_mul _)).trans (Nat.zero_add _)

theorem ldInv_apply (a : Memref sig .tc .vmem S2x8x64x64 .f32) (ha : a.IsWhole) (x : Vec Ideal S2x8x64x64 .f32) (s : Fin 2)
    (h : Fin 8) (r i : Fin 64) : ldInv a ha x s h (ix4 0 0 r i) = x (ix4 s h r i) := by
  unfold ldInv
  rw [View.readAt_apply, ha.read_unread]
  refine congrArg x (funext fun a => Fin.ext ?_)
  fin_cases a
  · rfl
  · rfl
  · exact (congrArg (0 + ·) (Nat.one_mul _)).trans (Nat.zero_add _)
  · exact (congrArg (0 + ·) (Nat.one_mul _)).trans (Nat.zero_add _)

theorem ldGrad_apply (a : Memref sig .tc .vmem S8x128x128 .f32) (ha : a.IsWhole) (x : Vec Ideal S8x128x128 .f32)
    (h : Fin 8) (d e : Fin 128) : ldGrad a ha x h (ix3 0 d e) = x (ix3 h d e) := by
  unfold ldGrad
  rw [View.readAt_apply, ha.read_unread]
  refine congrArg x (funext fun a => Fin.ext ?_)
  fin_cases a
  · rfl
  · exact (congrArg (0 + ·) (Nat.one_mul _)).trans (Nat.zero_add _)
  · exact (congrArg (0 + ·) (Nat.one_mul _)).trans (Nat.zero_add _)

theorem rowsRect_emb (p : Fin 2 × Fin 8) (r : Fin 64) (d : Fin 128) :
    (Loads.rowsRect p).emb (ix2 r d) = ix2 ⟨64 * p.1.val + r.val, by omega⟩ ⟨128 * p.2.val + d.val, by omega⟩ := by
  refine funext fun a => Fin.ext ?_
  fin_cases a <;> exact congrArg (_ + ·) (Nat.one_mul _)

theorem gradRect_emb (h : Fin 8) (d e : Fin 128) : (Loads.gradRect h).emb (ix3 0 d e) = ix3 h d e := by
  refine funext fun a => Fin.ext ?_
  fin_cases a
  · rfl
  · exact (congrArg (0 + ·) (Nat.one_mul _)).trans (Nat.zero_add _)
  · exact (congrArg (0 + ·) (Nat.one_mul _)).trans (Nat.zero_add _)

end Cert.KernelIdeal

end
-- ==== Proof.HostInverse.lean ====
/- The host's lines before the kernel: the inverse of each chunk's triangular system, at an index and at the reals. -/
module

public import proofs.«01_k».proof.Proof.Reads
public import proofs.«01_k».proof.Proof.Token
public import proofs.«01_k».proof.Proof.Gen.KernelIdeal.Launch
public import Idealize.ShloMosaic.Lib.StableHlo.ReadAt

@[expose] public section

noncomputable section

namespace Cert.KernelIdeal.Host

open Idealize.ShloMosaic Idealize.SL.Sem
open Facts₀ Facts
open Cert.Gdn

/-- The contents of every buffer. -/
abbrev Vals (F : FTy → Type) [FloatOps F] := Valuation τ sig (Elt F)

variable {F : FTy → Type} [FloatOps F] [Facts]

/-- The host's product of square matrices, per chunk and head. -/
def times (x y : FVec F S128x8x64x64 .f32) : FVec F S128x8x64x64 .f32 :=
  Host.dotGeneral dot_S128x8x64x64_S128x8x64x64_S128x8x64x64_3_2_2_3_01_01 none x y

/-- The identity, for each chunk and head. -/
def eye : FVec F S128x8x64x64 .f32 :=
  broadcastInDim S128x8x64x64 ![0, 1, 2, 3] bcast_S1x1x64x64_S128x8x64x64_0_1_2_3 (broadcastInDim S1x1x64x64 ![2, 3]
    bcast_S64x64_S1x1x64x64_2_3 (uitofp .f32
    (cmpi .eq (addi (iotaInDim S64x64 32 0) (broadcastInDim S64x64 ![] bcast_S_S64x64 (constantI S_ 32 0#32)))
      (iotaInDim S64x64 32 1)) : FVec F S64x64 .f32))

/-- The host's product series. -/
def series (x : FVec F S128x8x64x64 .f32) : ℕ → FVec F S128x8x64x64 .f32 × FVec F S128x8x64x64 .f32
  | 0 => (x, addf eye x)
  | m + 1 => (times (series x m).1 (series x m).1, addf (series x m).2 (times (series x m).2 (times (series x m).1 (series x m).1)))

open Gen in
theorem after_series (X : Vals F) :
    StableHlo.after hostOps0_10 X (Proc.devRef .tc main_v51) = (series (Host.negf (X (Proc.devRef .tc main_v26) : FVec F S128x8x64x64 .f32)) 5).2 := by
  after_reads_simp
  rfl

theorem times_coe {x y : FVec Ideal S128x8x64x64 .f32} {n : Fin 128} {h : Fin 8} {A B : Matrix (Fin 64) (Fin 64) ℝ}
    (hx : ∀ r c, x (ix4 n h r c) = (A r c : EReal)) (hy : ∀ r c, y (ix4 n h r c) = (B r c : EReal)) (r c : Fin 64) :
    times x y (ix4 n h r c) = ((A * B) r c : EReal) := by
  pointwise [times]
  simp only [hx, hy, ← EReal.coe_mul, coe_sum, Matrix.mul_apply]

theorem foldl_adds {n : ℕ} (F : EReal → Fin n → EReal) (f : Fin n → EReal) (hF : ∀ r i, F r i = r + f i) :
    (List.finRange n).foldl F 0 = ∑ i, f i := by
  rw [funext fun r => funext (hF r), Fin.sum_univ_def, List.sum_eq_foldl, List.foldl_map]

theorem window_numel : (⟨3, ![1, 1, 64]⟩ : Shape).numel = 64 := by
  show ∏ a : Fin 3, (![1, 1, 64] : Fin 3 → Nat) a = 64
  rw [Fin.prod_univ_three]; rfl

theorem window_at (n : Fin (⟨3, ![1, 1, 64]⟩ : Shape).numel) :
    (⟨3, ![1, 1, 64]⟩ : Shape).rowMajor.symm n = ix3 (0 : Fin 1) (0 : Fin 1) (n.cast window_numel) :=
  ((⟨3, ![1, 1, 64]⟩ : Shape).rowMajor.symm_apply_eq).2 (Fin.ext (by
    rw [Shape.rowMajor_val_three]
    show n.val = _
    simp))

/-- The window that ends at `i` holds what lies up to and with `i`. -/
theorem window_sum (g : Fin 64 → ℝ) (i : Fin 64) :
    (∑ n : Fin 64, if h : 63 ≤ i.val + n.val then g ⟨i.val + n.val - 63, by omega⟩ else 0) = cum g i := by
  unfold cum
  rw [← Finset.sum_filter, Finset.sum_dite, Finset.sum_const_zero, add_zero]
  refine Finset.sum_bij' (fun n _ => (⟨i.val + n.1.val - 63, by have := n.1.isLt; omega⟩ : Fin 64))
    (fun j hj => ⟨⟨j.val + 63 - i.val, by
      have h1 := (Finset.mem_filter.mp hj).2; rw [Fin.le_def] at h1; omega⟩, ?_⟩) ?_ ?_ ?_ ?_ ?_
  · have h1 := (Finset.mem_filter.mp hj).2
    rw [Fin.le_def] at h1
    simp only [Finset.mem_filter, Finset.mem_univ, true_and]
    omega
  · intro n _
    simp only [Finset.mem_filter, Finset.mem_univ, true_and, Fin.le_def]
    have := n.1.isLt; omega
  · intro j hj
    exact Finset.mem_attach _ _
  · intro n _
    have h1 := (Finset.mem_filter.mp n.2).2
    have := n.1.isLt
    refine Subtype.ext (Fin.ext ?_)
    show i.val + n.1.val - 63 + 63 - i.val = n.1.val
    omega
  · intro j hj
    have h1 := (Finset.mem_filter.mp hj).2
    rw [Fin.le_def] at h1
    refine Fin.ext ?_
    show i.val + (j.val + 63 - i.val) - 63 = j.val
    omega
  · intro n _
    rfl

theorem running_coe {x : FVec Ideal S128x8x64 .f32} {v : FVec Ideal S_ .f32}
    (hw : S128x8x64.ReduceWindows ![1, 1, 64] ![1, 1, 1] ![0, 0, 63] ![0, 0, 0] S128x8x64) (hv : 0 < S_.numel)
    (h0 : v ix0 = 0) (n : Fin 128) (h : Fin 8)
    {g : Fin 64 → ℝ} (hx : ∀ j, x (ix3 n h j) = (g j : EReal)) (i : Fin 64) :
    Host.reduceWindowAdd ![1, 1, 64] ![1, 1, 1] ![0, 0, 63] ![0, 0, 0] x v hw hv (ix3 n h i) = (cum g i : EReal) := by
  have hv0 : v (Shape.Idx.first hv) = 0 := (congrArg v (funext fun a => a.elim0)).trans h0
  unfold Host.reduceWindowAdd
  rw [Ideal.hostReduceWindowAdd_def, hv0]
  unfold Ideal.hostReduceWindowAdd Host.reduceWindow
  refine (foldl_adds _ (fun k : Fin (⟨3, ![1, 1, 64]⟩ : Shape).numel => ((if h : 63 ≤ i.val + (k.cast window_numel).val
      then g ⟨i.val + (k.cast window_numel).val - 63, by have := (k.cast window_numel).isLt; omega⟩ else 0 : ℝ) : EReal))
    fun r k => ?_).trans ?_
  rotate_left
  · rw [coe_sum, ← window_sum g i]
    exact congrArg _ (Fintype.sum_equiv (finCongr window_numel) _ _ fun k => rfl)
  · refine congrArg (r + ·) ?_
    have hk := (k.cast window_numel).isLt
    have hi := i.isLt
    have e2 : ((⟨3, ![1, 1, 64]⟩ : Shape).rowMajor.symm k 2).val = (k.cast window_numel).val := by rw [window_at]; rfl
    have e1 : ((⟨3, ![1, 1, 64]⟩ : Shape).rowMajor.symm k 1).val = 0 := by rw [window_at]; rfl
    have e0 : ((⟨3, ![1, 1, 64]⟩ : Shape).rowMajor.symm k 0).val = 0 := by rw [window_at]; rfl
    dsimp only
    split
    · next hin =>
      have h2 := hin 2
      change 63 ≤ i.val * 1 + ((⟨3, ![1, 1, 64]⟩ : Shape).rowMajor.symm k 2).val ∧ _ at h2
      rw [e2] at h2
      rw [dif_pos (by omega), ← hx]
      refine congrArg x (funext fun a => Fin.ext ?_)
      match a with
      | ⟨0, _⟩ =>
        show n.val * 1 + ((⟨3, ![1, 1, 64]⟩ : Shape).rowMajor.symm k 0).val - 0 = n.val
        rw [e0]; omega
      | ⟨1, _⟩ =>
        show h.val * 1 + ((⟨3, ![1, 1, 64]⟩ : Shape).rowMajor.symm k 1).val - 0 = h.val
        rw [e1]; omega
      | ⟨2, _⟩ =>
        show i.val * 1 + ((⟨3, ![1, 1, 64]⟩ : Shape).rowMajor.symm k 2).val - 63 = _
        rw [e2]
        show i.val * 1 + (k.cast window_numel).val - 63 = i.val + (k.cast window_numel).val - 63
        omega
    · next hin =>
      rw [dif_neg fun hle => hin fun a => by
        match a with
        | ⟨0, _⟩ =>
          show 0 ≤ _ ∧ n.val * 1 + ((⟨3, ![1, 1, 64]⟩ : Shape).rowMajor.symm k 0).val - 0 < 128
          rw [e0]; omega
        | ⟨1, _⟩ =>
          show 0 ≤ _ ∧ h.val * 1 + ((⟨3, ![1, 1, 64]⟩ : Shape).rowMajor.symm k 1).val - 0 < 8
          rw [e1]; omega
        | ⟨2, _⟩ =>
          show 63 ≤ i.val * 1 + ((⟨3, ![1, 1, 64]⟩ : Shape).rowMajor.symm k 2).val
            ∧ i.val * 1 + ((⟨3, ![1, 1, 64]⟩ : Shape).rowMajor.symm k 2).val - 63 < 64
          rw [e2]; omega]
      rfl

theorem sge_strict : ∀ r c : Fin 64, IntOp.cmpi .sge (IntOp.addi (BitVec.ofNat 32 r.val) 4294967295#32) (BitVec.ofNat 32 c.val)
    = if c < r then 1#1 else 0#1 := by decide +kernel
theorem add_zero_word (a : BitVec 32) : IntOp.addi a 0#32 = a := BitVec.add_zero a

theorem eye_coe (n : Fin 128) (h : Fin 8) (r c : Fin 64) :
    (eye (F := Ideal)) (ix4 n h r c) = ((1 : Matrix (Fin 64) (Fin 64) ℝ) r c : EReal) := by
  pointwise [eye]
  rw [add_zero_word, eq_word, Matrix.one_apply]
  by_cases e : r = c
  · simp only [if_pos e]
    show (((1#1 : BitVec 1).toNat : ℝ) : EReal) = _
    norm_num
  · simp only [if_neg e]
    show (((0#1 : BitVec 1).toNat : ℝ) : EReal) = _
    norm_num

theorem series_coe {x : FVec Ideal S128x8x64x64 .f32} {n : Fin 128} {h : Fin 8} {A : Matrix (Fin 64) (Fin 64) ℝ}
    (hx : ∀ r c, x (ix4 n h r c) = (A r c : EReal)) (m : ℕ) :
    (∀ r c, (series x m).1 (ix4 n h r c) = ((ser A m).1 r c : EReal)) ∧
      ∀ r c, (series x m).2 (ix4 n h r c) = ((ser A m).2 r c : EReal) := by
  induction m with
  | zero =>
    refine ⟨hx, fun r c => ?_⟩
    pointwise [series]
    rw [eye_coe, hx, ← EReal.coe_add]; rfl
  | succ m ih =>
    have h1 := times_coe ih.1 ih.1
    refine ⟨h1, fun r c => ?_⟩
    pointwise [series]
    rw [ih.2, times_coe ih.2 h1, ← EReal.coe_add]; rfl

theorem pick (p : Prop) [Decidable p] (a b : EReal) :
    Scalar.select (Scalar.select (if p then 1#1 else 0#1) 1#1 0#1) a b = if p then a else b := by
  by_cases h : p <;> simp [h, Scalar.select]

theorem zero_word : (Ideal.ofBits .f32 0#32 : EReal) = 0 := by
  simp [Ideal.ofBits, Ideal.ieee]

open Gen in
theorem after_low (X : Vals Ideal) (n : Fin 128) (h : Fin 8) {k : Fin 64 → Fin 128 → ℝ} {g b : Fin 64 → ℝ}
    (hk : ∀ i d, X (Proc.devRef .tc main_arg1) (ix2 ⟨n.val * 64 + i.val, by omega⟩ ⟨h.val * 128 + d.val, by omega⟩) = (k i d : EReal))
    (hg : ∀ i, X (Proc.devRef .tc main_arg3) (ix2 ⟨n.val * 64 + i.val, by omega⟩ ⟨h.val, by omega⟩) = (g i : EReal))
    (hb : ∀ i, X (Proc.devRef .tc main_arg3) (ix2 ⟨n.val * 64 + i.val, by omega⟩ ⟨8 + h.val, by omega⟩) = (b i : EReal))
    (r c : Fin 64) :
    StableHlo.after (hostOps0 ++ (hostOps0_1 ++ (hostOps0_2 ++ (hostOps0_3 ++ (hostOps0_4 ++ (hostOps0_5 ++ (hostOps0_6
      ++ (hostOps0_7 ++ (hostOps0_8 ++ hostOps0_9))))))))) X (Proc.devRef .tc main_v26) (ix4 n h r c) = (low k g b r c : EReal) := by
  after_reads_at
  rw [running_coe _ _ (by pointwise) n h (g := g) (fun j => by pointwise; exact hg j),
    running_coe _ _ (by pointwise) n h (g := g) (fun j => by pointwise; exact hg j)]
  simp only [hk, hb, sge_strict, add_zero_word, sge_word, pick, ← EReal.coe_mul, coe_sum, ← EReal.coe_sub]
  simp only [id_eq]
  pointwise
  rw [neg_inf]
  unfold low dec
  by_cases h1 : c < r
  · simp only [if_pos h1, if_pos h1.le, Ideal.exp_coe, ← EReal.coe_mul]
  · simp only [if_neg h1]; rfl

theorem neg_coe {x : FVec Ideal S128x8x64x64 .f32} {n : Fin 128} {h : Fin 8} {A : Matrix (Fin 64) (Fin 64) ℝ}
    (hx : ∀ r c, x (ix4 n h r c) = (A r c : EReal)) (r c : Fin 64) : Host.negf x (ix4 n h r c) = ((-A) r c : EReal) := by
  pointwise
  rw [hx, ← EReal.coe_neg]
  rfl

theorem after_split (ops ops' : List (HloOp τ sig (Elt F))) (X : Vals F) :
    StableHlo.after (ops ++ ops') X = StableHlo.after ops' (StableHlo.after ops X) := by
  induction ops generalizing X with
  | nil => rfl
  | cons op ops ih => exact ih (op.result X)

open Gen in
/-- The inverses that the host hands to the kernel. -/
theorem after_inverse (X : Vals Ideal) (n : Fin 128) (h : Fin 8) {k : Fin 64 → Fin 128 → ℝ} {g b : Fin 64 → ℝ}
    (hk : ∀ i d, X (Proc.devRef .tc main_arg1) (ix2 ⟨n.val * 64 + i.val, by omega⟩ ⟨h.val * 128 + d.val, by omega⟩) = (k i d : EReal))
    (hg : ∀ i, X (Proc.devRef .tc main_arg3) (ix2 ⟨n.val * 64 + i.val, by omega⟩ ⟨h.val, by omega⟩) = (g i : EReal))
    (hb : ∀ i, X (Proc.devRef .tc main_arg3) (ix2 ⟨n.val * 64 + i.val, by omega⟩ ⟨8 + h.val, by omega⟩) = (b i : EReal))
    (r c : Fin 64) :
    StableHlo.after (List.flatten [hostOps0, hostOps0_1, hostOps0_2, hostOps0_3, hostOps0_4, hostOps0_5, hostOps0_6,
      hostOps0_7, hostOps0_8, hostOps0_9, hostOps0_10]) X (Proc.devRef .tc main_v51) (ix4 n h r c)
      = ((ser (-low k g b) 5).2 r c : EReal) := by
  have e : List.flatten [hostOps0, hostOps0_1, hostOps0_2, hostOps0_3, hostOps0_4, hostOps0_5, hostOps0_6, hostOps0_7,
      hostOps0_8, hostOps0_9, hostOps0_10 (F := Ideal)] = (hostOps0 ++ (hostOps0_1 ++ (hostOps0_2 ++ (hostOps0_3
        ++ (hostOps0_4 ++ (hostOps0_5 ++ (hostOps0_6 ++ (hostOps0_7 ++ (hostOps0_8 ++ hostOps0_9))))))))) ++ hostOps0_10 := by
    simp only [List.flatten_cons, List.flatten_nil, List.append_nil, List.append_assoc]
  rw [e, after_split]
  exact (congrFun (after_series _) _).trans ((series_coe (neg_coe (after_low X n h hk hg hb)) 5).2 r c)

end Cert.KernelIdeal.Host
-- ==== Proof.Grid.lean ====
/- Every grid point of the kernel, at the reals: the first one holds the last two chunks, and each one hands the state's
   gradient on to the next. -/
module

public import proofs.«01_k».proof.Proof.Pieces
public import proofs.«01_k».proof.Proof.Point
public import proofs.«01_k».proof.Proof.HostInverse

@[expose] public section

noncomputable section

namespace Cert.KernelIdeal.Value

open Cert.KernelIdeal Cert.KernelIdeal.Gen Idealize.ShloMosaic Idealize.ShloMosaic.TcCoe Idealize.SL.Sem
open Cert.Gdn

/-! What the stores of a point leave behind. -/

theorem value_read {sp : Space} (v : View sig .tc sp S128x1024 .f32) (f : v.ty.Contents (Elt Ideal)) {x : Rows} {c : ℕ}
    {L : Loads Ideal} (H : Loads.Holding x c L) (hc : c + 1 < 128) (r : Fin 128) (l : Fin 1024) :
    v.read (Elt Ideal) (v.writes (Elt Ideal) f L.valuePieces) (ix2 r l)
      = (valueAt x (8191 - (64 * c + r.val)) ⟨l.val / 128, by omega⟩ ⟨l.val % 128, by omega⟩ : EReal) := by
  have e : (ix2 r l : S128x1024.Idx) = (Loads.rowsRect (⟨r.val / 64, by omega⟩, ⟨l.val / 128, by omega⟩)).emb
      (ix2 (⟨r.val % 64, by omega⟩ : Fin 64) (⟨l.val % 128, by omega⟩ : Fin 128)) := by
    rw [rowsRect_emb]
    refine congrArg₂ ix2 (Fin.ext ?_) (Fin.ext ?_)
    · show r.val = 64 * (r.val / 64) + r.val % 64; omega
    · show l.val = 128 * (l.val / 128) + l.val % 128; omega
  refine View.read_writes_apply_of_pieces (v := v) (f := f) (fun y : S128x1024.Idx => (valueAt x (8191 - (64 * c + (y 0).val))
    ⟨(y 1).val / 128, by have : (y 1).val < 1024 := (y 1).isLt; omega⟩ ⟨(y 1).val % 128, by omega⟩ : EReal)) L.valuePieces ?_ (ix2 r l) ?_
  · intro p hp
    obtain ⟨⟨s, h⟩, -, rfl⟩ := List.mem_map.mp hp
    intro (y : S64x128.Idx)
    obtain ⟨r, e, rfl⟩ : ∃ (r : Fin 64) (e : Fin 128), y = ix2 r e := ⟨y 0, y 1, (ValueIdx.eq_ix2 y)⟩
    refine (H.value hc s h r e).trans ?_
    dsimp only
    rw [rowsRect_emb (s, h) r e]
    have h1 : 64 * (127 - (c + s.val)) + (63 - r.val) = 8191 - (64 * c + (64 * s.val + r.val)) := by
      have := s.isLt; have := r.isLt; omega
    have h2 : (⟨(128 * h.val + e.val) / 128, by omega⟩ : Fin 8) = h := Fin.ext (by show (128 * h.val + e.val) / 128 = h.val; omega)
    have h3 : (⟨(128 * h.val + e.val) % 128, by omega⟩ : Fin 128) = e := Fin.ext (by show (128 * h.val + e.val) % 128 = e.val; omega)
    rw [h1]
    exact congrArg₂ (fun h e => ((valueAt x (8191 - (64 * c + (64 * s.val + r.val))) h e : ℝ) : EReal)) h2.symm h3.symm
  · refine ⟨⟨Loads.rowsRect (⟨r.val / 64, by omega⟩, ⟨l.val / 128, by omega⟩), L.value _ _⟩, List.mem_map.mpr ⟨_, ?_, rfl⟩, ?_⟩
    · generalize (⟨r.val / 64, _⟩ : Fin 2) = s
      generalize (⟨l.val / 128, _⟩ : Fin 8) = h
      revert s h; decide
    · rw [e]; exact LoadRect.idx_mem _ _

theorem grad_read {sp : Space} (v : View sig .tc sp S8x128x128 .f32) (f : v.ty.Contents (Elt Ideal)) {x : Rows} {c : ℕ}
    {L : Loads Ideal} (H : Loads.Holding x c L) (hc : c + 1 < 128) (h : Fin 8) (d e : Fin 128) :
    v.read (Elt Ideal) (v.writes (Elt Ideal) f L.gradPieces) (ix3 h d e) = (stateAt x (64 * (128 - c)) h d e : EReal) := by
  refine View.read_writes_apply_of_pieces (v := v) (f := f) (fun y : S8x128x128.Idx => (stateAt x (64 * (128 - c)) (y 0) (y 1) (y 2) : EReal))
    L.gradPieces ?_ (ix3 h d e) ?_
  · intro p hp
    obtain ⟨h, -, rfl⟩ := List.mem_map.mp hp
    intro (y : S1x128x128.Idx)
    obtain ⟨a, d, e, rfl⟩ : ∃ (a : Fin 1) (d e : Fin 128), y = ix3 a d e := ⟨y 0, y 1, y 2, (ValueIdx.eq_ix3 y)⟩
    obtain rfl : a = 0 := Subsingleton.elim _ _
    dsimp only
    rw [gradRect_emb h d e]
    refine Eq.trans ?_ (H.before hc h d e)
    pointwise
  · refine ⟨⟨Loads.gradRect h, _⟩, List.mem_map.mpr ⟨h, ?_, rfl⟩, ?_⟩
    · revert h; decide
    · rw [← gradRect_emb h d e]; exact LoadRect.idx_mem _ _

theorem zeros_read (v : View sig .tc .vmem S8x128x128 .f32) (f : v.ty.Contents (Elt Ideal)) (y : S8x128x128.Idx) :
    v.read (Elt Ideal) (v.writes (Elt Ideal) f (kernelRun0_A.sl.HS0_1 (F := Ideal))) y = (0 : EReal) := by
  refine View.read_writes_apply_of_pieces (v := v) (f := f) (fun _ => (0 : EReal)) (kernelRun0_A.sl.HS0_1 (F := Ideal)) ?_ y
    (View.cover_of_wholeMem (kernelRun0_A.sl.HS0_1 (F := Ideal)) (by sl_whole_mem) y)
  intro p hp y
  unfold kernelRun0_A.sl.HS0_1 at hp
  obtain rfl := List.mem_singleton.mp hp
  exact Host.zero_word

theorem zeroGrad_apply (a : Memref sig .tc .vmem S8x128x128 .f32) (h : Fin 8) (d e : Fin 128) :
    zeroGrad (F := Ideal) a h (ix3 0 d e) = 0 :=
  (View.readAt_apply _ _ _).trans (zeros_read a.view _ _)

/-! The windows' blocks. -/

variable (m : (ℓ : Loc nD τ sig) → Buf (Elt Ideal) ℓ)

theorem index_facts : ∀ t : Fin cfg0.N, (win0_0.index t 0 = 63 - t.val ∧ win0_0.index t 1 = 0)
    ∧ (win0_1.index t 0 = 63 - t.val ∧ win0_1.index t 1 = 0) ∧ (win0_3.index t 0 = 63 - t.val ∧ win0_3.index t 1 = 0)
    ∧ (win0_4.index t 0 = 63 - t.val ∧ win0_4.index t 1 = 0) ∧ (win0_9.index t 0 = 63 - t.val ∧ win0_9.index t 1 = 0)
    ∧ (win0_6.index t 0 = 63 - t.val ∧ win0_6.index t 1 = 0 ∧ win0_6.index t 2 = 0 ∧ win0_6.index t 3 = 0) :=
  (by decide +kernel : ∀ t : Fin grid0.N, _)

theorem pt_lt (t : Fin cfg0.N) : t.val < 64 := lt_of_lt_of_eq t.isLt N_0

/-- Row `r` of point `t`'s blocks. -/
def row (t : Fin cfg0.N) (r : Fin 128) : Fin 8192 := ⟨(63 - t.val) * 128 + r.val, by have := pt_lt t; omega⟩

theorem index_row {n : ℕ} {f : Fin 2 → ℕ} {t : Fin cfg0.N} (hf : f 0 = 63 - t.val ∧ f 1 = 0) (r : Fin 128) (l : Fin n) {i : (⟨2, ![8192, n]⟩ : Shape).Idx}
    (h0 : (i 0).val = f 0 * 128 + 1 * r.val) (h1 : (i 1).val = f 1 * n + 1 * l.val) : i = ix2 (row t r) l := by
  refine funext fun a => Fin.ext ?_
  fin_cases a
  · exact h0.trans (by rw [hf.1, Nat.one_mul]; rfl)
  · exact h1.trans (by rw [hf.2, Nat.one_mul, Nat.zero_mul, Nat.zero_add]; rfl)

theorem block0 (c : Dev nD) (t : Fin cfg0.N) (r : Fin 128) (l : Fin 1024) : (iblk m c 0 t : Vec Ideal S128x1024 .f32) (ix2 r l)
    = m ((c : Thread nD τ).loc main_arg0) (ix2 (row t r) l) :=
  (congrArg (V m c main_arg0) (index_row (index_facts t).1 r l rfl rfl)).trans (congrFun (V_main_arg0 m c) _)

theorem block1 (c : Dev nD) (t : Fin cfg0.N) (r : Fin 128) (l : Fin 1024) : (iblk m c 1 t : Vec Ideal S128x1024 .f32) (ix2 r l)
    = m ((c : Thread nD τ).loc main_arg1) (ix2 (row t r) l) :=
  (congrArg (V m c main_arg1) (index_row (index_facts t).2.1 r l rfl rfl)).trans (congrFun (V_main_arg1 m c) _)

theorem block3 (c : Dev nD) (t : Fin cfg0.N) (r : Fin 128) (l : Fin 128) : (iblk m c 3 t : Vec Ideal S128x128 .f32) (ix2 r l)
    = m ((c : Thread nD τ).loc main_arg3) (ix2 (row t r) l) :=
  (congrArg (V m c main_arg3) (index_row (index_facts t).2.2.1 r l rfl rfl)).trans (congrFun (V_main_arg3 m c) _)

theorem block4 (c : Dev nD) (t : Fin cfg0.N) (r : Fin 128) (l : Fin 1024) : (iblk m c 4 t : Vec Ideal S128x1024 .f32) (ix2 r l)
    = m ((c : Thread nD τ).loc main_arg4) (ix2 (row t r) l) :=
  (congrArg (V m c main_arg4) (index_row (index_facts t).2.2.2.1 r l rfl rfl)).trans (congrFun (V_main_arg4 m c) _)

theorem inverse_read (f : Vec Ideal S128x8x64x64 .f32) (t : Fin cfg0.N) (s : Fin 2) (h : Fin 8) (r i : Fin 64) :
    (win0_6.blk t).view.read (Elt Ideal) f (ix4 s h r i) = f (ix4 (⟨(63 - t.val) * 2 + s.val, by have := pt_lt t; omega⟩ : Fin 128) h r i) := by
  have hi := (index_facts t).2.2.2.2.2
  refine congrArg f (funext fun a => Fin.ext ?_)
  fin_cases a
  · show win0_6.index t 0 * 2 + 1 * s.val = (63 - t.val) * 2 + s.val
    rw [hi.1, Nat.one_mul]
  · show win0_6.index t 1 * 8 + 1 * h.val = h.val
    rw [hi.2.1, Nat.one_mul, Nat.zero_mul, Nat.zero_add]
  · show win0_6.index t 2 * 64 + 1 * r.val = r.val
    rw [hi.2.2.1, Nat.one_mul, Nat.zero_mul, Nat.zero_add]
  · show win0_6.index t 3 * 64 + 1 * i.val = i.val
    rw [hi.2.2.2, Nat.one_mul, Nat.zero_mul, Nat.zero_add]

theorem block6 (c : Dev nD) (t : Fin cfg0.N) (s : Fin 2) (h : Fin 8) (r i : Fin 64) : (iblk m c 6 t : Vec Ideal S2x8x64x64 .f32) (ix4 s h r i)
    = V m c main_v51 (ix4 (⟨(63 - t.val) * 2 + s.val, by have := pt_lt t; omega⟩ : Fin 128) h r i) :=
  inverse_read (V m c main_v51) t s h r i

/-! The points in turn, over real arguments. -/

variable {q k o : Fin 8192 → Fin 1024 → ℝ} {gb : Fin 8192 → Fin 128 → ℝ}

/-- The arguments on core `c` are real. -/
structure Args (c : Dev nD) (q k o : Fin 8192 → Fin 1024 → ℝ) (gb : Fin 8192 → Fin 128 → ℝ) : Prop where
  q : ∀ t l, m ((c : Thread nD τ).loc main_arg0) (ix2 t l) = (q t l : EReal)
  k : ∀ t l, m ((c : Thread nD τ).loc main_arg1) (ix2 t l) = (k t l : EReal)
  gb : ∀ t l, m ((c : Thread nD τ).loc main_arg3) (ix2 t l) = (gb t l : EReal)
  o : ∀ t l, m ((c : Thread nD τ).loc main_arg4) (ix2 t l) = (o t l : EReal)

/-- A real array read at a row that is named otherwise. -/
theorem at_row {n : ℕ} (f : Fin 8192 → Fin n → ℝ) {t : Fin 8192} {l l' : Fin n} {T : ℕ} (ht : t.val = T) (hl : l.val = l'.val) :
    ((f t l : ℝ) : EReal) = (f ⟨T % 8192, Nat.mod_lt _ (by decide)⟩ l' : ℝ) := by
  subst ht
  obtain rfl := Fin.ext hl
  exact congrArg (fun t => ((f t l : ℝ) : EReal)) (Fin.ext (Nat.mod_eq_of_lt t.isLt).symm)

variable {m} {c : Dev nD} (A : Args m c q k o gb)
include A

theorem Args.inverse (n : Fin 128) (h : Fin 8) (r i : Fin 64) :
    V m c main_v51 (ix4 n h r i) = (invAt (rowsOf q k o gb) n.val h r i : EReal) :=
  Host.after_inverse (fun b => m (c, b)) n h
    (fun i d => (A.k _ _).trans (at_row k (by show n.val * 64 + i.val = 64 * n.val + i.val; omega) rfl))
    (fun i => (A.gb _ _).trans (at_row gb (by show n.val * 64 + i.val = 64 * n.val + i.val; omega) rfl))
    (fun i => (A.gb _ _).trans (at_row gb (by show n.val * 64 + i.val = 64 * n.val + i.val; omega) rfl)) r i

theorem Args.holding (t : Fin cfg0.N) {ds : Fin 8 → Vec Ideal S1x128x128 .f32}
    (hds : ∀ h d e, ds h (ix3 0 d e) = (stateAt (rowsOf q k o gb) (128 * t.val) h d e : EReal)) :
    Loads.Holding (rowsOf q k o gb) (2 * (63 - t.val)) (loads (ms0_0 t) (hs0_0 t) (ms0_1 t) (hs0_1 t) (ms0_2 t) (hs0_2 t)
      (ms0_3 t) (hs0_3 t) (ms0_4 t) (hs0_4 t) (ms0_5 t) (hs0_5 t) (ms0_6 t) (hs0_6 t) (iblk m c 0 t) (iblk m c 1 t) (iblk m c 2 t)
      (iblk m c 3 t) (iblk m c 4 t) (iblk m c 5 t) (iblk m c 6 t) ds) := by
  have ht := pt_lt t
  have hr : ∀ (s : Fin 2) (r : Fin 64), (row t ⟨64 * s.val + r.val, by omega⟩).val = 64 * (2 * (63 - t.val) + s.val) + r.val := fun s r => by
    show (63 - t.val) * 128 + (64 * s.val + r.val) = _; omega
  refine ⟨fun s h r d => ?_, fun s h r d => ?_, fun s h r d => ?_, ⟨fun s r l => gb (row t ⟨64 * s.val + r.val, by omega⟩) l,
    fun s r l => ?_, fun s r h => ?_, fun s r h => ?_⟩, fun s h r i => ?_, fun h d e => ?_⟩
  · exact (ldRows_apply (ms0_0 t) (hs0_0 t) (iblk m c 0 t) s h r d).trans ((block0 m c t _ _).trans ((A.q _ _).trans (at_row q (hr s r) (congrArg (· + d.val) (Nat.mul_comm _ _)))))
  · exact (ldRows_apply (ms0_1 t) (hs0_1 t) (iblk m c 1 t) s h r d).trans ((block1 m c t _ _).trans ((A.k _ _).trans (at_row k (hr s r) (congrArg (· + d.val) (Nat.mul_comm _ _)))))
  · exact (ldRows_apply (ms0_4 t) (hs0_4 t) (iblk m c 4 t) s h r d).trans ((block4 m c t _ _).trans ((A.o _ _).trans (at_row o (hr s r) (congrArg (· + d.val) (Nat.mul_comm _ _)))))
  · exact (ldGates_apply (ms0_3 t) (hs0_3 t) (iblk m c 3 t) s r l).trans ((block3 m c t _ _).trans (A.gb _ _))
  · exact EReal.coe_injective (at_row gb (hr s r) rfl)
  · exact EReal.coe_injective (at_row gb (hr s r) rfl)
  · refine (ldInv_apply (ms0_6 t) (hs0_6 t) (iblk m c 6 t) s h r i).trans ((block6 m c t s h r i).trans ((A.inverse _ h r i).trans ?_))
    have : (63 - t.val) * 2 + s.val = 2 * (63 - t.val) + s.val := by omega
    dsimp only
    rw [this]
  · refine (hds h d e).trans ?_
    have : 128 * t.val = 64 * (127 - (2 * (63 - t.val) + 1)) := by omega
    rw [this]

/-- The carried gradient after each point. -/
theorem Args.carried : ∀ (n : ℕ) (t : Fin cfg0.N), t.val = n → ∀ h d e,
    (outsAt0 m c t.val t.isLt).2.2.2.2 (ix3 h d e) = (stateAt (rowsOf q k o gb) (128 * (n + 1)) h d e : EReal) := by
  intro n
  induction n with
  | zero =>
    intro t ht h d e
    have h0 : t.val % 64 = 0 := by rw [ht]
    rw [outsAt0_A m c t h0]
    unfold sout0_A_0
    dsimp only
    rw [grad_A, View.writes_append]
    refine (grad_read _ _ (A.holding t fun h d e => ?_) (by omega) h d e).trans ?_
    · rw [zeroGrad_apply, ht]; rfl
    · rw [ht]
  | succ n ih =>
    intro t ht h d e
    have hlt := pt_lt t
    have h0 : ¬t.val % 64 = 0 := by omega
    rw [outsAt0_B m c t h0]
    unfold sout0_B_0
    dsimp only
    rw [grad_B]
    refine (grad_read _ _ (A.holding t fun h d e => ?_) (by omega) h d e).trans ?_
    · refine (ldGrad_apply _ _ _ h d e).trans ((ih ⟨t.val - 1, Nat.lt_of_le_of_lt (Nat.sub_le _ _) t.isLt⟩ (by show t.val - 1 = n; omega) h d e).trans ?_)
      rw [ht]
    · have : 64 * (128 - 2 * (63 - t.val)) = 128 * (n + 1 + 1) := by omega
      rw [this]

/-- What each point writes of the values' gradient. -/
theorem Args.flushed (t : Fin cfg0.N) (r : Fin 128) (l : Fin 1024) : (outsAt0 m c t.val t.isLt).2.2.1 (ix2 r l)
    = (valueAt (rowsOf q k o gb) (8191 - (row t r).val) ⟨l.val / 128, by omega⟩ ⟨l.val % 128, by omega⟩ : EReal) := by
  have hlt := pt_lt t
  have hrow : 64 * (2 * (63 - t.val)) + r.val = (row t r).val := by
    show _ = (63 - t.val) * 128 + r.val; omega
  by_cases h0 : t.val % 64 = 0
  · rw [outsAt0_A m c t h0]
    unfold out0_A_9
    dsimp only
    rw [value_A]
    refine (value_read _ _ (A.holding t fun h d e => ?_) (by omega) r l).trans (by rw [hrow])
    rw [zeroGrad_apply, show t.val = 0 by omega]; rfl
  · rw [outsAt0_B m c t h0]
    unfold out0_B_9
    dsimp only
    rw [value_B]
    refine (value_read _ _ (A.holding t fun h d e => ?_) (by omega) r l).trans (by rw [hrow])
    refine (ldGrad_apply _ _ _ h d e).trans ((A.carried (t.val - 1) ⟨t.val - 1, Nat.lt_of_le_of_lt (Nat.sub_le _ _) t.isLt⟩ rfl h d e).trans ?_)
    rw [show t.val - 1 + 1 = t.val by omega]

/-- The values' gradient after the run. -/
theorem Args.result (t : Fin 8192) (l : Fin 1024) : (dats m 0 c).arrAt 9 cfg0.N (ix2 t l)
    = (valueAt (rowsOf q k o gb) (8191 - t.val) ⟨l.val / 128, by omega⟩ ⟨l.val % 128, by omega⟩ : EReal) := by
  have hp : 63 - t.val / 128 < cfg0.N := lt_of_lt_of_eq (by omega) N_0.symm
  have hrow : row ⟨63 - t.val / 128, hp⟩ ⟨t.val % 128, by omega⟩ = t := Fin.ext (by
    show (63 - (63 - t.val / 128)) * 128 + t.val % 128 = t.val
    have := t.isLt; omega)
  have hb := congrFun (blocks9 m c ⟨63 - t.val / 128, hp⟩ (flush0_9 _)) (ix2 (⟨t.val % 128, by omega⟩ : Fin 128) l)
  rw [flushed9] at hb
  have he : ((dats m 0 c).arrAt 9 cfg0.N : S8192x1024.Idx → EReal) (ix2 (row ⟨63 - t.val / 128, hp⟩ ⟨t.val % 128, by omega⟩) l)
      = (outsAt0 m c (63 - t.val / 128) hp).2.2.1 (ix2 (⟨t.val % 128, by omega⟩ : Fin 128) l) :=
    (congrArg ((dats m 0 c).arrAt 9 cfg0.N : S8192x1024.Idx → EReal)
      (index_row (index_facts _).2.2.2.2.1 (⟨t.val % 128, by omega⟩ : Fin 128) l rfl rfl).symm).trans hb
  rw [A.flushed ⟨63 - t.val / 128, hp⟩, hrow] at he
  exact he

end Cert.KernelIdeal.Value

end
-- ==== Proof.RefStep.lean ====
/- One trip of the reference `ReferenceIdeal`'s loop as
   standalone definitions: the state a trip hands the next (the carried values the body writes, less the counters, which
   hold the trip's number; and the loop's constants that are computed from an argument of @main, which no trip changes), every value @main computes before the loop without reading an argument (`K_…`), every value it computes there from the arguments as a function of them (`A_…`), every
   operation of the body before its last stretch its own value (`b‹k› j s`, in the body's order, of the trip's number `j`
   and the state `s`), `init` and `step`. -/
module

public import proofs.«01_k».proof.ReferenceIdeal
public import proofs.«01_k».proof.Proof.Gen.ReferenceIdeal

@[expose] public section

noncomputable section

namespace Cert.ReferenceIdeal.Step

open Idealize.ShloMosaic Cert.ReferenceIdeal Cert.ReferenceIdeal.Gen

variable {F : FTy → Type} [FloatOps F]

/-- What a trip hands the next. -/
structure State (F : FTy → Type) [FloatOps F] where
  main_v14_6 : (⟨S8x128x128, .f32⟩ : BufTy).Contents (Elt F)
  main_v14_7 : (⟨S8192x8x128, .f32⟩ : BufTy).Contents (Elt F)
  main_v14_0 : (⟨S8192x8x128, .f32⟩ : BufTy).Contents (Elt F)
  main_v14_1 : (⟨S8192x8x128x1, .f32⟩ : BufTy).Contents (Elt F)
  main_v14_2 : (⟨S8192x8x1, .f32⟩ : BufTy).Contents (Elt F)
  main_v14_3 : (⟨S8192x8x1x1, .f32⟩ : BufTy).Contents (Elt F)
  main_v14_4 : (⟨S8192x8x128x1, .f32⟩ : BufTy).Contents (Elt F)

/-! What @main computes before the loop without reading an argument. -/

def K_main_cst : (⟨S_, .f32⟩ : BufTy).Contents (Elt F) := constant S_ .f32 0x00000000#32
def K_main_v8 : (⟨S8x128x128, .f32⟩ : BufTy).Contents (Elt F) := broadcastInDim S8x128x128 ![] bcast_S_S8x128x128 ((K_main_cst (F := F)))
def K_main_cst_0 : (⟨S_, .f32⟩ : BufTy).Contents (Elt F) := constant S_ .f32 0x00000000#32
def K_main_v12 : (⟨S8x128x128, .f32⟩ : BufTy).Contents (Elt F) := broadcastInDim S8x128x128 ![] bcast_S_S8x128x128 ((K_main_cst_0 (F := F)))
def K_main_cst_1 : (⟨S_, .f32⟩ : BufTy).Contents (Elt F) := constant S_ .f32 0x00000000#32
def K_main_v13 : (⟨S8192x8x128, .f32⟩ : BufTy).Contents (Elt F) := broadcastInDim S8192x8x128 ![] bcast_S_S8192x8x128 ((K_main_cst_1 (F := F)))
def K_main_c : (⟨S_, .i32⟩ : BufTy).Contents (Elt F) := constantI S_ 32 0#32

/-! What @main computes before the loop from its arguments, as functions of them. -/

def A_main_v0 (main_arg0 : (⟨S8192x1024, .f32⟩ : BufTy).Contents (Elt F)) (main_arg1 : (⟨S8192x1024, .f32⟩ : BufTy).Contents (Elt F)) (main_arg3 : (⟨S8192x128, .f32⟩ : BufTy).Contents (Elt F)) (main_arg4 : (⟨S8192x1024, .f32⟩ : BufTy).Contents (Elt F)) : (⟨S8192x8x128, .f32⟩ : BufTy).Contents (Elt F) := shapeCast _ (main_arg0) shapeCasts_S8192x1024_S8192x8x128
def A_main_v1 (main_arg0 : (⟨S8192x1024, .f32⟩ : BufTy).Contents (Elt F)) (main_arg1 : (⟨S8192x1024, .f32⟩ : BufTy).Contents (Elt F)) (main_arg3 : (⟨S8192x128, .f32⟩ : BufTy).Contents (Elt F)) (main_arg4 : (⟨S8192x1024, .f32⟩ : BufTy).Contents (Elt F)) : (⟨S8192x8x128, .f32⟩ : BufTy).Contents (Elt F) := shapeCast _ (main_arg1) shapeCasts_S8192x1024_S8192x8x128
def A_main_v3 (main_arg0 : (⟨S8192x1024, .f32⟩ : BufTy).Contents (Elt F)) (main_arg1 : (⟨S8192x1024, .f32⟩ : BufTy).Contents (Elt F)) (main_arg3 : (⟨S8192x128, .f32⟩ : BufTy).Contents (Elt F)) (main_arg4 : (⟨S8192x1024, .f32⟩ : BufTy).Contents (Elt F)) : (⟨S8192x8x128, .f32⟩ : BufTy).Contents (Elt F) := shapeCast _ (main_arg4) shapeCasts_S8192x1024_S8192x8x128
def A_main_v4 (main_arg0 : (⟨S8192x1024, .f32⟩ : BufTy).Contents (Elt F)) (main_arg1 : (⟨S8192x1024, .f32⟩ : BufTy).Contents (Elt F)) (main_arg3 : (⟨S8192x128, .f32⟩ : BufTy).Contents (Elt F)) (main_arg4 : (⟨S8192x1024, .f32⟩ : BufTy).Contents (Elt F)) : (⟨S8192x8, .f32⟩ : BufTy).Contents (Elt F) := extractStridedSlice S8192x8 ![0, 0] (main_arg3) slices_S8192x128_S8192x8_0_0
def A_main_v5 (main_arg0 : (⟨S8192x1024, .f32⟩ : BufTy).Contents (Elt F)) (main_arg1 : (⟨S8192x1024, .f32⟩ : BufTy).Contents (Elt F)) (main_arg3 : (⟨S8192x128, .f32⟩ : BufTy).Contents (Elt F)) (main_arg4 : (⟨S8192x1024, .f32⟩ : BufTy).Contents (Elt F)) : (⟨S8192x8, .f32⟩ : BufTy).Contents (Elt F) := extractStridedSlice S8192x8 ![0, 8] (main_arg3) slices_S8192x128_S8192x8_0_8
def A_main_v6 (main_arg0 : (⟨S8192x1024, .f32⟩ : BufTy).Contents (Elt F)) (main_arg1 : (⟨S8192x1024, .f32⟩ : BufTy).Contents (Elt F)) (main_arg3 : (⟨S8192x128, .f32⟩ : BufTy).Contents (Elt F)) (main_arg4 : (⟨S8192x1024, .f32⟩ : BufTy).Contents (Elt F)) : (⟨S8192x8, .f32⟩ : BufTy).Contents (Elt F) := Host.exp ((A_main_v4 main_arg0 main_arg1 main_arg3 main_arg4))
def A_main_v7 (main_arg0 : (⟨S8192x1024, .f32⟩ : BufTy).Contents (Elt F)) (main_arg1 : (⟨S8192x1024, .f32⟩ : BufTy).Contents (Elt F)) (main_arg3 : (⟨S8192x128, .f32⟩ : BufTy).Contents (Elt F)) (main_arg4 : (⟨S8192x1024, .f32⟩ : BufTy).Contents (Elt F)) : (⟨S8192x8x1x1, .f32⟩ : BufTy).Contents (Elt F) := broadcastInDim S8192x8x1x1 ![0, 1] bcast_S8192x8_S8192x8x1x1_0_1 ((A_main_v6 main_arg0 main_arg1 main_arg3 main_arg4))
def A_main_v9 (main_arg0 : (⟨S8192x1024, .f32⟩ : BufTy).Contents (Elt F)) (main_arg1 : (⟨S8192x1024, .f32⟩ : BufTy).Contents (Elt F)) (main_arg3 : (⟨S8192x128, .f32⟩ : BufTy).Contents (Elt F)) (main_arg4 : (⟨S8192x1024, .f32⟩ : BufTy).Contents (Elt F)) : (⟨S8192x8x128x1, .f32⟩ : BufTy).Contents (Elt F) := broadcastInDim S8192x8x128x1 ![0, 1, 2] bcast_S8192x8x128_S8192x8x128x1_0_1_2 ((A_main_v0 main_arg0 main_arg1 main_arg3 main_arg4))
def A_main_v10 (main_arg0 : (⟨S8192x1024, .f32⟩ : BufTy).Contents (Elt F)) (main_arg1 : (⟨S8192x1024, .f32⟩ : BufTy).Contents (Elt F)) (main_arg3 : (⟨S8192x128, .f32⟩ : BufTy).Contents (Elt F)) (main_arg4 : (⟨S8192x1024, .f32⟩ : BufTy).Contents (Elt F)) : (⟨S8192x8x128x1, .f32⟩ : BufTy).Contents (Elt F) := broadcastInDim S8192x8x128x1 ![0, 1, 2] bcast_S8192x8x128_S8192x8x128x1_0_1_2 ((A_main_v1 main_arg0 main_arg1 main_arg3 main_arg4))
def A_main_v11 (main_arg0 : (⟨S8192x1024, .f32⟩ : BufTy).Contents (Elt F)) (main_arg1 : (⟨S8192x1024, .f32⟩ : BufTy).Contents (Elt F)) (main_arg3 : (⟨S8192x128, .f32⟩ : BufTy).Contents (Elt F)) (main_arg4 : (⟨S8192x1024, .f32⟩ : BufTy).Contents (Elt F)) : (⟨S8192x8x1, .f32⟩ : BufTy).Contents (Elt F) := broadcastInDim S8192x8x1 ![0, 1] bcast_S8192x8_S8192x8x1_0_1 ((A_main_v5 main_arg0 main_arg1 main_arg3 main_arg4))

/-! One trip's values, in the body's order. -/

def b0 (j : ℕ) (s : State F) : (⟨S_, .i32⟩ : BufTy).Contents (Elt F) :=
  constantI S_ 32 8192#32
def b1 (j : ℕ) (s : State F) : (⟨S_, .i32⟩ : BufTy).Contents (Elt F) :=
  subi ((b0 j s)) ((constantI S_ 32 (BitVec.ofNat 32 j) : (⟨S_, .i32⟩ : BufTy).Contents (Elt F)))
def b2 (j : ℕ) (s : State F) : (⟨S_, .i32⟩ : BufTy).Contents (Elt F) :=
  constantI S_ 32 1#32
def b3 (j : ℕ) (s : State F) : (⟨S_, .i32⟩ : BufTy).Contents (Elt F) :=
  subi ((b1 j s)) ((b2 j s))
def b4 (j : ℕ) (s : State F) : (⟨S_, .i32⟩ : BufTy).Contents (Elt F) :=
  constantI S_ 32 0#32
def b5 (j : ℕ) (s : State F) : (⟨S_, .i32⟩ : BufTy).Contents (Elt F) :=
  constantI S_ 32 0#32
def b6 (j : ℕ) (s : State F) : (⟨S1x8x128, .f32⟩ : BufTy).Contents (Elt F) :=
  Host.dynamicSlice S1x8x128 (s.main_v14_0) (fun k => (((![(b3 j s), (b4 j s), (b5 j s)] : Fin 3 → (⟨S_, .i32⟩ : BufTy).Contents (Elt F))) k (Shape.Idx.first h_S_)).toInt) sliceFits_S8192x8x128_S1x8x128
def b7 (j : ℕ) (s : State F) : (⟨S8x128, .f32⟩ : BufTy).Contents (Elt F) :=
  shapeCast S8x128 ((b6 j s)) shapeCasts_S1x8x128_S8x128
def b8 (j : ℕ) (s : State F) : (⟨S_, .i32⟩ : BufTy).Contents (Elt F) :=
  constantI S_ 32 0#32
def b9 (j : ℕ) (s : State F) : (⟨S_, .i32⟩ : BufTy).Contents (Elt F) :=
  constantI S_ 32 0#32
def b10 (j : ℕ) (s : State F) : (⟨S_, .i32⟩ : BufTy).Contents (Elt F) :=
  constantI S_ 32 0#32
def b11 (j : ℕ) (s : State F) : (⟨S1x8x128x1, .f32⟩ : BufTy).Contents (Elt F) :=
  Host.dynamicSlice S1x8x128x1 (s.main_v14_1) (fun k => (((![(b3 j s), (b8 j s), (b9 j s), (b10 j s)] : Fin 4 → (⟨S_, .i32⟩ : BufTy).Contents (Elt F))) k (Shape.Idx.first h_S_)).toInt) sliceFits_S8192x8x128x1_S1x8x128x1
def b12 (j : ℕ) (s : State F) : (⟨S8x128x1, .f32⟩ : BufTy).Contents (Elt F) :=
  shapeCast S8x128x1 ((b11 j s)) shapeCasts_S1x8x128x1_S8x128x1
def b13 (j : ℕ) (s : State F) : (⟨S_, .i32⟩ : BufTy).Contents (Elt F) :=
  constantI S_ 32 0#32
def b14 (j : ℕ) (s : State F) : (⟨S_, .i32⟩ : BufTy).Contents (Elt F) :=
  constantI S_ 32 0#32
def b15 (j : ℕ) (s : State F) : (⟨S1x8x1, .f32⟩ : BufTy).Contents (Elt F) :=
  Host.dynamicSlice S1x8x1 (s.main_v14_2) (fun k => (((![(b3 j s), (b13 j s), (b14 j s)] : Fin 3 → (⟨S_, .i32⟩ : BufTy).Contents (Elt F))) k (Shape.Idx.first h_S_)).toInt) sliceFits_S8192x8x1_S1x8x1
def b16 (j : ℕ) (s : State F) : (⟨S8x1, .f32⟩ : BufTy).Contents (Elt F) :=
  shapeCast S8x1 ((b15 j s)) shapeCasts_S1x8x1_S8x1
def b17 (j : ℕ) (s : State F) : (⟨S_, .i32⟩ : BufTy).Contents (Elt F) :=
  constantI S_ 32 0#32
def b18 (j : ℕ) (s : State F) : (⟨S_, .i32⟩ : BufTy).Contents (Elt F) :=
  constantI S_ 32 0#32
def b19 (j : ℕ) (s : State F) : (⟨S_, .i32⟩ : BufTy).Contents (Elt F) :=
  constantI S_ 32 0#32
def b20 (j : ℕ) (s : State F) : (⟨S1x8x1x1, .f32⟩ : BufTy).Contents (Elt F) :=
  Host.dynamicSlice S1x8x1x1 (s.main_v14_3) (fun k => (((![(b3 j s), (b17 j s), (b18 j s), (b19 j s)] : Fin 4 → (⟨S_, .i32⟩ : BufTy).Contents (Elt F))) k (Shape.Idx.first h_S_)).toInt) sliceFits_S8192x8x1x1_S1x8x1x1
def b21 (j : ℕ) (s : State F) : (⟨S8x1x1, .f32⟩ : BufTy).Contents (Elt F) :=
  shapeCast S8x1x1 ((b20 j s)) shapeCasts_S1x8x1x1_S8x1x1
def b22 (j : ℕ) (s : State F) : (⟨S_, .i32⟩ : BufTy).Contents (Elt F) :=
  constantI S_ 32 0#32
def b23 (j : ℕ) (s : State F) : (⟨S_, .i32⟩ : BufTy).Contents (Elt F) :=
  constantI S_ 32 0#32
def b24 (j : ℕ) (s : State F) : (⟨S_, .i32⟩ : BufTy).Contents (Elt F) :=
  constantI S_ 32 0#32
def b25 (j : ℕ) (s : State F) : (⟨S1x8x128x1, .f32⟩ : BufTy).Contents (Elt F) :=
  Host.dynamicSlice S1x8x128x1 (s.main_v14_4) (fun k => (((![(b3 j s), (b22 j s), (b23 j s), (b24 j s)] : Fin 4 → (⟨S_, .i32⟩ : BufTy).Contents (Elt F))) k (Shape.Idx.first h_S_)).toInt) sliceFits_S8192x8x128x1_S1x8x128x1
def b26 (j : ℕ) (s : State F) : (⟨S8x128x1, .f32⟩ : BufTy).Contents (Elt F) :=
  shapeCast S8x128x1 ((b25 j s)) shapeCasts_S1x8x128x1_S8x128x1
def b27 (j : ℕ) (s : State F) : (⟨S8x128x128, .f32⟩ : BufTy).Contents (Elt F) :=
  broadcastInDim S8x128x128 ![0, 2] bcast_S8x128_S8x128x128_0_2 ((b7 j s))
def b28 (j : ℕ) (s : State F) : (⟨S8x128x128, .f32⟩ : BufTy).Contents (Elt F) :=
  broadcastInDim S8x128x128 ![0, 1, 2] bcast_S8x128x1_S8x128x128_0_1_2 ((b26 j s))
def b29 (j : ℕ) (s : State F) : (⟨S8x128x128, .f32⟩ : BufTy).Contents (Elt F) :=
  mulf ((b27 j s)) ((b28 j s))
def b30 (j : ℕ) (s : State F) : (⟨S8x128x128, .f32⟩ : BufTy).Contents (Elt F) :=
  addf (s.main_v14_6) ((b29 j s))
def b31 (j : ℕ) (s : State F) : (⟨S8x128x128, .f32⟩ : BufTy).Contents (Elt F) :=
  broadcastInDim S8x128x128 ![0, 1, 2] bcast_S8x128x1_S8x128x128_0_1_2 ((b12 j s))
def b32 (j : ℕ) (s : State F) : (⟨S8x128x128, .f32⟩ : BufTy).Contents (Elt F) :=
  mulf ((b31 j s)) ((b30 j s))
def b33 (j : ℕ) (s : State F) : (⟨S_, .f32⟩ : BufTy).Contents (Elt F) :=
  constant S_ .f32 0x00000000#32
def b34 (j : ℕ) (s : State F) : (⟨S8x128, .f32⟩ : BufTy).Contents (Elt F) :=
  Host.reduceAdd ((b32 j s)) ((b33 j s)) reducesTo_S8x128x128_S8x128_d1 h_S_
def b35 (j : ℕ) (s : State F) : (⟨S8x1x128, .f32⟩ : BufTy).Contents (Elt F) :=
  shapeCast S8x1x128 ((b34 j s)) shapeCasts_S8x128_S8x1x128
def b36 (j : ℕ) (s : State F) : (⟨S_, .f32⟩ : BufTy).Contents (Elt F) :=
  constant S_ .f32 0x00000000#32
def b37 (j : ℕ) (s : State F) : (⟨S8x128, .f32⟩ : BufTy).Contents (Elt F) :=
  Host.reduceAdd ((b35 j s)) ((b36 j s)) reducesTo_S8x1x128_S8x128_d1 h_S_
def b38 (j : ℕ) (s : State F) : (⟨S8x128, .f32⟩ : BufTy).Contents (Elt F) :=
  broadcastInDim S8x128 ![0, 1] bcast_S8x1_S8x128_0_1 ((b16 j s))
def b39 (j : ℕ) (s : State F) : (⟨S8x128, .f32⟩ : BufTy).Contents (Elt F) :=
  mulf ((b38 j s)) ((b37 j s))
def b40 (j : ℕ) (s : State F) : (⟨S8x128, .f32⟩ : BufTy).Contents (Elt F) :=
  Host.negf ((b39 j s))
def b41 (j : ℕ) (s : State F) : (⟨S8x128x128, .f32⟩ : BufTy).Contents (Elt F) :=
  broadcastInDim S8x128x128 ![0, 2] bcast_S8x128_S8x128x128_0_2 ((b40 j s))
def b42 (j : ℕ) (s : State F) : (⟨S8x128x128, .f32⟩ : BufTy).Contents (Elt F) :=
  broadcastInDim S8x128x128 ![0, 1, 2] bcast_S8x128x1_S8x128x128_0_1_2 ((b12 j s))
def b43 (j : ℕ) (s : State F) : (⟨S8x128x128, .f32⟩ : BufTy).Contents (Elt F) :=
  mulf ((b41 j s)) ((b42 j s))
def b44 (j : ℕ) (s : State F) : (⟨S8x128x128, .f32⟩ : BufTy).Contents (Elt F) :=
  addf ((b30 j s)) ((b43 j s))
def b45 (j : ℕ) (s : State F) : (⟨S8x128x128, .f32⟩ : BufTy).Contents (Elt F) :=
  broadcastInDim S8x128x128 ![0, 1, 2] bcast_S8x1x1_S8x128x128_0_1_2 ((b21 j s))
def b46 (j : ℕ) (s : State F) : (⟨S8x128x128, .f32⟩ : BufTy).Contents (Elt F) :=
  mulf ((b44 j s)) ((b45 j s))
def b47 (j : ℕ) (s : State F) : (⟨S1x8x128, .f32⟩ : BufTy).Contents (Elt F) :=
  broadcastInDim S1x8x128 ![1, 2] bcast_S8x128_S1x8x128_1_2 ((b39 j s))
def b48 (j : ℕ) (s : State F) : (⟨S_, .i32⟩ : BufTy).Contents (Elt F) :=
  constantI S_ 32 0#32
def b49 (j : ℕ) (s : State F) : (⟨S_, .i32⟩ : BufTy).Contents (Elt F) :=
  constantI S_ 32 0#32
def b50 (j : ℕ) (s : State F) : (⟨S8192x8x128, .f32⟩ : BufTy).Contents (Elt F) :=
  Host.dynamicUpdateSlice (s.main_v14_7) ((b47 j s)) (fun k => (((![(b3 j s), (b48 j s), (b49 j s)] : Fin 3 → (⟨S_, .i32⟩ : BufTy).Contents (Elt F))) k (Shape.Idx.first h_S_)).toInt) updateFits_S8192x8x128_S1x8x128

/-- The state @main hands the first trip, of the arguments it copies in or computes from. -/
def init (main_arg0 : (⟨S8192x1024, .f32⟩ : BufTy).Contents (Elt F)) (main_arg1 : (⟨S8192x1024, .f32⟩ : BufTy).Contents (Elt F)) (main_arg3 : (⟨S8192x128, .f32⟩ : BufTy).Contents (Elt F)) (main_arg4 : (⟨S8192x1024, .f32⟩ : BufTy).Contents (Elt F)) : State F :=
  { main_v14_6 := K_main_v12 (F := F), main_v14_7 := K_main_v13 (F := F), main_v14_0 := A_main_v3 main_arg0 main_arg1 main_arg3 main_arg4, main_v14_1 := A_main_v10 main_arg0 main_arg1 main_arg3 main_arg4, main_v14_2 := A_main_v11 main_arg0 main_arg1 main_arg3 main_arg4, main_v14_3 := A_main_v7 main_arg0 main_arg1 main_arg3 main_arg4, main_v14_4 := A_main_v9 main_arg0 main_arg1 main_arg3 main_arg4 }

/-- One trip. -/
def step (j : ℕ) (s : State F) : State F :=
  { main_v14_6 := b46 j s, main_v14_7 := b50 j s, main_v14_0 := s.main_v14_0, main_v14_1 := s.main_v14_1, main_v14_2 := s.main_v14_2, main_v14_3 := s.main_v14_3, main_v14_4 := s.main_v14_4 }
theorem step_main_v14_6 (j : ℕ) (s : State F) : (step j s).main_v14_6 = b46 j s := by unfold step; rfl
theorem step_main_v14_7 (j : ℕ) (s : State F) : (step j s).main_v14_7 = b50 j s := by unfold step; with_reducible rfl

/-- `main_v15`, which the operations after the loop make, of the loop's last state. -/
def R_main_v15 (s : State F) : (⟨S8192x1024, .f32⟩ : BufTy).Contents (Elt F) :=
  shapeCast _ (s.main_v14_7) shapeCasts_S8192x8x128_S8192x1024

end Cert.ReferenceIdeal.Step

end
-- ==== Proof.RefReads.lean ====
/- What a trip of the reference's loop makes of its state, element by element. -/
module

public import proofs.«01_k».proof.Proof.RefStep
public import proofs.«01_k».proof.Proof.Chunk
public import Idealize.ShloMosaic.Lib.Pointwise
public import Idealize.ShloMosaic.Lib.DynamicIndex
public import Idealize.ShloMosaic.Lib.Pipeline.Value

@[expose] public section

noncomputable section

namespace Cert.ReferenceIdeal.Step

open Idealize.ShloMosaic Cert.ReferenceIdeal Cert.ReferenceIdeal.Gen

variable (j : ℕ) (s : State Idealize.ShloMosaic.Ideal)

/-- The trip's token: the last one first. -/
theorem b3_toInt (hj : j < 8192) (i : S_.Idx) : (b3 j s i).toInt = ((8191 - j : ℕ) : ℤ) := by
  have : b3 j s i = BitVec.ofNat 32 (8191 - j) := by
    show (8192#32 - BitVec.ofNat 32 j) - 1#32 = _
    apply BitVec.eq_of_toNat_eq
    simp only [BitVec.toNat_sub, BitVec.toNat_ofNat]
    omega
  rw [this, toInt_ofNat_of_lt (by omega)]

theorem b7_apply (hj : j < 8192) (h : Fin 8) (d : Fin 128) :
    b7 j s (ix2 h d) = s.main_v14_0 (ix3 ⟨8191 - j, by omega⟩ h d) := by
  have e : b6 j s = extractStridedSlice S1x8x128 ![8191 - j, 0, 0] s.main_v14_0 ⟨rfl, fun a => by
      fin_cases a <;> simp <;> omega⟩ :=
    Host.dynamicSlice_eq_extractStridedSlice (s := S8192x8x128) S1x8x128 s.main_v14_0 _
      ![8191 - j, 0, 0] _ _ fun a => by
      fin_cases a
      · exact b3_toInt j s hj _
      all_goals rfl
  unfold b7
  rw [e]
  pointwise

theorem b12_apply (hj : j < 8192) (h : Fin 8) (d : Fin 128) :
    b12 j s (ix3 h d 0) = s.main_v14_1 (ix4 ⟨8191 - j, by omega⟩ h d 0) := by
  have e : b11 j s = extractStridedSlice S1x8x128x1 ![8191 - j, 0, 0, 0] s.main_v14_1 ⟨rfl, fun a => by
      fin_cases a <;> simp <;> omega⟩ :=
    Host.dynamicSlice_eq_extractStridedSlice (s := S8192x8x128x1) S1x8x128x1 s.main_v14_1 _
      ![8191 - j, 0, 0, 0] _ _ fun a => by
      fin_cases a
      · exact b3_toInt j s hj _
      all_goals rfl
  unfold b12
  rw [e]
  pointwise

theorem b26_apply (hj : j < 8192) (h : Fin 8) (d : Fin 128) :
    b26 j s (ix3 h d 0) = s.main_v14_4 (ix4 ⟨8191 - j, by omega⟩ h d 0) := by
  have e : b25 j s = extractStridedSlice S1x8x128x1 ![8191 - j, 0, 0, 0] s.main_v14_4 ⟨rfl, fun a => by
      fin_cases a <;> simp <;> omega⟩ :=
    Host.dynamicSlice_eq_extractStridedSlice (s := S8192x8x128x1) S1x8x128x1 s.main_v14_4 _
      ![8191 - j, 0, 0, 0] _ _ fun a => by
      fin_cases a
      · exact b3_toInt j s hj _
      all_goals rfl
  unfold b26
  rw [e]
  pointwise

theorem b16_apply (hj : j < 8192) (h : Fin 8) :
    b16 j s (ix2 h 0) = s.main_v14_2 (ix3 ⟨8191 - j, by omega⟩ h 0) := by
  have e : b15 j s = extractStridedSlice S1x8x1 ![8191 - j, 0, 0] s.main_v14_2 ⟨rfl, fun a => by
      fin_cases a <;> simp <;> omega⟩ :=
    Host.dynamicSlice_eq_extractStridedSlice (s := S8192x8x1) S1x8x1 s.main_v14_2 _
      ![8191 - j, 0, 0] _ _ fun a => by
      fin_cases a
      · exact b3_toInt j s hj _
      all_goals rfl
  unfold b16
  rw [e]
  pointwise

theorem b21_apply (hj : j < 8192) (h : Fin 8) :
    b21 j s (ix3 h 0 0) = s.main_v14_3 (ix4 ⟨8191 - j, by omega⟩ h 0 0) := by
  have e : b20 j s = extractStridedSlice S1x8x1x1 ![8191 - j, 0, 0, 0] s.main_v14_3 ⟨rfl, fun a => by
      fin_cases a <;> simp <;> omega⟩ :=
    Host.dynamicSlice_eq_extractStridedSlice (s := S8192x8x1x1) S1x8x1x1 s.main_v14_3 _
      ![8191 - j, 0, 0, 0] _ _ fun a => by
      fin_cases a
      · exact b3_toInt j s hj _
      all_goals rfl
  unfold b21
  rw [e]
  pointwise

theorem b39_apply (h : Fin 8) (e : Fin 128) : b39 j s (ix2 h e) = b16 j s (ix2 h 0)
    * ∑ d : Fin 128, b12 j s (ix3 h d 0) * (s.main_v14_6 (ix3 h d e) + b7 j s (ix2 h e) * b26 j s (ix3 h d 0)) := by
  pointwise [b39, b38, b37, b36, b35, b34, b33, b32, b31, b30, b29, b28, b27]
  rw [Fin.sum_univ_one]

theorem b46_apply (h : Fin 8) (d e : Fin 128) : b46 j s (ix3 h d e)
    = (s.main_v14_6 (ix3 h d e) + b7 j s (ix2 h e) * b26 j s (ix3 h d 0) + -(b39 j s (ix2 h e)) * b12 j s (ix3 h d 0))
      * b21 j s (ix3 h 0 0) := by
  pointwise [b46, b45, b44, b43, b42, b41, b40, b30, b29, b28, b27]

theorem b50_apply (hj : j < 8192) (t : Fin 8192) (h : Fin 8) (e : Fin 128) : b50 j s (ix3 t h e)
    = if t.val = 8191 - j then b39 j s (ix2 h e) else s.main_v14_7 (ix3 t h e) := by
  have e : b50 j s = updateSlice s.main_v14_7 (b47 j s) ![8191 - j, 0, 0] ⟨rfl, fun a => by
      fin_cases a <;> simp <;> omega⟩ :=
    Host.dynamicUpdateSlice_eq_updateSlice (s := S8192x8x128) (u := S1x8x128) s.main_v14_7 (b47 j s) _ _
      ![8191 - j, 0, 0] (fun a => by
        fin_cases a
        · have := b3_toInt j s hj (Shape.Idx.first h_S_)
          show (min (max (b3 j s (Shape.Idx.first h_S_)).toInt 0) ((8192 - 1 : ℕ) : ℤ)).toNat = 8191 - j
          rw [this]; omega
        all_goals rfl) _
  rw [e]
  pointwise [b47]
  by_cases ht : t.val = 8191 - j
  · rw [dif_pos (by omega), if_pos ht]
  · rw [dif_neg (by omega), if_neg ht]

variable (q k o : (⟨S8192x1024, .f32⟩ : BufTy).Contents (Elt Idealize.ShloMosaic.Ideal))
  (gb : (⟨S8192x128, .f32⟩ : BufTy).Contents (Elt Idealize.ShloMosaic.Ideal)) (t : Fin 8192) (h : Fin 8) (d : Fin 128)

theorem init_0 : (init q k gb o).main_v14_0 (ix3 t h d) = o (ix2 t ⟨h.val * 128 + d.val, by omega⟩) := by
  pointwise [init, A_main_v3]
theorem init_1 : (init q k gb o).main_v14_1 (ix4 t h d 0) = k (ix2 t ⟨h.val * 128 + d.val, by omega⟩) := by
  pointwise [init, A_main_v10, A_main_v1]
theorem init_2 : (init q k gb o).main_v14_2 (ix3 t h 0) = gb (ix2 t ⟨8 + h.val, by omega⟩) := by
  pointwise [init, A_main_v11, A_main_v5]
theorem init_3 : (init q k gb o).main_v14_3 (ix4 t h 0 0) = Ideal.exp (gb (ix2 t ⟨h.val, by omega⟩)) := by
  pointwise [init, A_main_v7, A_main_v6, A_main_v4]
theorem init_4 : (init q k gb o).main_v14_4 (ix4 t h d 0) = q (ix2 t ⟨h.val * 128 + d.val, by omega⟩) := by
  pointwise [init, A_main_v9, A_main_v0]
theorem init_6 (d e : Fin 128) : (init q k gb o).main_v14_6 (ix3 h d e) = 0 := by
  pointwise [init, K_main_v12, K_main_cst_0]

theorem R_apply (l : Fin 1024) : R_main_v15 s (ix2 t l)
    = s.main_v14_7 (ix3 t ⟨l.val / 128, by omega⟩ ⟨l.val % 128, by omega⟩) := by
  pointwise [R_main_v15]
end Cert.ReferenceIdeal.Step

end
-- ==== Proof.RefValue.lean ====
/- What the reference computes, over the reals: `Token.lean`'s pass over its arguments' rows. -/
module

public import proofs.«01_k».proof.Proof.RefReads
public import proofs.«01_k».proof.Proof.Token

@[expose] public section

noncomputable section

namespace Cert.ReferenceIdeal.Step

open Idealize.ShloMosaic Cert.ReferenceIdeal Cert.ReferenceIdeal.Gen Cert.Gdn

/-- The states that the trips hand on. -/
def iter (s : State Idealize.ShloMosaic.Ideal) : ℕ → State Idealize.ShloMosaic.Ideal
  | 0 => s
  | n + 1 => step n (iter s n)

/-- What a state holds after `j` trips over the rows `x`. -/
structure Holding (x : Rows) (j : ℕ) (s : State Idealize.ShloMosaic.Ideal) : Prop where
  o : ∀ (t : Fin 8192) h d, s.main_v14_0 (ix3 t h d) = (x.o t.val h d : EReal)
  k : ∀ (t : Fin 8192) h d, s.main_v14_1 (ix4 t h d 0) = (x.k t.val h d : EReal)
  b : ∀ (t : Fin 8192) h, s.main_v14_2 (ix3 t h 0) = (x.β t.val h : EReal)
  g : ∀ (t : Fin 8192) h, s.main_v14_3 (ix4 t h 0 0) = (Real.exp (x.g t.val h) : EReal)
  q : ∀ (t : Fin 8192) h d, s.main_v14_4 (ix4 t h d 0) = (x.q t.val h d : EReal)
  state : ∀ h d e, s.main_v14_6 (ix3 h d e) = (stateAt x j h d e : EReal)
  value : ∀ (t : Fin 8192) h e, 8192 ≤ t.val + j → s.main_v14_7 (ix3 t h e) = (valueAt x (8191 - t.val) h e : EReal)

theorem Holding.next {x : Rows} {j : ℕ} {s : State Idealize.ShloMosaic.Ideal} (H : Holding x j s) (hj : j < 8192) :
    Holding x (j + 1) (step j s) := by
  have hv : ∀ h e, b39 j s (ix2 h e) = (valueAt x j h e : EReal) := fun h e => by
    rw [b39_apply, b16_apply j s hj, b7_apply j s hj]
    simp only [b12_apply j s hj, b26_apply j s hj, H.b, H.k, H.o, H.q, H.state, ← EReal.coe_mul, ← EReal.coe_add, coe_sum, valueAt]
  refine ⟨H.o, H.k, H.b, H.g, H.q, fun h d e => ?_, fun t h e ht => ?_⟩
  · rw [step_main_v14_6, b46_apply, hv, b7_apply j s hj, b12_apply j s hj, b26_apply j s hj, b21_apply j s hj]
    simp only [H.g, H.k, H.o, H.q, H.state, ← EReal.coe_mul, ← EReal.coe_neg, ← EReal.coe_add]
    rfl
  · rw [step_main_v14_7, b50_apply j s hj]
    by_cases e1 : t.val = 8191 - j
    · rw [if_pos e1, hv]
      have : 8191 - t.val = j := by omega
      rw [this]
    · rw [if_neg e1]
      exact H.value t h e (by have := t.isLt; omega)

variable {q k o : (⟨S8192x1024, .f32⟩ : BufTy).Contents (Elt Idealize.ShloMosaic.Ideal)}
  {gb : (⟨S8192x128, .f32⟩ : BufTy).Contents (Elt Idealize.ShloMosaic.Ideal)}
  {q' k' o' : Fin 8192 → Fin 1024 → ℝ} {gb' : Fin 8192 → Fin 128 → ℝ}

theorem holding_iter (hq : ∀ t l, q (ix2 t l) = (q' t l : EReal)) (hk : ∀ t l, k (ix2 t l) = (k' t l : EReal))
    (ho : ∀ t l, o (ix2 t l) = (o' t l : EReal)) (hg : ∀ t l, gb (ix2 t l) = (gb' t l : EReal)) (j : ℕ) (hj : j ≤ 8192) :
    Holding (rowsOf q' k' o' gb') j (iter (init q k gb o) j) := by
  induction j with
  | zero =>
    have hm : ∀ t : Fin 8192, (⟨t.val % 8192, Nat.mod_lt _ (by decide)⟩ : Fin 8192) = t := fun t =>
      Fin.ext (Nat.mod_eq_of_lt t.isLt)
    refine ⟨fun t h d => ?_, fun t h d => ?_, fun t h => ?_, fun t h => ?_, fun t h d => ?_, fun h d e => ?_,
      fun t h e ht => absurd ht (by have := t.isLt; omega)⟩
    · rw [iter, init_0, ho]; simp only [rowsOf, hm]
    · rw [iter, init_1, hk]; simp only [rowsOf, hm]
    · rw [iter, init_2, hg]; simp only [rowsOf, hm]
    · rw [iter, init_3, hg, Ideal.exp_coe]; simp only [rowsOf, hm]
    · rw [iter, init_4, hq]; simp only [rowsOf, hm]
    · rw [iter, init_6]; rfl
  | succ j ih => exact (ih (by omega)).next (by omega)

/-- The reference's result. -/
theorem result_apply (hq : ∀ t l, q (ix2 t l) = (q' t l : EReal)) (hk : ∀ t l, k (ix2 t l) = (k' t l : EReal))
    (ho : ∀ t l, o (ix2 t l) = (o' t l : EReal)) (hg : ∀ t l, gb (ix2 t l) = (gb' t l : EReal)) (t : Fin 8192) (l : Fin 1024) :
    R_main_v15 (iter (init q k gb o) 8192) (ix2 t l)
      = (valueAt (rowsOf q' k' o' gb') (8191 - t.val) ⟨l.val / 128, by omega⟩ ⟨l.val % 128, by omega⟩ : EReal) := by
  rw [R_apply]
  exact (holding_iter hq hk ho hg 8192 (le_refl _)).value t _ _ (by omega)

end Cert.ReferenceIdeal.Step

end
-- ==== Proof.RefStepRun.lean ====
/- The reference's run stated over the step of RefStep.lean: at a valuation that holds a state (the state at the carried
   buffers, the set-up values at the loop's constants, the trip's number at its counters) every value of one trip is that
   module's, so one trip keeps holding with `step` applied; what the operations before the loop leave holds `init`; and the
   run's results are the fields of `step` iterated from `init`. -/
module

public import proofs.«01_k».proof.Proof.Gen.ReferenceIdeal.Run
public import proofs.«01_k».proof.Proof.RefStep

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v14_6) = s.main_v14_6
  f_7 : V0 (Proc.devRef .tc main_v14_7) = s.main_v14_7
  f_0 : V0 (Proc.devRef .tc main_v14_0) = s.main_v14_0
  f_1 : V0 (Proc.devRef .tc main_v14_1) = s.main_v14_1
  f_2 : V0 (Proc.devRef .tc main_v14_2) = s.main_v14_2
  f_3 : V0 (Proc.devRef .tc main_v14_3) = s.main_v14_3
  f_4 : V0 (Proc.devRef .tc main_v14_4) = s.main_v14_4
  n_5 : V0 (Proc.devRef .tc main_v14_5) = constantI S_ 32 (BitVec.ofNat 32 j)

variable {V0 s j}

set_option maxRecDepth 8192 in
theorem al_0 (h : Holds V0 s j) : (constantI S_ 32 8192#32 : (Proc.devRef .tc main_while0b_c_9 : DevRef τ sig).ty.Contents (Elt F)) = Cert.ReferenceIdeal.Step.b0 j s := by
  unfold Cert.ReferenceIdeal.Step.b0
  rfl
set_option maxRecDepth 8192 in
theorem al_1 (h : Holds V0 s j) : (subi (constantI S_ 32 8192#32) (V0 (Proc.devRef .tc main_v14_5)) : (Proc.devRef .tc main_while0b_v16 : DevRef τ sig).ty.Contents (Elt F)) = Cert.ReferenceIdeal.Step.b1 j s := by
  unfold Cert.ReferenceIdeal.Step.b1
  rw [← al_0 h, h.n_5]
  try rfl
set_option maxRecDepth 8192 in
theorem al_2 (h : Holds V0 s j) : (constantI S_ 32 1#32 : (Proc.devRef .tc main_while0b_c_10 : DevRef τ sig).ty.Contents (Elt F)) = Cert.ReferenceIdeal.Step.b2 j s := by
  unfold Cert.ReferenceIdeal.Step.b2
  rfl
set_option maxRecDepth 8192 in
theorem al_3 (h : Holds V0 s j) : (res_main_while0b_v17 V0 : (Proc.devRef .tc main_while0b_v17 : DevRef τ sig).ty.Contents (Elt F)) = Cert.ReferenceIdeal.Step.b3 j s := by
  unfold res_main_while0b_v17 Cert.ReferenceIdeal.Step.b3
  rw [← al_1 h, ← al_2 h]
  try rfl
set_option maxRecDepth 8192 in
theorem al_4 (h : Holds V0 s j) : (constantI S_ 32 0#32 : (Proc.devRef .tc main_while0b_call0_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call0_c_0 : DevRef τ sig).ty.Contents (Elt F)) = Cert.ReferenceIdeal.Step.b5 j s := by
  unfold Cert.ReferenceIdeal.Step.b5
  rfl
set_option maxRecDepth 8192 in
theorem al_6 (h : Holds V0 s j) : (Host.dynamicSlice S1x8x128 (V0 (Proc.devRef .tc main_v14_0)) (fun k => (((![res_main_while0b_v17 V0, constantI S_ 32 0#32, constantI S_ 32 0#32] : Fin 3 → (⟨S_, .i32⟩ : BufTy).Contents (Elt F))) k (Shape.Idx.first h_S_)).toInt) sliceFits_S8192x8x128_S1x8x128 : (Proc.devRef .tc main_while0b_call0_v0 : DevRef τ sig).ty.Contents (Elt F)) = Cert.ReferenceIdeal.Step.b6 j s := by
  unfold Cert.ReferenceIdeal.Step.b6
  rw [← al_3 h, ← al_4 h, ← al_5 h, h.f_0]
  try rfl
set_option maxRecDepth 8192 in
theorem al_7 (h : Holds V0 s j) : (shapeCast S8x128 (Host.dynamicSlice S1x8x128 (V0 (Proc.devRef .tc main_v14_0)) (fun k => (((![res_main_while0b_v17 V0, constantI S_ 32 0#32, constantI S_ 32 0#32] : Fin 3 → (⟨S_, .i32⟩ : BufTy).Contents (Elt F))) k (Shape.Idx.first h_S_)).toInt) sliceFits_S8192x8x128_S1x8x128) shapeCasts_S1x8x128_S8x128 : (Proc.devRef .tc main_while0b_v18 : DevRef τ sig).ty.Contents (Elt F)) = Cert.ReferenceIdeal.Step.b7 j s := by
  unfold Cert.ReferenceIdeal.Step.b7
  rw [← al_6 h]
  try rfl
set_option maxRecDepth 8192 in
theorem al_8 (h : Holds V0 s j) : (constantI S_ 32 0#32 : (Proc.devRef .tc main_while0b_call1_c : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call1_c_0 : DevRef τ sig).ty.Contents (Elt F)) = Cert.ReferenceIdeal.Step.b9 j s := by
  unfold Cert.ReferenceIdeal.Step.b9
  rfl
set_option maxRecDepth 8192 in
theorem al_10 (h : Holds V0 s j) : (constantI S_ 32 0#32 : (Proc.devRef .tc main_while0b_call1_c_1 : DevRef τ sig).ty.Contents (Elt F)) = Cert.ReferenceIdeal.Step.b10 j s := by
  unfold Cert.ReferenceIdeal.Step.b10
  rfl
set_option maxRecDepth 8192 in
theorem al_11 (h : Holds V0 s j) : (Host.dynamicSlice S1x8x128x1 (V0 (Proc.devRef .tc main_v14_1)) (fun k => (((![res_main_while0b_v17 V0, constantI S_ 32 0#32, constantI S_ 32 0#32, constantI S_ 32 0#32] : Fin 4 → (⟨S_, .i32⟩ : BufTy).Contents (Elt F))) k (Shape.Idx.first h_S_)).toInt) sliceFits_S8192x8x128x1_S1x8x128x1 : (Proc.devRef .tc main_while0b_call1_v0 : DevRef τ sig).ty.Contents (Elt F)) = Cert.ReferenceIdeal.Step.b11 j s := by
  unfold Cert.ReferenceIdeal.Step.b11
  rw [← al_3 h, ← al_8 h, ← al_9 h, ← al_10 h, h.f_1]
  try rfl
set_option maxRecDepth 8192 in
theorem al_12 (h : Holds V0 s j) : (res_main_while0b_v19 V0 : (Proc.devRef .tc main_while0b_v19 : DevRef τ sig).ty.Contents (Elt F)) = Cert.ReferenceIdeal.Step.b12 j s := by
  unfold res_main_while0b_v19 Cert.ReferenceIdeal.Step.b12
  rw [← al_11 h]
  try rfl
set_option maxRecDepth 8192 in
theorem al_13 (h : Holds V0 s j) : (constantI S_ 32 0#32 : (Proc.devRef .tc main_while0b_call2_c : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call2_c_0 : DevRef τ sig).ty.Contents (Elt F)) = Cert.ReferenceIdeal.Step.b14 j s := by
  unfold Cert.ReferenceIdeal.Step.b14
  rfl
set_option maxRecDepth 8192 in
theorem al_15 (h : Holds V0 s j) : (Host.dynamicSlice S1x8x1 (V0 (Proc.devRef .tc main_v14_2)) (fun k => (((![res_main_while0b_v17 V0, constantI S_ 32 0#32, constantI S_ 32 0#32] : Fin 3 → (⟨S_, .i32⟩ : BufTy).Contents (Elt F))) k (Shape.Idx.first h_S_)).toInt) sliceFits_S8192x8x1_S1x8x1 : (Proc.devRef .tc main_while0b_call2_v0 : DevRef τ sig).ty.Contents (Elt F)) = Cert.ReferenceIdeal.Step.b15 j s := by
  unfold Cert.ReferenceIdeal.Step.b15
  rw [← al_3 h, ← al_13 h, ← al_14 h, h.f_2]
  try rfl
set_option maxRecDepth 8192 in
theorem al_16 (h : Holds V0 s j) : (shapeCast S8x1 (Host.dynamicSlice S1x8x1 (V0 (Proc.devRef .tc main_v14_2)) (fun k => (((![res_main_while0b_v17 V0, constantI S_ 32 0#32, constantI S_ 32 0#32] : Fin 3 → (⟨S_, .i32⟩ : BufTy).Contents (Elt F))) k (Shape.Idx.first h_S_)).toInt) sliceFits_S8192x8x1_S1x8x1) shapeCasts_S1x8x1_S8x1 : (Proc.devRef .tc main_while0b_v20 : DevRef τ sig).ty.Contents (Elt F)) = Cert.ReferenceIdeal.Step.b16 j s := by
  unfold Cert.ReferenceIdeal.Step.b16
  rw [← al_15 h]
  try rfl
set_option maxRecDepth 8192 in
theorem al_17 (h : Holds V0 s j) : (constantI S_ 32 0#32 : (Proc.devRef .tc main_while0b_call3_c : DevRef τ sig).ty.Contents (Elt F)) = Cert.ReferenceIdeal.Step.b17 j s := by
  unfold Cert.ReferenceIdeal.Step.b17
  rfl
set_option maxRecDepth 8192 in
theorem al_18 (h : Holds V0 s j) : (constantI S_ 32 0#32 : (Proc.devRef .tc main_while0b_call3_c_0 : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call3_c_1 : DevRef τ sig).ty.Contents (Elt F)) = Cert.ReferenceIdeal.Step.b19 j s := by
  unfold Cert.ReferenceIdeal.Step.b19
  rfl
set_option maxRecDepth 8192 in
theorem al_20 (h : Holds V0 s j) : (Host.dynamicSlice S1x8x1x1 (V0 (Proc.devRef .tc main_v14_3)) (fun k => (((![res_main_while0b_v17 V0, constantI S_ 32 0#32, constantI S_ 32 0#32, constantI S_ 32 0#32] : Fin 4 → (⟨S_, .i32⟩ : BufTy).Contents (Elt F))) k (Shape.Idx.first h_S_)).toInt) sliceFits_S8192x8x1x1_S1x8x1x1 : (Proc.devRef .tc main_while0b_call3_v0 : DevRef τ sig).ty.Contents (Elt F)) = Cert.ReferenceIdeal.Step.b20 j s := by
  unfold Cert.ReferenceIdeal.Step.b20
  rw [← al_3 h, ← al_17 h, ← al_18 h, ← al_19 h, h.f_3]
  try rfl
set_option maxRecDepth 8192 in
theorem al_21 (h : Holds V0 s j) : (shapeCast S8x1x1 (Host.dynamicSlice S1x8x1x1 (V0 (Proc.devRef .tc main_v14_3)) (fun k => (((![res_main_while0b_v17 V0, constantI S_ 32 0#32, constantI S_ 32 0#32, constantI S_ 32 0#32] : Fin 4 → (⟨S_, .i32⟩ : BufTy).Contents (Elt F))) k (Shape.Idx.first h_S_)).toInt) sliceFits_S8192x8x1x1_S1x8x1x1) shapeCasts_S1x8x1x1_S8x1x1 : (Proc.devRef .tc main_while0b_v21 : DevRef τ sig).ty.Contents (Elt F)) = Cert.ReferenceIdeal.Step.b21 j s := by
  unfold Cert.ReferenceIdeal.Step.b21
  rw [← al_20 h]
  try rfl
set_option maxRecDepth 8192 in
theorem al_22 (h : Holds V0 s j) : (constantI S_ 32 0#32 : (Proc.devRef .tc main_while0b_call4_c : DevRef τ sig).ty.Contents (Elt F)) = Cert.ReferenceIdeal.Step.b22 j s := by
  unfold Cert.ReferenceIdeal.Step.b22
  rfl
set_option maxRecDepth 8192 in
theorem al_23 (h : Holds V0 s j) : (constantI S_ 32 0#32 : (Proc.devRef .tc main_while0b_call4_c_0 : DevRef τ sig).ty.Contents (Elt F)) = Cert.ReferenceIdeal.Step.b23 j s := by
  unfold Cert.ReferenceIdeal.Step.b23
  rfl
set_option maxRecDepth 8192 in
theorem al_24 (h : Holds V0 s j) : (constantI S_ 32 0#32 : (Proc.devRef .tc main_while0b_call4_c_1 : DevRef τ sig).ty.Contents (Elt F)) = Cert.ReferenceIdeal.Step.b24 j s := by
  unfold Cert.ReferenceIdeal.Step.b24
  rfl
set_option maxRecDepth 8192 in
theorem al_25 (h : Holds V0 s j) : (Host.dynamicSlice S1x8x128x1 (V0 (Proc.devRef .tc main_v14_4)) (fun k => (((![res_main_while0b_v17 V0, constantI S_ 32 0#32, constantI S_ 32 0#32, constantI S_ 32 0#32] : Fin 4 → (⟨S_, .i32⟩ : BufTy).Contents (Elt F))) k (Shape.Idx.first h_S_)).toInt) sliceFits_S8192x8x128x1_S1x8x128x1 : (Proc.devRef .tc main_while0b_call4_v0 : DevRef τ sig).ty.Contents (Elt F)) = Cert.ReferenceIdeal.Step.b25 j s := by
  unfold Cert.ReferenceIdeal.Step.b25
  rw [← al_3 h, ← al_22 h, ← al_23 h, ← al_24 h, h.f_4]
  try rfl
set_option maxRecDepth 8192 in
theorem al_26 (h : Holds V0 s j) : (shapeCast S8x128x1 (Host.dynamicSlice S1x8x128x1 (V0 (Proc.devRef .tc main_v14_4)) (fun k => (((![res_main_while0b_v17 V0, constantI S_ 32 0#32, constantI S_ 32 0#32, constantI S_ 32 0#32] : Fin 4 → (⟨S_, .i32⟩ : BufTy).Contents (Elt F))) k (Shape.Idx.first h_S_)).toInt) sliceFits_S8192x8x128x1_S1x8x128x1) shapeCasts_S1x8x128x1_S8x128x1 : (Proc.devRef .tc main_while0b_v22 : DevRef τ sig).ty.Contents (Elt F)) = Cert.ReferenceIdeal.Step.b26 j s := by
  unfold Cert.ReferenceIdeal.Step.b26
  rw [← al_25 h]
  try rfl
set_option maxRecDepth 8192 in
theorem al_27 (h : Holds V0 s j) : (broadcastInDim S8x128x128 ![0, 2] bcast_S8x128_S8x128x128_0_2 (shapeCast S8x128 (Host.dynamicSlice S1x8x128 (V0 (Proc.devRef .tc main_v14_0)) (fun k => (((![res_main_while0b_v17 V0, constantI S_ 32 0#32, constantI S_ 32 0#32] : Fin 3 → (⟨S_, .i32⟩ : BufTy).Contents (Elt F))) k (Shape.Idx.first h_S_)).toInt) sliceFits_S8192x8x128_S1x8x128) shapeCasts_S1x8x128_S8x128) : (Proc.devRef .tc main_while0b_v23 : DevRef τ sig).ty.Contents (Elt F)) = Cert.ReferenceIdeal.Step.b27 j s := by
  unfold Cert.ReferenceIdeal.Step.b27
  rw [← al_7 h]
  try rfl
set_option maxRecDepth 8192 in
theorem al_28 (h : Holds V0 s j) : (broadcastInDim S8x128x128 ![0, 1, 2] bcast_S8x128x1_S8x128x128_0_1_2 (shapeCast S8x128x1 (Host.dynamicSlice S1x8x128x1 (V0 (Proc.devRef .tc main_v14_4)) (fun k => (((![res_main_while0b_v17 V0, constantI S_ 32 0#32, constantI S_ 32 0#32, constantI S_ 32 0#32] : Fin 4 → (⟨S_, .i32⟩ : BufTy).Contents (Elt F))) k (Shape.Idx.first h_S_)).toInt) sliceFits_S8192x8x128x1_S1x8x128x1) shapeCasts_S1x8x128x1_S8x128x1) : (Proc.devRef .tc main_while0b_v24 : DevRef τ sig).ty.Contents (Elt F)) = Cert.ReferenceIdeal.Step.b28 j s := by
  unfold Cert.ReferenceIdeal.Step.b28
  rw [← al_26 h]
  try rfl
set_option maxRecDepth 8192 in
theorem al_29 (h : Holds V0 s j) : (mulf (broadcastInDim S8x128x128 ![0, 2] bcast_S8x128_S8x128x128_0_2 (shapeCast S8x128 (Host.dynamicSlice S1x8x128 (V0 (Proc.devRef .tc main_v14_0)) (fun k => (((![res_main_while0b_v17 V0, constantI S_ 32 0#32, constantI S_ 32 0#32] : Fin 3 → (⟨S_, .i32⟩ : BufTy).Contents (Elt F))) k (Shape.Idx.first h_S_)).toInt) sliceFits_S8192x8x128_S1x8x128) shapeCasts_S1x8x128_S8x128)) (broadcastInDim S8x128x128 ![0, 1, 2] bcast_S8x128x1_S8x128x128_0_1_2 (shapeCast S8x128x1 (Host.dynamicSlice S1x8x128x1 (V0 (Proc.devRef .tc main_v14_4)) (fun k => (((![res_main_while0b_v17 V0, constantI S_ 32 0#32, constantI S_ 32 0#32, constantI S_ 32 0#32] : Fin 4 → (⟨S_, .i32⟩ : BufTy).Contents (Elt F))) k (Shape.Idx.first h_S_)).toInt) sliceFits_S8192x8x128x1_S1x8x128x1) shapeCasts_S1x8x128x1_S8x128x1)) : (Proc.devRef .tc main_while0b_v25 : DevRef τ sig).ty.Contents (Elt F)) = Cert.ReferenceIdeal.Step.b29 j s := by
  unfold Cert.ReferenceIdeal.Step.b29
  rw [← al_27 h, ← al_28 h]
  try rfl
set_option maxRecDepth 8192 in
theorem al_30 (h : Holds V0 s j) : (res_main_while0b_v26 V0 : (Proc.devRef .tc main_while0b_v26 : DevRef τ sig).ty.Contents (Elt F)) = Cert.ReferenceIdeal.Step.b30 j s := by
  unfold res_main_while0b_v26 Cert.ReferenceIdeal.Step.b30
  rw [← al_29 h, h.f_6]
  try rfl
set_option maxRecDepth 8192 in
theorem al_31 (h : Holds V0 s j) : (broadcastInDim S8x128x128 ![0, 1, 2] bcast_S8x128x1_S8x128x128_0_1_2 (res_main_while0b_v19 V0) : (Proc.devRef .tc main_while0b_v27 : DevRef τ sig).ty.Contents (Elt F)) = Cert.ReferenceIdeal.Step.b31 j s := by
  unfold Cert.ReferenceIdeal.Step.b31
  rw [← al_12 h]
  try rfl
set_option maxRecDepth 8192 in
theorem al_32 (h : Holds V0 s j) : (mulf (broadcastInDim S8x128x128 ![0, 1, 2] bcast_S8x128x1_S8x128x128_0_1_2 (res_main_while0b_v19 V0)) (res_main_while0b_v26 V0) : (Proc.devRef .tc main_while0b_v28 : DevRef τ sig).ty.Contents (Elt F)) = Cert.ReferenceIdeal.Step.b32 j s := by
  unfold Cert.ReferenceIdeal.Step.b32
  rw [← al_31 h, ← al_30 h]
  try rfl
set_option maxRecDepth 8192 in
theorem al_33 (h : Holds V0 s j) : (constant S_ .f32 0x00000000#32 : (Proc.devRef .tc main_while0b_cst_11 : DevRef τ sig).ty.Contents (Elt F)) = Cert.ReferenceIdeal.Step.b33 j s := by
  unfold Cert.ReferenceIdeal.Step.b33
  rfl
set_option maxRecDepth 8192 in
theorem al_34 (h : Holds V0 s j) : (Host.reduceAdd (mulf (broadcastInDim S8x128x128 ![0, 1, 2] bcast_S8x128x1_S8x128x128_0_1_2 (res_main_while0b_v19 V0)) (res_main_while0b_v26 V0)) (constant S_ .f32 0x00000000#32) reducesTo_S8x128x128_S8x128_d1 h_S_ : (Proc.devRef .tc main_while0b_v29 : DevRef τ sig).ty.Contents (Elt F)) = Cert.ReferenceIdeal.Step.b34 j s := by
  unfold Cert.ReferenceIdeal.Step.b34
  rw [← al_32 h, ← al_33 h]
  try rfl
set_option maxRecDepth 8192 in
theorem al_35 (h : Holds V0 s j) : (shapeCast S8x1x128 (Host.reduceAdd (mulf (broadcastInDim S8x128x128 ![0, 1, 2] bcast_S8x128x1_S8x128x128_0_1_2 (res_main_while0b_v19 V0)) (res_main_while0b_v26 V0)) (constant S_ .f32 0x00000000#32) reducesTo_S8x128x128_S8x128_d1 h_S_) shapeCasts_S8x128_S8x1x128 : (Proc.devRef .tc main_while0b_v30 : DevRef τ sig).ty.Contents (Elt F)) = Cert.ReferenceIdeal.Step.b35 j s := by
  unfold Cert.ReferenceIdeal.Step.b35
  rw [← al_34 h]
  try rfl
set_option maxRecDepth 8192 in
theorem al_36 (h : Holds V0 s j) : (constant S_ .f32 0x00000000#32 : (Proc.devRef .tc main_while0b_cst_12 : DevRef τ sig).ty.Contents (Elt F)) = Cert.ReferenceIdeal.Step.b36 j s := by
  unfold Cert.ReferenceIdeal.Step.b36
  rfl
set_option maxRecDepth 8192 in
theorem al_37 (h : Holds V0 s j) : (Host.reduceAdd (shapeCast S8x1x128 (Host.reduceAdd (mulf (broadcastInDim S8x128x128 ![0, 1, 2] bcast_S8x128x1_S8x128x128_0_1_2 (res_main_while0b_v19 V0)) (res_main_while0b_v26 V0)) (constant S_ .f32 0x00000000#32) reducesTo_S8x128x128_S8x128_d1 h_S_) shapeCasts_S8x128_S8x1x128) (constant S_ .f32 0x00000000#32) reducesTo_S8x1x128_S8x128_d1 h_S_ : (Proc.devRef .tc main_while0b_v31 : DevRef τ sig).ty.Contents (Elt F)) = Cert.ReferenceIdeal.Step.b37 j s := by
  unfold Cert.ReferenceIdeal.Step.b37
  rw [← al_35 h, ← al_36 h]
  try rfl
set_option maxRecDepth 8192 in
theorem al_38 (h : Holds V0 s j) : (broadcastInDim S8x128 ![0, 1] bcast_S8x1_S8x128_0_1 (shapeCast S8x1 (Host.dynamicSlice S1x8x1 (V0 (Proc.devRef .tc main_v14_2)) (fun k => (((![res_main_while0b_v17 V0, constantI S_ 32 0#32, constantI S_ 32 0#32] : Fin 3 → (⟨S_, .i32⟩ : BufTy).Contents (Elt F))) k (Shape.Idx.first h_S_)).toInt) sliceFits_S8192x8x1_S1x8x1) shapeCasts_S1x8x1_S8x1) : (Proc.devRef .tc main_while0b_v32 : DevRef τ sig).ty.Contents (Elt F)) = Cert.ReferenceIdeal.Step.b38 j s := by
  unfold Cert.ReferenceIdeal.Step.b38
  rw [← al_16 h]
  try rfl
set_option maxRecDepth 8192 in
theorem al_39 (h : Holds V0 s j) : (res_main_while0b_v33 V0 : (Proc.devRef .tc main_while0b_v33 : DevRef τ sig).ty.Contents (Elt F)) = Cert.ReferenceIdeal.Step.b39 j s := by
  unfold res_main_while0b_v33 Cert.ReferenceIdeal.Step.b39
  rw [← al_38 h, ← al_37 h]
  try rfl
set_option maxRecDepth 8192 in
theorem al_40 (h : Holds V0 s j) : (Host.negf (res_main_while0b_v33 V0) : (Proc.devRef .tc main_while0b_v34 : DevRef τ sig).ty.Contents (Elt F)) = Cert.ReferenceIdeal.Step.b40 j s := by
  unfold Cert.ReferenceIdeal.Step.b40
  rw [← al_39 h]
  try rfl
set_option maxRecDepth 8192 in
theorem al_41 (h : Holds V0 s j) : (broadcastInDim S8x128x128 ![0, 2] bcast_S8x128_S8x128x128_0_2 (Host.negf (res_main_while0b_v33 V0)) : (Proc.devRef .tc main_while0b_v35 : DevRef τ sig).ty.Contents (Elt F)) = Cert.ReferenceIdeal.Step.b41 j s := by
  unfold Cert.ReferenceIdeal.Step.b41
  rw [← al_40 h]
  try rfl
set_option maxRecDepth 8192 in
theorem al_42 (h : Holds V0 s j) : (broadcastInDim S8x128x128 ![0, 1, 2] bcast_S8x128x1_S8x128x128_0_1_2 (res_main_while0b_v19 V0) : (Proc.devRef .tc main_while0b_v36 : DevRef τ sig).ty.Contents (Elt F)) = Cert.ReferenceIdeal.Step.b42 j s := by
  unfold Cert.ReferenceIdeal.Step.b42
  rw [← al_12 h]
  try rfl
set_option maxRecDepth 8192 in
theorem al_43 (h : Holds V0 s j) : (mulf (broadcastInDim S8x128x128 ![0, 2] bcast_S8x128_S8x128x128_0_2 (Host.negf (res_main_while0b_v33 V0))) (broadcastInDim S8x128x128 ![0, 1, 2] bcast_S8x128x1_S8x128x128_0_1_2 (res_main_while0b_v19 V0)) : (Proc.devRef .tc main_while0b_v37 : DevRef τ sig).ty.Contents (Elt F)) = Cert.ReferenceIdeal.Step.b43 j s := by
  unfold Cert.ReferenceIdeal.Step.b43
  rw [← al_41 h, ← al_42 h]
  try rfl
set_option maxRecDepth 8192 in
theorem al_44 (h : Holds V0 s j) : (addf (res_main_while0b_v26 V0) (mulf (broadcastInDim S8x128x128 ![0, 2] bcast_S8x128_S8x128x128_0_2 (Host.negf (res_main_while0b_v33 V0))) (broadcastInDim S8x128x128 ![0, 1, 2] bcast_S8x128x1_S8x128x128_0_1_2 (res_main_while0b_v19 V0))) : (Proc.devRef .tc main_while0b_v38 : DevRef τ sig).ty.Contents (Elt F)) = Cert.ReferenceIdeal.Step.b44 j s := by
  unfold Cert.ReferenceIdeal.Step.b44
  rw [← al_30 h, ← al_43 h]
  try rfl
set_option maxRecDepth 8192 in
theorem al_45 (h : Holds V0 s j) : (broadcastInDim S8x128x128 ![0, 1, 2] bcast_S8x1x1_S8x128x128_0_1_2 (shapeCast S8x1x1 (Host.dynamicSlice S1x8x1x1 (V0 (Proc.devRef .tc main_v14_3)) (fun k => (((![res_main_while0b_v17 V0, constantI S_ 32 0#32, constantI S_ 32 0#32, constantI S_ 32 0#32] : Fin 4 → (⟨S_, .i32⟩ : BufTy).Contents (Elt F))) k (Shape.Idx.first h_S_)).toInt) sliceFits_S8192x8x1x1_S1x8x1x1) shapeCasts_S1x8x1x1_S8x1x1) : (Proc.devRef .tc main_while0b_v39 : DevRef τ sig).ty.Contents (Elt F)) = Cert.ReferenceIdeal.Step.b45 j s := by
  unfold Cert.ReferenceIdeal.Step.b45
  rw [← al_21 h]
  try rfl
set_option maxRecDepth 8192 in
theorem al_46 (h : Holds V0 s j) : (mulf (addf (res_main_while0b_v26 V0) (mulf (broadcastInDim S8x128x128 ![0, 2] bcast_S8x128_S8x128x128_0_2 (Host.negf (res_main_while0b_v33 V0))) (broadcastInDim S8x128x128 ![0, 1, 2] bcast_S8x128x1_S8x128x128_0_1_2 (res_main_while0b_v19 V0)))) (broadcastInDim S8x128x128 ![0, 1, 2] bcast_S8x1x1_S8x128x128_0_1_2 (shapeCast S8x1x1 (Host.dynamicSlice S1x8x1x1 (V0 (Proc.devRef .tc main_v14_3)) (fun k => (((![res_main_while0b_v17 V0, constantI S_ 32 0#32, constantI S_ 32 0#32, constantI S_ 32 0#32] : Fin 4 → (⟨S_, .i32⟩ : BufTy).Contents (Elt F))) k (Shape.Idx.first h_S_)).toInt) sliceFits_S8192x8x1x1_S1x8x1x1) shapeCasts_S1x8x1x1_S8x1x1)) : (Proc.devRef .tc main_while0b_v40 : DevRef τ sig).ty.Contents (Elt F)) = Cert.ReferenceIdeal.Step.b46 j s := by
  unfold Cert.ReferenceIdeal.Step.b46
  rw [← al_44 h, ← al_45 h]
  try rfl
set_option maxRecDepth 8192 in
theorem al_47 (h : Holds V0 s j) : (broadcastInDim S1x8x128 ![1, 2] bcast_S8x128_S1x8x128_1_2 (res_main_while0b_v33 V0) : (Proc.devRef .tc main_while0b_call5_v0 : DevRef τ sig).ty.Contents (Elt F)) = Cert.ReferenceIdeal.Step.b47 j s := by
  unfold Cert.ReferenceIdeal.Step.b47
  rw [← al_39 h]
  try rfl
set_option maxRecDepth 8192 in
theorem al_48 (h : Holds V0 s j) : (constantI S_ 32 0#32 : (Proc.devRef .tc main_while0b_call5_c : DevRef τ sig).ty.Contents (Elt F)) = Cert.ReferenceIdeal.Step.b48 j s := by
  unfold Cert.ReferenceIdeal.Step.b48
  rfl
set_option maxRecDepth 8192 in
theorem al_49 (h : Holds V0 s j) : (constantI S_ 32 0#32 : (Proc.devRef .tc main_while0b_call5_c_0 : DevRef τ sig).ty.Contents (Elt F)) = Cert.ReferenceIdeal.Step.b49 j s := by
  unfold Cert.ReferenceIdeal.Step.b49
  rfl
set_option maxRecDepth 8192 in
theorem al_50 (h : Holds V0 s j) : (Host.dynamicUpdateSlice (V0 (Proc.devRef .tc main_v14_7)) (broadcastInDim S1x8x128 ![1, 2] bcast_S8x128_S1x8x128_1_2 (res_main_while0b_v33 V0)) (fun k => (((![res_main_while0b_v17 V0, constantI S_ 32 0#32, constantI S_ 32 0#32] : Fin 3 → (⟨S_, .i32⟩ : BufTy).Contents (Elt F))) k (Shape.Idx.first h_S_)).toInt) updateFits_S8192x8x128_S1x8x128 : (Proc.devRef .tc main_while0b_v41 : DevRef τ sig).ty.Contents (Elt F)) = Cert.ReferenceIdeal.Step.b50 j s := by
  unfold Cert.ReferenceIdeal.Step.b50
  rw [← al_47 h, ← al_3 h, ← al_48 h, ← al_49 h, h.f_7]
  try rfl

/-! One trip's step of the carried values is `step`, field by field; a counter steps to the next number. -/

theorem step_6 (h : Holds V0 s j) : step_main_v14_6 V0 = (step j s).main_v14_6 := by
  unfold step_main_v14_6 Cert.ReferenceIdeal.Step.step
  show id (mulf (addf (res_main_while0b_v26 V0) (mulf (broadcastInDim S8x128x128 ![0, 2] bcast_S8x128_S8x128x128_0_2 (Host.negf (res_main_while0b_v33 V0))) (broadcastInDim S8x128x128 ![0, 1, 2] bcast_S8x128x1_S8x128x128_0_1_2 (res_main_while0b_v19 V0)))) (broadcastInDim S8x128x128 ![0, 1, 2] bcast_S8x1x1_S8x128x128_0_1_2 (shapeCast S8x1x1 (Host.dynamicSlice S1x8x1x1 (V0 (Proc.devRef .tc main_v14_3)) (fun k => (((![res_main_while0b_v17 V0, constantI S_ 32 0#32, constantI S_ 32 0#32, constantI S_ 32 0#32] : Fin 4 → (⟨S_, .i32⟩ : BufTy).Contents (Elt F))) k (Shape.Idx.first h_S_)).toInt) sliceFits_S8192x8x1x1_S1x8x1x1) shapeCasts_S1x8x1x1_S8x1x1))) = _
  exact al_46 h
theorem step_7 (h : Holds V0 s j) : step_main_v14_7 V0 = (step j s).main_v14_7 := by
  unfold step_main_v14_7
  show id (Host.dynamicUpdateSlice (V0 (Proc.devRef .tc main_v14_7)) (broadcastInDim S1x8x128 ![1, 2] bcast_S8x128_S1x8x128_1_2 (res_main_while0b_v33 V0)) (fun k => (((![res_main_while0b_v17 V0, constantI S_ 32 0#32, constantI S_ 32 0#32] : Fin 3 → (⟨S_, .i32⟩ : BufTy).Contents (Elt F))) k (Shape.Idx.first h_S_)).toInt) updateFits_S8192x8x128_S1x8x128) = _
  rw [id_eq]
  exact (al_50 h).trans (Cert.ReferenceIdeal.Step.step_main_v14_7 j s).symm
theorem step_5 (h : Holds V0 s j) : step_main_v14_5 V0 = constantI S_ 32 (BitVec.ofNat 32 (j + 1)) := by
  unfold step_main_v14_5
  rw [h.n_5]
  funext i
  show BitVec.ofNat 32 j + 1#32 = BitVec.ofNat 32 (j + 1)
  simp only [BitVec.ofNat_add]

set_option maxRecDepth 8192 in
theorem out_main_v15_holds (h : Holds V0 s j) : out_main_v15 V0 = Cert.ReferenceIdeal.Step.R_main_v15 s := by
  unfold out_main_v15 Cert.ReferenceIdeal.Step.R_main_v15
  rw [h.f_7]
  try rfl

/-- One trip keeps the valuation holding: `step` of the state, the same set-up values, the next number. -/
theorem holds_step (h : Holds V0 s j) : Holds (STEP V0) (step j s) (j + 1) where
  f_6 := (STEP_main_v14_6 V0).trans (step_6 h)
  f_7 := (STEP_main_v14_7 V0).trans (step_7 h)
  n_5 := (STEP_main_v14_5 V0).trans (step_5 h)
  f_0 := (STEP_main_v14_0 V0).trans h.f_0
  f_1 := (STEP_main_v14_1 V0).trans h.f_1
  f_2 := (STEP_main_v14_2 V0).trans h.f_2
  f_3 := (STEP_main_v14_3 V0).trans h.f_3
  f_4 := (STEP_main_v14_4 V0).trans h.f_4

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg3)) (m ((c.tc : Thread nD τ).loc main_arg4))

variable (m : (ℓ : Loc nD τ sig) → Buf (Elt F) ℓ) (c : Dev nD)

set_option maxRecDepth 65536 in
set_option maxHeartbeats 300000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 8192 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v15) = Cert.ReferenceIdeal.Step.R_main_v15 (it c 8192)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m c (it c) (h0 c) (hs c) 8192
    ⟨(h c).1.trans (out_main_v15_holds hk), (h c).2.1, (h c).2.2.1, (h c).2.2.2.1, (h c).2.2.2.2.1, (h c).2.2.2.2.2.1, (h c).2.2.2.2.2.2⟩) (Value.run m ρ)

end Cert.ReferenceIdeal.StepRun

end
-- ==== Proof.Equal.lean ====
/- The values' gradient: the kernel's array and the reference's are both the pass over the tokens (`Token.lean`). -/
module

public import proofs.«01_k».proof.Proof.Finite
public import proofs.«01_k».proof.Proof.Grid
public import proofs.«01_k».proof.Proof.RefValue
public import proofs.«01_k».proof.Proof.RefStepRun

@[expose] public section

noncomputable section

namespace Cert.Equal

open Idealize.ShloMosaic Idealize.ShloMosaic.TcCoe Idealize.SL.Sem Cert.Gdn

/-- The kernel's array and the reference's, of memories that agree on the arguments. -/
theorem value (m : (ℓ : Loc Cert.KernelIdeal.nD Cert.KernelIdeal.τ Cert.KernelIdeal.sig) → Buf (Elt Ideal) ℓ) (c : Dev Cert.KernelIdeal.nD)
    (h : Cert.Pre_KernelIdeal m) :
    Cert.ReferenceIdeal.Step.R_main_v15 (Cert.ReferenceIdeal.Step.iter (Cert.ReferenceIdeal.Step.init
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))) 8192)
      = (Cert.KernelIdeal.Gen.dats m 0 c).arrAt 9 Cert.KernelIdeal.cfg0.N := by
  obtain ⟨hq, hk, hg, ho⟩ := Cert.Finite.reals h c
  have A : Cert.KernelIdeal.Value.Args m c _ _ _ _ :=
    ⟨fun t l => hq (ix2 t l), fun t l => hk (ix2 t l), fun t l => hg (ix2 t l), fun t l => ho (ix2 t l)⟩
  funext y
  rw [ValueIdx.eq_ix2 y]
  exact (Cert.ReferenceIdeal.Step.result_apply A.q A.k A.o A.gb _ _).trans (A.result _ _).symm

/-- The first trip's state of equal arguments. -/
theorem init_congr {q q' k k' o o' : (⟨Cert.ReferenceIdeal.S8192x1024, .f32⟩ : BufTy).Contents (Elt Ideal)}
    {g g' : (⟨Cert.ReferenceIdeal.S8192x128, .f32⟩ : BufTy).Contents (Elt Ideal)} (hq : q = q') (hk : k = k') (hg : g = g') (ho : o = o') :
    Cert.ReferenceIdeal.Step.init q k g o = Cert.ReferenceIdeal.Step.init q' k' g' o' := by rw [hq, hk, hg, ho]

/-- Kernel and reference compute the same values' gradient. -/
theorem algebraic : Cert.algebraic_KernelIdeal_ReferenceIdeal := fun m g m' g' h hm =>
  ⟨fun c => (Cert.KernelIdeal.Gen.dats m 0 c).arrAt 9 Cert.KernelIdeal.cfg0.N,
    (θ_run Cert.KernelIdeal.defs _ _).mono (fun _ e c => ⟨(e c).2.2.1, (e c).2.2.2.2⟩) (Cert.KernelIdeal.Value.run_blocks m g),
    (θ_run Cert.ReferenceIdeal.defs _ _).mono (fun _ e c => ⟨(e c).1.trans ((congrArg
        (fun s => Cert.ReferenceIdeal.Step.R_main_v15 (Cert.ReferenceIdeal.Step.iter s 8192))
        (init_congr (hm c).1 (hm c).2.1 (hm c).2.2.2.1 (hm c).2.2.2.2.1)).trans (value m c h)), (e c).2⟩)
      (Cert.ReferenceIdeal.StepRun.run_iter m' g' (fun c => Cert.ReferenceIdeal.Step.iter (Cert.ReferenceIdeal.StepRun.initState m' c))
        (fun _ => rfl) (fun _ _ => rfl))⟩

end Cert.Equal

end
-- ==== Proof.Products.lean ====
/- The three products of two matrices that the step forms. -/
module

public import Idealize.ShloMosaic.Lib.Pipeline.ValueKit.Geometry
public import Idealize.ShloMosaic.Lib.Pipeline.ValueKit.Acc
public import Idealize.ShloMosaic.Lib.Pointwise
public import Idealize.ShloMosaic.Lib.ValueIdx

@[expose] public section

noncomputable section

namespace Cert.Product

open Idealize.ShloMosaic

/-- A matrix of extended reals. -/
abbrev Mat (M N : ℕ) := (⟨2, ![M, N]⟩ : Shape).Idx → EReal

/-- Rows of the first against columns of the second. -/
def plain {M K N : ℕ} (x : Mat M K) (y : Mat K N) : Mat M N := fun i => ∑ k : Fin K, x (ix2 (i 0) k) * y (ix2 k (i 1))

/-- Rows of the first against rows of the second: a gradient carried back through a weight. -/
def rows {M K N : ℕ} (x : Mat M K) (y : Mat N K) : Mat M N := fun i => ∑ k : Fin K, x (ix2 (i 0) k) * y (ix2 (i 1) k)

/-- Columns of the first against columns of the second: a weight's gradient, summed over the tokens. -/
def cols {M K N : ℕ} (x : Mat K M) (y : Mat K N) : Mat M N := fun i => ∑ k : Fin K, x (ix2 k (i 0)) * y (ix2 k (i 1))

/-- The columns of a matrix from one on. -/
def columns {M K N : ℕ} (n : ℕ) (h : n + K ≤ N) (x : Mat M N) : Mat M K := fun i => x (ix2 (i 0) ⟨n + (i 1).val, by have : (i 1).val < K := (i 1).isLt; omega⟩)

/-- The first columns of a matrix. -/
def leading {M K N : ℕ} (h : K ≤ N) (x : Mat M N) : Mat M K := fun i => x (ix2 (i 0) ((i 1 : Fin K).castLE h))

/-- A matrix added to another. -/
def plus {M N : ℕ} (x y : Mat M N) : Mat M N := fun i => x i + y i

end Cert.Product

end
-- ==== Proof.InputGrads.lean ====
/- The products that carry a gradient back through a weight, at the reals: each block that a grid point writes is its rows
   of one whole product. -/
module

public import proofs.«01_k».proof.Defs
public import proofs.«01_k».proof.Proof.Products
public import proofs.«01_k».proof.Proof.Gen.InDxIdeal.Value
public import proofs.«01_k».proof.Proof.Gen.InDxRefIdeal.Run
public import proofs.«01_k».proof.Proof.Gen.UpDxIdeal.Value
public import proofs.«01_k».proof.Proof.Gen.UpDxRefIdeal.Run
public import proofs.«01_k».proof.Proof.Gen.DownDxIdeal.Value
public import proofs.«01_k».proof.Proof.Gen.DownDxRefIdeal.Run
public import proofs.«01_k».proof.Proof.Gen.SquareDxIdeal.Value
public import proofs.«01_k».proof.Proof.Gen.SquareDxRefIdeal.Run
public import proofs.«01_k».proof.Proof.Gen.BDxIdeal.Value
public import proofs.«01_k».proof.Proof.Gen.BDxRefIdeal.Run

@[expose] public section

noncomputable section

open Idealize.ShloMosaic Idealize.ShloMosaic.TcCoe Idealize.SL.Sem Cert.Product

namespace Cert.InDxIdeal.Value

open Cert.InDxIdeal Cert.InDxIdeal.Gen

theorem indices : ∀ t : Fin cfg0.N, win0_0.index t = ![t.val, 0] ∧ win0_1.index t = ![0, 0] ∧ win0_2.index t = ![t.val, 0] :=
  (by decide +kernel : ∀ t : Fin grid0.N, _)

/-- The gradient of the input projection's input. -/
theorem result (m : (ℓ : Loc nD τ sig) → Buf (Elt Ideal) ℓ) (c : Dev nD) : (dats m 0 c).arrAt 2 cfg0.N = rows (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold k0_pay1
  pointwise
  unfold rows
  refine Fin.sum_fin_congr fun k => ?_
  congr 1 <;> blk_ext [iblk, V, indices t]

theorem algebraic : Cert.algebraic_InDxIdeal_InDxRefIdeal := fun m g m' g' _ hm =>
  ⟨fun c => (dats m 0 c).arrAt 2 cfg0.N, run_blocks m g,
    (θ_run Cert.InDxRefIdeal.defs _ _).mono (fun _ e c => ⟨(e c).1.trans (by rw [(hm c).1, (hm c).2]; refine .trans ?_ (result m c).symm; funext i; pointwise; rfl), (e c).2⟩)
      (Cert.InDxRefIdeal.Value.run m' g')⟩

end Cert.InDxIdeal.Value

namespace Cert.UpDxIdeal.Value

open Cert.UpDxIdeal Cert.UpDxIdeal.Gen

theorem indices : ∀ t : Fin cfg0.N, win0_0.index t = ![t.val, 0] ∧ win0_1.index t = ![0, 0] ∧ win0_2.index t = ![t.val, 0] :=
  (by decide +kernel : ∀ t : Fin grid0.N, _)

/-- The gradient of the up projection's input. -/
theorem result (m : (ℓ : Loc nD τ sig) → Buf (Elt Ideal) ℓ) (c : Dev nD) : (dats m 0 c).arrAt 2 cfg0.N = plain (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold k0_pay1
  pointwise
  unfold plain
  refine Fin.sum_fin_congr fun k => ?_
  congr 1 <;> blk_ext [iblk, V, indices t]

theorem algebraic : Cert.algebraic_UpDxIdeal_UpDxRefIdeal := fun m g m' g' _ hm =>
  ⟨fun c => (dats m 0 c).arrAt 2 cfg0.N, run_blocks m g,
    (θ_run Cert.UpDxRefIdeal.defs _ _).mono (fun _ e c => ⟨(e c).1.trans (by rw [(hm c).1, (hm c).2]; refine .trans ?_ (result m c).symm; funext i; pointwise; rfl), (e c).2⟩)
      (Cert.UpDxRefIdeal.Value.run m' g')⟩

end Cert.UpDxIdeal.Value

namespace Cert.DownDxIdeal.Value

open Cert.DownDxIdeal Cert.DownDxIdeal.Gen

theorem indices : ∀ t : Fin cfg0.N, win0_0.index t = ![t.val, 0] ∧ win0_1.index t = ![0, 0] ∧ win0_2.index t = ![t.val, 0] :=
  (by decide +kernel : ∀ t : Fin grid0.N, _)

/-- The gradient of the down projection's input. -/
theorem result (m : (ℓ : Loc nD τ sig) → Buf (Elt Ideal) ℓ) (c : Dev nD) : (dats m 0 c).arrAt 2 cfg0.N = rows (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold k0_pay1
  pointwise
  unfold rows
  refine Fin.sum_fin_congr fun k => ?_
  congr 1 <;> blk_ext [iblk, V, indices t]

theorem algebraic : Cert.algebraic_DownDxIdeal_DownDxRefIdeal := fun m g m' g' _ hm =>
  ⟨fun c => (dats m 0 c).arrAt 2 cfg0.N, run_blocks m g,
    (θ_run Cert.DownDxRefIdeal.defs _ _).mono (fun _ e c => ⟨(e c).1.trans (by rw [(hm c).1, (hm c).2]; refine .trans ?_ (result m c).symm; funext i; pointwise; rfl), (e c).2⟩)
      (Cert.DownDxRefIdeal.Value.run m' g')⟩

end Cert.DownDxIdeal.Value

namespace Cert.SquareDxIdeal.Value

open Cert.SquareDxIdeal Cert.SquareDxIdeal.Gen

theorem indices : ∀ t : Fin cfg0.N, win0_0.index t = ![t.val, 0] ∧ win0_1.index t = ![0, 0] ∧ win0_2.index t = ![t.val, 0] :=
  (by decide +kernel : ∀ t : Fin grid0.N, _)

/-- The gradient of a square projection's input, rounded. -/
theorem result (m : (ℓ : Loc nD τ sig) → Buf (Elt Ideal) ℓ) (c : Dev nD) : (dats m 0 c).arrAt 2 cfg0.N = rows (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold k0_pay1
  pointwise
  unfold rows
  refine Fin.sum_fin_congr fun k => ?_
  congr 1 <;> blk_ext [iblk, V, indices t]

theorem algebraic : Cert.algebraic_SquareDxIdeal_SquareDxRefIdeal := fun m g m' g' _ hm =>
  ⟨fun c => (dats m 0 c).arrAt 2 cfg0.N, run_blocks m g,
    (θ_run Cert.SquareDxRefIdeal.defs _ _).mono (fun _ e c => ⟨(e c).1.trans (by rw [(hm c).1, (hm c).2]; refine .trans ?_ (result m c).symm; funext i; pointwise; rfl), (e c).2⟩)
      (Cert.SquareDxRefIdeal.Value.run m' g')⟩

end Cert.SquareDxIdeal.Value

namespace Cert.BDxIdeal.Value

open Cert.BDxIdeal Cert.BDxIdeal.Gen

theorem indices : ∀ t : Fin cfg0.N, win0_0.index t = ![t.val, 0] ∧ win0_1.index t = ![0, 0] ∧ win0_2.index t = ![t.val, 0] :=
  (by decide +kernel : ∀ t : Fin grid0.N, _)

/-- The gradient of a square projection's input. -/
theorem result (m : (ℓ : Loc nD τ sig) → Buf (Elt Ideal) ℓ) (c : Dev nD) : (dats m 0 c).arrAt 2 cfg0.N = rows (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold k0_pay1
  pointwise
  unfold rows
  refine Fin.sum_fin_congr fun k => ?_
  congr 1 <;> blk_ext [iblk, V, indices t]

theorem algebraic : Cert.algebraic_BDxIdeal_BDxRefIdeal := fun m g m' g' _ hm =>
  ⟨fun c => (dats m 0 c).arrAt 2 cfg0.N, run_blocks m g,
    (θ_run Cert.BDxRefIdeal.defs _ _).mono (fun _ e c => ⟨(e c).1.trans (by rw [(hm c).1, (hm c).2]; refine .trans ?_ (result m c).symm; funext i; pointwise; rfl), (e c).2⟩)
      (Cert.BDxRefIdeal.Value.run m' g')⟩

end Cert.BDxIdeal.Value

end
-- ==== Proof.WeightGrads.lean ====
/- The products that form a weight's gradient, at the reals: the blocks of tokens are summed in turn into each block of the
   gradient, which ends holding the product over every token. -/
module

public import proofs.«01_k».proof.Defs
public import proofs.«01_k».proof.Proof.Products
public import proofs.«01_k».proof.Proof.Gen.InDwIdeal.Value
public import proofs.«01_k».proof.Proof.Gen.InDwRefIdeal.Run
public import proofs.«01_k».proof.Proof.Gen.UpDwIdeal.Value
public import proofs.«01_k».proof.Proof.Gen.UpDwRefIdeal.Run
public import proofs.«01_k».proof.Proof.Gen.DownDwIdeal.Value
public import proofs.«01_k».proof.Proof.Gen.DownDwRefIdeal.Run
public import proofs.«01_k».proof.Proof.Gen.SquareDwIdeal.Value
public import proofs.«01_k».proof.Proof.Gen.SquareDwRefIdeal.Run

@[expose] public section

noncomputable section

open Idealize.ShloMosaic Idealize.ShloMosaic.TcCoe Idealize.SL.Sem Cert.Product

namespace Cert.InDwIdeal.Value

open Cert.InDwIdeal Cert.InDwIdeal.Gen

theorem indices : ∀ t : Fin cfg0.N, win0_0.index t = ![t.val % 2, t.val / 2] ∧ win0_1.index t = ![t.val % 2, 0] ∧ win0_2.index t = ![t.val / 2, 0] :=
  (by decide +kernel : ∀ t : Fin grid0.N, _)

theorem block_product (x : Vec Ideal S4096x1024 .bf16) (y : Vec Ideal S4096x1024 .bf16) (i : S1024x1024.Idx) :
    k0_pay1 x y i = 0 + cols x y i := by
  unfold k0_pay1 cols
  pointwise

theorem block_sum (x : Vec Ideal S4096x1024 .bf16) (y : Vec Ideal S4096x1024 .bf16) (z : Vec Ideal S1024x1024 .f32) (i : S1024x1024.Idx) :
    k0_pay2 x y z i = z i + cols x y i := by
  unfold k0_pay2 k0_pay1 cols
  pointwise

/-- The input projection's gradient. -/
theorem result (m : (ℓ : Loc nD τ sig) → Buf (Elt Ideal) ℓ) (c : Dev nD) : (dats m 0 c).arrAt 2 cfg0.N = cols (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 2 (fun _ => 0) _
    (fun t h j => by rw [outsAt0_A m c t h (by omega)]; frame_out; rw [block_product])
    (fun t h j => by rw [outsAt0_B m c t h (by omega)]; frame_out; rw [block_sum]) t ((flush0_2 t).mp hf) y, zero_add]
  unfold cols
  refine Fin.sum_mul_add_congr fun s k hl => ?_
  congr 1 <;> blk_ext [iblk, V, indices]

theorem algebraic : Cert.algebraic_InDwIdeal_InDwRefIdeal := fun m g m' g' _ hm =>
  ⟨fun c => (dats m 0 c).arrAt 2 cfg0.N, run_blocks m g,
    (θ_run Cert.InDwRefIdeal.defs _ _).mono (fun _ e c => ⟨(e c).1.trans (by rw [(hm c).1, (hm c).2]; refine .trans ?_ (result m c).symm; funext i; pointwise; rfl), (e c).2⟩)
      (Cert.InDwRefIdeal.Value.run m' g')⟩

end Cert.InDwIdeal.Value

namespace Cert.UpDwIdeal.Value

open Cert.UpDwIdeal Cert.UpDwIdeal.Gen

theorem indices : ∀ t : Fin cfg0.N, win0_0.index t = ![t.val % 4, t.val / 4] ∧ win0_1.index t = ![t.val % 4, 0] ∧ win0_2.index t = ![t.val / 4, 0] :=
  (by decide +kernel : ∀ t : Fin grid0.N, _)

theorem block_product (x : Vec Ideal S2048x1408 .bf16) (y : Vec Ideal S2048x1024 .bf16) (i : S1408x1024.Idx) :
    k0_pay1 x y i = 0 + cols x y i := by
  unfold k0_pay1 cols
  pointwise

theorem block_sum (x : Vec Ideal S2048x1408 .bf16) (y : Vec Ideal S2048x1024 .bf16) (z : Vec Ideal S1408x1024 .f32) (i : S1408x1024.Idx) :
    k0_pay2 x y z i = z i + cols x y i := by
  unfold k0_pay2 k0_pay1 cols
  pointwise

/-- The up projection's gradient. -/
theorem result (m : (ℓ : Loc nD τ sig) → Buf (Elt Ideal) ℓ) (c : Dev nD) : (dats m 0 c).arrAt 2 cfg0.N = cols (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by omega)]; frame_out; rw [block_product])
    (fun t h j => by rw [outsAt0_B m c t h (by omega)]; frame_out; rw [block_sum]) t ((flush0_2 t).mp hf) y, zero_add]
  unfold cols
  refine Fin.sum_mul_add_congr fun s k hl => ?_
  congr 1 <;> blk_ext [iblk, V, indices]

theorem algebraic : Cert.algebraic_UpDwIdeal_UpDwRefIdeal := fun m g m' g' _ hm =>
  ⟨fun c => (dats m 0 c).arrAt 2 cfg0.N, run_blocks m g,
    (θ_run Cert.UpDwRefIdeal.defs _ _).mono (fun _ e c => ⟨(e c).1.trans (by rw [(hm c).1, (hm c).2]; refine .trans ?_ (result m c).symm; funext i; pointwise; rfl), (e c).2⟩)
      (Cert.UpDwRefIdeal.Value.run m' g')⟩

end Cert.UpDwIdeal.Value

namespace Cert.DownDwIdeal.Value

open Cert.DownDwIdeal Cert.DownDwIdeal.Gen

theorem indices : ∀ t : Fin cfg0.N, win0_0.index t = ![t.val % 4, t.val / 4] ∧ win0_1.index t = ![t.val % 4, 0] ∧ win0_2.index t = ![t.val / 4, 0] :=
  (by decide +kernel : ∀ t : Fin grid0.N, _)

theorem block_product (x : Vec Ideal S2048x1408 .bf16) (y : Vec Ideal S2048x1024 .bf16) (i : S1408x1024.Idx) :
    k0_pay1 x y i = 0 + cols x y i := by
  unfold k0_pay1 cols
  pointwise

theorem block_sum (x : Vec Ideal S2048x1408 .bf16) (y : Vec Ideal S2048x1024 .bf16) (z : Vec Ideal S1408x1024 .f32) (i : S1408x1024.Idx) :
    k0_pay2 x y z i = z i + cols x y i := by
  unfold k0_pay2 k0_pay1 cols
  pointwise

/-- The down projection's gradient. -/
theorem result (m : (ℓ : Loc nD τ sig) → Buf (Elt Ideal) ℓ) (c : Dev nD) : (dats m 0 c).arrAt 2 cfg0.N = cols (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by omega)]; frame_out; rw [block_product])
    (fun t h j => by rw [outsAt0_B m c t h (by omega)]; frame_out; rw [block_sum]) t ((flush0_2 t).mp hf) y, zero_add]
  unfold cols
  refine Fin.sum_mul_add_congr fun s k hl => ?_
  congr 1 <;> blk_ext [iblk, V, indices]

theorem algebraic : Cert.algebraic_DownDwIdeal_DownDwRefIdeal := fun m g m' g' _ hm =>
  ⟨fun c => (dats m 0 c).arrAt 2 cfg0.N, run_blocks m g,
    (θ_run Cert.DownDwRefIdeal.defs _ _).mono (fun _ e c => ⟨(e c).1.trans (by rw [(hm c).1, (hm c).2]; refine .trans ?_ (result m c).symm; funext i; pointwise; exact Finset.sum_congr rfl fun k _ => mul_comm _ _), (e c).2⟩)
      (Cert.DownDwRefIdeal.Value.run m' g')⟩

end Cert.DownDwIdeal.Value

namespace Cert.SquareDwIdeal.Value

open Cert.SquareDwIdeal Cert.SquareDwIdeal.Gen

theorem indices : ∀ t : Fin cfg0.N, win0_0.index t = ![t.val % 4, t.val / 4] ∧ win0_1.index t = ![t.val % 4, 0] ∧ win0_2.index t = ![t.val / 4, 0] :=
  (by decide +kernel : ∀ t : Fin grid0.N, _)

theorem block_product (x : Vec Ideal S2048x1024 .bf16) (y : Vec Ideal S2048x1024 .bf16) (i : S1024x1024.Idx) :
    k0_pay1 x y i = 0 + cols x y i := by
  unfold k0_pay1 cols
  pointwise

theorem block_sum (x : Vec Ideal S2048x1024 .bf16) (y : Vec Ideal S2048x1024 .bf16) (z : Vec Ideal S1024x1024 .f32) (i : S1024x1024.Idx) :
    k0_pay2 x y z i = z i + cols x y i := by
  unfold k0_pay2 k0_pay1 cols
  pointwise

/-- A square projection's gradient. -/
theorem result (m : (ℓ : Loc nD τ sig) → Buf (Elt Ideal) ℓ) (c : Dev nD) : (dats m 0 c).arrAt 2 cfg0.N = cols (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0) _
    (fun t h j => by rw [outsAt0_A m c t h (by have ht : t.val < 4 := t.isLt; omega)]; frame_out; rw [block_product])
    (fun t h j => by rw [outsAt0_B m c t h (by omega)]; frame_out; rw [block_sum]) t ((flush0_2 t).mp hf) y, zero_add]
  unfold cols
  refine Fin.sum_mul_add_congr fun s k hl => ?_
  congr 1 <;> blk_ext [iblk, V, indices]

theorem algebraic : Cert.algebraic_SquareDwIdeal_SquareDwRefIdeal := fun m g m' g' _ hm =>
  ⟨fun c => (dats m 0 c).arrAt 2 cfg0.N, run_blocks m g,
    (θ_run Cert.SquareDwRefIdeal.defs _ _).mono (fun _ e c => ⟨(e c).1.trans (by rw [(hm c).1, (hm c).2]; refine .trans ?_ (result m c).symm; funext i; pointwise; exact Finset.sum_congr rfl fun k _ => mul_comm _ _), (e c).2⟩)
      (Cert.SquareDwRefIdeal.Value.run m' g')⟩

end Cert.SquareDwIdeal.Value

end
-- ==== Proof.Forward.lean ====
/- The products of the forward pass, at the reals: each block that a grid point writes is its rows and columns of one whole
   product. -/
module

public import proofs.«01_k».proof.Defs
public import proofs.«01_k».proof.Proof.Products
public import proofs.«01_k».proof.Proof.Gen.InGatesIdeal.Value
public import proofs.«01_k».proof.Proof.Gen.InGatesRefIdeal.Run
public import proofs.«01_k».proof.Proof.Gen.InQkvIdeal.Value
public import proofs.«01_k».proof.Proof.Gen.InQkvRefIdeal.Run
public import proofs.«01_k».proof.Proof.Gen.UpIdeal.Value
public import proofs.«01_k».proof.Proof.Gen.UpRefIdeal.Run
public import proofs.«01_k».proof.Proof.Gen.DownIdeal.Value
public import proofs.«01_k».proof.Proof.Gen.DownRefIdeal.Run
public import proofs.«01_k».proof.Proof.Gen.SquareIdeal.Value
public import proofs.«01_k».proof.Proof.Gen.SquareRefIdeal.Run
public import proofs.«01_k».proof.Proof.Gen.OIdeal.Value
public import proofs.«01_k».proof.Proof.Gen.ORefIdeal.Run

@[expose] public section

noncomputable section

open Idealize.ShloMosaic Idealize.ShloMosaic.TcCoe Idealize.SL.Sem Cert.Product

namespace Cert.InGatesIdeal.Value

open Cert.InGatesIdeal Cert.InGatesIdeal.Gen

theorem indices : ∀ t : Fin cfg0.N, win0_0.index t = ![t.val / 6, 0] ∧ win0_1.index t = ![0, t.val % 6] ∧ win0_2.index t = ![t.val / 6, t.val % 6] :=
  (by decide +kernel : ∀ t : Fin grid0.N, _)

/-- The gates' columns of the input projection. -/
theorem result (m : (ℓ : Loc nD τ sig) → Buf (Elt Ideal) ℓ) (c : Dev nD) : (dats m 0 c).arrAt 2 cfg0.N = plain (m ((c : Thread nD τ).loc main_arg0)) (leading (by decide) (m ((c : Thread nD τ).loc main_arg1)) : Mat 1024 6144) := by
  refine (dats m 0 c).arrAt_eq_of_covers 2 _ (by decide +kernel) fun t hf y => ?_
  blk_simp
  rw [after0_2]
  frame_out
  unfold k0_pay1
  pointwise
  unfold plain leading
  refine Fin.sum_fin_congr fun k => ?_
  congr 1 <;> blk_ext [iblk, V, indices t]
  change _ = (((View.whole main_v0).slice (win0_2.rect t)).emb y 1).val
  blk_simp [indices t]

theorem algebraic : Cert.algebraic_InGatesIdeal_InGatesRefIdeal := fun m g m' g' _ hm =>
  ⟨fun c => (dats m 0 c).arrAt 2 cfg0.N, run_blocks m g,
    (θ_run Cert.InGatesRefIdeal.defs _ _).mono (fun _ e c => ⟨(e c).1.trans (by rw [(hm c).1, (hm c).2]; refine .trans ?_ (result m c).symm; funext i; pointwise; rfl), (e c).2⟩)
      (Cert.InGatesRefIdeal.Value.run m' g')⟩

end Cert.InGatesIdeal.Value

namespace Cert.InQkvIdeal.Value

open Cert.InQkvIdeal Cert.InQkvIdeal.Gen

theorem indices : ∀ t : Fin cfg0.N, win0_0.index t = ![t.val / 3, 0] ∧ win0_1.index t = ![0, t.val % 3 + 6] ∧ win0_2.index t = ![t.val / 3, t.val % 3] :=
  (by decide +kernel : ∀ t : Fin grid0.N, _)

/-- The queries', keys' and values' columns of the input projection. -/
theorem result (m : (ℓ : Loc nD τ sig) → Buf (Elt Ideal) ℓ) (c : Dev nD) : (dats m 0 c).arrAt 2 cfg0.N = plain (m ((c : Thread nD τ).loc main_arg0)) (columns 6144 (by decide) (m ((c : Thread nD τ).loc main_arg1)) : Mat 1024 3072) := by
  refine (dats m 0 c).arrAt_eq_of_covers 2 _ (by decide +kernel) fun t hf y => ?_
  blk_simp
  rw [after0_2]
  frame_out
  unfold k0_pay1
  pointwise
  unfold plain columns
  refine Fin.sum_fin_congr fun k => ?_
  congr 1 <;> blk_ext [iblk, V, indices t]

theorem algebraic : Cert.algebraic_InQkvIdeal_InQkvRefIdeal := fun m g m' g' _ hm =>
  ⟨fun c => (dats m 0 c).arrAt 2 cfg0.N, run_blocks m g,
    (θ_run Cert.InQkvRefIdeal.defs _ _).mono (fun _ e c => ⟨(e c).1.trans (by rw [(hm c).1, (hm c).2]; refine .trans ?_ (result m c).symm; funext i; pointwise; rfl), (e c).2⟩)
      (Cert.InQkvRefIdeal.Value.run m' g')⟩

end Cert.InQkvIdeal.Value

namespace Cert.UpIdeal.Value

open Cert.UpIdeal Cert.UpIdeal.Gen

theorem indices : ∀ t : Fin cfg0.N, win0_0.index t = ![t.val / 4, 0] ∧ win0_1.index t = ![t.val % 4, 0] ∧ win0_2.index t = ![t.val / 4, t.val % 4] :=
  (by decide +kernel : ∀ t : Fin grid0.N, _)

/-- The up projection. -/
theorem result (m : (ℓ : Loc nD τ sig) → Buf (Elt Ideal) ℓ) (c : Dev nD) : (dats m 0 c).arrAt 2 cfg0.N = rows (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold k0_pay1
  pointwise
  unfold rows
  refine Fin.sum_fin_congr fun k => ?_
  congr 1 <;> blk_ext [iblk, V, indices t]

theorem algebraic : Cert.algebraic_UpIdeal_UpRefIdeal := fun m g m' g' _ hm =>
  ⟨fun c => (dats m 0 c).arrAt 2 cfg0.N, run_blocks m g,
    (θ_run Cert.UpRefIdeal.defs _ _).mono (fun _ e c => ⟨(e c).1.trans (by rw [(hm c).1, (hm c).2]; refine .trans ?_ (result m c).symm; funext i; pointwise; rfl), (e c).2⟩)
      (Cert.UpRefIdeal.Value.run m' g')⟩

end Cert.UpIdeal.Value

namespace Cert.DownIdeal.Value

open Cert.DownIdeal Cert.DownIdeal.Gen

theorem indices : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The down projection, added to the stream. -/
theorem result (m : (ℓ : Loc nD τ sig) → Buf (Elt Ideal) ℓ) (c : Dev nD) : (dats m 0 c).arrAt 3 cfg0.N = plus (m ((c : Thread nD τ).loc main_arg2)) (plain (m ((c : Thread nD τ).loc main_arg0)) (m ((c : Thread nD τ).loc main_arg1))) := by
  refine (dats m 0 c).arrAt_eq_of_covers 3 _ (by decide +kernel) fun t hf y => ?_
  blk_simp
  rw [after0_3]
  frame_out
  unfold k0_pay1
  pointwise
  unfold plus plain
  refine (add_comm (_ : EReal) _).trans (congrArg₂ (fun a b : EReal => a + b) ?_ (Fin.sum_fin_congr fun k => ?_))
  · blk_ext [iblk, V, indices t]
  congr 1 <;> blk_ext [iblk, V, indices t]

theorem algebraic : Cert.algebraic_DownIdeal_DownRefIdeal := fun m g m' g' _ hm =>
  ⟨fun c => (dats m 0 c).arrAt 3 cfg0.N, run_blocks m g,
    (θ_run Cert.DownRefIdeal.defs _ _).mono (fun _ e c => ⟨(e c).1.trans (by rw [(hm c).1, (hm c).2.1, (hm c).2.2]; refine .trans ?_ (result m c).symm; funext i; pointwise; rfl), (e c).2⟩)
      (Cert.DownRefIdeal.Value.run m' g')⟩

end Cert.DownIdeal.Value

namespace Cert.SquareIdeal.Value

open Cert.SquareIdeal Cert.SquareIdeal.Gen

theorem indices : ∀ t : Fin cfg0.N, win0_0.index t = ![t.val, 0] ∧ win0_1.index t = ![0, 0] ∧ win0_2.index t = ![t.val, 0] :=
  (by decide +kernel : ∀ t : Fin grid0.N, _)

/-- A square projection. -/
theorem result (m : (ℓ : Loc nD τ sig) → Buf (Elt Ideal) ℓ) (c : Dev nD) : (dats m 0 c).arrAt 2 cfg0.N = plain (m ((c : Thread nD τ).loc main_arg0)) (m ((c : Thread nD τ).loc main_arg1)) := by
  refine (dats m 0 c).arrAt_eq_of_covers 2 _ (by decide +kernel) fun t hf y => ?_
  blk_simp
  rw [after0_2]
  frame_out
  unfold k0_pay1
  pointwise
  unfold plain
  refine Fin.sum_fin_congr fun k => ?_
  congr 1 <;> blk_ext [iblk, V, indices t]

theorem algebraic : Cert.algebraic_SquareIdeal_SquareRefIdeal := fun m g m' g' _ hm =>
  ⟨fun c => (dats m 0 c).arrAt 2 cfg0.N, run_blocks m g,
    (θ_run Cert.SquareRefIdeal.defs _ _).mono (fun _ e c => ⟨(e c).1.trans (by rw [(hm c).1, (hm c).2]; refine .trans ?_ (result m c).symm; funext i; pointwise; rfl), (e c).2⟩)
      (Cert.SquareRefIdeal.Value.run m' g')⟩

end Cert.SquareIdeal.Value

namespace Cert.OIdeal.Value

open Cert.OIdeal Cert.OIdeal.Gen

theorem indices : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

/-- The output projection, added to the stream. -/
theorem result (m : (ℓ : Loc nD τ sig) → Buf (Elt Ideal) ℓ) (c : Dev nD) : (dats m 0 c).arrAt 3 cfg0.N = plus (m ((c : Thread nD τ).loc main_arg2)) (plain (m ((c : Thread nD τ).loc main_arg0)) (m ((c : Thread nD τ).loc main_arg1))) := by
  refine (dats m 0 c).arrAt_eq_of_covers 3 _ (by decide +kernel) fun t hf y => ?_
  blk_simp
  rw [after0_3]
  frame_out
  unfold k0_pay1
  pointwise
  unfold plus plain
  refine (add_comm (_ : EReal) _).trans (congrArg₂ (fun a b : EReal => a + b) ?_ (Fin.sum_fin_congr fun k => ?_))
  · blk_ext [iblk, V, indices t]
  congr 1 <;> blk_ext [iblk, V, indices t]

theorem algebraic : Cert.algebraic_OIdeal_ORefIdeal := fun m g m' g' _ hm =>
  ⟨fun c => (dats m 0 c).arrAt 3 cfg0.N, run_blocks m g,
    (θ_run Cert.ORefIdeal.defs _ _).mono (fun _ e c => ⟨(e c).1.trans (by rw [(hm c).1, (hm c).2.1, (hm c).2.2]; refine .trans ?_ (result m c).symm; funext i; pointwise; rfl), (e c).2⟩)
      (Cert.ORefIdeal.Value.run m' g')⟩

end Cert.OIdeal.Value

end
-- ==== Proof.AdamInStep.lean ====
/- The optimiser's update of the input projection's weights, at the reals. -/
module

public import proofs.«01_k».proof.Defs
public import proofs.«01_k».proof.Proof.Products
public import proofs.«01_k».proof.Proof.Gen.AdamInIdeal.Value
public import proofs.«01_k».proof.Proof.Gen.AdamInRefIdeal.Run

@[expose] public section

noncomputable section

open Idealize.ShloMosaic Idealize.ShloMosaic.TcCoe Idealize.SL.Sem

namespace Cert.AdamInIdeal.Value

open Cert.AdamInIdeal Cert.AdamInIdeal.Gen

/-- The step, and both moments: the kernel's run leaves each at its function of the arguments, which is the reference's, element by
    element. -/
theorem algebraic : Cert.algebraic_AdamInIdeal_AdamInRefIdeal := fun m g m' g' _ hm =>
  ⟨_, _, _, run m g,
    (θ_run Cert.AdamInRefIdeal.defs _ _).mono (fun _ e c => ⟨(e c).1.trans (by rw [(hm c).1, (hm c).2.1, (hm c).2.2.1, (hm c).2.2.2]; funext i; pointwise),
        (e c).2.1.trans (by rw [(hm c).1, (hm c).2.2.1]; funext i; pointwise),
        (e c).2.2.1.trans (by rw [(hm c).1, (hm c).2.2.2]; funext i; pointwise), (e c).2.2.2⟩)
      (Cert.AdamInRefIdeal.Value.run m' g')⟩

end Cert.AdamInIdeal.Value

end
-- ==== Proof.Shards.lean ====
/- The optimiser's updates from the partial sums of the chips. -/
module

public import proofs.«01_k».proof.Proof.Products
public import Idealize.ShloMosaic.Lib.StableHlo.Predicate

@[expose] public section

noncomputable section

open Idealize.ShloMosaic Idealize.ShloMosaic.TcCoe Idealize.SL.Sem

namespace Cert.Shard

/-- A word that is at least zero and below `n`, read signed, is one of the first `n` numbers. -/
theorem lt_of_between (n : ℕ) (hn : n < 2 ^ 31) (w : BitVec 32) (h : BitVec.ofBool ((0#32).sle w) &&& BitVec.ofBool (w.slt (BitVec.ofNat 32 n)) = 1#1) : w.toNat < n := by
  have e : ((0#32).sle w && w.slt (BitVec.ofNat 32 n)) = true := by
    revert h; cases (0#32).sle w <;> cases w.slt (BitVec.ofNat 32 n) <;> decide
  rw [Bool.and_eq_true, BitVec.sle_iff_toInt_le, BitVec.slt_iff_toInt_lt] at e
  have := BitVec.toInt_eq_toNat_cond w
  have k := BitVec.toInt_eq_toNat_cond (BitVec.ofNat 32 n)
  rw [BitVec.toNat_ofNat, Nat.mod_eq_of_lt (by omega)] at k
  have z : (0#32).toInt = 0 := by decide
  rw [z] at e
  have l := w.isLt
  split at this <;> split at k <;> omega

theorem lt_four (w : BitVec 32) (h : BitVec.ofBool ((0#32).sle w) &&& BitVec.ofBool (w.slt 4#32) = 1#1) : w.toNat < 4 :=
  lt_of_between 4 (by decide) w h

/-- A stack of matrices of extended reals. -/
abbrev Stack (n R L : ℕ) := (⟨3, ![n, R, L]⟩ : Shape).Idx → EReal

/-- A chip's own block of the stack, and the blocks the three other chips sent, added up in that order. -/
def gradient {R L : ℕ} (k : Fin 4) (h : Stack 4 R L) (e : Stack 3 R L) : Stack 1 R L := fun y =>
  h (ix3 k (y 1) (y 2)) + e (ix3 0 (y 1) (y 2)) + e (ix3 1 (y 1) (y 2)) + e (ix3 2 (y 1) (y 2))

/-- Adding up a family with all but one of its members, told by its number, replaced by zero gives that member. -/
theorem picked {n : ℕ} (hn : n ≤ 2 ^ 32) (k : Fin n) (w : BitVec 32) (hw : w.toNat = k.val) (f : Fin n → EReal) :
    (∑ x : Fin n, Scalar.select (IntOp.cmpi CmpIPredicate.eq (BitVec.ofNat 32 x.val) w) (f x) (0 : EReal)) = f k := by
  have hk : w = BitVec.ofNat 32 k.val := by rw [← hw, BitVec.ofNat_toNat, BitVec.setWidth_eq]
  subst hk
  refine (Finset.sum_eq_single k (fun x _ hx => ?_) (fun hx => absurd (Finset.mem_univ k) hx)).trans ?_
  · have : IntOp.cmpi CmpIPredicate.eq (BitVec.ofNat 32 x.val) (BitVec.ofNat 32 k.val) = 0#1 := by
      have ne : BitVec.ofNat 32 x.val ≠ BitVec.ofNat 32 k.val := fun e => hx (Fin.ext (by
        have := congrArg BitVec.toNat e
        rw [BitVec.toNat_ofNat, BitVec.toNat_ofNat, Nat.mod_eq_of_lt (x.isLt.trans_le hn), Nat.mod_eq_of_lt (k.isLt.trans_le hn)] at this
        exact this))
      show BitVec.ofBool (BitVec.ofNat 32 x.val == BitVec.ofNat 32 k.val) = 0#1
      rw [beq_eq_false_iff_ne.mpr ne]; rfl
    rw [this]; rfl
  · have : IntOp.cmpi CmpIPredicate.eq (BitVec.ofNat 32 k.val) (BitVec.ofNat 32 k.val) = 1#1 := by
      show BitVec.ofBool (BitVec.ofNat 32 k.val == BitVec.ofNat 32 k.val) = 1#1
      rw [beq_self_eq_true]; rfl
    rw [this]; rfl

/-- Adding up the chip's own block, picked out by its number, and the three blocks received is the gradient. -/
theorem gradient_eq {R L : ℕ} (k : Fin 4) (w : BitVec 32) (hw : w.toNat = k.val) (h : Stack 4 R L) (e : Stack 3 R L) (r : Fin R) (l : Fin L) :
    (∑ x : Fin 4, Scalar.select (IntOp.cmpi CmpIPredicate.eq (BitVec.ofNat 32 x.val) w) (h (ix3 x r l)) (0 : EReal)) + ∑ x : Fin 3, e (ix3 x r l)
      = gradient k h e (ix3 (0 : Fin 1) r l) := by
  rw [picked (by decide) k w hw fun x => h (ix3 x r l), Fin.sum_univ_three]
  show _ = h (ix3 k r l) + e (ix3 0 r l) + e (ix3 1 r l) + e (ix3 2 r l)
  rw [add_assoc, add_assoc, add_assoc]

/-- A table of one entry has one index. -/
theorem one (x y : (⟨1, ![1]⟩ : Shape).Idx) : x = y := funext fun a => Fin.ext (by
  match a with
  | ⟨0, _⟩ =>
    have hx : (x 0).val < 1 := (x 0).isLt
    have hy : (y 0).val < 1 := (y 0).isLt
    show (x 0).val = (y 0).val
    omega)

/-- The running mean of the gradients. -/
def mean {ι : Type} (g a : ι → EReal) : ι → EReal := fun y => Ideal.ofBits .f32 0x3F666666#32 * a y + Ideal.ofBits .f32 0x3DCCCCCD#32 * g y

/-- The running mean of their squares. -/
def square {ι : Type} (g b : ι → EReal) : ι → EReal := fun y => Ideal.ofBits .f32 0x3F7FBE77#32 * b y + Ideal.ofBits .f32 0x3A83126F#32 * (g y * g y)

/-- The step from a weight and both means. -/
def step {ι : Type} (w a b : ι → EReal) : ι → EReal := fun y =>
  Ideal.ofBits .f32 0xBA83126F#32 * (Ideal.div (Ideal.div (a y) (Ideal.ofBits .f32 0x3F26BD02#32))
    (Ideal.sqrt (Ideal.div (b y) (Ideal.ofBits .f32 0x3C231ACC#32)) + Ideal.ofBits .f32 0x322BCC77#32) + Ideal.ofBits .f32 0x3C23D70A#32 * w y)

end Cert.Shard

end
-- ==== Proof.AdamSquareStep.lean ====
/- The optimiser's update of a square weight's shard. -/
module

public import proofs.«01_k».proof.Defs
public import proofs.«01_k».proof.Proof.Shards
public import proofs.«01_k».proof.Proof.Gen.AdamSquare.Frame
public import proofs.«01_k».proof.Proof.Gen.AdamSquareIdeal.Frame
public import proofs.«01_k».proof.Proof.Gen.AdamSquareRefIdeal.Run
public import proofs.«01_k».proof.Proof.Gen.Pre_square_on_the_mesh
public import Idealize.ShloMosaic.Lib.StableHlo.Predicate

@[expose] public section

noncomputable section

open Idealize.ShloMosaic Idealize.ShloMosaic.TcCoe Idealize.SL.Sem

namespace Cert.AdamSquare

open Cert.AdamSquare.Gen

theorem chip_lt (m : (ℓ : Loc nD τ sig) → Buf (Elt Bits) ℓ) (h : Cert.Pre_AdamSquare m) (x : S1.Idx) : (tbl m 0 x : BitVec 32).toNat < 4 :=
  Cert.Shard.lt_four _ (congrFun (h 0) x)

theorem ok (m : (ℓ : Loc nD τ sig) → Buf (Elt Bits) ℓ) (h : Cert.Pre_AdamSquare m) : Ok (F := Bits) m := fun i => by
  refine ⟨fun a => ?_, .inl rfl⟩
  have hc := chip_lt m h
  have h0 : (i 0).val < 1 := (i 0).isLt
  match a with
  | ⟨0, _⟩ =>
    show ((tbl m 0 _ : BitVec 32).toNat + 1) * 1 ≤ 4
    rw [Nat.mul_one]
    exact hc _
  | ⟨1, _⟩ =>
    show ((BitVec.ofNat 32 (i 0).val).toNat + 1) * 128 ≤ 128
    rw [BitVec.toNat_ofNat]; omega
  | ⟨2, _⟩ => show (0 + 1) * 1024 ≤ 1024; omega

end Cert.AdamSquare

namespace Cert.AdamSquareIdeal

open Cert.AdamSquareIdeal.Gen Cert.Shard

theorem chip_lt (m : (ℓ : Loc nD τ sig) → Buf (Elt Ideal) ℓ) (h : Cert.Pre_AdamSquareIdeal m) (x : S1.Idx) : (tbl m 0 x : BitVec 32).toNat < 4 :=
  Cert.Shard.lt_four _ (congrFun (h 0) x)

/-- The chip the call runs on. -/
def chip (m : (ℓ : Loc nD τ sig) → Buf (Elt Ideal) ℓ) (h : Cert.Pre_AdamSquareIdeal m) : Fin 4 := ⟨_, chip_lt m h (ix1 (0 : Fin 1))⟩

theorem ok (m : (ℓ : Loc nD τ sig) → Buf (Elt Ideal) ℓ) (h : Cert.Pre_AdamSquareIdeal m) : Ok (F := Ideal) m := fun i => by
  refine ⟨fun a => ?_, .inl rfl⟩
  have hc := chip_lt m h
  have h0 : (i 0).val < 1 := (i 0).isLt
  match a with
  | ⟨0, _⟩ =>
    show ((tbl m 0 _ : BitVec 32).toNat + 1) * 1 ≤ 4
    rw [Nat.mul_one]
    exact hc _
  | ⟨1, _⟩ =>
    show ((BitVec.ofNat 32 (i 0).val).toNat + 1) * 128 ≤ 128
    rw [BitVec.toNat_ofNat]; omega
  | ⟨2, _⟩ => show (0 + 1) * 1024 ≤ 1024; omega

variable {m : (ℓ : Loc nD τ sig) → Buf (Elt Ideal) ℓ} {hO : Ok m} {c : Dev nD}

/-- The one point of the grid. -/
abbrev point (m : (ℓ : Loc nD τ sig) → Buf (Elt Ideal) ℓ) (hO : Ok m) : Fin (cfgM m hO).N := ⟨0, by show 0 < grid0.N; decide⟩

theorem at_zero (i : grid0.Coords) : (BitVec.ofNat 32 (i 0).val).toNat = 0 := by
  have h0 : (i 0).val < 1 := (i 0).isLt
  rw [BitVec.toNat_ofNat]; omega

theorem point_eq (t : Fin (cfgM m hO).N) : t = point m hO := Fin.ext (by
  have : t.val < grid0.N := t.isLt
  have h1 : grid0.N = 1 := by decide
  show t.val = 0
  omega)

theorem read0 (h : Cert.Pre_AdamSquareIdeal m) : View.read (Elt Ideal) (ms0_0 m hO (point m hO)).view ((hs0_0 m hO (point m hO)).unread (iblk m hO c 0 (point m hO))) =
    (fun y : S1x128x1024.Idx => (m ((c : Thread nD τ).loc main_arg0) : Stack 4 128 1024) (ix3 (chip m h) (y 1) (y 2)) : Stack 1 128 1024) :=
  ((hs0_0 m hO (point m hO)).read_unread _).trans (funext fun (y : S1x128x1024.Idx) => congrArg (m ((c : Thread nD τ).loc main_arg0)) (funext fun a => Fin.ext (by
    refine (Pipeline.Window.rect_emb_val ((cfgM m hO).win 0) (point m hO) y a rfl).trans ?_
    match a with
    | ⟨0, _⟩ =>
      have hy : (y 0).val < 1 := ((y : S1x128x1024.Idx) 0).isLt
      show (tbl m 0 _ : BitVec 32).toNat * 1 + (y 0).val = (tbl m 0 _ : BitVec 32).toNat
      rw [(Nat.lt_one_iff.mp hy), Nat.mul_one]
      exact congrArg (fun x => (tbl m 0 x : BitVec 32).toNat) (one _ _)
    | ⟨1, _⟩ =>
      show (BitVec.ofNat 32 ((grid0.coords ⟨0, _⟩) 0).val).toNat * 128 + (y 1).val = (y 1).val
      rw [at_zero]; omega
    | ⟨2, _⟩ => show 0 * 1024 + (y 2).val = (y 2).val; omega)))

theorem read1 : View.read (Elt Ideal) (ms0_1 m hO (point m hO)).view ((hs0_1 m hO (point m hO)).unread (iblk m hO c 1 (point m hO))) =
    (m ((c : Thread nD τ).loc main_arg1) : Stack 3 128 1024) :=
  ((hs0_1 m hO (point m hO)).read_unread _).trans (funext fun y => congrArg (m ((c : Thread nD τ).loc main_arg1)) (funext fun a => Fin.ext (by
    refine Pipeline.Window.rect_emb_val_of_index_zero ((cfgM m hO).win 1) (point m hO) a ?_ y
    match a with
    | ⟨0, _⟩ => rfl
    | ⟨1, _⟩ => exact at_zero _
    | ⟨2, _⟩ => rfl)))

theorem read2 : View.read (Elt Ideal) (ms0_2 m hO (point m hO)).view ((hs0_2 m hO (point m hO)).unread (iblk m hO c 2 (point m hO))) =
    (m ((c : Thread nD τ).loc main_arg3) : Stack 1 128 1024) :=
  ((hs0_2 m hO (point m hO)).read_unread _).trans (funext fun y => congrArg (m ((c : Thread nD τ).loc main_arg3)) (funext fun a => Fin.ext (by
    refine Pipeline.Window.rect_emb_val_of_index_zero ((cfgM m hO).win 2) (point m hO) a ?_ y
    match a with
    | ⟨0, _⟩ => rfl
    | ⟨1, _⟩ => exact at_zero _
    | ⟨2, _⟩ => rfl)))

theorem read3 : View.read (Elt Ideal) (ms0_3 m hO (point m hO)).view ((hs0_3 m hO (point m hO)).unread (iblk m hO c 3 (point m hO))) =
    (m ((c : Thread nD τ).loc main_arg4) : Stack 1 128 1024) :=
  ((hs0_3 m hO (point m hO)).read_unread _).trans (funext fun y => congrArg (m ((c : Thread nD τ).loc main_arg4)) (funext fun a => Fin.ext (by
    refine Pipeline.Window.rect_emb_val_of_index_zero ((cfgM m hO).win 3) (point m hO) a ?_ y
    match a with
    | ⟨0, _⟩ => rfl
    | ⟨1, _⟩ => exact at_zero _
    | ⟨2, _⟩ => rfl)))

theorem read4 : View.read (Elt Ideal) (ms0_4 m hO (point m hO)).view ((hs0_4 m hO (point m hO)).unread (iblk m hO c 4 (point m hO))) =
    (m ((c : Thread nD τ).loc main_arg5) : Stack 1 128 1024) :=
  ((hs0_4 m hO (point m hO)).read_unread _).trans (funext fun y => congrArg (m ((c : Thread nD τ).loc main_arg5)) (funext fun a => Fin.ext (by
    refine Pipeline.Window.rect_emb_val_of_index_zero ((cfgM m hO).win 4) (point m hO) a ?_ y
    match a with
    | ⟨0, _⟩ => rfl
    | ⟨1, _⟩ => exact at_zero _
    | ⟨2, _⟩ => rfl)))

theorem whole5 (m : (ℓ : Loc nD τ sig) → Buf (Elt Ideal) ℓ) (hO : Ok m) : ((cfgM m hO).win 5).WholeAt (point m hO) := by
  refine ⟨rfl, fun t _ => point_eq t, fun a => ?_⟩
  match a with
  | ⟨0, _⟩ => exact ⟨rfl, rfl⟩
  | ⟨1, _⟩ => exact ⟨at_zero _, rfl⟩
  | ⟨2, _⟩ => exact ⟨rfl, rfl⟩

theorem whole6 (m : (ℓ : Loc nD τ sig) → Buf (Elt Ideal) ℓ) (hO : Ok m) : ((cfgM m hO).win 6).WholeAt (point m hO) := by
  refine ⟨rfl, fun t _ => point_eq t, fun a => ?_⟩
  match a with
  | ⟨0, _⟩ => exact ⟨rfl, rfl⟩
  | ⟨1, _⟩ => exact ⟨at_zero _, rfl⟩
  | ⟨2, _⟩ => exact ⟨rfl, rfl⟩

theorem whole7 (m : (ℓ : Loc nD τ sig) → Buf (Elt Ideal) ℓ) (hO : Ok m) : ((cfgM m hO).win 7).WholeAt (point m hO) := by
  refine ⟨rfl, fun t _ => point_eq t, fun a => ?_⟩
  match a with
  | ⟨0, _⟩ => exact ⟨rfl, rfl⟩
  | ⟨1, _⟩ => exact ⟨at_zero _, rfl⟩
  | ⟨2, _⟩ => exact ⟨rfl, rfl⟩

theorem whole8 (m : (ℓ : Loc nD τ sig) → Buf (Elt Ideal) ℓ) (hO : Ok m) : ((cfgM m hO).win 8).WholeAt (point m hO) := by
  refine ⟨rfl, fun t _ => point_eq t, fun a => ?_⟩
  match a with
  | ⟨0, _⟩ => exact ⟨rfl, rfl⟩
  | ⟨1, _⟩ => exact ⟨at_zero _, rfl⟩
  | ⟨2, _⟩ => exact ⟨rfl, rfl⟩

/-- The chip's gradient. -/
abbrev grad (m : (ℓ : Loc nD τ sig) → Buf (Elt Ideal) ℓ) (h : Cert.Pre_AdamSquareIdeal m) (c : Dev nD) : Stack 1 128 1024 :=
  gradient (chip m h) (m ((c : Thread nD τ).loc main_arg0)) (m ((c : Thread nD τ).loc main_arg1))

theorem result5 (h : Cert.Pre_AdamSquareIdeal m) : (dats m hO 0 c).arrAt 5 (cfgM m hO).N = (grad m h c : Stack 1 128 1024) := by
  refine (dats m hO 0 c).arrAt_eq_of_after_last 5 _ (whole5 m hO) _ fun y => ?_
  rw [after0_5]
  unfold outsAt0
  dsimp only
  frame_out
  rw [read0 h, read1]
  unfold k0_pay1 k0_pay5
  pointwise
  rfl

theorem result6 (h : Cert.Pre_AdamSquareIdeal m) : (dats m hO 0 c).arrAt 6 (cfgM m hO).N = (step (m ((c : Thread nD τ).loc main_arg3)) (mean (grad m h c) (m ((c : Thread nD τ).loc main_arg4))) (square (grad m h c) (m ((c : Thread nD τ).loc main_arg5))) : Stack 1 128 1024) := by
  refine (dats m hO 0 c).arrAt_eq_of_after_last 6 _ (whole6 m hO) _ fun y => ?_
  rw [after0_6]
  unfold outsAt0
  dsimp only
  frame_out
  rw [read0 h, read1, read2, read3, read4]
  unfold k0_pay2 k0_pay9 k0_pay8 k0_pay7 k0_pay6 k0_pay5
  pointwise
  rfl

theorem result7 (h : Cert.Pre_AdamSquareIdeal m) : (dats m hO 0 c).arrAt 7 (cfgM m hO).N = (mean (grad m h c) (m ((c : Thread nD τ).loc main_arg4)) : Stack 1 128 1024) := by
  refine (dats m hO 0 c).arrAt_eq_of_after_last 7 _ (whole7 m hO) _ fun y => ?_
  rw [after0_7]
  unfold outsAt0
  dsimp only
  frame_out
  rw [read0 h, read1, read3]
  unfold k0_pay3 k0_pay7 k0_pay5
  pointwise
  rfl

theorem result8 (h : Cert.Pre_AdamSquareIdeal m) : (dats m hO 0 c).arrAt 8 (cfgM m hO).N = (square (grad m h c) (m ((c : Thread nD τ).loc main_arg5)) : Stack 1 128 1024) := by
  refine (dats m hO 0 c).arrAt_eq_of_after_last 8 _ (whole8 m hO) _ fun y => ?_
  rw [after0_8]
  unfold outsAt0
  dsimp only
  frame_out
  rw [read0 h, read1, read4]
  unfold k0_pay4 k0_pay8 k0_pay5
  pointwise
  rfl

theorem word_eq (h : Cert.Pre_AdamSquareIdeal m) : (m ((c : Thread nD τ).loc main_arg2) (ix1 (0 : Fin 1)) : BitVec 32).toNat = (chip m h).val := by
  obtain rfl : c = 0 := Subsingleton.elim _ _
  exact congrArg (fun x => (tbl m 0 x : BitVec 32).toNat) (one _ _)

theorem algebraic : Cert.algebraic_AdamSquareIdeal_AdamSquareRefIdeal := fun m g m' g' h hm =>
  ⟨fun c => grad m h c, fun c => step (m ((c : Thread nD τ).loc main_arg3)) (mean (grad m h c) (m ((c : Thread nD τ).loc main_arg4))) (square (grad m h c) (m ((c : Thread nD τ).loc main_arg5))),
    fun c => mean (grad m h c) (m ((c : Thread nD τ).loc main_arg4)), fun c => square (grad m h c) (m ((c : Thread nD τ).loc main_arg5)), by
      refine (θ_run defs _ _).mono (fun r e c => ?_) (θ_run_and (run_main m g (ok m h)) (unchanged m g (ok m h)))
      exact ⟨(e.1.out_eq c 5).trans (result5 h), (e.1.out_eq c 6).trans (result6 h), (e.1.out_eq c 7).trans (result7 h), (e.1.out_eq c 8).trans (result8 h), e.2 c⟩,
    (θ_run Cert.AdamSquareRefIdeal.defs _ _).mono (fun _ e c => ⟨(e c).1.trans (by
        rw [(hm c).1, (hm c).2.1, (hm c).2.2.1]; funext i; pointwise; rw [gradient_eq (chip m h) (m ((c : Thread nD τ).loc main_arg2) (ix1 (0 : Fin 1))) (word_eq h) (m ((c : Thread nD τ).loc main_arg0)) (m ((c : Thread nD τ).loc main_arg1)) (i 1) (i 2)]; rfl),
        (e c).2.1.trans (by
        rw [(hm c).1, (hm c).2.1, (hm c).2.2.1, (hm c).2.2.2.1, (hm c).2.2.2.2.1, (hm c).2.2.2.2.2]; funext i; pointwise; rw [gradient_eq (chip m h) (m ((c : Thread nD τ).loc main_arg2) (ix1 (0 : Fin 1))) (word_eq h) (m ((c : Thread nD τ).loc main_arg0)) (m ((c : Thread nD τ).loc main_arg1)) (i 1) (i 2)]; rfl),
        (e c).2.2.1.trans (by
        rw [(hm c).1, (hm c).2.1, (hm c).2.2.1, (hm c).2.2.2.2.1]; funext i; pointwise; rw [gradient_eq (chip m h) (m ((c : Thread nD τ).loc main_arg2) (ix1 (0 : Fin 1))) (word_eq h) (m ((c : Thread nD τ).loc main_arg0)) (m ((c : Thread nD τ).loc main_arg1)) (i 1) (i 2)]; rfl),
        (e c).2.2.2.1.trans (by
        rw [(hm c).1, (hm c).2.1, (hm c).2.2.1, (hm c).2.2.2.2.2]; funext i; pointwise; rw [gradient_eq (chip m h) (m ((c : Thread nD τ).loc main_arg2) (ix1 (0 : Fin 1))) (word_eq h) (m ((c : Thread nD τ).loc main_arg0)) (m ((c : Thread nD τ).loc main_arg1)) (i 1) (i 2)]; rfl), (e c).2.2.2.2⟩)
      (Cert.AdamSquareRefIdeal.Value.run m' g')⟩

end Cert.AdamSquareIdeal

end
-- ==== Proof.AdamUpStep.lean ====
/- The optimiser's update of the shard of the feed-forward layer's first weight. -/
module

public import proofs.«01_k».proof.Defs
public import proofs.«01_k».proof.Proof.Shards
public import proofs.«01_k».proof.Proof.Gen.AdamUp.Frame
public import proofs.«01_k».proof.Proof.Gen.AdamUpIdeal.Frame
public import proofs.«01_k».proof.Proof.Gen.AdamUpRefIdeal.Run
public import proofs.«01_k».proof.Proof.Gen.Pre_up_on_the_mesh
public import Idealize.ShloMosaic.Lib.StableHlo.Predicate

@[expose] public section

noncomputable section

open Idealize.ShloMosaic Idealize.ShloMosaic.TcCoe Idealize.SL.Sem

namespace Cert.AdamUp

open Cert.AdamUp.Gen

theorem chip_lt (m : (ℓ : Loc nD τ sig) → Buf (Elt Bits) ℓ) (h : Cert.Pre_AdamUp m) (x : S1.Idx) : (tbl m 0 x : BitVec 32).toNat < 4 :=
  Cert.Shard.lt_four _ (congrFun (h 0) x)

theorem ok (m : (ℓ : Loc nD τ sig) → Buf (Elt Bits) ℓ) (h : Cert.Pre_AdamUp m) : Ok (F := Bits) m := fun i => by
  refine ⟨fun a => ?_, .inl rfl⟩
  have hc := chip_lt m h
  have h0 : (i 0).val < 1 := (i 0).isLt
  match a with
  | ⟨0, _⟩ =>
    show ((tbl m 0 _ : BitVec 32).toNat + 1) * 1 ≤ 4
    rw [Nat.mul_one]
    exact hc _
  | ⟨1, _⟩ =>
    show ((BitVec.ofNat 32 (i 0).val).toNat + 1) * 704 ≤ 704
    rw [BitVec.toNat_ofNat]; omega
  | ⟨2, _⟩ => show (0 + 1) * 1024 ≤ 1024; omega

end Cert.AdamUp

namespace Cert.AdamUpIdeal

open Cert.AdamUpIdeal.Gen Cert.Shard

theorem chip_lt (m : (ℓ : Loc nD τ sig) → Buf (Elt Ideal) ℓ) (h : Cert.Pre_AdamUpIdeal m) (x : S1.Idx) : (tbl m 0 x : BitVec 32).toNat < 4 :=
  Cert.Shard.lt_four _ (congrFun (h 0) x)

/-- The chip the call runs on. -/
def chip (m : (ℓ : Loc nD τ sig) → Buf (Elt Ideal) ℓ) (h : Cert.Pre_AdamUpIdeal m) : Fin 4 := ⟨_, chip_lt m h (ix1 (0 : Fin 1))⟩

theorem ok (m : (ℓ : Loc nD τ sig) → Buf (Elt Ideal) ℓ) (h : Cert.Pre_AdamUpIdeal m) : Ok (F := Ideal) m := fun i => by
  refine ⟨fun a => ?_, .inl rfl⟩
  have hc := chip_lt m h
  have h0 : (i 0).val < 1 := (i 0).isLt
  match a with
  | ⟨0, _⟩ =>
    show ((tbl m 0 _ : BitVec 32).toNat + 1) * 1 ≤ 4
    rw [Nat.mul_one]
    exact hc _
  | ⟨1, _⟩ =>
    show ((BitVec.ofNat 32 (i 0).val).toNat + 1) * 704 ≤ 704
    rw [BitVec.toNat_ofNat]; omega
  | ⟨2, _⟩ => show (0 + 1) * 1024 ≤ 1024; omega

variable {m : (ℓ : Loc nD τ sig) → Buf (Elt Ideal) ℓ} {hO : Ok m} {c : Dev nD}

/-- The one point of the grid. -/
abbrev point (m : (ℓ : Loc nD τ sig) → Buf (Elt Ideal) ℓ) (hO : Ok m) : Fin (cfgM m hO).N := ⟨0, by show 0 < grid0.N; decide⟩

theorem at_zero (i : grid0.Coords) : (BitVec.ofNat 32 (i 0).val).toNat = 0 := by
  have h0 : (i 0).val < 1 := (i 0).isLt
  rw [BitVec.toNat_ofNat]; omega

theorem point_eq (t : Fin (cfgM m hO).N) : t = point m hO := Fin.ext (by
  have : t.val < grid0.N := t.isLt
  have h1 : grid0.N = 1 := by decide
  show t.val = 0
  omega)

theorem read0 (h : Cert.Pre_AdamUpIdeal m) : View.read (Elt Ideal) (ms0_0 m hO (point m hO)).view ((hs0_0 m hO (point m hO)).unread (iblk m hO c 0 (point m hO))) =
    (fun y : S1x704x1024.Idx => (m ((c : Thread nD τ).loc main_arg0) : Stack 4 704 1024) (ix3 (chip m h) (y 1) (y 2)) : Stack 1 704 1024) :=
  ((hs0_0 m hO (point m hO)).read_unread _).trans (funext fun (y : S1x704x1024.Idx) => congrArg (m ((c : Thread nD τ).loc main_arg0)) (funext fun a => Fin.ext (by
    refine (Pipeline.Window.rect_emb_val ((cfgM m hO).win 0) (point m hO) y a rfl).trans ?_
    match a with
    | ⟨0, _⟩ =>
      have hy : (y 0).val < 1 := ((y : S1x704x1024.Idx) 0).isLt
      show (tbl m 0 _ : BitVec 32).toNat * 1 + (y 0).val = (tbl m 0 _ : BitVec 32).toNat
      rw [(Nat.lt_one_iff.mp hy), Nat.mul_one]
      exact congrArg (fun x => (tbl m 0 x : BitVec 32).toNat) (one _ _)
    | ⟨1, _⟩ =>
      show (BitVec.ofNat 32 ((grid0.coords ⟨0, _⟩) 0).val).toNat * 704 + (y 1).val = (y 1).val
      rw [at_zero]; omega
    | ⟨2, _⟩ => show 0 * 1024 + (y 2).val = (y 2).val; omega)))

theorem read1 : View.read (Elt Ideal) (ms0_1 m hO (point m hO)).view ((hs0_1 m hO (point m hO)).unread (iblk m hO c 1 (point m hO))) =
    (m ((c : Thread nD τ).loc main_arg1) : Stack 3 704 1024) :=
  ((hs0_1 m hO (point m hO)).read_unread _).trans (funext fun y => congrArg (m ((c : Thread nD τ).loc main_arg1)) (funext fun a => Fin.ext (by
    refine Pipeline.Window.rect_emb_val_of_index_zero ((cfgM m hO).win 1) (point m hO) a ?_ y
    match a with
    | ⟨0, _⟩ => rfl
    | ⟨1, _⟩ => exact at_zero _
    | ⟨2, _⟩ => rfl)))

theorem read2 : View.read (Elt Ideal) (ms0_2 m hO (point m hO)).view ((hs0_2 m hO (point m hO)).unread (iblk m hO c 2 (point m hO))) =
    (m ((c : Thread nD τ).loc main_arg3) : Stack 1 704 1024) :=
  ((hs0_2 m hO (point m hO)).read_unread _).trans (funext fun y => congrArg (m ((c : Thread nD τ).loc main_arg3)) (funext fun a => Fin.ext (by
    refine Pipeline.Window.rect_emb_val_of_index_zero ((cfgM m hO).win 2) (point m hO) a ?_ y
    match a with
    | ⟨0, _⟩ => rfl
    | ⟨1, _⟩ => exact at_zero _
    | ⟨2, _⟩ => rfl)))

theorem read3 : View.read (Elt Ideal) (ms0_3 m hO (point m hO)).view ((hs0_3 m hO (point m hO)).unread (iblk m hO c 3 (point m hO))) =
    (m ((c : Thread nD τ).loc main_arg4) : Stack 1 704 1024) :=
  ((hs0_3 m hO (point m hO)).read_unread _).trans (funext fun y => congrArg (m ((c : Thread nD τ).loc main_arg4)) (funext fun a => Fin.ext (by
    refine Pipeline.Window.rect_emb_val_of_index_zero ((cfgM m hO).win 3) (point m hO) a ?_ y
    match a with
    | ⟨0, _⟩ => rfl
    | ⟨1, _⟩ => exact at_zero _
    | ⟨2, _⟩ => rfl)))

theorem read4 : View.read (Elt Ideal) (ms0_4 m hO (point m hO)).view ((hs0_4 m hO (point m hO)).unread (iblk m hO c 4 (point m hO))) =
    (m ((c : Thread nD τ).loc main_arg5) : Stack 1 704 1024) :=
  ((hs0_4 m hO (point m hO)).read_unread _).trans (funext fun y => congrArg (m ((c : Thread nD τ).loc main_arg5)) (funext fun a => Fin.ext (by
    refine Pipeline.Window.rect_emb_val_of_index_zero ((cfgM m hO).win 4) (point m hO) a ?_ y
    match a with
    | ⟨0, _⟩ => rfl
    | ⟨1, _⟩ => exact at_zero _
    | ⟨2, _⟩ => rfl)))

theorem whole5 (m : (ℓ : Loc nD τ sig) → Buf (Elt Ideal) ℓ) (hO : Ok m) : ((cfgM m hO).win 5).WholeAt (point m hO) := by
  refine ⟨rfl, fun t _ => point_eq t, fun a => ?_⟩
  match a with
  | ⟨0, _⟩ => exact ⟨rfl, rfl⟩
  | ⟨1, _⟩ => exact ⟨at_zero _, rfl⟩
  | ⟨2, _⟩ => exact ⟨rfl, rfl⟩

theorem whole6 (m : (ℓ : Loc nD τ sig) → Buf (Elt Ideal) ℓ) (hO : Ok m) : ((cfgM m hO).win 6).WholeAt (point m hO) := by
  refine ⟨rfl, fun t _ => point_eq t, fun a => ?_⟩
  match a with
  | ⟨0, _⟩ => exact ⟨rfl, rfl⟩
  | ⟨1, _⟩ => exact ⟨at_zero _, rfl⟩
  | ⟨2, _⟩ => exact ⟨rfl, rfl⟩

theorem whole7 (m : (ℓ : Loc nD τ sig) → Buf (Elt Ideal) ℓ) (hO : Ok m) : ((cfgM m hO).win 7).WholeAt (point m hO) := by
  refine ⟨rfl, fun t _ => point_eq t, fun a => ?_⟩
  match a with
  | ⟨0, _⟩ => exact ⟨rfl, rfl⟩
  | ⟨1, _⟩ => exact ⟨at_zero _, rfl⟩
  | ⟨2, _⟩ => exact ⟨rfl, rfl⟩

theorem whole8 (m : (ℓ : Loc nD τ sig) → Buf (Elt Ideal) ℓ) (hO : Ok m) : ((cfgM m hO).win 8).WholeAt (point m hO) := by
  refine ⟨rfl, fun t _ => point_eq t, fun a => ?_⟩
  match a with
  | ⟨0, _⟩ => exact ⟨rfl, rfl⟩
  | ⟨1, _⟩ => exact ⟨at_zero _, rfl⟩
  | ⟨2, _⟩ => exact ⟨rfl, rfl⟩

/-- The chip's gradient. -/
abbrev grad (m : (ℓ : Loc nD τ sig) → Buf (Elt Ideal) ℓ) (h : Cert.Pre_AdamUpIdeal m) (c : Dev nD) : Stack 1 704 1024 :=
  gradient (chip m h) (m ((c : Thread nD τ).loc main_arg0)) (m ((c : Thread nD τ).loc main_arg1))

theorem result5 (h : Cert.Pre_AdamUpIdeal m) : (dats m hO 0 c).arrAt 5 (cfgM m hO).N = (grad m h c : Stack 1 704 1024) := by
  refine (dats m hO 0 c).arrAt_eq_of_after_last 5 _ (whole5 m hO) _ fun y => ?_
  rw [after0_5]
  unfold outsAt0
  dsimp only
  frame_out
  rw [read0 h, read1]
  unfold k0_pay1 k0_pay5
  pointwise
  rfl

theorem result6 (h : Cert.Pre_AdamUpIdeal m) : (dats m hO 0 c).arrAt 6 (cfgM m hO).N = (step (m ((c : Thread nD τ).loc main_arg3)) (mean (grad m h c) (m ((c : Thread nD τ).loc main_arg4))) (square (grad m h c) (m ((c : Thread nD τ).loc main_arg5))) : Stack 1 704 1024) := by
  refine (dats m hO 0 c).arrAt_eq_of_after_last 6 _ (whole6 m hO) _ fun y => ?_
  rw [after0_6]
  unfold outsAt0
  dsimp only
  frame_out
  rw [read0 h, read1, read2, read3, read4]
  unfold k0_pay2 k0_pay9 k0_pay8 k0_pay7 k0_pay6 k0_pay5
  pointwise
  rfl

theorem result7 (h : Cert.Pre_AdamUpIdeal m) : (dats m hO 0 c).arrAt 7 (cfgM m hO).N = (mean (grad m h c) (m ((c : Thread nD τ).loc main_arg4)) : Stack 1 704 1024) := by
  refine (dats m hO 0 c).arrAt_eq_of_after_last 7 _ (whole7 m hO) _ fun y => ?_
  rw [after0_7]
  unfold outsAt0
  dsimp only
  frame_out
  rw [read0 h, read1, read3]
  unfold k0_pay3 k0_pay7 k0_pay5
  pointwise
  rfl

theorem result8 (h : Cert.Pre_AdamUpIdeal m) : (dats m hO 0 c).arrAt 8 (cfgM m hO).N = (square (grad m h c) (m ((c : Thread nD τ).loc main_arg5)) : Stack 1 704 1024) := by
  refine (dats m hO 0 c).arrAt_eq_of_after_last 8 _ (whole8 m hO) _ fun y => ?_
  rw [after0_8]
  unfold outsAt0
  dsimp only
  frame_out
  rw [read0 h, read1, read4]
  unfold k0_pay4 k0_pay8 k0_pay5
  pointwise
  rfl

theorem word_eq (h : Cert.Pre_AdamUpIdeal m) : (m ((c : Thread nD τ).loc main_arg2) (ix1 (0 : Fin 1)) : BitVec 32).toNat = (chip m h).val := by
  obtain rfl : c = 0 := Subsingleton.elim _ _
  exact congrArg (fun x => (tbl m 0 x : BitVec 32).toNat) (one _ _)

theorem algebraic : Cert.algebraic_AdamUpIdeal_AdamUpRefIdeal := fun m g m' g' h hm =>
  ⟨fun c => grad m h c, fun c => step (m ((c : Thread nD τ).loc main_arg3)) (mean (grad m h c) (m ((c : Thread nD τ).loc main_arg4))) (square (grad m h c) (m ((c : Thread nD τ).loc main_arg5))),
    fun c => mean (grad m h c) (m ((c : Thread nD τ).loc main_arg4)), fun c => square (grad m h c) (m ((c : Thread nD τ).loc main_arg5)), by
      refine (θ_run defs _ _).mono (fun r e c => ?_) (θ_run_and (run_main m g (ok m h)) (unchanged m g (ok m h)))
      exact ⟨(e.1.out_eq c 5).trans (result5 h), (e.1.out_eq c 6).trans (result6 h), (e.1.out_eq c 7).trans (result7 h), (e.1.out_eq c 8).trans (result8 h), e.2 c⟩,
    (θ_run Cert.AdamUpRefIdeal.defs _ _).mono (fun _ e c => ⟨(e c).1.trans (by
        rw [(hm c).1, (hm c).2.1, (hm c).2.2.1]; funext i; pointwise; rw [gradient_eq (chip m h) (m ((c : Thread nD τ).loc main_arg2) (ix1 (0 : Fin 1))) (word_eq h) (m ((c : Thread nD τ).loc main_arg0)) (m ((c : Thread nD τ).loc main_arg1)) (i 1) (i 2)]; rfl),
        (e c).2.1.trans (by
        rw [(hm c).1, (hm c).2.1, (hm c).2.2.1, (hm c).2.2.2.1, (hm c).2.2.2.2.1, (hm c).2.2.2.2.2]; funext i; pointwise; rw [gradient_eq (chip m h) (m ((c : Thread nD τ).loc main_arg2) (ix1 (0 : Fin 1))) (word_eq h) (m ((c : Thread nD τ).loc main_arg0)) (m ((c : Thread nD τ).loc main_arg1)) (i 1) (i 2)]; rfl),
        (e c).2.2.1.trans (by
        rw [(hm c).1, (hm c).2.1, (hm c).2.2.1, (hm c).2.2.2.2.1]; funext i; pointwise; rw [gradient_eq (chip m h) (m ((c : Thread nD τ).loc main_arg2) (ix1 (0 : Fin 1))) (word_eq h) (m ((c : Thread nD τ).loc main_arg0)) (m ((c : Thread nD τ).loc main_arg1)) (i 1) (i 2)]; rfl),
        (e c).2.2.2.1.trans (by
        rw [(hm c).1, (hm c).2.1, (hm c).2.2.1, (hm c).2.2.2.2.2]; funext i; pointwise; rw [gradient_eq (chip m h) (m ((c : Thread nD τ).loc main_arg2) (ix1 (0 : Fin 1))) (word_eq h) (m ((c : Thread nD τ).loc main_arg0)) (m ((c : Thread nD τ).loc main_arg1)) (i 1) (i 2)]; rfl), (e c).2.2.2.2⟩)
      (Cert.AdamUpRefIdeal.Value.run m' g')⟩

end Cert.AdamUpIdeal

end
-- ==== Proof.AdamDownStep.lean ====
/- The optimiser's update of the shard of the feed-forward layer's last weight. -/
module

public import proofs.«01_k».proof.Defs
public import proofs.«01_k».proof.Proof.Shards
public import proofs.«01_k».proof.Proof.Gen.AdamDown.Frame
public import proofs.«01_k».proof.Proof.Gen.AdamDownIdeal.Frame
public import proofs.«01_k».proof.Proof.Gen.AdamDownRefIdeal.Run
public import proofs.«01_k».proof.Proof.Gen.Pre_down_on_the_mesh
public import Idealize.ShloMosaic.Lib.StableHlo.Predicate

@[expose] public section

noncomputable section

open Idealize.ShloMosaic Idealize.ShloMosaic.TcCoe Idealize.SL.Sem

namespace Cert.AdamDown

open Cert.AdamDown.Gen

theorem chip_lt (m : (ℓ : Loc nD τ sig) → Buf (Elt Bits) ℓ) (h : Cert.Pre_AdamDown m) (x : S1.Idx) : (tbl m 0 x : BitVec 32).toNat < 4 :=
  Cert.Shard.lt_four _ (congrFun (h 0) x)

theorem ok (m : (ℓ : Loc nD τ sig) → Buf (Elt Bits) ℓ) (h : Cert.Pre_AdamDown m) : Ok (F := Bits) m := fun i => by
  refine ⟨fun a => ?_, .inl rfl⟩
  have hc := chip_lt m h
  have h0 : (i 0).val < 1 := (i 0).isLt
  match a with
  | ⟨0, _⟩ =>
    show ((tbl m 0 _ : BitVec 32).toNat + 1) * 1 ≤ 4
    rw [Nat.mul_one]
    exact hc _
  | ⟨1, _⟩ =>
    show ((BitVec.ofNat 32 (i 0).val).toNat + 1) * 352 ≤ 352
    rw [BitVec.toNat_ofNat]; omega
  | ⟨2, _⟩ => show (0 + 1) * 1024 ≤ 1024; omega

end Cert.AdamDown

namespace Cert.AdamDownIdeal

open Cert.AdamDownIdeal.Gen Cert.Shard

theorem chip_lt (m : (ℓ : Loc nD τ sig) → Buf (Elt Ideal) ℓ) (h : Cert.Pre_AdamDownIdeal m) (x : S1.Idx) : (tbl m 0 x : BitVec 32).toNat < 4 :=
  Cert.Shard.lt_four _ (congrFun (h 0) x)

/-- The chip the call runs on. -/
def chip (m : (ℓ : Loc nD τ sig) → Buf (Elt Ideal) ℓ) (h : Cert.Pre_AdamDownIdeal m) : Fin 4 := ⟨_, chip_lt m h (ix1 (0 : Fin 1))⟩

theorem ok (m : (ℓ : Loc nD τ sig) → Buf (Elt Ideal) ℓ) (h : Cert.Pre_AdamDownIdeal m) : Ok (F := Ideal) m := fun i => by
  refine ⟨fun a => ?_, .inl rfl⟩
  have hc := chip_lt m h
  have h0 : (i 0).val < 1 := (i 0).isLt
  match a with
  | ⟨0, _⟩ =>
    show ((tbl m 0 _ : BitVec 32).toNat + 1) * 1 ≤ 4
    rw [Nat.mul_one]
    exact hc _
  | ⟨1, _⟩ =>
    show ((BitVec.ofNat 32 (i 0).val).toNat + 1) * 352 ≤ 352
    rw [BitVec.toNat_ofNat]; omega
  | ⟨2, _⟩ => show (0 + 1) * 1024 ≤ 1024; omega

variable {m : (ℓ : Loc nD τ sig) → Buf (Elt Ideal) ℓ} {hO : Ok m} {c : Dev nD}

/-- The one point of the grid. -/
abbrev point (m : (ℓ : Loc nD τ sig) → Buf (Elt Ideal) ℓ) (hO : Ok m) : Fin (cfgM m hO).N := ⟨0, by show 0 < grid0.N; decide⟩

theorem at_zero (i : grid0.Coords) : (BitVec.ofNat 32 (i 0).val).toNat = 0 := by
  have h0 : (i 0).val < 1 := (i 0).isLt
  rw [BitVec.toNat_ofNat]; omega

theorem point_eq (t : Fin (cfgM m hO).N) : t = point m hO := Fin.ext (by
  have : t.val < grid0.N := t.isLt
  have h1 : grid0.N = 1 := by decide
  show t.val = 0
  omega)

theorem read0 (h : Cert.Pre_AdamDownIdeal m) : View.read (Elt Ideal) (ms0_0 m hO (point m hO)).view ((hs0_0 m hO (point m hO)).unread (iblk m hO c 0 (point m hO))) =
    (fun y : S1x352x1024.Idx => (m ((c : Thread nD τ).loc main_arg0) : Stack 4 352 1024) (ix3 (chip m h) (y 1) (y 2)) : Stack 1 352 1024) :=
  ((hs0_0 m hO (point m hO)).read_unread _).trans (funext fun (y : S1x352x1024.Idx) => congrArg (m ((c : Thread nD τ).loc main_arg0)) (funext fun a => Fin.ext (by
    refine (Pipeline.Window.rect_emb_val ((cfgM m hO).win 0) (point m hO) y a rfl).trans ?_
    match a with
    | ⟨0, _⟩ =>
      have hy : (y 0).val < 1 := ((y : S1x352x1024.Idx) 0).isLt
      show (tbl m 0 _ : BitVec 32).toNat * 1 + (y 0).val = (tbl m 0 _ : BitVec 32).toNat
      rw [(Nat.lt_one_iff.mp hy), Nat.mul_one]
      exact congrArg (fun x => (tbl m 0 x : BitVec 32).toNat) (one _ _)
    | ⟨1, _⟩ =>
      show (BitVec.ofNat 32 ((grid0.coords ⟨0, _⟩) 0).val).toNat * 352 + (y 1).val = (y 1).val
      rw [at_zero]; omega
    | ⟨2, _⟩ => show 0 * 1024 + (y 2).val = (y 2).val; omega)))

theorem read1 : View.read (Elt Ideal) (ms0_1 m hO (point m hO)).view ((hs0_1 m hO (point m hO)).unread (iblk m hO c 1 (point m hO))) =
    (m ((c : Thread nD τ).loc main_arg1) : Stack 3 352 1024) :=
  ((hs0_1 m hO (point m hO)).read_unread _).trans (funext fun y => congrArg (m ((c : Thread nD τ).loc main_arg1)) (funext fun a => Fin.ext (by
    refine Pipeline.Window.rect_emb_val_of_index_zero ((cfgM m hO).win 1) (point m hO) a ?_ y
    match a with
    | ⟨0, _⟩ => rfl
    | ⟨1, _⟩ => exact at_zero _
    | ⟨2, _⟩ => rfl)))

theorem read2 : View.read (Elt Ideal) (ms0_2 m hO (point m hO)).view ((hs0_2 m hO (point m hO)).unread (iblk m hO c 2 (point m hO))) =
    (m ((c : Thread nD τ).loc main_arg3) : Stack 1 352 1024) :=
  ((hs0_2 m hO (point m hO)).read_unread _).trans (funext fun y => congrArg (m ((c : Thread nD τ).loc main_arg3)) (funext fun a => Fin.ext (by
    refine Pipeline.Window.rect_emb_val_of_index_zero ((cfgM m hO).win 2) (point m hO) a ?_ y
    match a with
    | ⟨0, _⟩ => rfl
    | ⟨1, _⟩ => exact at_zero _
    | ⟨2, _⟩ => rfl)))

theorem read3 : View.read (Elt Ideal) (ms0_3 m hO (point m hO)).view ((hs0_3 m hO (point m hO)).unread (iblk m hO c 3 (point m hO))) =
    (m ((c : Thread nD τ).loc main_arg4) : Stack 1 352 1024) :=
  ((hs0_3 m hO (point m hO)).read_unread _).trans (funext fun y => congrArg (m ((c : Thread nD τ).loc main_arg4)) (funext fun a => Fin.ext (by
    refine Pipeline.Window.rect_emb_val_of_index_zero ((cfgM m hO).win 3) (point m hO) a ?_ y
    match a with
    | ⟨0, _⟩ => rfl
    | ⟨1, _⟩ => exact at_zero _
    | ⟨2, _⟩ => rfl)))

theorem read4 : View.read (Elt Ideal) (ms0_4 m hO (point m hO)).view ((hs0_4 m hO (point m hO)).unread (iblk m hO c 4 (point m hO))) =
    (m ((c : Thread nD τ).loc main_arg5) : Stack 1 352 1024) :=
  ((hs0_4 m hO (point m hO)).read_unread _).trans (funext fun y => congrArg (m ((c : Thread nD τ).loc main_arg5)) (funext fun a => Fin.ext (by
    refine Pipeline.Window.rect_emb_val_of_index_zero ((cfgM m hO).win 4) (point m hO) a ?_ y
    match a with
    | ⟨0, _⟩ => rfl
    | ⟨1, _⟩ => exact at_zero _
    | ⟨2, _⟩ => rfl)))

theorem whole5 (m : (ℓ : Loc nD τ sig) → Buf (Elt Ideal) ℓ) (hO : Ok m) : ((cfgM m hO).win 5).WholeAt (point m hO) := by
  refine ⟨rfl, fun t _ => point_eq t, fun a => ?_⟩
  match a with
  | ⟨0, _⟩ => exact ⟨rfl, rfl⟩
  | ⟨1, _⟩ => exact ⟨at_zero _, rfl⟩
  | ⟨2, _⟩ => exact ⟨rfl, rfl⟩

theorem whole6 (m : (ℓ : Loc nD τ sig) → Buf (Elt Ideal) ℓ) (hO : Ok m) : ((cfgM m hO).win 6).WholeAt (point m hO) := by
  refine ⟨rfl, fun t _ => point_eq t, fun a => ?_⟩
  match a with
  | ⟨0, _⟩ => exact ⟨rfl, rfl⟩
  | ⟨1, _⟩ => exact ⟨at_zero _, rfl⟩
  | ⟨2, _⟩ => exact ⟨rfl, rfl⟩

theorem whole7 (m : (ℓ : Loc nD τ sig) → Buf (Elt Ideal) ℓ) (hO : Ok m) : ((cfgM m hO).win 7).WholeAt (point m hO) := by
  refine ⟨rfl, fun t _ => point_eq t, fun a => ?_⟩
  match a with
  | ⟨0, _⟩ => exact ⟨rfl, rfl⟩
  | ⟨1, _⟩ => exact ⟨at_zero _, rfl⟩
  | ⟨2, _⟩ => exact ⟨rfl, rfl⟩

theorem whole8 (m : (ℓ : Loc nD τ sig) → Buf (Elt Ideal) ℓ) (hO : Ok m) : ((cfgM m hO).win 8).WholeAt (point m hO) := by
  refine ⟨rfl, fun t _ => point_eq t, fun a => ?_⟩
  match a with
  | ⟨0, _⟩ => exact ⟨rfl, rfl⟩
  | ⟨1, _⟩ => exact ⟨at_zero _, rfl⟩
  | ⟨2, _⟩ => exact ⟨rfl, rfl⟩

/-- The chip's gradient. -/
abbrev grad (m : (ℓ : Loc nD τ sig) → Buf (Elt Ideal) ℓ) (h : Cert.Pre_AdamDownIdeal m) (c : Dev nD) : Stack 1 352 1024 :=
  gradient (chip m h) (m ((c : Thread nD τ).loc main_arg0)) (m ((c : Thread nD τ).loc main_arg1))

theorem result5 (h : Cert.Pre_AdamDownIdeal m) : (dats m hO 0 c).arrAt 5 (cfgM m hO).N = (grad m h c : Stack 1 352 1024) := by
  refine (dats m hO 0 c).arrAt_eq_of_after_last 5 _ (whole5 m hO) _ fun y => ?_
  rw [after0_5]
  unfold outsAt0
  dsimp only
  frame_out
  rw [read0 h, read1]
  unfold k0_pay1 k0_pay5
  pointwise
  rfl

theorem result6 (h : Cert.Pre_AdamDownIdeal m) : (dats m hO 0 c).arrAt 6 (cfgM m hO).N = (step (m ((c : Thread nD τ).loc main_arg3)) (mean (grad m h c) (m ((c : Thread nD τ).loc main_arg4))) (square (grad m h c) (m ((c : Thread nD τ).loc main_arg5))) : Stack 1 352 1024) := by
  refine (dats m hO 0 c).arrAt_eq_of_after_last 6 _ (whole6 m hO) _ fun y => ?_
  rw [after0_6]
  unfold outsAt0
  dsimp only
  frame_out
  rw [read0 h, read1, read2, read3, read4]
  unfold k0_pay2 k0_pay9 k0_pay8 k0_pay7 k0_pay6 k0_pay5
  pointwise
  rfl

theorem result7 (h : Cert.Pre_AdamDownIdeal m) : (dats m hO 0 c).arrAt 7 (cfgM m hO).N = (mean (grad m h c) (m ((c : Thread nD τ).loc main_arg4)) : Stack 1 352 1024) := by
  refine (dats m hO 0 c).arrAt_eq_of_after_last 7 _ (whole7 m hO) _ fun y => ?_
  rw [after0_7]
  unfold outsAt0
  dsimp only
  frame_out
  rw [read0 h, read1, read3]
  unfold k0_pay3 k0_pay7 k0_pay5
  pointwise
  rfl

theorem result8 (h : Cert.Pre_AdamDownIdeal m) : (dats m hO 0 c).arrAt 8 (cfgM m hO).N = (square (grad m h c) (m ((c : Thread nD τ).loc main_arg5)) : Stack 1 352 1024) := by
  refine (dats m hO 0 c).arrAt_eq_of_after_last 8 _ (whole8 m hO) _ fun y => ?_
  rw [after0_8]
  unfold outsAt0
  dsimp only
  frame_out
  rw [read0 h, read1, read4]
  unfold k0_pay4 k0_pay8 k0_pay5
  pointwise
  rfl

theorem word_eq (h : Cert.Pre_AdamDownIdeal m) : (m ((c : Thread nD τ).loc main_arg2) (ix1 (0 : Fin 1)) : BitVec 32).toNat = (chip m h).val := by
  obtain rfl : c = 0 := Subsingleton.elim _ _
  exact congrArg (fun x => (tbl m 0 x : BitVec 32).toNat) (one _ _)

theorem algebraic : Cert.algebraic_AdamDownIdeal_AdamDownRefIdeal := fun m g m' g' h hm =>
  ⟨fun c => grad m h c, fun c => step (m ((c : Thread nD τ).loc main_arg3)) (mean (grad m h c) (m ((c : Thread nD τ).loc main_arg4))) (square (grad m h c) (m ((c : Thread nD τ).loc main_arg5))),
    fun c => mean (grad m h c) (m ((c : Thread nD τ).loc main_arg4)), fun c => square (grad m h c) (m ((c : Thread nD τ).loc main_arg5)), by
      refine (θ_run defs _ _).mono (fun r e c => ?_) (θ_run_and (run_main m g (ok m h)) (unchanged m g (ok m h)))
      exact ⟨(e.1.out_eq c 5).trans (result5 h), (e.1.out_eq c 6).trans (result6 h), (e.1.out_eq c 7).trans (result7 h), (e.1.out_eq c 8).trans (result8 h), e.2 c⟩,
    (θ_run Cert.AdamDownRefIdeal.defs _ _).mono (fun _ e c => ⟨(e c).1.trans (by
        rw [(hm c).1, (hm c).2.1, (hm c).2.2.1]; funext i; pointwise; rw [gradient_eq (chip m h) (m ((c : Thread nD τ).loc main_arg2) (ix1 (0 : Fin 1))) (word_eq h) (m ((c : Thread nD τ).loc main_arg0)) (m ((c : Thread nD τ).loc main_arg1)) (i 1) (i 2)]; rfl),
        (e c).2.1.trans (by
        rw [(hm c).1, (hm c).2.1, (hm c).2.2.1, (hm c).2.2.2.1, (hm c).2.2.2.2.1, (hm c).2.2.2.2.2]; funext i; pointwise; rw [gradient_eq (chip m h) (m ((c : Thread nD τ).loc main_arg2) (ix1 (0 : Fin 1))) (word_eq h) (m ((c : Thread nD τ).loc main_arg0)) (m ((c : Thread nD τ).loc main_arg1)) (i 1) (i 2)]; rfl),
        (e c).2.2.1.trans (by
        rw [(hm c).1, (hm c).2.1, (hm c).2.2.1, (hm c).2.2.2.2.1]; funext i; pointwise; rw [gradient_eq (chip m h) (m ((c : Thread nD τ).loc main_arg2) (ix1 (0 : Fin 1))) (word_eq h) (m ((c : Thread nD τ).loc main_arg0)) (m ((c : Thread nD τ).loc main_arg1)) (i 1) (i 2)]; rfl),
        (e c).2.2.2.1.trans (by
        rw [(hm c).1, (hm c).2.1, (hm c).2.2.1, (hm c).2.2.2.2.2]; funext i; pointwise; rw [gradient_eq (chip m h) (m ((c : Thread nD τ).loc main_arg2) (ix1 (0 : Fin 1))) (word_eq h) (m ((c : Thread nD τ).loc main_arg0)) (m ((c : Thread nD τ).loc main_arg1)) (i 1) (i 2)]; rfl), (e c).2.2.2.2⟩)
      (Cert.AdamDownRefIdeal.Value.run m' g')⟩

end Cert.AdamDownIdeal

end
-- ==== Proof.SumInStep.lean ====
/- The sum of a shard of the input projection's gradient over the chips. -/
module

public import proofs.«01_k».proof.Defs
public import proofs.«01_k».proof.Proof.Shards
public import proofs.«01_k».proof.Proof.Products
public import proofs.«01_k».proof.Proof.Gen.SumIn.Frame
public import proofs.«01_k».proof.Proof.Gen.SumInIdeal.Frame
public import proofs.«01_k».proof.Proof.Gen.SumInRefIdeal.Run
public import proofs.«01_k».proof.Proof.Gen.Pre_sum_on_the_mesh
public import Idealize.ShloMosaic.Lib.StableHlo.Predicate

@[expose] public section

noncomputable section

open Idealize.ShloMosaic Idealize.ShloMosaic.TcCoe Idealize.SL.Sem

namespace Cert.SumIn

open Cert.SumIn.Gen

theorem chip_lt (m : (ℓ : Loc nD τ sig) → Buf (Elt Bits) ℓ) (h : Cert.Pre_SumIn m) (x : S1.Idx) : (tbl m 0 x : BitVec 32).toNat < 4 :=
  Cert.Shard.lt_four _ (congrFun (h 0) x)

theorem ok (m : (ℓ : Loc nD τ sig) → Buf (Elt Bits) ℓ) (h : Cert.Pre_SumIn m) : Ok (F := Bits) m := fun i => by
  refine ⟨fun a => ?_, .inl rfl⟩
  have hc := chip_lt m h
  have h0 : (i 0).val < 1 := (i 0).isLt
  match a with
  | ⟨0, _⟩ =>
    show ((tbl m 0 _ : BitVec 32).toNat + 1) * 1 ≤ 4
    rw [Nat.mul_one]
    exact hc _
  | ⟨1, _⟩ =>
    show ((BitVec.ofNat 32 (i 0).val).toNat + 1) * 1154 ≤ 1154
    rw [BitVec.toNat_ofNat]; omega
  | ⟨2, _⟩ => show (0 + 1) * 1024 ≤ 1024; omega

end Cert.SumIn

namespace Cert.SumInIdeal

open Cert.SumInIdeal.Gen Cert.Shard

theorem chip_lt (m : (ℓ : Loc nD τ sig) → Buf (Elt Ideal) ℓ) (h : Cert.Pre_SumInIdeal m) (x : S1.Idx) : (tbl m 0 x : BitVec 32).toNat < 4 :=
  Cert.Shard.lt_four _ (congrFun (h 0) x)

/-- The chip the call runs on. -/
def chip (m : (ℓ : Loc nD τ sig) → Buf (Elt Ideal) ℓ) (h : Cert.Pre_SumInIdeal m) : Fin 4 := ⟨_, chip_lt m h (ix1 (0 : Fin 1))⟩

theorem ok (m : (ℓ : Loc nD τ sig) → Buf (Elt Ideal) ℓ) (h : Cert.Pre_SumInIdeal m) : Ok (F := Ideal) m := fun i => by
  refine ⟨fun a => ?_, .inl rfl⟩
  have hc := chip_lt m h
  have h0 : (i 0).val < 1 := (i 0).isLt
  match a with
  | ⟨0, _⟩ =>
    show ((tbl m 0 _ : BitVec 32).toNat + 1) * 1 ≤ 4
    rw [Nat.mul_one]
    exact hc _
  | ⟨1, _⟩ =>
    show ((BitVec.ofNat 32 (i 0).val).toNat + 1) * 1154 ≤ 1154
    rw [BitVec.toNat_ofNat]; omega
  | ⟨2, _⟩ => show (0 + 1) * 1024 ≤ 1024; omega

variable {m : (ℓ : Loc nD τ sig) → Buf (Elt Ideal) ℓ} {hO : Ok m} {c : Dev nD}

/-- The one point of the grid. -/
abbrev point (m : (ℓ : Loc nD τ sig) → Buf (Elt Ideal) ℓ) (hO : Ok m) : Fin (cfgM m hO).N := ⟨0, by show 0 < grid0.N; decide⟩

theorem at_zero (i : grid0.Coords) : (BitVec.ofNat 32 (i 0).val).toNat = 0 := by
  have h0 : (i 0).val < 1 := (i 0).isLt
  rw [BitVec.toNat_ofNat]; omega

theorem point_eq (t : Fin (cfgM m hO).N) : t = point m hO := Fin.ext (by
  have : t.val < grid0.N := t.isLt
  have h1 : grid0.N = 1 := by decide
  show t.val = 0
  omega)

theorem read0 (h : Cert.Pre_SumInIdeal m) : View.read (Elt Ideal) (ms0_0 m hO (point m hO)).view ((hs0_0 m hO (point m hO)).unread (iblk m hO c 0 (point m hO))) =
    (fun y : S1x1154x1024.Idx => (m ((c : Thread nD τ).loc main_arg0) : Stack 4 1154 1024) (ix3 (chip m h) (y 1) (y 2)) : Stack 1 1154 1024) :=
  ((hs0_0 m hO (point m hO)).read_unread _).trans (funext fun (y : S1x1154x1024.Idx) => congrArg (m ((c : Thread nD τ).loc main_arg0)) (funext fun a => Fin.ext (by
    refine (Pipeline.Window.rect_emb_val ((cfgM m hO).win 0) (point m hO) y a rfl).trans ?_
    match a with
    | ⟨0, _⟩ =>
      have hy : (y 0).val < 1 := ((y : S1x1154x1024.Idx) 0).isLt
      show (tbl m 0 _ : BitVec 32).toNat * 1 + (y 0).val = (tbl m 0 _ : BitVec 32).toNat
      rw [(Nat.lt_one_iff.mp hy), Nat.mul_one]
      exact congrArg (fun x => (tbl m 0 x : BitVec 32).toNat) (one _ _)
    | ⟨1, _⟩ =>
      show (BitVec.ofNat 32 ((grid0.coords ⟨0, _⟩) 0).val).toNat * 1154 + (y 1).val = (y 1).val
      rw [at_zero]; omega
    | ⟨2, _⟩ => show 0 * 1024 + (y 2).val = (y 2).val; omega)))

theorem read1 : View.read (Elt Ideal) (ms0_1 m hO (point m hO)).view ((hs0_1 m hO (point m hO)).unread (iblk m hO c 1 (point m hO))) =
    (m ((c : Thread nD τ).loc main_arg1) : Stack 3 1154 1024) :=
  ((hs0_1 m hO (point m hO)).read_unread _).trans (funext fun y => congrArg (m ((c : Thread nD τ).loc main_arg1)) (funext fun a => Fin.ext (by
    refine Pipeline.Window.rect_emb_val_of_index_zero ((cfgM m hO).win 1) (point m hO) a ?_ y
    match a with
    | ⟨0, _⟩ => rfl
    | ⟨1, _⟩ => exact at_zero _
    | ⟨2, _⟩ => rfl)))

theorem whole2 (m : (ℓ : Loc nD τ sig) → Buf (Elt Ideal) ℓ) (hO : Ok m) : ((cfgM m hO).win 2).WholeAt (point m hO) := by
  refine ⟨rfl, fun t _ => point_eq t, fun a => ?_⟩
  match a with
  | ⟨0, _⟩ => exact ⟨at_zero _, rfl⟩
  | ⟨1, _⟩ => exact ⟨rfl, rfl⟩

/-- The chip's gradient. -/
abbrev grad (m : (ℓ : Loc nD τ sig) → Buf (Elt Ideal) ℓ) (h : Cert.Pre_SumInIdeal m) (c : Dev nD) : Cert.Product.Mat 1154 1024 := fun y =>
  gradient (chip m h) (m ((c : Thread nD τ).loc main_arg0)) (m ((c : Thread nD τ).loc main_arg1)) (ix3 (0 : Fin 1) (y 0) (y 1))

theorem result2 (h : Cert.Pre_SumInIdeal m) : (dats m hO 0 c).arrAt 2 (cfgM m hO).N = (grad m h c : Cert.Product.Mat 1154 1024) := by
  refine (dats m hO 0 c).arrAt_eq_of_after_last 2 _ (whole2 m hO) _ fun y => ?_
  rw [after0_2]
  unfold outsAt0
  dsimp only
  frame_out
  rw [read0 h, read1]
  unfold k0_pay1
  pointwise
  rfl

theorem word_eq (h : Cert.Pre_SumInIdeal m) : (m ((c : Thread nD τ).loc main_arg2) (ix1 (0 : Fin 1)) : BitVec 32).toNat = (chip m h).val := by
  obtain rfl : c = 0 := Subsingleton.elim _ _
  exact congrArg (fun x => (tbl m 0 x : BitVec 32).toNat) (one _ _)

theorem algebraic : Cert.algebraic_SumInIdeal_SumInRefIdeal := fun m g m' g' h hm =>
  ⟨fun c => grad m h c, by
      refine (θ_run defs _ _).mono (fun r e c => ?_) (θ_run_and (run_main m g (ok m h)) (unchanged m g (ok m h)))
      exact ⟨(e.1.out_eq c 2).trans (result2 h), e.2 c⟩,
    (θ_run Cert.SumInRefIdeal.defs _ _).mono (fun _ e c => ⟨(e c).1.trans (by
        rw [(hm c).1, (hm c).2.1, (hm c).2.2]; funext i; pointwise; rw [gradient_eq (chip m h) (m ((c : Thread nD τ).loc main_arg2) (ix1 (0 : Fin 1))) (word_eq h) (m ((c : Thread nD τ).loc main_arg0)) (m ((c : Thread nD τ).loc main_arg1)) (i 0) (i 1)]), (e c).2⟩)
      (Cert.SumInRefIdeal.Value.run m' g')⟩

end Cert.SumInIdeal

end
-- ==== Proof.Small.lean ====
/- The updates of the small weights from what all chips sent. -/
module

public import proofs.«01_k».proof.Proof.Shards

@[expose] public section

noncomputable section

open Idealize.ShloMosaic Idealize.ShloMosaic.TcCoe Idealize.SL.Sem

namespace Cert.Shard

/-- A matrix of extended reals. -/
abbrev Mat (R L : ℕ) := (⟨2, ![R, L]⟩ : Shape).Idx → EReal

/-- What all chips sent, added up one after the other, at one row and one lane. -/
def total (G : Stack 8 72 1024) (r : Fin 72) (l : Fin 1024) : EReal :=
  G (ix3 0 r l) + G (ix3 1 r l) + G (ix3 2 r l) + G (ix3 3 r l) + G (ix3 4 r l) + G (ix3 5 r l) + G (ix3 6 r l) + G (ix3 7 r l)

/-- A row of the gradient, at the lanes `f` names. -/
def line {L : ℕ} (G : Stack 8 72 1024) (r : Fin 72) (f : Fin L → Fin 1024) : Mat 1 L := fun y => total G r (f (y 1))

/-- A row among the eight that belong to a chip. -/
def row (k r : Fin 8) : Fin 72 := ⟨8 + (k.val * 8 + r.val), by omega⟩

/-- A block of the gradient among a chip's own rows, at the rows `e` and the lanes `f` name. -/
def block {R L : ℕ} (G : Stack 8 72 1024) (k : Fin 8) (e : Fin R → Fin 8) (f : Fin L → Fin 1024) : Stack 1 R L :=
  fun y => total G (row k (e (y 1))) (f (y 2))

/-- `L` lanes from lane `o` on. -/
def lanes (o L : ℕ) (h : o + L ≤ 1024) (l : Fin L) : Fin 1024 := ⟨o + l.val, by omega⟩

/-- `R` rows of eight from row `o` on. -/
def rows (o R : ℕ) (h : o + R ≤ 8) (r : Fin R) : Fin 8 := ⟨o + r.val, by omega⟩

/-- The number after a chip's. -/
theorem next (w : BitVec 32) (h : w.toNat < 8) : (Scalar.addi 1#32 w : BitVec 32).toNat = 1 + w.toNat := by
  show (1#32 + w : BitVec 32).toNat = _
  rw [BitVec.toNat_add]
  show (1 + w.toNat) % 2 ^ 32 = _
  omega

/-- The block of eight rows after a chip's number lies inside the stack. -/
theorem inside (w : BitVec 32) (h : w.toNat < 8) : ((Scalar.addi 1#32 w : BitVec 32).toNat + 1) * 8 ≤ 72 := by
  rw [next w h]; omega

/-- Its rows are the chip's own. -/
theorem place (w : BitVec 32) (k : Fin 8) (r : ℕ) (h : w.toNat = k.val) : (Scalar.addi 1#32 w : BitVec 32).toNat * 8 + r = 8 + (k.val * 8 + r) := by
  rw [next w (h ▸ k.isLt), h]; omega

end Cert.Shard

end
-- ==== Proof.AdamNormsStep.lean ====
/- The update of the norms' scales. -/
module

public import proofs.«01_k».proof.Defs
public import proofs.«01_k».proof.Proof.Small
public import proofs.«01_k».proof.Proof.Gen.AdamNorms.Frame
public import proofs.«01_k».proof.Proof.Gen.AdamNormsIdeal.Frame
public import proofs.«01_k».proof.Proof.Gen.AdamNormsRefIdeal.Run
public import proofs.«01_k».proof.Proof.Gen.Pre_norms_on_the_mesh

@[expose] public section

noncomputable section

open Idealize.ShloMosaic Idealize.ShloMosaic.TcCoe Idealize.SL.Sem

namespace Cert.AdamNorms

open Cert.AdamNorms.Gen

theorem chip_lt (m : (ℓ : Loc nD τ sig) → Buf (Elt Bits) ℓ) (h : Cert.Pre_AdamNorms m) (x : S1.Idx) : (tbl m 0 x : BitVec 32).toNat < 8 :=
  Cert.Shard.lt_of_between 8 (by decide) _ (congrFun (h 0) x)

theorem ok (m : (ℓ : Loc nD τ sig) → Buf (Elt Bits) ℓ) (h : Cert.Pre_AdamNorms m) : Ok (F := Bits) m := fun i => by
  refine ⟨fun a => ?_, .inl rfl⟩
  have hc := chip_lt m h
  match a with
  | ⟨0, _⟩ => show (0 + 1) * 8 ≤ 8; omega
  | ⟨1, _⟩ => exact Cert.Shard.inside _ (hc _)
  | ⟨2, _⟩ => show (0 + 1) * 1024 ≤ 1024; omega

end Cert.AdamNorms

namespace Cert.AdamNormsIdeal

open Cert.AdamNormsIdeal.Gen Cert.Shard

theorem chip_lt (m : (ℓ : Loc nD τ sig) → Buf (Elt Ideal) ℓ) (h : Cert.Pre_AdamNormsIdeal m) (x : S1.Idx) : (tbl m 0 x : BitVec 32).toNat < 8 :=
  Cert.Shard.lt_of_between 8 (by decide) _ (congrFun (h 0) x)

theorem ok (m : (ℓ : Loc nD τ sig) → Buf (Elt Ideal) ℓ) (h : Cert.Pre_AdamNormsIdeal m) : Ok (F := Ideal) m := fun i => by
  refine ⟨fun a => ?_, .inl rfl⟩
  have hc := chip_lt m h
  match a with
  | ⟨0, _⟩ => show (0 + 1) * 8 ≤ 8; omega
  | ⟨1, _⟩ => exact Cert.Shard.inside _ (hc _)
  | ⟨2, _⟩ => show (0 + 1) * 1024 ≤ 1024; omega

/-- The chip the call runs on. -/
def chip (m : (ℓ : Loc nD τ sig) → Buf (Elt Ideal) ℓ) (h : Cert.Pre_AdamNormsIdeal m) : Fin 8 := ⟨_, chip_lt m h (ix1 (0 : Fin 1))⟩

variable {m : (ℓ : Loc nD τ sig) → Buf (Elt Ideal) ℓ} {hO : Ok m} {c : Dev nD}

/-- The one point of the grid. -/
abbrev point (m : (ℓ : Loc nD τ sig) → Buf (Elt Ideal) ℓ) (hO : Ok m) : Fin (cfgM m hO).N := ⟨0, by show 0 < grid0.N; decide⟩

theorem point_eq (t : Fin (cfgM m hO).N) : t = point m hO := Fin.ext (by
  have : t.val < grid0.N := t.isLt
  have h1 : grid0.N = 1 := by decide
  show t.val = 0
  omega)

theorem read0 : View.read (Elt Ideal) (ms0_0 m hO (point m hO)).view ((hs0_0 m hO (point m hO)).unread (iblk m hO c 0 (point m hO))) =
    (fun y : S8x8x1024.Idx => (m ((c : Thread nD τ).loc main_arg0) : Stack 8 72 1024) (ix3 (y 0) (Fin.castLE (by decide : 8 ≤ 72) (y 1)) (y 2)) : Stack 8 8 1024) :=
  ((hs0_0 m hO (point m hO)).read_unread _).trans (funext fun (y : S8x8x1024.Idx) => congrArg (m ((c : Thread nD τ).loc main_arg0)) (funext fun a => Fin.ext (by
    refine (Pipeline.Window.rect_emb_val ((cfgM m hO).win 0) (point m hO) y a rfl).trans ?_
    match a with
    | ⟨0, _⟩ => show 0 * 8 + (y 0).val = (y 0).val; omega
    | ⟨1, _⟩ => show 0 * 8 + (y 1).val = (y 1).val; omega
    | ⟨2, _⟩ => show 0 * 1024 + (y 2).val = (y 2).val; omega)))

theorem read2 : View.read (Elt Ideal) (ms0_2 m hO (point m hO)).view ((hs0_2 m hO (point m hO)).unread (iblk m hO c 2 (point m hO))) =
    (m ((c : Thread nD τ).loc main_arg2) : Mat 1 1024) :=
  ((hs0_2 m hO (point m hO)).read_unread _).trans (funext fun y => congrArg (m ((c : Thread nD τ).loc main_arg2)) (funext fun a => Fin.ext (by
    refine Pipeline.Window.rect_emb_val_of_index_zero ((cfgM m hO).win 2) (point m hO) a ?_ y
    match a with
    | ⟨0, _⟩ => rfl
    | ⟨1, _⟩ => rfl)))

theorem read3 : View.read (Elt Ideal) (ms0_3 m hO (point m hO)).view ((hs0_3 m hO (point m hO)).unread (iblk m hO c 3 (point m hO))) =
    (m ((c : Thread nD τ).loc main_arg3) : Mat 1 1024) :=
  ((hs0_3 m hO (point m hO)).read_unread _).trans (funext fun y => congrArg (m ((c : Thread nD τ).loc main_arg3)) (funext fun a => Fin.ext (by
    refine Pipeline.Window.rect_emb_val_of_index_zero ((cfgM m hO).win 3) (point m hO) a ?_ y
    match a with
    | ⟨0, _⟩ => rfl
    | ⟨1, _⟩ => rfl)))

theorem read4 : View.read (Elt Ideal) (ms0_4 m hO (point m hO)).view ((hs0_4 m hO (point m hO)).unread (iblk m hO c 4 (point m hO))) =
    (m ((c : Thread nD τ).loc main_arg4) : Mat 1 1024) :=
  ((hs0_4 m hO (point m hO)).read_unread _).trans (funext fun y => congrArg (m ((c : Thread nD τ).loc main_arg4)) (funext fun a => Fin.ext (by
    refine Pipeline.Window.rect_emb_val_of_index_zero ((cfgM m hO).win 4) (point m hO) a ?_ y
    match a with
    | ⟨0, _⟩ => rfl
    | ⟨1, _⟩ => rfl)))

theorem read5 : View.read (Elt Ideal) (ms0_5 m hO (point m hO)).view ((hs0_5 m hO (point m hO)).unread (iblk m hO c 5 (point m hO))) =
    (m ((c : Thread nD τ).loc main_arg5) : Mat 1 1024) :=
  ((hs0_5 m hO (point m hO)).read_unread _).trans (funext fun y => congrArg (m ((c : Thread nD τ).loc main_arg5)) (funext fun a => Fin.ext (by
    refine Pipeline.Window.rect_emb_val_of_index_zero ((cfgM m hO).win 5) (point m hO) a ?_ y
    match a with
    | ⟨0, _⟩ => rfl
    | ⟨1, _⟩ => rfl)))

theorem read6 : View.read (Elt Ideal) (ms0_6 m hO (point m hO)).view ((hs0_6 m hO (point m hO)).unread (iblk m hO c 6 (point m hO))) =
    (m ((c : Thread nD τ).loc main_arg6) : Mat 1 1024) :=
  ((hs0_6 m hO (point m hO)).read_unread _).trans (funext fun y => congrArg (m ((c : Thread nD τ).loc main_arg6)) (funext fun a => Fin.ext (by
    refine Pipeline.Window.rect_emb_val_of_index_zero ((cfgM m hO).win 6) (point m hO) a ?_ y
    match a with
    | ⟨0, _⟩ => rfl
    | ⟨1, _⟩ => rfl)))

theorem read7 : View.read (Elt Ideal) (ms0_7 m hO (point m hO)).view ((hs0_7 m hO (point m hO)).unread (iblk m hO c 7 (point m hO))) =
    (m ((c : Thread nD τ).loc main_arg7) : Mat 1 1024) :=
  ((hs0_7 m hO (point m hO)).read_unread _).trans (funext fun y => congrArg (m ((c : Thread nD τ).loc main_arg7)) (funext fun a => Fin.ext (by
    refine Pipeline.Window.rect_emb_val_of_index_zero ((cfgM m hO).win 7) (point m hO) a ?_ y
    match a with
    | ⟨0, _⟩ => rfl
    | ⟨1, _⟩ => rfl)))

theorem read8 : View.read (Elt Ideal) (ms0_8 m hO (point m hO)).view ((hs0_8 m hO (point m hO)).unread (iblk m hO c 8 (point m hO))) =
    (m ((c : Thread nD τ).loc main_arg8) : Mat 1 1024) :=
  ((hs0_8 m hO (point m hO)).read_unread _).trans (funext fun y => congrArg (m ((c : Thread nD τ).loc main_arg8)) (funext fun a => Fin.ext (by
    refine Pipeline.Window.rect_emb_val_of_index_zero ((cfgM m hO).win 8) (point m hO) a ?_ y
    match a with
    | ⟨0, _⟩ => rfl
    | ⟨1, _⟩ => rfl)))

theorem read9 : View.read (Elt Ideal) (ms0_9 m hO (point m hO)).view ((hs0_9 m hO (point m hO)).unread (iblk m hO c 9 (point m hO))) =
    (m ((c : Thread nD τ).loc main_arg9) : Mat 1 1024) :=
  ((hs0_9 m hO (point m hO)).read_unread _).trans (funext fun y => congrArg (m ((c : Thread nD τ).loc main_arg9)) (funext fun a => Fin.ext (by
    refine Pipeline.Window.rect_emb_val_of_index_zero ((cfgM m hO).win 9) (point m hO) a ?_ y
    match a with
    | ⟨0, _⟩ => rfl
    | ⟨1, _⟩ => rfl)))

theorem read10 : View.read (Elt Ideal) (ms0_10 m hO (point m hO)).view ((hs0_10 m hO (point m hO)).unread (iblk m hO c 10 (point m hO))) =
    (m ((c : Thread nD τ).loc main_arg10) : Mat 1 1024) :=
  ((hs0_10 m hO (point m hO)).read_unread _).trans (funext fun y => congrArg (m ((c : Thread nD τ).loc main_arg10)) (funext fun a => Fin.ext (by
    refine Pipeline.Window.rect_emb_val_of_index_zero ((cfgM m hO).win 10) (point m hO) a ?_ y
    match a with
    | ⟨0, _⟩ => rfl
    | ⟨1, _⟩ => rfl)))

theorem whole11 (m : (ℓ : Loc nD τ sig) → Buf (Elt Ideal) ℓ) (hO : Ok m) : ((cfgM m hO).win 11).WholeAt (point m hO) := by
  refine ⟨rfl, fun t _ => point_eq t, fun a => ?_⟩
  match a with
  | ⟨0, _⟩ => exact ⟨rfl, rfl⟩
  | ⟨1, _⟩ => exact ⟨rfl, rfl⟩

theorem whole12 (m : (ℓ : Loc nD τ sig) → Buf (Elt Ideal) ℓ) (hO : Ok m) : ((cfgM m hO).win 12).WholeAt (point m hO) := by
  refine ⟨rfl, fun t _ => point_eq t, fun a => ?_⟩
  match a with
  | ⟨0, _⟩ => exact ⟨rfl, rfl⟩
  | ⟨1, _⟩ => exact ⟨rfl, rfl⟩

theorem whole13 (m : (ℓ : Loc nD τ sig) → Buf (Elt Ideal) ℓ) (hO : Ok m) : ((cfgM m hO).win 13).WholeAt (point m hO) := by
  refine ⟨rfl, fun t _ => point_eq t, fun a => ?_⟩
  match a with
  | ⟨0, _⟩ => exact ⟨rfl, rfl⟩
  | ⟨1, _⟩ => exact ⟨rfl, rfl⟩

theorem whole14 (m : (ℓ : Loc nD τ sig) → Buf (Elt Ideal) ℓ) (hO : Ok m) : ((cfgM m hO).win 14).WholeAt (point m hO) := by
  refine ⟨rfl, fun t _ => point_eq t, fun a => ?_⟩
  match a with
  | ⟨0, _⟩ => exact ⟨rfl, rfl⟩
  | ⟨1, _⟩ => exact ⟨rfl, rfl⟩

theorem whole15 (m : (ℓ : Loc nD τ sig) → Buf (Elt Ideal) ℓ) (hO : Ok m) : ((cfgM m hO).win 15).WholeAt (point m hO) := by
  refine ⟨rfl, fun t _ => point_eq t, fun a => ?_⟩
  match a with
  | ⟨0, _⟩ => exact ⟨rfl, rfl⟩
  | ⟨1, _⟩ => exact ⟨rfl, rfl⟩

theorem whole16 (m : (ℓ : Loc nD τ sig) → Buf (Elt Ideal) ℓ) (hO : Ok m) : ((cfgM m hO).win 16).WholeAt (point m hO) := by
  refine ⟨rfl, fun t _ => point_eq t, fun a => ?_⟩
  match a with
  | ⟨0, _⟩ => exact ⟨rfl, rfl⟩
  | ⟨1, _⟩ => exact ⟨rfl, rfl⟩

theorem whole17 (m : (ℓ : Loc nD τ sig) → Buf (Elt Ideal) ℓ) (hO : Ok m) : ((cfgM m hO).win 17).WholeAt (point m hO) := by
  refine ⟨rfl, fun t _ => point_eq t, fun a => ?_⟩
  match a with
  | ⟨0, _⟩ => exact ⟨rfl, rfl⟩
  | ⟨1, _⟩ => exact ⟨rfl, rfl⟩

theorem whole18 (m : (ℓ : Loc nD τ sig) → Buf (Elt Ideal) ℓ) (hO : Ok m) : ((cfgM m hO).win 18).WholeAt (point m hO) := by
  refine ⟨rfl, fun t _ => point_eq t, fun a => ?_⟩
  match a with
  | ⟨0, _⟩ => exact ⟨rfl, rfl⟩
  | ⟨1, _⟩ => exact ⟨rfl, rfl⟩

theorem whole19 (m : (ℓ : Loc nD τ sig) → Buf (Elt Ideal) ℓ) (hO : Ok m) : ((cfgM m hO).win 19).WholeAt (point m hO) := by
  refine ⟨rfl, fun t _ => point_eq t, fun a => ?_⟩
  match a with
  | ⟨0, _⟩ => exact ⟨rfl, rfl⟩
  | ⟨1, _⟩ => exact ⟨rfl, rfl⟩

theorem whole20 (m : (ℓ : Loc nD τ sig) → Buf (Elt Ideal) ℓ) (hO : Ok m) : ((cfgM m hO).win 20).WholeAt (point m hO) := by
  refine ⟨rfl, fun t _ => point_eq t, fun a => ?_⟩
  match a with
  | ⟨0, _⟩ => exact ⟨rfl, rfl⟩
  | ⟨1, _⟩ => exact ⟨rfl, rfl⟩

theorem whole21 (m : (ℓ : Loc nD τ sig) → Buf (Elt Ideal) ℓ) (hO : Ok m) : ((cfgM m hO).win 21).WholeAt (point m hO) := by
  refine ⟨rfl, fun t _ => point_eq t, fun a => ?_⟩
  match a with
  | ⟨0, _⟩ => exact ⟨rfl, rfl⟩
  | ⟨1, _⟩ => exact ⟨rfl, rfl⟩

theorem whole22 (m : (ℓ : Loc nD τ sig) → Buf (Elt Ideal) ℓ) (hO : Ok m) : ((cfgM m hO).win 22).WholeAt (point m hO) := by
  refine ⟨rfl, fun t _ => point_eq t, fun a => ?_⟩
  match a with
  | ⟨0, _⟩ => exact ⟨rfl, rfl⟩
  | ⟨1, _⟩ => exact ⟨rfl, rfl⟩

theorem whole23 (m : (ℓ : Loc nD τ sig) → Buf (Elt Ideal) ℓ) (hO : Ok m) : ((cfgM m hO).win 23).WholeAt (point m hO) := by
  refine ⟨rfl, fun t _ => point_eq t, fun a => ?_⟩
  match a with
  | ⟨0, _⟩ => exact ⟨rfl, rfl⟩
  | ⟨1, _⟩ => exact ⟨rfl, rfl⟩

/-- The gradient of the call's first weight. -/
abbrev grad0 (m : (ℓ : Loc nD τ sig) → Buf (Elt Ideal) ℓ) (c : Dev nD) : Mat 1 1024 := line (m ((c : Thread nD τ).loc main_arg0)) 0 id

/-- The gradient of the call's second weight. -/
abbrev grad1 (m : (ℓ : Loc nD τ sig) → Buf (Elt Ideal) ℓ) (c : Dev nD) : Mat 1 1024 := line (m ((c : Thread nD τ).loc main_arg0)) 1 id

/-- The gradient of the call's third weight. -/
abbrev grad2 (m : (ℓ : Loc nD τ sig) → Buf (Elt Ideal) ℓ) (c : Dev nD) : Mat 1 1024 := line (m ((c : Thread nD τ).loc main_arg0)) 2 id

/-- The loss. -/
abbrev loss (m : (ℓ : Loc nD τ sig) → Buf (Elt Ideal) ℓ) (c : Dev nD) : Mat 1 1 := fun _ => total (m ((c : Thread nD τ).loc main_arg0)) 3 384

theorem result11 : (dats m hO 0 c).arrAt 11 (cfgM m hO).N = (grad0 m c : Mat 1 1024) := by
  refine (dats m hO 0 c).arrAt_eq_of_after_last 11 _ (whole11 m hO) _ fun y => ?_
  rw [after0_11]
  unfold outsAt0
  dsimp only
  frame_out
  rw [read0]
  unfold k0_pay6 k0_pay5
  pointwise
  rfl

theorem result12 : (dats m hO 0 c).arrAt 12 (cfgM m hO).N = (step (m ((c : Thread nD τ).loc main_arg2)) (mean (grad0 m c) (m ((c : Thread nD τ).loc main_arg3))) (square (grad0 m c) (m ((c : Thread nD τ).loc main_arg4))) : Mat 1 1024) := by
  refine (dats m hO 0 c).arrAt_eq_of_after_last 12 _ (whole12 m hO) _ fun y => ?_
  rw [after0_12]
  unfold outsAt0
  dsimp only
  frame_out
  rw [read0, read2, read3, read4]
  unfold k0_pay11 k0_pay9 k0_pay10 k0_pay6 k0_pay5
  pointwise
  rfl

theorem result13 : (dats m hO 0 c).arrAt 13 (cfgM m hO).N = (mean (grad0 m c) (m ((c : Thread nD τ).loc main_arg3)) : Mat 1 1024) := by
  refine (dats m hO 0 c).arrAt_eq_of_after_last 13 _ (whole13 m hO) _ fun y => ?_
  rw [after0_13]
  unfold outsAt0
  dsimp only
  frame_out
  rw [read0, read3]
  unfold k0_pay9 k0_pay6 k0_pay5
  pointwise
  rfl

theorem result14 : (dats m hO 0 c).arrAt 14 (cfgM m hO).N = (square (grad0 m c) (m ((c : Thread nD τ).loc main_arg4)) : Mat 1 1024) := by
  refine (dats m hO 0 c).arrAt_eq_of_after_last 14 _ (whole14 m hO) _ fun y => ?_
  rw [after0_14]
  unfold outsAt0
  dsimp only
  frame_out
  rw [read0, read4]
  unfold k0_pay10 k0_pay6 k0_pay5
  pointwise
  rfl

theorem result15 : (dats m hO 0 c).arrAt 15 (cfgM m hO).N = (grad1 m c : Mat 1 1024) := by
  refine (dats m hO 0 c).arrAt_eq_of_after_last 15 _ (whole15 m hO) _ fun y => ?_
  rw [after0_15]
  unfold outsAt0
  dsimp only
  frame_out
  rw [read0]
  unfold k0_pay7 k0_pay5
  pointwise
  rfl

theorem result16 : (dats m hO 0 c).arrAt 16 (cfgM m hO).N = (step (m ((c : Thread nD τ).loc main_arg5)) (mean (grad1 m c) (m ((c : Thread nD τ).loc main_arg6))) (square (grad1 m c) (m ((c : Thread nD τ).loc main_arg7))) : Mat 1 1024) := by
  refine (dats m hO 0 c).arrAt_eq_of_after_last 16 _ (whole16 m hO) _ fun y => ?_
  rw [after0_16]
  unfold outsAt0
  dsimp only
  frame_out
  rw [read0, read5, read6, read7]
  unfold k0_pay15 k0_pay13 k0_pay14 k0_pay7 k0_pay12 k0_pay5
  pointwise
  rfl

theorem result17 : (dats m hO 0 c).arrAt 17 (cfgM m hO).N = (mean (grad1 m c) (m ((c : Thread nD τ).loc main_arg6)) : Mat 1 1024) := by
  refine (dats m hO 0 c).arrAt_eq_of_after_last 17 _ (whole17 m hO) _ fun y => ?_
  rw [after0_17]
  unfold outsAt0
  dsimp only
  frame_out
  rw [read0, read6]
  unfold k0_pay13 k0_pay7 k0_pay12 k0_pay5
  pointwise
  rfl

theorem result18 : (dats m hO 0 c).arrAt 18 (cfgM m hO).N = (square (grad1 m c) (m ((c : Thread nD τ).loc main_arg7)) : Mat 1 1024) := by
  refine (dats m hO 0 c).arrAt_eq_of_after_last 18 _ (whole18 m hO) _ fun y => ?_
  rw [after0_18]
  unfold outsAt0
  dsimp only
  frame_out
  rw [read0, read7]
  unfold k0_pay14 k0_pay7 k0_pay5
  pointwise
  rfl

theorem result19 : (dats m hO 0 c).arrAt 19 (cfgM m hO).N = (grad2 m c : Mat 1 1024) := by
  refine (dats m hO 0 c).arrAt_eq_of_after_last 19 _ (whole19 m hO) _ fun y => ?_
  rw [after0_19]
  unfold outsAt0
  dsimp only
  frame_out
  rw [read0]
  unfold k0_pay8 k0_pay5
  pointwise
  rfl

theorem result20 : (dats m hO 0 c).arrAt 20 (cfgM m hO).N = (step (m ((c : Thread nD τ).loc main_arg8)) (mean (grad2 m c) (m ((c : Thread nD τ).loc main_arg9))) (square (grad2 m c) (m ((c : Thread nD τ).loc main_arg10))) : Mat 1 1024) := by
  refine (dats m hO 0 c).arrAt_eq_of_after_last 20 _ (whole20 m hO) _ fun y => ?_
  rw [after0_20]
  unfold outsAt0
  dsimp only
  frame_out
  rw [read0, read8, read9, read10]
  unfold k0_pay3 k0_pay1 k0_pay2 k0_pay8 k0_pay16 k0_pay5
  pointwise
  rfl

theorem result21 : (dats m hO 0 c).arrAt 21 (cfgM m hO).N = (mean (grad2 m c) (m ((c : Thread nD τ).loc main_arg9)) : Mat 1 1024) := by
  refine (dats m hO 0 c).arrAt_eq_of_after_last 21 _ (whole21 m hO) _ fun y => ?_
  rw [after0_21]
  unfold outsAt0
  dsimp only
  frame_out
  rw [read0, read9]
  unfold k0_pay1 k0_pay8 k0_pay16 k0_pay5
  pointwise
  rfl

theorem result22 : (dats m hO 0 c).arrAt 22 (cfgM m hO).N = (square (grad2 m c) (m ((c : Thread nD τ).loc main_arg10)) : Mat 1 1024) := by
  refine (dats m hO 0 c).arrAt_eq_of_after_last 22 _ (whole22 m hO) _ fun y => ?_
  rw [after0_22]
  unfold outsAt0
  dsimp only
  frame_out
  rw [read0, read10]
  unfold k0_pay2 k0_pay8 k0_pay5
  pointwise
  rfl

theorem result23 : (dats m hO 0 c).arrAt 23 (cfgM m hO).N = (loss m c : Mat 1 1) := by
  refine (dats m hO 0 c).arrAt_eq_of_after_last 23 _ (whole23 m hO) _ fun y => ?_
  rw [after0_23]
  unfold outsAt0
  dsimp only
  frame_out
  rw [read0]
  unfold k0_pay4 k0_pay5
  pointwise
  rfl

set_option maxHeartbeats 8000000 in
theorem algebraic : Cert.algebraic_AdamNormsIdeal_AdamNormsRefIdeal := fun m g m' g' h hm =>
  ⟨fun c => loss m c, fun c => grad0 m c, fun c => step (m ((c : Thread nD τ).loc main_arg2)) (mean (grad0 m c) (m ((c : Thread nD τ).loc main_arg3))) (square (grad0 m c) (m ((c : Thread nD τ).loc main_arg4))), fun c => mean (grad0 m c) (m ((c : Thread nD τ).loc main_arg3)), fun c => square (grad0 m c) (m ((c : Thread nD τ).loc main_arg4)), fun c => grad1 m c, fun c => step (m ((c : Thread nD τ).loc main_arg5)) (mean (grad1 m c) (m ((c : Thread nD τ).loc main_arg6))) (square (grad1 m c) (m ((c : Thread nD τ).loc main_arg7))), fun c => mean (grad1 m c) (m ((c : Thread nD τ).loc main_arg6)), fun c => square (grad1 m c) (m ((c : Thread nD τ).loc main_arg7)), fun c => grad2 m c, fun c => step (m ((c : Thread nD τ).loc main_arg8)) (mean (grad2 m c) (m ((c : Thread nD τ).loc main_arg9))) (square (grad2 m c) (m ((c : Thread nD τ).loc main_arg10))), fun c => mean (grad2 m c) (m ((c : Thread nD τ).loc main_arg9)), fun c => square (grad2 m c) (m ((c : Thread nD τ).loc main_arg10)), by
      refine (θ_run defs _ _).mono (fun r e c => ?_) (θ_run_and (run_main m g (ok m h)) (unchanged m g (ok m h)))
      exact ⟨(e.1.out_eq c 23).trans (result23), (e.1.out_eq c 11).trans (result11), (e.1.out_eq c 12).trans (result12), (e.1.out_eq c 13).trans (result13), (e.1.out_eq c 14).trans (result14), (e.1.out_eq c 15).trans (result15), (e.1.out_eq c 16).trans (result16), (e.1.out_eq c 17).trans (result17), (e.1.out_eq c 18).trans (result18), (e.1.out_eq c 19).trans (result19), (e.1.out_eq c 20).trans (result20), (e.1.out_eq c 21).trans (result21), (e.1.out_eq c 22).trans (result22), e.2 c⟩,
    (θ_run Cert.AdamNormsRefIdeal.defs _ _).mono (fun _ e c => ⟨(e c).1.trans (by rw [(hm c).1]; funext i; pointwise; rw [Fin.sum_univ_eight]; rfl),
        (e c).2.1.trans (by rw [(hm c).1]; funext i; pointwise; rw [Fin.sum_univ_eight]; rfl),
        (e c).2.2.1.trans (by rw [(hm c).1, (hm c).2.2.1, (hm c).2.2.2.1, (hm c).2.2.2.2.1]; funext i; pointwise; rw [Fin.sum_univ_eight]; rfl),
        (e c).2.2.2.1.trans (by rw [(hm c).1, (hm c).2.2.2.1]; funext i; pointwise; rw [Fin.sum_univ_eight]; rfl),
        (e c).2.2.2.2.1.trans (by rw [(hm c).1, (hm c).2.2.2.2.1]; funext i; pointwise; rw [Fin.sum_univ_eight]; rfl),
        (e c).2.2.2.2.2.1.trans (by rw [(hm c).1]; funext i; pointwise; rw [Fin.sum_univ_eight]; rfl),
        (e c).2.2.2.2.2.2.1.trans (by rw [(hm c).1, (hm c).2.2.2.2.2.1, (hm c).2.2.2.2.2.2.1, (hm c).2.2.2.2.2.2.2.1]; funext i; pointwise; rw [Fin.sum_univ_eight]; rfl),
        (e c).2.2.2.2.2.2.2.1.trans (by rw [(hm c).1, (hm c).2.2.2.2.2.2.1]; funext i; pointwise; rw [Fin.sum_univ_eight]; rfl),
        (e c).2.2.2.2.2.2.2.2.1.trans (by rw [(hm c).1, (hm c).2.2.2.2.2.2.2.1]; funext i; pointwise; rw [Fin.sum_univ_eight]; rfl),
        (e c).2.2.2.2.2.2.2.2.2.1.trans (by rw [(hm c).1]; funext i; pointwise; rw [Fin.sum_univ_eight]; rfl),
        (e c).2.2.2.2.2.2.2.2.2.2.1.trans (by rw [(hm c).1, (hm c).2.2.2.2.2.2.2.2.1, (hm c).2.2.2.2.2.2.2.2.2.1, (hm c).2.2.2.2.2.2.2.2.2.2]; funext i; pointwise; rw [Fin.sum_univ_eight]; rfl),
        (e c).2.2.2.2.2.2.2.2.2.2.2.1.trans (by rw [(hm c).1, (hm c).2.2.2.2.2.2.2.2.2.1]; funext i; pointwise; rw [Fin.sum_univ_eight]; rfl),
        (e c).2.2.2.2.2.2.2.2.2.2.2.2.1.trans (by rw [(hm c).1, (hm c).2.2.2.2.2.2.2.2.2.2]; funext i; pointwise; rw [Fin.sum_univ_eight]; rfl), (e c).2.2.2.2.2.2.2.2.2.2.2.2.2⟩)
      (Cert.AdamNormsRefIdeal.Value.run m' g')⟩

end Cert.AdamNormsIdeal

end
-- ==== Proof.AdamGatesStep.lean ====
/- The update of the linear attention's small weights. -/
module

public import proofs.«01_k».proof.Defs
public import proofs.«01_k».proof.Proof.Small
public import proofs.«01_k».proof.Proof.Gen.AdamGates.Frame
public import proofs.«01_k».proof.Proof.Gen.AdamGatesIdeal.Frame
public import proofs.«01_k».proof.Proof.Gen.AdamGatesRefIdeal.Run
public import proofs.«01_k».proof.Proof.Gen.Pre_gates_on_the_mesh

@[expose] public section

noncomputable section

open Idealize.ShloMosaic Idealize.ShloMosaic.TcCoe Idealize.SL.Sem

namespace Cert.AdamGates

open Cert.AdamGates.Gen

theorem chip_lt (m : (ℓ : Loc nD τ sig) → Buf (Elt Bits) ℓ) (h : Cert.Pre_AdamGates m) (x : S1.Idx) : (tbl m 0 x : BitVec 32).toNat < 8 :=
  Cert.Shard.lt_of_between 8 (by decide) _ (congrFun (h 0) x)

theorem ok (m : (ℓ : Loc nD τ sig) → Buf (Elt Bits) ℓ) (h : Cert.Pre_AdamGates m) : Ok (F := Bits) m := fun i => by
  refine ⟨fun a => ?_, .inl rfl⟩
  have hc := chip_lt m h
  match a with
  | ⟨0, _⟩ => show (0 + 1) * 8 ≤ 8; omega
  | ⟨1, _⟩ => exact Cert.Shard.inside _ (hc _)
  | ⟨2, _⟩ => show (0 + 1) * 1024 ≤ 1024; omega

end Cert.AdamGates

namespace Cert.AdamGatesIdeal

open Cert.AdamGatesIdeal.Gen Cert.Shard

theorem chip_lt (m : (ℓ : Loc nD τ sig) → Buf (Elt Ideal) ℓ) (h : Cert.Pre_AdamGatesIdeal m) (x : S1.Idx) : (tbl m 0 x : BitVec 32).toNat < 8 :=
  Cert.Shard.lt_of_between 8 (by decide) _ (congrFun (h 0) x)

theorem ok (m : (ℓ : Loc nD τ sig) → Buf (Elt Ideal) ℓ) (h : Cert.Pre_AdamGatesIdeal m) : Ok (F := Ideal) m := fun i => by
  refine ⟨fun a => ?_, .inl rfl⟩
  have hc := chip_lt m h
  match a with
  | ⟨0, _⟩ => show (0 + 1) * 8 ≤ 8; omega
  | ⟨1, _⟩ => exact Cert.Shard.inside _ (hc _)
  | ⟨2, _⟩ => show (0 + 1) * 1024 ≤ 1024; omega

/-- The chip the call runs on. -/
def chip (m : (ℓ : Loc nD τ sig) → Buf (Elt Ideal) ℓ) (h : Cert.Pre_AdamGatesIdeal m) : Fin 8 := ⟨_, chip_lt m h (ix1 (0 : Fin 1))⟩

variable {m : (ℓ : Loc nD τ sig) → Buf (Elt Ideal) ℓ} {hO : Ok m} {c : Dev nD}

/-- The one point of the grid. -/
abbrev point (m : (ℓ : Loc nD τ sig) → Buf (Elt Ideal) ℓ) (hO : Ok m) : Fin (cfgM m hO).N := ⟨0, by show 0 < grid0.N; decide⟩

theorem point_eq (t : Fin (cfgM m hO).N) : t = point m hO := Fin.ext (by
  have : t.val < grid0.N := t.isLt
  have h1 : grid0.N = 1 := by decide
  show t.val = 0
  omega)

theorem read0 : View.read (Elt Ideal) (ms0_0 m hO (point m hO)).view ((hs0_0 m hO (point m hO)).unread (iblk m hO c 0 (point m hO))) =
    (fun y : S8x8x1024.Idx => (m ((c : Thread nD τ).loc main_arg0) : Stack 8 72 1024) (ix3 (y 0) (Fin.castLE (by decide : 8 ≤ 72) (y 1)) (y 2)) : Stack 8 8 1024) :=
  ((hs0_0 m hO (point m hO)).read_unread _).trans (funext fun (y : S8x8x1024.Idx) => congrArg (m ((c : Thread nD τ).loc main_arg0)) (funext fun a => Fin.ext (by
    refine (Pipeline.Window.rect_emb_val ((cfgM m hO).win 0) (point m hO) y a rfl).trans ?_
    match a with
    | ⟨0, _⟩ => show 0 * 8 + (y 0).val = (y 0).val; omega
    | ⟨1, _⟩ => show 0 * 8 + (y 1).val = (y 1).val; omega
    | ⟨2, _⟩ => show 0 * 1024 + (y 2).val = (y 2).val; omega)))

theorem read2 : View.read (Elt Ideal) (ms0_2 m hO (point m hO)).view ((hs0_2 m hO (point m hO)).unread (iblk m hO c 2 (point m hO))) =
    (m ((c : Thread nD τ).loc main_arg2) : Mat 1 128) :=
  ((hs0_2 m hO (point m hO)).read_unread _).trans (funext fun y => congrArg (m ((c : Thread nD τ).loc main_arg2)) (funext fun a => Fin.ext (by
    refine Pipeline.Window.rect_emb_val_of_index_zero ((cfgM m hO).win 2) (point m hO) a ?_ y
    match a with
    | ⟨0, _⟩ => rfl
    | ⟨1, _⟩ => rfl)))

theorem read3 : View.read (Elt Ideal) (ms0_3 m hO (point m hO)).view ((hs0_3 m hO (point m hO)).unread (iblk m hO c 3 (point m hO))) =
    (m ((c : Thread nD τ).loc main_arg3) : Mat 1 128) :=
  ((hs0_3 m hO (point m hO)).read_unread _).trans (funext fun y => congrArg (m ((c : Thread nD τ).loc main_arg3)) (funext fun a => Fin.ext (by
    refine Pipeline.Window.rect_emb_val_of_index_zero ((cfgM m hO).win 3) (point m hO) a ?_ y
    match a with
    | ⟨0, _⟩ => rfl
    | ⟨1, _⟩ => rfl)))

theorem read4 : View.read (Elt Ideal) (ms0_4 m hO (point m hO)).view ((hs0_4 m hO (point m hO)).unread (iblk m hO c 4 (point m hO))) =
    (m ((c : Thread nD τ).loc main_arg4) : Mat 1 128) :=
  ((hs0_4 m hO (point m hO)).read_unread _).trans (funext fun y => congrArg (m ((c : Thread nD τ).loc main_arg4)) (funext fun a => Fin.ext (by
    refine Pipeline.Window.rect_emb_val_of_index_zero ((cfgM m hO).win 4) (point m hO) a ?_ y
    match a with
    | ⟨0, _⟩ => rfl
    | ⟨1, _⟩ => rfl)))

theorem read5 : View.read (Elt Ideal) (ms0_5 m hO (point m hO)).view ((hs0_5 m hO (point m hO)).unread (iblk m hO c 5 (point m hO))) =
    (m ((c : Thread nD τ).loc main_arg5) : Mat 1 8) :=
  ((hs0_5 m hO (point m hO)).read_unread _).trans (funext fun y => congrArg (m ((c : Thread nD τ).loc main_arg5)) (funext fun a => Fin.ext (by
    refine Pipeline.Window.rect_emb_val_of_index_zero ((cfgM m hO).win 5) (point m hO) a ?_ y
    match a with
    | ⟨0, _⟩ => rfl
    | ⟨1, _⟩ => rfl)))

theorem read6 : View.read (Elt Ideal) (ms0_6 m hO (point m hO)).view ((hs0_6 m hO (point m hO)).unread (iblk m hO c 6 (point m hO))) =
    (m ((c : Thread nD τ).loc main_arg6) : Mat 1 8) :=
  ((hs0_6 m hO (point m hO)).read_unread _).trans (funext fun y => congrArg (m ((c : Thread nD τ).loc main_arg6)) (funext fun a => Fin.ext (by
    refine Pipeline.Window.rect_emb_val_of_index_zero ((cfgM m hO).win 6) (point m hO) a ?_ y
    match a with
    | ⟨0, _⟩ => rfl
    | ⟨1, _⟩ => rfl)))

theorem read7 : View.read (Elt Ideal) (ms0_7 m hO (point m hO)).view ((hs0_7 m hO (point m hO)).unread (iblk m hO c 7 (point m hO))) =
    (m ((c : Thread nD τ).loc main_arg7) : Mat 1 8) :=
  ((hs0_7 m hO (point m hO)).read_unread _).trans (funext fun y => congrArg (m ((c : Thread nD τ).loc main_arg7)) (funext fun a => Fin.ext (by
    refine Pipeline.Window.rect_emb_val_of_index_zero ((cfgM m hO).win 7) (point m hO) a ?_ y
    match a with
    | ⟨0, _⟩ => rfl
    | ⟨1, _⟩ => rfl)))

theorem read8 : View.read (Elt Ideal) (ms0_8 m hO (point m hO)).view ((hs0_8 m hO (point m hO)).unread (iblk m hO c 8 (point m hO))) =
    (m ((c : Thread nD τ).loc main_arg8) : Mat 1 8) :=
  ((hs0_8 m hO (point m hO)).read_unread _).trans (funext fun y => congrArg (m ((c : Thread nD τ).loc main_arg8)) (funext fun a => Fin.ext (by
    refine Pipeline.Window.rect_emb_val_of_index_zero ((cfgM m hO).win 8) (point m hO) a ?_ y
    match a with
    | ⟨0, _⟩ => rfl
    | ⟨1, _⟩ => rfl)))

theorem read9 : View.read (Elt Ideal) (ms0_9 m hO (point m hO)).view ((hs0_9 m hO (point m hO)).unread (iblk m hO c 9 (point m hO))) =
    (m ((c : Thread nD τ).loc main_arg9) : Mat 1 8) :=
  ((hs0_9 m hO (point m hO)).read_unread _).trans (funext fun y => congrArg (m ((c : Thread nD τ).loc main_arg9)) (funext fun a => Fin.ext (by
    refine Pipeline.Window.rect_emb_val_of_index_zero ((cfgM m hO).win 9) (point m hO) a ?_ y
    match a with
    | ⟨0, _⟩ => rfl
    | ⟨1, _⟩ => rfl)))

theorem read10 : View.read (Elt Ideal) (ms0_10 m hO (point m hO)).view ((hs0_10 m hO (point m hO)).unread (iblk m hO c 10 (point m hO))) =
    (m ((c : Thread nD τ).loc main_arg10) : Mat 1 8) :=
  ((hs0_10 m hO (point m hO)).read_unread _).trans (funext fun y => congrArg (m ((c : Thread nD τ).loc main_arg10)) (funext fun a => Fin.ext (by
    refine Pipeline.Window.rect_emb_val_of_index_zero ((cfgM m hO).win 10) (point m hO) a ?_ y
    match a with
    | ⟨0, _⟩ => rfl
    | ⟨1, _⟩ => rfl)))

theorem whole11 (m : (ℓ : Loc nD τ sig) → Buf (Elt Ideal) ℓ) (hO : Ok m) : ((cfgM m hO).win 11).WholeAt (point m hO) := by
  refine ⟨rfl, fun t _ => point_eq t, fun a => ?_⟩
  match a with
  | ⟨0, _⟩ => exact ⟨rfl, rfl⟩
  | ⟨1, _⟩ => exact ⟨rfl, rfl⟩

theorem whole12 (m : (ℓ : Loc nD τ sig) → Buf (Elt Ideal) ℓ) (hO : Ok m) : ((cfgM m hO).win 12).WholeAt (point m hO) := by
  refine ⟨rfl, fun t _ => point_eq t, fun a => ?_⟩
  match a with
  | ⟨0, _⟩ => exact ⟨rfl, rfl⟩
  | ⟨1, _⟩ => exact ⟨rfl, rfl⟩

theorem whole13 (m : (ℓ : Loc nD τ sig) → Buf (Elt Ideal) ℓ) (hO : Ok m) : ((cfgM m hO).win 13).WholeAt (point m hO) := by
  refine ⟨rfl, fun t _ => point_eq t, fun a => ?_⟩
  match a with
  | ⟨0, _⟩ => exact ⟨rfl, rfl⟩
  | ⟨1, _⟩ => exact ⟨rfl, rfl⟩

theorem whole14 (m : (ℓ : Loc nD τ sig) → Buf (Elt Ideal) ℓ) (hO : Ok m) : ((cfgM m hO).win 14).WholeAt (point m hO) := by
  refine ⟨rfl, fun t _ => point_eq t, fun a => ?_⟩
  match a with
  | ⟨0, _⟩ => exact ⟨rfl, rfl⟩
  | ⟨1, _⟩ => exact ⟨rfl, rfl⟩

theorem whole15 (m : (ℓ : Loc nD τ sig) → Buf (Elt Ideal) ℓ) (hO : Ok m) : ((cfgM m hO).win 15).WholeAt (point m hO) := by
  refine ⟨rfl, fun t _ => point_eq t, fun a => ?_⟩
  match a with
  | ⟨0, _⟩ => exact ⟨rfl, rfl⟩
  | ⟨1, _⟩ => exact ⟨rfl, rfl⟩

theorem whole16 (m : (ℓ : Loc nD τ sig) → Buf (Elt Ideal) ℓ) (hO : Ok m) : ((cfgM m hO).win 16).WholeAt (point m hO) := by
  refine ⟨rfl, fun t _ => point_eq t, fun a => ?_⟩
  match a with
  | ⟨0, _⟩ => exact ⟨rfl, rfl⟩
  | ⟨1, _⟩ => exact ⟨rfl, rfl⟩

theorem whole17 (m : (ℓ : Loc nD τ sig) → Buf (Elt Ideal) ℓ) (hO : Ok m) : ((cfgM m hO).win 17).WholeAt (point m hO) := by
  refine ⟨rfl, fun t _ => point_eq t, fun a => ?_⟩
  match a with
  | ⟨0, _⟩ => exact ⟨rfl, rfl⟩
  | ⟨1, _⟩ => exact ⟨rfl, rfl⟩

theorem whole18 (m : (ℓ : Loc nD τ sig) → Buf (Elt Ideal) ℓ) (hO : Ok m) : ((cfgM m hO).win 18).WholeAt (point m hO) := by
  refine ⟨rfl, fun t _ => point_eq t, fun a => ?_⟩
  match a with
  | ⟨0, _⟩ => exact ⟨rfl, rfl⟩
  | ⟨1, _⟩ => exact ⟨rfl, rfl⟩

theorem whole19 (m : (ℓ : Loc nD τ sig) → Buf (Elt Ideal) ℓ) (hO : Ok m) : ((cfgM m hO).win 19).WholeAt (point m hO) := by
  refine ⟨rfl, fun t _ => point_eq t, fun a => ?_⟩
  match a with
  | ⟨0, _⟩ => exact ⟨rfl, rfl⟩
  | ⟨1, _⟩ => exact ⟨rfl, rfl⟩

theorem whole20 (m : (ℓ : Loc nD τ sig) → Buf (Elt Ideal) ℓ) (hO : Ok m) : ((cfgM m hO).win 20).WholeAt (point m hO) := by
  refine ⟨rfl, fun t _ => point_eq t, fun a => ?_⟩
  match a with
  | ⟨0, _⟩ => exact ⟨rfl, rfl⟩
  | ⟨1, _⟩ => exact ⟨rfl, rfl⟩

theorem whole21 (m : (ℓ : Loc nD τ sig) → Buf (Elt Ideal) ℓ) (hO : Ok m) : ((cfgM m hO).win 21).WholeAt (point m hO) := by
  refine ⟨rfl, fun t _ => point_eq t, fun a => ?_⟩
  match a with
  | ⟨0, _⟩ => exact ⟨rfl, rfl⟩
  | ⟨1, _⟩ => exact ⟨rfl, rfl⟩

theorem whole22 (m : (ℓ : Loc nD τ sig) → Buf (Elt Ideal) ℓ) (hO : Ok m) : ((cfgM m hO).win 22).WholeAt (point m hO) := by
  refine ⟨rfl, fun t _ => point_eq t, fun a => ?_⟩
  match a with
  | ⟨0, _⟩ => exact ⟨rfl, rfl⟩
  | ⟨1, _⟩ => exact ⟨rfl, rfl⟩

theorem whole23 (m : (ℓ : Loc nD τ sig) → Buf (Elt Ideal) ℓ) (hO : Ok m) : ((cfgM m hO).win 23).WholeAt (point m hO) := by
  refine ⟨rfl, fun t _ => point_eq t, fun a => ?_⟩
  match a with
  | ⟨0, _⟩ => exact ⟨rfl, rfl⟩
  | ⟨1, _⟩ => exact ⟨rfl, rfl⟩

/-- The gradient of the call's first weight. -/
abbrev grad0 (m : (ℓ : Loc nD τ sig) → Buf (Elt Ideal) ℓ) (c : Dev nD) : Mat 1 128 := line (m ((c : Thread nD τ).loc main_arg0)) 3 (Fin.castLE (by decide : 128 ≤ 1024))

/-- The gradient of the call's second weight. -/
abbrev grad1 (m : (ℓ : Loc nD τ sig) → Buf (Elt Ideal) ℓ) (c : Dev nD) : Mat 1 8 := line (m ((c : Thread nD τ).loc main_arg0)) 3 (lanes 128 8 (by decide))

/-- The gradient of the call's third weight. -/
abbrev grad2 (m : (ℓ : Loc nD τ sig) → Buf (Elt Ideal) ℓ) (c : Dev nD) : Mat 1 8 := line (m ((c : Thread nD τ).loc main_arg0)) 3 (lanes 256 8 (by decide))

/-- The loss. -/
abbrev loss (m : (ℓ : Loc nD τ sig) → Buf (Elt Ideal) ℓ) (c : Dev nD) : Mat 1 1 := fun _ => total (m ((c : Thread nD τ).loc main_arg0)) 3 384

theorem result11 : (dats m hO 0 c).arrAt 11 (cfgM m hO).N = (grad0 m c : Mat 1 128) := by
  refine (dats m hO 0 c).arrAt_eq_of_after_last 11 _ (whole11 m hO) _ fun y => ?_
  rw [after0_11]
  unfold outsAt0
  dsimp only
  frame_out
  rw [read0]
  unfold k0_pay6 k0_pay5
  pointwise
  rfl

theorem result12 : (dats m hO 0 c).arrAt 12 (cfgM m hO).N = (step (m ((c : Thread nD τ).loc main_arg2)) (mean (grad0 m c) (m ((c : Thread nD τ).loc main_arg3))) (square (grad0 m c) (m ((c : Thread nD τ).loc main_arg4))) : Mat 1 128) := by
  refine (dats m hO 0 c).arrAt_eq_of_after_last 12 _ (whole12 m hO) _ fun y => ?_
  rw [after0_12]
  unfold outsAt0
  dsimp only
  frame_out
  rw [read0, read2, read3, read4]
  unfold k0_pay11 k0_pay9 k0_pay10 k0_pay6 k0_pay5
  pointwise
  rfl

theorem result13 : (dats m hO 0 c).arrAt 13 (cfgM m hO).N = (mean (grad0 m c) (m ((c : Thread nD τ).loc main_arg3)) : Mat 1 128) := by
  refine (dats m hO 0 c).arrAt_eq_of_after_last 13 _ (whole13 m hO) _ fun y => ?_
  rw [after0_13]
  unfold outsAt0
  dsimp only
  frame_out
  rw [read0, read3]
  unfold k0_pay9 k0_pay6 k0_pay5
  pointwise
  rfl

theorem result14 : (dats m hO 0 c).arrAt 14 (cfgM m hO).N = (square (grad0 m c) (m ((c : Thread nD τ).loc main_arg4)) : Mat 1 128) := by
  refine (dats m hO 0 c).arrAt_eq_of_after_last 14 _ (whole14 m hO) _ fun y => ?_
  rw [after0_14]
  unfold outsAt0
  dsimp only
  frame_out
  rw [read0, read4]
  unfold k0_pay10 k0_pay6 k0_pay5
  pointwise
  rfl

theorem result15 : (dats m hO 0 c).arrAt 15 (cfgM m hO).N = (grad1 m c : Mat 1 8) := by
  refine (dats m hO 0 c).arrAt_eq_of_after_last 15 _ (whole15 m hO) _ fun y => ?_
  rw [after0_15]
  unfold outsAt0
  dsimp only
  frame_out
  rw [read0]
  unfold k0_pay7 k0_pay5
  pointwise
  rfl

theorem result16 : (dats m hO 0 c).arrAt 16 (cfgM m hO).N = (step (m ((c : Thread nD τ).loc main_arg5)) (mean (grad1 m c) (m ((c : Thread nD τ).loc main_arg6))) (square (grad1 m c) (m ((c : Thread nD τ).loc main_arg7))) : Mat 1 8) := by
  refine (dats m hO 0 c).arrAt_eq_of_after_last 16 _ (whole16 m hO) _ fun y => ?_
  rw [after0_16]
  unfold outsAt0
  dsimp only
  frame_out
  rw [read0, read5, read6, read7]
  unfold k0_pay15 k0_pay13 k0_pay14 k0_pay7 k0_pay12 k0_pay5
  pointwise
  rfl

theorem result17 : (dats m hO 0 c).arrAt 17 (cfgM m hO).N = (mean (grad1 m c) (m ((c : Thread nD τ).loc main_arg6)) : Mat 1 8) := by
  refine (dats m hO 0 c).arrAt_eq_of_after_last 17 _ (whole17 m hO) _ fun y => ?_
  rw [after0_17]
  unfold outsAt0
  dsimp only
  frame_out
  rw [read0, read6]
  unfold k0_pay13 k0_pay7 k0_pay12 k0_pay5
  pointwise
  rfl

theorem result18 : (dats m hO 0 c).arrAt 18 (cfgM m hO).N = (square (grad1 m c) (m ((c : Thread nD τ).loc main_arg7)) : Mat 1 8) := by
  refine (dats m hO 0 c).arrAt_eq_of_after_last 18 _ (whole18 m hO) _ fun y => ?_
  rw [after0_18]
  unfold outsAt0
  dsimp only
  frame_out
  rw [read0, read7]
  unfold k0_pay14 k0_pay7 k0_pay5
  pointwise
  rfl

theorem result19 : (dats m hO 0 c).arrAt 19 (cfgM m hO).N = (grad2 m c : Mat 1 8) := by
  refine (dats m hO 0 c).arrAt_eq_of_after_last 19 _ (whole19 m hO) _ fun y => ?_
  rw [after0_19]
  unfold outsAt0
  dsimp only
  frame_out
  rw [read0]
  unfold k0_pay8 k0_pay5
  pointwise
  rfl

theorem result20 : (dats m hO 0 c).arrAt 20 (cfgM m hO).N = (step (m ((c : Thread nD τ).loc main_arg8)) (mean (grad2 m c) (m ((c : Thread nD τ).loc main_arg9))) (square (grad2 m c) (m ((c : Thread nD τ).loc main_arg10))) : Mat 1 8) := by
  refine (dats m hO 0 c).arrAt_eq_of_after_last 20 _ (whole20 m hO) _ fun y => ?_
  rw [after0_20]
  unfold outsAt0
  dsimp only
  frame_out
  rw [read0, read8, read9, read10]
  unfold k0_pay3 k0_pay1 k0_pay2 k0_pay8 k0_pay16 k0_pay5
  pointwise
  rfl

theorem result21 : (dats m hO 0 c).arrAt 21 (cfgM m hO).N = (mean (grad2 m c) (m ((c : Thread nD τ).loc main_arg9)) : Mat 1 8) := by
  refine (dats m hO 0 c).arrAt_eq_of_after_last 21 _ (whole21 m hO) _ fun y => ?_
  rw [after0_21]
  unfold outsAt0
  dsimp only
  frame_out
  rw [read0, read9]
  unfold k0_pay1 k0_pay8 k0_pay16 k0_pay5
  pointwise
  rfl

theorem result22 : (dats m hO 0 c).arrAt 22 (cfgM m hO).N = (square (grad2 m c) (m ((c : Thread nD τ).loc main_arg10)) : Mat 1 8) := by
  refine (dats m hO 0 c).arrAt_eq_of_after_last 22 _ (whole22 m hO) _ fun y => ?_
  rw [after0_22]
  unfold outsAt0
  dsimp only
  frame_out
  rw [read0, read10]
  unfold k0_pay2 k0_pay8 k0_pay5
  pointwise
  rfl

theorem result23 : (dats m hO 0 c).arrAt 23 (cfgM m hO).N = (loss m c : Mat 1 1) := by
  refine (dats m hO 0 c).arrAt_eq_of_after_last 23 _ (whole23 m hO) _ fun y => ?_
  rw [after0_23]
  unfold outsAt0
  dsimp only
  frame_out
  rw [read0]
  unfold k0_pay4 k0_pay5
  pointwise
  rfl

set_option maxHeartbeats 8000000 in
theorem algebraic : Cert.algebraic_AdamGatesIdeal_AdamGatesRefIdeal := fun m g m' g' h hm =>
  ⟨fun c => loss m c, fun c => grad0 m c, fun c => step (m ((c : Thread nD τ).loc main_arg2)) (mean (grad0 m c) (m ((c : Thread nD τ).loc main_arg3))) (square (grad0 m c) (m ((c : Thread nD τ).loc main_arg4))), fun c => mean (grad0 m c) (m ((c : Thread nD τ).loc main_arg3)), fun c => square (grad0 m c) (m ((c : Thread nD τ).loc main_arg4)), fun c => grad1 m c, fun c => step (m ((c : Thread nD τ).loc main_arg5)) (mean (grad1 m c) (m ((c : Thread nD τ).loc main_arg6))) (square (grad1 m c) (m ((c : Thread nD τ).loc main_arg7))), fun c => mean (grad1 m c) (m ((c : Thread nD τ).loc main_arg6)), fun c => square (grad1 m c) (m ((c : Thread nD τ).loc main_arg7)), fun c => grad2 m c, fun c => step (m ((c : Thread nD τ).loc main_arg8)) (mean (grad2 m c) (m ((c : Thread nD τ).loc main_arg9))) (square (grad2 m c) (m ((c : Thread nD τ).loc main_arg10))), fun c => mean (grad2 m c) (m ((c : Thread nD τ).loc main_arg9)), fun c => square (grad2 m c) (m ((c : Thread nD τ).loc main_arg10)), by
      refine (θ_run defs _ _).mono (fun r e c => ?_) (θ_run_and (run_main m g (ok m h)) (unchanged m g (ok m h)))
      exact ⟨(e.1.out_eq c 23).trans (result23), (e.1.out_eq c 11).trans (result11), (e.1.out_eq c 12).trans (result12), (e.1.out_eq c 13).trans (result13), (e.1.out_eq c 14).trans (result14), (e.1.out_eq c 15).trans (result15), (e.1.out_eq c 16).trans (result16), (e.1.out_eq c 17).trans (result17), (e.1.out_eq c 18).trans (result18), (e.1.out_eq c 19).trans (result19), (e.1.out_eq c 20).trans (result20), (e.1.out_eq c 21).trans (result21), (e.1.out_eq c 22).trans (result22), e.2 c⟩,
    (θ_run Cert.AdamGatesRefIdeal.defs _ _).mono (fun _ e c => ⟨(e c).1.trans (by rw [(hm c).1]; funext i; pointwise; rw [Fin.sum_univ_eight]; rfl),
        (e c).2.1.trans (by rw [(hm c).1]; funext i; pointwise; rw [Fin.sum_univ_eight]; rfl),
        (e c).2.2.1.trans (by rw [(hm c).1, (hm c).2.2.1, (hm c).2.2.2.1, (hm c).2.2.2.2.1]; funext i; pointwise; rw [Fin.sum_univ_eight]; rfl),
        (e c).2.2.2.1.trans (by rw [(hm c).1, (hm c).2.2.2.1]; funext i; pointwise; rw [Fin.sum_univ_eight]; rfl),
        (e c).2.2.2.2.1.trans (by rw [(hm c).1, (hm c).2.2.2.2.1]; funext i; pointwise; rw [Fin.sum_univ_eight]; rfl),
        (e c).2.2.2.2.2.1.trans (by rw [(hm c).1]; funext i; pointwise; rw [Fin.sum_univ_eight]; rfl),
        (e c).2.2.2.2.2.2.1.trans (by rw [(hm c).1, (hm c).2.2.2.2.2.1, (hm c).2.2.2.2.2.2.1, (hm c).2.2.2.2.2.2.2.1]; funext i; pointwise; rw [Fin.sum_univ_eight]; rfl),
        (e c).2.2.2.2.2.2.2.1.trans (by rw [(hm c).1, (hm c).2.2.2.2.2.2.1]; funext i; pointwise; rw [Fin.sum_univ_eight]; rfl),
        (e c).2.2.2.2.2.2.2.2.1.trans (by rw [(hm c).1, (hm c).2.2.2.2.2.2.2.1]; funext i; pointwise; rw [Fin.sum_univ_eight]; rfl),
        (e c).2.2.2.2.2.2.2.2.2.1.trans (by rw [(hm c).1]; funext i; pointwise; rw [Fin.sum_univ_eight]; rfl),
        (e c).2.2.2.2.2.2.2.2.2.2.1.trans (by rw [(hm c).1, (hm c).2.2.2.2.2.2.2.2.1, (hm c).2.2.2.2.2.2.2.2.2.1, (hm c).2.2.2.2.2.2.2.2.2.2]; funext i; pointwise; rw [Fin.sum_univ_eight]; rfl),
        (e c).2.2.2.2.2.2.2.2.2.2.2.1.trans (by rw [(hm c).1, (hm c).2.2.2.2.2.2.2.2.2.1]; funext i; pointwise; rw [Fin.sum_univ_eight]; rfl),
        (e c).2.2.2.2.2.2.2.2.2.2.2.2.1.trans (by rw [(hm c).1, (hm c).2.2.2.2.2.2.2.2.2.2]; funext i; pointwise; rw [Fin.sum_univ_eight]; rfl), (e c).2.2.2.2.2.2.2.2.2.2.2.2.2⟩)
      (Cert.AdamGatesRefIdeal.Value.run m' g')⟩

end Cert.AdamGatesIdeal

end
-- ==== Proof.AdamConvsStep.lean ====
/- The update of the convolutions' weights. -/
module

public import proofs.«01_k».proof.Defs
public import proofs.«01_k».proof.Proof.Small
public import proofs.«01_k».proof.Proof.Gen.AdamConvs.Frame
public import proofs.«01_k».proof.Proof.Gen.AdamConvsIdeal.Frame
public import proofs.«01_k».proof.Proof.Gen.AdamConvsRefIdeal.Run
public import proofs.«01_k».proof.Proof.Gen.Pre_convs_on_the_mesh

@[expose] public section

noncomputable section

open Idealize.ShloMosaic Idealize.ShloMosaic.TcCoe Idealize.SL.Sem

namespace Cert.AdamConvs

open Cert.AdamConvs.Gen

theorem chip_lt (m : (ℓ : Loc nD τ sig) → Buf (Elt Bits) ℓ) (h : Cert.Pre_AdamConvs m) (x : S1.Idx) : (tbl m 0 x : BitVec 32).toNat < 8 :=
  Cert.Shard.lt_of_between 8 (by decide) _ (congrFun (h 0) x)

theorem ok (m : (ℓ : Loc nD τ sig) → Buf (Elt Bits) ℓ) (h : Cert.Pre_AdamConvs m) : Ok (F := Bits) m := fun i => by
  refine ⟨fun a => ?_, .inl rfl⟩
  have hc := chip_lt m h
  match a with
  | ⟨0, _⟩ => show (0 + 1) * 8 ≤ 8; omega
  | ⟨1, _⟩ => exact Cert.Shard.inside _ (hc _)
  | ⟨2, _⟩ => show (0 + 1) * 1024 ≤ 1024; omega

end Cert.AdamConvs

namespace Cert.AdamConvsIdeal

open Cert.AdamConvsIdeal.Gen Cert.Shard

theorem chip_lt (m : (ℓ : Loc nD τ sig) → Buf (Elt Ideal) ℓ) (h : Cert.Pre_AdamConvsIdeal m) (x : S1.Idx) : (tbl m 0 x : BitVec 32).toNat < 8 :=
  Cert.Shard.lt_of_between 8 (by decide) _ (congrFun (h 0) x)

theorem ok (m : (ℓ : Loc nD τ sig) → Buf (Elt Ideal) ℓ) (h : Cert.Pre_AdamConvsIdeal m) : Ok (F := Ideal) m := fun i => by
  refine ⟨fun a => ?_, .inl rfl⟩
  have hc := chip_lt m h
  match a with
  | ⟨0, _⟩ => show (0 + 1) * 8 ≤ 8; omega
  | ⟨1, _⟩ => exact Cert.Shard.inside _ (hc _)
  | ⟨2, _⟩ => show (0 + 1) * 1024 ≤ 1024; omega

/-- The chip the call runs on. -/
def chip (m : (ℓ : Loc nD τ sig) → Buf (Elt Ideal) ℓ) (h : Cert.Pre_AdamConvsIdeal m) : Fin 8 := ⟨_, chip_lt m h (ix1 (0 : Fin 1))⟩

variable {m : (ℓ : Loc nD τ sig) → Buf (Elt Ideal) ℓ} {hO : Ok m} {c : Dev nD}

/-- The one point of the grid. -/
abbrev point (m : (ℓ : Loc nD τ sig) → Buf (Elt Ideal) ℓ) (hO : Ok m) : Fin (cfgM m hO).N := ⟨0, by show 0 < grid0.N; decide⟩

theorem point_eq (t : Fin (cfgM m hO).N) : t = point m hO := Fin.ext (by
  have : t.val < grid0.N := t.isLt
  have h1 : grid0.N = 1 := by decide
  show t.val = 0
  omega)

theorem read0 : View.read (Elt Ideal) (ms0_0 m hO (point m hO)).view ((hs0_0 m hO (point m hO)).unread (iblk m hO c 0 (point m hO))) =
    (fun y : S8x8x1024.Idx => (m ((c : Thread nD τ).loc main_arg0) : Stack 8 72 1024) (ix3 (y 0) (Fin.castLE (by decide : 8 ≤ 72) (y 1)) (y 2)) : Stack 8 8 1024) :=
  ((hs0_0 m hO (point m hO)).read_unread _).trans (funext fun (y : S8x8x1024.Idx) => congrArg (m ((c : Thread nD τ).loc main_arg0)) (funext fun a => Fin.ext (by
    refine (Pipeline.Window.rect_emb_val ((cfgM m hO).win 0) (point m hO) y a rfl).trans ?_
    match a with
    | ⟨0, _⟩ => show 0 * 8 + (y 0).val = (y 0).val; omega
    | ⟨1, _⟩ => show 0 * 8 + (y 1).val = (y 1).val; omega
    | ⟨2, _⟩ => show 0 * 1024 + (y 2).val = (y 2).val; omega)))

theorem read1 (h : Cert.Pre_AdamConvsIdeal m) : View.read (Elt Ideal) (ms0_1 m hO (point m hO)).view ((hs0_1 m hO (point m hO)).unread (iblk m hO c 1 (point m hO))) =
    (fun y : S8x8x1024.Idx => (m ((c : Thread nD τ).loc main_arg0) : Stack 8 72 1024) (ix3 (y 0) (row (chip m h) (y 1)) (y 2)) : Stack 8 8 1024) :=
  ((hs0_1 m hO (point m hO)).read_unread _).trans (funext fun (y : S8x8x1024.Idx) => congrArg (m ((c : Thread nD τ).loc main_arg0)) (funext fun a => Fin.ext (by
    refine (Pipeline.Window.rect_emb_val ((cfgM m hO).win 1) (point m hO) y a rfl).trans ?_
    match a with
    | ⟨0, _⟩ => show 0 * 8 + (y 0).val = (y 0).val; omega
    | ⟨1, _⟩ => exact place _ (chip m h) (y 1).val (congrArg (fun z => (tbl m 0 z : BitVec 32).toNat) (one _ _))
    | ⟨2, _⟩ => show 0 * 1024 + (y 2).val = (y 2).val; omega)))

theorem read2 : View.read (Elt Ideal) (ms0_2 m hO (point m hO)).view ((hs0_2 m hO (point m hO)).unread (iblk m hO c 2 (point m hO))) =
    (m ((c : Thread nD τ).loc main_arg2) : Stack 1 3 128) :=
  ((hs0_2 m hO (point m hO)).read_unread _).trans (funext fun y => congrArg (m ((c : Thread nD τ).loc main_arg2)) (funext fun a => Fin.ext (by
    refine Pipeline.Window.rect_emb_val_of_index_zero ((cfgM m hO).win 2) (point m hO) a ?_ y
    match a with
    | ⟨0, _⟩ => rfl
    | ⟨1, _⟩ => rfl
    | ⟨2, _⟩ => rfl)))

theorem read3 : View.read (Elt Ideal) (ms0_3 m hO (point m hO)).view ((hs0_3 m hO (point m hO)).unread (iblk m hO c 3 (point m hO))) =
    (m ((c : Thread nD τ).loc main_arg3) : Stack 1 3 128) :=
  ((hs0_3 m hO (point m hO)).read_unread _).trans (funext fun y => congrArg (m ((c : Thread nD τ).loc main_arg3)) (funext fun a => Fin.ext (by
    refine Pipeline.Window.rect_emb_val_of_index_zero ((cfgM m hO).win 3) (point m hO) a ?_ y
    match a with
    | ⟨0, _⟩ => rfl
    | ⟨1, _⟩ => rfl
    | ⟨2, _⟩ => rfl)))

theorem read4 : View.read (Elt Ideal) (ms0_4 m hO (point m hO)).view ((hs0_4 m hO (point m hO)).unread (iblk m hO c 4 (point m hO))) =
    (m ((c : Thread nD τ).loc main_arg4) : Stack 1 3 128) :=
  ((hs0_4 m hO (point m hO)).read_unread _).trans (funext fun y => congrArg (m ((c : Thread nD τ).loc main_arg4)) (funext fun a => Fin.ext (by
    refine Pipeline.Window.rect_emb_val_of_index_zero ((cfgM m hO).win 4) (point m hO) a ?_ y
    match a with
    | ⟨0, _⟩ => rfl
    | ⟨1, _⟩ => rfl
    | ⟨2, _⟩ => rfl)))

theorem read5 : View.read (Elt Ideal) (ms0_5 m hO (point m hO)).view ((hs0_5 m hO (point m hO)).unread (iblk m hO c 5 (point m hO))) =
    (m ((c : Thread nD τ).loc main_arg5) : Stack 1 4 384) :=
  ((hs0_5 m hO (point m hO)).read_unread _).trans (funext fun y => congrArg (m ((c : Thread nD τ).loc main_arg5)) (funext fun a => Fin.ext (by
    refine Pipeline.Window.rect_emb_val_of_index_zero ((cfgM m hO).win 5) (point m hO) a ?_ y
    match a with
    | ⟨0, _⟩ => rfl
    | ⟨1, _⟩ => rfl
    | ⟨2, _⟩ => rfl)))

theorem read6 : View.read (Elt Ideal) (ms0_6 m hO (point m hO)).view ((hs0_6 m hO (point m hO)).unread (iblk m hO c 6 (point m hO))) =
    (m ((c : Thread nD τ).loc main_arg6) : Stack 1 4 384) :=
  ((hs0_6 m hO (point m hO)).read_unread _).trans (funext fun y => congrArg (m ((c : Thread nD τ).loc main_arg6)) (funext fun a => Fin.ext (by
    refine Pipeline.Window.rect_emb_val_of_index_zero ((cfgM m hO).win 6) (point m hO) a ?_ y
    match a with
    | ⟨0, _⟩ => rfl
    | ⟨1, _⟩ => rfl
    | ⟨2, _⟩ => rfl)))

theorem read7 : View.read (Elt Ideal) (ms0_7 m hO (point m hO)).view ((hs0_7 m hO (point m hO)).unread (iblk m hO c 7 (point m hO))) =
    (m ((c : Thread nD τ).loc main_arg7) : Stack 1 4 384) :=
  ((hs0_7 m hO (point m hO)).read_unread _).trans (funext fun y => congrArg (m ((c : Thread nD τ).loc main_arg7)) (funext fun a => Fin.ext (by
    refine Pipeline.Window.rect_emb_val_of_index_zero ((cfgM m hO).win 7) (point m hO) a ?_ y
    match a with
    | ⟨0, _⟩ => rfl
    | ⟨1, _⟩ => rfl
    | ⟨2, _⟩ => rfl)))

theorem read8 : View.read (Elt Ideal) (ms0_8 m hO (point m hO)).view ((hs0_8 m hO (point m hO)).unread (iblk m hO c 8 (point m hO))) =
    (m ((c : Thread nD τ).loc main_arg8) : Stack 1 3 704) :=
  ((hs0_8 m hO (point m hO)).read_unread _).trans (funext fun y => congrArg (m ((c : Thread nD τ).loc main_arg8)) (funext fun a => Fin.ext (by
    refine Pipeline.Window.rect_emb_val_of_index_zero ((cfgM m hO).win 8) (point m hO) a ?_ y
    match a with
    | ⟨0, _⟩ => rfl
    | ⟨1, _⟩ => rfl
    | ⟨2, _⟩ => rfl)))

theorem read9 : View.read (Elt Ideal) (ms0_9 m hO (point m hO)).view ((hs0_9 m hO (point m hO)).unread (iblk m hO c 9 (point m hO))) =
    (m ((c : Thread nD τ).loc main_arg9) : Stack 1 3 704) :=
  ((hs0_9 m hO (point m hO)).read_unread _).trans (funext fun y => congrArg (m ((c : Thread nD τ).loc main_arg9)) (funext fun a => Fin.ext (by
    refine Pipeline.Window.rect_emb_val_of_index_zero ((cfgM m hO).win 9) (point m hO) a ?_ y
    match a with
    | ⟨0, _⟩ => rfl
    | ⟨1, _⟩ => rfl
    | ⟨2, _⟩ => rfl)))

theorem read10 : View.read (Elt Ideal) (ms0_10 m hO (point m hO)).view ((hs0_10 m hO (point m hO)).unread (iblk m hO c 10 (point m hO))) =
    (m ((c : Thread nD τ).loc main_arg10) : Stack 1 3 704) :=
  ((hs0_10 m hO (point m hO)).read_unread _).trans (funext fun y => congrArg (m ((c : Thread nD τ).loc main_arg10)) (funext fun a => Fin.ext (by
    refine Pipeline.Window.rect_emb_val_of_index_zero ((cfgM m hO).win 10) (point m hO) a ?_ y
    match a with
    | ⟨0, _⟩ => rfl
    | ⟨1, _⟩ => rfl
    | ⟨2, _⟩ => rfl)))

theorem whole11 (m : (ℓ : Loc nD τ sig) → Buf (Elt Ideal) ℓ) (hO : Ok m) : ((cfgM m hO).win 11).WholeAt (point m hO) := by
  refine ⟨rfl, fun t _ => point_eq t, fun a => ?_⟩
  match a with
  | ⟨0, _⟩ => exact ⟨rfl, rfl⟩
  | ⟨1, _⟩ => exact ⟨rfl, rfl⟩
  | ⟨2, _⟩ => exact ⟨rfl, rfl⟩

theorem whole12 (m : (ℓ : Loc nD τ sig) → Buf (Elt Ideal) ℓ) (hO : Ok m) : ((cfgM m hO).win 12).WholeAt (point m hO) := by
  refine ⟨rfl, fun t _ => point_eq t, fun a => ?_⟩
  match a with
  | ⟨0, _⟩ => exact ⟨rfl, rfl⟩
  | ⟨1, _⟩ => exact ⟨rfl, rfl⟩
  | ⟨2, _⟩ => exact ⟨rfl, rfl⟩

theorem whole13 (m : (ℓ : Loc nD τ sig) → Buf (Elt Ideal) ℓ) (hO : Ok m) : ((cfgM m hO).win 13).WholeAt (point m hO) := by
  refine ⟨rfl, fun t _ => point_eq t, fun a => ?_⟩
  match a with
  | ⟨0, _⟩ => exact ⟨rfl, rfl⟩
  | ⟨1, _⟩ => exact ⟨rfl, rfl⟩
  | ⟨2, _⟩ => exact ⟨rfl, rfl⟩

theorem whole14 (m : (ℓ : Loc nD τ sig) → Buf (Elt Ideal) ℓ) (hO : Ok m) : ((cfgM m hO).win 14).WholeAt (point m hO) := by
  refine ⟨rfl, fun t _ => point_eq t, fun a => ?_⟩
  match a with
  | ⟨0, _⟩ => exact ⟨rfl, rfl⟩
  | ⟨1, _⟩ => exact ⟨rfl, rfl⟩
  | ⟨2, _⟩ => exact ⟨rfl, rfl⟩

theorem whole15 (m : (ℓ : Loc nD τ sig) → Buf (Elt Ideal) ℓ) (hO : Ok m) : ((cfgM m hO).win 15).WholeAt (point m hO) := by
  refine ⟨rfl, fun t _ => point_eq t, fun a => ?_⟩
  match a with
  | ⟨0, _⟩ => exact ⟨rfl, rfl⟩
  | ⟨1, _⟩ => exact ⟨rfl, rfl⟩
  | ⟨2, _⟩ => exact ⟨rfl, rfl⟩

theorem whole16 (m : (ℓ : Loc nD τ sig) → Buf (Elt Ideal) ℓ) (hO : Ok m) : ((cfgM m hO).win 16).WholeAt (point m hO) := by
  refine ⟨rfl, fun t _ => point_eq t, fun a => ?_⟩
  match a with
  | ⟨0, _⟩ => exact ⟨rfl, rfl⟩
  | ⟨1, _⟩ => exact ⟨rfl, rfl⟩
  | ⟨2, _⟩ => exact ⟨rfl, rfl⟩

theorem whole17 (m : (ℓ : Loc nD τ sig) → Buf (Elt Ideal) ℓ) (hO : Ok m) : ((cfgM m hO).win 17).WholeAt (point m hO) := by
  refine ⟨rfl, fun t _ => point_eq t, fun a => ?_⟩
  match a with
  | ⟨0, _⟩ => exact ⟨rfl, rfl⟩
  | ⟨1, _⟩ => exact ⟨rfl, rfl⟩
  | ⟨2, _⟩ => exact ⟨rfl, rfl⟩

theorem whole18 (m : (ℓ : Loc nD τ sig) → Buf (Elt Ideal) ℓ) (hO : Ok m) : ((cfgM m hO).win 18).WholeAt (point m hO) := by
  refine ⟨rfl, fun t _ => point_eq t, fun a => ?_⟩
  match a with
  | ⟨0, _⟩ => exact ⟨rfl, rfl⟩
  | ⟨1, _⟩ => exact ⟨rfl, rfl⟩
  | ⟨2, _⟩ => exact ⟨rfl, rfl⟩

theorem whole19 (m : (ℓ : Loc nD τ sig) → Buf (Elt Ideal) ℓ) (hO : Ok m) : ((cfgM m hO).win 19).WholeAt (point m hO) := by
  refine ⟨rfl, fun t _ => point_eq t, fun a => ?_⟩
  match a with
  | ⟨0, _⟩ => exact ⟨rfl, rfl⟩
  | ⟨1, _⟩ => exact ⟨rfl, rfl⟩
  | ⟨2, _⟩ => exact ⟨rfl, rfl⟩

theorem whole20 (m : (ℓ : Loc nD τ sig) → Buf (Elt Ideal) ℓ) (hO : Ok m) : ((cfgM m hO).win 20).WholeAt (point m hO) := by
  refine ⟨rfl, fun t _ => point_eq t, fun a => ?_⟩
  match a with
  | ⟨0, _⟩ => exact ⟨rfl, rfl⟩
  | ⟨1, _⟩ => exact ⟨rfl, rfl⟩
  | ⟨2, _⟩ => exact ⟨rfl, rfl⟩

theorem whole21 (m : (ℓ : Loc nD τ sig) → Buf (Elt Ideal) ℓ) (hO : Ok m) : ((cfgM m hO).win 21).WholeAt (point m hO) := by
  refine ⟨rfl, fun t _ => point_eq t, fun a => ?_⟩
  match a with
  | ⟨0, _⟩ => exact ⟨rfl, rfl⟩
  | ⟨1, _⟩ => exact ⟨rfl, rfl⟩
  | ⟨2, _⟩ => exact ⟨rfl, rfl⟩

theorem whole22 (m : (ℓ : Loc nD τ sig) → Buf (Elt Ideal) ℓ) (hO : Ok m) : ((cfgM m hO).win 22).WholeAt (point m hO) := by
  refine ⟨rfl, fun t _ => point_eq t, fun a => ?_⟩
  match a with
  | ⟨0, _⟩ => exact ⟨rfl, rfl⟩
  | ⟨1, _⟩ => exact ⟨rfl, rfl⟩
  | ⟨2, _⟩ => exact ⟨rfl, rfl⟩

theorem whole23 (m : (ℓ : Loc nD τ sig) → Buf (Elt Ideal) ℓ) (hO : Ok m) : ((cfgM m hO).win 23).WholeAt (point m hO) := by
  refine ⟨rfl, fun t _ => point_eq t, fun a => ?_⟩
  match a with
  | ⟨0, _⟩ => exact ⟨rfl, rfl⟩
  | ⟨1, _⟩ => exact ⟨rfl, rfl⟩

/-- The gradient of the call's first weight. -/
abbrev grad0 (m : (ℓ : Loc nD τ sig) → Buf (Elt Ideal) ℓ) (h : Cert.Pre_AdamConvsIdeal m) (c : Dev nD) : Stack 1 3 128 := block (m ((c : Thread nD τ).loc main_arg0)) (chip m h) (Fin.castLE (by decide : 3 ≤ 8)) (Fin.castLE (by decide : 128 ≤ 1024))

/-- The gradient of the call's second weight. -/
abbrev grad1 (m : (ℓ : Loc nD τ sig) → Buf (Elt Ideal) ℓ) (h : Cert.Pre_AdamConvsIdeal m) (c : Dev nD) : Stack 1 4 384 := block (m ((c : Thread nD τ).loc main_arg0)) (chip m h) (Fin.castLE (by decide : 4 ≤ 8)) (lanes 128 384 (by decide))

/-- The gradient of the call's third weight. -/
abbrev grad2 (m : (ℓ : Loc nD τ sig) → Buf (Elt Ideal) ℓ) (h : Cert.Pre_AdamConvsIdeal m) (c : Dev nD) : Stack 1 3 704 := block (m ((c : Thread nD τ).loc main_arg0)) (chip m h) (rows 4 3 (by decide)) (Fin.castLE (by decide : 704 ≤ 1024))

/-- The loss. -/
abbrev loss (m : (ℓ : Loc nD τ sig) → Buf (Elt Ideal) ℓ) (c : Dev nD) : Mat 1 1 := fun _ => total (m ((c : Thread nD τ).loc main_arg0)) 3 384

theorem result11 (h : Cert.Pre_AdamConvsIdeal m) : (dats m hO 0 c).arrAt 11 (cfgM m hO).N = (grad0 m h c : Stack 1 3 128) := by
  refine (dats m hO 0 c).arrAt_eq_of_after_last 11 _ (whole11 m hO) _ fun y => ?_
  rw [after0_11]
  unfold outsAt0
  dsimp only
  frame_out
  rw [read1 h]
  unfold k0_pay17 k0_pay10 k0_pay9 k0_pay7
  pointwise
  rfl

theorem result12 (h : Cert.Pre_AdamConvsIdeal m) : (dats m hO 0 c).arrAt 12 (cfgM m hO).N = (step (m ((c : Thread nD τ).loc main_arg2)) (mean (grad0 m h c) (m ((c : Thread nD τ).loc main_arg3))) (square (grad0 m h c) (m ((c : Thread nD τ).loc main_arg4))) : Stack 1 3 128) := by
  refine (dats m hO 0 c).arrAt_eq_of_after_last 12 _ (whole12 m hO) _ fun y => ?_
  rw [after0_12]
  unfold outsAt0
  dsimp only
  frame_out
  rw [read1 h, read2, read3, read4]
  unfold k0_pay18 k0_pay16 k0_pay15 k0_pay10 k0_pay9 k0_pay13 k0_pay14 k0_pay7
  pointwise
  rfl

theorem result13 (h : Cert.Pre_AdamConvsIdeal m) : (dats m hO 0 c).arrAt 13 (cfgM m hO).N = (mean (grad0 m h c) (m ((c : Thread nD τ).loc main_arg3)) : Stack 1 3 128) := by
  refine (dats m hO 0 c).arrAt_eq_of_after_last 13 _ (whole13 m hO) _ fun y => ?_
  rw [after0_13]
  unfold outsAt0
  dsimp only
  frame_out
  rw [read1 h, read3]
  unfold k0_pay19 k0_pay15 k0_pay10 k0_pay9 k0_pay7
  pointwise
  rfl

theorem result14 (h : Cert.Pre_AdamConvsIdeal m) : (dats m hO 0 c).arrAt 14 (cfgM m hO).N = (square (grad0 m h c) (m ((c : Thread nD τ).loc main_arg4)) : Stack 1 3 128) := by
  refine (dats m hO 0 c).arrAt_eq_of_after_last 14 _ (whole14 m hO) _ fun y => ?_
  rw [after0_14]
  unfold outsAt0
  dsimp only
  frame_out
  rw [read1 h, read4]
  unfold k0_pay20 k0_pay16 k0_pay10 k0_pay14 k0_pay9 k0_pay7
  pointwise
  rfl

theorem result15 (h : Cert.Pre_AdamConvsIdeal m) : (dats m hO 0 c).arrAt 15 (cfgM m hO).N = (grad1 m h c : Stack 1 4 384) := by
  refine (dats m hO 0 c).arrAt_eq_of_after_last 15 _ (whole15 m hO) _ fun y => ?_
  rw [after0_15]
  unfold outsAt0
  dsimp only
  frame_out
  rw [read1 h]
  unfold k0_pay24 k0_pay11 k0_pay9 k0_pay7
  pointwise
  rfl

theorem result16 (h : Cert.Pre_AdamConvsIdeal m) : (dats m hO 0 c).arrAt 16 (cfgM m hO).N = (step (m ((c : Thread nD τ).loc main_arg5)) (mean (grad1 m h c) (m ((c : Thread nD τ).loc main_arg6))) (square (grad1 m h c) (m ((c : Thread nD τ).loc main_arg7))) : Stack 1 4 384) := by
  refine (dats m hO 0 c).arrAt_eq_of_after_last 16 _ (whole16 m hO) _ fun y => ?_
  rw [after0_16]
  unfold outsAt0
  dsimp only
  frame_out
  rw [read1 h, read5, read6, read7]
  unfold k0_pay25 k0_pay22 k0_pay23 k0_pay11 k0_pay21 k0_pay9 k0_pay7
  pointwise
  rfl

theorem result17 (h : Cert.Pre_AdamConvsIdeal m) : (dats m hO 0 c).arrAt 17 (cfgM m hO).N = (mean (grad1 m h c) (m ((c : Thread nD τ).loc main_arg6)) : Stack 1 4 384) := by
  refine (dats m hO 0 c).arrAt_eq_of_after_last 17 _ (whole17 m hO) _ fun y => ?_
  rw [after0_17]
  unfold outsAt0
  dsimp only
  frame_out
  rw [read1 h, read6]
  unfold k0_pay26 k0_pay22 k0_pay11 k0_pay9 k0_pay7
  pointwise
  rfl

theorem result18 (h : Cert.Pre_AdamConvsIdeal m) : (dats m hO 0 c).arrAt 18 (cfgM m hO).N = (square (grad1 m h c) (m ((c : Thread nD τ).loc main_arg7)) : Stack 1 4 384) := by
  refine (dats m hO 0 c).arrAt_eq_of_after_last 18 _ (whole18 m hO) _ fun y => ?_
  rw [after0_18]
  unfold outsAt0
  dsimp only
  frame_out
  rw [read1 h, read7]
  unfold k0_pay27 k0_pay23 k0_pay11 k0_pay9 k0_pay7
  pointwise
  rfl

theorem result19 (h : Cert.Pre_AdamConvsIdeal m) : (dats m hO 0 c).arrAt 19 (cfgM m hO).N = (grad2 m h c : Stack 1 3 704) := by
  refine (dats m hO 0 c).arrAt_eq_of_after_last 19 _ (whole19 m hO) _ fun y => ?_
  rw [after0_19]
  unfold outsAt0
  dsimp only
  frame_out
  rw [read1 h]
  unfold k0_pay1 k0_pay12 k0_pay9 k0_pay7
  pointwise
  rfl

theorem result20 (h : Cert.Pre_AdamConvsIdeal m) : (dats m hO 0 c).arrAt 20 (cfgM m hO).N = (step (m ((c : Thread nD τ).loc main_arg8)) (mean (grad2 m h c) (m ((c : Thread nD τ).loc main_arg9))) (square (grad2 m h c) (m ((c : Thread nD τ).loc main_arg10))) : Stack 1 3 704) := by
  refine (dats m hO 0 c).arrAt_eq_of_after_last 20 _ (whole20 m hO) _ fun y => ?_
  rw [after0_20]
  unfold outsAt0
  dsimp only
  frame_out
  rw [read1 h, read8, read9, read10]
  unfold k0_pay2 k0_pay30 k0_pay28 k0_pay29 k0_pay12 k0_pay9 k0_pay7
  pointwise
  rfl

theorem result21 (h : Cert.Pre_AdamConvsIdeal m) : (dats m hO 0 c).arrAt 21 (cfgM m hO).N = (mean (grad2 m h c) (m ((c : Thread nD τ).loc main_arg9)) : Stack 1 3 704) := by
  refine (dats m hO 0 c).arrAt_eq_of_after_last 21 _ (whole21 m hO) _ fun y => ?_
  rw [after0_21]
  unfold outsAt0
  dsimp only
  frame_out
  rw [read1 h, read9]
  unfold k0_pay3 k0_pay28 k0_pay12 k0_pay9 k0_pay7
  pointwise
  rfl

theorem result22 (h : Cert.Pre_AdamConvsIdeal m) : (dats m hO 0 c).arrAt 22 (cfgM m hO).N = (square (grad2 m h c) (m ((c : Thread nD τ).loc main_arg10)) : Stack 1 3 704) := by
  refine (dats m hO 0 c).arrAt_eq_of_after_last 22 _ (whole22 m hO) _ fun y => ?_
  rw [after0_22]
  unfold outsAt0
  dsimp only
  frame_out
  rw [read1 h, read10]
  unfold k0_pay4 k0_pay29 k0_pay12 k0_pay9 k0_pay7
  pointwise
  rfl

theorem result23 : (dats m hO 0 c).arrAt 23 (cfgM m hO).N = (loss m c : Mat 1 1) := by
  refine (dats m hO 0 c).arrAt_eq_of_after_last 23 _ (whole23 m hO) _ fun y => ?_
  rw [after0_23]
  unfold outsAt0
  dsimp only
  frame_out
  rw [read0]
  unfold k0_pay5 k0_pay8 k0_pay6
  pointwise
  rfl

theorem word_eq (h : Cert.Pre_AdamConvsIdeal m) : (m ((c : Thread nD τ).loc main_arg1) (ix1 (0 : Fin 1)) : BitVec 32).toNat = (chip m h).val := by
  obtain rfl : c = 0 := Subsingleton.elim _ _
  exact congrArg (fun x => (tbl m 0 x : BitVec 32).toNat) (one _ _)

set_option maxHeartbeats 8000000 in
theorem algebraic : Cert.algebraic_AdamConvsIdeal_AdamConvsRefIdeal := fun m g m' g' h hm =>
  ⟨fun c => loss m c, fun c => grad0 m h c, fun c => step (m ((c : Thread nD τ).loc main_arg2)) (mean (grad0 m h c) (m ((c : Thread nD τ).loc main_arg3))) (square (grad0 m h c) (m ((c : Thread nD τ).loc main_arg4))), fun c => mean (grad0 m h c) (m ((c : Thread nD τ).loc main_arg3)), fun c => square (grad0 m h c) (m ((c : Thread nD τ).loc main_arg4)), fun c => grad1 m h c, fun c => step (m ((c : Thread nD τ).loc main_arg5)) (mean (grad1 m h c) (m ((c : Thread nD τ).loc main_arg6))) (square (grad1 m h c) (m ((c : Thread nD τ).loc main_arg7))), fun c => mean (grad1 m h c) (m ((c : Thread nD τ).loc main_arg6)), fun c => square (grad1 m h c) (m ((c : Thread nD τ).loc main_arg7)), fun c => grad2 m h c, fun c => step (m ((c : Thread nD τ).loc main_arg8)) (mean (grad2 m h c) (m ((c : Thread nD τ).loc main_arg9))) (square (grad2 m h c) (m ((c : Thread nD τ).loc main_arg10))), fun c => mean (grad2 m h c) (m ((c : Thread nD τ).loc main_arg9)), fun c => square (grad2 m h c) (m ((c : Thread nD τ).loc main_arg10)), by
      refine (θ_run defs _ _).mono (fun r e c => ?_) (θ_run_and (run_main m g (ok m h)) (unchanged m g (ok m h)))
      exact ⟨(e.1.out_eq c 23).trans (result23), (e.1.out_eq c 11).trans (result11 h), (e.1.out_eq c 12).trans (result12 h), (e.1.out_eq c 13).trans (result13 h), (e.1.out_eq c 14).trans (result14 h), (e.1.out_eq c 15).trans (result15 h), (e.1.out_eq c 16).trans (result16 h), (e.1.out_eq c 17).trans (result17 h), (e.1.out_eq c 18).trans (result18 h), (e.1.out_eq c 19).trans (result19 h), (e.1.out_eq c 20).trans (result20 h), (e.1.out_eq c 21).trans (result21 h), (e.1.out_eq c 22).trans (result22 h), e.2 c⟩,
    (θ_run Cert.AdamConvsRefIdeal.defs _ _).mono (fun _ e c => ⟨(e c).1.trans (by rw [(hm c).1]; funext i; pointwise; rw [Fin.sum_univ_eight]; rfl),
        (e c).2.1.trans (by rw [(hm c).1, (hm c).2.1]; funext i; pointwise; rw [picked (by decide) (chip m h) _ (word_eq h), Fin.sum_univ_eight]; rfl),
        (e c).2.2.1.trans (by rw [(hm c).1, (hm c).2.1, (hm c).2.2.1, (hm c).2.2.2.1, (hm c).2.2.2.2.1]; funext i; pointwise; rw [picked (by decide) (chip m h) _ (word_eq h), Fin.sum_univ_eight]; rfl),
        (e c).2.2.2.1.trans (by rw [(hm c).1, (hm c).2.1, (hm c).2.2.2.1]; funext i; pointwise; rw [picked (by decide) (chip m h) _ (word_eq h), Fin.sum_univ_eight]; rfl),
        (e c).2.2.2.2.1.trans (by rw [(hm c).1, (hm c).2.1, (hm c).2.2.2.2.1]; funext i; pointwise; rw [picked (by decide) (chip m h) _ (word_eq h), Fin.sum_univ_eight]; rfl),
        (e c).2.2.2.2.2.1.trans (by rw [(hm c).1, (hm c).2.1]; funext i; pointwise; rw [picked (by decide) (chip m h) _ (word_eq h), Fin.sum_univ_eight]; rfl),
        (e c).2.2.2.2.2.2.1.trans (by rw [(hm c).1, (hm c).2.1, (hm c).2.2.2.2.2.1, (hm c).2.2.2.2.2.2.1, (hm c).2.2.2.2.2.2.2.1]; funext i; pointwise; rw [picked (by decide) (chip m h) _ (word_eq h), Fin.sum_univ_eight]; rfl),
        (e c).2.2.2.2.2.2.2.1.trans (by rw [(hm c).1, (hm c).2.1, (hm c).2.2.2.2.2.2.1]; funext i; pointwise; rw [picked (by decide) (chip m h) _ (word_eq h), Fin.sum_univ_eight]; rfl),
        (e c).2.2.2.2.2.2.2.2.1.trans (by rw [(hm c).1, (hm c).2.1, (hm c).2.2.2.2.2.2.2.1]; funext i; pointwise; rw [picked (by decide) (chip m h) _ (word_eq h), Fin.sum_univ_eight]; rfl),
        (e c).2.2.2.2.2.2.2.2.2.1.trans (by rw [(hm c).1, (hm c).2.1]; funext i; pointwise; rw [picked (by decide) (chip m h) _ (word_eq h), Fin.sum_univ_eight]; rfl),
        (e c).2.2.2.2.2.2.2.2.2.2.1.trans (by rw [(hm c).1, (hm c).2.1, (hm c).2.2.2.2.2.2.2.2.1, (hm c).2.2.2.2.2.2.2.2.2.1, (hm c).2.2.2.2.2.2.2.2.2.2]; funext i; pointwise; rw [picked (by decide) (chip m h) _ (word_eq h), Fin.sum_univ_eight]; rfl),
        (e c).2.2.2.2.2.2.2.2.2.2.2.1.trans (by rw [(hm c).1, (hm c).2.1, (hm c).2.2.2.2.2.2.2.2.2.1]; funext i; pointwise; rw [picked (by decide) (chip m h) _ (word_eq h), Fin.sum_univ_eight]; rfl),
        (e c).2.2.2.2.2.2.2.2.2.2.2.2.1.trans (by rw [(hm c).1, (hm c).2.1, (hm c).2.2.2.2.2.2.2.2.2.2]; funext i; pointwise; rw [picked (by decide) (chip m h) _ (word_eq h), Fin.sum_univ_eight]; rfl), (e c).2.2.2.2.2.2.2.2.2.2.2.2.2⟩)
      (Cert.AdamConvsRefIdeal.Value.run m' g')⟩

end Cert.AdamConvsIdeal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Pre_finite
public import proofs.«01_k».proof.Proof.Gen.Pre_square_on_the_mesh
public import proofs.«01_k».proof.Proof.Gen.Pre_up_on_the_mesh
public import proofs.«01_k».proof.Proof.Gen.Pre_down_on_the_mesh
public import proofs.«01_k».proof.Proof.Gen.Pre_sum_on_the_mesh
public import proofs.«01_k».proof.Proof.Equal
public import proofs.«01_k».proof.Proof.Gen.InDw.Frame
public import proofs.«01_k».proof.Proof.Gen.InDwIdeal.Value
public import proofs.«01_k».proof.Proof.Gen.InDwRefIdeal.Run
public import proofs.«01_k».proof.Proof.Gen.InDx.Frame
public import proofs.«01_k».proof.Proof.Gen.InDxIdeal.Value
public import proofs.«01_k».proof.Proof.Gen.InDxRefIdeal.Run
public import proofs.«01_k».proof.Proof.Gen.UpDw.Frame
public import proofs.«01_k».proof.Proof.Gen.UpDwIdeal.Value
public import proofs.«01_k».proof.Proof.Gen.UpDwRefIdeal.Run
public import proofs.«01_k».proof.Proof.Gen.UpDx.Frame
public import proofs.«01_k».proof.Proof.Gen.UpDxIdeal.Value
public import proofs.«01_k».proof.Proof.Gen.UpDxRefIdeal.Run
public import proofs.«01_k».proof.Proof.Gen.DownDw.Frame
public import proofs.«01_k».proof.Proof.Gen.DownDwIdeal.Value
public import proofs.«01_k».proof.Proof.Gen.DownDwRefIdeal.Run
public import proofs.«01_k».proof.Proof.Gen.DownDx.Frame
public import proofs.«01_k».proof.Proof.Gen.DownDxIdeal.Value
public import proofs.«01_k».proof.Proof.Gen.DownDxRefIdeal.Run
public import proofs.«01_k».proof.Proof.Gen.SquareDw.Frame
public import proofs.«01_k».proof.Proof.Gen.SquareDwIdeal.Value
public import proofs.«01_k».proof.Proof.Gen.SquareDwRefIdeal.Run
public import proofs.«01_k».proof.Proof.Gen.SquareDx.Frame
public import proofs.«01_k».proof.Proof.Gen.SquareDxIdeal.Value
public import proofs.«01_k».proof.Proof.Gen.SquareDxRefIdeal.Run
public import proofs.«01_k».proof.Proof.Gen.BDx.Frame
public import proofs.«01_k».proof.Proof.Gen.BDxIdeal.Value
public import proofs.«01_k».proof.Proof.Gen.BDxRefIdeal.Run
public import proofs.«01_k».proof.Proof.Gen.InGates.Frame
public import proofs.«01_k».proof.Proof.Gen.InGatesIdeal.Value
public import proofs.«01_k».proof.Proof.Gen.InGatesRefIdeal.Run
public import proofs.«01_k».proof.Proof.Gen.InQkv.Frame
public import proofs.«01_k».proof.Proof.Gen.InQkvIdeal.Value
public import proofs.«01_k».proof.Proof.Gen.InQkvRefIdeal.Run
public import proofs.«01_k».proof.Proof.Gen.Up.Frame
public import proofs.«01_k».proof.Proof.Gen.UpIdeal.Value
public import proofs.«01_k».proof.Proof.Gen.UpRefIdeal.Run
public import proofs.«01_k».proof.Proof.Gen.Down.Frame
public import proofs.«01_k».proof.Proof.Gen.DownIdeal.Value
public import proofs.«01_k».proof.Proof.Gen.DownRefIdeal.Run
public import proofs.«01_k».proof.Proof.Gen.Square.Frame
public import proofs.«01_k».proof.Proof.Gen.SquareIdeal.Value
public import proofs.«01_k».proof.Proof.Gen.SquareRefIdeal.Run
public import proofs.«01_k».proof.Proof.Gen.O.Frame
public import proofs.«01_k».proof.Proof.Gen.OIdeal.Value
public import proofs.«01_k».proof.Proof.Gen.ORefIdeal.Run
public import proofs.«01_k».proof.Proof.Gen.AdamIn.Frame
public import proofs.«01_k».proof.Proof.Gen.AdamInIdeal.Value
public import proofs.«01_k».proof.Proof.Gen.AdamInRefIdeal.Run
public import proofs.«01_k».proof.Proof.Gen.AdamSquare.Frame
public import proofs.«01_k».proof.Proof.Gen.AdamSquareIdeal.Frame
public import proofs.«01_k».proof.Proof.Gen.AdamSquareRefIdeal.Run
public import proofs.«01_k».proof.Proof.Gen.AdamUp.Frame
public import proofs.«01_k».proof.Proof.Gen.AdamUpIdeal.Frame
public import proofs.«01_k».proof.Proof.Gen.AdamUpRefIdeal.Run
public import proofs.«01_k».proof.Proof.Gen.AdamDown.Frame
public import proofs.«01_k».proof.Proof.Gen.AdamDownIdeal.Frame
public import proofs.«01_k».proof.Proof.Gen.AdamDownRefIdeal.Run
public import proofs.«01_k».proof.Proof.Gen.SumIn.Frame
public import proofs.«01_k».proof.Proof.Gen.SumInIdeal.Frame
public import proofs.«01_k».proof.Proof.Gen.SumInRefIdeal.Run
public import proofs.«01_k».proof.Proof.Gen.AdamNorms.Frame
public import proofs.«01_k».proof.Proof.Gen.AdamNormsIdeal.Frame
public import proofs.«01_k».proof.Proof.Gen.AdamNormsRefIdeal.Run
public import proofs.«01_k».proof.Proof.Gen.AdamGates.Frame
public import proofs.«01_k».proof.Proof.Gen.AdamGatesIdeal.Frame
public import proofs.«01_k».proof.Proof.Gen.AdamGatesRefIdeal.Run
public import proofs.«01_k».proof.Proof.Gen.AdamConvs.Frame
public import proofs.«01_k».proof.Proof.Gen.AdamConvsIdeal.Frame
public import proofs.«01_k».proof.Proof.Gen.AdamConvsRefIdeal.Run
public import proofs.«01_k».proof.Proof.Gen.Pre_norms_on_the_mesh
public import proofs.«01_k».proof.Proof.Gen.Pre_gates_on_the_mesh
public import proofs.«01_k».proof.Proof.Gen.Pre_convs_on_the_mesh
public import proofs.«01_k».proof.Proof.InputGrads
public import proofs.«01_k».proof.Proof.WeightGrads
public import proofs.«01_k».proof.Proof.Forward
public import proofs.«01_k».proof.Proof.AdamInStep
public import proofs.«01_k».proof.Proof.AdamSquareStep
public import proofs.«01_k».proof.Proof.AdamUpStep
public import proofs.«01_k».proof.Proof.AdamDownStep
public import proofs.«01_k».proof.Proof.SumInStep
public import proofs.«01_k».proof.Proof.AdamNormsStep
public import proofs.«01_k».proof.Proof.AdamGatesStep
public import proofs.«01_k».proof.Proof.AdamConvsStep
public import Idealize.ShloMosaic.Adequacy
public import Idealize.ShloMosaic.Init

@[expose] public section

noncomputable section

namespace Cert.Proof

open Idealize.ShloMosaic Idealize.SL.Sem

/-- The reference terminates without fault and leaves its arguments; it has no semaphore. -/
theorem frame_reference : Cert.quiescent_ReferenceIdeal := fun m g _ =>
  (θ_run Cert.ReferenceIdeal.defs _ _).mono (fun _ h => ⟨fun c => (h c).2, sem_eq_zero_of_no_sems (by decide) _⟩)
    (Cert.ReferenceIdeal.Value.run m g)

/-! The references of the updates terminate without fault and leave their arguments. -/

theorem frame_AdamInRef : Cert.quiescent_AdamInRefIdeal := fun m g _ =>
  (θ_run Cert.AdamInRefIdeal.defs _ _).mono (fun _ h => ⟨fun c => (h c).2.2.2, sem_eq_zero_of_no_sems (by decide) _⟩) (Cert.AdamInRefIdeal.Value.run m g)

theorem frame_AdamSquareRef : Cert.quiescent_AdamSquareRefIdeal := fun m g _ =>
  (θ_run Cert.AdamSquareRefIdeal.defs _ _).mono (fun _ h => ⟨fun c => (h c).2.2.2.2, sem_eq_zero_of_no_sems (by decide) _⟩) (Cert.AdamSquareRefIdeal.Value.run m g)

theorem frame_AdamUpRef : Cert.quiescent_AdamUpRefIdeal := fun m g _ =>
  (θ_run Cert.AdamUpRefIdeal.defs _ _).mono (fun _ h => ⟨fun c => (h c).2.2.2.2, sem_eq_zero_of_no_sems (by decide) _⟩) (Cert.AdamUpRefIdeal.Value.run m g)

theorem frame_AdamDownRef : Cert.quiescent_AdamDownRefIdeal := fun m g _ =>
  (θ_run Cert.AdamDownRefIdeal.defs _ _).mono (fun _ h => ⟨fun c => (h c).2.2.2.2, sem_eq_zero_of_no_sems (by decide) _⟩) (Cert.AdamDownRefIdeal.Value.run m g)

theorem frame_SumInRef : Cert.quiescent_SumInRefIdeal := fun m g _ =>
  (θ_run Cert.SumInRefIdeal.defs _ _).mono (fun _ h => ⟨fun c => (h c).2, sem_eq_zero_of_no_sems (by decide) _⟩) (Cert.SumInRefIdeal.Value.run m g)

theorem frame_AdamNormsRef : Cert.quiescent_AdamNormsRefIdeal := fun m g _ =>
  (θ_run Cert.AdamNormsRefIdeal.defs _ _).mono (fun _ h => ⟨fun c => (h c).2.2.2.2.2.2.2.2.2.2.2.2.2, sem_eq_zero_of_no_sems (by decide) _⟩) (Cert.AdamNormsRefIdeal.Value.run m g)

theorem frame_AdamGatesRef : Cert.quiescent_AdamGatesRefIdeal := fun m g _ =>
  (θ_run Cert.AdamGatesRefIdeal.defs _ _).mono (fun _ h => ⟨fun c => (h c).2.2.2.2.2.2.2.2.2.2.2.2.2, sem_eq_zero_of_no_sems (by decide) _⟩) (Cert.AdamGatesRefIdeal.Value.run m g)

theorem frame_AdamConvsRef : Cert.quiescent_AdamConvsRefIdeal := fun m g _ =>
  (θ_run Cert.AdamConvsRefIdeal.defs _ _).mono (fun _ h => ⟨fun c => (h c).2.2.2.2.2.2.2.2.2.2.2.2.2, sem_eq_zero_of_no_sems (by decide) _⟩) (Cert.AdamConvsRefIdeal.Value.run m g)

theorem claim : Cert.Claim :=
  ⟨Cert.Kernel.Gen.facts, Cert.KernelIdeal.Gen.facts, Cert.ReferenceIdeal.Gen.facts,
    Cert.InDw.Gen.facts, Cert.InDwIdeal.Gen.facts, Cert.InDwRefIdeal.Gen.facts,
    Cert.InDx.Gen.facts, Cert.InDxIdeal.Gen.facts, Cert.InDxRefIdeal.Gen.facts,
    Cert.UpDw.Gen.facts, Cert.UpDwIdeal.Gen.facts, Cert.UpDwRefIdeal.Gen.facts,
    Cert.UpDx.Gen.facts, Cert.UpDxIdeal.Gen.facts, Cert.UpDxRefIdeal.Gen.facts,
    Cert.DownDw.Gen.facts, Cert.DownDwIdeal.Gen.facts, Cert.DownDwRefIdeal.Gen.facts,
    Cert.DownDx.Gen.facts, Cert.DownDxIdeal.Gen.facts, Cert.DownDxRefIdeal.Gen.facts,
    Cert.SquareDw.Gen.facts, Cert.SquareDwIdeal.Gen.facts, Cert.SquareDwRefIdeal.Gen.facts,
    Cert.SquareDx.Gen.facts, Cert.SquareDxIdeal.Gen.facts, Cert.SquareDxRefIdeal.Gen.facts,
    Cert.BDx.Gen.facts, Cert.BDxIdeal.Gen.facts, Cert.BDxRefIdeal.Gen.facts,
    Cert.InGates.Gen.facts, Cert.InGatesIdeal.Gen.facts, Cert.InGatesRefIdeal.Gen.facts,
    Cert.InQkv.Gen.facts, Cert.InQkvIdeal.Gen.facts, Cert.InQkvRefIdeal.Gen.facts,
    Cert.Up.Gen.facts, Cert.UpIdeal.Gen.facts, Cert.UpRefIdeal.Gen.facts,
    Cert.Down.Gen.facts, Cert.DownIdeal.Gen.facts, Cert.DownRefIdeal.Gen.facts,
    Cert.Square.Gen.facts, Cert.SquareIdeal.Gen.facts, Cert.SquareRefIdeal.Gen.facts,
    Cert.O.Gen.facts, Cert.OIdeal.Gen.facts, Cert.ORefIdeal.Gen.facts,
    Cert.AdamIn.Gen.facts, Cert.AdamInIdeal.Gen.facts, Cert.AdamInRefIdeal.Gen.facts,
    Cert.AdamSquare.Gen.facts, Cert.AdamSquareIdeal.Gen.facts, Cert.AdamSquareRefIdeal.Gen.facts,
    Cert.AdamUp.Gen.facts, Cert.AdamUpIdeal.Gen.facts, Cert.AdamUpRefIdeal.Gen.facts,
    Cert.AdamDown.Gen.facts, Cert.AdamDownIdeal.Gen.facts, Cert.AdamDownRefIdeal.Gen.facts,
    Cert.SumIn.Gen.facts, Cert.SumInIdeal.Gen.facts, Cert.SumInRefIdeal.Gen.facts,
    Cert.AdamNorms.Gen.facts, Cert.AdamNormsIdeal.Gen.facts, Cert.AdamNormsRefIdeal.Gen.facts,
    Cert.AdamGates.Gen.facts, Cert.AdamGatesIdeal.Gen.facts, Cert.AdamGatesRefIdeal.Gen.facts,
    Cert.AdamConvs.Gen.facts, Cert.AdamConvsIdeal.Gen.facts, Cert.AdamConvsRefIdeal.Gen.facts,
    Cert.Pre_finite.Gen.facts, Cert.Pre_square_on_the_mesh.Gen.facts, Cert.Pre_up_on_the_mesh.Gen.facts, Cert.Pre_down_on_the_mesh.Gen.facts, Cert.Pre_sum_on_the_mesh.Gen.facts,
    Cert.Pre_norms_on_the_mesh.Gen.facts, Cert.Pre_gates_on_the_mesh.Gen.facts, Cert.Pre_convs_on_the_mesh.Gen.facts,
    fun m g _ => Cert.Kernel.Gen.frame m g, fun m g _ => Cert.KernelIdeal.Gen.frame m g,
    fun m g _ => Cert.KernelIdeal.Gen.frame m g, frame_reference, fun m g _ => frame_reference m g trivial,
    fun m g _ => Cert.InDw.Gen.frame m g, fun m g _ => Cert.InDwIdeal.Gen.frame m g,
    fun m g _ => (θ_run Cert.InDwRefIdeal.defs _ _).mono (fun _ h => ⟨fun c => (h c).2, sem_eq_zero_of_no_sems (by decide) _⟩) (Cert.InDwRefIdeal.Value.run m g),
    fun m g _ => Cert.InDx.Gen.frame m g, fun m g _ => Cert.InDxIdeal.Gen.frame m g,
    fun m g _ => (θ_run Cert.InDxRefIdeal.defs _ _).mono (fun _ h => ⟨fun c => (h c).2, sem_eq_zero_of_no_sems (by decide) _⟩) (Cert.InDxRefIdeal.Value.run m g),
    fun m g _ => Cert.UpDw.Gen.frame m g, fun m g _ => Cert.UpDwIdeal.Gen.frame m g,
    fun m g _ => (θ_run Cert.UpDwRefIdeal.defs _ _).mono (fun _ h => ⟨fun c => (h c).2, sem_eq_zero_of_no_sems (by decide) _⟩) (Cert.UpDwRefIdeal.Value.run m g),
    fun m g _ => Cert.UpDx.Gen.frame m g, fun m g _ => Cert.UpDxIdeal.Gen.frame m g,
    fun m g _ => (θ_run Cert.UpDxRefIdeal.defs _ _).mono (fun _ h => ⟨fun c => (h c).2, sem_eq_zero_of_no_sems (by decide) _⟩) (Cert.UpDxRefIdeal.Value.run m g),
    fun m g _ => Cert.DownDw.Gen.frame m g, fun m g _ => Cert.DownDwIdeal.Gen.frame m g,
    fun m g _ => (θ_run Cert.DownDwRefIdeal.defs _ _).mono (fun _ h => ⟨fun c => (h c).2, sem_eq_zero_of_no_sems (by decide) _⟩) (Cert.DownDwRefIdeal.Value.run m g),
    fun m g _ => Cert.DownDx.Gen.frame m g, fun m g _ => Cert.DownDxIdeal.Gen.frame m g,
    fun m g _ => (θ_run Cert.DownDxRefIdeal.defs _ _).mono (fun _ h => ⟨fun c => (h c).2, sem_eq_zero_of_no_sems (by decide) _⟩) (Cert.DownDxRefIdeal.Value.run m g),
    fun m g _ => Cert.SquareDw.Gen.frame m g, fun m g _ => Cert.SquareDwIdeal.Gen.frame m g,
    fun m g _ => (θ_run Cert.SquareDwRefIdeal.defs _ _).mono (fun _ h => ⟨fun c => (h c).2, sem_eq_zero_of_no_sems (by decide) _⟩) (Cert.SquareDwRefIdeal.Value.run m g),
    fun m g _ => Cert.SquareDx.Gen.frame m g, fun m g _ => Cert.SquareDxIdeal.Gen.frame m g,
    fun m g _ => (θ_run Cert.SquareDxRefIdeal.defs _ _).mono (fun _ h => ⟨fun c => (h c).2, sem_eq_zero_of_no_sems (by decide) _⟩) (Cert.SquareDxRefIdeal.Value.run m g),
    fun m g _ => Cert.BDx.Gen.frame m g, fun m g _ => Cert.BDxIdeal.Gen.frame m g,
    fun m g _ => (θ_run Cert.BDxRefIdeal.defs _ _).mono (fun _ h => ⟨fun c => (h c).2, sem_eq_zero_of_no_sems (by decide) _⟩) (Cert.BDxRefIdeal.Value.run m g),
    fun m g _ => Cert.InGates.Gen.frame m g, fun m g _ => Cert.InGatesIdeal.Gen.frame m g,
    fun m g _ => (θ_run Cert.InGatesRefIdeal.defs _ _).mono (fun _ h => ⟨fun c => (h c).2, sem_eq_zero_of_no_sems (by decide) _⟩) (Cert.InGatesRefIdeal.Value.run m g),
    fun m g _ => Cert.InQkv.Gen.frame m g, fun m g _ => Cert.InQkvIdeal.Gen.frame m g,
    fun m g _ => (θ_run Cert.InQkvRefIdeal.defs _ _).mono (fun _ h => ⟨fun c => (h c).2, sem_eq_zero_of_no_sems (by decide) _⟩) (Cert.InQkvRefIdeal.Value.run m g),
    fun m g _ => Cert.Up.Gen.frame m g, fun m g _ => Cert.UpIdeal.Gen.frame m g,
    fun m g _ => (θ_run Cert.UpRefIdeal.defs _ _).mono (fun _ h => ⟨fun c => (h c).2, sem_eq_zero_of_no_sems (by decide) _⟩) (Cert.UpRefIdeal.Value.run m g),
    fun m g _ => Cert.Down.Gen.frame m g, fun m g _ => Cert.DownIdeal.Gen.frame m g,
    fun m g _ => (θ_run Cert.DownRefIdeal.defs _ _).mono (fun _ h => ⟨fun c => (h c).2, sem_eq_zero_of_no_sems (by decide) _⟩) (Cert.DownRefIdeal.Value.run m g),
    fun m g _ => Cert.Square.Gen.frame m g, fun m g _ => Cert.SquareIdeal.Gen.frame m g,
    fun m g _ => (θ_run Cert.SquareRefIdeal.defs _ _).mono (fun _ h => ⟨fun c => (h c).2, sem_eq_zero_of_no_sems (by decide) _⟩) (Cert.SquareRefIdeal.Value.run m g),
    fun m g _ => Cert.O.Gen.frame m g, fun m g _ => Cert.OIdeal.Gen.frame m g,
    fun m g _ => (θ_run Cert.ORefIdeal.defs _ _).mono (fun _ h => ⟨fun c => (h c).2, sem_eq_zero_of_no_sems (by decide) _⟩) (Cert.ORefIdeal.Value.run m g),
    fun m g _ => Cert.AdamIn.Gen.frame m g, fun m g _ => Cert.AdamInIdeal.Gen.frame m g,
    frame_AdamInRef,
    fun m g h => Cert.AdamSquare.Gen.frame m g (Cert.AdamSquare.ok m h), fun m g h => Cert.AdamSquareIdeal.Gen.frame m g (Cert.AdamSquareIdeal.ok m h),
    frame_AdamSquareRef, fun m g _ => frame_AdamSquareRef m g trivial,
    fun m g h => Cert.AdamUp.Gen.frame m g (Cert.AdamUp.ok m h), fun m g h => Cert.AdamUpIdeal.Gen.frame m g (Cert.AdamUpIdeal.ok m h),
    frame_AdamUpRef, fun m g _ => frame_AdamUpRef m g trivial,
    fun m g h => Cert.AdamDown.Gen.frame m g (Cert.AdamDown.ok m h), fun m g h => Cert.AdamDownIdeal.Gen.frame m g (Cert.AdamDownIdeal.ok m h),
    frame_AdamDownRef, fun m g _ => frame_AdamDownRef m g trivial,
    fun m g h => Cert.SumIn.Gen.frame m g (Cert.SumIn.ok m h), fun m g h => Cert.SumInIdeal.Gen.frame m g (Cert.SumInIdeal.ok m h),
    frame_SumInRef, fun m g _ => frame_SumInRef m g trivial,
    fun m g h => Cert.AdamNorms.Gen.frame m g (Cert.AdamNorms.ok m h), fun m g h => Cert.AdamNormsIdeal.Gen.frame m g (Cert.AdamNormsIdeal.ok m h),
    frame_AdamNormsRef, fun m g _ => frame_AdamNormsRef m g trivial,
    fun m g h => Cert.AdamGates.Gen.frame m g (Cert.AdamGates.ok m h), fun m g h => Cert.AdamGatesIdeal.Gen.frame m g (Cert.AdamGatesIdeal.ok m h),
    frame_AdamGatesRef, fun m g _ => frame_AdamGatesRef m g trivial,
    fun m g h => Cert.AdamConvs.Gen.frame m g (Cert.AdamConvs.ok m h), fun m g h => Cert.AdamConvsIdeal.Gen.frame m g (Cert.AdamConvsIdeal.ok m h),
    frame_AdamConvsRef, fun m g _ => frame_AdamConvsRef m g trivial,
    trivial, Cert.Equal.algebraic,
    trivial, Cert.InDwIdeal.Value.algebraic,
    trivial, Cert.InDxIdeal.Value.algebraic,
    trivial, Cert.UpDwIdeal.Value.algebraic,
    trivial, Cert.UpDxIdeal.Value.algebraic,
    trivial, Cert.DownDwIdeal.Value.algebraic,
    trivial, Cert.DownDxIdeal.Value.algebraic,
    trivial, Cert.SquareDwIdeal.Value.algebraic,
    trivial, Cert.SquareDxIdeal.Value.algebraic,
    trivial, Cert.BDxIdeal.Value.algebraic,
    trivial, Cert.InGatesIdeal.Value.algebraic,
    trivial, Cert.InQkvIdeal.Value.algebraic,
    trivial, Cert.UpIdeal.Value.algebraic,
    trivial, Cert.DownIdeal.Value.algebraic,
    trivial, Cert.SquareIdeal.Value.algebraic,
    trivial, Cert.OIdeal.Value.algebraic,
    trivial, Cert.AdamInIdeal.Value.algebraic,
    trivial, Cert.AdamSquareIdeal.algebraic,
    trivial, Cert.AdamUpIdeal.algebraic,
    trivial, Cert.AdamDownIdeal.algebraic,
    trivial, Cert.SumInIdeal.algebraic,
    trivial, Cert.AdamNormsIdeal.algebraic,
    trivial, Cert.AdamGatesIdeal.algebraic,
    trivial, Cert.AdamConvsIdeal.algebraic⟩

end Cert.Proof

end
